-- ==== Defs.lean ====
def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_act_finite [hPre_act_finite : Cert.Pre_act_finite.Facts] (m : (ℓ : Loc Cert.ActIdeal.nD Cert.ActIdeal.τ Cert.ActIdeal.sig) → Buf (Elt Ideal) ℓ) : Prop :=
  ∀ c : Dev Cert.ActIdeal.nD,
    (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_act_finite [hPre_act_finite : Cert.Pre_act_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4))) = (fun _ => 1#1)

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))) = (fun _ => 1#1)

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_ca_finite [hPre_ca_finite : Cert.Pre_ca_finite.Facts] (m : (ℓ : Loc Cert.CrossIdeal.nD Cert.CrossIdeal.τ Cert.CrossIdeal.sig) → Buf (Elt Ideal) ℓ) : Prop :=
  ∀ c : Dev Cert.CrossIdeal.nD,
    (Cert.Pre_ca_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_ca_finite [hPre_ca_finite : Cert.Pre_ca_finite.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_ca_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7))) = (fun _ => 1#1)

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvIdeal_kv_finite [hPre_kv_finite : Cert.Pre_kv_finite.Facts] (m : (ℓ : Loc Cert.KvIdeal.nD Cert.KvIdeal.τ Cert.KvIdeal.sig) → Buf (Elt Ideal) ℓ) : Prop :=
  ∀ c : Dev Cert.KvIdeal.nD,
    (Cert.Pre_kv_finite.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)) (m ((c.tc : Thread Cert.KvIdeal.nD Cert.KvIdeal.τ).loc Cert.KvIdeal.main_arg4)) (m ((c.tc : Thread Cert.KvIdeal.nD Cert.KvIdeal.τ).loc Cert.KvIdeal.main_arg5))) = (fun _ => 1#1)

def Pre_KvRefIdeal (m : (ℓ : Loc Cert.KvRefIdeal.nD Cert.KvRefIdeal.τ Cert.KvRefIdeal.sig) → Buf (Elt Ideal) ℓ) : Prop :=
  True

def Pre_KvRefIdeal_kv_finite [hPre_kv_finite : Cert.Pre_kv_finite.Facts] (m : (ℓ : Loc Cert.KvRefIdeal.nD Cert.KvRefIdeal.τ Cert.KvRefIdeal.sig) → Buf (Elt Ideal) ℓ) : Prop :=
  ∀ c : Dev Cert.KvRefIdeal.nD,
    (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5))) = (fun _ => 1#1)

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxIdeal_dx_finite [hPre_dx_finite : Cert.Pre_dx_finite.Facts] (m : (ℓ : Loc Cert.FfnDxIdeal.nD Cert.FfnDxIdeal.τ Cert.FfnDxIdeal.sig) → Buf (Elt Ideal) ℓ) : Prop :=
  ∀ c : Dev Cert.FfnDxIdeal.nD,
    (Cert.Pre_dx_finite.fn (F := Ideal) (m ((c.tc : Thread Cert.FfnDxIdeal.nD Cert.FfnDxIdeal.τ).loc Cert.FfnDxIdeal.main_arg0)) (m ((c.tc : Thread Cert.FfnDxIdeal.nD Cert.FfnDxIdeal.τ).loc Cert.FfnDxIdeal.main_arg1)) (m ((c.tc : Thread Cert.FfnDxIdeal.nD Cert.FfnDxIdeal.τ).loc Cert.FfnDxIdeal.main_arg2)) (m ((c.tc : Thread Cert.FfnDxIdeal.nD Cert.FfnDxIdeal.τ).loc Cert.FfnDxIdeal.main_arg3)) (m ((c.tc : Thread Cert.FfnDxIdeal.nD Cert.FfnDxIdeal.τ).loc Cert.FfnDxIdeal.main_arg4))) = (fun _ => 1#1)

def Pre_FfnDxRefIdeal (m : (ℓ : Loc Cert.FfnDxRefIdeal.nD Cert.FfnDxRefIdeal.τ Cert.FfnDxRefIdeal.sig) → Buf (Elt Ideal) ℓ) : Prop :=
  True

def Pre_FfnDxRefIdeal_dx_finite [hPre_dx_finite : Cert.Pre_dx_finite.Facts] (m : (ℓ : Loc Cert.FfnDxRefIdeal.nD Cert.FfnDxRefIdeal.τ Cert.FfnDxRefIdeal.sig) → Buf (Elt Ideal) ℓ) : Prop :=
  ∀ c : Dev Cert.FfnDxRefIdeal.nD,
    (Cert.Pre_dx_finite.fn (F := Ideal) (m ((c.tc : Thread Cert.FfnDxRefIdeal.nD Cert.FfnDxRefIdeal.τ).loc Cert.FfnDxRefIdeal.main_arg0)) (m ((c.tc : Thread Cert.FfnDxRefIdeal.nD Cert.FfnDxRefIdeal.τ).loc Cert.FfnDxRefIdeal.main_arg1)) (m ((c.tc : Thread Cert.FfnDxRefIdeal.nD Cert.FfnDxRefIdeal.τ).loc Cert.FfnDxRefIdeal.main_arg2)) (m ((c.tc : Thread Cert.FfnDxRefIdeal.nD Cert.FfnDxRefIdeal.τ).loc Cert.FfnDxRefIdeal.main_arg3)) (m ((c.tc : Thread Cert.FfnDxRefIdeal.nD Cert.FfnDxRefIdeal.τ).loc Cert.FfnDxRefIdeal.main_arg4))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_proj_finite [hPre_proj_finite : Cert.Pre_proj_finite.Facts] (m : (ℓ : Loc Cert.ProjIdeal.nD Cert.ProjIdeal.τ Cert.ProjIdeal.sig) → Buf (Elt Ideal) ℓ) : Prop :=
  ∀ c : Dev Cert.ProjIdeal.nD,
    (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_proj_finite [hPre_proj_finite : Cert.Pre_proj_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))) = (fun _ => 1#1)

def Pre_CrossFwd (m : (ℓ : Loc Cert.CrossFwd.nD Cert.CrossFwd.τ Cert.CrossFwd.sig) → Buf (Elt Bits) ℓ) : Prop :=
  True

def Pre_CrossFwdIdeal (m : (ℓ : Loc Cert.CrossFwdIdeal.nD Cert.CrossFwdIdeal.τ Cert.CrossFwdIdeal.sig) → Buf (Elt Ideal) ℓ) : Prop :=
  True

def Pre_CrossFwdIdeal_cf_finite [hPre_cf_finite : Cert.Pre_cf_finite.Facts] (m : (ℓ : Loc Cert.CrossFwdIdeal.nD Cert.CrossFwdIdeal.τ Cert.CrossFwdIdeal.sig) → Buf (Elt Ideal) ℓ) : Prop :=
  ∀ c : Dev Cert.CrossFwdIdeal.nD,
    (Cert.Pre_cf_finite.fn (F := Ideal) (m ((c.tc : Thread Cert.CrossFwdIdeal.nD Cert.CrossFwdIdeal.τ).loc Cert.CrossFwdIdeal.main_arg0)) (m ((c.tc : Thread Cert.CrossFwdIdeal.nD Cert.CrossFwdIdeal.τ).loc Cert.CrossFwdIdeal.main_arg1)) (m ((c.tc : Thread Cert.CrossFwdIdeal.nD Cert.CrossFwdIdeal.τ).loc Cert.CrossFwdIdeal.main_arg2)) (m ((c.tc : Thread Cert.CrossFwdIdeal.nD Cert.CrossFwdIdeal.τ).loc Cert.CrossFwdIdeal.main_arg3)) (m ((c.tc : Thread Cert.CrossFwdIdeal.nD Cert.CrossFwdIdeal.τ).loc Cert.CrossFwdIdeal.main_arg4)) (m ((c.tc : Thread Cert.CrossFwdIdeal.nD Cert.CrossFwdIdeal.τ).loc Cert.CrossFwdIdeal.main_arg5)) (m ((c.tc : Thread Cert.CrossFwdIdeal.nD Cert.CrossFwdIdeal.τ).loc Cert.CrossFwdIdeal.main_arg6))) = (fun _ => 1#1)

def Pre_CrossFwdRefIdeal (m : (ℓ : Loc Cert.CrossFwdRefIdeal.nD Cert.CrossFwdRefIdeal.τ Cert.CrossFwdRefIdeal.sig) → Buf (Elt Ideal) ℓ) : Prop :=
  True

def Pre_CrossFwdRefIdeal_cf_finite [hPre_cf_finite : Cert.Pre_cf_finite.Facts] (m : (ℓ : Loc Cert.CrossFwdRefIdeal.nD Cert.CrossFwdRefIdeal.τ Cert.CrossFwdRefIdeal.sig) → Buf (Elt Ideal) ℓ) : Prop :=
  ∀ c : Dev Cert.CrossFwdRefIdeal.nD,
    (Cert.Pre_cf_finite.fn (F := Ideal) (m ((c.tc : Thread Cert.CrossFwdRefIdeal.nD Cert.CrossFwdRefIdeal.τ).loc Cert.CrossFwdRefIdeal.main_arg0)) (m ((c.tc : Thread Cert.CrossFwdRefIdeal.nD Cert.CrossFwdRefIdeal.τ).loc Cert.CrossFwdRefIdeal.main_arg1)) (m ((c.tc : Thread Cert.CrossFwdRefIdeal.nD Cert.CrossFwdRefIdeal.τ).loc Cert.CrossFwdRefIdeal.main_arg2)) (m ((c.tc : Thread Cert.CrossFwdRefIdeal.nD Cert.CrossFwdRefIdeal.τ).loc Cert.CrossFwdRefIdeal.main_arg3)) (m ((c.tc : Thread Cert.CrossFwdRefIdeal.nD Cert.CrossFwdRefIdeal.τ).loc Cert.CrossFwdRefIdeal.main_arg4)) (m ((c.tc : Thread Cert.CrossFwdRefIdeal.nD Cert.CrossFwdRefIdeal.τ).loc Cert.CrossFwdRefIdeal.main_arg5)) (m ((c.tc : Thread Cert.CrossFwdRefIdeal.nD Cert.CrossFwdRefIdeal.τ).loc Cert.CrossFwdRefIdeal.main_arg6))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_out_finite [hPre_out_finite : Cert.Pre_out_finite.Facts] (m : (ℓ : Loc Cert.OutIdeal.nD Cert.OutIdeal.τ Cert.OutIdeal.sig) → Buf (Elt Ideal) ℓ) : Prop :=
  ∀ c : Dev Cert.OutIdeal.nD,
    (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_out_finite [hPre_out_finite : Cert.Pre_out_finite.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4))) = (fun _ => 1#1)

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FoxFwd (m : (ℓ : Loc Cert.FoxFwd.nD Cert.FoxFwd.τ Cert.FoxFwd.sig) → Buf (Elt Bits) ℓ) : Prop :=
  True

def Pre_FoxFwdIdeal (m : (ℓ : Loc Cert.FoxFwdIdeal.nD Cert.FoxFwdIdeal.τ Cert.FoxFwdIdeal.sig) → Buf (Elt Ideal) ℓ) : Prop :=
  True

def Pre_FoxFwdRefIdeal (m : (ℓ : Loc Cert.FoxFwdRefIdeal.nD Cert.FoxFwdRefIdeal.τ Cert.FoxFwdRefIdeal.sig) → Buf (Elt Ideal) ℓ) : Prop :=
  True

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3)
      ∧ r.2.mem ((c.tc : Thread Cert.Act.nD Cert.Act.τ).loc Cert.Act.main_arg4) = m ((c.tc : Thread Cert.Act.nD Cert.Act.τ).loc Cert.Act.main_arg4))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ r.2.sem = fun _ => 0)

def quiescent_ActIdeal_pre_act_finite [hActIdeal : Cert.ActIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_act_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4))
      ∧ r.2.sem = fun _ => 0)

def quiescent_ActRefIdeal_pre_act_finite [hActRefIdeal : Cert.ActRefIdeal.Facts] [hPre_act_finite : Cert.Pre_act_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_act_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6)
      ∧ r.2.mem ((c.tc : Thread Cert.Cross.nD Cert.Cross.τ).loc Cert.Cross.main_arg7) = m ((c.tc : Thread Cert.Cross.nD Cert.Cross.τ).loc Cert.Cross.main_arg7))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7))
      ∧ r.2.sem = fun _ => 0)

def quiescent_CrossIdeal_pre_ca_finite [hCrossIdeal : Cert.CrossIdeal.Facts] [hPre_ca_finite : Cert.Pre_ca_finite.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_ca_finite m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7))
      ∧ r.2.sem = fun _ => 0)

def quiescent_CrossRefIdeal_pre_ca_finite [hCrossRefIdeal : Cert.CrossRefIdeal.Facts] [hPre_ca_finite : Cert.Pre_ca_finite.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_ca_finite m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4)
      ∧ r.2.mem ((c.tc : Thread Cert.Kv.nD Cert.Kv.τ).loc Cert.Kv.main_arg5) = m ((c.tc : Thread Cert.Kv.nD Cert.Kv.τ).loc Cert.Kv.main_arg5))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
      ∧ r.2.mem ((c.tc : Thread Cert.KvIdeal.nD Cert.KvIdeal.τ).loc Cert.KvIdeal.main_arg5) = m ((c.tc : Thread Cert.KvIdeal.nD Cert.KvIdeal.τ).loc Cert.KvIdeal.main_arg5))
      ∧ r.2.sem = fun _ => 0)

def quiescent_KvIdeal_pre_kv_finite [hKvIdeal : Cert.KvIdeal.Facts] [hPre_kv_finite : Cert.Pre_kv_finite.Facts] : Prop :=
  ∀ (m : (ℓ : Loc Cert.KvIdeal.nD Cert.KvIdeal.τ Cert.KvIdeal.sig) → Buf (Elt Ideal) ℓ) (g : Dev Cert.KvIdeal.nD → PrngReg), Pre_KvIdeal_kv_finite m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
      ∧ r.2.mem ((c.tc : Thread Cert.KvIdeal.nD Cert.KvIdeal.τ).loc Cert.KvIdeal.main_arg5) = m ((c.tc : Thread Cert.KvIdeal.nD Cert.KvIdeal.τ).loc Cert.KvIdeal.main_arg5))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5))
      ∧ r.2.sem = fun _ => 0)

def quiescent_KvRefIdeal_pre_kv_finite [hKvRefIdeal : Cert.KvRefIdeal.Facts] [hPre_kv_finite : Cert.Pre_kv_finite.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal_kv_finite m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2)
      ∧ r.2.mem ((c.tc : Thread Cert.FfnDx.nD Cert.FfnDx.τ).loc Cert.FfnDx.main_arg3) = m ((c.tc : Thread Cert.FfnDx.nD Cert.FfnDx.τ).loc Cert.FfnDx.main_arg3)
      ∧ r.2.mem ((c.tc : Thread Cert.FfnDx.nD Cert.FfnDx.τ).loc Cert.FfnDx.main_arg4) = m ((c.tc : Thread Cert.FfnDx.nD Cert.FfnDx.τ).loc Cert.FfnDx.main_arg4))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ r.2.sem = fun _ => 0)

def quiescent_FfnDxIdeal_pre_dx_finite [hFfnDxIdeal : Cert.FfnDxIdeal.Facts] [hPre_dx_finite : Cert.Pre_dx_finite.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal_dx_finite m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4))
      ∧ r.2.sem = fun _ => 0)

def quiescent_FfnDxRefIdeal_pre_dx_finite [hFfnDxRefIdeal : Cert.FfnDxRefIdeal.Facts] [hPre_dx_finite : Cert.Pre_dx_finite.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal_dx_finite m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjIdeal_pre_proj_finite [hProjIdeal : Cert.ProjIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_proj_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjRefIdeal_pre_proj_finite [hProjRefIdeal : Cert.ProjRefIdeal.Facts] [hPre_proj_finite : Cert.Pre_proj_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_proj_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_CrossFwd [hCrossFwd : Cert.CrossFwd.Facts] : Prop :=
  ∀ (m : (ℓ : Loc Cert.CrossFwd.nD Cert.CrossFwd.τ Cert.CrossFwd.sig) → Buf (Elt Bits) ℓ) (g : Dev Cert.CrossFwd.nD → PrngReg), Pre_CrossFwd m →
    θ_run (Cert.CrossFwd.defs (F := Bits)) (onTc (τ := Cert.CrossFwd.τ) (Cert.CrossFwd.main (F := Bits))) ⟨m, fun _ => 0, g⟩ (fun r => (∀ c : Dev Cert.CrossFwd.nD,
      r.2.mem ((c.tc : Thread Cert.CrossFwd.nD Cert.CrossFwd.τ).loc Cert.CrossFwd.main_arg0) = m ((c.tc : Thread Cert.CrossFwd.nD Cert.CrossFwd.τ).loc Cert.CrossFwd.main_arg0)
      ∧ r.2.mem ((c.tc : Thread Cert.CrossFwd.nD Cert.CrossFwd.τ).loc Cert.CrossFwd.main_arg1) = m ((c.tc : Thread Cert.CrossFwd.nD Cert.CrossFwd.τ).loc Cert.CrossFwd.main_arg1)
      ∧ r.2.mem ((c.tc : Thread Cert.CrossFwd.nD Cert.CrossFwd.τ).loc Cert.CrossFwd.main_arg2) = m ((c.tc : Thread Cert.CrossFwd.nD Cert.CrossFwd.τ).loc Cert.CrossFwd.main_arg2)
      ∧ r.2.mem ((c.tc : Thread Cert.CrossFwd.nD Cert.CrossFwd.τ).loc Cert.CrossFwd.main_arg3) = m ((c.tc : Thread Cert.CrossFwd.nD Cert.CrossFwd.τ).loc Cert.CrossFwd.main_arg3)
      ∧ r.2.mem ((c.tc : Thread Cert.CrossFwd.nD Cert.CrossFwd.τ).loc Cert.CrossFwd.main_arg4) = m ((c.tc : Thread Cert.CrossFwd.nD Cert.CrossFwd.τ).loc Cert.CrossFwd.main_arg4)
      ∧ r.2.mem ((c.tc : Thread Cert.CrossFwd.nD Cert.CrossFwd.τ).loc Cert.CrossFwd.main_arg5) = m ((c.tc : Thread Cert.CrossFwd.nD Cert.CrossFwd.τ).loc Cert.CrossFwd.main_arg5)
      ∧ r.2.mem ((c.tc : Thread Cert.CrossFwd.nD Cert.CrossFwd.τ).loc Cert.CrossFwd.main_arg6) = m ((c.tc : Thread Cert.CrossFwd.nD Cert.CrossFwd.τ).loc Cert.CrossFwd.main_arg6))
      ∧ r.2.sem = fun _ => 0)

def quiescent_CrossFwdIdeal [hCrossFwdIdeal : Cert.CrossFwdIdeal.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg), Pre_CrossFwdIdeal m →
    θ_run (Cert.CrossFwdIdeal.defs (F := Ideal)) (onTc (τ := Cert.CrossFwdIdeal.τ) (Cert.CrossFwdIdeal.main (F := Ideal))) ⟨m, fun _ => 0, g⟩ (fun r => (∀ c : Dev Cert.CrossFwdIdeal.nD,
      r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
      ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1)
      ∧ r.2.mem ((c.tc : Thread Cert.CrossFwdIdeal.nD Cert.CrossFwdIdeal.τ).loc Cert.CrossFwdIdeal.main_arg2) = m ((c.tc : Thread Cert.CrossFwdIdeal.nD Cert.CrossFwdIdeal.τ).loc Cert.CrossFwdIdeal.main_arg2)
      ∧ r.2.mem ((c.tc : Thread Cert.CrossFwdIdeal.nD Cert.CrossFwdIdeal.τ).loc Cert.CrossFwdIdeal.main_arg3) = m ((c.tc : Thread Cert.CrossFwdIdeal.nD Cert.CrossFwdIdeal.τ).loc Cert.CrossFwdIdeal.main_arg3)
      ∧ r.2.mem ((c.tc : Thread Cert.CrossFwdIdeal.nD Cert.CrossFwdIdeal.τ).loc Cert.CrossFwdIdeal.main_arg4) = m ((c.tc : Thread Cert.CrossFwdIdeal.nD Cert.CrossFwdIdeal.τ).loc Cert.CrossFwdIdeal.main_arg4)
      ∧ r.2.mem ((c.tc : Thread Cert.CrossFwdIdeal.nD Cert.CrossFwdIdeal.τ).loc Cert.CrossFwdIdeal.main_arg5) = m ((c.tc : Thread Cert.CrossFwdIdeal.nD Cert.CrossFwdIdeal.τ).loc Cert.CrossFwdIdeal.main_arg5)
      ∧ r.2.mem ((c.tc : Thread Cert.CrossFwdIdeal.nD Cert.CrossFwdIdeal.τ).loc Cert.CrossFwdIdeal.main_arg6) = m ((c.tc : Thread Cert.CrossFwdIdeal.nD Cert.CrossFwdIdeal.τ).loc Cert.CrossFwdIdeal.main_arg6))
      ∧ r.2.sem = fun _ => 0)

def quiescent_CrossFwdIdeal_pre_cf_finite [hCrossFwdIdeal : Cert.CrossFwdIdeal.Facts] [hPre_cf_finite : Cert.Pre_cf_finite.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg), Pre_CrossFwdIdeal_cf_finite m →
    θ_run (Cert.CrossFwdIdeal.defs (F := Ideal)) (onTc (τ := Cert.CrossFwdIdeal.τ) (Cert.CrossFwdIdeal.main (F := Ideal))) ⟨m, fun _ => 0, g⟩ (fun r => (∀ c : Dev Cert.CrossFwdIdeal.nD,
      r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
      ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1)
      ∧ r.2.mem ((c.tc : Thread Cert.CrossFwdIdeal.nD Cert.CrossFwdIdeal.τ).loc Cert.CrossFwdIdeal.main_arg2) = m ((c.tc : Thread Cert.CrossFwdIdeal.nD Cert.CrossFwdIdeal.τ).loc Cert.CrossFwdIdeal.main_arg2)
      ∧ r.2.mem ((c.tc : Thread Cert.CrossFwdIdeal.nD Cert.CrossFwdIdeal.τ).loc Cert.CrossFwdIdeal.main_arg3) = m ((c.tc : Thread Cert.CrossFwdIdeal.nD Cert.CrossFwdIdeal.τ).loc Cert.CrossFwdIdeal.main_arg3)
      ∧ r.2.mem ((c.tc : Thread Cert.CrossFwdIdeal.nD Cert.CrossFwdIdeal.τ).loc Cert.CrossFwdIdeal.main_arg4) = m ((c.tc : Thread Cert.CrossFwdIdeal.nD Cert.CrossFwdIdeal.τ).loc Cert.CrossFwdIdeal.main_arg4)
      ∧ r.2.mem ((c.tc : Thread Cert.CrossFwdIdeal.nD Cert.CrossFwdIdeal.τ).loc Cert.CrossFwdIdeal.main_arg5) = m ((c.tc : Thread Cert.CrossFwdIdeal.nD Cert.CrossFwdIdeal.τ).loc Cert.CrossFwdIdeal.main_arg5)
      ∧ r.2.mem ((c.tc : Thread Cert.CrossFwdIdeal.nD Cert.CrossFwdIdeal.τ).loc Cert.CrossFwdIdeal.main_arg6) = m ((c.tc : Thread Cert.CrossFwdIdeal.nD Cert.CrossFwdIdeal.τ).loc Cert.CrossFwdIdeal.main_arg6))
      ∧ r.2.sem = fun _ => 0)

def quiescent_CrossFwdRefIdeal [hCrossFwdRefIdeal : Cert.CrossFwdRefIdeal.Facts] : Prop :=
  ∀ (m : (ℓ : Loc Cert.CrossFwdRefIdeal.nD Cert.CrossFwdRefIdeal.τ Cert.CrossFwdRefIdeal.sig) → Buf (Elt Ideal) ℓ) (g : Dev Cert.CrossFwdRefIdeal.nD → PrngReg), Pre_CrossFwdRefIdeal m →
    θ_run (Cert.CrossFwdRefIdeal.defs (F := Ideal)) (onTc (τ := Cert.CrossFwdRefIdeal.τ) (Cert.CrossFwdRefIdeal.main (F := Ideal))) ⟨m, fun _ => 0, g⟩ (fun r => (∀ c : Dev Cert.CrossFwdRefIdeal.nD,
      r.2.mem ((c.tc : Thread Cert.CrossFwdRefIdeal.nD Cert.CrossFwdRefIdeal.τ).loc Cert.CrossFwdRefIdeal.main_arg0) = m ((c.tc : Thread Cert.CrossFwdRefIdeal.nD Cert.CrossFwdRefIdeal.τ).loc Cert.CrossFwdRefIdeal.main_arg0)
      ∧ r.2.mem ((c.tc : Thread Cert.CrossFwdRefIdeal.nD Cert.CrossFwdRefIdeal.τ).loc Cert.CrossFwdRefIdeal.main_arg1) = m ((c.tc : Thread Cert.CrossFwdRefIdeal.nD Cert.CrossFwdRefIdeal.τ).loc Cert.CrossFwdRefIdeal.main_arg1)
      ∧ r.2.mem ((c.tc : Thread Cert.CrossFwdRefIdeal.nD Cert.CrossFwdRefIdeal.τ).loc Cert.CrossFwdRefIdeal.main_arg2) = m ((c.tc : Thread Cert.CrossFwdRefIdeal.nD Cert.CrossFwdRefIdeal.τ).loc Cert.CrossFwdRefIdeal.main_arg2)
      ∧ r.2.mem ((c.tc : Thread Cert.CrossFwdRefIdeal.nD Cert.CrossFwdRefIdeal.τ).loc Cert.CrossFwdRefIdeal.main_arg3) = m ((c.tc : Thread Cert.CrossFwdRefIdeal.nD Cert.CrossFwdRefIdeal.τ).loc Cert.CrossFwdRefIdeal.main_arg3)
      ∧ r.2.mem ((c.tc : Thread Cert.CrossFwdRefIdeal.nD Cert.CrossFwdRefIdeal.τ).loc Cert.CrossFwdRefIdeal.main_arg4) = m ((c.tc : Thread Cert.CrossFwdRefIdeal.nD Cert.CrossFwdRefIdeal.τ).loc Cert.CrossFwdRefIdeal.main_arg4)
      ∧ r.2.mem ((c.tc : Thread Cert.CrossFwdRefIdeal.nD Cert.CrossFwdRefIdeal.τ).loc Cert.CrossFwdRefIdeal.main_arg5) = m ((c.tc : Thread Cert.CrossFwdRefIdeal.nD Cert.CrossFwdRefIdeal.τ).loc Cert.CrossFwdRefIdeal.main_arg5)
      ∧ r.2.mem ((c.tc : Thread Cert.CrossFwdRefIdeal.nD Cert.CrossFwdRefIdeal.τ).loc Cert.CrossFwdRefIdeal.main_arg6) = m ((c.tc : Thread Cert.CrossFwdRefIdeal.nD Cert.CrossFwdRefIdeal.τ).loc Cert.CrossFwdRefIdeal.main_arg6))
      ∧ r.2.sem = fun _ => 0)

def quiescent_CrossFwdRefIdeal_pre_cf_finite [hCrossFwdRefIdeal : Cert.CrossFwdRefIdeal.Facts] [hPre_cf_finite : Cert.Pre_cf_finite.Facts] : Prop :=
  ∀ (m : (ℓ : Loc Cert.CrossFwdRefIdeal.nD Cert.CrossFwdRefIdeal.τ Cert.CrossFwdRefIdeal.sig) → Buf (Elt Ideal) ℓ) (g : Dev Cert.CrossFwdRefIdeal.nD → PrngReg), Pre_CrossFwdRefIdeal_cf_finite m →
    θ_run (Cert.CrossFwdRefIdeal.defs (F := Ideal)) (onTc (τ := Cert.CrossFwdRefIdeal.τ) (Cert.CrossFwdRefIdeal.main (F := Ideal))) ⟨m, fun _ => 0, g⟩ (fun r => (∀ c : Dev Cert.CrossFwdRefIdeal.nD,
      r.2.mem ((c.tc : Thread Cert.CrossFwdRefIdeal.nD Cert.CrossFwdRefIdeal.τ).loc Cert.CrossFwdRefIdeal.main_arg0) = m ((c.tc : Thread Cert.CrossFwdRefIdeal.nD Cert.CrossFwdRefIdeal.τ).loc Cert.CrossFwdRefIdeal.main_arg0)
      ∧ r.2.mem ((c.tc : Thread Cert.CrossFwdRefIdeal.nD Cert.CrossFwdRefIdeal.τ).loc Cert.CrossFwdRefIdeal.main_arg1) = m ((c.tc : Thread Cert.CrossFwdRefIdeal.nD Cert.CrossFwdRefIdeal.τ).loc Cert.CrossFwdRefIdeal.main_arg1)
      ∧ r.2.mem ((c.tc : Thread Cert.CrossFwdRefIdeal.nD Cert.CrossFwdRefIdeal.τ).loc Cert.CrossFwdRefIdeal.main_arg2) = m ((c.tc : Thread Cert.CrossFwdRefIdeal.nD Cert.CrossFwdRefIdeal.τ).loc Cert.CrossFwdRefIdeal.main_arg2)
      ∧ r.2.mem ((c.tc : Thread Cert.CrossFwdRefIdeal.nD Cert.CrossFwdRefIdeal.τ).loc Cert.CrossFwdRefIdeal.main_arg3) = m ((c.tc : Thread Cert.CrossFwdRefIdeal.nD Cert.CrossFwdRefIdeal.τ).loc Cert.CrossFwdRefIdeal.main_arg3)
      ∧ r.2.mem ((c.tc : Thread Cert.CrossFwdRefIdeal.nD Cert.CrossFwdRefIdeal.τ).loc Cert.CrossFwdRefIdeal.main_arg4) = m ((c.tc : Thread Cert.CrossFwdRefIdeal.nD Cert.CrossFwdRefIdeal.τ).loc Cert.CrossFwdRefIdeal.main_arg4)
      ∧ r.2.mem ((c.tc : Thread Cert.CrossFwdRefIdeal.nD Cert.CrossFwdRefIdeal.τ).loc Cert.CrossFwdRefIdeal.main_arg5) = m ((c.tc : Thread Cert.CrossFwdRefIdeal.nD Cert.CrossFwdRefIdeal.τ).loc Cert.CrossFwdRefIdeal.main_arg5)
      ∧ r.2.mem ((c.tc : Thread Cert.CrossFwdRefIdeal.nD Cert.CrossFwdRefIdeal.τ).loc Cert.CrossFwdRefIdeal.main_arg6) = m ((c.tc : Thread Cert.CrossFwdRefIdeal.nD Cert.CrossFwdRefIdeal.τ).loc Cert.CrossFwdRefIdeal.main_arg6))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6)
      ∧ r.2.mem ((c.tc : Thread Cert.Gate.nD Cert.Gate.τ).loc Cert.Gate.main_arg7) = m ((c.tc : Thread Cert.Gate.nD Cert.Gate.τ).loc Cert.Gate.main_arg7)
      ∧ r.2.mem ((c.tc : Thread Cert.Gate.nD Cert.Gate.τ).loc Cert.Gate.main_arg8) = m ((c.tc : Thread Cert.Gate.nD Cert.Gate.τ).loc Cert.Gate.main_arg8)
      ∧ r.2.mem ((c.tc : Thread Cert.Gate.nD Cert.Gate.τ).loc Cert.Gate.main_arg9) = m ((c.tc : Thread Cert.Gate.nD Cert.Gate.τ).loc Cert.Gate.main_arg9)
      ∧ r.2.mem ((c.tc : Thread Cert.Gate.nD Cert.Gate.τ).loc Cert.Gate.main_arg10) = m ((c.tc : Thread Cert.Gate.nD Cert.Gate.τ).loc Cert.Gate.main_arg10)
      ∧ r.2.mem ((c.tc : Thread Cert.Gate.nD Cert.Gate.τ).loc Cert.Gate.main_arg11) = m ((c.tc : Thread Cert.Gate.nD Cert.Gate.τ).loc Cert.Gate.main_arg11)
      ∧ r.2.mem ((c.tc : Thread Cert.Gate.nD Cert.Gate.τ).loc Cert.Gate.main_arg12) = m ((c.tc : Thread Cert.Gate.nD Cert.Gate.τ).loc Cert.Gate.main_arg12)
      ∧ r.2.mem ((c.tc : Thread Cert.Gate.nD Cert.Gate.τ).loc Cert.Gate.main_arg13) = m ((c.tc : Thread Cert.Gate.nD Cert.Gate.τ).loc Cert.Gate.main_arg13)
      ∧ r.2.mem ((c.tc : Thread Cert.Gate.nD Cert.Gate.τ).loc Cert.Gate.main_arg14) = m ((c.tc : Thread Cert.Gate.nD Cert.Gate.τ).loc Cert.Gate.main_arg14)
      ∧ r.2.mem ((c.tc : Thread Cert.Gate.nD Cert.Gate.τ).loc Cert.Gate.main_arg15) = m ((c.tc : Thread Cert.Gate.nD Cert.Gate.τ).loc Cert.Gate.main_arg15)
      ∧ r.2.mem ((c.tc : Thread Cert.Gate.nD Cert.Gate.τ).loc Cert.Gate.main_arg16) = m ((c.tc : Thread Cert.Gate.nD Cert.Gate.τ).loc Cert.Gate.main_arg16)
      ∧ r.2.mem ((c.tc : Thread Cert.Gate.nD Cert.Gate.τ).loc Cert.Gate.main_arg17) = m ((c.tc : Thread Cert.Gate.nD Cert.Gate.τ).loc Cert.Gate.main_arg17)
      ∧ r.2.mem ((c.tc : Thread Cert.Gate.nD Cert.Gate.τ).loc Cert.Gate.main_arg18) = m ((c.tc : Thread Cert.Gate.nD Cert.Gate.τ).loc Cert.Gate.main_arg18))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7)
      ∧ r.2.mem ((c.tc : Thread Cert.GateIdeal.nD Cert.GateIdeal.τ).loc Cert.GateIdeal.main_arg8) = m ((c.tc : Thread Cert.GateIdeal.nD Cert.GateIdeal.τ).loc Cert.GateIdeal.main_arg8)
      ∧ r.2.mem ((c.tc : Thread Cert.GateIdeal.nD Cert.GateIdeal.τ).loc Cert.GateIdeal.main_arg9) = m ((c.tc : Thread Cert.GateIdeal.nD Cert.GateIdeal.τ).loc Cert.GateIdeal.main_arg9)
      ∧ r.2.mem ((c.tc : Thread Cert.GateIdeal.nD Cert.GateIdeal.τ).loc Cert.GateIdeal.main_arg10) = m ((c.tc : Thread Cert.GateIdeal.nD Cert.GateIdeal.τ).loc Cert.GateIdeal.main_arg10)
      ∧ r.2.mem ((c.tc : Thread Cert.GateIdeal.nD Cert.GateIdeal.τ).loc Cert.GateIdeal.main_arg11) = m ((c.tc : Thread Cert.GateIdeal.nD Cert.GateIdeal.τ).loc Cert.GateIdeal.main_arg11)
      ∧ r.2.mem ((c.tc : Thread Cert.GateIdeal.nD Cert.GateIdeal.τ).loc Cert.GateIdeal.main_arg12) = m ((c.tc : Thread Cert.GateIdeal.nD Cert.GateIdeal.τ).loc Cert.GateIdeal.main_arg12)
      ∧ r.2.mem ((c.tc : Thread Cert.GateIdeal.nD Cert.GateIdeal.τ).loc Cert.GateIdeal.main_arg13) = m ((c.tc : Thread Cert.GateIdeal.nD Cert.GateIdeal.τ).loc Cert.GateIdeal.main_arg13)
      ∧ r.2.mem ((c.tc : Thread Cert.GateIdeal.nD Cert.GateIdeal.τ).loc Cert.GateIdeal.main_arg14) = m ((c.tc : Thread Cert.GateIdeal.nD Cert.GateIdeal.τ).loc Cert.GateIdeal.main_arg14)
      ∧ r.2.mem ((c.tc : Thread Cert.GateIdeal.nD Cert.GateIdeal.τ).loc Cert.GateIdeal.main_arg15) = m ((c.tc : Thread Cert.GateIdeal.nD Cert.GateIdeal.τ).loc Cert.GateIdeal.main_arg15)
      ∧ r.2.mem ((c.tc : Thread Cert.GateIdeal.nD Cert.GateIdeal.τ).loc Cert.GateIdeal.main_arg16) = m ((c.tc : Thread Cert.GateIdeal.nD Cert.GateIdeal.τ).loc Cert.GateIdeal.main_arg16)
      ∧ r.2.mem ((c.tc : Thread Cert.GateIdeal.nD Cert.GateIdeal.τ).loc Cert.GateIdeal.main_arg17) = m ((c.tc : Thread Cert.GateIdeal.nD Cert.GateIdeal.τ).loc Cert.GateIdeal.main_arg17)
      ∧ r.2.mem ((c.tc : Thread Cert.GateIdeal.nD Cert.GateIdeal.τ).loc Cert.GateIdeal.main_arg18) = m ((c.tc : Thread Cert.GateIdeal.nD Cert.GateIdeal.τ).loc Cert.GateIdeal.main_arg18))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7)
      ∧ r.2.mem ((c.tc : Thread Cert.GateRefIdeal.nD Cert.GateRefIdeal.τ).loc Cert.GateRefIdeal.main_arg8) = m ((c.tc : Thread Cert.GateRefIdeal.nD Cert.GateRefIdeal.τ).loc Cert.GateRefIdeal.main_arg8)
      ∧ r.2.mem ((c.tc : Thread Cert.GateRefIdeal.nD Cert.GateRefIdeal.τ).loc Cert.GateRefIdeal.main_arg9) = m ((c.tc : Thread Cert.GateRefIdeal.nD Cert.GateRefIdeal.τ).loc Cert.GateRefIdeal.main_arg9)
      ∧ r.2.mem ((c.tc : Thread Cert.GateRefIdeal.nD Cert.GateRefIdeal.τ).loc Cert.GateRefIdeal.main_arg10) = m ((c.tc : Thread Cert.GateRefIdeal.nD Cert.GateRefIdeal.τ).loc Cert.GateRefIdeal.main_arg10)
      ∧ r.2.mem ((c.tc : Thread Cert.GateRefIdeal.nD Cert.GateRefIdeal.τ).loc Cert.GateRefIdeal.main_arg11) = m ((c.tc : Thread Cert.GateRefIdeal.nD Cert.GateRefIdeal.τ).loc Cert.GateRefIdeal.main_arg11)
      ∧ r.2.mem ((c.tc : Thread Cert.GateRefIdeal.nD Cert.GateRefIdeal.τ).loc Cert.GateRefIdeal.main_arg12) = m ((c.tc : Thread Cert.GateRefIdeal.nD Cert.GateRefIdeal.τ).loc Cert.GateRefIdeal.main_arg12)
      ∧ r.2.mem ((c.tc : Thread Cert.GateRefIdeal.nD Cert.GateRefIdeal.τ).loc Cert.GateRefIdeal.main_arg13) = m ((c.tc : Thread Cert.GateRefIdeal.nD Cert.GateRefIdeal.τ).loc Cert.GateRefIdeal.main_arg13)
      ∧ r.2.mem ((c.tc : Thread Cert.GateRefIdeal.nD Cert.GateRefIdeal.τ).loc Cert.GateRefIdeal.main_arg14) = m ((c.tc : Thread Cert.GateRefIdeal.nD Cert.GateRefIdeal.τ).loc Cert.GateRefIdeal.main_arg14)
      ∧ r.2.mem ((c.tc : Thread Cert.GateRefIdeal.nD Cert.GateRefIdeal.τ).loc Cert.GateRefIdeal.main_arg15) = m ((c.tc : Thread Cert.GateRefIdeal.nD Cert.GateRefIdeal.τ).loc Cert.GateRefIdeal.main_arg15)
      ∧ r.2.mem ((c.tc : Thread Cert.GateRefIdeal.nD Cert.GateRefIdeal.τ).loc Cert.GateRefIdeal.main_arg16) = m ((c.tc : Thread Cert.GateRefIdeal.nD Cert.GateRefIdeal.τ).loc Cert.GateRefIdeal.main_arg16)
      ∧ r.2.mem ((c.tc : Thread Cert.GateRefIdeal.nD Cert.GateRefIdeal.τ).loc Cert.GateRefIdeal.main_arg17) = m ((c.tc : Thread Cert.GateRefIdeal.nD Cert.GateRefIdeal.τ).loc Cert.GateRefIdeal.main_arg17)
      ∧ r.2.mem ((c.tc : Thread Cert.GateRefIdeal.nD Cert.GateRefIdeal.τ).loc Cert.GateRefIdeal.main_arg18) = m ((c.tc : Thread Cert.GateRefIdeal.nD Cert.GateRefIdeal.τ).loc Cert.GateRefIdeal.main_arg18))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutIdeal_pre_out_finite [hOutIdeal : Cert.OutIdeal.Facts] [hPre_out_finite : Cert.Pre_out_finite.Facts] : Prop :=
  ∀ (m : (ℓ : Loc Cert.OutIdeal.nD Cert.OutIdeal.τ Cert.OutIdeal.sig) → Buf (Elt Ideal) ℓ) (g : Dev Cert.OutIdeal.nD → PrngReg), Pre_OutIdeal_out_finite m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_OutRefIdeal_pre_out_finite [hOutRefIdeal : Cert.OutRefIdeal.Facts] [hPre_out_finite : Cert.Pre_out_finite.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_out_finite m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FoxFwd [hFoxFwd : Cert.FoxFwd.Facts] : Prop :=
  ∀ (m : (ℓ : Loc Cert.FoxFwd.nD Cert.FoxFwd.τ Cert.FoxFwd.sig) → Buf (Elt Bits) ℓ) (g : Dev Cert.FoxFwd.nD → PrngReg), Pre_FoxFwd m →
    θ_run (Cert.FoxFwd.defs (F := Bits)) (onTc (τ := Cert.FoxFwd.τ) (Cert.FoxFwd.main (F := Bits))) ⟨m, fun _ => 0, g⟩ (fun r => (∀ c : Dev Cert.FoxFwd.nD,
      r.2.mem ((c.tc : Thread Cert.FoxFwd.nD Cert.FoxFwd.τ).loc Cert.FoxFwd.main_arg0) = m ((c.tc : Thread Cert.FoxFwd.nD Cert.FoxFwd.τ).loc Cert.FoxFwd.main_arg0)
      ∧ r.2.mem ((c.tc : Thread Cert.FoxFwd.nD Cert.FoxFwd.τ).loc Cert.FoxFwd.main_arg1) = m ((c.tc : Thread Cert.FoxFwd.nD Cert.FoxFwd.τ).loc Cert.FoxFwd.main_arg1)
      ∧ r.2.mem ((c.tc : Thread Cert.FoxFwd.nD Cert.FoxFwd.τ).loc Cert.FoxFwd.main_arg2) = m ((c.tc : Thread Cert.FoxFwd.nD Cert.FoxFwd.τ).loc Cert.FoxFwd.main_arg2)
      ∧ r.2.mem ((c.tc : Thread Cert.FoxFwd.nD Cert.FoxFwd.τ).loc Cert.FoxFwd.main_arg3) = m ((c.tc : Thread Cert.FoxFwd.nD Cert.FoxFwd.τ).loc Cert.FoxFwd.main_arg3))
      ∧ r.2.sem = fun _ => 0)

def quiescent_FoxFwdIdeal [hFoxFwdIdeal : Cert.FoxFwdIdeal.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdRefIdeal [hFoxFwdRefIdeal : Cert.FoxFwdRefIdeal.Facts] : Prop :=
  ∀ (m : (ℓ : Loc Cert.FoxFwdRefIdeal.nD Cert.FoxFwdRefIdeal.τ Cert.FoxFwdRefIdeal.sig) → Buf (Elt Ideal) ℓ) (g : Dev Cert.FoxFwdRefIdeal.nD → PrngReg), Pre_FoxFwdRefIdeal m →
    θ_run (Cert.FoxFwdRefIdeal.defs (F := Ideal)) (onTc (τ := Cert.FoxFwdRefIdeal.τ) (Cert.FoxFwdRefIdeal.main (F := Ideal))) ⟨m, fun _ => 0, g⟩ (fun r => (∀ c : Dev Cert.FoxFwdRefIdeal.nD,
      r.2.mem ((c.tc : Thread Cert.FoxFwdRefIdeal.nD Cert.FoxFwdRefIdeal.τ).loc Cert.FoxFwdRefIdeal.main_arg0) = m ((c.tc : Thread Cert.FoxFwdRefIdeal.nD Cert.FoxFwdRefIdeal.τ).loc Cert.FoxFwdRefIdeal.main_arg0)
      ∧ r.2.mem ((c.tc : Thread Cert.FoxFwdRefIdeal.nD Cert.FoxFwdRefIdeal.τ).loc Cert.FoxFwdRefIdeal.main_arg1) = m ((c.tc : Thread Cert.FoxFwdRefIdeal.nD Cert.FoxFwdRefIdeal.τ).loc Cert.FoxFwdRefIdeal.main_arg1)
      ∧ r.2.mem ((c.tc : Thread Cert.FoxFwdRefIdeal.nD Cert.FoxFwdRefIdeal.τ).loc Cert.FoxFwdRefIdeal.main_arg2) = m ((c.tc : Thread Cert.FoxFwdRefIdeal.nD Cert.FoxFwdRefIdeal.τ).loc Cert.FoxFwdRefIdeal.main_arg2)
      ∧ r.2.mem ((c.tc : Thread Cert.FoxFwdRefIdeal.nD Cert.FoxFwdRefIdeal.τ).loc Cert.FoxFwdRefIdeal.main_arg3) = m ((c.tc : Thread Cert.FoxFwdRefIdeal.nD Cert.FoxFwdRefIdeal.τ).loc Cert.FoxFwdRefIdeal.main_arg3))
      ∧ r.2.sem = fun _ => 0)

def preserves_Act_ActIdeal : Prop :=
  True

def algebraic_ActIdeal_ActRefIdeal_pre_act_finite [hActIdeal : Cert.ActIdeal.Facts] [hActRefIdeal : Cert.ActRefIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_act_finite m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)
      ∧ m' ((c.tc : Thread Cert.ActRefIdeal.nD Cert.ActRefIdeal.τ).loc Cert.ActRefIdeal.main_arg4) = m ((c.tc : Thread Cert.ActIdeal.nD Cert.ActIdeal.τ).loc Cert.ActIdeal.main_arg4)) →
    ∃ (v0 : (c : Dev Cert.ActIdeal.nD) → Buf (Elt Ideal) ((c.tc : Thread Cert.ActIdeal.nD Cert.ActIdeal.τ).loc Cert.ActIdeal.main_v19)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v19) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
          ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v29) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3)
          ∧ r.2.mem ((c.tc : Thread Cert.ActRefIdeal.nD Cert.ActRefIdeal.τ).loc Cert.ActRefIdeal.main_arg4) = m' ((c.tc : Thread Cert.ActRefIdeal.nD Cert.ActRefIdeal.τ).loc Cert.ActRefIdeal.main_arg4))

def preserves_Fox_FoxIdeal : Prop :=
  IdealRules.named_const.Statement Cert.FoxIdeal.κ "mask" .f32 0xF149F2CA#32 ⊥

def algebraic_FoxIdeal_FoxRefIdeal_pre_fox_finite [hFoxIdeal : Cert.FoxIdeal.Facts] [hFoxRefIdeal : Cert.FoxRefIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_fox_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v130)) (v1 : (c : Dev Cert.FoxIdeal.nD) → Buf (Elt Ideal) ((c.tc : Thread Cert.FoxIdeal.nD Cert.FoxIdeal.τ).loc Cert.FoxIdeal.main_v131)) (v2 : (c : Dev Cert.FoxIdeal.nD) → Buf (Elt Ideal) ((c.tc : Thread Cert.FoxIdeal.nD Cert.FoxIdeal.τ).loc Cert.FoxIdeal.main_v132)) (v3 : (c : Dev Cert.FoxIdeal.nD) → Buf (Elt Ideal) ((c.tc : Thread Cert.FoxIdeal.nD Cert.FoxIdeal.τ).loc Cert.FoxIdeal.main_v137)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v130) = v0 c
          ∧ r.2.mem ((c.tc : Thread Cert.FoxIdeal.nD Cert.FoxIdeal.τ).loc Cert.FoxIdeal.main_v131) = v1 c
          ∧ r.2.mem ((c.tc : Thread Cert.FoxIdeal.nD Cert.FoxIdeal.τ).loc Cert.FoxIdeal.main_v132) = v2 c
          ∧ r.2.mem ((c.tc : Thread Cert.FoxIdeal.nD Cert.FoxIdeal.τ).loc Cert.FoxIdeal.main_v137) = v3 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v77) = v0 c
          ∧ r.2.mem ((c.tc : Thread Cert.FoxRefIdeal.nD Cert.FoxRefIdeal.τ).loc Cert.FoxRefIdeal.main_v76) = v1 c
          ∧ r.2.mem ((c.tc : Thread Cert.FoxRefIdeal.nD Cert.FoxRefIdeal.τ).loc Cert.FoxRefIdeal.main_v48) = v2 c
          ∧ r.2.mem ((c.tc : Thread Cert.FoxRefIdeal.nD Cert.FoxRefIdeal.τ).loc Cert.FoxRefIdeal.main_v73) = v3 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_Cross_CrossIdeal : Prop :=
  True

def algebraic_CrossIdeal_CrossRefIdeal_pre_ca_finite [hCrossIdeal : Cert.CrossIdeal.Facts] [hCrossRefIdeal : Cert.CrossRefIdeal.Facts] [hPre_ca_finite : Cert.Pre_ca_finite.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_ca_finite m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)
      ∧ m' ((c.tc : Thread Cert.CrossRefIdeal.nD Cert.CrossRefIdeal.τ).loc Cert.CrossRefIdeal.main_arg6) = m ((c.tc : Thread Cert.CrossIdeal.nD Cert.CrossIdeal.τ).loc Cert.CrossIdeal.main_arg6)
      ∧ m' ((c.tc : Thread Cert.CrossRefIdeal.nD Cert.CrossRefIdeal.τ).loc Cert.CrossRefIdeal.main_arg7) = m ((c.tc : Thread Cert.CrossIdeal.nD Cert.CrossIdeal.τ).loc Cert.CrossIdeal.main_arg7)) →
    ∃ (v0 : (c : Dev Cert.CrossIdeal.nD) → Buf (Elt Ideal) ((c.tc : Thread Cert.CrossIdeal.nD Cert.CrossIdeal.τ).loc Cert.CrossIdeal.main_v6_0)) (v1 : (c : Dev Cert.CrossIdeal.nD) → Buf (Elt Ideal) ((c.tc : Thread Cert.CrossIdeal.nD Cert.CrossIdeal.τ).loc Cert.CrossIdeal.main_v6_6)) (v2 : (c : Dev Cert.CrossIdeal.nD) → Buf (Elt Ideal) ((c.tc : Thread Cert.CrossIdeal.nD Cert.CrossIdeal.τ).loc Cert.CrossIdeal.main_v6_1)) (v3 : (c : Dev Cert.CrossIdeal.nD) → Buf (Elt Ideal) ((c.tc : Thread Cert.CrossIdeal.nD Cert.CrossIdeal.τ).loc Cert.CrossIdeal.main_v6_5)) (v4 : (c : Dev Cert.CrossIdeal.nD) → Buf (Elt Ideal) ((c.tc : Thread Cert.CrossIdeal.nD Cert.CrossIdeal.τ).loc Cert.CrossIdeal.main_v6_3)) (v5 : (c : Dev Cert.CrossIdeal.nD) → Buf (Elt Ideal) ((c.tc : Thread Cert.CrossIdeal.nD Cert.CrossIdeal.τ).loc Cert.CrossIdeal.main_v6_4)) (v6 : (c : Dev Cert.CrossIdeal.nD) → Buf (Elt Ideal) ((c.tc : Thread Cert.CrossIdeal.nD Cert.CrossIdeal.τ).loc Cert.CrossIdeal.main_v6_2)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v6_0) = v0 c
          ∧ r.2.mem ((c.tc : Thread Cert.CrossIdeal.nD Cert.CrossIdeal.τ).loc Cert.CrossIdeal.main_v6_6) = v1 c
          ∧ r.2.mem ((c.tc : Thread Cert.CrossIdeal.nD Cert.CrossIdeal.τ).loc Cert.CrossIdeal.main_v6_1) = v2 c
          ∧ r.2.mem ((c.tc : Thread Cert.CrossIdeal.nD Cert.CrossIdeal.τ).loc Cert.CrossIdeal.main_v6_5) = v3 c
          ∧ r.2.mem ((c.tc : Thread Cert.CrossIdeal.nD Cert.CrossIdeal.τ).loc Cert.CrossIdeal.main_v6_3) = v4 c
          ∧ r.2.mem ((c.tc : Thread Cert.CrossIdeal.nD Cert.CrossIdeal.τ).loc Cert.CrossIdeal.main_v6_4) = v5 c
          ∧ r.2.mem ((c.tc : Thread Cert.CrossIdeal.nD Cert.CrossIdeal.τ).loc Cert.CrossIdeal.main_v6_2) = v6 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
          ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v140) = v0 c
          ∧ r.2.mem ((c.tc : Thread Cert.CrossRefIdeal.nD Cert.CrossRefIdeal.τ).loc Cert.CrossRefIdeal.main_v123) = v1 c
          ∧ r.2.mem ((c.tc : Thread Cert.CrossRefIdeal.nD Cert.CrossRefIdeal.τ).loc Cert.CrossRefIdeal.main_v141) = v2 c
          ∧ r.2.mem ((c.tc : Thread Cert.CrossRefIdeal.nD Cert.CrossRefIdeal.τ).loc Cert.CrossRefIdeal.main_v102) = v3 c
          ∧ r.2.mem ((c.tc : Thread Cert.CrossRefIdeal.nD Cert.CrossRefIdeal.τ).loc Cert.CrossRefIdeal.main_v142) = v4 c
          ∧ r.2.mem ((c.tc : Thread Cert.CrossRefIdeal.nD Cert.CrossRefIdeal.τ).loc Cert.CrossRefIdeal.main_v143) = v5 c
          ∧ r.2.mem ((c.tc : Thread Cert.CrossRefIdeal.nD Cert.CrossRefIdeal.τ).loc Cert.CrossRefIdeal.main_v144) = v6 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5)
          ∧ r.2.mem ((c.tc : Thread Cert.CrossRefIdeal.nD Cert.CrossRefIdeal.τ).loc Cert.CrossRefIdeal.main_arg6) = m' ((c.tc : Thread Cert.CrossRefIdeal.nD Cert.CrossRefIdeal.τ).loc Cert.CrossRefIdeal.main_arg6)
          ∧ r.2.mem ((c.tc : Thread Cert.CrossRefIdeal.nD Cert.CrossRefIdeal.τ).loc Cert.CrossRefIdeal.main_arg7) = m' ((c.tc : Thread Cert.CrossRefIdeal.nD Cert.CrossRefIdeal.τ).loc Cert.CrossRefIdeal.main_arg7))

def preserves_Kv_KvIdeal : Prop :=
  True

def algebraic_KvIdeal_KvRefIdeal_pre_kv_finite [hKvIdeal : Cert.KvIdeal.Facts] [hKvRefIdeal : Cert.KvRefIdeal.Facts] [hPre_kv_finite : Cert.Pre_kv_finite.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal_kv_finite m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)
      ∧ m' ((c.tc : Thread Cert.KvRefIdeal.nD Cert.KvRefIdeal.τ).loc Cert.KvRefIdeal.main_arg4) = m ((c.tc : Thread Cert.KvIdeal.nD Cert.KvIdeal.τ).loc Cert.KvIdeal.main_arg4)
      ∧ m' ((c.tc : Thread Cert.KvRefIdeal.nD Cert.KvRefIdeal.τ).loc Cert.KvRefIdeal.main_arg5) = m ((c.tc : Thread Cert.KvIdeal.nD Cert.KvIdeal.τ).loc Cert.KvIdeal.main_arg5)) →
    ∃ (v0 : (c : Dev Cert.KvIdeal.nD) → Buf (Elt Ideal) ((c.tc : Thread Cert.KvIdeal.nD Cert.KvIdeal.τ).loc Cert.KvIdeal.main_v22_0)) (v1 : (c : Dev Cert.KvIdeal.nD) → Buf (Elt Ideal) ((c.tc : Thread Cert.KvIdeal.nD Cert.KvIdeal.τ).loc Cert.KvIdeal.main_v22_1)) (v2 : (c : Dev Cert.KvIdeal.nD) → Buf (Elt Ideal) ((c.tc : Thread Cert.KvIdeal.nD Cert.KvIdeal.τ).loc Cert.KvIdeal.main_v22_2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v22_0) = v0 c
          ∧ r.2.mem ((c.tc : Thread Cert.KvIdeal.nD Cert.KvIdeal.τ).loc Cert.KvIdeal.main_v22_1) = v1 c
          ∧ r.2.mem ((c.tc : Thread Cert.KvIdeal.nD Cert.KvIdeal.τ).loc Cert.KvIdeal.main_v22_2) = v2 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
          ∧ r.2.mem ((c.tc : Thread Cert.KvIdeal.nD Cert.KvIdeal.τ).loc Cert.KvIdeal.main_arg5) = m ((c.tc : Thread Cert.KvIdeal.nD Cert.KvIdeal.τ).loc Cert.KvIdeal.main_arg5))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v65) = v0 c
          ∧ r.2.mem ((c.tc : Thread Cert.KvRefIdeal.nD Cert.KvRefIdeal.τ).loc Cert.KvRefIdeal.main_v40) = v1 c
          ∧ r.2.mem ((c.tc : Thread Cert.KvRefIdeal.nD Cert.KvRefIdeal.τ).loc Cert.KvRefIdeal.main_v62) = v2 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3)
          ∧ r.2.mem ((c.tc : Thread Cert.KvRefIdeal.nD Cert.KvRefIdeal.τ).loc Cert.KvRefIdeal.main_arg4) = m' ((c.tc : Thread Cert.KvRefIdeal.nD Cert.KvRefIdeal.τ).loc Cert.KvRefIdeal.main_arg4)
          ∧ r.2.mem ((c.tc : Thread Cert.KvRefIdeal.nD Cert.KvRefIdeal.τ).loc Cert.KvRefIdeal.main_arg5) = m' ((c.tc : Thread Cert.KvRefIdeal.nD Cert.KvRefIdeal.τ).loc Cert.KvRefIdeal.main_arg5))

def preserves_FfnDx_FfnDxIdeal : Prop :=
  True

def algebraic_FfnDxIdeal_FfnDxRefIdeal_pre_dx_finite [hFfnDxIdeal : Cert.FfnDxIdeal.Facts] [hFfnDxRefIdeal : Cert.FfnDxRefIdeal.Facts] [hPre_dx_finite : Cert.Pre_dx_finite.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal_dx_finite m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)
      ∧ m' ((c.tc : Thread Cert.FfnDxRefIdeal.nD Cert.FfnDxRefIdeal.τ).loc Cert.FfnDxRefIdeal.main_arg2) = m ((c.tc : Thread Cert.FfnDxIdeal.nD Cert.FfnDxIdeal.τ).loc Cert.FfnDxIdeal.main_arg2)
      ∧ m' ((c.tc : Thread Cert.FfnDxRefIdeal.nD Cert.FfnDxRefIdeal.τ).loc Cert.FfnDxRefIdeal.main_arg3) = m ((c.tc : Thread Cert.FfnDxIdeal.nD Cert.FfnDxIdeal.τ).loc Cert.FfnDxIdeal.main_arg3)
      ∧ m' ((c.tc : Thread Cert.FfnDxRefIdeal.nD Cert.FfnDxRefIdeal.τ).loc Cert.FfnDxRefIdeal.main_arg4) = m ((c.tc : Thread Cert.FfnDxIdeal.nD Cert.FfnDxIdeal.τ).loc Cert.FfnDxIdeal.main_arg4)) →
    ∃ (v0 : (c : Dev Cert.FfnDxIdeal.nD) → Buf (Elt Ideal) ((c.tc : Thread Cert.FfnDxIdeal.nD Cert.FfnDxIdeal.τ).loc Cert.FfnDxIdeal.main_v6_0)) (v1 : (c : Dev Cert.FfnDxIdeal.nD) → Buf (Elt Ideal) ((c.tc : Thread Cert.FfnDxIdeal.nD Cert.FfnDxIdeal.τ).loc Cert.FfnDxIdeal.main_v6_1)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v6_0) = v0 c
          ∧ r.2.mem ((c.tc : Thread Cert.FfnDxIdeal.nD Cert.FfnDxIdeal.τ).loc Cert.FfnDxIdeal.main_v6_1) = v1 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
          ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
          ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v36) = v0 c
          ∧ r.2.mem ((c.tc : Thread Cert.FfnDxRefIdeal.nD Cert.FfnDxRefIdeal.τ).loc Cert.FfnDxRefIdeal.main_v19) = v1 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1)
          ∧ r.2.mem ((c.tc : Thread Cert.FfnDxRefIdeal.nD Cert.FfnDxRefIdeal.τ).loc Cert.FfnDxRefIdeal.main_arg2) = m' ((c.tc : Thread Cert.FfnDxRefIdeal.nD Cert.FfnDxRefIdeal.τ).loc Cert.FfnDxRefIdeal.main_arg2)
          ∧ r.2.mem ((c.tc : Thread Cert.FfnDxRefIdeal.nD Cert.FfnDxRefIdeal.τ).loc Cert.FfnDxRefIdeal.main_arg3) = m' ((c.tc : Thread Cert.FfnDxRefIdeal.nD Cert.FfnDxRefIdeal.τ).loc Cert.FfnDxRefIdeal.main_arg3)
          ∧ r.2.mem ((c.tc : Thread Cert.FfnDxRefIdeal.nD Cert.FfnDxRefIdeal.τ).loc Cert.FfnDxRefIdeal.main_arg4) = m' ((c.tc : Thread Cert.FfnDxRefIdeal.nD Cert.FfnDxRefIdeal.τ).loc Cert.FfnDxRefIdeal.main_arg4))

def preserves_Proj_ProjIdeal : Prop :=
  True

def algebraic_ProjIdeal_ProjRefIdeal_pre_proj_finite [hProjIdeal : Cert.ProjIdeal.Facts] [hProjRefIdeal : Cert.ProjRefIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_proj_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v13_0)) (v1 : (c : Dev Cert.ProjIdeal.nD) → Buf (Elt Ideal) ((c.tc : Thread Cert.ProjIdeal.nD Cert.ProjIdeal.τ).loc Cert.ProjIdeal.main_v13_1)) (v2 : (c : Dev Cert.ProjIdeal.nD) → Buf (Elt Ideal) ((c.tc : Thread Cert.ProjIdeal.nD Cert.ProjIdeal.τ).loc Cert.ProjIdeal.main_v13_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v13_0) = v0 c
          ∧ r.2.mem ((c.tc : Thread Cert.ProjIdeal.nD Cert.ProjIdeal.τ).loc Cert.ProjIdeal.main_v13_1) = v1 c
          ∧ r.2.mem ((c.tc : Thread Cert.ProjIdeal.nD Cert.ProjIdeal.τ).loc Cert.ProjIdeal.main_v13_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v36) = v0 c
          ∧ r.2.mem ((c.tc : Thread Cert.ProjRefIdeal.nD Cert.ProjRefIdeal.τ).loc Cert.ProjRefIdeal.main_v37) = v1 c
          ∧ r.2.mem ((c.tc : Thread Cert.ProjRefIdeal.nD Cert.ProjRefIdeal.τ).loc Cert.ProjRefIdeal.main_v19) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_CrossFwd_CrossFwdIdeal : Prop :=
  True

def algebraic_CrossFwdIdeal_CrossFwdRefIdeal_pre_cf_finite [hCrossFwdIdeal : Cert.CrossFwdIdeal.Facts] [hCrossFwdRefIdeal : Cert.CrossFwdRefIdeal.Facts] [hPre_cf_finite : Cert.Pre_cf_finite.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg)
    (m' : (ℓ : Loc Cert.CrossFwdRefIdeal.nD Cert.CrossFwdRefIdeal.τ Cert.CrossFwdRefIdeal.sig) → Buf (Elt Ideal) ℓ) (g' : Dev Cert.CrossFwdRefIdeal.nD → PrngReg), Pre_CrossFwdIdeal_cf_finite m →
    (∀ c : Dev Cert.CrossFwdIdeal.nD,
      m' ((c.tc : Thread Cert.CrossFwdRefIdeal.nD Cert.CrossFwdRefIdeal.τ).loc Cert.CrossFwdRefIdeal.main_arg0) = m ((c.tc : Thread Cert.CrossFwdIdeal.nD Cert.CrossFwdIdeal.τ).loc Cert.CrossFwdIdeal.main_arg0)
      ∧ m' ((c.tc : Thread Cert.CrossFwdRefIdeal.nD Cert.CrossFwdRefIdeal.τ).loc Cert.CrossFwdRefIdeal.main_arg1) = m ((c.tc : Thread Cert.CrossFwdIdeal.nD Cert.CrossFwdIdeal.τ).loc Cert.CrossFwdIdeal.main_arg1)
      ∧ m' ((c.tc : Thread Cert.CrossFwdRefIdeal.nD Cert.CrossFwdRefIdeal.τ).loc Cert.CrossFwdRefIdeal.main_arg2) = m ((c.tc : Thread Cert.CrossFwdIdeal.nD Cert.CrossFwdIdeal.τ).loc Cert.CrossFwdIdeal.main_arg2)
      ∧ m' ((c.tc : Thread Cert.CrossFwdRefIdeal.nD Cert.CrossFwdRefIdeal.τ).loc Cert.CrossFwdRefIdeal.main_arg3) = m ((c.tc : Thread Cert.CrossFwdIdeal.nD Cert.CrossFwdIdeal.τ).loc Cert.CrossFwdIdeal.main_arg3)
      ∧ m' ((c.tc : Thread Cert.CrossFwdRefIdeal.nD Cert.CrossFwdRefIdeal.τ).loc Cert.CrossFwdRefIdeal.main_arg4) = m ((c.tc : Thread Cert.CrossFwdIdeal.nD Cert.CrossFwdIdeal.τ).loc Cert.CrossFwdIdeal.main_arg4)
      ∧ m' ((c.tc : Thread Cert.CrossFwdRefIdeal.nD Cert.CrossFwdRefIdeal.τ).loc Cert.CrossFwdRefIdeal.main_arg5) = m ((c.tc : Thread Cert.CrossFwdIdeal.nD Cert.CrossFwdIdeal.τ).loc Cert.CrossFwdIdeal.main_arg5)
      ∧ m' ((c.tc : Thread Cert.CrossFwdRefIdeal.nD Cert.CrossFwdRefIdeal.τ).loc Cert.CrossFwdRefIdeal.main_arg6) = m ((c.tc : Thread Cert.CrossFwdIdeal.nD Cert.CrossFwdIdeal.τ).loc Cert.CrossFwdIdeal.main_arg6)) →
    ∃ (v0 : (c : Dev Cert.CrossFwdIdeal.nD) → Buf (Elt Ideal) ((c.tc : Thread Cert.CrossFwdIdeal.nD Cert.CrossFwdIdeal.τ).loc Cert.CrossFwdIdeal.main_v6)),
      θ_run (Cert.CrossFwdIdeal.defs (F := Ideal)) (onTc (τ := Cert.CrossFwdIdeal.τ) (Cert.CrossFwdIdeal.main (F := Ideal))) ⟨m, fun _ => 0, g⟩ (fun r => ∀ c : Dev Cert.CrossFwdIdeal.nD,
          r.2.mem ((c.tc : Thread Cert.CrossFwdIdeal.nD Cert.CrossFwdIdeal.τ).loc Cert.CrossFwdIdeal.main_v6) = v0 c
          ∧ r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
          ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1)
          ∧ r.2.mem ((c.tc : Thread Cert.CrossFwdIdeal.nD Cert.CrossFwdIdeal.τ).loc Cert.CrossFwdIdeal.main_arg2) = m ((c.tc : Thread Cert.CrossFwdIdeal.nD Cert.CrossFwdIdeal.τ).loc Cert.CrossFwdIdeal.main_arg2)
          ∧ r.2.mem ((c.tc : Thread Cert.CrossFwdIdeal.nD Cert.CrossFwdIdeal.τ).loc Cert.CrossFwdIdeal.main_arg3) = m ((c.tc : Thread Cert.CrossFwdIdeal.nD Cert.CrossFwdIdeal.τ).loc Cert.CrossFwdIdeal.main_arg3)
          ∧ r.2.mem ((c.tc : Thread Cert.CrossFwdIdeal.nD Cert.CrossFwdIdeal.τ).loc Cert.CrossFwdIdeal.main_arg4) = m ((c.tc : Thread Cert.CrossFwdIdeal.nD Cert.CrossFwdIdeal.τ).loc Cert.CrossFwdIdeal.main_arg4)
          ∧ r.2.mem ((c.tc : Thread Cert.CrossFwdIdeal.nD Cert.CrossFwdIdeal.τ).loc Cert.CrossFwdIdeal.main_arg5) = m ((c.tc : Thread Cert.CrossFwdIdeal.nD Cert.CrossFwdIdeal.τ).loc Cert.CrossFwdIdeal.main_arg5)
          ∧ r.2.mem ((c.tc : Thread Cert.CrossFwdIdeal.nD Cert.CrossFwdIdeal.τ).loc Cert.CrossFwdIdeal.main_arg6) = m ((c.tc : Thread Cert.CrossFwdIdeal.nD Cert.CrossFwdIdeal.τ).loc Cert.CrossFwdIdeal.main_arg6))
      ∧ θ_run (Cert.CrossFwdRefIdeal.defs (F := Ideal)) (onTc (τ := Cert.CrossFwdRefIdeal.τ) (Cert.CrossFwdRefIdeal.main (F := Ideal))) ⟨m', fun _ => 0, g'⟩ (fun r => ∀ c : Dev Cert.CrossFwdRefIdeal.nD,
          r.2.mem ((c.tc : Thread Cert.CrossFwdRefIdeal.nD Cert.CrossFwdRefIdeal.τ).loc Cert.CrossFwdRefIdeal.main_v45) = v0 c
          ∧ r.2.mem ((c.tc : Thread Cert.CrossFwdRefIdeal.nD Cert.CrossFwdRefIdeal.τ).loc Cert.CrossFwdRefIdeal.main_arg0) = m' ((c.tc : Thread Cert.CrossFwdRefIdeal.nD Cert.CrossFwdRefIdeal.τ).loc Cert.CrossFwdRefIdeal.main_arg0)
          ∧ r.2.mem ((c.tc : Thread Cert.CrossFwdRefIdeal.nD Cert.CrossFwdRefIdeal.τ).loc Cert.CrossFwdRefIdeal.main_arg1) = m' ((c.tc : Thread Cert.CrossFwdRefIdeal.nD Cert.CrossFwdRefIdeal.τ).loc Cert.CrossFwdRefIdeal.main_arg1)
          ∧ r.2.mem ((c.tc : Thread Cert.CrossFwdRefIdeal.nD Cert.CrossFwdRefIdeal.τ).loc Cert.CrossFwdRefIdeal.main_arg2) = m' ((c.tc : Thread Cert.CrossFwdRefIdeal.nD Cert.CrossFwdRefIdeal.τ).loc Cert.CrossFwdRefIdeal.main_arg2)
          ∧ r.2.mem ((c.tc : Thread Cert.CrossFwdRefIdeal.nD Cert.CrossFwdRefIdeal.τ).loc Cert.CrossFwdRefIdeal.main_arg3) = m' ((c.tc : Thread Cert.CrossFwdRefIdeal.nD Cert.CrossFwdRefIdeal.τ).loc Cert.CrossFwdRefIdeal.main_arg3)
          ∧ r.2.mem ((c.tc : Thread Cert.CrossFwdRefIdeal.nD Cert.CrossFwdRefIdeal.τ).loc Cert.CrossFwdRefIdeal.main_arg4) = m' ((c.tc : Thread Cert.CrossFwdRefIdeal.nD Cert.CrossFwdRefIdeal.τ).loc Cert.CrossFwdRefIdeal.main_arg4)
          ∧ r.2.mem ((c.tc : Thread Cert.CrossFwdRefIdeal.nD Cert.CrossFwdRefIdeal.τ).loc Cert.CrossFwdRefIdeal.main_arg5) = m' ((c.tc : Thread Cert.CrossFwdRefIdeal.nD Cert.CrossFwdRefIdeal.τ).loc Cert.CrossFwdRefIdeal.main_arg5)
          ∧ r.2.mem ((c.tc : Thread Cert.CrossFwdRefIdeal.nD Cert.CrossFwdRefIdeal.τ).loc Cert.CrossFwdRefIdeal.main_arg6) = m' ((c.tc : Thread Cert.CrossFwdRefIdeal.nD Cert.CrossFwdRefIdeal.τ).loc Cert.CrossFwdRefIdeal.main_arg6))

def preserves_Gate_GateIdeal : Prop :=
  IdealRules.named_const.Statement Cert.GateIdeal.κ "cubic" .f32 0x3D372713#32 ((8943 / 200000 : ℝ) : EReal)
  ∧ IdealRules.named_const.Statement Cert.GateIdeal.κ "cubic_slope" .f32 0x3E095D4F#32 ((26829 / 200000 : ℝ) : EReal)

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v18) = v0 c
          ∧ r.2.mem ((c.tc : Thread Cert.LossRefIdeal.nD Cert.LossRefIdeal.τ).loc Cert.LossRefIdeal.main_v19) = v1 c
          ∧ r.2.mem ((c.tc : Thread Cert.LossRefIdeal.nD Cert.LossRefIdeal.τ).loc Cert.LossRefIdeal.main_v23) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Out_OutIdeal : Prop :=
  True

def algebraic_OutIdeal_OutRefIdeal_pre_out_finite [hOutIdeal : Cert.OutIdeal.Facts] [hOutRefIdeal : Cert.OutRefIdeal.Facts] [hPre_out_finite : Cert.Pre_out_finite.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_out_finite m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v40_1)) (v1 : (c : Dev Cert.OutIdeal.nD) → Buf (Elt Ideal) ((c.tc : Thread Cert.OutIdeal.nD Cert.OutIdeal.τ).loc Cert.OutIdeal.main_v40_2)) (v2 : (c : Dev Cert.OutIdeal.nD) → Buf (Elt Ideal) ((c.tc : Thread Cert.OutIdeal.nD Cert.OutIdeal.τ).loc Cert.OutIdeal.main_v40_3)) (v3 : (c : Dev Cert.OutIdeal.nD) → Buf (Elt Ideal) ((c.tc : Thread Cert.OutIdeal.nD Cert.OutIdeal.τ).loc Cert.OutIdeal.main_v40_4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v40_1) = v0 c
          ∧ r.2.mem ((c.tc : Thread Cert.OutIdeal.nD Cert.OutIdeal.τ).loc Cert.OutIdeal.main_v40_2) = v1 c
          ∧ r.2.mem ((c.tc : Thread Cert.OutIdeal.nD Cert.OutIdeal.τ).loc Cert.OutIdeal.main_v40_3) = v2 c
          ∧ r.2.mem ((c.tc : Thread Cert.OutIdeal.nD Cert.OutIdeal.τ).loc Cert.OutIdeal.main_v40_4) = v3 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v51) = v0 c
          ∧ r.2.mem ((c.tc : Thread Cert.OutRefIdeal.nD Cert.OutRefIdeal.τ).loc Cert.OutRefIdeal.main_v21) = v1 c
          ∧ r.2.mem ((c.tc : Thread Cert.OutRefIdeal.nD Cert.OutRefIdeal.τ).loc Cert.OutRefIdeal.main_v52) = v2 c
          ∧ r.2.mem ((c.tc : Thread Cert.OutRefIdeal.nD Cert.OutRefIdeal.τ).loc Cert.OutRefIdeal.main_v24) = v3 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v14) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)) (v2 : (c : Dev Cert.MemKvIdeal.nD) → Buf (Elt Ideal) ((c.tc : Thread Cert.MemKvIdeal.nD Cert.MemKvIdeal.τ).loc Cert.MemKvIdeal.main_v3_2)) (v3 : (c : Dev Cert.MemKvIdeal.nD) → Buf (Elt Ideal) ((c.tc : Thread Cert.MemKvIdeal.nD Cert.MemKvIdeal.τ).loc Cert.MemKvIdeal.main_v3_3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_v3_2) = v2 c
          ∧ r.2.mem ((c.tc : Thread Cert.MemKvIdeal.nD Cert.MemKvIdeal.τ).loc Cert.MemKvIdeal.main_v3_3) = v3 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v49) = v0 c
          ∧ r.2.mem ((c.tc : Thread Cert.MemKvRefIdeal.nD Cert.MemKvRefIdeal.τ).loc Cert.MemKvRefIdeal.main_v46) = v1 c
          ∧ r.2.mem ((c.tc : Thread Cert.MemKvRefIdeal.nD Cert.MemKvRefIdeal.τ).loc Cert.MemKvRefIdeal.main_v50) = v2 c
          ∧ r.2.mem ((c.tc : Thread Cert.MemKvRefIdeal.nD Cert.MemKvRefIdeal.τ).loc Cert.MemKvRefIdeal.main_v51) = v3 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v16)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v16) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v19) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FoxFwd_FoxFwdIdeal : Prop :=
  IdealRules.named_const.Statement Cert.FoxFwdIdeal.κ "mask" .f32 0xF149F2CA#32 ⊥

def Claim : Prop :=
  ∃ (hAct : Cert.Act.Facts) (hActIdeal : Cert.ActIdeal.Facts) (hActRefIdeal : Cert.ActRefIdeal.Facts) (hFox : Cert.Fox.Facts) (hFoxIdeal : Cert.FoxIdeal.Facts) (hFoxRefIdeal : Cert.FoxRefIdeal.Facts) (hCross : Cert.Cross.Facts) (hCrossIdeal : Cert.CrossIdeal.Facts) (hCrossRefIdeal : Cert.CrossRefIdeal.Facts) (hKv : Cert.Kv.Facts) (hKvIdeal : Cert.KvIdeal.Facts) (hKvRefIdeal : Cert.KvRefIdeal.Facts) (hFfnDx : Cert.FfnDx.Facts) (hFfnDxIdeal : Cert.FfnDxIdeal.Facts) (hFfnDxRefIdeal : Cert.FfnDxRefIdeal.Facts) (hProj : Cert.Proj.Facts) (hProjIdeal : Cert.ProjIdeal.Facts) (hProjRefIdeal : Cert.ProjRefIdeal.Facts) (hCrossFwd : Cert.CrossFwd.Facts) (hCrossFwdIdeal : Cert.CrossFwdIdeal.Facts) (hCrossFwdRefIdeal : Cert.CrossFwdRefIdeal.Facts) (hGate : Cert.Gate.Facts) (hGateIdeal : Cert.GateIdeal.Facts) (hGateRefIdeal : Cert.GateRefIdeal.Facts) (hLoss : Cert.Loss.Facts) (hLossIdeal : Cert.LossIdeal.Facts) (hLossRefIdeal : Cert.LossRefIdeal.Facts) (hOut : Cert.Out.Facts) (hOutIdeal : Cert.OutIdeal.Facts) (hOutRefIdeal : Cert.OutRefIdeal.Facts) (hMixOut : Cert.MixOut.Facts) (hMixOutIdeal : Cert.MixOutIdeal.Facts) (hMixOutRefIdeal : Cert.MixOutRefIdeal.Facts) (hMemKv : Cert.MemKv.Facts) (hMemKvIdeal : Cert.MemKvIdeal.Facts) (hMemKvRefIdeal : Cert.MemKvRefIdeal.Facts) (hFfnUp : Cert.FfnUp.Facts) (hFfnUpIdeal : Cert.FfnUpIdeal.Facts) (hFfnUpRefIdeal : Cert.FfnUpRefIdeal.Facts) (hFoxFwd : Cert.FoxFwd.Facts) (hFoxFwdIdeal : Cert.FoxFwdIdeal.Facts) (hFoxFwdRefIdeal : Cert.FoxFwdRefIdeal.Facts) (hPre_act_finite : Cert.Pre_act_finite.Facts) (hPre_fox_finite : Cert.Pre_fox_finite.Facts) (hPre_ca_finite : Cert.Pre_ca_finite.Facts) (hPre_kv_finite : Cert.Pre_kv_finite.Facts) (hPre_dx_finite : Cert.Pre_dx_finite.Facts) (hPre_proj_finite : Cert.Pre_proj_finite.Facts) (hPre_cf_finite : Cert.Pre_cf_finite.Facts) (hPre_loss_finite : Cert.Pre_loss_finite.Facts) (hPre_out_finite : Cert.Pre_out_finite.Facts),
    quiescent_Act (hAct := hAct)
    ∧ quiescent_ActIdeal (hActIdeal := hActIdeal)
    ∧ quiescent_ActIdeal_pre_act_finite (hActIdeal := hActIdeal) (hPre_act_finite := hPre_act_finite)
    ∧ quiescent_ActRefIdeal (hActRefIdeal := hActRefIdeal)
    ∧ quiescent_ActRefIdeal_pre_act_finite (hActRefIdeal := hActRefIdeal) (hPre_act_finite := hPre_act_finite)
    ∧ quiescent_Fox (hFox := hFox)
    ∧ quiescent_FoxIdeal (hFoxIdeal := hFoxIdeal)
    ∧ quiescent_FoxIdeal_pre_fox_finite (hFoxIdeal := hFoxIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_Cross (hCross := hCross)
    ∧ quiescent_CrossIdeal (hCrossIdeal := hCrossIdeal)
    ∧ quiescent_CrossIdeal_pre_ca_finite (hCrossIdeal := hCrossIdeal) (hPre_ca_finite := hPre_ca_finite)
    ∧ quiescent_CrossRefIdeal (hCrossRefIdeal := hCrossRefIdeal)
    ∧ quiescent_CrossRefIdeal_pre_ca_finite (hCrossRefIdeal := hCrossRefIdeal) (hPre_ca_finite := hPre_ca_finite)
    ∧ quiescent_Kv (hKv := hKv)
    ∧ quiescent_KvIdeal (hKvIdeal := hKvIdeal)
    ∧ quiescent_KvIdeal_pre_kv_finite (hKvIdeal := hKvIdeal) (hPre_kv_finite := hPre_kv_finite)
    ∧ quiescent_KvRefIdeal (hKvRefIdeal := hKvRefIdeal)
    ∧ quiescent_KvRefIdeal_pre_kv_finite (hKvRefIdeal := hKvRefIdeal) (hPre_kv_finite := hPre_kv_finite)
    ∧ quiescent_FfnDx (hFfnDx := hFfnDx)
    ∧ quiescent_FfnDxIdeal (hFfnDxIdeal := hFfnDxIdeal)
    ∧ quiescent_FfnDxIdeal_pre_dx_finite (hFfnDxIdeal := hFfnDxIdeal) (hPre_dx_finite := hPre_dx_finite)
    ∧ quiescent_FfnDxRefIdeal (hFfnDxRefIdeal := hFfnDxRefIdeal)
    ∧ quiescent_FfnDxRefIdeal_pre_dx_finite (hFfnDxRefIdeal := hFfnDxRefIdeal) (hPre_dx_finite := hPre_dx_finite)
    ∧ quiescent_Proj (hProj := hProj)
    ∧ quiescent_ProjIdeal (hProjIdeal := hProjIdeal)
    ∧ quiescent_ProjIdeal_pre_proj_finite (hProjIdeal := hProjIdeal) (hPre_proj_finite := hPre_proj_finite)
    ∧ quiescent_ProjRefIdeal (hProjRefIdeal := hProjRefIdeal)
    ∧ quiescent_ProjRefIdeal_pre_proj_finite (hProjRefIdeal := hProjRefIdeal) (hPre_proj_finite := hPre_proj_finite)
    ∧ quiescent_CrossFwd (hCrossFwd := hCrossFwd)
    ∧ quiescent_CrossFwdIdeal (hCrossFwdIdeal := hCrossFwdIdeal)
    ∧ quiescent_CrossFwdIdeal_pre_cf_finite (hCrossFwdIdeal := hCrossFwdIdeal) (hPre_cf_finite := hPre_cf_finite)
    ∧ quiescent_CrossFwdRefIdeal (hCrossFwdRefIdeal := hCrossFwdRefIdeal)
    ∧ quiescent_CrossFwdRefIdeal_pre_cf_finite (hCrossFwdRefIdeal := hCrossFwdRefIdeal) (hPre_cf_finite := hPre_cf_finite)
    ∧ quiescent_Gate (hGate := hGate)
    ∧ quiescent_GateIdeal (hGateIdeal := hGateIdeal)
    ∧ quiescent_GateRefIdeal (hGateRefIdeal := hGateRefIdeal)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Out (hOut := hOut)
    ∧ quiescent_OutIdeal (hOutIdeal := hOutIdeal)
    ∧ quiescent_OutIdeal_pre_out_finite (hOutIdeal := hOutIdeal) (hPre_out_finite := hPre_out_finite)
    ∧ quiescent_OutRefIdeal (hOutRefIdeal := hOutRefIdeal)
    ∧ quiescent_OutRefIdeal_pre_out_finite (hOutRefIdeal := hOutRefIdeal) (hPre_out_finite := hPre_out_finite)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FoxFwd (hFoxFwd := hFoxFwd)
    ∧ quiescent_FoxFwdIdeal (hFoxFwdIdeal := hFoxFwdIdeal)
    ∧ quiescent_FoxFwdRefIdeal (hFoxFwdRefIdeal := hFoxFwdRefIdeal)
    ∧ preserves_Act_ActIdeal
    ∧ algebraic_ActIdeal_ActRefIdeal_pre_act_finite (hActIdeal := hActIdeal) (hActRefIdeal := hActRefIdeal) (hPre_act_finite := hPre_act_finite)
    ∧ preserves_Fox_FoxIdeal
    ∧ algebraic_FoxIdeal_FoxRefIdeal_pre_fox_finite (hFoxIdeal := hFoxIdeal) (hFoxRefIdeal := hFoxRefIdeal) (hPre_fox_finite := hPre_fox_finite)
    ∧ preserves_Cross_CrossIdeal
    ∧ algebraic_CrossIdeal_CrossRefIdeal_pre_ca_finite (hCrossIdeal := hCrossIdeal) (hCrossRefIdeal := hCrossRefIdeal) (hPre_ca_finite := hPre_ca_finite)
    ∧ preserves_Kv_KvIdeal
    ∧ algebraic_KvIdeal_KvRefIdeal_pre_kv_finite (hKvIdeal := hKvIdeal) (hKvRefIdeal := hKvRefIdeal) (hPre_kv_finite := hPre_kv_finite)
    ∧ preserves_FfnDx_FfnDxIdeal
    ∧ algebraic_FfnDxIdeal_FfnDxRefIdeal_pre_dx_finite (hFfnDxIdeal := hFfnDxIdeal) (hFfnDxRefIdeal := hFfnDxRefIdeal) (hPre_dx_finite := hPre_dx_finite)
    ∧ preserves_Proj_ProjIdeal
    ∧ algebraic_ProjIdeal_ProjRefIdeal_pre_proj_finite (hProjIdeal := hProjIdeal) (hProjRefIdeal := hProjRefIdeal) (hPre_proj_finite := hPre_proj_finite)
    ∧ preserves_CrossFwd_CrossFwdIdeal
    ∧ algebraic_CrossFwdIdeal_CrossFwdRefIdeal_pre_cf_finite (hCrossFwdIdeal := hCrossFwdIdeal) (hCrossFwdRefIdeal := hCrossFwdRefIdeal) (hPre_cf_finite := hPre_cf_finite)
    ∧ preserves_Gate_GateIdeal
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Out_OutIdeal
    ∧ algebraic_OutIdeal_OutRefIdeal_pre_out_finite (hOutIdeal := hOutIdeal) (hOutRefIdeal := hOutRefIdeal) (hPre_out_finite := hPre_out_finite)
    ∧ preserves_MixOut_MixOutIdeal
    ∧ algebraic_MixOutIdeal_MixOutRefIdeal (hMixOutIdeal := hMixOutIdeal) (hMixOutRefIdeal := hMixOutRefIdeal)
    ∧ preserves_MemKv_MemKvIdeal
    ∧ algebraic_MemKvIdeal_MemKvRefIdeal (hMemKvIdeal := hMemKvIdeal) (hMemKvRefIdeal := hMemKvRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FoxFwd_FoxFwdIdeal
-- ==== Pre_act_finite.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1x1024 .f32) (main_arg2 : FVec F S1024x5632 .f32) (main_arg3 : FVec F S2816x1024 .f32) (main_arg4 : FVec F S4096x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x5632 .f32 := Host.absf main_arg2
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_ca_finite.lean ====
abbrev S4096x1024 : Shape := ⟨2, ![4096, 1024]⟩
abbrev S1x1024 : Shape := ⟨2, ![1, 1024]⟩
abbrev S1024x1024 : Shape := ⟨2, ![1024, 1024]⟩
abbrev S1x256 : Shape := ⟨2, ![1, 256]⟩
abbrev S256x4x256 : Shape := ⟨3, ![256, 4, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x256 : S_.BroadcastsInDim S1x256 (![] : Fin 0 → Fin S1x256.rank)
  reducesTo_S1x256_S_d0_1 : S1x256.ReducesTo [0, 1] S_
  bcast_S_S256x4x256 : S_.BroadcastsInDim S256x4x256 (![] : Fin 0 → Fin S256x4x256.rank)
  reducesTo_S256x4x256_S_d0_1_2 : S256x4x256.ReducesTo [0, 1, 2] S_

variable [Facts]

def fn_part2 {F : FTy → Type} [FloatOps F] (main_arg7 : FVec F S4096x1024 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  main_v38

def fn_part1 {F : FTy → Type} [FloatOps F] (main_arg4 : FVec F S256x4x256 .f32) (main_arg5 : FVec F S256x4x256 .f32) (main_arg6 : FVec F S1024x1024 .f32) (main_arg7 : FVec F S4096x1024 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S256x4x256 .f32 := Host.absf main_arg4
  let main_cst_6 : FVec F S_ .f32 := constant S_ .f32 0x7F800000#32
  let main_v20 : FVec F S256x4x256 .f32 := broadcastInDim S256x4x256 ![] bcast_S_S256x4x256 main_cst_6
  let main_v21 : IVec S256x4x256 1 := cmpf .olt main_v19 main_v20
  let main_c_7 : IVec S_ 1 := constantI S_ 1 1#1
  let main_v22 : IVec S_ 1 := (fun x v => Host.reduce IntOp.andi x v reducesTo_S256x4x256_S_d0_1_2 h_S_) main_v21 main_c_7
  let main_v23 : IVec S_ 1 := andi main_v18 main_v22
  let main_v24 : FVec F S256x4x256 .f32 := Host.absf main_arg5
  let main_cst_8 : FVec F S_ .f32 := constant S_ .f32 0x7F800000#32
  let main_v25 : FVec F S256x4x256 .f32 := broadcastInDim S256x4x256 ![] bcast_S_S256x4x256 main_cst_8
  let main_v26 : IVec S256x4x256 1 := cmpf .olt main_v24 main_v25
  let main_c_9 : IVec S_ 1 := constantI S_ 1 1#1
  let main_v27 : IVec S_ 1 := (fun x v => Host.reduce IntOp.andi x v reducesTo_S256x4x256_S_d0_1_2 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S1x1024 .f32) (main_arg2 : FVec F S1024x1024 .f32) (main_arg3 : FVec F S1x256 .f32) (main_arg4 : FVec F S256x4x256 .f32) (main_arg5 : FVec F S256x4x256 .f32) (main_arg6 : FVec F S1024x1024 .f32) (main_arg7 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_arg5 main_arg6 main_arg7 main_v13 main_v16
-- ==== Pre_cf_finite.lean ====
abbrev S4096x1024 : Shape := ⟨2, ![4096, 1024]⟩
abbrev S1x1024 : Shape := ⟨2, ![1, 1024]⟩
abbrev S1024x1024 : Shape := ⟨2, ![1024, 1024]⟩
abbrev S1x256 : Shape := ⟨2, ![1, 256]⟩
abbrev S256x4x256 : Shape := ⟨3, ![256, 4, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x256 : S_.BroadcastsInDim S1x256 (![] : Fin 0 → Fin S1x256.rank)
  reducesTo_S1x256_S_d0_1 : S1x256.ReducesTo [0, 1] S_
  bcast_S_S256x4x256 : S_.BroadcastsInDim S256x4x256 (![] : Fin 0 → Fin S256x4x256.rank)
  reducesTo_S256x4x256_S_d0_1_2 : S256x4x256.ReducesTo [0, 1, 2] S_

variable [Facts]

def fn_part1 {F : FTy → Type} [FloatOps F] (main_arg4 : FVec F S256x4x256 .f32) (main_arg5 : FVec F S256x4x256 .f32) (main_arg6 : FVec F S1024x1024 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S256x4x256 .f32 := Host.absf main_arg4
  let main_cst_6 : FVec F S_ .f32 := constant S_ .f32 0x7F800000#32
  let main_v20 : FVec F S256x4x256 .f32 := broadcastInDim S256x4x256 ![] bcast_S_S256x4x256 main_cst_6
  let main_v21 : IVec S256x4x256 1 := cmpf .olt main_v19 main_v20
  let main_c_7 : IVec S_ 1 := constantI S_ 1 1#1
  let main_v22 : IVec S_ 1 := (fun x v => Host.reduce IntOp.andi x v reducesTo_S256x4x256_S_d0_1_2 h_S_) main_v21 main_c_7
  let main_v23 : IVec S_ 1 := andi main_v18 main_v22
  let main_v24 : FVec F S256x4x256 .f32 := Host.absf main_arg5
  let main_cst_8 : FVec F S_ .f32 := constant S_ .f32 0x7F800000#32
  let main_v25 : FVec F S256x4x256 .f32 := broadcastInDim S256x4x256 ![] bcast_S_S256x4x256 main_cst_8
  let main_v26 : IVec S256x4x256 1 := cmpf .olt main_v24 main_v25
  let main_c_9 : IVec S_ 1 := constantI S_ 1 1#1
  let main_v27 : IVec S_ 1 := (fun x v => Host.reduce IntOp.andi x v reducesTo_S256x4x256_S_d0_1_2 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S4096x1024 .f32) (main_arg1 : FVec F S1x1024 .f32) (main_arg2 : FVec F S1024x1024 .f32) (main_arg3 : FVec F S1x256 .f32) (main_arg4 : FVec F S256x4x256 .f32) (main_arg5 : FVec F S256x4x256 .f32) (main_arg6 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_arg5 main_arg6 main_v13 main_v16
-- ==== Pre_dx_finite.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_arg4 : FVec F S4096x1024 .f32) (main_v13 : IVec S_ 1) (main_v16 : IVec S4096x5632 1) : IVec S_ 1 :=
  let main_c_5 : IVec S_ 1 := constantI S_ 1 1#1
  let main_v17 : IVec S_ 1 := (fun x v => Host.reduce IntOp.andi x v reducesTo_S4096x5632_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1x1024 .f32) (main_arg2 : FVec F S1024x5632 .f32) (main_arg3 : FVec F S4096x5632 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S4096x5632 .f32 := Host.absf main_arg3
  let main_cst_4 : FVec F S_ .f32 := constant S_ .f32 0x7F800000#32
  let main_v15 : FVec F S4096x5632 .f32 := broadcastInDim S4096x5632 ![] bcast_S_S4096x5632 main_cst_4
  let main_v16 : IVec S4096x5632 1 := cmpf .olt main_v14 main_v15
  fn_part1 (F := F) main_arg4 main_v13 main_v16
-- ==== Pre_fox_finite.lean ====
abbrev S1x8x4096x64 : Shape := ⟨4, ![1, 8, 4096, 64]⟩
abbrev S1x8x4096 : Shape := ⟨3, ![1, 8, 4096]⟩
abbrev S_ : Shape := ⟨0, ![]⟩

class Facts : Prop where
  bcast_S_S1x8x4096x64 : S_.BroadcastsInDim S1x8x4096x64 (![] : Fin 0 → Fin S1x8x4096x64.rank)
  reducesTo_S1x8x4096x64_S_d0_1_2_3 : S1x8x4096x64.ReducesTo [0, 1, 2, 3] S_
  h_S_ : 0 < S_.numel
  bcast_S_S1x8x4096 : S_.BroadcastsInDim S1x8x4096 (![] : Fin 0 → Fin S1x8x4096.rank)
  reducesTo_S1x8x4096_S_d0_1_2 : S1x8x4096.ReducesTo [0, 1, 2] S_

variable [Facts]

def fn_part1 {F : FTy → Type} [FloatOps F] (main_arg4 : FVec F S1x8x4096x64 .f32) (main_v13 : IVec S_ 1) (main_v16 : IVec S1x8x4096 1) : IVec S_ 1 :=
  let main_c_5 : IVec S_ 1 := constantI S_ 1 1#1
  let main_v17 : IVec S_ 1 := (fun x v => Host.reduce IntOp.andi x v reducesTo_S1x8x4096_S_d0_1_2 h_S_) main_v16 main_c_5
  let main_v18 : IVec S_ 1 := andi main_v13 main_v17
  let main_v19 : FVec F S1x8x4096x64 .f32 := Host.absf main_arg4
  let main_cst_6 : FVec F S_ .f32 := constant S_ .f32 0x7F800000#32
  let main_v20 : FVec F S1x8x4096x64 .f32 := broadcastInDim S1x8x4096x64 ![] bcast_S_S1x8x4096x64 main_cst_6
  let main_v21 : IVec S1x8x4096x64 1 := cmpf .olt main_v19 main_v20
  let main_c_7 : IVec S_ 1 := constantI S_ 1 1#1
  let main_v22 : IVec S_ 1 := (fun x v => Host.reduce IntOp.andi x v reducesTo_S1x8x4096x64_S_d0_1_2_3 h_S_) main_v21 main_c_7
  let main_v23 : IVec S_ 1 := andi main_v18 main_v22
  main_v23

def fn {F : FTy → Type} [FloatOps F] (main_arg0 : FVec F S1x8x4096x64 .f32) (main_arg1 : FVec F S1x8x4096x64 .f32) (main_arg2 : FVec F S1x8x4096x64 .f32) (main_arg3 : FVec F S1x8x4096 .f32) (main_arg4 : FVec F S1x8x4096x64 .f32) : IVec S_ 1 :=
  let main_v0 : FVec F S1x8x4096x64 .f32 := Host.absf main_arg0
  let main_cst : FVec F S_ .f32 := constant S_ .f32 0x7F800000#32
  let main_v1 : FVec F S1x8x4096x64 .f32 := broadcastInDim S1x8x4096x64 ![] bcast_S_S1x8x4096x64 main_cst
  let main_v2 : IVec S1x8x4096x64 1 := cmpf .olt main_v0 main_v1
  let main_c : IVec S_ 1 := constantI S_ 1 1#1
  let main_v3 : IVec S_ 1 := (fun x v => Host.reduce IntOp.andi x v reducesTo_S1x8x4096x64_S_d0_1_2_3 h_S_) main_v2 main_c
  let main_v4 : FVec F S1x8x4096x64 .f32 := Host.absf main_arg1
  let main_cst_0 : FVec F S_ .f32 := constant S_ .f32 0x7F800000#32
  let main_v5 : FVec F S1x8x4096x64 .f32 := broadcastInDim S1x8x4096x64 ![] bcast_S_S1x8x4096x64 main_cst_0
  let main_v6 : IVec S1x8x4096x64 1 := cmpf .olt main_v4 main_v5
  let main_c_1 : IVec S_ 1 := constantI S_ 1 1#1
  let main_v7 : IVec S_ 1 := (fun x v => Host.reduce IntOp.andi x v reducesTo_S1x8x4096x64_S_d0_1_2_3 h_S_) main_v6 main_c_1
  let main_v8 : IVec S_ 1 := andi main_v3 main_v7
  let main_v9 : FVec F S1x8x4096x64 .f32 := Host.absf main_arg2
  let main_cst_2 : FVec F S_ .f32 := constant S_ .f32 0x7F800000#32
  let main_v10 : FVec F S1x8x4096x64 .f32 := broadcastInDim S1x8x4096x64 ![] bcast_S_S1x8x4096x64 main_cst_2
  let main_v11 : IVec S1x8x4096x64 1 := cmpf .olt main_v9 main_v10
  let main_c_3 : IVec S_ 1 := constantI S_ 1 1#1
  let main_v12 : IVec S_ 1 := (fun x v => Host.reduce IntOp.andi x v reducesTo_S1x8x4096x64_S_d0_1_2_3 h_S_) main_v11 main_c_3
  let main_v13 : IVec S_ 1 := andi main_v8 main_v12
  let main_v14 : FVec F S1x8x4096 .f32 := Host.absf main_arg3
  let main_cst_4 : FVec F S_ .f32 := constant S_ .f32 0x7F800000#32
  let main_v15 : FVec F S1x8x4096 .f32 := broadcastInDim S1x8x4096 ![] bcast_S_S1x8x4096 main_cst_4
  let main_v16 : IVec S1x8x4096 1 := cmpf .olt main_v14 main_v15
  fn_part1 (F := F) main_arg4 main_v13 main_v16
-- ==== Pre_kv_finite.lean ====
abbrev S256x1024 : Shape := ⟨2, ![256, 1024]⟩
abbrev S1x1024 : Shape := ⟨2, ![1, 1024]⟩
abbrev S1024x2048 : Shape := ⟨2, ![1024, 2048]⟩
abbrev S1x256 : Shape := ⟨2, ![1, 256]⟩
abbrev S256x4x256 : Shape := ⟨3, ![256, 4, 256]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1x256 : S_.BroadcastsInDim S1x256 (![] : Fin 0 → Fin S1x256.rank)
  reducesTo_S1x256_S_d0_1 : S1x256.ReducesTo [0, 1] S_
  bcast_S_S256x4x256 : S_.BroadcastsInDim S256x4x256 (![] : Fin 0 → Fin S256x4x256.rank)
  reducesTo_S256x4x256_S_d0_1_2 : S256x4x256.ReducesTo [0, 1, 2] S_

variable [Facts]

def fn_part1 {F : FTy → Type} [FloatOps F] (main_arg4 : FVec F S256x4x256 .f32) (main_arg5 : FVec F S256x4x256 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S256x4x256 .f32 := Host.absf main_arg4
  let main_cst_6 : FVec F S_ .f32 := constant S_ .f32 0x7F800000#32
  let main_v20 : FVec F S256x4x256 .f32 := broadcastInDim S256x4x256 ![] bcast_S_S256x4x256 main_cst_6
  let main_v21 : IVec S256x4x256 1 := cmpf .olt main_v19 main_v20
  let main_c_7 : IVec S_ 1 := constantI S_ 1 1#1
  let main_v22 : IVec S_ 1 := (fun x v => Host.reduce IntOp.andi x v reducesTo_S256x4x256_S_d0_1_2 h_S_) main_v21 main_c_7
  let main_v23 : IVec S_ 1 := andi main_v18 main_v22
  let main_v24 : FVec F S256x4x256 .f32 := Host.absf main_arg5
  let main_cst_8 : FVec F S_ .f32 := constant S_ .f32 0x7F800000#32
  let main_v25 : FVec F S256x4x256 .f32 := broadcastInDim S256x4x256 ![] bcast_S_S256x4x256 main_cst_8
  let main_v26 : IVec S256x4x256 1 := cmpf .olt main_v24 main_v25
  let main_c_9 : IVec S_ 1 := constantI S_ 1 1#1
  let main_v27 : IVec S_ 1 := (fun x v => Host.reduce IntOp.andi x v reducesTo_S256x4x256_S_d0_1_2 h_S_) main_v26 main_c_9
  let main_v28 : IVec S_ 1 := andi main_v23 main_v27
  main_v28

def fn {F : FTy → Type} [FloatOps F] (main_arg0 : FVec F S256x1024 .f32) (main_arg1 : FVec F S1x1024 .f32) (main_arg2 : FVec F S1024x2048 .f32) (main_arg3 : FVec F S1x256 .f32) (main_arg4 : FVec F S256x4x256 .f32) (main_arg5 : FVec F S256x4x256 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_arg5 main_v13 main_v16
-- ==== Pre_loss_finite.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x2816 .f32) (main_arg1 : FVec F S2816x1024 .f32) (main_arg2 : FVec F S4096x1024 .f32) (main_arg3 : FVec F S4096x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_out_finite.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x512 .f32) (main_arg1 : FVec F S4096x512 .f32) (main_arg2 : FVec F S1x512 .f32) (main_arg3 : FVec F S1024x1024 .f32) (main_arg4 : FVec F S4096x1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Pre_proj_finite.lean ====
abbrev S4096x1024 : Shape := ⟨2, ![4096, 1024]⟩
abbrev S1x1024 : Shape := ⟨2, ![1, 1024]⟩
abbrev S1024x2568 : Shape := ⟨2, ![1024, 2568]⟩
abbrev S4096x2568 : Shape := ⟨2, ![4096, 2568]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2568 : S_.BroadcastsInDim S1024x2568 (![] : Fin 0 → Fin S1024x2568.rank)
  reducesTo_S1024x2568_S_d0_1 : S1024x2568.ReducesTo [0, 1] S_
  bcast_S_S4096x2568 : S_.BroadcastsInDim S4096x2568 (![] : Fin 0 → Fin S4096x2568.rank)
  reducesTo_S4096x2568_S_d0_1 : S4096x2568.ReducesTo [0, 1] S_

variable [Facts]

def fn_part1 {F : FTy → Type} [FloatOps F] (main_arg4 : FVec F S4096x1024 .f32) (main_v13 : IVec S_ 1) (main_v16 : IVec S4096x2568 1) : IVec S_ 1 :=
  let main_c_5 : IVec S_ 1 := constantI S_ 1 1#1
  let main_v17 : IVec S_ 1 := (fun x v => Host.reduce IntOp.andi x v reducesTo_S4096x2568_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1x1024 .f32) (main_arg2 : FVec F S1024x2568 .f32) (main_arg3 : FVec F S4096x2568 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2568 .f32 := Host.absf main_arg2
  let main_cst_2 : FVec F S_ .f32 := constant S_ .f32 0x7F800000#32
  let main_v10 : FVec F S1024x2568 .f32 := broadcastInDim S1024x2568 ![] bcast_S_S1024x2568 main_cst_2
  let main_v11 : IVec S1024x2568 1 := cmpf .olt main_v9 main_v10
  let main_c_3 : IVec S_ 1 := constantI S_ 1 1#1
  let main_v12 : IVec S_ 1 := (fun x v => Host.reduce IntOp.andi x v reducesTo_S1024x2568_S_d0_1 h_S_) main_v11 main_c_3
  let main_v13 : IVec S_ 1 := andi main_v8 main_v12
  let main_v14 : FVec F S4096x2568 .f32 := Host.absf main_arg3
  let main_cst_4 : FVec F S_ .f32 := constant S_ .f32 0x7F800000#32
  let main_v15 : FVec F S4096x2568 .f32 := broadcastInDim S4096x2568 ![] bcast_S_S4096x2568 main_cst_4
  let main_v16 : IVec S4096x2568 1 := cmpf .olt main_v14 main_v15
  fn_part1 (F := F) main_arg4 main_v13 main_v16
-- ==== Act.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S5632x1024 : Shape := ⟨2, ![5632, 1024]⟩
abbrev S2x4x704x1024 : Shape := ⟨4, ![2, 4, 704, 1024]⟩
abbrev S4x704x1024 : Shape := ⟨3, ![4, 704, 1024]⟩
abbrev S2x4x4096x704 : Shape := ⟨4, ![2, 4, 4096, 704]⟩
abbrev S1024x1024 : Shape := ⟨2, ![1024, 1024]⟩
abbrev S2x1x704x1024 : Shape := ⟨4, ![2, 1, 704, 1024]⟩
abbrev S1x704x1024 : Shape := ⟨3, ![1, 704, 1024]⟩
abbrev S2x1x1024x704 : Shape := ⟨4, ![2, 1, 1024, 704]⟩
abbrev S704x1024 : Shape := ⟨2, ![704, 1024]⟩
abbrev S1024x704 : Shape := ⟨2, ![1024, 704]⟩
abbrev S1x1x704x1024 : Shape := ⟨4, ![1, 1, 704, 1024]⟩
abbrev S1x1x1024x704 : Shape := ⟨4, ![1, 1, 1024, 704]⟩

abbrev nBuf : Space → Nat
  | .hbm => 28
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S5632x1024, .f32⟩
  | .hbm, ⟨22, _⟩ => ⟨S5632x1024, .bf16⟩
  | .hbm, ⟨23, _⟩ => ⟨S2x4x704x1024, .bf16⟩
  | .hbm, ⟨24, _⟩ => ⟨S2816x1024, .bf16⟩
  | .hbm, ⟨25, _⟩ => ⟨S4x704x1024, .bf16⟩
  | .hbm, ⟨26, _⟩ => ⟨S4096x1024, .bf16⟩
  | .hbm, ⟨27, _⟩ => ⟨S2x4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x1x704x1024, .bf16⟩
  | .local _ .vmem, ⟨5, _⟩ => ⟨S2x1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S2x1x1024x704, .bf16⟩
  | .local _ .vmem, ⟨9, _⟩ => ⟨S2x1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ActRefIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S4096x2x4x704 : Shape := ⟨4, ![4096, 2, 4, 704]⟩
abbrev S2x4x4096x704 : Shape := ⟨4, ![2, 4, 4096, 704]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x5632, .f32⟩
  | .hbm, ⟨52, _⟩ => ⟨S4096x2x4x704, .f32⟩
  | .hbm, ⟨53, _⟩ => ⟨S2x4x4096x704, .f32⟩
  | .hbm, ⟨54, _⟩ => ⟨S2x4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v15_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v15_1 : Ref sig .tc := ⟨.hbm, 34, rfl⟩
abbrev main_v15_0 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩

abbrev nD : Nat := 1
abbrev τ : Topo := Topo.v7x

variable {F : FTy → Type} [FloatOps F]
-- ==== Fox.lean ====
abbrev S1x8x4096x64 : Shape := ⟨4, ![1, 8, 4096, 64]⟩
abbrev S1x8x4096 : Shape := ⟨3, ![1, 8, 4096]⟩
abbrev S36 : Shape := ⟨1, ![36]⟩
abbrev S_ : Shape := ⟨0, ![]⟩
abbrev S1x8x4096x4096 : Shape := ⟨4, ![1, 8, 4096, 4096]⟩
abbrev S1x8x4096x1 : Shape := ⟨4, ![1, 8, 4096, 1]⟩
abbrev S1x8x1x4096 : Shape := ⟨4, ![1, 8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096x3 : Shape := ⟨3, ![8, 4096, 3]⟩
abbrev S8x4096 : Shape := ⟨2, ![8, 4096]⟩
abbrev S8x4096x1 : Shape := ⟨3, ![8, 4096, 1]⟩
abbrev S8x4096x64 : Shape := ⟨3, ![8, 4096, 64]⟩
abbrev S8x4096x55 : Shape := ⟨3, ![8, 4096, 55]⟩
abbrev S8x4096x128 : Shape := ⟨3, ![8, 4096, 128]⟩
abbrev S4096x8x128 : Shape := ⟨3, ![4096, 8, 128]⟩
abbrev S4096x1024 : Shape := ⟨2, ![4096, 1024]⟩
abbrev S8x4096x61 : Shape := ⟨3, ![8, 4096, 61]⟩
abbrev S512x1024 : Shape := ⟨2, ![512, 1024]⟩
abbrev S1 : Shape := ⟨1, ![1]⟩
abbrev S512x128 : Shape := ⟨2, ![512, 128]⟩
abbrev S512x512 : Shape := ⟨2, ![512, 512]⟩
abbrev S1x8x4096x128 : Shape := ⟨4, ![1, 8, 4096, 128]⟩

abbrev nBuf : Space → Nat
  | .hbm => 162
  | .vmem => 15
  | .smem => 2
  | _ => 0

abbrev hbmTy0_0 (i : Nat) : BufTy := match i % 128 with
  | 0 => ⟨S1x8x4096x64, .f32⟩
  | 1 => ⟨S1x8x4096x64, .f32⟩
  | 2 => ⟨S1x8x4096x64, .f32⟩
  | 3 => ⟨S1x8x4096, .f32⟩
  | 4 => ⟨S1x8x4096x64, .f32⟩
  | 5 => ⟨S_, .f32⟩
  | 6 => ⟨S_, .f32⟩
  | 7 => ⟨S1x8x4096, .f32⟩
  | 8 => ⟨S1x8x4096x4096, .f32⟩
  | 9 => ⟨S_, .f32⟩
  | 10 => ⟨S1x8x4096x4096, .f32⟩
  | 11 => ⟨S1x8x4096x4096, .f32⟩
  | 12 => ⟨S1x8x4096x1, .f32⟩
  | 13 => ⟨S1x8x4096x4096, .f32⟩
  | 14 => ⟨S1x8x4096x4096, .f32⟩
  | 15 => ⟨S1x8x1x4096, .f32⟩
  | 16 => ⟨S1x8x4096x4096, .f32⟩
  | 17 => ⟨S1x8x4096x4096, .f32⟩
  | 18 => ⟨S4096, .i32⟩
  | 19 => ⟨S4096x1, .i32⟩
  | 20 => ⟨S4096, .i32⟩
  | 21 => ⟨S1x4096, .i32⟩
  | 22 => ⟨S4096x4096, .i32⟩
  | 23 => ⟨S4096x4096, .i32⟩
  | 24 => ⟨S4096x4096, .i1⟩
  | 25 => ⟨S_, .f32⟩
  | 26 => ⟨S_, .f32⟩
  | 27 => ⟨S1x8x4096x4096, .i1⟩
  | 28 => ⟨S1x8x4096x4096, .f32⟩
  | 29 => ⟨S1x8x4096x4096, .f32⟩
  | 30 => ⟨S_, .f32⟩
  | 31 => ⟨S1x8x4096, .f32⟩
  | 32 => ⟨S1x8x4096x1, .f32⟩
  | 33 => ⟨S1x8x4096x4096, .f32⟩
  | 34 => ⟨S1x8x4096x4096, .f32⟩
  | 35 => ⟨S1x8x4096x4096, .f32⟩
  | 36 => ⟨S_, .f32⟩
  | 37 => ⟨S1x8x4096, .f32⟩
  | 38 => ⟨S1x8x4096x64, .f32⟩
  | 39 => ⟨S1x8x4096x1, .f32⟩
  | 40 => ⟨S1x8x4096x64, .f32⟩
  | 41 => ⟨S1x8x4096x64, .f32⟩
  | 42 => ⟨S1x8x4096, .f32⟩
  | 43 => ⟨S1x8x4096, .f32⟩
  | 44 => ⟨S_, .f32⟩
  | 45 => ⟨S8x4096x3, .f32⟩
  | 46 => ⟨S_, .f32⟩
  | 47 => ⟨S1x8x4096x64, .f32⟩
  | 48 => ⟨S1x8x4096x64, .f32⟩
  | 49 => ⟨S8x4096, .f32⟩
  | 50 => ⟨S8x4096, .bf16⟩
  | 51 => ⟨S8x4096, .f32⟩
  | 52 => ⟨S8x4096, .f32⟩
  | 53 => ⟨S8x4096, .bf16⟩
  | 54 => ⟨S8x4096, .f32⟩
  | 55 => ⟨S8x4096, .f32⟩
  | 56 => ⟨S8x4096, .f32⟩
  | 57 => ⟨S8x4096, .bf16⟩
  | 58 => ⟨S8x4096, .f32⟩
  | 59 => ⟨S8x4096x1, .f32⟩
  | 60 => ⟨S8x4096x1, .f32⟩
  | 61 => ⟨S8x4096x1, .f32⟩
  | 62 => ⟨S8x4096x3, .f32⟩
  | 63 => ⟨S8x4096, .f32⟩
  | 64 => ⟨S8x4096, .f32⟩
  | 65 => ⟨S8x4096, .bf16⟩
  | 66 => ⟨S8x4096, .f32⟩
  | 67 => ⟨S8x4096, .f32⟩
  | 68 => ⟨S8x4096, .bf16⟩
  | 69 => ⟨S8x4096, .f32⟩
  | 70 => ⟨S8x4096, .f32⟩
  | 71 => ⟨S8x4096, .f32⟩
  | 72 => ⟨S8x4096, .bf16⟩
  | 73 => ⟨S8x4096, .f32⟩
  | 74 => ⟨S8x4096x1, .f32⟩
  | 75 => ⟨S8x4096x1, .f32⟩
  | 76 => ⟨S8x4096x1, .f32⟩
  | 77 => ⟨S8x4096x3, .f32⟩
  | 78 => ⟨S8x4096x64, .f32⟩
  | 79 => ⟨S_, .f32⟩
  | 80 => ⟨S8x4096x55, .f32⟩
  | 81 => ⟨S8x4096x128, .f32⟩
  | 82 => ⟨S4096x8x128, .f32⟩
  | 83 => ⟨S4096x1024, .f32⟩
  | 84 => ⟨S4096x1024, .bf16⟩
  | 85 => ⟨S8x4096, .f32⟩
  | 86 => ⟨S8x4096, .f32⟩
  | 87 => ⟨S8x4096, .bf16⟩
  | 88 => ⟨S8x4096, .f32⟩
  | 89 => ⟨S8x4096, .f32⟩
  | 90 => ⟨S8x4096, .bf16⟩
  | 91 => ⟨S8x4096, .f32⟩
  | 92 => ⟨S8x4096, .f32⟩
  | 93 => ⟨S8x4096, .f32⟩
  | 94 => ⟨S8x4096, .bf16⟩
  | 95 => ⟨S8x4096, .f32⟩
  | 96 => ⟨S8x4096x1, .f32⟩
  | 97 => ⟨S8x4096x1, .f32⟩
  | 98 => ⟨S8x4096x1, .f32⟩
  | 99 => ⟨S8x4096x3, .f32⟩
  | 100 => ⟨S8x4096x64, .f32⟩
  | 101 => ⟨S_, .f32⟩
  | 102 => ⟨S8x4096x55, .f32⟩
  | 103 => ⟨S8x4096x128, .f32⟩
  | 104 => ⟨S4096x8x128, .f32⟩
  | 105 => ⟨S4096x1024, .f32⟩
  | 106 => ⟨S4096x1024, .bf16⟩
  | 107 => ⟨S8x4096x64, .f32⟩
  | 108 => ⟨S_, .f32⟩
  | 109 => ⟨S8x4096x61, .f32⟩
  | 110 => ⟨S8x4096x128, .f32⟩
  | 111 => ⟨S4096x8x128, .f32⟩
  | 112 => ⟨S4096x1024, .f32⟩
  | 113 => ⟨S4096x1024, .bf16⟩
  | 114 => ⟨S1x8x4096x64, .f32⟩
  | 115 => ⟨S_, .f32⟩
  | 116 => ⟨S1x8x4096, .f32⟩
  | 117 => ⟨S8x4096, .f32⟩
  | 118 => ⟨S8x4096, .f32⟩
  | 119 => ⟨S8x4096, .bf16⟩
  | 120 => ⟨S8x4096, .f32⟩
  | 121 => ⟨S8x4096, .f32⟩
  | 122 => ⟨S8x4096, .bf16⟩
  | 123 => ⟨S8x4096, .f32⟩
  | 124 => ⟨S8x4096, .f32⟩
  | 125 => ⟨S8x4096, .f32⟩
  | 126 => ⟨S8x4096, .bf16⟩
  | 127 => ⟨S8x4096, .f32⟩
  | _ => ⟨S1x8x4096x64, .f32⟩

abbrev hbmTy0_1 (i : Nat) : BufTy := match i % 128 with
  | 0 => ⟨S8x4096x1, .f32⟩
  | 1 => ⟨S8x4096x1, .f32⟩
  | 2 => ⟨S8x4096x1, .f32⟩
  | 3 => ⟨S8x4096x3, .f32⟩
  | 4 => ⟨S8x4096x64, .f32⟩
  | 5 => ⟨S_, .f32⟩
  | 6 => ⟨S8x4096x61, .f32⟩
  | 7 => ⟨S8x4096x128, .f32⟩
  | 8 => ⟨S4096x8x128, .f32⟩
  | 9 => ⟨S4096x1024, .f32⟩
  | 10 => ⟨S4096x1024, .bf16⟩
  | 11 => ⟨S4096x1024, .f32⟩
  | 12 => ⟨S4096x1024, .f32⟩
  | 13 => ⟨S4096x1024, .f32⟩
  | 14 => ⟨S4096x8x128, .f32⟩
  | 15 => ⟨S8x4096x128, .f32⟩
  | 16 => ⟨S1x8x4096x128, .f32⟩
  | 17 => ⟨S4096x8x128, .f32⟩
  | 18 => ⟨S8x4096x128, .f32⟩
  | 19 => ⟨S1x8x4096x128, .f32⟩
  | 20 => ⟨S4096x8x128, .f32⟩
  | 21 => ⟨S8x4096x128, .f32⟩
  | 22 => ⟨S1x8x4096x128, .f32⟩
  | 23 => ⟨S1x8x4096x64, .f32⟩
  | 24 => ⟨S_, .f32⟩
  | 25 => ⟨S1x8x4096x64, .f32⟩
  | 26 => ⟨S1x8x4096x64, .f32⟩
  | 27 => ⟨S1x8x4096x64, .f32⟩
  | 28 => ⟨S1x8x4096x64, .f32⟩
  | 29 => ⟨S1x8x4096x1, .f32⟩
  | 30 => ⟨S1x8x4096, .f32⟩
  | 31 => ⟨S1x8x4096x1, .f32⟩
  | 32 => ⟨S1x8x4096, .f32⟩
  | 33 => ⟨S1x8x4096, .f32⟩
  | _ => ⟨S1x8x4096x64, .f32⟩

abbrev hbmTy (i : Nat) : BufTy := match i / 128 with
  | 0 => hbmTy0_0 i
  | 1 => hbmTy0_1 i
  | _ => ⟨S1x8x4096x64, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S4096x1024, .f32⟩
  | .local _ .smem, ⟨0, _⟩ => ⟨S36, .i32⟩
  | .local _ .smem, ⟨1, _⟩ => ⟨S36, .i32⟩
  | _, _ => ⟨S1x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_6 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_7 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_8 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_cst_9 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_cst_10 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118_0 : Ref sig .tc := ⟨.hbm, 139, rfl⟩
abbrev main_v118_1 : Ref sig .tc := ⟨.hbm, 140, rfl⟩
abbrev main_v118_2 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_cst_11 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v3 : BitVec 32) : BitVec 32 :=
  let c512_i32 : BitVec 32 := 512#32
  let v16 : BitVec 32 := Scalar.muli v3 c512_i32
  v16
def k0_cond3 (v1 : BitVec 32) (v3 : BitVec 32) : BitVec 1 :=
  let v10 : BitVec 1 := Scalar.cmpi .sgt v3 v1
  let v11 : BitVec 32 := Scalar.extui v10
  let c0_i32_2 : BitVec 32 := 0#32
  let v12 : BitVec 1 := Scalar.cmpi .ne v11 c0_i32_2
  v12

def k0_off2 (v3 : BitVec 32) : Fin 2 → Nat :=
  let c512_i32 : BitVec 32 := 512#32
  let v16 : BitVec 32 := Scalar.muli v3 c512_i32
  let v17 : BitVec 32 := v16
  let v42 : Index := Scalar.indexCast v17
  let c0_22 : Index := 0#32
  ![v42.toNat, 0]
def k0_off3 (v3 : BitVec 32) : Fin 2 → Nat :=
  let c512_i32 : BitVec 32 := 512#32
  let v16 : BitVec 32 := Scalar.muli v3 c512_i32
  let v17 : BitVec 32 := v16
  let v74 : Index := Scalar.indexCast v17
  let c128_44 : Index := 128#32
  ![v74.toNat, 128]
def k0_off4 (v3 : BitVec 32) : Fin 2 → Nat :=
  let c512_i32 : BitVec 32 := 512#32
  let v16 : BitVec 32 := Scalar.muli v3 c512_i32
  let v17 : BitVec 32 := v16
  let v106 : Index := Scalar.indexCast v17
  let c256_66 : Index := 256#32
  ![v106.toNat, 256]
def k0_off5 (v3 : BitVec 32) : Fin 2 → Nat :=
  let c512_i32 : BitVec 32 := 512#32
  let v16 : BitVec 32 := Scalar.muli v3 c512_i32
  let v17 : BitVec 32 := v16
  let v138 : Index := Scalar.indexCast v17
  let c384_88 : Index := 384#32
  ![v138.toNat, 384]
def k0_off6 (v3 : BitVec 32) : Fin 2 → Nat :=
  let c512_i32 : BitVec 32 := 512#32
  let v16 : BitVec 32 := Scalar.muli v3 c512_i32
  let v17 : BitVec 32 := v16
  let v170 : Index := Scalar.indexCast v17
  let c512_110 : Index := 512#32
  ![v170.toNat, 512]
def k0_off7 (v3 : BitVec 32) : Fin 2 → Nat :=
  let c512_i32 : BitVec 32 := 512#32
  let v16 : BitVec 32 := Scalar.muli v3 c512_i32
  let v17 : BitVec 32 := v16
  let v202 : Index := Scalar.indexCast v17
  let c640_132 : Index := 640#32
  ![v202.toNat, 640]
def k0_off8 (v3 : BitVec 32) : Fin 2 → Nat :=
  let c512_i32 : BitVec 32 := 512#32
  let v16 : BitVec 32 := Scalar.muli v3 c512_i32
  let v17 : BitVec 32 := v16
  let v234 : Index := Scalar.indexCast v17
  let c768_154 : Index := 768#32
  ![v234.toNat, 768]
def k0_off9 (v3 : BitVec 32) : Fin 2 → Nat :=
  let c512_i32 : BitVec 32 := 512#32
  let v16 : BitVec 32 := Scalar.muli v3 c512_i32
  let v17 : BitVec 32 := v16
  let v266 : Index := Scalar.indexCast v17
  let c896_176 : Index := 896#32
  ![v266.toNat, 896]
def k0_mult2 (v3 : BitVec 32) : BitVec 32 :=
  let c512_i32 : BitVec 32 := 512#32
  let v16 : BitVec 32 := Scalar.muli v3 c512_i32
  v16
def k0_cond4 (v1 : BitVec 32) (v3 : BitVec 32) : BitVec 1 :=
  let v13 : BitVec 1 := Scalar.cmpi .eq v3 v1
  let v14 : BitVec 32 := Scalar.extui v13
  let c0_i32_3 : BitVec 32 := 0#32
  let v15 : BitVec 1 := Scalar.cmpi .ne v14 c0_i32_3
  v15

def k0_off10 (v3 : BitVec 32) : Fin 2 → Nat :=
  let c512_i32 : BitVec 32 := 512#32
  let v16 : BitVec 32 := Scalar.muli v3 c512_i32
  let v17 : BitVec 32 := v16
  let v47 : Index := Scalar.indexCast v17
  let c0_23 : Index := 0#32
  ![v47.toNat, 0]
def k0_off11 (v3 : BitVec 32) : Fin 2 → Nat :=
  let c512_i32 : BitVec 32 := 512#32
  let v16 : BitVec 32 := Scalar.muli v3 c512_i32
  let v17 : BitVec 32 := v16
  let v81 : Index := Scalar.indexCast v17
  let c128_46 : Index := 128#32
  ![v81.toNat, 128]
def k0_off12 (v3 : BitVec 32) : Fin 2 → Nat :=
  let c512_i32 : BitVec 32 := 512#32
  let v16 : BitVec 32 := Scalar.muli v3 c512_i32
  let v17 : BitVec 32 := v16
  let v115 : Index := Scalar.indexCast v17
  let c256_69 : Index := 256#32
  ![v115.toNat, 256]
def k0_off13 (v3 : BitVec 32) : Fin 2 → Nat :=
  let c512_i32 : BitVec 32 := 512#32
  let v16 : BitVec 32 := Scalar.muli v3 c512_i32
  let v17 : BitVec 32 := v16
  let v149 : Index := Scalar.indexCast v17
  let c384_92 : Index := 384#32
  ![v149.toNat, 384]
def k0_off14 (v3 : BitVec 32) : Fin 2 → Nat :=
  let c512_i32 : BitVec 32 := 512#32
  let v16 : BitVec 32 := Scalar.muli v3 c512_i32
  let v17 : BitVec 32 := v16
  let v183 : Index := Scalar.indexCast v17
  let c512_115 : Index := 512#32
  ![v183.toNat, 512]
def k0_off15 (v3 : BitVec 32) : Fin 2 → Nat :=
  let c512_i32 : BitVec 32 := 512#32
  let v16 : BitVec 32 := Scalar.muli v3 c512_i32
  let v17 : BitVec 32 := v16
  let v217 : Index := Scalar.indexCast v17
  let c640_138 : Index := 640#32
  ![v217.toNat, 640]
def k0_off16 (v3 : BitVec 32) : Fin 2 → Nat :=
  let c512_i32 : BitVec 32 := 512#32
  let v16 : BitVec 32 := Scalar.muli v3 c512_i32
  let v17 : BitVec 32 := v16
  let v251 : Index := Scalar.indexCast v17
  let c768_161 : Index := 768#32
  ![v251.toNat, 768]
def k0_off17 (v3 : BitVec 32) : Fin 2 → Nat :=
  let c512_i32 : BitVec 32 := 512#32
  let v16 : BitVec 32 := Scalar.muli v3 c512_i32
  let v17 : BitVec 32 := v16
  let v285 : Index := Scalar.indexCast v17
  let c896_184 : Index := 896#32
  ![v285.toNat, 896]
def k0_mult3 (v1 : BitVec 32) : BitVec 32 :=
  let c512_i32_187 : BitVec 32 := 512#32
  let v293 : BitVec 32 := Scalar.muli v1 c512_i32_187
  v293
def k0_off18 (v1 : BitVec 32) : Fin 2 → Nat :=
  let c512_i32_187 : BitVec 32 := 512#32
  let v293 : BitVec 32 := Scalar.muli v1 c512_i32_187
  let v294 : BitVec 32 := v293
  let v295 : Index := Scalar.indexCast v294
  let c0_188 : Index := 0#32
  ![v295.toNat, 0]

def k0_chk1 (v1 : BitVec 32) (v3 : BitVec 32) : Prop :=
  (∀ (k0_h3 : k0_cond3 v1 v3 = 1#1), 512 ∣ (k0_mult1 v3).toNat) ∧
  (∀ (k0_h3 : k0_cond3 v1 v3 = 1#1), ∀ a, (k0_off2 v3) a + S512x128.size a ≤ S4096x1024.size a) ∧
  (∀ (k0_h3 : k0_cond3 v1 v3 = 1#1), ∀ a, (k0_off3 v3) a + S512x128.size a ≤ S4096x1024.size a) ∧
  (∀ (k0_h3 : k0_cond3 v1 v3 = 1#1), ∀ a, (k0_off4 v3) a + S512x128.size a ≤ S4096x1024.size a) ∧
  (∀ (k0_h3 : k0_cond3 v1 v3 = 1#1), ∀ a, (k0_off5 v3) a + S512x128.size a ≤ S4096x1024.size a) ∧
  (∀ (k0_h3 : k0_cond3 v1 v3 = 1#1), ∀ a, (k0_off6 v3) a + S512x128.size a ≤ S4096x1024.size a) ∧
  (∀ (k0_h3 : k0_cond3 v1 v3 = 1#1), ∀ a, (k0_off7 v3) a + S512x128.size a ≤ S4096x1024.size a) ∧
  (∀ (k0_h3 : k0_cond3 v1 v3 = 1#1), ∀ a, (k0_off8 v3) a + S512x128.size a ≤ S4096x1024.size a) ∧
  (∀ (k0_h3 : k0_cond3 v1 v3 = 1#1), ∀ a, (k0_off9 v3) a + S512x128.size a ≤ S4096x1024.size a) ∧
  (∀ (k0_h4 : k0_cond4 v1 v3 = 1#1), 512 ∣ (k0_mult2 v3).toNat) ∧
  (∀ (k0_h4 : k0_cond4 v1 v3 = 1#1), ∀ a, (k0_off10 v3) a + S512x128.size a ≤ S4096x1024.size a) ∧
  (∀ (k0_h4 : k0_cond4 v1 v3 = 1#1), ∀ a, (k0_off11 v3) a + S512x128.size a ≤ S4096x1024.size a) ∧
  (∀ (k0_h4 : k0_cond4 v1 v3 = 1#1), ∀ a, (k0_off12 v3) a + S512x128.size a ≤ S4096x1024.size a) ∧
  (∀ (k0_h4 : k0_cond4 v1 v3 = 1#1), ∀ a, (k0_off13 v3) a + S512x128.size a ≤ S4096x1024.size a) ∧
  (∀ (k0_h4 : k0_cond4 v1 v3 = 1#1), ∀ a, (k0_off14 v3) a + S512x128.size a ≤ S4096x1024.size a) ∧
  (∀ (k0_h4 : k0_cond4 v1 v3 = 1#1), ∀ a, (k0_off15 v3) a + S512x128.size a ≤ S4096x1024.size a) ∧
  (∀ (k0_h4 : k0_cond4 v1 v3 = 1#1), ∀ a, (k0_off16 v3) a + S512x128.size a ≤ S4096x1024.size a) ∧
  (∀ (k0_h4 : k0_cond4 v1 v3 = 1#1), ∀ a, (k0_off17 v3) a + S512x128.size a ≤ S4096x1024.size a) ∧
  (∀ (k0_h4 : k0_cond4 v1 v3 = 1#1), 512 ∣ (k0_mult3 v1).toNat) ∧
  (∀ (k0_h4 : k0_cond4 v1 v3 = 1#1), ∀ a, (k0_off18 v1) a + S512x1024.size a ≤ S4096x1024.size a)
theorem k0_mult1_dvd : ∀ (v1 : BitVec 32) (v3 : BitVec 32) (k0_hw1 : k0_chk1 v1 v3), ∀ (k0_h3 : k0_cond3 v1 v3 = 1#1), 512 ∣ (k0_mult1 v3).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v3) a + S512x128.size a ≤ S4096x1024.size a := fun v1 v3 k0_hw1 k0_h3 => k0_hw1.2.1 k0_h3
theorem k0_off3_inb : ∀ (v1 : BitVec 32) (v3 : BitVec 32) (k0_hw1 : k0_chk1 v1 v3), ∀ (k0_h3 : k0_cond3 v1 v3 = 1#1), ∀ a, (k0_off3 v3) a + S512x128.size a ≤ S4096x1024.size a := fun v1 v3 k0_hw1 k0_h3 => k0_hw1.2.2.1 k0_h3
theorem k0_off4_inb : ∀ (v1 : BitVec 32) (v3 : BitVec 32) (k0_hw1 : k0_chk1 v1 v3), ∀ (k0_h3 : k0_cond3 v1 v3 = 1#1), ∀ a, (k0_off4 v3) a + S512x128.size a ≤ S4096x1024.size a := fun v1 v3 k0_hw1 k0_h3 => k0_hw1.2.2.2.1 k0_h3
theorem k0_off5_inb : ∀ (v1 : BitVec 32) (v3 : BitVec 32) (k0_hw1 : k0_chk1 v1 v3), ∀ (k0_h3 : k0_cond3 v1 v3 = 1#1), ∀ a, (k0_off5 v3) a + S512x128.size a ≤ S4096x1024.size a := fun v1 v3 k0_hw1 k0_h3 => k0_hw1.2.2.2.2.1 k0_h3
theorem k0_off6_inb : ∀ (v1 : BitVec 32) (v3 : BitVec 32) (k0_hw1 : k0_chk1 v1 v3), ∀ (k0_h3 : k0_cond3 v1 v3 = 1#1), ∀ a, (k0_off6 v3) a + S512x128.size a ≤ S4096x1024.size a := fun v1 v3 k0_hw1 k0_h3 => k0_hw1.2.2.2.2.2.1 k0_h3
theorem k0_off7_inb : ∀ (v1 : BitVec 32) (v3 : BitVec 32) (k0_hw1 : k0_chk1 v1 v3), ∀ (k0_h3 : k0_cond3 v1 v3 = 1#1), ∀ a, (k0_off7 v3) a + S512x128.size a ≤ S4096x1024.size a := fun v1 v3 k0_hw1 k0_h3 => k0_hw1.2.2.2.2.2.2.1 k0_h3
theorem k0_off8_inb : ∀ (v1 : BitVec 32) (v3 : BitVec 32) (k0_hw1 : k0_chk1 v1 v3), ∀ (k0_h3 : k0_cond3 v1 v3 = 1#1), ∀ a, (k0_off8 v3) a + S512x128.size a ≤ S4096x1024.size a := fun v1 v3 k0_hw1 k0_h3 => k0_hw1.2.2.2.2.2.2.2.1 k0_h3
theorem k0_off9_inb : ∀ (v1 : BitVec 32) (v3 : BitVec 32) (k0_hw1 : k0_chk1 v1 v3), ∀ (k0_h3 : k0_cond3 v1 v3 = 1#1), ∀ a, (k0_off9 v3) a + S512x128.size a ≤ S4096x1024.size a := fun v1 v3 k0_hw1 k0_h3 => k0_hw1.2.2.2.2.2.2.2.2.1 k0_h3
theorem k0_mult2_dvd : ∀ (v1 : BitVec 32) (v3 : BitVec 32) (k0_hw1 : k0_chk1 v1 v3), ∀ (k0_h4 : k0_cond4 v1 v3 = 1#1), 512 ∣ (k0_mult2 v3).toNat := fun v1 v3 k0_hw1 k0_h4 => k0_hw1.2.2.2.2.2.2.2.2.2.1 k0_h4
theorem k0_off10_inb : ∀ (v1 : BitVec 32) (v3 : BitVec 32) (k0_hw1 : k0_chk1 v1 v3), ∀ (k0_h4 : k0_cond4 v1 v3 = 1#1), ∀ a, (k0_off10 v3) a + S512x128.size a ≤ S4096x1024.size a := fun v1 v3 k0_hw1 k0_h4 => k0_hw1.2.2.2.2.2.2.2.2.2.2.1 k0_h4
theorem k0_off11_inb : ∀ (v1 : BitVec 32) (v3 : BitVec 32) (k0_hw1 : k0_chk1 v1 v3), ∀ (k0_h4 : k0_cond4 v1 v3 = 1#1), ∀ a, (k0_off11 v3) a + S512x128.size a ≤ S4096x1024.size a := fun v1 v3 k0_hw1 k0_h4 => k0_hw1.2.2.2.2.2.2.2.2.2.2.2.1 k0_h4
theorem k0_off12_inb : ∀ (v1 : BitVec 32) (v3 : BitVec 32) (k0_hw1 : k0_chk1 v1 v3), ∀ (k0_h4 : k0_cond4 v1 v3 = 1#1), ∀ a, (k0_off12 v3) a + S512x128.size a ≤ S4096x1024.size a := fun v1 v3 k0_hw1 k0_h4 => k0_hw1.2.2.2.2.2.2.2.2.2.2.2.2.1 k0_h4
theorem k0_off13_inb : ∀ (v1 : BitVec 32) (v3 : BitVec 32) (k0_hw1 : k0_chk1 v1 v3), ∀ (k0_h4 : k0_cond4 v1 v3 = 1#1), ∀ a, (k0_off13 v3) a + S512x128.size a ≤ S4096x1024.size a := fun v1 v3 k0_hw1 k0_h4 => k0_hw1.2.2.2.2.2.2.2.2.2.2.2.2.2.1 k0_h4
theorem k0_off14_inb : ∀ (v1 : BitVec 32) (v3 : BitVec 32) (k0_hw1 : k0_chk1 v1 v3), ∀ (k0_h4 : k0_cond4 v1 v3 = 1#1), ∀ a, (k0_off14 v3) a + S512x128.size a ≤ S4096x1024.size a := fun v1 v3 k0_hw1 k0_h4 => k0_hw1.2.2.2.2.2.2.2.2.2.2.2.2.2.2.1 k0_h4
theorem k0_off15_inb : ∀ (v1 : BitVec 32) (v3 : BitVec 32) (k0_hw1 : k0_chk1 v1 v3), ∀ (k0_h4 : k0_cond4 v1 v3 = 1#1), ∀ a, (k0_off15 v3) a + S512x128.size a ≤ S4096x1024.size a := fun v1 v3 k0_hw1 k0_h4 => k0_hw1.2.2.2.2.2.2.2.2.2.2.2.2.2.2.2.1 k0_h4
theorem k0_off16_inb : ∀ (v1 : BitVec 32) (v3 : BitVec 32) (k0_hw1 : k0_chk1 v1 v3), ∀ (k0_h4 : k0_cond4 v1 v3 = 1#1), ∀ a, (k0_off16 v3) a + S512x128.size a ≤ S4096x1024.size a := fun v1 v3 k0_hw1 k0_h4 => k0_hw1.2.2.2.2.2.2.2.2.2.2.2.2.2.2.2.2.1 k0_h4
theorem k0_off17_inb : ∀ (v1 : BitVec 32) (v3 : BitVec 32) (k0_hw1 : k0_chk1 v1 v3), ∀ (k0_h4 : k0_cond4 v1 v3 = 1#1), ∀ a, (k0_off17 v3) a + S512x128.size a ≤ S4096x1024.size a := fun v1 v3 k0_hw1 k0_h4 => k0_hw1.2.2.2.2.2.2.2.2.2.2.2.2.2.2.2.2.2.1 k0_h4
theorem k0_mult3_dvd : ∀ (v1 : BitVec 32) (v3 : BitVec 32) (k0_hw1 : k0_chk1 v1 v3), ∀ (k0_h4 : k0_cond4 v1 v3 = 1#1), 512 ∣ (k0_mult3 v1).toNat := fun v1 v3 k0_hw1 k0_h4 => k0_hw1.2.2.2.2.2.2.2.2.2.2.2.2.2.2.2.2.2.2.1 k0_h4
theorem k0_off18_inb : ∀ (v1 : BitVec 32) (v3 : BitVec 32) (k0_hw1 : k0_chk1 v1 v3), ∀ (k0_h4 : k0_cond4 v1 v3 = 1#1), ∀ a, (k0_off18 v1) a + S512x1024.size a ≤ S4096x1024.size a := fun v1 v3 k0_hw1 k0_h4 => k0_hw1.2.2.2.2.2.2.2.2.2.2.2.2.2.2.2.2.2.2.2 k0_h4

def k0_cond2 (v1 : BitVec 32) (v3 : BitVec 32) : BitVec 1 :=
  let v7 : BitVec 1 := Scalar.cmpi .eq v3 v1
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FoxIdeal.lean ====
variable {F : FTy → Type} [FloatOps F] [Named F]
def κ : String → Option EReal := fun
  | "mask" => some ⊥
  | _ => none
-- ==== FoxRefIdeal.lean ====
abbrev S1x8x4096x64 : Shape := ⟨4, ![1, 8, 4096, 64]⟩
abbrev S1x8x4096 : Shape := ⟨3, ![1, 8, 4096]⟩
abbrev S_ : Shape := ⟨0, ![]⟩
abbrev S1x8x4096x4096 : Shape := ⟨4, ![1, 8, 4096, 4096]⟩
abbrev S1x8x4096x1 : Shape := ⟨4, ![1, 8, 4096, 1]⟩
abbrev S1x8x1x4096 : Shape := ⟨4, ![1, 8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x8x64x4096 : Shape := ⟨4, ![1, 8, 64, 4096]⟩
abbrev S8x4096 : Shape := ⟨2, ![8, 4096]⟩

abbrev nBuf : Space → Nat
  | .hbm => 111
  | .vmem => 0
  | .smem => 0
  | _ => 0

abbrev bufTy : (tb : Table) → Fin (tcTables nBuf tb) → BufTy
  | .hbm, ⟨0, _⟩ => ⟨S1x8x4096x64, .f32⟩
  | .hbm, ⟨1, _⟩ => ⟨S1x8x4096x64, .f32⟩
  | .hbm, ⟨2, _⟩ => ⟨S1x8x4096x64, .f32⟩
  | .hbm, ⟨3, _⟩ => ⟨S1x8x4096, .f32⟩
  | .hbm, ⟨4, _⟩ => ⟨S1x8x4096x64, .f32⟩
  | .hbm, ⟨5, _⟩ => ⟨S_, .f32⟩
  | .hbm, ⟨6, _⟩ => ⟨S_, .f32⟩
  | .hbm, ⟨7, _⟩ => ⟨S1x8x4096, .f32⟩
  | .hbm, ⟨8, _⟩ => ⟨S1x8x4096x4096, .f32⟩
  | .hbm, ⟨9, _⟩ => ⟨S_, .f32⟩
  | .hbm, ⟨10, _⟩ => ⟨S1x8x4096x4096, .f32⟩
  | .hbm, ⟨11, _⟩ => ⟨S1x8x4096x4096, .f32⟩
  | .hbm, ⟨12, _⟩ => ⟨S1x8x4096x1, .f32⟩
  | .hbm, ⟨13, _⟩ => ⟨S1x8x4096x4096, .f32⟩
  | .hbm, ⟨14, _⟩ => ⟨S1x8x4096x4096, .f32⟩
  | .hbm, ⟨15, _⟩ => ⟨S1x8x1x4096, .f32⟩
  | .hbm, ⟨16, _⟩ => ⟨S1x8x4096x4096, .f32⟩
  | .hbm, ⟨17, _⟩ => ⟨S1x8x4096x4096, .f32⟩
  | .hbm, ⟨18, _⟩ => ⟨S4096, .i32⟩
  | .hbm, ⟨19, _⟩ => ⟨S4096x1, .i32⟩
  | .hbm, ⟨20, _⟩ => ⟨S4096, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S1x8x4096x4096, .i1⟩
  | .hbm, ⟨28, _⟩ => ⟨S1x8x4096x4096, .f32⟩
  | .hbm, ⟨29, _⟩ => ⟨S1x8x4096x4096, .f32⟩
  | .hbm, ⟨30, _⟩ => ⟨S_, .f32⟩
  | .hbm, ⟨31, _⟩ => ⟨S1x8x4096x4096, .f32⟩
  | .hbm, ⟨32, _⟩ => ⟨S_, .f32⟩
  | .hbm, ⟨33, _⟩ => ⟨S1x8x4096, .f32⟩
  | .hbm, ⟨34, _⟩ => ⟨S1x8x4096x1, .f32⟩
  | .hbm, ⟨35, _⟩ => ⟨S1x8x4096x4096, .f32⟩
  | .hbm, ⟨36, _⟩ => ⟨S1x8x4096x4096, .i1⟩
  | .hbm, ⟨37, _⟩ => ⟨S1x8x4096x4096, .f32⟩
  | .hbm, ⟨38, _⟩ => ⟨S_, .f32⟩
  | .hbm, ⟨39, _⟩ => ⟨S1x8x4096, .f32⟩
  | .hbm, ⟨40, _⟩ => ⟨S_, .f32⟩
  | .hbm, ⟨41, _⟩ => ⟨S1x8x4096, .f32⟩
  | .hbm, ⟨42, _⟩ => ⟨S1x8x4096, .f32⟩
  | .hbm, ⟨43, _⟩ => ⟨S_, .f32⟩
  | .hbm, ⟨44, _⟩ => ⟨S1x8x4096, .f32⟩
  | .hbm, ⟨45, _⟩ => ⟨S1x8x4096, .i1⟩
  | .hbm, ⟨46, _⟩ => ⟨S_, .f32⟩
  | .hbm, ⟨47, _⟩ => ⟨S1x8x4096, .f32⟩
  | .hbm, ⟨48, _⟩ => ⟨S1x8x4096, .i1⟩
  | .hbm, ⟨49, _⟩ => ⟨S_, .f32⟩
  | .hbm, ⟨50, _⟩ => ⟨S1x8x4096, .f32⟩
  | .hbm, ⟨51, _⟩ => ⟨S_, .f32⟩
  | .hbm, ⟨52, _⟩ => ⟨S1x8x4096, .f32⟩
  | .hbm, ⟨53, _⟩ => ⟨S_, .f32⟩
  | .hbm, ⟨54, _⟩ => ⟨S1x8x4096, .f32⟩
  | .hbm, ⟨55, _⟩ => ⟨S1x8x4096, .f32⟩
  | .hbm, ⟨56, _⟩ => ⟨S1x8x4096, .f32⟩
  | .hbm, ⟨57, _⟩ => ⟨S1x8x4096x1, .f32⟩
  | .hbm, ⟨58, _⟩ => ⟨S1x8x4096x4096, .f32⟩
  | .hbm, ⟨59, _⟩ => ⟨S1x8x4096x4096, .f32⟩
  | .hbm, ⟨60, _⟩ => ⟨S1x8x4096x4096, .f32⟩
  | .hbm, ⟨61, _⟩ => ⟨S_, .f32⟩
  | .hbm, ⟨62, _⟩ => ⟨S1x8x4096, .f32⟩
  | .hbm, ⟨63, _⟩ => ⟨S1x8x4096x1, .f32⟩
  | .hbm, ⟨64, _⟩ => ⟨S1x8x4096x4096, .f32⟩
  | .hbm, ⟨65, _⟩ => ⟨S1x8x4096x4096, .f32⟩
  | .hbm, ⟨66, _⟩ => ⟨S1x8x4096x1, .f32⟩
  | .hbm, ⟨67, _⟩ => ⟨S_, .f32⟩
  | .hbm, ⟨68, _⟩ => ⟨S1x8x4096x1, .f32⟩
  | .hbm, ⟨69, _⟩ => ⟨S1x8x4096x1, .f32⟩
  | .hbm, ⟨70, _⟩ => ⟨S1x8x4096x64, .f32⟩
  | .hbm, ⟨71, _⟩ => ⟨S1x8x64x4096, .f32⟩
  | .hbm, ⟨72, _⟩ => ⟨S1x8x4096x64, .f32⟩
  | .hbm, ⟨73, _⟩ => ⟨S1x8x4096x4096, .f32⟩
  | .hbm, ⟨74, _⟩ => ⟨S1x8x4096x4096, .f32⟩
  | .hbm, ⟨75, _⟩ => ⟨S1x8x4096x4096, .f32⟩
  | .hbm, ⟨76, _⟩ => ⟨S1x8x4096x4096, .f32⟩
  | .hbm, ⟨77, _⟩ => ⟨S_, .f32⟩
  | .hbm, ⟨78, _⟩ => ⟨S1x8x4096, .f32⟩
  | .hbm, ⟨79, _⟩ => ⟨S1x8x4096x1, .f32⟩
  | .hbm, ⟨80, _⟩ => ⟨S1x8x4096x1, .f32⟩
  | .hbm, ⟨81, _⟩ => ⟨S1x8x4096x4096, .f32⟩
  | .hbm, ⟨82, _⟩ => ⟨S1x8x4096x4096, .f32⟩
  | .hbm, ⟨83, _⟩ => ⟨S_, .f32⟩
  | .hbm, ⟨84, _⟩ => ⟨S8x4096, .f32⟩
  | .hbm, ⟨85, _⟩ => ⟨S1x8x4096, .f32⟩
  | .hbm, ⟨86, _⟩ => ⟨S1x8x4096x4096, .f32⟩
  | .hbm, ⟨87, _⟩ => ⟨S1x8x4096x4096, .f32⟩
  | .hbm, ⟨88, _⟩ => ⟨S1x8x4096x4096, .f32⟩
  | .hbm, ⟨89, _⟩ => ⟨S_, .f32⟩
  | .hbm, ⟨90, _⟩ => ⟨S1x8x4096x4096, .f32⟩
  | .hbm, ⟨91, _⟩ => ⟨S1x8x4096x4096, .f32⟩
  | .hbm, ⟨92, _⟩ => ⟨S1x8x4096x4096, .f32⟩
  | .hbm, ⟨93, _⟩ => ⟨S_, .f32⟩
  | .hbm, ⟨94, _⟩ => ⟨S1x8x4096, .f32⟩
  | .hbm, ⟨95, _⟩ => ⟨S1x8x1x4096, .f32⟩
  | .hbm, ⟨96, _⟩ => ⟨S_, .f32⟩
  | .hbm, ⟨97, _⟩ => ⟨S8x4096, .f32⟩
  | .hbm, ⟨98, _⟩ => ⟨S1x8x4096, .f32⟩
  | .hbm, ⟨99, _⟩ => ⟨S_, .f32⟩
  | .hbm, ⟨100, _⟩ => ⟨S1x8x4096, .f32⟩
  | .hbm, ⟨101, _⟩ => ⟨S1x8x4096x1, .f32⟩
  | .hbm, ⟨102, _⟩ => ⟨S_, .f32⟩
  | .hbm, ⟨103, _⟩ => ⟨S8x4096, .f32⟩
  | .hbm, ⟨104, _⟩ => ⟨S1x8x4096, .f32⟩
  | .hbm, ⟨105, _⟩ => ⟨S1x8x4096, .f32⟩
  | .hbm, ⟨106, _⟩ => ⟨S_, .f32⟩
  | .hbm, ⟨107, _⟩ => ⟨S1x8x4096x4096, .f32⟩
  | .hbm, ⟨108, _⟩ => ⟨S1x8x4096x4096, .f32⟩
  | .hbm, ⟨109, _⟩ => ⟨S1x8x4096x64, .f32⟩
  | .hbm, ⟨110, _⟩ => ⟨S1x8x4096x64, .f32⟩
  | _, _ => ⟨S1x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_call1_v0 : Ref sig .tc := ⟨.hbm, 26, rfl⟩
abbrev main_v17_1 : Ref sig .tc := ⟨.hbm, 27, rfl⟩
abbrev main_call1_v2 : Ref sig .tc := ⟨.hbm, 28, rfl⟩
abbrev main_v17_0 : Ref sig .tc := ⟨.hbm, 29, rfl⟩
abbrev main_call1_cst : Ref sig .tc := ⟨.hbm, 30, rfl⟩
abbrev main_v17_2 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call2_cst : Ref sig .tc := ⟨.hbm, 89, rfl⟩
abbrev main_call2_v0 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_cst_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_17 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]
-- ==== Cross.lean ====
abbrev S4096x1024 : Shape := ⟨2, ![4096, 1024]⟩
abbrev S1x1024 : Shape := ⟨2, ![1, 1024]⟩
abbrev S1024x1024 : Shape := ⟨2, ![1024, 1024]⟩
abbrev S1x256 : Shape := ⟨2, ![1, 256]⟩
abbrev S256x4x256 : Shape := ⟨3, ![256, 4, 256]⟩
abbrev S4x256x256 : Shape := ⟨3, ![4, 256, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S256 : Shape := ⟨1, ![256]⟩
abbrev S1024 : Shape := ⟨1, ![1024]⟩

abbrev nBuf : Space → Nat
  | .hbm => 21
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .hbm, ⟨3, _⟩ => ⟨S1x256, .f32⟩
  | .hbm, ⟨4, _⟩ => ⟨S256x4x256, .f32⟩
  | .hbm, ⟨5, _⟩ => ⟨S256x4x256, .f32⟩
  | .hbm, ⟨6, _⟩ => ⟨S1024x1024, .f32⟩
  | .hbm, ⟨7, _⟩ => ⟨S4096x1024, .f32⟩
  | .hbm, ⟨8, _⟩ => ⟨S4x256x256, .f32⟩
  | .hbm, ⟨9, _⟩ => ⟨S4x256x256, .bf16⟩
  | .hbm, ⟨10, _⟩ => ⟨S4x256x256, .f32⟩
  | .hbm, ⟨11, _⟩ => ⟨S4x256x256, .bf16⟩
  | .hbm, ⟨12, _⟩ => ⟨S1024x1024, .bf16⟩
  | .hbm, ⟨13, _⟩ => ⟨S1024x1024, .bf16⟩
  | .hbm, ⟨14, _⟩ => ⟨S4096x1024, .f32⟩
  | .hbm, ⟨15, _⟩ => ⟨S1024x1024, .bf16⟩
  | .hbm, ⟨16, _⟩ => ⟨S1024x1024, .bf16⟩
  | .hbm, ⟨17, _⟩ => ⟨S4x256x256, .f32⟩
  | .hbm, ⟨18, _⟩ => ⟨S4x256x256, .f32⟩
  | .hbm, ⟨19, _⟩ => ⟨S1x256, .f32⟩
  | .hbm, ⟨20, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S1x256, .f32⟩
  | .local _ .vmem, ⟨7, _⟩ => ⟨S4x256x256, .bf16⟩
  | .local _ .vmem, ⟨8, _⟩ => ⟨S4x256x256, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S1024x1024, .bf16⟩
  | .local _ .vmem, ⟨14, _⟩ => ⟨S4x256x256, .f32⟩
  | .local _ .vmem, ⟨15, _⟩ => ⟨S4x256x256, .f32⟩
  | .local _ .vmem, ⟨16, _⟩ => ⟨S1x256, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S512x1024, .bf16⟩
  | .local _ .vmem, ⟨21, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17

abbrev nD : Nat := 1
abbrev τ : Topo := Topo.v7x

variable {F : FTy → Type} [FloatOps F]

abbrev grid0 : Pipeline.Grid := ⟨1, ![8], ![false]⟩

def k0_cond13 (i : grid0.Coords) : BitVec 1 :=
  let arg0 : BitVec 32 := BitVec.ofNat 32 (i 0).val
  let c7_i32 : BitVec 32 := 7#32
  let v396 : BitVec 1 := Scalar.cmpi .eq arg0 c7_i32
  let v397 : BitVec 32 := Scalar.extui v396
  let c0_i32_181 : BitVec 32 := 0#32
  let v398 : BitVec 1 := Scalar.cmpi .ne v397 c0_i32_181
  v398

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v159 : BitVec 32 := Scalar.extui v0
  let c0_i32_65 : BitVec 32 := 0#32
  let v160 : BitVec 1 := Scalar.cmpi .ne v159 c0_i32_65
  v160

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v161 : BitVec 1 := Scalar.xori v0 v_true
  let v162 : BitVec 32 := Scalar.extui v161
  let c0_i32_66 : BitVec 32 := 0#32
  let v163 : BitVec 1 := Scalar.cmpi .ne v162 c0_i32_66
  v163

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v219 : BitVec 32 := Scalar.extui v0
  let c0_i32_93 : BitVec 32 := 0#32
  let v220 : BitVec 1 := Scalar.cmpi .ne v219 c0_i32_93
  v220

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_94 : BitVec 1 := 1#1
  let v221 : BitVec 1 := Scalar.xori v0 true_94
  let v222 : BitVec 32 := Scalar.extui v221
  let c0_i32_95 : BitVec 32 := 0#32
  let v223 : BitVec 1 := Scalar.cmpi .ne v222 c0_i32_95
  v223

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v280 : BitVec 32 := Scalar.extui v0
  let c0_i32_122 : BitVec 32 := 0#32
  let v281 : BitVec 1 := Scalar.cmpi .ne v280 c0_i32_122
  v281

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_123 : BitVec 1 := 1#1
  let v282 : BitVec 1 := Scalar.xori v0 true_123
  let v283 : BitVec 32 := Scalar.extui v282
  let c0_i32_124 : BitVec 32 := 0#32
  let v284 : BitVec 1 := Scalar.cmpi .ne v283 c0_i32_124
  v284

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v341 : BitVec 32 := Scalar.extui v0
  let c0_i32_151 : BitVec 32 := 0#32
  let v342 : BitVec 1 := Scalar.cmpi .ne v341 c0_i32_151
  v342

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_152 : BitVec 1 := 1#1
  let v343 : BitVec 1 := Scalar.xori v0 true_152
  let v344 : BitVec 32 := Scalar.extui v343
  let c0_i32_153 : BitVec 32 := 0#32
  let v345 : BitVec 1 := Scalar.cmpi .ne v344 c0_i32_153
  v345

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v382 : BitVec 32 := Scalar.extui v0
  let c0_i32_169 : BitVec 32 := 0#32
  let v383 : BitVec 1 := Scalar.cmpi .ne v382 c0_i32_169
  v383

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_170 : BitVec 1 := 1#1
  let v384 : BitVec 1 := Scalar.xori v0 true_170
  let v385 : BitVec 32 := Scalar.extui v384
  let c0_i32_171 : BitVec 32 := 0#32
  let v386 : BitVec 1 := Scalar.cmpi .ne v385 c0_i32_171
  v386

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let v430 : BitVec 32 := Scalar.extui v0
  let c0_i32_195 : BitVec 32 := 0#32
  let v431 : BitVec 1 := Scalar.cmpi .ne v430 c0_i32_195
  v431

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let true_196 : BitVec 1 := 1#1
  let v432 : BitVec 1 := Scalar.xori v0 true_196
  let v433 : BitVec 32 := Scalar.extui v432
  let c0_i32_197 : BitVec 32 := 0#32
  let v434 : BitVec 1 := Scalar.cmpi .ne v433 c0_i32_197
  v434

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== CrossRefIdeal.lean ====
abbrev S4096x1024 : Shape := ⟨2, ![4096, 1024]⟩
abbrev S1x1024 : Shape := ⟨2, ![1, 1024]⟩
abbrev S1024x1024 : Shape := ⟨2, ![1024, 1024]⟩
abbrev S1x256 : Shape := ⟨2, ![1, 256]⟩
abbrev S256x4x256 : Shape := ⟨3, ![256, 4, 256]⟩
abbrev S_ : Shape := ⟨0, ![]⟩
abbrev S4096 : Shape := ⟨1, ![4096]⟩
abbrev S4096x1 : Shape := ⟨2, ![4096, 1]⟩
abbrev S4096x4x256 : Shape := ⟨3, ![4096, 4, 256]⟩
abbrev S4096x4 : Shape := ⟨2, ![4096, 4]⟩
abbrev S4096x4x1 : Shape := ⟨3, ![4096, 4, 1]⟩
abbrev S1x1x256 : Shape := ⟨3, ![1, 1, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S256 : Shape := ⟨1, ![256]⟩
abbrev S1024 : Shape := ⟨1, ![1024]⟩

abbrev nBuf : Space → Nat
  | .hbm => 184
  | .vmem => 0
  | .smem => 0
  | _ => 0

abbrev hbmTy0_0 (i : Nat) : BufTy := match i % 128 with
  | 0 => ⟨S4096x1024, .f32⟩
  | 1 => ⟨S1x1024, .f32⟩
  | 2 => ⟨S1024x1024, .f32⟩
  | 3 => ⟨S1x256, .f32⟩
  | 4 => ⟨S256x4x256, .f32⟩
  | 5 => ⟨S256x4x256, .f32⟩
  | 6 => ⟨S1024x1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x4x256, .f32⟩
  | 29 => ⟨S4096x4x256, .f32⟩
  | 30 => ⟨S_, .f32⟩
  | 31 => ⟨S4096x4, .f32⟩
  | 32 => ⟨S4096x4x1, .f32⟩
  | 33 => ⟨S_, .f32⟩
  | 34 => ⟨S4096x4x1, .f32⟩
  | 35 => ⟨S4096x4x1, .f32⟩
  | 36 => ⟨S_, .f32⟩
  | 37 => ⟨S4096x4x1, .f32⟩
  | 38 => ⟨S4096x4x1, .f32⟩
  | 39 => ⟨S4096x4x1, .f32⟩
  | 40 => ⟨S4096x4x1, .f32⟩
  | 41 => ⟨S_, .f32⟩
  | 42 => ⟨S4096x4x1, .f32⟩
  | 43 => ⟨S4096x4x1, .f32⟩
  | 44 => ⟨S4096x4x256, .f32⟩
  | 45 => ⟨S4096x4x256, .f32⟩
  | 46 => ⟨S1x1x256, .f32⟩
  | 47 => ⟨S4096x4x256, .f32⟩
  | 48 => ⟨S4096x4x256, .f32⟩
  | 49 => ⟨S4x4096x256, .f32⟩
  | 50 => ⟨S_, .f32⟩
  | 51 => ⟨S4x4096x256, .f32⟩
  | 52 => ⟨S4x4096x256, .f32⟩
  | 53 => ⟨S_, .f32⟩
  | 54 => ⟨S4x4096, .f32⟩
  | 55 => ⟨S4x4096x1, .f32⟩
  | 56 => ⟨S4x4096x256, .f32⟩
  | 57 => ⟨S4x4096x256, .i1⟩
  | 58 => ⟨S4x4096x256, .f32⟩
  | 59 => ⟨S_, .f32⟩
  | 60 => ⟨S4x4096, .f32⟩
  | 61 => ⟨S_, .f32⟩
  | 62 => ⟨S4x4096, .f32⟩
  | 63 => ⟨S4x4096, .f32⟩
  | 64 => ⟨S_, .f32⟩
  | 65 => ⟨S4x4096, .f32⟩
  | 66 => ⟨S4x4096, .i1⟩
  | 67 => ⟨S_, .f32⟩
  | 68 => ⟨S4x4096, .f32⟩
  | 69 => ⟨S4x4096, .i1⟩
  | 70 => ⟨S_, .f32⟩
  | 71 => ⟨S4x4096, .f32⟩
  | 72 => ⟨S_, .f32⟩
  | 73 => ⟨S4x4096, .f32⟩
  | 74 => ⟨S_, .f32⟩
  | 75 => ⟨S4x4096, .f32⟩
  | 76 => ⟨S4x4096, .f32⟩
  | 77 => ⟨S4x4096, .f32⟩
  | 78 => ⟨S4x4096x1, .f32⟩
  | 79 => ⟨S4x4096x256, .f32⟩
  | 80 => ⟨S4x4096x256, .f32⟩
  | 81 => ⟨S4x4096x256, .f32⟩
  | 82 => ⟨S_, .f32⟩
  | 83 => ⟨S4x4096, .f32⟩
  | 84 => ⟨S4x4096x1, .f32⟩
  | 85 => ⟨S4x4096x256, .f32⟩
  | 86 => ⟨S4x4096x256, .f32⟩
  | 87 => ⟨S4x4096x1, .f32⟩
  | 88 => ⟨S_, .f32⟩
  | 89 => ⟨S4x4096x1, .f32⟩
  | 90 => ⟨S4x4096x1, .f32⟩
  | 91 => ⟨S4x256x4096, .f32⟩
  | 92 => ⟨S4096x4x256, .f32⟩
  | 93 => ⟨S4096x1024, .f32⟩
  | 94 => ⟨S4096x1024, .f32⟩
  | 95 => ⟨S4096x1024, .f32⟩
  | 96 => ⟨S4096x1024, .f32⟩
  | 97 => ⟨S1024x1024, .f32⟩
  | 98 => ⟨S1024x1024, .f32⟩
  | 99 => ⟨S4096x1024, .f32⟩
  | 100 => ⟨S4096x4x256, .f32⟩
  | 101 => ⟨S4x256x4096, .f32⟩
  | 102 => ⟨S4x4096x256, .f32⟩
  | 103 => ⟨S4x256x256, .f32⟩
  | 104 => ⟨S256x4x256, .f32⟩
  | 105 => ⟨S4x4096x256, .f32⟩
  | 106 => ⟨S4x4096x256, .f32⟩
  | 107 => ⟨S4x4096x256, .f32⟩
  | 108 => ⟨S_, .f32⟩
  | 109 => ⟨S4x4096, .f32⟩
  | 110 => ⟨S4x4096x1, .f32⟩
  | 111 => ⟨S4x4096x1, .f32⟩
  | 112 => ⟨S4x4096x256, .f32⟩
  | 113 => ⟨S4x4096x256, .f32⟩
  | 114 => ⟨S_, .f32⟩
  | 115 => ⟨S4x4096, .f32⟩
  | 116 => ⟨S4x4096x256, .f32⟩
  | 117 => ⟨S4x4096x256, .f32⟩
  | 118 => ⟨S4x4096x256, .f32⟩
  | 119 => ⟨S_, .f32⟩
  | 120 => ⟨S4x4096x256, .f32⟩
  | 121 => ⟨S4x4096x256, .f32⟩
  | 122 => ⟨S4x256x256, .f32⟩
  | 123 => ⟨S256x4x256, .f32⟩
  | 124 => ⟨S4x4096x256, .f32⟩
  | 125 => ⟨S4096x4x256, .f32⟩
  | 126 => ⟨S4096x4x256, .f32⟩
  | 127 => ⟨S_, .f32⟩
  | _ => ⟨S4096x1024, .f32⟩

abbrev hbmTy0_1 (i : Nat) : BufTy := match i % 128 with
  | 0 => ⟨S256, .f32⟩
  | 1 => ⟨S1x1x256, .f32⟩
  | 2 => ⟨S4096x4x256, .f32⟩
  | 3 => ⟨S4096x4x256, .f32⟩
  | 4 => ⟨S_, .f32⟩
  | 5 => ⟨S256, .f32⟩
  | 6 => ⟨S1x256, .f32⟩
  | 7 => ⟨S4096x4x256, .f32⟩
  | 8 => ⟨S_, .f32⟩
  | 9 => ⟨S4096x4, .f32⟩
  | 10 => ⟨S4096x4x1, .f32⟩
  | 11 => ⟨S4096x4x256, .f32⟩
  | 12 => ⟨S4096x4x256, .f32⟩
  | 13 => ⟨S4096x4x1, .f32⟩
  | 14 => ⟨S_, .f32⟩
  | 15 => ⟨S4096x4x1, .f32⟩
  | 16 => ⟨S4096x4x1, .f32⟩
  | 17 => ⟨S_, .f32⟩
  | 18 => ⟨S4096x4, .f32⟩
  | 19 => ⟨S4096x4x256, .f32⟩
  | 20 => ⟨S4096x4x256, .f32⟩
  | 21 => ⟨S4096x4x256, .f32⟩
  | 22 => ⟨S4096x4x256, .f32⟩
  | 23 => ⟨S4096x4x256, .f32⟩
  | 24 => ⟨S4096x1024, .f32⟩
  | 25 => ⟨S1024x1024, .f32⟩
  | 26 => ⟨S1024x1024, .f32⟩
  | 27 => ⟨S4096x1024, .f32⟩
  | 28 => ⟨S4096x1024, .f32⟩
  | 29 => ⟨S_, .f32⟩
  | 30 => ⟨S1024, .f32⟩
  | 31 => ⟨S1x1024, .f32⟩
  | 32 => ⟨S4096x1024, .f32⟩
  | 33 => ⟨S4096x1024, .f32⟩
  | 34 => ⟨S4096x1024, .f32⟩
  | 35 => ⟨S_, .f32⟩
  | 36 => ⟨S4096, .f32⟩
  | 37 => ⟨S4096x1, .f32⟩
  | 38 => ⟨S4096x1024, .f32⟩
  | 39 => ⟨S4096x1024, .f32⟩
  | 40 => ⟨S4096x1024, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S4096, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S1024x1024, .bf16⟩
  | 53 => ⟨S4x256x256, .f32⟩
  | 54 => ⟨S4x256x256, .f32⟩
  | 55 => ⟨S1024x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_cst_14 : Ref sig .tc := ⟨.hbm, 72, rfl⟩
abbrev main_v49 : Ref sig .tc := ⟨.hbm, 73, rfl⟩
abbrev main_cst_15 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_16 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_17 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_18 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_19 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_20 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_21 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_22 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_23 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_24 : Ref sig .tc := ⟨.hbm, 142, rfl⟩
abbrev main_v109 : Ref sig .tc := ⟨.hbm, 143, rfl⟩
abbrev main_v110 : Ref sig .tc := ⟨.hbm, 144, rfl⟩
abbrev main_cst_25 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_26 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_27 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_28 : Ref sig .tc := ⟨.hbm, 170, rfl⟩
abbrev main_v133 : Ref sig .tc := ⟨.hbm, 171, rfl⟩
abbrev main_v134 : Ref sig .tc := ⟨.hbm, 172, rfl⟩
abbrev main_cst_29 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩

abbrev nD : Nat := 1
abbrev τ : Topo := Topo.v7x

variable {F : FTy → Type} [FloatOps F]
-- ==== Kv.lean ====
abbrev S256x1024 : Shape := ⟨2, ![256, 1024]⟩
abbrev S1x1024 : Shape := ⟨2, ![1, 1024]⟩
abbrev S1024x2048 : Shape := ⟨2, ![1024, 2048]⟩
abbrev S1x256 : Shape := ⟨2, ![1, 256]⟩
abbrev S256x4x256 : Shape := ⟨3, ![256, 4, 256]⟩
abbrev S_ : Shape := ⟨0, ![]⟩
abbrev S256 : Shape := ⟨1, ![256]⟩
abbrev S256x1 : Shape := ⟨2, ![256, 1]⟩
abbrev S1024x1024 : Shape := ⟨2, ![1024, 1024]⟩
abbrev S4x256x256 : Shape := ⟨3, ![4, 256, 256]⟩
abbrev S1024x8x256 : Shape := ⟨3, ![1024, 8, 256]⟩
abbrev S8x1024x256 : Shape := ⟨3, ![8, 1024, 256]⟩
abbrev S1x256x256 : Shape := ⟨3, ![1, 256, 256]⟩
abbrev S256x256 : Shape := ⟨2, ![256, 256]⟩
abbrev S1024x256 : Shape := ⟨2, ![1024, 256]⟩
abbrev S1x1024x256 : Shape := ⟨3, ![1, 1024, 256]⟩
abbrev S1024 : Shape := ⟨1, ![1024]⟩

abbrev nBuf : Space → Nat
  | .hbm => 34
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S1x256, .f32⟩
  | .hbm, ⟨4, _⟩ => ⟨S256x4x256, .f32⟩
  | .hbm, ⟨5, _⟩ => ⟨S256x4x256, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S1024x1024, .f32⟩
  | .hbm, ⟨22, _⟩ => ⟨S256x1024, .f32⟩
  | .hbm, ⟨23, _⟩ => ⟨S256x4x256, .f32⟩
  | .hbm, ⟨24, _⟩ => ⟨S4x256x256, .f32⟩
  | .hbm, ⟨25, _⟩ => ⟨S256x1024, .bf16⟩
  | .hbm, ⟨26, _⟩ => ⟨S4x256x256, .f32⟩
  | .hbm, ⟨27, _⟩ => ⟨S4x256x256, .f32⟩
  | .hbm, ⟨28, _⟩ => ⟨S1024x8x256, .f32⟩
  | .hbm, ⟨29, _⟩ => ⟨S8x1024x256, .f32⟩
  | .hbm, ⟨30, _⟩ => ⟨S8x1024x256, .bf16⟩
  | .hbm, ⟨31, _⟩ => ⟨S8x1024x256, .bf16⟩
  | .hbm, ⟨32, _⟩ => ⟨S1x256, .f32⟩
  | .hbm, ⟨33, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | .local _ .vmem, ⟨3, _⟩ => ⟨S4x256x256, .f32⟩
  | .local _ .vmem, ⟨4, _⟩ => ⟨S4x256x256, .f32⟩
  | .local _ .vmem, ⟨5, _⟩ => ⟨S4x256x256, .f32⟩
  | .local _ .vmem, ⟨6, _⟩ => ⟨S8x1024x256, .bf16⟩
  | .local _ .vmem, ⟨7, _⟩ => ⟨S1x256, .f32⟩
  | .local _ .vmem, ⟨8, _⟩ => ⟨S8x1024x256, .bf16⟩
  | .local _ .vmem, ⟨9, _⟩ => ⟨S1x256, .f32⟩
  | .local _ .vmem, ⟨10, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KvRefIdeal.lean ====
abbrev S256x1024 : Shape := ⟨2, ![256, 1024]⟩
abbrev S1x1024 : Shape := ⟨2, ![1, 1024]⟩
abbrev S1024x2048 : Shape := ⟨2, ![1024, 2048]⟩
abbrev S1x256 : Shape := ⟨2, ![1, 256]⟩
abbrev S256x4x256 : Shape := ⟨3, ![256, 4, 256]⟩
abbrev S_ : Shape := ⟨0, ![]⟩
abbrev S256 : Shape := ⟨1, ![256]⟩
abbrev S256x1 : Shape := ⟨2, ![256, 1]⟩
abbrev S256x2048 : Shape := ⟨2, ![256, 2048]⟩
abbrev S256x4 : Shape := ⟨2, ![256, 4]⟩
abbrev S256x4x1 : Shape := ⟨3, ![256, 4, 1]⟩
abbrev S1x1x256 : Shape := ⟨3, ![1, 1, 256]⟩
abbrev S2048x1024 : Shape := ⟨2, ![2048, 1024]⟩
abbrev S1024 : Shape := ⟨1, ![1024]⟩
abbrev S1024x8x256 : Shape := ⟨3, ![1024, 8, 256]⟩
abbrev S8x1024x256 : Shape := ⟨3, ![8, 1024, 256]⟩

abbrev nBuf : Space → Nat
  | .hbm => 85
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S1x256, .f32⟩
  | .hbm, ⟨4, _⟩ => ⟨S256x4x256, .f32⟩
  | .hbm, ⟨5, _⟩ => ⟨S256x4x256, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x2048, .f32⟩
  | .hbm, ⟨22, _⟩ => ⟨S256x1024, .f32⟩
  | .hbm, ⟨23, _⟩ => ⟨S256x1024, .f32⟩
  | .hbm, ⟨24, _⟩ => ⟨S256x4x256, .f32⟩
  | .hbm, ⟨25, _⟩ => ⟨S256x4x256, .f32⟩
  | .hbm, ⟨26, _⟩ => ⟨S_, .f32⟩
  | .hbm, ⟨27, _⟩ => ⟨S256x4, .f32⟩
  | .hbm, ⟨28, _⟩ => ⟨S256x4x1, .f32⟩
  | .hbm, ⟨29, _⟩ => ⟨S_, .f32⟩
  | .hbm, ⟨30, _⟩ => ⟨S256x4x1, .f32⟩
  | .hbm, ⟨31, _⟩ => ⟨S256x4x1, .f32⟩
  | .hbm, ⟨32, _⟩ => ⟨S_, .f32⟩
  | .hbm, ⟨33, _⟩ => ⟨S256x4x1, .f32⟩
  | .hbm, ⟨34, _⟩ => ⟨S256x4x1, .f32⟩
  | .hbm, ⟨35, _⟩ => ⟨S256x4x1, .f32⟩
  | .hbm, ⟨36, _⟩ => ⟨S256x4x1, .f32⟩
  | .hbm, ⟨37, _⟩ => ⟨S_, .f32⟩
  | .hbm, ⟨38, _⟩ => ⟨S256x4x1, .f32⟩
  | .hbm, ⟨39, _⟩ => ⟨S256x4x1, .f32⟩
  | .hbm, ⟨40, _⟩ => ⟨S256x4x256, .f32⟩
  | .hbm, ⟨41, _⟩ => ⟨S256x4x256, .f32⟩
  | .hbm, ⟨42, _⟩ => ⟨S1x1x256, .f32⟩
  | .hbm, ⟨43, _⟩ => ⟨S256x4x256, .f32⟩
  | .hbm, ⟨44, _⟩ => ⟨S256x4x256, .f32⟩
  | .hbm, ⟨45, _⟩ => ⟨S256x4x256, .f32⟩
  | .hbm, ⟨46, _⟩ => ⟨S256x1024, .f32⟩
  | .hbm, ⟨47, _⟩ => ⟨S256x4x256, .f32⟩
  | .hbm, ⟨48, _⟩ => ⟨S_, .f32⟩
  | .hbm, ⟨49, _⟩ => ⟨S256, .f32⟩
  | .hbm, ⟨50, _⟩ => ⟨S1x1x256, .f32⟩
  | .hbm, ⟨51, _⟩ => ⟨S256x4x256, .f32⟩
  | .hbm, ⟨52, _⟩ => ⟨S256x4x256, .f32⟩
  | .hbm, ⟨53, _⟩ => ⟨S_, .f32⟩
  | .hbm, ⟨54, _⟩ => ⟨S256, .f32⟩
  | .hbm, ⟨55, _⟩ => ⟨S1x256, .f32⟩
  | .hbm, ⟨56, _⟩ => ⟨S256x4x256, .f32⟩
  | .hbm, ⟨57, _⟩ => ⟨S_, .f32⟩
  | .hbm, ⟨58, _⟩ => ⟨S256x4, .f32⟩
  | .hbm, ⟨59, _⟩ => ⟨S256x4x1, .f32⟩
  | .hbm, ⟨60, _⟩ => ⟨S256x4x256, .f32⟩
  | .hbm, ⟨61, _⟩ => ⟨S256x4x256, .f32⟩
  | .hbm, ⟨62, _⟩ => ⟨S256x4x1, .f32⟩
  | .hbm, ⟨63, _⟩ => ⟨S_, .f32⟩
  | .hbm, ⟨64, _⟩ => ⟨S256x4x1, .f32⟩
  | .hbm, ⟨65, _⟩ => ⟨S256x4x1, .f32⟩
  | .hbm, ⟨66, _⟩ => ⟨S_, .f32⟩
  | .hbm, ⟨67, _⟩ => ⟨S256x4, .f32⟩
  | .hbm, ⟨68, _⟩ => ⟨S256x4x256, .f32⟩
  | .hbm, ⟨69, _⟩ => ⟨S256x4x256, .f32⟩
  | .hbm, ⟨70, _⟩ => ⟨S256x4x256, .f32⟩
  | .hbm, ⟨71, _⟩ => ⟨S256x4x256, .f32⟩
  | .hbm, ⟨72, _⟩ => ⟨S256x4x256, .f32⟩
  | .hbm, ⟨73, _⟩ => ⟨S256x1024, .f32⟩
  | .hbm, ⟨74, _⟩ => ⟨S256x2048, .f32⟩
  | .hbm, ⟨75, _⟩ => ⟨S2048x1024, .f32⟩
  | .hbm, ⟨76, _⟩ => ⟨S1024x2048, .f32⟩
  | .hbm, ⟨77, _⟩ => ⟨S256x1024, .f32⟩
  | .hbm, ⟨78, _⟩ => ⟨S256x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S1024x8x256, .f32⟩
  | .hbm, ⟨83, _⟩ => ⟨S8x1024x256, .f32⟩
  | .hbm, ⟨84, _⟩ => ⟨S8x1024x256, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_11 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== FfnDx.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S5632x1024 : Shape := ⟨2, ![5632, 1024]⟩
abbrev S2x4x704x1024 : Shape := ⟨4, ![2, 4, 704, 1024]⟩
abbrev S4096x2x4x704 : Shape := ⟨4, ![4096, 2, 4, 704]⟩
abbrev S2x4x4096x704 : Shape := ⟨4, ![2, 4, 4096, 704]⟩
abbrev S2x4x512x704 : Shape := ⟨4, ![2, 4, 512, 704]⟩
abbrev S512x1024 : Shape := ⟨2, ![512, 1024]⟩
abbrev S1x1x512x704 : Shape := ⟨4, ![1, 1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S5632x1024, .f32⟩
  | .hbm, ⟨6, _⟩ => ⟨S5632x1024, .bf16⟩
  | .hbm, ⟨7, _⟩ => ⟨S2x4x704x1024, .bf16⟩
  | .hbm, ⟨8, _⟩ => ⟨S4096x2x4x704, .f32⟩
  | .hbm, ⟨9, _⟩ => ⟨S2x4x4096x704, .f32⟩
  | .hbm, ⟨10, _⟩ => ⟨S2x4x4096x704, .bf16⟩
  | .hbm, ⟨11, _⟩ => ⟨S4096x1024, .f32⟩
  | .hbm, ⟨12, _⟩ => ⟨S1x1024, .f32⟩
  | .local _ .vmem, ⟨0, _⟩ => ⟨S2x4x512x704, .bf16⟩
  | .local _ .vmem, ⟨1, _⟩ => ⟨S2x4x512x704, .bf16⟩
  | .local _ .vmem, ⟨2, _⟩ => ⟨S2x4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v75 : BitVec 1 := Scalar.cmpi .eq arg0 c0_i32
  let v78 : BitVec 32 := Scalar.extui v75
  let c0_i32_81 : BitVec 32 := 0#32
  let v79 : BitVec 1 := Scalar.cmpi .ne v78 c0_i32_81
  v79

def k0_cond2 (i : grid0.Coords) : BitVec 1 :=
  let arg0 : BitVec 32 := BitVec.ofNat 32 (i 0).val
  let c0_i32 : BitVec 32 := 0#32
  let v75 : BitVec 1 := Scalar.cmpi .eq arg0 c0_i32
  let v_true : BitVec 1 := 1#1
  let v80 : BitVec 1 := Scalar.xori v75 v_true
  let v81 : BitVec 32 := Scalar.extui v80
  let c0_i32_82 : BitVec 32 := 0#32
  let v82 : BitVec 1 := Scalar.cmpi .ne v81 c0_i32_82
  v82

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnDxRefIdeal.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5632, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proj.lean ====
abbrev S4096x1024 : Shape := ⟨2, ![4096, 1024]⟩
abbrev S1x1024 : Shape := ⟨2, ![1, 1024]⟩
abbrev S1024x2568 : Shape := ⟨2, ![1024, 2568]⟩
abbrev S4096x2568 : Shape := ⟨2, ![4096, 2568]⟩
abbrev S4096x1536 : Shape := ⟨2, ![4096, 1536]⟩
abbrev S4096x8 : Shape := ⟨2, ![4096, 8]⟩
abbrev S_ : Shape := ⟨0, ![]⟩
abbrev S4096x120 : Shape := ⟨2, ![4096, 120]⟩
abbrev S4096x2688 : Shape := ⟨2, ![4096, 2688]⟩
abbrev S1024x1536 : Shape := ⟨2, ![1024, 1536]⟩
abbrev S1024x1024 : Shape := ⟨2, ![1024, 1024]⟩
abbrev S1024x8 : Shape := ⟨2, ![1024, 8]⟩
abbrev S1024x120 : Shape := ⟨2, ![1024, 120]⟩
abbrev S1024x2688 : Shape := ⟨2, ![1024, 2688]⟩
abbrev S2688x1024 : Shape := ⟨2, ![2688, 1024]⟩
abbrev S512x2688 : Shape := ⟨2, ![512, 2688]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 23
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2568, .f32⟩
  | .hbm, ⟨3, _⟩ => ⟨S4096x2568, .f32⟩
  | .hbm, ⟨4, _⟩ => ⟨S4096x1024, .f32⟩
  | .hbm, ⟨5, _⟩ => ⟨S4096x1536, .f32⟩
  | .hbm, ⟨6, _⟩ => ⟨S4096x1024, .f32⟩
  | .hbm, ⟨7, _⟩ => ⟨S4096x8, .f32⟩
  | .hbm, ⟨8, _⟩ => ⟨S_, .f32⟩
  | .hbm, ⟨9, _⟩ => ⟨S4096x120, .f32⟩
  | .hbm, ⟨10, _⟩ => ⟨S4096x2688, .f32⟩
  | .hbm, ⟨11, _⟩ => ⟨S4096x2688, .bf16⟩
  | .hbm, ⟨12, _⟩ => ⟨S1024x1536, .f32⟩
  | .hbm, ⟨13, _⟩ => ⟨S1024x1024, .f32⟩
  | .hbm, ⟨14, _⟩ => ⟨S1024x8, .f32⟩
  | .hbm, ⟨15, _⟩ => ⟨S_, .f32⟩
  | .hbm, ⟨16, _⟩ => ⟨S1024x120, .f32⟩
  | .hbm, ⟨17, _⟩ => ⟨S1024x2688, .f32⟩
  | .hbm, ⟨18, _⟩ => ⟨S1024x2688, .bf16⟩
  | .hbm, ⟨19, _⟩ => ⟨S2688x1024, .bf16⟩
  | .hbm, ⟨20, _⟩ => ⟨S4096x1024, .f32⟩
  | .hbm, ⟨21, _⟩ => ⟨S4096x1024, .bf16⟩
  | .hbm, ⟨22, _⟩ => ⟨S1x1024, .f32⟩
  | .local _ .vmem, ⟨0, _⟩ => ⟨S512x2688, .bf16⟩
  | .local _ .vmem, ⟨1, _⟩ => ⟨S512x2688, .bf16⟩
  | .local _ .vmem, ⟨2, _⟩ => ⟨S2688x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v38 : BitVec 32 := Scalar.extui v35
  let c0_i32_19 : BitVec 32 := 0#32
  let v39 : BitVec 1 := Scalar.cmpi .ne v38 c0_i32_19
  v39

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let v_true : BitVec 1 := 1#1
  let v40 : BitVec 1 := Scalar.xori v35 v_true
  let v41 : BitVec 32 := Scalar.extui v40
  let c0_i32_20 : BitVec 32 := 0#32
  let v42 : BitVec 1 := Scalar.cmpi .ne v41 c0_i32_20
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2688x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ProjRefIdeal.lean ====
abbrev S4096x1024 : Shape := ⟨2, ![4096, 1024]⟩
abbrev S1x1024 : Shape := ⟨2, ![1, 1024]⟩
abbrev S1024x2568 : Shape := ⟨2, ![1024, 2568]⟩
abbrev S4096x2568 : Shape := ⟨2, ![4096, 2568]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2568, .f32⟩
  | .hbm, ⟨3, _⟩ => ⟨S4096x2568, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x2568, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== CrossFwd.lean ====
abbrev S4096x1024 : Shape := ⟨2, ![4096, 1024]⟩
abbrev S1x1024 : Shape := ⟨2, ![1, 1024]⟩
abbrev S1024x1024 : Shape := ⟨2, ![1024, 1024]⟩
abbrev S1x256 : Shape := ⟨2, ![1, 256]⟩
abbrev S256x4x256 : Shape := ⟨3, ![256, 4, 256]⟩
abbrev S4x256x256 : Shape := ⟨3, ![4, 256, 256]⟩
abbrev S1024 : Shape := ⟨1, ![1024]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 14
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .hbm, ⟨3, _⟩ => ⟨S1x256, .f32⟩
  | .hbm, ⟨4, _⟩ => ⟨S256x4x256, .f32⟩
  | .hbm, ⟨5, _⟩ => ⟨S256x4x256, .f32⟩
  | .hbm, ⟨6, _⟩ => ⟨S1024x1024, .f32⟩
  | .hbm, ⟨7, _⟩ => ⟨S4x256x256, .f32⟩
  | .hbm, ⟨8, _⟩ => ⟨S4x256x256, .bf16⟩
  | .hbm, ⟨9, _⟩ => ⟨S4x256x256, .f32⟩
  | .hbm, ⟨10, _⟩ => ⟨S4x256x256, .bf16⟩
  | .hbm, ⟨11, _⟩ => ⟨S1024x1024, .bf16⟩
  | .hbm, ⟨12, _⟩ => ⟨S1024x1024, .bf16⟩
  | .hbm, ⟨13, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1x256, .f32⟩
  | .local _ .vmem, ⟨5, _⟩ => ⟨S4x256x256, .bf16⟩
  | .local _ .vmem, ⟨6, _⟩ => ⟨S4x256x256, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CrossFwdRefIdeal.lean ====
abbrev S4096x1024 : Shape := ⟨2, ![4096, 1024]⟩
abbrev S1x1024 : Shape := ⟨2, ![1, 1024]⟩
abbrev S1024x1024 : Shape := ⟨2, ![1024, 1024]⟩
abbrev S1x256 : Shape := ⟨2, ![1, 256]⟩
abbrev S256x4x256 : Shape := ⟨3, ![256, 4, 256]⟩
abbrev S_ : Shape := ⟨0, ![]⟩
abbrev S4096 : Shape := ⟨1, ![4096]⟩
abbrev S4096x1 : Shape := ⟨2, ![4096, 1]⟩
abbrev S4096x4x256 : Shape := ⟨3, ![4096, 4, 256]⟩
abbrev S4096x4 : Shape := ⟨2, ![4096, 4]⟩
abbrev S4096x4x1 : Shape := ⟨3, ![4096, 4, 1]⟩
abbrev S1x1x256 : Shape := ⟨3, ![1, 1, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .hbm, ⟨3, _⟩ => ⟨S1x256, .f32⟩
  | .hbm, ⟨4, _⟩ => ⟨S256x4x256, .f32⟩
  | .hbm, ⟨5, _⟩ => ⟨S256x4x256, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x4x256, .f32⟩
  | .hbm, ⟨24, _⟩ => ⟨S4096x4x256, .f32⟩
  | .hbm, ⟨25, _⟩ => ⟨S_, .f32⟩
  | .hbm, ⟨26, _⟩ => ⟨S4096x4, .f32⟩
  | .hbm, ⟨27, _⟩ => ⟨S4096x4x1, .f32⟩
  | .hbm, ⟨28, _⟩ => ⟨S_, .f32⟩
  | .hbm, ⟨29, _⟩ => ⟨S4096x4x1, .f32⟩
  | .hbm, ⟨30, _⟩ => ⟨S4096x4x1, .f32⟩
  | .hbm, ⟨31, _⟩ => ⟨S_, .f32⟩
  | .hbm, ⟨32, _⟩ => ⟨S4096x4x1, .f32⟩
  | .hbm, ⟨33, _⟩ => ⟨S4096x4x1, .f32⟩
  | .hbm, ⟨34, _⟩ => ⟨S4096x4x1, .f32⟩
  | .hbm, ⟨35, _⟩ => ⟨S4096x4x256, .f32⟩
  | .hbm, ⟨36, _⟩ => ⟨S4096x4x256, .f32⟩
  | .hbm, ⟨37, _⟩ => ⟨S1x1x256, .f32⟩
  | .hbm, ⟨38, _⟩ => ⟨S4096x4x256, .f32⟩
  | .hbm, ⟨39, _⟩ => ⟨S4096x4x256, .f32⟩
  | .hbm, ⟨40, _⟩ => ⟨S4x4096x256, .f32⟩
  | .hbm, ⟨41, _⟩ => ⟨S_, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S_, .f32⟩
  | .hbm, ⟨47, _⟩ => ⟨S4x4096, .f32⟩
  | .hbm, ⟨48, _⟩ => ⟨S4x4096, .f32⟩
  | .hbm, ⟨49, _⟩ => ⟨S4x4096x1, .f32⟩
  | .hbm, ⟨50, _⟩ => ⟨S4x4096x256, .f32⟩
  | .hbm, ⟨51, _⟩ => ⟨S4x4096x256, .f32⟩
  | .hbm, ⟨52, _⟩ => ⟨S4x4096x256, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S4x4096x256, .f32⟩
  | .hbm, ⟨57, _⟩ => ⟨S4x4096x256, .f32⟩
  | .hbm, ⟨58, _⟩ => ⟨S4x256x4096, .f32⟩
  | .hbm, ⟨59, _⟩ => ⟨S4096x4x256, .f32⟩
  | .hbm, ⟨60, _⟩ => ⟨S4096x1024, .f32⟩
  | .hbm, ⟨61, _⟩ => ⟨S4096x1024, .f32⟩
  | .hbm, ⟨62, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Gate.lean ====
abbrev S4096x512 : Shape := ⟨2, ![4096, 512]⟩
abbrev S4096x8 : Shape := ⟨2, ![4096, 8]⟩
abbrev S1x8 : Shape := ⟨2, ![1, 8]⟩
abbrev S1x64 : Shape := ⟨2, ![1, 64]⟩
abbrev S1x512 : Shape := ⟨2, ![1, 512]⟩
abbrev S8x128x128 : Shape := ⟨3, ![8, 128, 128]⟩
abbrev S8x128 : Shape := ⟨2, ![8, 128]⟩
abbrev S4096x8x64 : Shape := ⟨3, ![4096, 8, 64]⟩
abbrev S_ : Shape := ⟨0, ![]⟩
abbrev S4096x120 : Shape := ⟨2, ![4096, 120]⟩
abbrev S4096x2688 : Shape := ⟨2, ![4096, 2688]⟩
abbrev S4096 : Shape := ⟨1, ![4096]⟩
abbrev S4096x1 : Shape := ⟨2, ![4096, 1]⟩
abbrev S32x128x512 : Shape := ⟨3, ![32, 128, 512]⟩
abbrev S128x128 : Shape := ⟨2, ![128, 128]⟩
abbrev S1x128x128 : Shape := ⟨3, ![1, 128, 128]⟩
abbrev S32x128x64 : Shape := ⟨3, ![32, 128, 64]⟩
abbrev S32x64x128 : Shape := ⟨3, ![32, 64, 128]⟩
abbrev S1x128 : Shape := ⟨2, ![1, 128]⟩
abbrev S128 : Shape := ⟨1, ![128]⟩
abbrev S1x128x1 : Shape := ⟨3, ![1, 128, 1]⟩
abbrev S4096x110 : Shape := ⟨2, ![4096, 110]⟩
abbrev S4096x128 : Shape := ⟨2, ![4096, 128]⟩
abbrev S1x120 : Shape := ⟨2, ![1, 120]⟩
abbrev S4096x8x0 : Shape := ⟨3, ![4096, 8, 0]⟩
abbrev S4096x8x1 : Shape := ⟨3, ![4096, 8, 1]⟩
abbrev S4096x8x63 : Shape := ⟨3, ![4096, 8, 63]⟩
abbrev S4096x8x128 : Shape := ⟨3, ![4096, 8, 128]⟩
abbrev S4096x1024 : Shape := ⟨2, ![4096, 1024]⟩
abbrev S4096x8x3 : Shape := ⟨3, ![4096, 8, 3]⟩
abbrev S4096x8x60 : Shape := ⟨3, ![4096, 8, 60]⟩
abbrev S128x8 : Shape := ⟨2, ![128, 8]⟩
abbrev S512x2688 : Shape := ⟨2, ![512, 2688]⟩
abbrev S512x1024 : Shape := ⟨2, ![512, 1024]⟩
abbrev S512x512 : Shape := ⟨2, ![512, 512]⟩
abbrev S512x128 : Shape := ⟨2, ![512, 128]⟩
abbrev S512x64 : Shape := ⟨2, ![512, 64]⟩
abbrev S512x1 : Shape := ⟨2, ![512, 1]⟩
abbrev S512 : Shape := ⟨1, ![512]⟩
abbrev S64 : Shape := ⟨1, ![64]⟩
abbrev S128x64 : Shape := ⟨2, ![128, 64]⟩
abbrev S128x1 : Shape := ⟨2, ![128, 1]⟩
abbrev S128x512 : Shape := ⟨2, ![128, 512]⟩

abbrev nBuf : Space → Nat
  | .hbm => 306
  | .vmem => 29
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x8, .f32⟩
  | 4 => ⟨S4096x512, .f32⟩
  | 5 => ⟨S4096x512, .f32⟩
  | 6 => ⟨S1x8, .f32⟩
  | 7 => ⟨S1x64, .f32⟩
  | 8 => ⟨S1x64, .f32⟩
  | 9 => ⟨S1x512, .f32⟩
  | 10 => ⟨S8x128x128, .f32⟩
  | 11 => ⟨S8x128, .f32⟩
  | 12 => ⟨S1x512, .f32⟩
  | 13 => ⟨S4096x8x64, .f32⟩
  | 14 => ⟨S4096x8x64, .f32⟩
  | 15 => ⟨S4096x8x64, .f32⟩
  | 16 => ⟨S4096x8, .f32⟩
  | 17 => ⟨S4096x8, .f32⟩
  | 18 => ⟨S4096x512, .f32⟩
  | 19 => ⟨S_, .f32⟩
  | 20 => ⟨S4096x120, .f32⟩
  | 21 => ⟨S4096x2688, .f32⟩
  | 22 => ⟨S4096x8x64, .f32⟩
  | 23 => ⟨S4096x8x64, .f32⟩
  | 24 => ⟨S_, .f32⟩
  | 25 => ⟨S4096x8, .f32⟩
  | 26 => ⟨S_, .f32⟩
  | 27 => ⟨S4096x8, .f32⟩
  | 28 => ⟨S4096x8, .f32⟩
  | 29 => ⟨S_, .f32⟩
  | 30 => ⟨S4096x8, .f32⟩
  | 31 => ⟨S4096x8, .f32⟩
  | 32 => ⟨S4096x8, .f32⟩
  | 33 => ⟨S4096x8x64, .f32⟩
  | 34 => ⟨S4096x8x64, .f32⟩
  | 35 => ⟨S_, .f32⟩
  | 36 => ⟨S4096x8, .f32⟩
  | 37 => ⟨S_, .f32⟩
  | 38 => ⟨S4096x8, .f32⟩
  | 39 => ⟨S4096x8, .f32⟩
  | 40 => ⟨S_, .f32⟩
  | 41 => ⟨S4096x8, .f32⟩
  | 42 => ⟨S4096x8, .f32⟩
  | 43 => ⟨S4096x8, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S_, .f32⟩
  | 50 => ⟨S4096x512, .f32⟩
  | 51 => ⟨S4096x512, .f32⟩
  | 52 => ⟨S4096x512, .f32⟩
  | 53 => ⟨S_, .f32⟩
  | 54 => ⟨S4096x512, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S_, .f32⟩
  | 61 => ⟨S4096x512, .f32⟩
  | 62 => ⟨S4096x512, .f32⟩
  | 63 => ⟨S4096x512, .f32⟩
  | 64 => ⟨S4096x512, .f32⟩
  | 65 => ⟨S_, .f32⟩
  | 66 => ⟨S4096, .f32⟩
  | 67 => ⟨S_, .f32⟩
  | 68 => ⟨S4096, .f32⟩
  | 69 => ⟨S4096, .f32⟩
  | 70 => ⟨S_, .f32⟩
  | 71 => ⟨S4096, .f32⟩
  | 72 => ⟨S4096, .f32⟩
  | 73 => ⟨S4096, .f32⟩
  | 74 => ⟨S4096x1, .f32⟩
  | 75 => ⟨S4096x512, .f32⟩
  | 76 => ⟨S4096x512, .f32⟩
  | 77 => ⟨S_, .f32⟩
  | 78 => ⟨S4096x512, .f32⟩
  | 79 => ⟨S4096x512, .f32⟩
  | 80 => ⟨S_, .f32⟩
  | 81 => ⟨S4096x512, .f32⟩
  | 82 => ⟨S4096x512, .f32⟩
  | 83 => ⟨S4096x512, .f32⟩
  | 84 => ⟨S_, .f32⟩
  | 85 => ⟨S4096x512, .f32⟩
  | 86 => ⟨S4096x512, .f32⟩
  | 87 => ⟨S4096x512, .f32⟩
  | 88 => ⟨S_, .f32⟩
  | 89 => ⟨S4096x512, .f32⟩
  | 90 => ⟨S4096x512, .f32⟩
  | 91 => ⟨S_, .f32⟩
  | 92 => ⟨S4096x512, .f32⟩
  | 93 => ⟨S4096x512, .f32⟩
  | 94 => ⟨S4096x512, .f32⟩
  | 95 => ⟨S4096x512, .f32⟩
  | 96 => ⟨S_, .f32⟩
  | 97 => ⟨S4096, .f32⟩
  | 98 => ⟨S4096x1, .f32⟩
  | 99 => ⟨S_, .f32⟩
  | 100 => ⟨S4096x1, .f32⟩
  | 101 => ⟨S4096x1, .f32⟩
  | 102 => ⟨S_, .f32⟩
  | 103 => ⟨S4096x1, .f32⟩
  | 104 => ⟨S4096x1, .f32⟩
  | 105 => ⟨S4096x1, .f32⟩
  | 106 => ⟨S4096x512, .f32⟩
  | 107 => ⟨S4096x512, .f32⟩
  | 108 => ⟨S4096x512, .f32⟩
  | 109 => ⟨S4096x512, .f32⟩
  | 110 => ⟨S32x128x512, .f32⟩
  | 111 => ⟨S_, .i1⟩
  | 112 => ⟨S128x128, .i1⟩
  | 113 => ⟨S128x128, .i32⟩
  | 114 => ⟨S_, .i32⟩
  | 115 => ⟨S128x128, .i32⟩
  | 116 => ⟨S128x128, .i32⟩
  | 117 => ⟨S128x128, .i32⟩
  | 118 => ⟨S128x128, .i1⟩
  | 119 => ⟨S_, .i1⟩
  | 120 => ⟨S128x128, .i1⟩
  | 121 => ⟨S128x128, .i1⟩
  | 122 => ⟨S1x128x128, .f32⟩
  | 123 => ⟨S128x128, .f32⟩
  | 124 => ⟨S_, .f32⟩
  | 125 => ⟨S_, .f32⟩
  | 126 => ⟨S128x128, .f32⟩
  | 127 => ⟨S128x128, .f32⟩
  | _ => ⟨S4096x512, .f32⟩

abbrev hbmTy0_1 (i : Nat) : BufTy := match i % 128 with
  | 0 => ⟨S32x128x64, .f32⟩
  | 1 => ⟨S32x64x128, .f32⟩
  | 2 => ⟨S32x128x64, .f32⟩
  | 3 => ⟨S1x128, .f32⟩
  | 4 => ⟨S128, .f32⟩
  | 5 => ⟨S1x128x1, .f32⟩
  | 6 => ⟨S32x128x64, .f32⟩
  | 7 => ⟨S32x128x64, .f32⟩
  | 8 => ⟨S1x128x128, .f32⟩
  | 9 => ⟨S128x128, .f32⟩
  | 10 => ⟨S_, .f32⟩
  | 11 => ⟨S_, .f32⟩
  | 12 => ⟨S128x128, .f32⟩
  | 13 => ⟨S128x128, .f32⟩
  | 14 => ⟨S32x128x64, .f32⟩
  | 15 => ⟨S32x64x128, .f32⟩
  | 16 => ⟨S32x128x64, .f32⟩
  | 17 => ⟨S1x128, .f32⟩
  | 18 => ⟨S128, .f32⟩
  | 19 => ⟨S1x128x1, .f32⟩
  | 20 => ⟨S32x128x64, .f32⟩
  | 21 => ⟨S32x128x64, .f32⟩
  | 22 => ⟨S1x128x128, .f32⟩
  | 23 => ⟨S128x128, .f32⟩
  | 24 => ⟨S_, .f32⟩
  | 25 => ⟨S_, .f32⟩
  | 26 => ⟨S128x128, .f32⟩
  | 27 => ⟨S128x128, .f32⟩
  | 28 => ⟨S32x128x64, .f32⟩
  | 29 => ⟨S32x64x128, .f32⟩
  | 30 => ⟨S32x128x64, .f32⟩
  | 31 => ⟨S1x128, .f32⟩
  | 32 => ⟨S128, .f32⟩
  | 33 => ⟨S1x128x1, .f32⟩
  | 34 => ⟨S32x128x64, .f32⟩
  | 35 => ⟨S32x128x64, .f32⟩
  | 36 => ⟨S1x128x128, .f32⟩
  | 37 => ⟨S128x128, .f32⟩
  | 38 => ⟨S_, .f32⟩
  | 39 => ⟨S_, .f32⟩
  | 40 => ⟨S128x128, .f32⟩
  | 41 => ⟨S128x128, .f32⟩
  | 42 => ⟨S32x128x64, .f32⟩
  | 43 => ⟨S32x64x128, .f32⟩
  | 44 => ⟨S32x128x64, .f32⟩
  | 45 => ⟨S1x128, .f32⟩
  | 46 => ⟨S128, .f32⟩
  | 47 => ⟨S1x128x1, .f32⟩
  | 48 => ⟨S32x128x64, .f32⟩
  | 49 => ⟨S32x128x64, .f32⟩
  | 50 => ⟨S1x128x128, .f32⟩
  | 51 => ⟨S128x128, .f32⟩
  | 52 => ⟨S_, .f32⟩
  | 53 => ⟨S_, .f32⟩
  | 54 => ⟨S128x128, .f32⟩
  | 55 => ⟨S128x128, .f32⟩
  | 56 => ⟨S32x128x64, .f32⟩
  | 57 => ⟨S32x64x128, .f32⟩
  | 58 => ⟨S32x128x64, .f32⟩
  | 59 => ⟨S1x128, .f32⟩
  | 60 => ⟨S128, .f32⟩
  | 61 => ⟨S1x128x1, .f32⟩
  | 62 => ⟨S32x128x64, .f32⟩
  | 63 => ⟨S32x128x64, .f32⟩
  | 64 => ⟨S1x128x128, .f32⟩
  | 65 => ⟨S128x128, .f32⟩
  | 66 => ⟨S_, .f32⟩
  | 67 => ⟨S_, .f32⟩
  | 68 => ⟨S128x128, .f32⟩
  | 69 => ⟨S128x128, .f32⟩
  | 70 => ⟨S32x128x64, .f32⟩
  | 71 => ⟨S32x64x128, .f32⟩
  | 72 => ⟨S32x128x64, .f32⟩
  | 73 => ⟨S1x128, .f32⟩
  | 74 => ⟨S128, .f32⟩
  | 75 => ⟨S1x128x1, .f32⟩
  | 76 => ⟨S32x128x64, .f32⟩
  | 77 => ⟨S32x128x64, .f32⟩
  | 78 => ⟨S1x128x128, .f32⟩
  | 79 => ⟨S128x128, .f32⟩
  | 80 => ⟨S_, .f32⟩
  | 81 => ⟨S_, .f32⟩
  | 82 => ⟨S128x128, .f32⟩
  | 83 => ⟨S128x128, .f32⟩
  | 84 => ⟨S32x128x64, .f32⟩
  | 85 => ⟨S32x64x128, .f32⟩
  | 86 => ⟨S32x128x64, .f32⟩
  | 87 => ⟨S1x128, .f32⟩
  | 88 => ⟨S128, .f32⟩
  | 89 => ⟨S1x128x1, .f32⟩
  | 90 => ⟨S32x128x64, .f32⟩
  | 91 => ⟨S32x128x64, .f32⟩
  | 92 => ⟨S1x128x128, .f32⟩
  | 93 => ⟨S128x128, .f32⟩
  | 94 => ⟨S_, .f32⟩
  | 95 => ⟨S_, .f32⟩
  | 96 => ⟨S128x128, .f32⟩
  | 97 => ⟨S128x128, .f32⟩
  | 98 => ⟨S32x128x64, .f32⟩
  | 99 => ⟨S32x64x128, .f32⟩
  | 100 => ⟨S32x128x64, .f32⟩
  | 101 => ⟨S1x128, .f32⟩
  | 102 => ⟨S128, .f32⟩
  | 103 => ⟨S1x128x1, .f32⟩
  | 104 => ⟨S32x128x64, .f32⟩
  | 105 => ⟨S32x128x64, .f32⟩
  | 106 => ⟨S4096x512, .f32⟩
  | 107 => ⟨S4096x512, .f32⟩
  | 108 => ⟨S_, .f32⟩
  | 109 => ⟨S4096x512, .f32⟩
  | 110 => ⟨S4096x512, .f32⟩
  | 111 => ⟨S_, .f32⟩
  | 112 => ⟨S4096x512, .f32⟩
  | 113 => ⟨S4096x512, .f32⟩
  | 114 => ⟨S4096x512, .f32⟩
  | 115 => ⟨S_, .f32⟩
  | 116 => ⟨S4096x512, .f32⟩
  | 117 => ⟨S4096x512, .f32⟩
  | 118 => ⟨S4096x512, .f32⟩
  | 119 => ⟨S_, .f32⟩
  | 120 => ⟨S4096x512, .f32⟩
  | 121 => ⟨S4096x512, .f32⟩
  | 122 => ⟨S_, .f32⟩
  | 123 => ⟨S4096x512, .f32⟩
  | 124 => ⟨S4096x512, .f32⟩
  | 125 => ⟨S4096x512, .f32⟩
  | 126 => ⟨S32x128x512, .f32⟩
  | 127 => ⟨S4096x512, .f32⟩
  | _ => ⟨S4096x512, .f32⟩

abbrev hbmTy0_2 (i : Nat) : BufTy := match i % 128 with
  | 0 => ⟨S4096x512, .f32⟩
  | 1 => ⟨S4096x512, .f32⟩
  | 2 => ⟨S_, .f32⟩
  | 3 => ⟨S4096, .f32⟩
  | 4 => ⟨S_, .f32⟩
  | 5 => ⟨S4096, .f32⟩
  | 6 => ⟨S4096, .f32⟩
  | 7 => ⟨S_, .f32⟩
  | 8 => ⟨S4096, .f32⟩
  | 9 => ⟨S4096, .f32⟩
  | 10 => ⟨S4096, .f32⟩
  | 11 => ⟨S4096x1, .f32⟩
  | 12 => ⟨S_, .f32⟩
  | 13 => ⟨S4096x110, .f32⟩
  | 14 => ⟨S4096x128, .f32⟩
  | 15 => ⟨S_, .f32⟩
  | 16 => ⟨S4096x8, .f32⟩
  | 17 => ⟨S_, .f32⟩
  | 18 => ⟨S1x120, .f32⟩
  | 19 => ⟨S1x128, .f32⟩
  | 20 => ⟨S_, .f32⟩
  | 21 => ⟨S4096x8x0, .f32⟩
  | 22 => ⟨S4096x8x1, .f32⟩
  | 23 => ⟨S_, .f32⟩
  | 24 => ⟨S4096x8x63, .f32⟩
  | 25 => ⟨S4096x8x128, .f32⟩
  | 26 => ⟨S4096x1024, .f32⟩
  | 27 => ⟨S_, .f32⟩
  | 28 => ⟨S4096x8x3, .f32⟩
  | 29 => ⟨S4096x8x1, .f32⟩
  | 30 => ⟨S_, .f32⟩
  | 31 => ⟨S4096x8x60, .f32⟩
  | 32 => ⟨S4096x8x128, .f32⟩
  | 33 => ⟨S4096x1024, .f32⟩
  | 34 => ⟨S_, .f32⟩
  | 35 => ⟨S4096x8x0, .f32⟩
  | 36 => ⟨S4096x8x1, .f32⟩
  | 37 => ⟨S_, .f32⟩
  | 38 => ⟨S4096x8x63, .f32⟩
  | 39 => ⟨S4096x8x128, .f32⟩
  | 40 => ⟨S4096x1024, .f32⟩
  | 41 => ⟨S128x8, .f32⟩
  | 42 => ⟨S4096x2688, .bf16⟩
  | 43 => ⟨S1x64, .f32⟩
  | 44 => ⟨S1x64, .f32⟩
  | 45 => ⟨S1x512, .f32⟩
  | 46 => ⟨S1x512, .f32⟩
  | 47 => ⟨S8x128x128, .f32⟩
  | 48 => ⟨S128x8, .f32⟩
  | 49 => ⟨S1x128, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | .local _ .vmem, ⟨0, _⟩ => ⟨S512x2688, .f32⟩
  | .local _ .vmem, ⟨1, _⟩ => ⟨S512x2688, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S1x128, .f32⟩
  | .local _ .vmem, ⟨13, _⟩ => ⟨S1x64, .f32⟩
  | .local _ .vmem, ⟨14, _⟩ => ⟨S1x64, .f32⟩
  | .local _ .vmem, ⟨15, _⟩ => ⟨S1x512, .f32⟩
  | .local _ .vmem, ⟨16, _⟩ => ⟨S8x128x128, .f32⟩
  | .local _ .vmem, ⟨17, _⟩ => ⟨S128x8, .f32⟩
  | .local _ .vmem, ⟨18, _⟩ => ⟨S1x512, .f32⟩
  | .local _ .vmem, ⟨19, _⟩ => ⟨S512x2688, .bf16⟩
  | .local _ .vmem, ⟨20, _⟩ => ⟨S512x2688, .bf16⟩
  | .local _ .vmem, ⟨21, _⟩ => ⟨S1x64, .f32⟩
  | .local _ .vmem, ⟨22, _⟩ => ⟨S1x64, .f32⟩
  | .local _ .vmem, ⟨23, _⟩ => ⟨S1x512, .f32⟩
  | .local _ .vmem, ⟨24, _⟩ => ⟨S1x512, .f32⟩
  | .local _ .vmem, ⟨25, _⟩ => ⟨S8x128x128, .f32⟩
  | .local _ .vmem, ⟨26, _⟩ => ⟨S128x8, .f32⟩
  | .local _ .vmem, ⟨27, _⟩ => ⟨S1x128, .f32⟩
  | .local _ .vmem, ⟨28, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_cst_2 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_3 : Ref sig .tc := ⟨.hbm, 35, rfl⟩
abbrev main_v12 : Ref sig .tc := ⟨.hbm, 36, rfl⟩
abbrev main_cst_4 : Ref sig .tc := ⟨.hbm, 37, rfl⟩
abbrev main_v13 : Ref sig .tc := ⟨.hbm, 38, rfl⟩
abbrev main_v14 : Ref sig .tc := ⟨.hbm, 39, rfl⟩
abbrev main_cst_5 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_6 : Ref sig .tc := ⟨.hbm, 46, rfl⟩
abbrev main_v20 : Ref sig .tc := ⟨.hbm, 47, rfl⟩
abbrev main_v21 : Ref sig .tc := ⟨.hbm, 48, rfl⟩
abbrev main_cst_7 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_8 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_9 : Ref sig .tc := ⟨.hbm, 57, rfl⟩
abbrev main_v28 : Ref sig .tc := ⟨.hbm, 58, rfl⟩
abbrev main_v29 : Ref sig .tc := ⟨.hbm, 59, rfl⟩
abbrev main_cst_10 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_11 : Ref sig .tc := ⟨.hbm, 65, rfl⟩
abbrev main_v34 : Ref sig .tc := ⟨.hbm, 66, rfl⟩
abbrev main_cst_12 : Ref sig .tc := ⟨.hbm, 67, rfl⟩
abbrev main_v35 : Ref sig .tc := ⟨.hbm, 68, rfl⟩
abbrev main_v36 : Ref sig .tc := ⟨.hbm, 69, rfl⟩
abbrev main_cst_13 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_14 : Ref sig .tc := ⟨.hbm, 77, rfl⟩
abbrev main_v43 : Ref sig .tc := ⟨.hbm, 78, rfl⟩
abbrev main_v44 : Ref sig .tc := ⟨.hbm, 79, rfl⟩
abbrev main_cst_15 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_16 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_17 : Ref sig .tc := ⟨.hbm, 88, rfl⟩
abbrev main_v51 : Ref sig .tc := ⟨.hbm, 89, rfl⟩
abbrev main_v52 : Ref sig .tc := ⟨.hbm, 90, rfl⟩
abbrev main_cst_18 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_19 : Ref sig .tc := ⟨.hbm, 96, rfl⟩
abbrev main_v57 : Ref sig .tc := ⟨.hbm, 97, rfl⟩
abbrev main_v58 : Ref sig .tc := ⟨.hbm, 98, rfl⟩
abbrev main_cst_20 : Ref sig .tc := ⟨.hbm, 99, rfl⟩
abbrev main_v59 : Ref sig .tc := ⟨.hbm, 100, rfl⟩
abbrev main_v60 : Ref sig .tc := ⟨.hbm, 101, rfl⟩
abbrev main_cst_21 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_c : Ref sig .tc := ⟨.hbm, 111, rfl⟩
abbrev main_v69 : Ref sig .tc := ⟨.hbm, 112, rfl⟩
abbrev main_call0_v0 : Ref sig .tc := ⟨.hbm, 113, rfl⟩
abbrev main_call0_c : Ref sig .tc := ⟨.hbm, 114, rfl⟩
abbrev main_call0_v1 : Ref sig .tc := ⟨.hbm, 115, rfl⟩
abbrev main_call0_v2 : Ref sig .tc := ⟨.hbm, 116, rfl⟩
abbrev main_call0_v3 : Ref sig .tc := ⟨.hbm, 117, rfl⟩
abbrev main_call0_v4 : Ref sig .tc := ⟨.hbm, 118, rfl⟩
abbrev main_call0_c_0 : Ref sig .tc := ⟨.hbm, 119, rfl⟩
abbrev main_call0_v5 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_cst_22 : Ref sig .tc := ⟨.hbm, 124, rfl⟩
abbrev main_call1_v0 : Ref sig .tc := ⟨.hbm, 125, rfl⟩
abbrev main_call1_v1 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_23 : Ref sig .tc := ⟨.hbm, 138, rfl⟩
abbrev main_call2_v0 : Ref sig .tc := ⟨.hbm, 139, rfl⟩
abbrev main_call2_v1 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_24 : Ref sig .tc := ⟨.hbm, 152, rfl⟩
abbrev main_call3_v0 : Ref sig .tc := ⟨.hbm, 153, rfl⟩
abbrev main_call3_v1 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_cst_25 : Ref sig .tc := ⟨.hbm, 166, rfl⟩
abbrev main_call4_v0 : Ref sig .tc := ⟨.hbm, 167, rfl⟩
abbrev main_call4_v1 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_cst_26 : Ref sig .tc := ⟨.hbm, 180, rfl⟩
abbrev main_call5_v0 : Ref sig .tc := ⟨.hbm, 181, rfl⟩
abbrev main_call5_v1 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_cst_27 : Ref sig .tc := ⟨.hbm, 194, rfl⟩
abbrev main_call6_v0 : Ref sig .tc := ⟨.hbm, 195, rfl⟩
abbrev main_call6_v1 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_cst_28 : Ref sig .tc := ⟨.hbm, 208, rfl⟩
abbrev main_call7_v0 : Ref sig .tc := ⟨.hbm, 209, rfl⟩
abbrev main_call7_v1 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_cst_29 : Ref sig .tc := ⟨.hbm, 222, rfl⟩
abbrev main_call8_v0 : Ref sig .tc := ⟨.hbm, 223, rfl⟩
abbrev main_call8_v1 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_cst_30 : Ref sig .tc := ⟨.hbm, 236, rfl⟩
abbrev main_v161 : Ref sig .tc := ⟨.hbm, 237, rfl⟩
abbrev main_v162 : Ref sig .tc := ⟨.hbm, 238, rfl⟩
abbrev main_cst_31 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_cst_32 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_cst_33 : Ref sig .tc := ⟨.hbm, 247, rfl⟩
abbrev main_v169 : Ref sig .tc := ⟨.hbm, 248, rfl⟩
abbrev main_v170 : Ref sig .tc := ⟨.hbm, 249, rfl⟩
abbrev main_cst_34 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_cst_35 : Ref sig .tc := ⟨.hbm, 258, rfl⟩
abbrev main_v178 : Ref sig .tc := ⟨.hbm, 259, rfl⟩
abbrev main_cst_36 : Ref sig .tc := ⟨.hbm, 260, rfl⟩
abbrev main_v179 : Ref sig .tc := ⟨.hbm, 261, rfl⟩
abbrev main_v180 : Ref sig .tc := ⟨.hbm, 262, rfl⟩
abbrev main_cst_37 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_cst_38 : Ref sig .tc := ⟨.hbm, 268, rfl⟩
abbrev main_v185 : Ref sig .tc := ⟨.hbm, 269, rfl⟩
abbrev main_v186 : Ref sig .tc := ⟨.hbm, 270, rfl⟩
abbrev main_cst_39 : Ref sig .tc := ⟨.hbm, 271, rfl⟩
abbrev main_v187 : Ref sig .tc := ⟨.hbm, 272, rfl⟩
abbrev main_cst_40 : Ref sig .tc := ⟨.hbm, 273, rfl⟩
abbrev main_v188 : Ref sig .tc := ⟨.hbm, 274, rfl⟩
abbrev main_v189 : Ref sig .tc := ⟨.hbm, 275, rfl⟩
abbrev main_cst_41 : Ref sig .tc := ⟨.hbm, 276, rfl⟩
abbrev main_v190 : Ref sig .tc := ⟨.hbm, 277, rfl⟩
abbrev main_v191 : Ref sig .tc := ⟨.hbm, 278, rfl⟩
abbrev main_cst_42 : Ref sig .tc := ⟨.hbm, 279, rfl⟩
abbrev main_v192 : Ref sig .tc := ⟨.hbm, 280, rfl⟩
abbrev main_v193 : Ref sig .tc := ⟨.hbm, 281, rfl⟩
abbrev main_v194 : Ref sig .tc := ⟨.hbm, 282, rfl⟩
abbrev main_cst_43 : Ref sig .tc := ⟨.hbm, 283, rfl⟩
abbrev main_v195 : Ref sig .tc := ⟨.hbm, 284, rfl⟩
abbrev main_v196 : Ref sig .tc := ⟨.hbm, 285, rfl⟩
abbrev main_cst_44 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_cst_45 : Ref sig .tc := ⟨.hbm, 290, rfl⟩
abbrev main_v200 : Ref sig .tc := ⟨.hbm, 291, rfl⟩
abbrev main_v201 : Ref sig .tc := ⟨.hbm, 292, rfl⟩
abbrev main_cst_46 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206_0 : Ref sig .tc := ⟨.hbm, 298, rfl⟩
abbrev main_v206_1 : Ref sig .tc := ⟨.hbm, 299, rfl⟩
abbrev main_v206_2 : Ref sig .tc := ⟨.hbm, 300, rfl⟩
abbrev main_v206_3 : Ref sig .tc := ⟨.hbm, 301, rfl⟩
abbrev main_v206_4 : Ref sig .tc := ⟨.hbm, 302, rfl⟩
abbrev main_v206_5 : Ref sig .tc := ⟨.hbm, 303, rfl⟩
abbrev main_v206_6 : Ref sig .tc := ⟨.hbm, 304, rfl⟩
abbrev main_v206_7 : Ref sig .tc := ⟨.hbm, 305, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v512 : BitVec 32 := Scalar.extui v0
  let c0_i32_205 : BitVec 32 := 0#32
  let v513 : BitVec 1 := Scalar.cmpi .ne v512 c0_i32_205
  v513

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v514 : BitVec 1 := Scalar.xori v0 v_true
  let v515 : BitVec 32 := Scalar.extui v514
  let c0_i32_206 : BitVec 32 := 0#32
  let v516 : BitVec 1 := Scalar.cmpi .ne v515 c0_i32_206
  v516

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v526 : BitVec 32 := Scalar.extui v0
  let c0_i32_208 : BitVec 32 := 0#32
  let v527 : BitVec 1 := Scalar.cmpi .ne v526 c0_i32_208
  v527

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_209 : BitVec 1 := 1#1
  let v528 : BitVec 1 := Scalar.xori v0 true_209
  let v529 : BitVec 32 := Scalar.extui v528
  let c0_i32_210 : BitVec 32 := 0#32
  let v530 : BitVec 1 := Scalar.cmpi .ne v529 c0_i32_210
  v530

def k0_cond28 (i : grid0.Coords) : BitVec 1 :=
  let arg0 : BitVec 32 := BitVec.ofNat 32 (i 0).val
  let c0_i32 : BitVec 32 := 0#32
  let v0 : BitVec 1 := Scalar.cmpi .eq arg0 c0_i32
  let v1216 : BitVec 32 := Scalar.extui v0
  let c0_i32_446 : BitVec 32 := 0#32
  let v1217 : BitVec 1 := Scalar.cmpi .ne v1216 c0_i32_446
  v1217

def k0_cond29 (i : grid0.Coords) : BitVec 1 :=
  let arg0 : BitVec 32 := BitVec.ofNat 32 (i 0).val
  let c0_i32 : BitVec 32 := 0#32
  let v0 : BitVec 1 := Scalar.cmpi .eq arg0 c0_i32
  let true_447 : BitVec 1 := 1#1
  let v1218 : BitVec 1 := Scalar.xori v0 true_447
  let v1219 : BitVec 32 := Scalar.extui v1218
  let c0_i32_448 : BitVec 32 := 0#32
  let v1220 : BitVec 1 := Scalar.cmpi .ne v1219 c0_i32_448
  v1220

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let v848 : BitVec 32 := Scalar.extui v0
  let c0_i32_307 : BitVec 32 := 0#32
  let v849 : BitVec 1 := Scalar.cmpi .ne v848 c0_i32_307
  v849

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let true_308 : BitVec 1 := 1#1
  let v850 : BitVec 1 := Scalar.xori v0 true_308
  let v851 : BitVec 32 := Scalar.extui v850
  let c0_i32_309 : BitVec 32 := 0#32
  let v852 : BitVec 1 := Scalar.cmpi .ne v851 c0_i32_309
  v852

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let v1139 : BitVec 32 := Scalar.extui v0
  let c0_i32_407 : BitVec 32 := 0#32
  let v1140 : BitVec 1 := Scalar.cmpi .ne v1139 c0_i32_407
  v1140

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let true_408 : BitVec 1 := 1#1
  let v1141 : BitVec 1 := Scalar.xori v0 true_408
  let v1142 : BitVec 32 := Scalar.extui v1141
  let c0_i32_409 : BitVec 32 := 0#32
  let v1143 : BitVec 1 := Scalar.cmpi .ne v1142 c0_i32_409
  v1143

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let v1146 : BitVec 32 := Scalar.extui v0
  let c0_i32_411 : BitVec 32 := 0#32
  let v1147 : BitVec 1 := Scalar.cmpi .ne v1146 c0_i32_411
  v1147

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let true_412 : BitVec 1 := 1#1
  let v1148 : BitVec 1 := Scalar.xori v0 true_412
  let v1149 : BitVec 32 := Scalar.extui v1148
  let c0_i32_413 : BitVec 32 := 0#32
  let v1150 : BitVec 1 := Scalar.cmpi .ne v1149 c0_i32_413
  v1150

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let v1153 : BitVec 32 := Scalar.extui v0
  let c0_i32_415 : BitVec 32 := 0#32
  let v1154 : BitVec 1 := Scalar.cmpi .ne v1153 c0_i32_415
  v1154

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let true_416 : BitVec 1 := 1#1
  let v1155 : BitVec 1 := Scalar.xori v0 true_416
  let v1156 : BitVec 32 := Scalar.extui v1155
  let c0_i32_417 : BitVec 32 := 0#32
  let v1157 : BitVec 1 := Scalar.cmpi .ne v1156 c0_i32_417
  v1157

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let v1160 : BitVec 32 := Scalar.extui v0
  let c0_i32_419 : BitVec 32 := 0#32
  let v1161 : BitVec 1 := Scalar.cmpi .ne v1160 c0_i32_419
  v1161

def k0_cond17 (i : grid0.Coords) : BitVec 1 :=
  let arg0 : BitVec 32 := BitVec.ofNat 32 (i 0).val
  let c0_i32 : BitVec 32 := 0#32
  let v0 : BitVec 1 := Scalar.cmpi .eq arg0 c0_i32
  let true_420 : BitVec 1 := 1#1
  let v1162 : BitVec 1 := Scalar.xori v0 true_420
  let v1163 : BitVec 32 := Scalar.extui v1162
  let c0_i32_421 : BitVec 32 := 0#32
  let v1164 : BitVec 1 := Scalar.cmpi .ne v1163 c0_i32_421
  v1164

def k0_cond18 (i : grid0.Coords) : BitVec 1 :=
  let arg0 : BitVec 32 := BitVec.ofNat 32 (i 0).val
  let c0_i32 : BitVec 32 := 0#32
  let v0 : BitVec 1 := Scalar.cmpi .eq arg0 c0_i32
  let v1167 : BitVec 32 := Scalar.extui v0
  let c0_i32_423 : BitVec 32 := 0#32
  let v1168 : BitVec 1 := Scalar.cmpi .ne v1167 c0_i32_423
  v1168

def k0_cond19 (i : grid0.Coords) : BitVec 1 :=
  let arg0 : BitVec 32 := BitVec.ofNat 32 (i 0).val
  let c0_i32 : BitVec 32 := 0#32
  let v0 : BitVec 1 := Scalar.cmpi .eq arg0 c0_i32
  let true_424 : BitVec 1 := 1#1
  let v1169 : BitVec 1 := Scalar.xori v0 true_424
  let v1170 : BitVec 32 := Scalar.extui v1169
  let c0_i32_425 : BitVec 32 := 0#32
  let v1171 : BitVec 1 := Scalar.cmpi .ne v1170 c0_i32_425
  v1171

def k0_cond20 (i : grid0.Coords) : BitVec 1 :=
  let arg0 : BitVec 32 := BitVec.ofNat 32 (i 0).val
  let c0_i32 : BitVec 32 := 0#32
  let v0 : BitVec 1 := Scalar.cmpi .eq arg0 c0_i32
  let v1174 : BitVec 32 := Scalar.extui v0
  let c0_i32_427 : BitVec 32 := 0#32
  let v1175 : BitVec 1 := Scalar.cmpi .ne v1174 c0_i32_427
  v1175

def k0_cond21 (i : grid0.Coords) : BitVec 1 :=
  let arg0 : BitVec 32 := BitVec.ofNat 32 (i 0).val
  let c0_i32 : BitVec 32 := 0#32
  let v0 : BitVec 1 := Scalar.cmpi .eq arg0 c0_i32
  let true_428 : BitVec 1 := 1#1
  let v1176 : BitVec 1 := Scalar.xori v0 true_428
  let v1177 : BitVec 32 := Scalar.extui v1176
  let c0_i32_429 : BitVec 32 := 0#32
  let v1178 : BitVec 1 := Scalar.cmpi .ne v1177 c0_i32_429
  v1178

def k0_cond22 (i : grid0.Coords) : BitVec 1 :=
  let arg0 : BitVec 32 := BitVec.ofNat 32 (i 0).val
  let c0_i32 : BitVec 32 := 0#32
  let v0 : BitVec 1 := Scalar.cmpi .eq arg0 c0_i32
  let v1181 : BitVec 32 := Scalar.extui v0
  let c0_i32_431 : BitVec 32 := 0#32
  let v1182 : BitVec 1 := Scalar.cmpi .ne v1181 c0_i32_431
  v1182

def k0_cond23 (i : grid0.Coords) : BitVec 1 :=
  let arg0 : BitVec 32 := BitVec.ofNat 32 (i 0).val
  let c0_i32 : BitVec 32 := 0#32
  let v0 : BitVec 1 := Scalar.cmpi .eq arg0 c0_i32
  let true_432 : BitVec 1 := 1#1
  let v1183 : BitVec 1 := Scalar.xori v0 true_432
  let v1184 : BitVec 32 := Scalar.extui v1183
  let c0_i32_433 : BitVec 32 := 0#32
  let v1185 : BitVec 1 := Scalar.cmpi .ne v1184 c0_i32_433
  v1185

def k0_cond24 (i : grid0.Coords) : BitVec 1 :=
  let arg0 : BitVec 32 := BitVec.ofNat 32 (i 0).val
  let c0_i32 : BitVec 32 := 0#32
  let v0 : BitVec 1 := Scalar.cmpi .eq arg0 c0_i32
  let v1188 : BitVec 32 := Scalar.extui v0
  let c0_i32_435 : BitVec 32 := 0#32
  let v1189 : BitVec 1 := Scalar.cmpi .ne v1188 c0_i32_435
  v1189

def k0_cond25 (i : grid0.Coords) : BitVec 1 :=
  let arg0 : BitVec 32 := BitVec.ofNat 32 (i 0).val
  let c0_i32 : BitVec 32 := 0#32
  let v0 : BitVec 1 := Scalar.cmpi .eq arg0 c0_i32
  let true_436 : BitVec 1 := 1#1
  let v1190 : BitVec 1 := Scalar.xori v0 true_436
  let v1191 : BitVec 32 := Scalar.extui v1190
  let c0_i32_437 : BitVec 32 := 0#32
  let v1192 : BitVec 1 := Scalar.cmpi .ne v1191 c0_i32_437
  v1192

def k0_cond26 (i : grid0.Coords) : BitVec 1 :=
  let arg0 : BitVec 32 := BitVec.ofNat 32 (i 0).val
  let c0_i32 : BitVec 32 := 0#32
  let v0 : BitVec 1 := Scalar.cmpi .eq arg0 c0_i32
  let v1193 : BitVec 32 := Scalar.extui v0
  let c0_i32_438 : BitVec 32 := 0#32
  let v1194 : BitVec 1 := Scalar.cmpi .ne v1193 c0_i32_438
  v1194

def k0_cond27 (i : grid0.Coords) : BitVec 1 :=
  let arg0 : BitVec 32 := BitVec.ofNat 32 (i 0).val
  let c0_i32 : BitVec 32 := 0#32
  let v0 : BitVec 1 := Scalar.cmpi .eq arg0 c0_i32
  let true_439 : BitVec 1 := 1#1
  let v1195 : BitVec 1 := Scalar.xori v0 true_439
  let v1196 : BitVec 32 := Scalar.extui v1195
  let c0_i32_440 : BitVec 32 := 0#32
  let v1197 : BitVec 1 := Scalar.cmpi .ne v1196 c0_i32_440
  v1197

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let v575 : BitVec 32 := Scalar.extui v0
  let c0_i32_226 : BitVec 32 := 0#32
  let v576 : BitVec 1 := Scalar.cmpi .ne v575 c0_i32_226
  v576

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let true_227 : BitVec 1 := 1#1
  let v577 : BitVec 1 := Scalar.xori v0 true_227
  let v578 : BitVec 32 := Scalar.extui v577
  let c0_i32_228 : BitVec 32 := 0#32
  let v579 : BitVec 1 := Scalar.cmpi .ne v578 c0_i32_228
  v579

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2688 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== GateIdeal.lean ====
variable {F : FTy → Type} [FloatOps F] [Named F]
def κ : String → Option EReal := fun
  | "cubic" => some ((8943 / 200000 : ℝ) : EReal)
  | "cubic_slope" => some ((26829 / 200000 : ℝ) : EReal)
  | _ => none
-- ==== GateRefIdeal.lean ====
abbrev S4096x512 : Shape := ⟨2, ![4096, 512]⟩
abbrev S4096x8 : Shape := ⟨2, ![4096, 8]⟩
abbrev S1x8 : Shape := ⟨2, ![1, 8]⟩
abbrev S1x64 : Shape := ⟨2, ![1, 64]⟩
abbrev S1x512 : Shape := ⟨2, ![1, 512]⟩
abbrev S8x128x128 : Shape := ⟨3, ![8, 128, 128]⟩
abbrev S8x128 : Shape := ⟨2, ![8, 128]⟩
abbrev S4096x8x64 : Shape := ⟨3, ![4096, 8, 64]⟩
abbrev S_ : Shape := ⟨0, ![]⟩
abbrev S4096x8x1 : Shape := ⟨3, ![4096, 8, 1]⟩
abbrev S1x1x64 : Shape := ⟨3, ![1, 1, 64]⟩
abbrev S4096 : Shape := ⟨1, ![4096]⟩
abbrev S4096x1 : Shape := ⟨2, ![4096, 1]⟩
abbrev S32x128x8x64 : Shape := ⟨4, ![32, 128, 8, 64]⟩
abbrev S128x128 : Shape := ⟨2, ![128, 128]⟩
abbrev S1x128x128 : Shape := ⟨3, ![1, 128, 128]⟩
abbrev S8x32x64x128 : Shape := ⟨4, ![8, 32, 64, 128]⟩
abbrev S128x8 : Shape := ⟨2, ![128, 8]⟩
abbrev S1x128x8x1 : Shape := ⟨4, ![1, 128, 8, 1]⟩
abbrev S512 : Shape := ⟨1, ![512]⟩
abbrev S8 : Shape := ⟨1, ![8]⟩
abbrev S64 : Shape := ⟨1, ![64]⟩
abbrev S4096x120 : Shape := ⟨2, ![4096, 120]⟩
abbrev S4096x2688 : Shape := ⟨2, ![4096, 2688]⟩
abbrev S1x120 : Shape := ⟨2, ![1, 120]⟩
abbrev S1x128 : Shape := ⟨2, ![1, 128]⟩

abbrev nBuf : Space → Nat
  | .hbm => 426
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x8, .f32⟩
  | 4 => ⟨S4096x512, .f32⟩
  | 5 => ⟨S4096x512, .f32⟩
  | 6 => ⟨S1x8, .f32⟩
  | 7 => ⟨S1x64, .f32⟩
  | 8 => ⟨S1x64, .f32⟩
  | 9 => ⟨S1x512, .f32⟩
  | 10 => ⟨S8x128x128, .f32⟩
  | 11 => ⟨S8x128, .f32⟩
  | 12 => ⟨S1x512, .f32⟩
  | 13 => ⟨S4096x8x64, .f32⟩
  | 14 => ⟨S4096x8x64, .f32⟩
  | 15 => ⟨S4096x8x64, .f32⟩
  | 16 => ⟨S4096x8, .f32⟩
  | 17 => ⟨S4096x8, .f32⟩
  | 18 => ⟨S4096x512, .f32⟩
  | 19 => ⟨S4096x8x64, .f32⟩
  | 20 => ⟨S4096x8x64, .f32⟩
  | 21 => ⟨S_, .f32⟩
  | 22 => ⟨S4096x8, .f32⟩
  | 23 => ⟨S4096x8x1, .f32⟩
  | 24 => ⟨S_, .f32⟩
  | 25 => ⟨S4096x8x1, .f32⟩
  | 26 => ⟨S4096x8x1, .f32⟩
  | 27 => ⟨S_, .f32⟩
  | 28 => ⟨S4096x8x1, .f32⟩
  | 29 => ⟨S4096x8x1, .f32⟩
  | 30 => ⟨S4096x8x1, .f32⟩
  | 31 => ⟨S4096x8x1, .f32⟩
  | 32 => ⟨S_, .f32⟩
  | 33 => ⟨S4096x8x1, .f32⟩
  | 34 => ⟨S4096x8x1, .f32⟩
  | 35 => ⟨S4096x8x64, .f32⟩
  | 36 => ⟨S4096x8x64, .f32⟩
  | 37 => ⟨S1x1x64, .f32⟩
  | 38 => ⟨S4096x8x64, .f32⟩
  | 39 => ⟨S4096x8x64, .f32⟩
  | 40 => ⟨S_, .f32⟩
  | 41 => ⟨S4096x8x64, .f32⟩
  | 42 => ⟨S4096x8x64, .f32⟩
  | 43 => ⟨S4096x8x64, .f32⟩
  | 44 => ⟨S4096x8x64, .f32⟩
  | 45 => ⟨S_, .f32⟩
  | 46 => ⟨S4096x8, .f32⟩
  | 47 => ⟨S4096x8x1, .f32⟩
  | 48 => ⟨S_, .f32⟩
  | 49 => ⟨S4096x8x1, .f32⟩
  | 50 => ⟨S4096x8x1, .f32⟩
  | 51 => ⟨S_, .f32⟩
  | 52 => ⟨S4096x8x1, .f32⟩
  | 53 => ⟨S4096x8x1, .f32⟩
  | 54 => ⟨S4096x8x1, .f32⟩
  | 55 => ⟨S4096x8x1, .f32⟩
  | 56 => ⟨S_, .f32⟩
  | 57 => ⟨S4096x8x1, .f32⟩
  | 58 => ⟨S4096x8x1, .f32⟩
  | 59 => ⟨S4096x8x64, .f32⟩
  | 60 => ⟨S4096x8x64, .f32⟩
  | 61 => ⟨S1x1x64, .f32⟩
  | 62 => ⟨S4096x8x64, .f32⟩
  | 63 => ⟨S4096x8x64, .f32⟩
  | 64 => ⟨S4096x8, .f32⟩
  | 65 => ⟨S4096x8, .f32⟩
  | 66 => ⟨S4096x8, .f32⟩
  | 67 => ⟨S_, .f32⟩
  | 68 => ⟨S4096x8, .f32⟩
  | 69 => ⟨S4096x8, .f32⟩
  | 70 => ⟨S4096x8, .f32⟩
  | 71 => ⟨S4096x8, .f32⟩
  | 72 => ⟨S4096x8, .i1⟩
  | 73 => ⟨S4096x8, .f32⟩
  | 74 => ⟨S4096x8, .f32⟩
  | 75 => ⟨S4096x8, .f32⟩
  | 76 => ⟨S4096x8, .f32⟩
  | 77 => ⟨S4096x8, .f32⟩
  | 78 => ⟨S4096x8, .f32⟩
  | 79 => ⟨S4096x8, .f32⟩
  | 80 => ⟨S4096x8, .f32⟩
  | 81 => ⟨S_, .f32⟩
  | 82 => ⟨S4096x8, .f32⟩
  | 83 => ⟨S4096x8, .i1⟩
  | 84 => ⟨S_, .f32⟩
  | 85 => ⟨S4096x8, .f32⟩
  | 86 => ⟨S4096x8, .f32⟩
  | 87 => ⟨S_, .f32⟩
  | 88 => ⟨S4096x8, .f32⟩
  | 89 => ⟨S4096x8, .i1⟩
  | 90 => ⟨S_, .f32⟩
  | 91 => ⟨S4096x8, .f32⟩
  | 92 => ⟨S4096x8, .f32⟩
  | 93 => ⟨S4096x8, .f32⟩
  | 94 => ⟨S4096x8, .f32⟩
  | 95 => ⟨S_, .f32⟩
  | 96 => ⟨S_, .f32⟩
  | 97 => ⟨S_, .i1⟩
  | 98 => ⟨S_, .f32⟩
  | 99 => ⟨S_, .f32⟩
  | 100 => ⟨S_, .f32⟩
  | 101 => ⟨S_, .f32⟩
  | 102 => ⟨S4096x8, .f32⟩
  | 103 => ⟨S4096x8, .i1⟩
  | 104 => ⟨S_, .f32⟩
  | 105 => ⟨S4096x8, .f32⟩
  | 106 => ⟨S4096x8, .f32⟩
  | 107 => ⟨S4096x8, .f32⟩
  | 108 => ⟨S4096x8, .f32⟩
  | 109 => ⟨S4096x8, .f32⟩
  | 110 => ⟨S_, .f32⟩
  | 111 => ⟨S4096x8, .f32⟩
  | 112 => ⟨S4096x8, .f32⟩
  | 113 => ⟨S4096x8, .f32⟩
  | 114 => ⟨S_, .f32⟩
  | 115 => ⟨S_, .f32⟩
  | 116 => ⟨S4096x8, .f32⟩
  | 117 => ⟨S4096x8x64, .f32⟩
  | 118 => ⟨S4096x512, .f32⟩
  | 119 => ⟨S4096x512, .f32⟩
  | 120 => ⟨S4096x512, .f32⟩
  | 121 => ⟨S_, .f32⟩
  | 122 => ⟨S4096x512, .f32⟩
  | 123 => ⟨S4096x512, .f32⟩
  | 124 => ⟨S_, .f32⟩
  | 125 => ⟨S4096x512, .f32⟩
  | 126 => ⟨S4096x512, .f32⟩
  | 127 => ⟨S_, .f32⟩
  | _ => ⟨S4096x512, .f32⟩

abbrev hbmTy0_1 (i : Nat) : BufTy := match i % 128 with
  | 0 => ⟨S4096x512, .f32⟩
  | 1 => ⟨S4096x512, .f32⟩
  | 2 => ⟨S4096x512, .f32⟩
  | 3 => ⟨S_, .f32⟩
  | 4 => ⟨S4096x512, .f32⟩
  | 5 => ⟨S4096x512, .f32⟩
  | 6 => ⟨S4096x512, .f32⟩
  | 7 => ⟨S_, .f32⟩
  | 8 => ⟨S4096x512, .f32⟩
  | 9 => ⟨S4096x512, .f32⟩
  | 10 => ⟨S_, .f32⟩
  | 11 => ⟨S4096x512, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S4096x512, .f32⟩
  | 21 => ⟨S4096x512, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S_, .f32⟩
  | 31 => ⟨S4096x512, .f32⟩
  | 32 => ⟨S4096x512, .f32⟩
  | 33 => ⟨S4096x512, .f32⟩
  | 34 => ⟨S_, .f32⟩
  | 35 => ⟨S4096x512, .f32⟩
  | 36 => ⟨S4096x512, .f32⟩
  | 37 => ⟨S4096x512, .f32⟩
  | 38 => ⟨S_, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S4096x512, .f32⟩
  | 45 => ⟨S_, .f32⟩
  | 46 => ⟨S4096x512, .f32⟩
  | 47 => ⟨S4096x512, .f32⟩
  | 48 => ⟨S_, .f32⟩
  | 49 => ⟨S4096x512, .f32⟩
  | 50 => ⟨S4096x512, .f32⟩
  | 51 => ⟨S4096x512, .f32⟩
  | 52 => ⟨S4096x512, .f32⟩
  | 53 => ⟨S_, .f32⟩
  | 54 => ⟨S4096, .f32⟩
  | 55 => ⟨S4096x1, .f32⟩
  | 56 => ⟨S_, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x512, .f32⟩
  | 68 => ⟨S4096x512, .f32⟩
  | 69 => ⟨S4096x512, .f32⟩
  | 70 => ⟨S4096x512, .f32⟩
  | 71 => ⟨S4096x8x64, .f32⟩
  | 72 => ⟨S4096x8x64, .f32⟩
  | 73 => ⟨S32x128x8x64, .f32⟩
  | 74 => ⟨S_, .i1⟩
  | 75 => ⟨S128x128, .i1⟩
  | 76 => ⟨S128x128, .i32⟩
  | 77 => ⟨S_, .i32⟩
  | 78 => ⟨S128x128, .i32⟩
  | 79 => ⟨S128x128, .i32⟩
  | 80 => ⟨S128x128, .i32⟩
  | 81 => ⟨S128x128, .i1⟩
  | 82 => ⟨S_, .i1⟩
  | 83 => ⟨S128x128, .i1⟩
  | 84 => ⟨S128x128, .i1⟩
  | 85 => ⟨S1x128x128, .i1⟩
  | 86 => ⟨S_, .f32⟩
  | 87 => ⟨S8x128x128, .f32⟩
  | 88 => ⟨S8x128x128, .i1⟩
  | 89 => ⟨S8x128x128, .f32⟩
  | 90 => ⟨S_, .f32⟩
  | 91 => ⟨S8x128x128, .f32⟩
  | 92 => ⟨S8x32x64x128, .f32⟩
  | 93 => ⟨S32x128x8x64, .f32⟩
  | 94 => ⟨S128x8, .f32⟩
  | 95 => ⟨S1x128x8x1, .f32⟩
  | 96 => ⟨S32x128x8x64, .f32⟩
  | 97 => ⟨S32x128x8x64, .f32⟩
  | 98 => ⟨S4096x8x64, .f32⟩
  | 99 => ⟨S4096x8x64, .f32⟩
  | 100 => ⟨S4096x512, .f32⟩
  | 101 => ⟨S4096x512, .f32⟩
  | 102 => ⟨S_, .f32⟩
  | 103 => ⟨S4096, .f32⟩
  | 104 => ⟨S4096x1, .f32⟩
  | 105 => ⟨S_, .f32⟩
  | 106 => ⟨S4096x1, .f32⟩
  | 107 => ⟨S4096x1, .f32⟩
  | 108 => ⟨S_, .f32⟩
  | 109 => ⟨S4096x1, .f32⟩
  | 110 => ⟨S4096x1, .f32⟩
  | 111 => ⟨S4096x1, .f32⟩
  | 112 => ⟨S4096x1, .f32⟩
  | 113 => ⟨S_, .f32⟩
  | 114 => ⟨S4096x1, .f32⟩
  | 115 => ⟨S4096x1, .f32⟩
  | 116 => ⟨S4096x512, .f32⟩
  | 117 => ⟨S4096x512, .f32⟩
  | 118 => ⟨S4096x512, .f32⟩
  | 119 => ⟨S4096x512, .f32⟩
  | 120 => ⟨S4096x8, .f32⟩
  | 121 => ⟨S4096x512, .f32⟩
  | 122 => ⟨S_, .f32⟩
  | 123 => ⟨S512, .f32⟩
  | 124 => ⟨S1x512, .f32⟩
  | 125 => ⟨S4096x512, .f32⟩
  | 126 => ⟨S4096x512, .f32⟩
  | 127 => ⟨S4096x512, .f32⟩
  | _ => ⟨S4096x512, .f32⟩

abbrev hbmTy0_2 (i : Nat) : BufTy := match i % 128 with
  | 0 => ⟨S_, .f32⟩
  | 1 => ⟨S4096, .f32⟩
  | 2 => ⟨S4096x1, .f32⟩
  | 3 => ⟨S4096x512, .f32⟩
  | 4 => ⟨S4096x512, .f32⟩
  | 5 => ⟨S4096x1, .f32⟩
  | 6 => ⟨S_, .f32⟩
  | 7 => ⟨S4096x1, .f32⟩
  | 8 => ⟨S4096x1, .f32⟩
  | 9 => ⟨S_, .f32⟩
  | 10 => ⟨S4096, .f32⟩
  | 11 => ⟨S4096x512, .f32⟩
  | 12 => ⟨S4096x512, .f32⟩
  | 13 => ⟨S4096x512, .f32⟩
  | 14 => ⟨S4096x512, .f32⟩
  | 15 => ⟨S4096x512, .f32⟩
  | 16 => ⟨S4096x8x64, .f32⟩
  | 17 => ⟨S4096x8x64, .f32⟩
  | 18 => ⟨S4096x8x64, .f32⟩
  | 19 => ⟨S32x128x8x64, .f32⟩
  | 20 => ⟨S_, .f32⟩
  | 21 => ⟨S128x8, .f32⟩
  | 22 => ⟨S1x128x8x1, .f32⟩
  | 23 => ⟨S_, .f32⟩
  | 24 => ⟨S128x8, .f32⟩
  | 25 => ⟨S8x128, .f32⟩
  | 26 => ⟨S8x32x64x128, .f32⟩
  | 27 => ⟨S8x128x128, .f32⟩
  | 28 => ⟨S8x32x64x128, .f32⟩
  | 29 => ⟨S32x128x8x64, .f32⟩
  | 30 => ⟨S_, .f32⟩
  | 31 => ⟨S8x128x128, .f32⟩
  | 32 => ⟨S8x128x128, .f32⟩
  | 33 => ⟨S4096x8x64, .f32⟩
  | 34 => ⟨S4096x512, .f32⟩
  | 35 => ⟨S4096x512, .f32⟩
  | 36 => ⟨S4096x512, .f32⟩
  | 37 => ⟨S_, .f32⟩
  | 38 => ⟨S512, .f32⟩
  | 39 => ⟨S1x512, .f32⟩
  | 40 => ⟨S4096x512, .f32⟩
  | 41 => ⟨S4096x512, .f32⟩
  | 42 => ⟨S4096x512, .f32⟩
  | 43 => ⟨S_, .f32⟩
  | 44 => ⟨S4096, .f32⟩
  | 45 => ⟨S4096x1, .f32⟩
  | 46 => ⟨S4096x512, .f32⟩
  | 47 => ⟨S4096x512, .f32⟩
  | 48 => ⟨S4096x1, .f32⟩
  | 49 => ⟨S_, .f32⟩
  | 50 => ⟨S4096x1, .f32⟩
  | 51 => ⟨S4096x1, .f32⟩
  | 52 => ⟨S_, .f32⟩
  | 53 => ⟨S4096, .f32⟩
  | 54 => ⟨S4096x512, .f32⟩
  | 55 => ⟨S4096x512, .f32⟩
  | 56 => ⟨S4096x512, .f32⟩
  | 57 => ⟨S4096x512, .f32⟩
  | 58 => ⟨S4096x512, .f32⟩
  | 59 => ⟨S4096x512, .f32⟩
  | 60 => ⟨S4096x512, .f32⟩
  | 61 => ⟨S_, .f32⟩
  | 62 => ⟨S4096x512, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S_, .f32⟩
  | 73 => ⟨S4096x512, .f32⟩
  | 74 => ⟨S4096x512, .f32⟩
  | 75 => ⟨S4096x512, .f32⟩
  | 76 => ⟨S4096x512, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S4096x512, .f32⟩
  | 83 => ⟨S_, .f32⟩
  | 84 => ⟨S4096x512, .f32⟩
  | 85 => ⟨S4096x512, .f32⟩
  | 86 => ⟨S4096x512, .f32⟩
  | 87 => ⟨S_, .f32⟩
  | 88 => ⟨S4096x512, .f32⟩
  | 89 => ⟨S4096x512, .f32⟩
  | 90 => ⟨S_, .f32⟩
  | 91 => ⟨S4096x512, .f32⟩
  | 92 => ⟨S4096x512, .f32⟩
  | 93 => ⟨S4096x512, .f32⟩
  | 94 => ⟨S4096x512, .f32⟩
  | 95 => ⟨S4096x512, .f32⟩
  | 96 => ⟨S_, .f32⟩
  | 97 => ⟨S_, .f32⟩
  | 98 => ⟨S4096x8, .f32⟩
  | 99 => ⟨S4096x8, .f32⟩
  | 100 => ⟨S4096x8, .f32⟩
  | 101 => ⟨S4096x8, .f32⟩
  | 102 => ⟨S_, .f32⟩
  | 103 => ⟨S8, .f32⟩
  | 104 => ⟨S1x8, .f32⟩
  | 105 => ⟨S4096x8x64, .f32⟩
  | 106 => ⟨S_, .f32⟩
  | 107 => ⟨S64, .f32⟩
  | 108 => ⟨S1x1x64, .f32⟩
  | 109 => ⟨S4096x8x64, .f32⟩
  | 110 => ⟨S4096x8x64, .f32⟩
  | 111 => ⟨S_, .f32⟩
  | 112 => ⟨S64, .f32⟩
  | 113 => ⟨S1x64, .f32⟩
  | 114 => ⟨S4096x8x64, .f32⟩
  | 115 => ⟨S_, .f32⟩
  | 116 => ⟨S4096x8, .f32⟩
  | 117 => ⟨S4096x8x1, .f32⟩
  | 118 => ⟨S4096x8x64, .f32⟩
  | 119 => ⟨S4096x8x64, .f32⟩
  | 120 => ⟨S4096x8x1, .f32⟩
  | 121 => ⟨S_, .f32⟩
  | 122 => ⟨S4096x8x1, .f32⟩
  | 123 => ⟨S4096x8x1, .f32⟩
  | 124 => ⟨S_, .f32⟩
  | 125 => ⟨S4096x8, .f32⟩
  | 126 => ⟨S4096x8x64, .f32⟩
  | 127 => ⟨S4096x8x64, .f32⟩
  | _ => ⟨S4096x512, .f32⟩

abbrev hbmTy0_3 (i : Nat) : BufTy := match i % 128 with
  | 0 => ⟨S4096x8x64, .f32⟩
  | 1 => ⟨S4096x8x64, .f32⟩
  | 2 => ⟨S4096x8x64, .f32⟩
  | 3 => ⟨S4096x512, .f32⟩
  | 4 => ⟨S_, .f32⟩
  | 5 => ⟨S4096x8x64, .f32⟩
  | 6 => ⟨S4096x8x64, .f32⟩
  | 7 => ⟨S4096x8x64, .f32⟩
  | 8 => ⟨S_, .f32⟩
  | 9 => ⟨S64, .f32⟩
  | 10 => ⟨S1x1x64, .f32⟩
  | 11 => ⟨S4096x8x64, .f32⟩
  | 12 => ⟨S4096x8x64, .f32⟩
  | 13 => ⟨S_, .f32⟩
  | 14 => ⟨S64, .f32⟩
  | 15 => ⟨S1x64, .f32⟩
  | 16 => ⟨S4096x8x64, .f32⟩
  | 17 => ⟨S_, .f32⟩
  | 18 => ⟨S4096x8, .f32⟩
  | 19 => ⟨S4096x8x1, .f32⟩
  | 20 => ⟨S4096x8x64, .f32⟩
  | 21 => ⟨S4096x8x64, .f32⟩
  | 22 => ⟨S4096x8x1, .f32⟩
  | 23 => ⟨S_, .f32⟩
  | 24 => ⟨S4096x8x1, .f32⟩
  | 25 => ⟨S4096x8x1, .f32⟩
  | 26 => ⟨S_, .f32⟩
  | 27 => ⟨S4096x8, .f32⟩
  | 28 => ⟨S4096x8x64, .f32⟩
  | 29 => ⟨S4096x8x64, .f32⟩
  | 30 => ⟨S4096x8x64, .f32⟩
  | 31 => ⟨S4096x8x64, .f32⟩
  | 32 => ⟨S4096x8x64, .f32⟩
  | 33 => ⟨S4096x512, .f32⟩
  | 34 => ⟨S_, .f32⟩
  | 35 => ⟨S4096x120, .f32⟩
  | 36 => ⟨S4096x2688, .f32⟩
  | 37 => ⟨S4096x2688, .bf16⟩
  | 38 => ⟨S128x8, .f32⟩
  | 39 => ⟨S_, .f32⟩
  | 40 => ⟨S1x120, .f32⟩
  | 41 => ⟨S1x128, .f32⟩
  | _ => ⟨S4096x512, .f32⟩

abbrev hbmTy (i : Nat) : BufTy := match i / 128 with
  | 0 => hbmTy0_0 i
  | 1 => hbmTy0_1 i
  | 2 => hbmTy0_2 i
  | 3 => hbmTy0_3 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_cst_1 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_4 : Ref sig .tc := ⟨.hbm, 45, rfl⟩
abbrev main_v21 : Ref sig .tc := ⟨.hbm, 46, rfl⟩
abbrev main_v22 : Ref sig .tc := ⟨.hbm, 47, rfl⟩
abbrev main_cst_5 : Ref sig .tc := ⟨.hbm, 48, rfl⟩
abbrev main_v23 : Ref sig .tc := ⟨.hbm, 49, rfl⟩
abbrev main_v24 : Ref sig .tc := ⟨.hbm, 50, rfl⟩
abbrev main_cst_6 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_call0_v0 : Ref sig .tc := ⟨.hbm, 66, rfl⟩
abbrev main_call0_call0_cst : Ref sig .tc := ⟨.hbm, 67, rfl⟩
abbrev main_call0_call0_v0 : Ref sig .tc := ⟨.hbm, 68, rfl⟩
abbrev main_call0_call0_v1 : Ref sig .tc := ⟨.hbm, 69, rfl⟩
abbrev main_call0_call0_v2 : Ref sig .tc := ⟨.hbm, 70, rfl⟩
abbrev main_call0_call0_v3 : Ref sig .tc := ⟨.hbm, 71, rfl⟩
abbrev main_call0_call0_v4 : Ref sig .tc := ⟨.hbm, 72, rfl⟩
abbrev main_call0_call0_v5 : Ref sig .tc := ⟨.hbm, 73, rfl⟩
abbrev main_call0_call0_v6 : Ref sig .tc := ⟨.hbm, 74, rfl⟩
abbrev main_call0_call0_v7 : Ref sig .tc := ⟨.hbm, 75, rfl⟩
abbrev main_call0_call0_v8 : Ref sig .tc := ⟨.hbm, 76, rfl⟩
abbrev main_call0_call0_v9 : Ref sig .tc := ⟨.hbm, 77, rfl⟩
abbrev main_call0_call0_v10 : Ref sig .tc := ⟨.hbm, 78, rfl⟩
abbrev main_call0_call0_v11 : Ref sig .tc := ⟨.hbm, 79, rfl⟩
abbrev main_call0_v1_0 : Ref sig .tc := ⟨.hbm, 80, rfl⟩
abbrev main_call0_call0_cst_0 : Ref sig .tc := ⟨.hbm, 81, rfl⟩
abbrev main_call0_call0_v13 : Ref sig .tc := ⟨.hbm, 82, rfl⟩
abbrev main_call0_call0_v14 : Ref sig .tc := ⟨.hbm, 83, rfl⟩
abbrev main_call0_call0_cst_1 : Ref sig .tc := ⟨.hbm, 84, rfl⟩
abbrev main_call0_call0_v15 : Ref sig .tc := ⟨.hbm, 85, rfl⟩
abbrev main_call0_call0_v16 : Ref sig .tc := ⟨.hbm, 86, rfl⟩
abbrev main_call0_call0_cst_2 : Ref sig .tc := ⟨.hbm, 87, rfl⟩
abbrev main_call0_call0_v17 : Ref sig .tc := ⟨.hbm, 88, rfl⟩
abbrev main_call0_call0_v18 : Ref sig .tc := ⟨.hbm, 89, rfl⟩
abbrev main_call0_call0_cst_3 : Ref sig .tc := ⟨.hbm, 90, rfl⟩
abbrev main_call0_call0_v19 : Ref sig .tc := ⟨.hbm, 91, rfl⟩
abbrev main_call0_call0_v20 : Ref sig .tc := ⟨.hbm, 92, rfl⟩
abbrev main_call0_call0_v21 : Ref sig .tc := ⟨.hbm, 93, rfl⟩
abbrev main_v38_1 : Ref sig .tc := ⟨.hbm, 94, rfl⟩
abbrev main_call0_call0_cst_4 : Ref sig .tc := ⟨.hbm, 95, rfl⟩
abbrev main_call0_call0_cst_5 : Ref sig .tc := ⟨.hbm, 96, rfl⟩
abbrev main_call0_call0_v23 : Ref sig .tc := ⟨.hbm, 97, rfl⟩
abbrev main_call0_call0_cst_6 : Ref sig .tc := ⟨.hbm, 98, rfl⟩
abbrev main_call0_call0_cst_7 : Ref sig .tc := ⟨.hbm, 99, rfl⟩
abbrev main_call0_call0_v24 : Ref sig .tc := ⟨.hbm, 100, rfl⟩
abbrev main_call0_call0_cst_8 : Ref sig .tc := ⟨.hbm, 101, rfl⟩
abbrev main_call0_call0_v25 : Ref sig .tc := ⟨.hbm, 102, rfl⟩
abbrev main_call0_call0_v26 : Ref sig .tc := ⟨.hbm, 103, rfl⟩
abbrev main_call0_call0_cst_9 : Ref sig .tc := ⟨.hbm, 104, rfl⟩
abbrev main_call0_call0_v27 : Ref sig .tc := ⟨.hbm, 105, rfl⟩
abbrev main_call0_call0_v28 : Ref sig .tc := ⟨.hbm, 106, rfl⟩
abbrev main_call0_call0_v29 : Ref sig .tc := ⟨.hbm, 107, rfl⟩
abbrev main_call0_call0_v30 : Ref sig .tc := ⟨.hbm, 108, rfl⟩
abbrev main_call0_call0_v31 : Ref sig .tc := ⟨.hbm, 109, rfl⟩
abbrev main_call0_call0_cst_10 : Ref sig .tc := ⟨.hbm, 110, rfl⟩
abbrev main_call0_call0_v32 : Ref sig .tc := ⟨.hbm, 111, rfl⟩
abbrev main_v38_2 : Ref sig .tc := ⟨.hbm, 112, rfl⟩
abbrev main_v38_0 : Ref sig .tc := ⟨.hbm, 113, rfl⟩
abbrev main_call1_call0_cst : Ref sig .tc := ⟨.hbm, 114, rfl⟩
abbrev main_call1_call0_v0 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_cst_8 : Ref sig .tc := ⟨.hbm, 121, rfl⟩
abbrev main_v44 : Ref sig .tc := ⟨.hbm, 122, rfl⟩
abbrev main_v45 : Ref sig .tc := ⟨.hbm, 123, rfl⟩
abbrev main_cst_9 : Ref sig .tc := ⟨.hbm, 124, rfl⟩
abbrev main_v46 : Ref sig .tc := ⟨.hbm, 125, rfl⟩
abbrev main_v47 : Ref sig .tc := ⟨.hbm, 126, rfl⟩
abbrev main_cst_10 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_cst_11 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_cst_12 : Ref sig .tc := ⟨.hbm, 135, rfl⟩
abbrev main_v54 : Ref sig .tc := ⟨.hbm, 136, rfl⟩
abbrev main_v55 : Ref sig .tc := ⟨.hbm, 137, rfl⟩
abbrev main_cst_13 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_cst_14 : Ref sig .tc := ⟨.hbm, 142, rfl⟩
abbrev main_v59 : Ref sig .tc := ⟨.hbm, 143, rfl⟩
abbrev main_v60 : Ref sig .tc := ⟨.hbm, 144, rfl⟩
abbrev main_cst_15 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_cst_16 : Ref sig .tc := ⟨.hbm, 152, rfl⟩
abbrev main_v67 : Ref sig .tc := ⟨.hbm, 153, rfl⟩
abbrev main_v68 : Ref sig .tc := ⟨.hbm, 154, rfl⟩
abbrev main_cst_17 : Ref sig .tc := ⟨.hbm, 155, rfl⟩
abbrev main_v69 : Ref sig .tc := ⟨.hbm, 156, rfl⟩
abbrev main_v70 : Ref sig .tc := ⟨.hbm, 157, rfl⟩
abbrev main_cst_18 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_cst_19 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_cst_20 : Ref sig .tc := ⟨.hbm, 166, rfl⟩
abbrev main_v77 : Ref sig .tc := ⟨.hbm, 167, rfl⟩
abbrev main_v78 : Ref sig .tc := ⟨.hbm, 168, rfl⟩
abbrev main_cst_21 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_cst_22 : Ref sig .tc := ⟨.hbm, 173, rfl⟩
abbrev main_v82 : Ref sig .tc := ⟨.hbm, 174, rfl⟩
abbrev main_v83 : Ref sig .tc := ⟨.hbm, 175, rfl⟩
abbrev main_cst_23 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_cst_24 : Ref sig .tc := ⟨.hbm, 181, rfl⟩
abbrev main_v88 : Ref sig .tc := ⟨.hbm, 182, rfl⟩
abbrev main_v89 : Ref sig .tc := ⟨.hbm, 183, rfl⟩
abbrev main_cst_25 : Ref sig .tc := ⟨.hbm, 184, rfl⟩
abbrev main_v90 : Ref sig .tc := ⟨.hbm, 185, rfl⟩
abbrev main_v91 : Ref sig .tc := ⟨.hbm, 186, rfl⟩
abbrev main_cst_26 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_cst_27 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_c : Ref sig .tc := ⟨.hbm, 202, rfl⟩
abbrev main_v105 : Ref sig .tc := ⟨.hbm, 203, rfl⟩
abbrev main_call2_v0 : Ref sig .tc := ⟨.hbm, 204, rfl⟩
abbrev main_call2_c : Ref sig .tc := ⟨.hbm, 205, rfl⟩
abbrev main_call2_v1 : Ref sig .tc := ⟨.hbm, 206, rfl⟩
abbrev main_call2_v2 : Ref sig .tc := ⟨.hbm, 207, rfl⟩
abbrev main_call2_v3 : Ref sig .tc := ⟨.hbm, 208, rfl⟩
abbrev main_call2_v4 : Ref sig .tc := ⟨.hbm, 209, rfl⟩
abbrev main_call2_c_0 : Ref sig .tc := ⟨.hbm, 210, rfl⟩
abbrev main_call2_v5 : Ref sig .tc := ⟨.hbm, 211, rfl⟩
abbrev main_v106 : Ref sig .tc := ⟨.hbm, 212, rfl⟩
abbrev main_v107 : Ref sig .tc := ⟨.hbm, 213, rfl⟩
abbrev main_cst_28 : Ref sig .tc := ⟨.hbm, 214, rfl⟩
abbrev main_v108 : Ref sig .tc := ⟨.hbm, 215, rfl⟩
abbrev main_v109_1 : Ref sig .tc := ⟨.hbm, 216, rfl⟩
abbrev main_v109_0 : Ref sig .tc := ⟨.hbm, 217, rfl⟩
abbrev main_call3_cst : Ref sig .tc := ⟨.hbm, 218, rfl⟩
abbrev main_v109_2 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_cst_29 : Ref sig .tc := ⟨.hbm, 230, rfl⟩
abbrev main_v120 : Ref sig .tc := ⟨.hbm, 231, rfl⟩
abbrev main_v121 : Ref sig .tc := ⟨.hbm, 232, rfl⟩
abbrev main_cst_30 : Ref sig .tc := ⟨.hbm, 233, rfl⟩
abbrev main_v122 : Ref sig .tc := ⟨.hbm, 234, rfl⟩
abbrev main_v123 : Ref sig .tc := ⟨.hbm, 235, rfl⟩
abbrev main_cst_31 : Ref sig .tc := ⟨.hbm, 236, rfl⟩
abbrev main_v124 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_cst_32 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_cst_33 : Ref sig .tc := ⟨.hbm, 250, rfl⟩
abbrev main_v136 : Ref sig .tc := ⟨.hbm, 251, rfl⟩
abbrev main_v137 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_cst_34 : Ref sig .tc := ⟨.hbm, 256, rfl⟩
abbrev main_v141 : Ref sig .tc := ⟨.hbm, 257, rfl⟩
abbrev main_v142 : Ref sig .tc := ⟨.hbm, 258, rfl⟩
abbrev main_v143 : Ref sig .tc := ⟨.hbm, 259, rfl⟩
abbrev main_v144 : Ref sig .tc := ⟨.hbm, 260, rfl⟩
abbrev main_v145 : Ref sig .tc := ⟨.hbm, 261, rfl⟩
abbrev main_cst_35 : Ref sig .tc := ⟨.hbm, 262, rfl⟩
abbrev main_v146 : Ref sig .tc := ⟨.hbm, 263, rfl⟩
abbrev main_v147 : Ref sig .tc := ⟨.hbm, 264, rfl⟩
abbrev main_cst_36 : Ref sig .tc := ⟨.hbm, 265, rfl⟩
abbrev main_v148 : Ref sig .tc := ⟨.hbm, 266, rfl⟩
abbrev main_v149 : Ref sig .tc := ⟨.hbm, 267, rfl⟩
abbrev main_v150 : Ref sig .tc := ⟨.hbm, 268, rfl⟩
abbrev main_v151 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_cst_37 : Ref sig .tc := ⟨.hbm, 276, rfl⟩
abbrev main_v158 : Ref sig .tc := ⟨.hbm, 277, rfl⟩
abbrev main_v159 : Ref sig .tc := ⟨.hbm, 278, rfl⟩
abbrev main_cst_38 : Ref sig .tc := ⟨.hbm, 279, rfl⟩
abbrev main_v160 : Ref sig .tc := ⟨.hbm, 280, rfl⟩
abbrev main_v161 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_call4_cst : Ref sig .tc := ⟨.hbm, 286, rfl⟩
abbrev main_call4_v0 : Ref sig .tc := ⟨.hbm, 287, rfl⟩
abbrev main_v166 : Ref sig .tc := ⟨.hbm, 288, rfl⟩
abbrev main_v167 : Ref sig .tc := ⟨.hbm, 289, rfl⟩
abbrev main_v168 : Ref sig .tc := ⟨.hbm, 290, rfl⟩
abbrev main_v169 : Ref sig .tc := ⟨.hbm, 291, rfl⟩
abbrev main_v170 : Ref sig .tc := ⟨.hbm, 292, rfl⟩
abbrev main_cst_39 : Ref sig .tc := ⟨.hbm, 293, rfl⟩
abbrev main_v171 : Ref sig .tc := ⟨.hbm, 294, rfl⟩
abbrev main_v172 : Ref sig .tc := ⟨.hbm, 295, rfl⟩
abbrev main_v173 : Ref sig .tc := ⟨.hbm, 296, rfl⟩
abbrev main_v174 : Ref sig .tc := ⟨.hbm, 297, rfl⟩
abbrev main_v175 : Ref sig .tc := ⟨.hbm, 298, rfl⟩
abbrev main_cst_40 : Ref sig .tc := ⟨.hbm, 299, rfl⟩
abbrev main_v176 : Ref sig .tc := ⟨.hbm, 300, rfl⟩
abbrev main_v177 : Ref sig .tc := ⟨.hbm, 301, rfl⟩
abbrev main_v178 : Ref sig .tc := ⟨.hbm, 302, rfl⟩
abbrev main_v179 : Ref sig .tc := ⟨.hbm, 303, rfl⟩
abbrev main_v180 : Ref sig .tc := ⟨.hbm, 304, rfl⟩
abbrev main_cst_41 : Ref sig .tc := ⟨.hbm, 305, rfl⟩
abbrev main_v181 : Ref sig .tc := ⟨.hbm, 306, rfl⟩
abbrev main_v182 : Ref sig .tc := ⟨.hbm, 307, rfl⟩
abbrev main_cst_42 : Ref sig .tc := ⟨.hbm, 308, rfl⟩
abbrev main_v183 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_v187 : Ref sig .tc := ⟨.hbm, 313, rfl⟩
abbrev main_v188 : Ref sig .tc := ⟨.hbm, 314, rfl⟩
abbrev main_v189 : Ref sig .tc := ⟨.hbm, 315, rfl⟩
abbrev main_v190 : Ref sig .tc := ⟨.hbm, 316, rfl⟩
abbrev main_cst_43 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_cst_44 : Ref sig .tc := ⟨.hbm, 321, rfl⟩
abbrev main_v194 : Ref sig .tc := ⟨.hbm, 322, rfl⟩
abbrev main_v195 : Ref sig .tc := ⟨.hbm, 323, rfl⟩
abbrev main_v196 : Ref sig .tc := ⟨.hbm, 324, rfl⟩
abbrev main_cst_45 : Ref sig .tc := ⟨.hbm, 325, rfl⟩
abbrev main_v197 : Ref sig .tc := ⟨.hbm, 326, rfl⟩
abbrev main_v198 : Ref sig .tc := ⟨.hbm, 327, rfl⟩
abbrev main_cst_46 : Ref sig .tc := ⟨.hbm, 328, rfl⟩
abbrev main_v199 : Ref sig .tc := ⟨.hbm, 329, rfl⟩
abbrev main_v200 : Ref sig .tc := ⟨.hbm, 330, rfl⟩
abbrev main_v201 : Ref sig .tc := ⟨.hbm, 331, rfl⟩
abbrev main_v202 : Ref sig .tc := ⟨.hbm, 332, rfl⟩
abbrev main_v203 : Ref sig .tc := ⟨.hbm, 333, rfl⟩
abbrev main_v204 : Ref sig .tc := ⟨.hbm, 334, rfl⟩
abbrev main_cst_47 : Ref sig .tc := ⟨.hbm, 335, rfl⟩
abbrev main_v205 : Ref sig .tc := ⟨.hbm, 336, rfl⟩
abbrev main_v206 : Ref sig .tc := ⟨.hbm, 337, rfl⟩
abbrev main_v207 : Ref sig .tc := ⟨.hbm, 338, rfl⟩
abbrev main_cst_48 : Ref sig .tc := ⟨.hbm, 339, rfl⟩
abbrev main_v208 : Ref sig .tc := ⟨.hbm, 340, rfl⟩
abbrev main_v209 : Ref sig .tc := ⟨.hbm, 341, rfl⟩
abbrev main_v210 : Ref sig .tc := ⟨.hbm, 342, rfl⟩
abbrev main_cst_49 : Ref sig .tc := ⟨.hbm, 343, rfl⟩
abbrev main_v211 : Ref sig .tc := ⟨.hbm, 344, rfl⟩
abbrev main_v212 : Ref sig .tc := ⟨.hbm, 345, rfl⟩
abbrev main_cst_50 : Ref sig .tc := ⟨.hbm, 346, rfl⟩
abbrev main_v213 : Ref sig .tc := ⟨.hbm, 347, rfl⟩
abbrev main_v214 : Ref sig .tc := ⟨.hbm, 348, rfl⟩
abbrev main_v215 : Ref sig .tc := ⟨.hbm, 349, rfl⟩
abbrev main_v216 : Ref sig .tc := ⟨.hbm, 350, rfl⟩
abbrev main_v217 : Ref sig .tc := ⟨.hbm, 351, rfl⟩
abbrev main_call5_call0_cst : Ref sig .tc := ⟨.hbm, 352, rfl⟩
abbrev main_call5_call0_v0 : Ref sig .tc := ⟨.hbm, 353, rfl⟩
abbrev main_v218 : Ref sig .tc := ⟨.hbm, 354, rfl⟩
abbrev main_call6_v0 : Ref sig .tc := ⟨.hbm, 355, rfl⟩
abbrev main_call6_v1 : Ref sig .tc := ⟨.hbm, 356, rfl⟩
abbrev main_v219 : Ref sig .tc := ⟨.hbm, 357, rfl⟩
abbrev main_cst_51 : Ref sig .tc := ⟨.hbm, 358, rfl⟩
abbrev main_v220 : Ref sig .tc := ⟨.hbm, 359, rfl⟩
abbrev main_v221 : Ref sig .tc := ⟨.hbm, 360, rfl⟩
abbrev main_v222 : Ref sig .tc := ⟨.hbm, 361, rfl⟩
abbrev main_cst_52 : Ref sig .tc := ⟨.hbm, 362, rfl⟩
abbrev main_v223 : Ref sig .tc := ⟨.hbm, 363, rfl⟩
abbrev main_v224 : Ref sig .tc := ⟨.hbm, 364, rfl⟩
abbrev main_v225 : Ref sig .tc := ⟨.hbm, 365, rfl⟩
abbrev main_v226 : Ref sig .tc := ⟨.hbm, 366, rfl⟩
abbrev main_cst_53 : Ref sig .tc := ⟨.hbm, 367, rfl⟩
abbrev main_v227 : Ref sig .tc := ⟨.hbm, 368, rfl⟩
abbrev main_v228 : Ref sig .tc := ⟨.hbm, 369, rfl⟩
abbrev main_v229 : Ref sig .tc := ⟨.hbm, 370, rfl⟩
abbrev main_cst_54 : Ref sig .tc := ⟨.hbm, 371, rfl⟩
abbrev main_v230 : Ref sig .tc := ⟨.hbm, 372, rfl⟩
abbrev main_v231 : Ref sig .tc := ⟨.hbm, 373, rfl⟩
abbrev main_v232 : Ref sig .tc := ⟨.hbm, 374, rfl⟩
abbrev main_v233 : Ref sig .tc := ⟨.hbm, 375, rfl⟩
abbrev main_v234 : Ref sig .tc := ⟨.hbm, 376, rfl⟩
abbrev main_cst_55 : Ref sig .tc := ⟨.hbm, 377, rfl⟩
abbrev main_v235 : Ref sig .tc := ⟨.hbm, 378, rfl⟩
abbrev main_v236 : Ref sig .tc := ⟨.hbm, 379, rfl⟩
abbrev main_cst_56 : Ref sig .tc := ⟨.hbm, 380, rfl⟩
abbrev main_v237 : Ref sig .tc := ⟨.hbm, 381, rfl⟩
abbrev main_v238 : Ref sig .tc := ⟨.hbm, 382, rfl⟩
abbrev main_v239 : Ref sig .tc := ⟨.hbm, 383, rfl⟩
abbrev main_v240 : Ref sig .tc := ⟨.hbm, 384, rfl⟩
abbrev main_v241 : Ref sig .tc := ⟨.hbm, 385, rfl⟩
abbrev main_v242 : Ref sig .tc := ⟨.hbm, 386, rfl⟩
abbrev main_v243 : Ref sig .tc := ⟨.hbm, 387, rfl⟩
abbrev main_cst_57 : Ref sig .tc := ⟨.hbm, 388, rfl⟩
abbrev main_v244 : Ref sig .tc := ⟨.hbm, 389, rfl⟩
abbrev main_v245 : Ref sig .tc := ⟨.hbm, 390, rfl⟩
abbrev main_v246 : Ref sig .tc := ⟨.hbm, 391, rfl⟩
abbrev main_cst_58 : Ref sig .tc := ⟨.hbm, 392, rfl⟩
abbrev main_v247 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_cst_59 : Ref sig .tc := ⟨.hbm, 397, rfl⟩
abbrev main_v251 : Ref sig .tc := ⟨.hbm, 398, rfl⟩
abbrev main_v252 : Ref sig .tc := ⟨.hbm, 399, rfl⟩
abbrev main_v253 : Ref sig .tc := ⟨.hbm, 400, rfl⟩
abbrev main_cst_60 : Ref sig .tc := ⟨.hbm, 401, rfl⟩
abbrev main_v254 : Ref sig .tc := ⟨.hbm, 402, rfl⟩
abbrev main_v255 : Ref sig .tc := ⟨.hbm, 403, rfl⟩
abbrev main_v256 : Ref sig .tc := ⟨.hbm, 404, rfl⟩
abbrev main_v257 : Ref sig .tc := ⟨.hbm, 405, rfl⟩
abbrev main_v258 : Ref sig .tc := ⟨.hbm, 406, rfl⟩
abbrev main_cst_61 : Ref sig .tc := ⟨.hbm, 407, rfl⟩
abbrev main_v259 : Ref sig .tc := ⟨.hbm, 408, rfl⟩
abbrev main_v260 : Ref sig .tc := ⟨.hbm, 409, rfl⟩
abbrev main_cst_62 : Ref sig .tc := ⟨.hbm, 410, rfl⟩
abbrev main_v261 : Ref sig .tc := ⟨.hbm, 411, rfl⟩
abbrev main_v262 : Ref sig .tc := ⟨.hbm, 412, rfl⟩
abbrev main_v263 : Ref sig .tc := ⟨.hbm, 413, rfl⟩
abbrev main_v264 : Ref sig .tc := ⟨.hbm, 414, rfl⟩
abbrev main_v265 : Ref sig .tc := ⟨.hbm, 415, rfl⟩
abbrev main_v266 : Ref sig .tc := ⟨.hbm, 416, rfl⟩
abbrev main_v267 : Ref sig .tc := ⟨.hbm, 417, rfl⟩
abbrev main_cst_63 : Ref sig .tc := ⟨.hbm, 418, rfl⟩
abbrev main_v268 : Ref sig .tc := ⟨.hbm, 419, rfl⟩
abbrev main_v269 : Ref sig .tc := ⟨.hbm, 420, rfl⟩
abbrev main_v270 : Ref sig .tc := ⟨.hbm, 421, rfl⟩
abbrev main_v271 : Ref sig .tc := ⟨.hbm, 422, rfl⟩
abbrev main_cst_64 : Ref sig .tc := ⟨.hbm, 423, rfl⟩
abbrev main_v272 : Ref sig .tc := ⟨.hbm, 424, rfl⟩
abbrev main_v273 : Ref sig .tc := ⟨.hbm, 425, rfl⟩

abbrev nD : Nat := 1
abbrev τ : Topo := Topo.v7x

variable {F : FTy → Type} [FloatOps F]
-- ==== Loss.lean ====
abbrev S4096x2816 : Shape := ⟨2, ![4096, 2816]⟩
abbrev S2816x1024 : Shape := ⟨2, ![2816, 1024]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S8x128 : Shape := ⟨2, ![8, 128]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 12
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x2816, .bf16⟩
  | .hbm, ⟨5, _⟩ => ⟨S4096x4x704, .bf16⟩
  | .hbm, ⟨6, _⟩ => ⟨S4x4096x704, .bf16⟩
  | .hbm, ⟨7, _⟩ => ⟨S2816x1024, .bf16⟩
  | .hbm, ⟨8, _⟩ => ⟨S4x704x1024, .bf16⟩
  | .hbm, ⟨9, _⟩ => ⟨S4096x1024, .f32⟩
  | .hbm, ⟨10, _⟩ => ⟨S4096x1024, .bf16⟩
  | .hbm, ⟨11, _⟩ => ⟨S8x128, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_35 : BitVec 32 := 0#32
  let v44 : BitVec 1 := Scalar.cmpi .ne v43 c0_i32_35
  v44

def k0_cond2 (i : grid0.Coords) : BitVec 1 :=
  let arg0 : BitVec 32 := BitVec.ofNat 32 (i 0).val
  let c0_i32_36 : BitVec 32 := 0#32
  let v45 : BitVec 1 := Scalar.cmpi .sgt arg0 c0_i32_36
  let v46 : BitVec 32 := Scalar.extui v45
  let c0_i32_37 : BitVec 32 := 0#32
  let v47 : BitVec 1 := Scalar.cmpi .ne v46 c0_i32_37
  v47

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 38
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S_, .f32⟩
  | .hbm, ⟨37, _⟩ => ⟨S8x128, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_cst_5 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_cst_7 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Out.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S_ : Shape := ⟨0, ![]⟩
abbrev S4096x128 : Shape := ⟨2, ![4096, 128]⟩
abbrev S128 : Shape := ⟨1, ![128]⟩
abbrev S1024 : Shape := ⟨1, ![1024]⟩
abbrev S1x1024 : Shape := ⟨2, ![1, 1024]⟩
abbrev S128x1 : Shape := ⟨2, ![128, 1]⟩
abbrev S128x1024 : Shape := ⟨2, ![128, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x64 : Shape := ⟨2, ![512, 64]⟩

abbrev nBuf : Space → Nat
  | .hbm => 140
  | .vmem => 24
  | .smem => 0
  | _ => 0

abbrev hbmTy0_0 (i : Nat) : BufTy := match i % 128 with
  | 0 => ⟨S4096x512, .f32⟩
  | 1 => ⟨S4096x512, .f32⟩
  | 2 => ⟨S1x512, .f32⟩
  | 3 => ⟨S1024x1024, .f32⟩
  | 4 => ⟨S4096x1024, .f32⟩
  | 5 => ⟨S_, .bf16⟩
  | 6 => ⟨S4096x1024, .bf16⟩
  | 7 => ⟨S_, .f32⟩
  | 8 => ⟨S4096x128, .f32⟩
  | 9 => ⟨S4096x512, .bf16⟩
  | 10 => ⟨S1024x1024, .bf16⟩
  | 11 => ⟨S128, .i32⟩
  | 12 => ⟨S_, .i32⟩
  | 13 => ⟨S128, .i32⟩
  | 14 => ⟨S128, .i1⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S128, .i32⟩
  | 22 => ⟨S128, .i32⟩
  | 23 => ⟨S_, .i32⟩
  | 24 => ⟨S128, .i32⟩
  | 25 => ⟨S128, .i1⟩
  | 26 => ⟨S_, .i32⟩
  | 27 => ⟨S128, .i32⟩
  | 28 => ⟨S128, .i1⟩
  | 29 => ⟨S_, .i32⟩
  | 30 => ⟨S_, .i1⟩
  | 31 => ⟨S128, .i1⟩
  | 32 => ⟨S128, .i1⟩
  | 33 => ⟨S128, .i1⟩
  | 34 => ⟨S128, .i32⟩
  | 35 => ⟨S128, .i32⟩
  | 36 => ⟨S128, .i32⟩
  | 37 => ⟨S_, .i32⟩
  | 38 => ⟨S128, .i32⟩
  | 39 => ⟨S128, .i32⟩
  | 40 => ⟨S_, .i32⟩
  | 41 => ⟨S128, .i32⟩
  | 42 => ⟨S128, .i32⟩
  | 43 => ⟨S_, .i32⟩
  | 44 => ⟨S_, .i32⟩
  | 45 => ⟨S128, .i32⟩
  | 46 => ⟨S128, .i32⟩
  | 47 => ⟨S128, .i32⟩
  | 48 => ⟨S_, .i32⟩
  | 49 => ⟨S128, .i32⟩
  | 50 => ⟨S128, .i1⟩
  | 51 => ⟨S128, .i32⟩
  | 52 => ⟨S128, .i32⟩
  | 53 => ⟨S_, .i32⟩
  | 54 => ⟨S128, .i32⟩
  | 55 => ⟨S128, .i1⟩
  | 56 => ⟨S128, .i1⟩
  | 57 => ⟨S_, .i32⟩
  | 58 => ⟨S128, .i32⟩
  | 59 => ⟨S128, .i32⟩
  | 60 => ⟨S128, .i32⟩
  | 61 => ⟨S128, .i32⟩
  | 62 => ⟨S_, .i32⟩
  | 63 => ⟨S_, .i32⟩
  | 64 => ⟨S128, .i32⟩
  | 65 => ⟨S128, .i32⟩
  | 66 => ⟨S1024, .i32⟩
  | 67 => ⟨S1x1024, .i32⟩
  | 68 => ⟨S128x1, .i32⟩
  | 69 => ⟨S128x1024, .i32⟩
  | 70 => ⟨S128x1024, .i32⟩
  | 71 => ⟨S128x1024, .i1⟩
  | 72 => ⟨S128x1024, .bf16⟩
  | 73 => ⟨S128, .i32⟩
  | 74 => ⟨S_, .i32⟩
  | 75 => ⟨S128, .i32⟩
  | 76 => ⟨S128, .i1⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S128, .i32⟩
  | 84 => ⟨S128, .i32⟩
  | 85 => ⟨S_, .i32⟩
  | 86 => ⟨S128, .i32⟩
  | 87 => ⟨S128, .i1⟩
  | 88 => ⟨S_, .i32⟩
  | 89 => ⟨S128, .i32⟩
  | 90 => ⟨S128, .i1⟩
  | 91 => ⟨S_, .i32⟩
  | 92 => ⟨S_, .i1⟩
  | 93 => ⟨S128, .i1⟩
  | 94 => ⟨S128, .i1⟩
  | 95 => ⟨S128, .i1⟩
  | 96 => ⟨S128, .i32⟩
  | 97 => ⟨S128, .i32⟩
  | 98 => ⟨S128, .i32⟩
  | 99 => ⟨S_, .i32⟩
  | 100 => ⟨S128, .i32⟩
  | 101 => ⟨S128, .i32⟩
  | 102 => ⟨S_, .i32⟩
  | 103 => ⟨S128, .i32⟩
  | 104 => ⟨S128, .i32⟩
  | 105 => ⟨S_, .i32⟩
  | 106 => ⟨S_, .i32⟩
  | 107 => ⟨S128, .i32⟩
  | 108 => ⟨S128, .i32⟩
  | 109 => ⟨S128, .i32⟩
  | 110 => ⟨S_, .i32⟩
  | 111 => ⟨S128, .i32⟩
  | 112 => ⟨S128, .i1⟩
  | 113 => ⟨S128, .i32⟩
  | 114 => ⟨S128, .i32⟩
  | 115 => ⟨S_, .i32⟩
  | 116 => ⟨S128, .i32⟩
  | 117 => ⟨S128, .i1⟩
  | 118 => ⟨S128, .i1⟩
  | 119 => ⟨S_, .i32⟩
  | 120 => ⟨S128, .i32⟩
  | 121 => ⟨S128, .i32⟩
  | 122 => ⟨S128, .i32⟩
  | 123 => ⟨S128, .i32⟩
  | 124 => ⟨S_, .i32⟩
  | 125 => ⟨S_, .i32⟩
  | 126 => ⟨S128, .i32⟩
  | 127 => ⟨S128, .i32⟩
  | _ => ⟨S4096x512, .f32⟩

abbrev hbmTy0_1 (i : Nat) : BufTy := match i % 128 with
  | 0 => ⟨S1024, .i32⟩
  | 1 => ⟨S1x1024, .i32⟩
  | 2 => ⟨S128x1, .i32⟩
  | 3 => ⟨S128x1024, .i32⟩
  | 4 => ⟨S128x1024, .i32⟩
  | 5 => ⟨S128x1024, .i1⟩
  | 6 => ⟨S128x1024, .bf16⟩
  | 7 => ⟨S4096x1024, .bf16⟩
  | 8 => ⟨S4096x1024, .bf16⟩
  | 9 => ⟨S4096x512, .f32⟩
  | 10 => ⟨S1024x1024, .bf16⟩
  | 11 => ⟨S1x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x128, .f32⟩
  | .local _ .vmem, ⟨11, _⟩ => ⟨S512x128, .f32⟩
  | .local _ .vmem, ⟨12, _⟩ => ⟨S128x1024, .bf16⟩
  | .local _ .vmem, ⟨13, _⟩ => ⟨S128x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .f32⟩
  | .local _ .vmem, ⟨19, _⟩ => ⟨S512x512, .f32⟩
  | .local _ .vmem, ⟨20, _⟩ => ⟨S1024x1024, .bf16⟩
  | .local _ .vmem, ⟨21, _⟩ => ⟨S1x512, .f32⟩
  | .local _ .vmem, ⟨22, _⟩ => ⟨S1024x1024, .f32⟩
  | .local _ .vmem, ⟨23, _⟩ => ⟨S512x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v7 : Ref sig .tc := ⟨.hbm, 36, rfl⟩
abbrev main_c_2 : Ref sig .tc := ⟨.hbm, 37, rfl⟩
abbrev main_v8 : Ref sig .tc := ⟨.hbm, 38, rfl⟩
abbrev main_v9 : Ref sig .tc := ⟨.hbm, 39, rfl⟩
abbrev main_c_3 : Ref sig .tc := ⟨.hbm, 40, rfl⟩
abbrev main_v10 : Ref sig .tc := ⟨.hbm, 41, rfl⟩
abbrev main_v11 : Ref sig .tc := ⟨.hbm, 42, rfl⟩
abbrev main_c_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v12 : Ref sig .tc := ⟨.hbm, 60, rfl⟩
abbrev main_v13 : Ref sig .tc := ⟨.hbm, 61, rfl⟩
abbrev main_c_5 : Ref sig .tc := ⟨.hbm, 62, rfl⟩
abbrev main_call2_v0 : Ref sig .tc := ⟨.hbm, 63, rfl⟩
abbrev main_call2_v1 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_c_6 : Ref sig .tc := ⟨.hbm, 74, rfl⟩
abbrev main_v23 : Ref sig .tc := ⟨.hbm, 75, rfl⟩
abbrev main_v24 : Ref sig .tc := ⟨.hbm, 76, rfl⟩
abbrev main_c_7 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v25 : Ref sig .tc := ⟨.hbm, 98, rfl⟩
abbrev main_c_8 : Ref sig .tc := ⟨.hbm, 99, rfl⟩
abbrev main_v26 : Ref sig .tc := ⟨.hbm, 100, rfl⟩
abbrev main_v27 : Ref sig .tc := ⟨.hbm, 101, rfl⟩
abbrev main_c_9 : Ref sig .tc := ⟨.hbm, 102, rfl⟩
abbrev main_v28 : Ref sig .tc := ⟨.hbm, 103, rfl⟩
abbrev main_v29 : Ref sig .tc := ⟨.hbm, 104, rfl⟩
abbrev main_c_10 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_c : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_0 : Ref sig .tc := ⟨.hbm, 119, rfl⟩
abbrev main_call4_v12 : Ref sig .tc := ⟨.hbm, 120, rfl⟩
abbrev main_call4_v13 : Ref sig .tc := ⟨.hbm, 121, rfl⟩
abbrev main_v30 : Ref sig .tc := ⟨.hbm, 122, rfl⟩
abbrev main_v31 : Ref sig .tc := ⟨.hbm, 123, rfl⟩
abbrev main_c_11 : Ref sig .tc := ⟨.hbm, 124, rfl⟩
abbrev main_call5_v0 : Ref sig .tc := ⟨.hbm, 125, rfl⟩
abbrev main_call5_v1 : Ref sig .tc := ⟨.hbm, 126, rfl⟩
abbrev main_v32 : Ref sig .tc := ⟨.hbm, 127, rfl⟩
abbrev main_v33 : Ref sig .tc := ⟨.hbm, 128, rfl⟩
abbrev main_v34 : Ref sig .tc := ⟨.hbm, 129, rfl⟩
abbrev main_v35 : Ref sig .tc := ⟨.hbm, 130, rfl⟩
abbrev main_v36 : Ref sig .tc := ⟨.hbm, 131, rfl⟩
abbrev main_v37 : Ref sig .tc := ⟨.hbm, 132, rfl⟩
abbrev main_v38 : Ref sig .tc := ⟨.hbm, 133, rfl⟩
abbrev main_v39 : Ref sig .tc := ⟨.hbm, 134, rfl⟩
abbrev main_v40_0 : Ref sig .tc := ⟨.hbm, 135, rfl⟩
abbrev main_v40_1 : Ref sig .tc := ⟨.hbm, 136, rfl⟩
abbrev main_v40_2 : Ref sig .tc := ⟨.hbm, 137, rfl⟩
abbrev main_v40_3 : Ref sig .tc := ⟨.hbm, 138, rfl⟩
abbrev main_v40_4 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v30 : BitVec 1 := Scalar.cmpi .eq arg0 c7_i32
  let v31 : BitVec 32 := Scalar.extui v30
  let c0_i32_17 : BitVec 32 := 0#32
  let v32 : BitVec 1 := Scalar.cmpi .ne v31 c0_i32_17
  v32

def k0_cond4 (i : grid0.Coords) : BitVec 1 :=
  let arg0 : BitVec 32 := BitVec.ofNat 32 (i 0).val
  let c0_i32_25 : BitVec 32 := 0#32
  let v58 : BitVec 1 := Scalar.cmpi .eq arg0 c0_i32_25
  let v61 : BitVec 32 := Scalar.extui v58
  let c0_i32_27 : BitVec 32 := 0#32
  let v62 : BitVec 1 := Scalar.cmpi .ne v61 c0_i32_27
  v62

def k0_cond5 (i : grid0.Coords) : BitVec 1 :=
  let arg0 : BitVec 32 := BitVec.ofNat 32 (i 0).val
  let c0_i32_25 : BitVec 32 := 0#32
  let v58 : BitVec 1 := Scalar.cmpi .eq arg0 c0_i32_25
  let v_true : BitVec 1 := 1#1
  let v63 : BitVec 1 := Scalar.xori v58 v_true
  let v64 : BitVec 32 := Scalar.extui v63
  let c0_i32_28 : BitVec 32 := 0#32
  let v65 : BitVec 1 := Scalar.cmpi .ne v64 c0_i32_28
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OutRefIdeal.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S512 : Shape := ⟨1, ![512]⟩
abbrev S4096x8x64 : Shape := ⟨3, ![4096, 8, 64]⟩
abbrev S4096x8 : Shape := ⟨2, ![4096, 8]⟩
abbrev S4096x8x1 : Shape := ⟨3, ![4096, 8, 1]⟩
abbrev S4096x8x0 : Shape := ⟨3, ![4096, 8, 0]⟩
abbrev S4096x8x63 : Shape := ⟨3, ![4096, 8, 63]⟩
abbrev S4096x8x128 : Shape := ⟨3, ![4096, 8, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1024x1024, .f32⟩
  | .hbm, ⟨4, _⟩ => ⟨S4096x1024, .f32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x1024, .f32⟩
  | .hbm, ⟨25, _⟩ => ⟨S4096x1024, .f32⟩
  | .hbm, ⟨26, _⟩ => ⟨S1024x1024, .f32⟩
  | .hbm, ⟨27, _⟩ => ⟨S1024x1024, .f32⟩
  | .hbm, ⟨28, _⟩ => ⟨S4096x1024, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S512, .f32⟩
  | .hbm, ⟨34, _⟩ => ⟨S1x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x512, .f32⟩
  | .hbm, ⟨42, _⟩ => ⟨S4096x512, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x8x64, .f32⟩
  | .hbm, ⟨55, _⟩ => ⟨S4096x8x64, .f32⟩
  | .hbm, ⟨56, _⟩ => ⟨S4096x8x64, .f32⟩
  | .hbm, ⟨57, _⟩ => ⟨S_, .f32⟩
  | .hbm, ⟨58, _⟩ => ⟨S4096x8, .f32⟩
  | .hbm, ⟨59, _⟩ => ⟨S4096x8x1, .f32⟩
  | .hbm, ⟨60, _⟩ => ⟨S4096x8x1, .f32⟩
  | .hbm, ⟨61, _⟩ => ⟨S_, .f32⟩
  | .hbm, ⟨62, _⟩ => ⟨S4096x8x0, .f32⟩
  | .hbm, ⟨63, _⟩ => ⟨S_, .f32⟩
  | .hbm, ⟨64, _⟩ => ⟨S4096x8x63, .f32⟩
  | .hbm, ⟨65, _⟩ => ⟨S4096x8x128, .f32⟩
  | .hbm, ⟨66, _⟩ => ⟨S4096x1024, .f32⟩
  | .hbm, ⟨67, _⟩ => ⟨S4096x1024, .bf16⟩
  | .hbm, ⟨68, _⟩ => ⟨S1024x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== MixOut.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1024x1024, .f32⟩
  | .hbm, ⟨4, _⟩ => ⟨S4096x1024, .f32⟩
  | .hbm, ⟨5, _⟩ => ⟨S4096x512, .bf16⟩
  | .hbm, ⟨6, _⟩ => ⟨S1024x1024, .bf16⟩
  | .hbm, ⟨7, _⟩ => ⟨S4096x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixOutRefIdeal.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1024x1024, .f32⟩
  | .hbm, ⟨4, _⟩ => ⟨S4096x1024, .f32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== MemKv.lean ====
abbrev S256x1024 : Shape := ⟨2, ![256, 1024]⟩
abbrev S1x1024 : Shape := ⟨2, ![1, 1024]⟩
abbrev S1024x2048 : Shape := ⟨2, ![1024, 2048]⟩
abbrev S1x256 : Shape := ⟨2, ![1, 256]⟩
abbrev S1024x8x256 : Shape := ⟨3, ![1024, 8, 256]⟩
abbrev S8x1024x256 : Shape := ⟨3, ![8, 1024, 256]⟩
abbrev S4x256x256 : Shape := ⟨3, ![4, 256, 256]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S1x256x256 : Shape := ⟨3, ![1, 256, 256]⟩

abbrev nBuf : Space → Nat
  | .hbm => 11
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S1x256, .f32⟩
  | .hbm, ⟨4, _⟩ => ⟨S1024x8x256, .f32⟩
  | .hbm, ⟨5, _⟩ => ⟨S8x1024x256, .f32⟩
  | .hbm, ⟨6, _⟩ => ⟨S8x1024x256, .bf16⟩
  | .hbm, ⟨7, _⟩ => ⟨S256x1024, .bf16⟩
  | .hbm, ⟨8, _⟩ => ⟨S4x256x256, .f32⟩
  | .hbm, ⟨9, _⟩ => ⟨S4x256x256, .bf16⟩
  | .hbm, ⟨10, _⟩ => ⟨S4x256x256, .bf16⟩
  | .local _ .vmem, ⟨0, _⟩ => ⟨S256x1024, .f32⟩
  | .local _ .vmem, ⟨1, _⟩ => ⟨S1x1024, .f32⟩
  | .local _ .vmem, ⟨2, _⟩ => ⟨S8x1024x256, .bf16⟩
  | .local _ .vmem, ⟨3, _⟩ => ⟨S1x256, .f32⟩
  | .local _ .vmem, ⟨4, _⟩ => ⟨S256x1024, .bf16⟩
  | .local _ .vmem, ⟨5, _⟩ => ⟨S4x256x256, .f32⟩
  | .local _ .vmem, ⟨6, _⟩ => ⟨S4x256x256, .bf16⟩
  | .local _ .vmem, ⟨7, _⟩ => ⟨S4x256x256, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== MemKvRefIdeal.lean ====
abbrev S256x1024 : Shape := ⟨2, ![256, 1024]⟩
abbrev S1x1024 : Shape := ⟨2, ![1, 1024]⟩
abbrev S1024x2048 : Shape := ⟨2, ![1024, 2048]⟩
abbrev S1x256 : Shape := ⟨2, ![1, 256]⟩
abbrev S_ : Shape := ⟨0, ![]⟩
abbrev S256 : Shape := ⟨1, ![256]⟩
abbrev S256x1 : Shape := ⟨2, ![256, 1]⟩
abbrev S256x2048 : Shape := ⟨2, ![256, 2048]⟩
abbrev S256x4x256 : Shape := ⟨3, ![256, 4, 256]⟩
abbrev S256x4 : Shape := ⟨2, ![256, 4]⟩
abbrev S256x4x1 : Shape := ⟨3, ![256, 4, 1]⟩
abbrev S1x1x256 : Shape := ⟨3, ![1, 1, 256]⟩
abbrev S4x256x256 : Shape := ⟨3, ![4, 256, 256]⟩

abbrev nBuf : Space → Nat
  | .hbm => 65
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S1x256, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x2048, .f32⟩
  | .hbm, ⟨20, _⟩ => ⟨S256x1024, .f32⟩
  | .hbm, ⟨21, _⟩ => ⟨S256x1024, .f32⟩
  | .hbm, ⟨22, _⟩ => ⟨S256x4x256, .f32⟩
  | .hbm, ⟨23, _⟩ => ⟨S256x1024, .f32⟩
  | .hbm, ⟨24, _⟩ => ⟨S_, .f32⟩
  | .hbm, ⟨25, _⟩ => ⟨S256, .f32⟩
  | .hbm, ⟨26, _⟩ => ⟨S256x1, .f32⟩
  | .hbm, ⟨27, _⟩ => ⟨S_, .f32⟩
  | .hbm, ⟨28, _⟩ => ⟨S256x1, .f32⟩
  | .hbm, ⟨29, _⟩ => ⟨S256x1, .f32⟩
  | .hbm, ⟨30, _⟩ => ⟨S_, .f32⟩
  | .hbm, ⟨31, _⟩ => ⟨S256x1, .f32⟩
  | .hbm, ⟨32, _⟩ => ⟨S256x1, .f32⟩
  | .hbm, ⟨33, _⟩ => ⟨S256x1, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S256x2048, .f32⟩
  | .hbm, ⟨39, _⟩ => ⟨S256x1024, .f32⟩
  | .hbm, ⟨40, _⟩ => ⟨S256x1024, .f32⟩
  | .hbm, ⟨41, _⟩ => ⟨S256x4x256, .f32⟩
  | .hbm, ⟨42, _⟩ => ⟨S256x4x256, .f32⟩
  | .hbm, ⟨43, _⟩ => ⟨S_, .f32⟩
  | .hbm, ⟨44, _⟩ => ⟨S256x4, .f32⟩
  | .hbm, ⟨45, _⟩ => ⟨S256x4x1, .f32⟩
  | .hbm, ⟨46, _⟩ => ⟨S_, .f32⟩
  | .hbm, ⟨47, _⟩ => ⟨S256x4x1, .f32⟩
  | .hbm, ⟨48, _⟩ => ⟨S256x4x1, .f32⟩
  | .hbm, ⟨49, _⟩ => ⟨S_, .f32⟩
  | .hbm, ⟨50, _⟩ => ⟨S256x4x1, .f32⟩
  | .hbm, ⟨51, _⟩ => ⟨S256x4x1, .f32⟩
  | .hbm, ⟨52, _⟩ => ⟨S256x4x1, .f32⟩
  | .hbm, ⟨53, _⟩ => ⟨S256x4x256, .f32⟩
  | .hbm, ⟨54, _⟩ => ⟨S256x4x256, .f32⟩
  | .hbm, ⟨55, _⟩ => ⟨S1x1x256, .f32⟩
  | .hbm, ⟨56, _⟩ => ⟨S256x4x256, .f32⟩
  | .hbm, ⟨57, _⟩ => ⟨S256x4x256, .f32⟩
  | .hbm, ⟨58, _⟩ => ⟨S256x4x256, .f32⟩
  | .hbm, ⟨59, _⟩ => ⟨S4x256x256, .f32⟩
  | .hbm, ⟨60, _⟩ => ⟨S4x256x256, .f32⟩
  | .hbm, ⟨61, _⟩ => ⟨S4x256x256, .f32⟩
  | .hbm, ⟨62, _⟩ => ⟨S256x1024, .bf16⟩
  | .hbm, ⟨63, _⟩ => ⟨S4x256x256, .bf16⟩
  | .hbm, ⟨64, _⟩ => ⟨S4x256x256, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== FfnUp.lean ====
abbrev S4096x1024 : Shape := ⟨2, ![4096, 1024]⟩
abbrev S1x1024 : Shape := ⟨2, ![1, 1024]⟩
abbrev S1024x5632 : Shape := ⟨2, ![1024, 5632]⟩
abbrev S5632x1024 : Shape := ⟨2, ![5632, 1024]⟩
abbrev S2x4x704x1024 : Shape := ⟨4, ![2, 4, 704, 1024]⟩
abbrev S_ : Shape := ⟨0, ![]⟩
abbrev S4096 : Shape := ⟨1, ![4096]⟩
abbrev S4096x1 : Shape := ⟨2, ![4096, 1]⟩
abbrev S4x4096x704 : Shape := ⟨3, ![4, 4096, 704]⟩
abbrev S1024x1024 : Shape := ⟨2, ![1024, 1024]⟩
abbrev S2x1x704x1024 : Shape := ⟨4, ![2, 1, 704, 1024]⟩
abbrev S1x1024x704 : Shape := ⟨3, ![1, 1024, 704]⟩
abbrev S1x1x704x1024 : Shape := ⟨4, ![1, 1, 704, 1024]⟩
abbrev S704x1024 : Shape := ⟨2, ![704, 1024]⟩
abbrev S1024x704 : Shape := ⟨2, ![1024, 704]⟩

abbrev nBuf : Space → Nat
  | .hbm => 23
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S5632x1024, .f32⟩
  | .hbm, ⟨4, _⟩ => ⟨S5632x1024, .bf16⟩
  | .hbm, ⟨5, _⟩ => ⟨S2x4x704x1024, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S2x1x704x1024, .bf16⟩
  | .local _ .vmem, ⟨3, _⟩ => ⟨S2x1x704x1024, .bf16⟩
  | .local _ .vmem, ⟨4, _⟩ => ⟨S1x1024x704, .bf16⟩
  | .local _ .vmem, ⟨5, _⟩ => ⟨S1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnUpRefIdeal.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x5632, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x4x704, .f32⟩
  | .hbm, ⟨32, _⟩ => ⟨S4x4096x704, .f32⟩
  | .hbm, ⟨33, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== FoxFwd.lean ====
abbrev S1x8x4096x64 : Shape := ⟨4, ![1, 8, 4096, 64]⟩
abbrev S1x8x4096 : Shape := ⟨3, ![1, 8, 4096]⟩
abbrev S10 : Shape := ⟨1, ![10]⟩
abbrev S_ : Shape := ⟨0, ![]⟩
abbrev S8x4096x3 : Shape := ⟨3, ![8, 4096, 3]⟩
abbrev S8x4096 : Shape := ⟨2, ![8, 4096]⟩
abbrev S8x4096x1 : Shape := ⟨3, ![8, 4096, 1]⟩
abbrev S8x4096x64 : Shape := ⟨3, ![8, 4096, 64]⟩
abbrev S8x4096x58 : Shape := ⟨3, ![8, 4096, 58]⟩
abbrev S8x4096x128 : Shape := ⟨3, ![8, 4096, 128]⟩
abbrev S4096x8x128 : Shape := ⟨3, ![4096, 8, 128]⟩
abbrev S4096x1024 : Shape := ⟨2, ![4096, 1024]⟩
abbrev S8x4096x55 : Shape := ⟨3, ![8, 4096, 55]⟩
abbrev S8x4096x61 : Shape := ⟨3, ![8, 4096, 61]⟩
abbrev S4096x512 : Shape := ⟨2, ![4096, 512]⟩
abbrev S4096x128 : Shape := ⟨2, ![4096, 128]⟩
abbrev S1024x1024 : Shape := ⟨2, ![1024, 1024]⟩
abbrev S1 : Shape := ⟨1, ![1]⟩
abbrev S1024x512 : Shape := ⟨2, ![1024, 512]⟩
abbrev S1024x128 : Shape := ⟨2, ![1024, 128]⟩
abbrev S8x1024x128 : Shape := ⟨3, ![8, 1024, 128]⟩
abbrev S1x1024x128 : Shape := ⟨3, ![1, 1024, 128]⟩
abbrev S1024 : Shape := ⟨1, ![1024]⟩
abbrev S1024x1 : Shape := ⟨2, ![1024, 1]⟩
abbrev S1024x64 : Shape := ⟨2, ![1024, 64]⟩
abbrev S4096x8 : Shape := ⟨2, ![4096, 8]⟩

abbrev nBuf : Space → Nat
  | .hbm => 65
  | .vmem => 12
  | .smem => 2
  | _ => 0

abbrev bufTy : (tb : Table) → Fin (tcTables nBuf tb) → BufTy
  | .hbm, ⟨0, _⟩ => ⟨S1x8x4096x64, .f32⟩
  | .hbm, ⟨1, _⟩ => ⟨S1x8x4096x64, .f32⟩
  | .hbm, ⟨2, _⟩ => ⟨S1x8x4096x64, .f32⟩
  | .hbm, ⟨3, _⟩ => ⟨S1x8x4096, .f32⟩
  | .hbm, ⟨4, _⟩ => ⟨S_, .f32⟩
  | .hbm, ⟨5, _⟩ => ⟨S_, .f32⟩
  | .hbm, ⟨6, _⟩ => ⟨S1x8x4096, .f32⟩
  | .hbm, ⟨7, _⟩ => ⟨S_, .f32⟩
  | .hbm, ⟨8, _⟩ => ⟨S8x4096x3, .f32⟩
  | .hbm, ⟨9, _⟩ => ⟨S_, .f32⟩
  | .hbm, ⟨10, _⟩ => ⟨S1x8x4096x64, .f32⟩
  | .hbm, ⟨11, _⟩ => ⟨S1x8x4096x64, .f32⟩
  | .hbm, ⟨12, _⟩ => ⟨S8x4096, .f32⟩
  | .hbm, ⟨13, _⟩ => ⟨S8x4096, .bf16⟩
  | .hbm, ⟨14, _⟩ => ⟨S8x4096, .f32⟩
  | .hbm, ⟨15, _⟩ => ⟨S8x4096, .f32⟩
  | .hbm, ⟨16, _⟩ => ⟨S8x4096, .bf16⟩
  | .hbm, ⟨17, _⟩ => ⟨S8x4096, .f32⟩
  | .hbm, ⟨18, _⟩ => ⟨S8x4096, .f32⟩
  | .hbm, ⟨19, _⟩ => ⟨S8x4096, .f32⟩
  | .hbm, ⟨20, _⟩ => ⟨S8x4096, .bf16⟩
  | .hbm, ⟨21, _⟩ => ⟨S8x4096, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x3, .f32⟩
  | .hbm, ⟨26, _⟩ => ⟨S8x4096x64, .f32⟩
  | .hbm, ⟨27, _⟩ => ⟨S_, .f32⟩
  | .hbm, ⟨28, _⟩ => ⟨S8x4096x58, .f32⟩
  | .hbm, ⟨29, _⟩ => ⟨S8x4096x128, .f32⟩
  | .hbm, ⟨30, _⟩ => ⟨S4096x8x128, .f32⟩
  | .hbm, ⟨31, _⟩ => ⟨S4096x1024, .f32⟩
  | .hbm, ⟨32, _⟩ => ⟨S4096x1024, .bf16⟩
  | .hbm, ⟨33, _⟩ => ⟨S8x4096, .f32⟩
  | .hbm, ⟨34, _⟩ => ⟨S8x4096, .f32⟩
  | .hbm, ⟨35, _⟩ => ⟨S8x4096, .bf16⟩
  | .hbm, ⟨36, _⟩ => ⟨S8x4096, .f32⟩
  | .hbm, ⟨37, _⟩ => ⟨S8x4096, .f32⟩
  | .hbm, ⟨38, _⟩ => ⟨S8x4096, .bf16⟩
  | .hbm, ⟨39, _⟩ => ⟨S8x4096, .f32⟩
  | .hbm, ⟨40, _⟩ => ⟨S8x4096, .f32⟩
  | .hbm, ⟨41, _⟩ => ⟨S8x4096, .f32⟩
  | .hbm, ⟨42, _⟩ => ⟨S8x4096, .bf16⟩
  | .hbm, ⟨43, _⟩ => ⟨S8x4096, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S8x4096x3, .f32⟩
  | .hbm, ⟨48, _⟩ => ⟨S8x4096x64, .f32⟩
  | .hbm, ⟨49, _⟩ => ⟨S_, .f32⟩
  | .hbm, ⟨50, _⟩ => ⟨S8x4096x55, .f32⟩
  | .hbm, ⟨51, _⟩ => ⟨S8x4096x128, .f32⟩
  | .hbm, ⟨52, _⟩ => ⟨S4096x8x128, .f32⟩
  | .hbm, ⟨53, _⟩ => ⟨S4096x1024, .f32⟩
  | .hbm, ⟨54, _⟩ => ⟨S4096x1024, .bf16⟩
  | .hbm, ⟨55, _⟩ => ⟨S8x4096x64, .f32⟩
  | .hbm, ⟨56, _⟩ => ⟨S_, .f32⟩
  | .hbm, ⟨57, _⟩ => ⟨S8x4096x61, .f32⟩
  | .hbm, ⟨58, _⟩ => ⟨S8x4096x128, .f32⟩
  | .hbm, ⟨59, _⟩ => ⟨S4096x8x128, .f32⟩
  | .hbm, ⟨60, _⟩ => ⟨S4096x1024, .f32⟩
  | .hbm, ⟨61, _⟩ => ⟨S4096x1024, .bf16⟩
  | .hbm, ⟨62, _⟩ => ⟨S4096x512, .f32⟩
  | .hbm, ⟨63, _⟩ => ⟨S4096x128, .f32⟩
  | .hbm, ⟨64, _⟩ => ⟨S4096x8, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .f32⟩
  | .local _ .vmem, ⟨7, _⟩ => ⟨S1024x512, .f32⟩
  | .local _ .vmem, ⟨8, _⟩ => ⟨S1024x128, .f32⟩
  | .local _ .vmem, ⟨9, _⟩ => ⟨S1024x128, .f32⟩
  | .local _ .vmem, ⟨10, _⟩ => ⟨S8x1024x128, .f32⟩
  | .local _ .vmem, ⟨11, _⟩ => ⟨S1024x1024, .f32⟩
  | .local _ .smem, ⟨0, _⟩ => ⟨S10, .i32⟩
  | .local _ .smem, ⟨1, _⟩ => ⟨S10, .i32⟩
  | _, _ => ⟨S1x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51_0 : Ref sig .tc := ⟨.hbm, 62, rfl⟩
abbrev main_v51_1 : Ref sig .tc := ⟨.hbm, 63, rfl⟩
abbrev main_v52 : Ref sig .tc := ⟨.hbm, 64, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![10], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S10) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S10) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S10) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S10) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S10) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FoxFwdIdeal.lean ====
variable {F : FTy → Type} [FloatOps F] [Named F]
def κ : String → Option EReal := fun
  | "mask" => some ⊥
  | _ => none
-- ==== FoxFwdRefIdeal.lean ====
abbrev S1x8x4096x64 : Shape := ⟨4, ![1, 8, 4096, 64]⟩
abbrev S1x8x4096 : Shape := ⟨3, ![1, 8, 4096]⟩
abbrev S_ : Shape := ⟨0, ![]⟩
abbrev S1x8x4096x4096 : Shape := ⟨4, ![1, 8, 4096, 4096]⟩
abbrev S1x8x4096x1 : Shape := ⟨4, ![1, 8, 4096, 1]⟩
abbrev S1x8x1x4096 : Shape := ⟨4, ![1, 8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x8x64 : Shape := ⟨4, ![1, 4096, 8, 64]⟩
abbrev S4096x512 : Shape := ⟨2, ![4096, 512]⟩
abbrev S8x4096 : Shape := ⟨2, ![8, 4096]⟩
abbrev S4096x8 : Shape := ⟨2, ![4096, 8]⟩

abbrev nBuf : Space → Nat
  | .hbm => 58
  | .vmem => 0
  | .smem => 0
  | _ => 0

abbrev bufTy : (tb : Table) → Fin (tcTables nBuf tb) → BufTy
  | .hbm, ⟨0, _⟩ => ⟨S1x8x4096x64, .f32⟩
  | .hbm, ⟨1, _⟩ => ⟨S1x8x4096x64, .f32⟩
  | .hbm, ⟨2, _⟩ => ⟨S1x8x4096x64, .f32⟩
  | .hbm, ⟨3, _⟩ => ⟨S1x8x4096, .f32⟩
  | .hbm, ⟨4, _⟩ => ⟨S_, .f32⟩
  | .hbm, ⟨5, _⟩ => ⟨S_, .f32⟩
  | .hbm, ⟨6, _⟩ => ⟨S1x8x4096, .f32⟩
  | .hbm, ⟨7, _⟩ => ⟨S1x8x4096x4096, .f32⟩
  | .hbm, ⟨8, _⟩ => ⟨S_, .f32⟩
  | .hbm, ⟨9, _⟩ => ⟨S1x8x4096x4096, .f32⟩
  | .hbm, ⟨10, _⟩ => ⟨S1x8x4096x4096, .f32⟩
  | .hbm, ⟨11, _⟩ => ⟨S1x8x4096x1, .f32⟩
  | .hbm, ⟨12, _⟩ => ⟨S1x8x4096x4096, .f32⟩
  | .hbm, ⟨13, _⟩ => ⟨S1x8x4096x4096, .f32⟩
  | .hbm, ⟨14, _⟩ => ⟨S1x8x1x4096, .f32⟩
  | .hbm, ⟨15, _⟩ => ⟨S1x8x4096x4096, .f32⟩
  | .hbm, ⟨16, _⟩ => ⟨S1x8x4096x4096, .f32⟩
  | .hbm, ⟨17, _⟩ => ⟨S4096, .i32⟩
  | .hbm, ⟨18, _⟩ => ⟨S4096x1, .i32⟩
  | .hbm, ⟨19, _⟩ => ⟨S4096, .i32⟩
  | .hbm, ⟨20, _⟩ => ⟨S1x4096, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S1x8x4096x4096, .i1⟩
  | .hbm, ⟨27, _⟩ => ⟨S1x8x4096x4096, .f32⟩
  | .hbm, ⟨28, _⟩ => ⟨S1x8x4096x4096, .f32⟩
  | .hbm, ⟨29, _⟩ => ⟨S_, .f32⟩
  | .hbm, ⟨30, _⟩ => ⟨S1x8x4096, .f32⟩
  | .hbm, ⟨31, _⟩ => ⟨S_, .f32⟩
  | .hbm, ⟨32, _⟩ => ⟨S1x8x4096, .f32⟩
  | .hbm, ⟨33, _⟩ => ⟨S1x8x4096, .f32⟩
  | .hbm, ⟨34, _⟩ => ⟨S1x8x4096x1, .f32⟩
  | .hbm, ⟨35, _⟩ => ⟨S1x8x4096x4096, .f32⟩
  | .hbm, ⟨36, _⟩ => ⟨S1x8x4096x4096, .f32⟩
  | .hbm, ⟨37, _⟩ => ⟨S1x8x4096x4096, .f32⟩
  | .hbm, ⟨38, _⟩ => ⟨S_, .f32⟩
  | .hbm, ⟨39, _⟩ => ⟨S1x8x4096, .f32⟩
  | .hbm, ⟨40, _⟩ => ⟨S1x8x4096x1, .f32⟩
  | .hbm, ⟨41, _⟩ => ⟨S1x8x4096x4096, .f32⟩
  | .hbm, ⟨42, _⟩ => ⟨S1x8x4096x4096, .f32⟩
  | .hbm, ⟨43, _⟩ => ⟨S1x8x4096x64, .f32⟩
  | .hbm, ⟨44, _⟩ => ⟨S_, .f32⟩
  | .hbm, ⟨45, _⟩ => ⟨S1x8x4096, .f32⟩
  | .hbm, ⟨46, _⟩ => ⟨S1x8x4096x1, .f32⟩
  | .hbm, ⟨47, _⟩ => ⟨S1x8x4096x4096, .f32⟩
  | .hbm, ⟨48, _⟩ => ⟨S1x8x4096x4096, .f32⟩
  | .hbm, ⟨49, _⟩ => ⟨S1x8x4096x4096, .f32⟩
  | .hbm, ⟨50, _⟩ => ⟨S_, .f32⟩
  | .hbm, ⟨51, _⟩ => ⟨S1x8x4096, .f32⟩
  | .hbm, ⟨52, _⟩ => ⟨S1x8x4096, .f32⟩
  | .hbm, ⟨53, _⟩ => ⟨S1x8x4096, .f32⟩
  | .hbm, ⟨54, _⟩ => ⟨S1x4096x8x64, .f32⟩
  | .hbm, ⟨55, _⟩ => ⟨S4096x512, .f32⟩
  | .hbm, ⟨56, _⟩ => ⟨S8x4096, .f32⟩
  | .hbm, ⟨57, _⟩ => ⟨S4096x8, .f32⟩
  | _, _ => ⟨S1x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Proof.Reals.lean ====
/-
  Real numbers among the extended reals: `IsR x` says that `x` is finite. The operations the
  programs use keep finiteness, and on finite numbers they are the operations of `ℝ`.
-/
module

public import Idealize.ShloMosaic.PureOps.Ideal
public import Idealize.ShloMosaic.PureOps.Ideal.Laws
public import Idealize.ShloMosaic.Lib.IdealHost
public import Idealize.ShloMosaic.Lib.ReduceAll

@[expose] public section

noncomputable section

namespace Cert.Reals

open Idealize.ShloMosaic

/-- `x` is a real number: neither of the two infinities. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩

theorem IsR.add {x y : EReal} : IsR x → IsR y → IsR (x + y) := by
  rintro ⟨a, rfl⟩ ⟨b, rfl⟩; exact ⟨a + b, by norm_cast⟩

theorem IsR.sub {x y : EReal} : IsR x → IsR y → IsR (x - y) := by
  rintro ⟨a, rfl⟩ ⟨b, rfl⟩; exact ⟨a - b, by norm_cast⟩

theorem IsR.mul {x y : EReal} : IsR x → IsR y → IsR (x * y) := by
  rintro ⟨a, rfl⟩ ⟨b, rfl⟩; exact ⟨a * b, by norm_cast⟩

theorem IsR.neg {x : EReal} : IsR x → IsR (-x) := by
  rintro ⟨a, rfl⟩; exact ⟨-a, by norm_cast⟩

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type*} (s : Finset ι) {f : ι → EReal} (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self ..)).add (ih fun i hi => h i (Finset.mem_insert_of_mem hi))

theorem IsR.logistic (x : EReal) : IsR (Ideal.logistic x) := by
  induction x with
  | bot => exact ⟨0, by simp⟩
  | top => exact ⟨1, by simp⟩
  | coe r => exact ⟨_, Ideal.logistic_coe r⟩

/-- A real factor moves into a finite sum of real numbers. -/
theorem mul_sum_isR {ι : Type*} (s : Finset ι) {c : EReal} (hc : IsR c) {f : ι → EReal} (h : ∀ i ∈ s, IsR (f i)) :
    c * ∑ i ∈ s, f i = ∑ i ∈ s, c * f i := by
  classical
  induction s using Finset.induction_on with
  | empty => simp
  | insert a s ha ih =>
    have h1 := h a (Finset.mem_insert_self ..)
    have h2 : ∀ i ∈ s, IsR (f i) := fun i hi => h i (Finset.mem_insert_of_mem hi)
    rw [Finset.sum_insert ha, Finset.sum_insert ha, ← ih h2]
    obtain ⟨c, rfl⟩ := hc
    obtain ⟨u, hu⟩ := h1
    obtain ⟨v, hv⟩ := IsR.sum s h2
    rw [hu, hv]
    norm_cast
    ring

/-- What a comparison `|x| < ∞` that holds says of `x`. -/
theorem isR_of_abs_lt {x : EReal} (h : max x (-x) < ⊤) : IsR x := by
  induction x with
  | bot => simp at h
  | top => simp at h
  | coe r => exact ⟨r, rfl⟩

theorem ofBits_inf : Ideal.ofBits .f32 0x7F800000#32 = ⊤ := by
  simp [Ideal.ofBits, Ideal.ieee]

/-- The word of a comparison `|x| < ∞` on the host, when it is 1. -/
theorem isR_of_lt_word {x : EReal}
    (h : FloatOps.cmpf (F := Ideal) (φ := .f32) .olt (FloatOps.hostAbsf (F := Ideal) (φ := .f32) x) (Ideal.ofBits .f32 0x7F800000#32) = 1#1) : IsR x := by
  rw [ofBits_inf] at h
  refine isR_of_abs_lt ?_
  by_contra hn
  have h : Ideal.cmp .olt (max x (-x)) ⊤ = 1#1 := h
  simp [Ideal.cmp, hn] at h

theorem ofBits_half : Ideal.ofBits .f32 0x3F000000#32 = ((1 / 2 : ℝ) : EReal) := by
  simp [Ideal.ofBits, Ideal.ieee]
  norm_cast
  norm_num

theorem ofBits_1024 : Ideal.ofBits .f32 0x44800000#32 = ((1024 : ℝ) : EReal) := by
  simp [Ideal.ofBits, Ideal.ieee]
  norm_cast
  norm_num

theorem ofBits_eps_val : Ideal.ofBits .f32 0x358637BD#32 = ((8796093 / 8796093022208 : ℝ) : EReal) := by
  simp [Ideal.ofBits, Ideal.ieee]
  norm_cast

/-- The small number the normalisations add is positive. -/
theorem ofBits_eps : ∃ e : ℝ, 0 < e ∧ Ideal.ofBits .f32 0x358637BD#32 = (e : EReal) :=
  ⟨_, by norm_num, ofBits_eps_val⟩

theorem mul_self_nonneg' (x : EReal) : 0 ≤ x * x := by
  induction x with
  | bot => simp
  | top => simp
  | coe r => exact_mod_cast mul_self_nonneg r

/-- An entry of a row divided by the root of the row's mean square is real, whatever the row holds:
    an infinite entry makes the mean square infinite, and its inverse root zero. -/
theorem rms_isR {n : ℕ} (f : Fin n → EReal) {c e : EReal} (hc : c = ((1024 : ℝ) : EReal))
    (he : ∃ r : ℝ, 0 < r ∧ e = (r : EReal)) (i : Fin n) :
    IsR (f i * Ideal.rsqrt (Ideal.div (∑ k, f k * f k) c + e)) := by
  obtain ⟨e, e0, rfl⟩ := he
  subst hc
  rw [Ideal.div_coe (by norm_num)]
  by_cases h : ∀ k, IsR (f k)
  · choose g hg using h
    have hs : ∑ k, f k * f k = ((∑ k, g k * g k : ℝ) : EReal) := by
      rw [coe_sum]
      exact Finset.sum_congr rfl fun k _ => by rw [hg k, EReal.coe_mul]
    have h0 : 0 ≤ ∑ k, g k * g k := Finset.sum_nonneg fun k _ => mul_self_nonneg _
    rw [hs, hg i, ← EReal.coe_mul, ← EReal.coe_add, Ideal.rsqrt_coe]
    have hp : 0 < (∑ k, g k * g k) * (1 / 1024) + e := by positivity
    rw [if_neg (not_lt.mpr hp.le), if_neg hp.ne']
    exact (IsR.coe _).mul (IsR.coe _)
  · simp only [not_forall] at h
    obtain ⟨k, hk⟩ := h
    have ht : f k * f k = ⊤ := by
      induction hf : f k with
      | bot => simp
      | top => simp
      | coe r => exact absurd ⟨r, hf⟩ hk
    have hs : ∑ k, f k * f k = ⊤ :=
      top_le_iff.mp (ht ▸ Finset.single_le_sum (f := fun k => f k * f k) (fun i _ => mul_self_nonneg' (f i)) (Finset.mem_univ k))
    rw [hs, EReal.top_mul_coe_of_pos (by norm_num), EReal.top_add_coe, Ideal.rsqrt_top, mul_zero]
    exact IsR.zero

end Cert.Reals

end
-- ==== Proof.Act.lean ====
module

public import proofs.«01_k».proof.Proof.Reals
public import proofs.«01_k».proof.Proof.Gen.ActIdeal.Frame
public import proofs.«01_k».proof.Proof.Gen.ActRefIdeal.Run
public import proofs.«01_k».proof.Proof.Gen.ActRefIdeal.Read
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ActIdeal.Value

open Cert.ActIdeal Cert.ActIdeal.Gen Cert.Reals

/-- The gate's derivative, split as the reference's `vjp` writes it and as the kernel factors it. -/
theorem gate_alg {g u d : EReal} (hg : IsR g) (hu : IsR u) (hd : IsR d) :
    d * u * (Ideal.logistic g * (1 + g * (1 - Ideal.logistic g)))
      = d * u * Ideal.logistic g + g * (d * u) * (Ideal.logistic g * (1 - Ideal.logistic g)) := by
  obtain ⟨s, hs⟩ := IsR.logistic g
  rw [hs]
  obtain ⟨g, rfl⟩ := hg
  obtain ⟨u, rfl⟩ := hu
  obtain ⟨d, rfl⟩ := hd
  norm_cast
  ring

variable (m : (ℓ : Loc nD τ sig) → Buf (Elt Ideal) ℓ)

/-- The block indices of the five windows at grid point `t`: row block `t / 4`, column block `t % 4`. -/
theorem idx : ∀ t : Fin cfg0.N, win0_0.index t = ![t.val / 4, 0] ∧ win0_1.index t = ![t.val / 4, 0]
    ∧ win0_2.index t = ![0, t.val % 4, 0, 0] ∧ win0_3.index t = ![t.val % 4, 0, 0]
    ∧ win0_4.index t = ![0, t.val % 4, t.val / 4, 0] ∧ t.val / 4 < 4 :=
  (by decide +kernel : ∀ t : Fin grid0.N, _)

/-- The array the kernel reads as the normalised input is the reference's. -/
theorem V_h (c : Dev nD) : V m c main_v12 = Cert.ActRefIdeal.Read.val_main_v11 (F := Ideal) (m (c.tc.loc main_arg0)) (m (c.tc.loc main_arg1)) := by
  unfold V
  after_reads_simp
  rfl

theorem V_dy (c : Dev nD) (i : S4096x1024.Idx) : V m c main_v18 i = m (c.tc.loc main_arg4) i := by
  unfold V
  after_reads_simp
  rfl

theorem V_wdn (c : Dev nD) (i : S4x704x1024.Idx) (j : S2816x1024.Idx) (h0 : (j 0).val = (i 0).val * 704 + (i 1).val) (h1 : (j 1).val = (i 2).val) :
    V m c main_v17 i = m (c.tc.loc main_arg3) j := by
  unfold V
  after_reads_at
  exact congrArg (m (c.tc.loc main_arg3)) (funext fun a => Fin.ext (by match a with | ⟨0, _⟩ => exact h0.symm | ⟨1, _⟩ => exact h1.symm))

theorem V_wup (c : Dev nD) (i : S2x4x704x1024.Idx) (j : S1024x5632.Idx) (h0 : (j 0).val = (i 3).val) (h1 : (j 1).val = (i 0).val * 2816 + (i 1).val * 704 + (i 2).val) :
    V m c main_v15 i = m (c.tc.loc main_arg2) j := by
  unfold V
  after_reads_at
  exact congrArg (m (c.tc.loc main_arg2)) (funext fun a => Fin.ext (by match a with | ⟨0, _⟩ => exact h0.symm | ⟨1, _⟩ => exact h1.symm))

/-! What each block holds, in terms of the arguments: row block `t / 4`, hidden block `t % 4`. -/

theorem blk0 (c : Dev nD) (t : Fin cfg0.N) (a k : Fin 1024) (r : Fin 4096) (hr : r.val = t.val / 4 * 1024 + a.val) :
    iblk m c 0 t (ix2 a k) = m (c.tc.loc main_arg4) (ix2 r k) := by
  refine Eq.trans ?_ (V_dy m c (ix2 r k))
  blk_point [iblk, idx t]

theorem blk1 (c : Dev nD) (t : Fin cfg0.N) (a k : Fin 1024) (r : Fin 4096) (hr : r.val = t.val / 4 * 1024 + a.val) :
    iblk m c 1 t (ix2 a k) = Cert.ActRefIdeal.Read.val_main_v11 (F := Ideal) (m (c.tc.loc main_arg0)) (m (c.tc.loc main_arg1)) (ix2 r k) := by
  refine Eq.trans ?_ (congrFun (V_h m c) (ix2 r k))
  blk_point [iblk, idx t]

theorem blk2 (c : Dev nD) (t : Fin cfg0.N) (a : Fin 2) (q : Fin 704) (k : Fin 1024) (n : Fin 5632)
    (hn : n.val = a.val * 2816 + t.val % 4 * 704 + q.val) :
    iblk m c 2 t (ix4 a 0 q k) = m (c.tc.loc main_arg2) (ix2 k n) := by
  refine Eq.trans ?_ (V_wup m c (ix4 a ⟨t.val % 4, by omega⟩ q k) (ix2 k n) rfl hn)
  blk_point [iblk, idx t]

theorem blk3 (c : Dev nD) (t : Fin cfg0.N) (q : Fin 704) (k : Fin 1024) (n : Fin 2816)
    (hn : n.val = t.val % 4 * 704 + q.val) :
    iblk m c 3 t (ix3 0 q k) = m (c.tc.loc main_arg3) (ix2 n k) := by
  refine Eq.trans ?_ (V_wdn m c (ix3 ⟨t.val % 4, by omega⟩ q k) (ix2 n k) hn rfl)
  blk_point [iblk, idx t]

section Ref

open Cert.ActRefIdeal.Read

variable (x0 : (⟨S4096x1024, .f32⟩ : BufTy).Contents (Elt Ideal)) (x1 : (⟨S1x1024, .f32⟩ : BufTy).Contents (Elt Ideal))
  (x2 : (⟨S1024x5632, .f32⟩ : BufTy).Contents (Elt Ideal)) (x3 : (⟨S2816x1024, .f32⟩ : BufTy).Contents (Elt Ideal))
  (x4 : (⟨S4096x1024, .f32⟩ : BufTy).Contents (Elt Ideal))

/-- Column `n` of row `r` of the product of the normalised input and the first weight matrix. -/
def gu (r : Fin 4096) (n : Fin 5632) : EReal := ∑ k : Fin 1024, val_main_v11 (F := Ideal) x0 x1 (ix2 r k) * x2 (ix2 k n)

/-- The gradient that reaches hidden column `n` of row `r` through the second weight matrix, as the reference sums it. -/
def da (r : Fin 4096) (n : Fin 2816) : EReal := ∑ k : Fin 1024, Ideal.ofBits .f32 0x3F000000#32 * x4 (ix2 r k) * x3 (ix2 n k)

theorem da_eq (h3 : ∀ i, IsR (x3 i)) (h4 : ∀ i, IsR (x4 i)) (r : Fin 4096) (n : Fin 2816) :
    Ideal.ofBits .f32 0x3F000000#32 * ∑ k : Fin 1024, x4 (ix2 r k) * x3 (ix2 n k) = da x3 x4 r n := by
  rw [mul_sum_isR _ (ofBits_half ▸ IsR.coe _) fun k _ => (h4 _).mul (h3 _)]
  refine Finset.sum_congr rfl fun k _ => ?_
  rw [mul_assoc]

theorem da_isR (h3 : ∀ i, IsR (x3 i)) (h4 : ∀ i, IsR (x4 i)) (r : Fin 4096) (n : Fin 2816) : IsR (da x3 x4 r n) :=
  IsR.sum _ fun k _ => ((ofBits_half ▸ IsR.coe _ : IsR (Ideal.ofBits .f32 0x3F000000#32)).mul (h4 _)).mul (h3 _)

theorem ref_at (i : S2x4x4096x704.Idx) (r : Fin 4096) (n : Fin 2816) (hr : (i 2).val = r.val) (hn : n.val = (i 1).val * 704 + (i 3).val) :
    val_main_v29 (F := Ideal) x0 x1 x2 x3 x4 i =
      if (i 0).val = 0 then da x3 x4 r n * gu x0 x1 x2 r ⟨2816 + n.val, by omega⟩ * Ideal.logistic (gu x0 x1 x2 r ⟨n.val, by omega⟩)
        + gu x0 x1 x2 r ⟨n.val, by omega⟩ * (da x3 x4 r n * gu x0 x1 x2 r ⟨2816 + n.val, by omega⟩)
          * (Ideal.logistic (gu x0 x1 x2 r ⟨n.val, by omega⟩) * (1 - Ideal.logistic (gu x0 x1 x2 r ⟨n.val, by omega⟩)))
      else gu x0 x1 x2 r ⟨n.val, by omega⟩ * Ideal.logistic (gu x0 x1 x2 r ⟨n.val, by omega⟩) * da x3 x4 r n := by
  have hi0 : (i 0).val < 2 := (i 0).isLt
  obtain rfl : i 2 = r := Fin.ext hr
  pointwise [val_main_v29, val_main_v28, val_main_v27, val_main_v26, val_main_v25, val_main_v24, val_main_v23, val_main_v22,
    val_main_v21, val_main_v20, val_main_v19, val_main_v18, val_main_v17, val_main_v16, val_main_v15_0, val_main_v15_1,
    val_main_v15_2, val_main_v14, val_main_v13, val_main_v12, val_main_call1_v0, val_main_call1_v1, val_main_call1_v2,
    val_main_call0_v0, val_main_call0_v1, val_main_call0_v2, val_main_call0_v3, val_main_call0_v4, val_main_call0_v6,
    val_main_call0_v7, val_main_call0_cst, val_main_call0_cst_0, val_main_call0_cst_1, val_main_cst_2, val_main_cst_3]
  have hlt := n.isLt
  by_cases h : (i 0).val = 0
  · rw [dif_pos (by omega), if_pos h]
    have e : ∀ p, (⟨(i 0).val * 2816 + (i 1).val * 704 + (i 3).val, p⟩ : Fin 2816) = n := fun p => Fin.ext (by simp only; omega)
    have e1 : ∀ p, (⟨(i 0).val * 2816 + (i 1).val * 704 + (i 3).val, p⟩ : Fin 5632) = ⟨n.val, by omega⟩ := fun p => Fin.ext (by simp only; omega)
    have e2 : ∀ p, (⟨2816 + ((i 0).val * 2816 + (i 1).val * 704 + (i 3).val), p⟩ : Fin 5632) = ⟨2816 + n.val, by omega⟩ := fun p => Fin.ext (by simp only; omega)
    simp only [e, e1, e2]
    rfl
  · rw [dif_neg (by omega), if_neg h]
    have e : ∀ p, (⟨(i 0).val * 2816 + (i 1).val * 704 + (i 3).val - 2816, p⟩ : Fin 2816) = n := fun p => Fin.ext (by simp only; omega)
    have e1 : ∀ p, (⟨(i 0).val * 2816 + (i 1).val * 704 + (i 3).val - 2816, p⟩ : Fin 5632) = ⟨n.val, by omega⟩ := fun p => Fin.ext (by simp only; omega)
    simp only [e, e1]
    rfl

/-- The normalised input is real wherever its weight is: a row with an infinite entry is scaled by zero. -/
theorem h_isR (h1 : ∀ i, IsR (x1 i)) (i : S4096x1024.Idx) : IsR (val_main_v11 (F := Ideal) x0 x1 i) := by
  have key := (rms_isR (fun k : Fin 1024 => x0 (ix2 (i 0) k)) ofBits_1024 ofBits_eps (i 1)).mul (h1 (ix2 0 (i 1)))
  refine Eq.mp (congrArg IsR ?_) key
  symm
  pointwise [val_main_v11, val_main_v10, val_main_v9, val_main_v8, val_main_v7, val_main_v6, val_main_v5, val_main_v4, val_main_v3, val_main_v2, val_main_v1, val_main_v0, val_main_cst, val_main_cst_0, val_main_cst_1]

theorem gu_isR (h1 : ∀ i, IsR (x1 i)) (h2 : ∀ i, IsR (x2 i)) (r : Fin 4096) (n : Fin 5632) : IsR (gu x0 x1 x2 r n) :=
  IsR.sum _ fun k _ => (h_isR x0 x1 h1 _).mul (h2 _)

end Ref

/-- The three products at one point of the grid, over the blocks the point reads. -/
theorem da_blk (c : Dev nD) (t : Fin cfg0.N) (a : Fin 1024) (q : Fin 704) (r : Fin 4096) (n : Fin 2816)
    (hr : r.val = t.val / 4 * 1024 + a.val) (hn : n.val = t.val % 4 * 704 + q.val)
    (h3 : ∀ i, IsR (m (c.tc.loc main_arg3) i)) (h4 : ∀ i, IsR (m (c.tc.loc main_arg4) i)) :
    Ideal.ofBits .f32 1056964608#32 * ∑ k : Fin 1024, HMul.hMul (α := EReal) (β := EReal) (γ := EReal) (iblk m c 0 t (ix2 a k)) (iblk m c 3 t (ix3 0 q k))
      = da (m (c.tc.loc main_arg3)) (m (c.tc.loc main_arg4)) r n := by
  rw [← da_eq _ _ h3 h4]
  refine congrArg _ (Finset.sum_congr rfl fun k _ => ?_)
  rw [blk0 m c t a k r hr, blk3 m c t q k n hn]

theorem gu_blk (c : Dev nD) (t : Fin cfg0.N) (a : Fin 1024) (s : Fin 2) (q : Fin 704) (r : Fin 4096) (n : Fin 5632)
    (hr : r.val = t.val / 4 * 1024 + a.val) (hn : n.val = s.val * 2816 + t.val % 4 * 704 + q.val) :
    ∑ k : Fin 1024, HMul.hMul (α := EReal) (β := EReal) (γ := EReal) (iblk m c 1 t (ix2 a k)) (iblk m c 2 t (ix4 s 0 q k))
      = gu (m (c.tc.loc main_arg0)) (m (c.tc.loc main_arg1)) (m (c.tc.loc main_arg2)) r n := by
  refine Finset.sum_congr rfl fun k _ => ?_
  rw [blk1 m c t a k r hr, blk2 m c t s q k n hn]

open Cert.ActRefIdeal.Read in
/-- What the launch leaves in its result: the reference's gradient. -/
theorem final (c : Dev nD) (h1 : ∀ i, IsR (m (c.tc.loc main_arg1) i)) (h2 : ∀ i, IsR (m (c.tc.loc main_arg2) i))
    (h3 : ∀ i, IsR (m (c.tc.loc main_arg3) i)) (h4 : ∀ i, IsR (m (c.tc.loc main_arg4) i)) :
    (dats m 0 c).arrAt 4 (cfgs 0).N
    = val_main_v29 (F := Ideal) (m (c.tc.loc main_arg0)) (m (c.tc.loc main_arg1)) (m (c.tc.loc main_arg2)) (m (c.tc.loc main_arg3)) (m (c.tc.loc main_arg4)) := by
  refine (dats m 0 c).arrAt_eq_of_covers 4 _ (by decide +kernel) fun t _ y => ?_
  have i0 : ((((View.whole main_v19).slice (win0_4.rect t)).emb y) 0).val = (y 0).val := by blk_simp [idx t]
  have i1 : ((((View.whole main_v19).slice (win0_4.rect t)).emb y) 1).val = t.val % 4 := by blk_simp [idx t]
  have i2 : ((((View.whole main_v19).slice (win0_4.rect t)).emb y) 2).val = t.val / 4 * 1024 + (y 2).val := by blk_simp [idx t]
  have i3 : ((((View.whole main_v19).slice (win0_4.rect t)).emb y) 3).val = (y 3).val := by blk_simp [idx t]
  blk_simp
  rw [after0_4]; frame_out
  generalize ((View.whole main_v19).slice (win0_4.rect t)).emb y = i at i0 i1 i2 i3 ⊢
  canon_tiles x k
  all_goals
    have tlt : t.val / 4 < 4 := (idx t).2.2.2.2.2
    obtain ⟨r, er⟩ : ∃ r : Fin 4096, r.val = t.val / 4 * 1024 + (x 2).val := ⟨⟨_, by omega⟩, rfl⟩
    obtain ⟨n, en⟩ : ∃ n : Fin 2816, n.val = t.val % 4 * 704 + (x 3).val := ⟨⟨_, by omega⟩, rfl⟩
    have hdr := da_isR _ _ h3 h4 r n
    have hg := gu_isR (m (c.tc.loc main_arg0)) _ _ h1 h2 r ⟨n.val, by omega⟩
    have hu := gu_isR (m (c.tc.loc main_arg0)) _ _ h1 h2 r ⟨2816 + n.val, by omega⟩
    rw [ref_at _ _ _ _ _ i r n (by omega) (by omega)]
    pointwise [k0_pay1, k0_pay2, k0_pay3, k0_pay4, k0_pay5, k0_pay6, k0_pay7]
    rw [da_blk m c t (x 2) (x 3) r n er en h3 h4, gu_blk m c t (x 2) 0 (x 3) r ⟨n.val, by omega⟩ er (by rw [Fin.val_zero, en, Nat.zero_mul, Nat.zero_add])]
  · rw [if_neg (by omega)]
    exact mul_comm _ _
  · rw [if_pos (by omega), gu_blk m c t (x 2) 1 (x 3) r ⟨2816 + n.val, by omega⟩ er (by rw [Fin.val_one, Nat.one_mul, Nat.add_assoc, ← en])]
    exact gate_alg hg hu hdr

end Cert.ActIdeal.Value

end
-- ==== Proof.ActClaim.lean ====
/-
  The gate's gradient call: its claims. The launch's result is the reference's array (`Act.lean`) once the
  precondition is read as finiteness of the arguments it names.
-/
module

public import proofs.«01_k».proof.Defs
public import proofs.«01_k».proof.Proof.Act
public import proofs.«01_k».proof.Proof.Gen.ActIdeal.Value
public import proofs.«01_k».proof.Proof.Gen.Pre_act_finite
public import Idealize.ShloMosaic.Adequacy
public import Idealize.ShloMosaic.Init

@[expose] public section

set_option maxRecDepth 16384

noncomputable section

open Idealize.ShloMosaic Idealize.ShloMosaic.TcCoe Idealize.SL.Sem

namespace Cert.ActClaim

open Cert.Reals

section Pre

open Cert.Pre_act_finite

/-- The precondition: every entry of the weights and of the cotangent is real. -/
theorem of_pre (x0 : FVec Ideal S4096x1024 .f32) (x1 : FVec Ideal S1x1024 .f32) (x2 : FVec Ideal S1024x5632 .f32)
    (x3 : FVec Ideal S2816x1024 .f32) (x4 : FVec Ideal S4096x1024 .f32) (h : fn x0 x1 x2 x3 x4 = fun _ => 1#1) :
    (∀ i, IsR (x1 i)) ∧ (∀ i, IsR (x2 i)) ∧ (∀ i, IsR (x3 i)) ∧ (∀ i, IsR (x4 i)) := by
  have h0 := congrFun h (fun a => a.elim0)
  unfold fn fn_part1 at h0
  obtain ⟨h0, h4⟩ := IntOp.andi_eq_one.1 h0
  obtain ⟨h0, h3⟩ := IntOp.andi_eq_one.1 h0
  obtain ⟨h1, h2⟩ := IntOp.andi_eq_one.1 h0
  refine ⟨fun i => ?_, fun i => ?_, fun i => ?_, fun i => ?_⟩
  · exact isR_of_lt_word (Host.reduce_andi_all _ _ _ _ _ h1 i)
  · exact isR_of_lt_word (Host.reduce_andi_all _ _ _ _ _ h2 i)
  · exact isR_of_lt_word (Host.reduce_andi_all _ _ _ _ _ h3 i)
  · exact isR_of_lt_word (Host.reduce_andi_all _ _ _ _ _ h4 i)

end Pre

theorem frame_ref : Cert.quiescent_ActRefIdeal := fun m g _ =>
  (θ_run Cert.ActRefIdeal.defs _ _).mono (fun r h => ⟨fun c => (h c).2, sem_eq_zero_of_no_sems rfl r.2⟩) (Cert.ActRefIdeal.Value.run m g)

theorem value : Cert.algebraic_ActIdeal_ActRefIdeal_pre_act_finite := by
  intro m g m' g' hp hm
  refine ⟨fun c => (Cert.ActIdeal.Gen.dats m 0 c).arrAt 4 (Cert.ActIdeal.cfgs 0).N, Cert.ActIdeal.Value.run_blocks m g, ?_⟩
  refine (θ_run _ _ _).mono (fun r h c => ⟨(h c).1.trans ?_, (h c).2⟩) (Cert.ActRefIdeal.Value.run m' g')
  obtain ⟨e0, e1, e2, e3, e4⟩ := hm c
  obtain ⟨h1, h2, h3, h4⟩ := of_pre _ _ _ _ _ (hp c)
  rw [Cert.ActRefIdeal.Read.val_main_v29_eq, e0, e1, e2, e3, e4]
  exact (Cert.ActIdeal.Value.final m c h1 h2 h3 h4).symm

end Cert.ActClaim

end
-- ==== Proof.FoxRun.lean ====
/-
  One grid point of the attention's backward kernel, run over its stores. A point `(j, i)` of the causal triangle is
  either on the diagonal (`i = j`) or below it (`i > j`); the two words of the prefetched tables say which.
-/
module

public import proofs.«01_k».proof.Proof.Gen.FoxIdeal.Launch
public import proofs.«01_k».proof.Proof.Gen.FoxIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The element of a table a point reads. -/
abbrev cell (i : grid0.Coords) : Rect S36 := Rect.unit (s := S36) (k0_off1 i) S1.size (k0_off1_inb i)
/-- The one index of that element. -/
abbrev one : S1.Idx := Shape.Idx.first (s := S1) (numel1_S1.symm ▸ Nat.one_pos)

/-- A table's word loaded: the program goes on at any name `w` of the element read. -/
theorem load_word (c : Dev nD) {E : Set ℕ} {arg : Memref sig .tc .smem S36 .i32} {r : Rect S36} {h1 : r.shape.numel = 1}
    {hp : EltTy.i32.packing = 1} {α : Type} {K : Elt F .i32 → Prog (TpuEff nD τ sig (Elt F) Λ₀ .tc) α} {Q : α → sProp 𝕄}
    {q : PosShare TreeShare} {f : Buf (Elt F) (arg.view.loc (c : Thread nD τ))} (w : BitVec 32)
    (hw : w = (arg.access r).read (Elt F) f (Shape.Idx.first (h1.symm ▸ Nat.one_pos))) :
    (arg.view.loc (c : Thread nD τ) ↦{q} f)
      ⊢ iprop(((arg.view.loc (c : Thread nD τ) ↦{q} f) -∗ wp frame (wpE (defs₀ (F := F)) Variants.none c none) E (K w) Q)
        -∗ wp frame (wpE (defs₀ (F := F)) Variants.none c none) E (smemLoad arg r h1 hp >>= K) Q) := by
  unfold smemLoad
  rw [smemLoadElt_bind]
  iintro H Hk
  iapply (wp_smemLoadElt_named (defs := defs₀ (F := F)) Variants.none (c : Thread nD τ) none E (m := arg) (r := r) (S := Finset.univ)) $$ H
  iintro H %v %hv
  obtain rfl : v = w := hv.trans hw.symm
  iapply Hk $$ H

set_option maxHeartbeats 2000000 in
/-- A point below the diagonal: the three running buffers are read and written, the query gradient's block is not. -/
noncomputable def runO (c : Dev nD) (i : grid0.Coords) (arg2 : Memref sig .tc .smem S36 .i32) (harg2 : arg2.IsWhole) (arg3 : Memref sig .tc .smem S36 .i32) (harg3 : arg3.IsWhole)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .bf16) (harg7 : arg7.IsWhole)
    (arg8 : Memref sig .tc .vmem S512x1024 .f32) (harg8 : arg8.IsWhole) (arg9 : Memref sig .tc .vmem S512x1024 .f32) (harg9 : arg9.IsWhole)
    (arg10 : Memref sig .tc .vmem S512x1024 .f32) (harg10 : arg10.IsWhole) (arg11 : Memref sig .tc .vmem S4096x1024 .f32) (harg11 : arg11.IsWhole)
    (v1 v3 : BitVec 32) (hk : k0_chk1 v1 v3)
    (h1 : ¬ Scalar.cmpi .ne (Scalar.extui (Scalar.cmpi .eq (BitVec.ofNat 32 (i 1).val) 0#32) : BitVec 32) 0#32 = 1#1)
    (h2 : ¬ k0_cond2 v1 v3 = 1#1) (h3 : k0_cond3 v1 v3 = 1#1) (h4 : ¬ k0_cond4 v1 v3 = 1#1)
    (x4 x5 x6 x7 : Vec F S512x1024 .bf16) (x9 x10 : Vec F S512x1024 .f32) (x11 : Vec F S4096x1024 .f32) :
    Σ' (L9 L10 : List (View.Piece (Elt F) S512x1024 .f32)), { L11 : List (View.Piece (Elt F) S4096x1024 .f32) //
      ∀ (q : PosShare TreeShare) (g2 : Buf (Elt F) (arg2.view.loc (c : Thread nD τ))) (g3 : Buf (Elt F) (arg3.view.loc (c : Thread nD τ)))
        (hw1 : v1 = (arg2.access (cell i)).read (Elt F) g2 one) (hw3 : v3 = (arg3.access (cell i)).read (Elt F) g3 one)
        (E : Set ℕ) (K : PUnit → sProp 𝕄),
        iprop((arg2.view.loc (c : Thread nD τ) ↦{q} g2) ∗ (arg3.view.loc (c : Thread nD τ) ↦{q} g3)
            ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg9 fullShare x9 ∗ owns (c : Thread nD τ) arg10 fullShare x10 ∗ owns (c : Thread nD τ) arg11 fullShare x11
            ∗ (iprop((arg2.view.loc (c : Thread nD τ) ↦{q} g2) ∗ (arg3.view.loc (c : Thread nD τ) ↦{q} g3)
                ∗ owns (c : Thread nD τ) arg4 fullShare x4 ∗ owns (c : Thread nD τ) arg5 fullShare x5 ∗ owns (c : Thread nD τ) arg6 fullShare x6 ∗ owns (c : Thread nD τ) arg7 fullShare x7
                ∗ (arg9.view.loc (c : Thread nD τ) ↦[arg9.view.set]{fullShare} arg9.view.writes (Elt F) (harg9.unread x9) L9)
                ∗ (arg10.view.loc (c : Thread nD τ) ↦[arg10.view.set]{fullShare} arg10.view.writes (Elt F) (harg10.unread x10) L10)
                ∗ (arg11.view.loc (c : Thread nD τ) ↦[arg11.view.set]{fullShare} arg11.view.writes (Elt F) (harg11.unread x11) L11)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11) K } := by
  refine ⟨?_, ?_, ?_, fun q g2 g3 hw1 hw3 E K => ?run⟩
  case run =>
    simp only [cc0_fox_bwd_eq_skeleton]; unfold cc0_fox_bwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨H2, H3, ⟨%f4, %hf4, H4⟩, ⟨%f5, %hf5, H5⟩, ⟨%f6, %hf6, H6⟩, ⟨%f7, %hf7, H7⟩, ⟨%f9, %hf9, H9⟩, ⟨%f10, %hf10, H10⟩, ⟨%f11, %hf11, H11⟩, Hk⟩
    obtain rfl := harg4.eq_unread hf4; obtain rfl := harg5.eq_unread hf5; obtain rfl := harg6.eq_unread hf6; obtain rfl := harg7.eq_unread hf7
    obtain rfl := harg9.eq_unread hf9; obtain rfl := harg10.eq_unread hf10; obtain rfl := harg11.eq_unread hf11
    iapply (load_word c v1 hw1) $$ H2
    iintro H2
    iapply (load_word c v3 hw3) $$ H3
    iintro H3
    sl_exec (disch := first | sl_exact h1 | sl_exact h2 | sl_exact h3 | sl_exact h4)
    sl_step
    iapply Hk
    isplitl [H2]; · iexact H2
    isplitl [H3]; · iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [H7]; · iexists _; isplitr; · ipureintro; exact harg7.read_unread _
                    iexact H7
    isplitl [H9]; · iexact H9
    isplitl [H10]; · iexact H10
    iexact H11

end Cert.FoxIdeal.Hand
-- ==== Proof.FoxRunD.lean ====
/-
  A diagonal point of the attention's backward kernel other than the first.
-/
module

public import proofs.«01_k».proof.Proof.FoxRun

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- A diagonal point other than the first: the key and value gradients' blocks start from zero, the query gradient's
    block is finished. -/
noncomputable def runD (c : Dev nD) (i : grid0.Coords) (arg2 : Memref sig .tc .smem S36 .i32) (harg2 : arg2.IsWhole) (arg3 : Memref sig .tc .smem S36 .i32) (harg3 : arg3.IsWhole)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .bf16) (harg7 : arg7.IsWhole)
    (arg8 : Memref sig .tc .vmem S512x1024 .f32) (harg8 : arg8.IsWhole) (arg9 : Memref sig .tc .vmem S512x1024 .f32) (harg9 : arg9.IsWhole)
    (arg10 : Memref sig .tc .vmem S512x1024 .f32) (harg10 : arg10.IsWhole) (arg11 : Memref sig .tc .vmem S4096x1024 .f32) (harg11 : arg11.IsWhole)
    (v1 v3 : BitVec 32) (hk : k0_chk1 v1 v3)
    (h1 : ¬ Scalar.cmpi .ne (Scalar.extui (Scalar.cmpi .eq (BitVec.ofNat 32 (i 1).val) 0#32) : BitVec 32) 0#32 = 1#1)
    (h2 : k0_cond2 v1 v3 = 1#1) (h3 : ¬ k0_cond3 v1 v3 = 1#1) (h4 : k0_cond4 v1 v3 = 1#1)
    (x4 x5 x6 x7 : Vec F S512x1024 .bf16) (x11 : Vec F S4096x1024 .f32) :
    Σ' (L8 L9 L10 : List (View.Piece (Elt F) S512x1024 .f32)), { L11 : List (View.Piece (Elt F) S4096x1024 .f32) //
      ∀ (q : PosShare TreeShare) (g2 : Buf (Elt F) (arg2.view.loc (c : Thread nD τ))) (g3 : Buf (Elt F) (arg3.view.loc (c : Thread nD τ)))
        (hw1 : v1 = (arg2.access (cell i)).read (Elt F) g2 one) (hw3 : v3 = (arg3.access (cell i)).read (Elt F) g3 one)
        (E : Set ℕ) (K : PUnit → sProp 𝕄),
        iprop((arg2.view.loc (c : Thread nD τ) ↦{q} g2) ∗ (arg3.view.loc (c : Thread nD τ) ↦{q} g3)
            ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11
            ∗ (iprop((arg2.view.loc (c : Thread nD τ) ↦{q} g2) ∗ (arg3.view.loc (c : Thread nD τ) ↦{q} g3)
                ∗ owns (c : Thread nD τ) arg4 fullShare x4 ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (arg11.view.loc (c : Thread nD τ) ↦[arg11.view.set]{fullShare} arg11.view.writes (Elt F) (harg11.unread x11) L11)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11) K } := by
  refine ⟨?_, ?_, ?_, ?_, fun q g2 g3 hw1 hw3 E K => ?run⟩
  case run =>
    simp only [cc0_fox_bwd_eq_skeleton]; unfold cc0_fox_bwd_skel
    simp only [k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨H2, H3, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, Hk⟩
    obtain rfl := harg4.eq_unread hf4; obtain rfl := harg5.eq_unread hf5; obtain rfl := harg6.eq_unread hf6; obtain rfl := harg7.eq_unread hf7
    obtain rfl := harg11.eq_unread hf11
    iapply (load_word c v1 hw1) $$ H2
    iintro H2
    iapply (load_word c v3 hw3) $$ H3
    iintro H3
    sl_exec (disch := first | sl_exact h1 | sl_exact h2 | sl_exact h3 | sl_exact h4)
    sl_step
    iapply Hk
    isplitl [H2]; · iexact H2
    isplitl [H3]; · iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [H7]; · iexists _; isplitr; · ipureintro; exact harg7.read_unread _
                    iexact H7
    isplitl [H8]; · iexists _; iexact H8
    isplitl [H9]; · iexists _; iexact H9
    isplitl [H10]; · iexists _; iexact H10
    iexact H11

end Cert.FoxIdeal.Hand
-- ==== Proof.FoxRunZ.lean ====
/-
  The first point of the attention's backward kernel.
-/
module

public import proofs.«01_k».proof.Proof.FoxRunD

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The first point: as a diagonal point, with the running query gradient started from zero. -/
noncomputable def runZ (c : Dev nD) (i : grid0.Coords) (arg2 : Memref sig .tc .smem S36 .i32) (harg2 : arg2.IsWhole) (arg3 : Memref sig .tc .smem S36 .i32) (harg3 : arg3.IsWhole)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .bf16) (harg7 : arg7.IsWhole)
    (arg8 : Memref sig .tc .vmem S512x1024 .f32) (harg8 : arg8.IsWhole) (arg9 : Memref sig .tc .vmem S512x1024 .f32) (harg9 : arg9.IsWhole)
    (arg10 : Memref sig .tc .vmem S512x1024 .f32) (harg10 : arg10.IsWhole) (arg11 : Memref sig .tc .vmem S4096x1024 .f32) (harg11 : arg11.IsWhole)
    (v1 v3 : BitVec 32) (hk : k0_chk1 v1 v3)
    (h1 : Scalar.cmpi .ne (Scalar.extui (Scalar.cmpi .eq (BitVec.ofNat 32 (i 1).val) 0#32) : BitVec 32) 0#32 = 1#1)
    (h2 : k0_cond2 v1 v3 = 1#1) (h3 : ¬ k0_cond3 v1 v3 = 1#1) (h4 : k0_cond4 v1 v3 = 1#1)
    (x4 x5 x6 x7 : Vec F S512x1024 .bf16)  :
    Σ' (L8 L9 L10 : List (View.Piece (Elt F) S512x1024 .f32)), { L11 : List (View.Piece (Elt F) S4096x1024 .f32) //
      ∀ (q : PosShare TreeShare) (g2 : Buf (Elt F) (arg2.view.loc (c : Thread nD τ))) (g3 : Buf (Elt F) (arg3.view.loc (c : Thread nD τ)))
        (hw1 : v1 = (arg2.access (cell i)).read (Elt F) g2 one) (hw3 : v3 = (arg3.access (cell i)).read (Elt F) g3 one)
        (E : Set ℕ) (K : PUnit → sProp 𝕄),
        iprop((arg2.view.loc (c : Thread nD τ) ↦{q} g2) ∗ (arg3.view.loc (c : Thread nD τ) ↦{q} g3)
            ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop((arg2.view.loc (c : Thread nD τ) ↦{q} g2) ∗ (arg3.view.loc (c : Thread nD τ) ↦{q} g3)
                ∗ owns (c : Thread nD τ) arg4 fullShare x4 ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11) K } := by
  refine ⟨?_, ?_, ?_, ?_, fun q g2 g3 hw1 hw3 E K => ?run⟩
  case run =>
    simp only [cc0_fox_bwd_eq_skeleton]; unfold cc0_fox_bwd_skel
    simp only [k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨H2, H3, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg4.eq_unread hf4; obtain rfl := harg5.eq_unread hf5; obtain rfl := harg6.eq_unread hf6; obtain rfl := harg7.eq_unread hf7
    iapply (load_word c v1 hw1) $$ H2
    iintro H2
    iapply (load_word c v3 hw3) $$ H3
    iintro H3
    sl_exec (disch := first | sl_exact h1 | sl_exact h2 | sl_exact h3 | sl_exact h4)
    sl_step
    iapply Hk
    isplitl [H2]; · iexact H2
    isplitl [H3]; · iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [H7]; · iexists _; isplitr; · ipureintro; exact harg7.read_unread _
                    iexact H7
    isplitl [H8]; · iexists _; iexact H8
    isplitl [H9]; · iexists _; iexact H9
    isplitl [H10]; · iexists _; iexact H10
    iexists _; iexact H11

end Cert.FoxIdeal.Hand
-- ==== Proof.FoxTables.lean ====
/-
  The prefetched tables of the attention's backward kernel: two constant lists of 36 block numbers, the column block `j` and
  the row block `i` of each point of the causal triangle. The kernel's conditions, its blocks and its idle points are read
  off these lists.
-/
module

public import proofs.«01_k».proof.Proof.FoxRunZ
public import Idealize.ShloMosaic.Lib.Pipeline.TableIdle
public import Idealize.ShloMosaic.Lib.Pipeline.FrameSuffix

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The tables' contents: the two printed lists. -/
def tbl : pre0.Contents (Elt F)
  | 0 => fun i => lit0 (S36.rowMajor i)
  | 1 => fun i => lit1 (S36.rowMajor i)
  | ⟨_ + 2, h⟩ => absurd h (Nat.not_lt.2 (Nat.le_add_left _ _))

/-- A point's column block. -/
abbrev w1 (t : Fin grid0.N) : BitVec 32 := (tbl (F := F)).atD 0 (k0_off1 (grid0.coords t))
/-- A point's row block. -/
abbrev w3 (t : Fin grid0.N) : BitVec 32 := (tbl (F := F)).atD 1 (k0_off1 (grid0.coords t))

/-- The number of a point's column block, as a natural number. -/
def jn (t : ℕ) : ℕ := if t < 8 then 0 else if t < 15 then 1 else if t < 21 then 2 else if t < 26 then 3 else if t < 30 then 4
  else if t < 33 then 5 else if t < 35 then 6 else 7
/-- The number of a point's row block: column `j` starts at its diagonal block. -/
def inn (t : ℕ) : ℕ := if t < 8 then t else if t < 15 then t - 7 else if t < 21 then t - 13 else if t < 26 then t - 18
  else if t < 30 then t - 22 else if t < 33 then t - 25 else if t < 35 then t - 27 else t - 28

/-- A point's place in the lists is its number. -/
theorem cell_first : ∀ t : Fin grid0.N, (S36.rowMajor ((cell (grid0.coords t)).emb (Shape.Idx.first (numel1_S1.symm ▸ Nat.one_pos)))).val = t.val := by
  decide +kernel
theorem lit0_eq : ∀ t : Fin 36, lit0 t = BitVec.ofNat 32 (jn t.val) := by decide +kernel
theorem lit1_eq : ∀ t : Fin 36, lit1 t = BitVec.ofNat 32 (inn t.val) := by decide +kernel
theorem w1_eq (t : Fin grid0.N) : w1 (F := F) t = BitVec.ofNat 32 (jn t.val) := by
  unfold w1 Pipeline.Prefetch.Contents.atD
  rw [dif_pos (fun a => by fin_cases a; exact k0_off1_inb (grid0.coords t) 0)]
  refine (lit0_eq _).trans ?_
  exact congrArg (fun n => BitVec.ofNat 32 (jn n)) (cell_first t)
theorem w3_eq (t : Fin grid0.N) : w3 (F := F) t = BitVec.ofNat 32 (inn t.val) := by
  unfold w3 Pipeline.Prefetch.Contents.atD
  rw [dif_pos (fun a => by fin_cases a; exact k0_off1_inb (grid0.coords t) 0)]
  refine (lit1_eq _).trans ?_
  exact congrArg (fun n => BitVec.ofNat 32 (inn n)) (cell_first t)

theorem chk : ∀ t : Fin grid0.N, k0_chk1 (BitVec.ofNat 32 (jn t.val)) (BitVec.ofNat 32 (inn t.val)) := by decide +kernel
/-- The first point alone clears the accumulator of the first result. -/
theorem first_iff : ∀ t : Fin grid0.N, (Scalar.cmpi .ne (Scalar.extui (Scalar.cmpi .eq (BitVec.ofNat 32 (grid0.coords t 1).val) 0#32) : BitVec 32) 0#32 = 1#1)
    ↔ t.val = 0 := by decide +kernel
theorem c2_iff : ∀ t : Fin grid0.N, k0_cond2 (BitVec.ofNat 32 (jn t.val)) (BitVec.ofNat 32 (inn t.val)) = 1#1 ↔ inn t.val = jn t.val := by decide +kernel
theorem c3_iff : ∀ t : Fin grid0.N, k0_cond3 (BitVec.ofNat 32 (jn t.val)) (BitVec.ofNat 32 (inn t.val)) = 1#1 ↔ ¬ inn t.val = jn t.val := by decide +kernel
theorem c4_iff : ∀ t : Fin grid0.N, k0_cond4 (BitVec.ofNat 32 (jn t.val)) (BitVec.ofNat 32 (inn t.val)) = 1#1 ↔ inn t.val = jn t.val := by decide +kernel

theorem cell_at : ∀ i : grid0.Coords, (S36.rowMajor ((cell i).emb (Shape.Idx.first (numel1_S1.symm ▸ Nat.one_pos)))).val = (i 1).val := by
  decide +kernel
theorem coord1 : ∀ t : Fin grid0.N, (grid0.coords t 1).val = t.val := by decide +kernel
theorem row_word : ∀ i : grid0.Coords, ![(BitVec.ofNat 32 (inn (i 1).val)).toNat, (BitVec.ofNat 32 (i 0).val).toNat] = ![inn (i 1).val, 0] := by
  decide +kernel
theorem col_word : ∀ i : grid0.Coords, ![(BitVec.ofNat 32 (jn (i 1).val)).toNat, (BitVec.ofNat 32 (i 0).val).toNat] = ![jn (i 1).val, 0] := by
  decide +kernel

/-- The index maps at the tables: a row window takes the row block. -/
theorem ix_row (i : grid0.Coords) : cc0_transform_0 k0_off1_inb numel1_S1 (tbl (F := F)) i = ![inn (i 1).val, 0] := by
  have h : (tbl (F := F)).at 1 (cell i) numel1_S1 = BitVec.ofNat 32 (inn (i 1).val) :=
    (lit1_eq _).trans (congrArg (fun n => BitVec.ofNat 32 (inn n)) (cell_at i))
  unfold cc0_transform_0
  change ![((tbl (F := F)).at 1 (cell i) numel1_S1).toNat, _] = _
  rw [h]
  exact row_word i
/-- and a column window the column block. -/
theorem ix_col (i : grid0.Coords) : cc0_transform_1 k0_off1_inb numel1_S1 (tbl (F := F)) i = ![jn (i 1).val, 0] := by
  have h : (tbl (F := F)).at 0 (cell i) numel1_S1 = BitVec.ofNat 32 (jn (i 1).val) :=
    (lit0_eq _).trans (congrArg (fun n => BitVec.ofNat 32 (jn n)) (cell_at i))
  unfold cc0_transform_1
  change ![((tbl (F := F)).at 0 (cell i) numel1_S1).toNat, _] = _
  rw [h]
  exact col_word i

theorem row_ok16 : ∀ i : grid0.Coords, ∃ h : (∀ a, ((![inn (i 1).val, 0] : Fin 2 → ℕ) a + 1) * S512x1024.size a ≤ S4096x1024.size a),
    EltTy.bits .bf16 = 32 ∨ (Rect.block (s := S4096x1024) S512x1024.size ![inn (i 1).val, 0] h).WholeWords (EltTy.packing .bf16) := by decide +kernel
theorem col_ok16 : ∀ i : grid0.Coords, ∃ h : (∀ a, ((![jn (i 1).val, 0] : Fin 2 → ℕ) a + 1) * S512x1024.size a ≤ S4096x1024.size a),
    EltTy.bits .bf16 = 32 ∨ (Rect.block (s := S4096x1024) S512x1024.size ![jn (i 1).val, 0] h).WholeWords (EltTy.packing .bf16) := by decide +kernel
theorem col_ok32 : ∀ i : grid0.Coords, ∃ h : (∀ a, ((![jn (i 1).val, 0] : Fin 2 → ℕ) a + 1) * S512x1024.size a ≤ S4096x1024.size a),
    EltTy.bits .f32 = 32 ∨ (Rect.block (s := S4096x1024) S512x1024.size ![jn (i 1).val, 0] h).WholeWords (EltTy.packing .f32) :=
  fun i => (col_ok16 i).elim fun h _ => ⟨h, .inl rfl⟩

/-- The printed side condition holds of the tables. -/
theorem tbl_ok : ok0 (F := F) tbl := by
  unfold ok0
  refine ⟨fun i => ?_, fun i => ?_, fun i => ?_, fun i => ?_, fun i => ?_, fun i => ?_, fun i => ?_⟩
  · rw [ix_row i]; exact row_ok16 i
  · rw [ix_col i]; exact col_ok16 i
  · rw [show cc0_transform_2 k0_off1_inb numel1_S1 (tbl (F := F)) i = _ from ix_col i]; exact col_ok16 i
  · rw [show cc0_transform_3 k0_off1_inb numel1_S1 (tbl (F := F)) i = _ from ix_row i]; exact row_ok16 i
  · rw [show cc0_transform_4 k0_off1_inb numel1_S1 (tbl (F := F)) i = _ from ix_col i]; exact col_ok32 i
  · rw [show cc0_transform_5 k0_off1_inb numel1_S1 (tbl (F := F)) i = _ from ix_col i]; exact col_ok32 i
  · rw [show cc0_transform_6 k0_off1_inb numel1_S1 (tbl (F := F)) i = _ from ix_col i]; exact col_ok32 i

/-- The tables as admissible contents, and the pipeline at them. -/
abbrev adm : (pcfg0 (F := F)).Adm := ⟨tbl, tbl_ok⟩
abbrev cfgM : Pipeline.Cfg sig Λ₀ := cfg0 (adm (F := F))

theorem diag_word : ∀ t : Fin grid0.N, (!(k0_cond4 (BitVec.ofNat 32 (jn t.val)) (BitVec.ofNat 32 (inn t.val)) == 1#1)) = decide (inn t.val ≠ jn t.val) := by
  decide +kernel
theorem live_word : ∀ t : Fin grid0.N, (!(k0_cond2 (BitVec.ofNat 32 (jn t.val)) (BitVec.ofNat 32 (inn t.val)) == 1#1)
    && !(k0_cond3 (BitVec.ofNat 32 (jn t.val)) (BitVec.ofNat 32 (inn t.val)) == 1#1)
    && !(k0_cond4 (BitVec.ofNat 32 (jn t.val)) (BitVec.ofNat 32 (inn t.val)) == 1#1)) = false := by decide +kernel
/-- The first result is stored on the diagonal only. -/
theorem idle4 (t : Fin grid0.N) : (cfgM (F := F)).idle 4 (grid0.coords t) = decide (inn t.val ≠ jn t.val) := by
  change (!(k0_cond4 (w1 (F := F) t) (w3 (F := F) t) == 1#1)) = _
  rw [w1_eq, w3_eq]
  exact diag_word t
/-- The two other results are stored at every point. -/
theorem idle5 (t : Fin grid0.N) : (cfgM (F := F)).idle 5 (grid0.coords t) = false := by
  change (!(k0_cond2 (w1 (F := F) t) (w3 (F := F) t) == 1#1) && !(k0_cond3 (w1 (F := F) t) (w3 (F := F) t) == 1#1)
    && !(k0_cond4 (w1 (F := F) t) (w3 (F := F) t) == 1#1)) = _
  rw [w1_eq, w3_eq]
  exact live_word t
theorem idle6 (t : Fin grid0.N) : (cfgM (F := F)).idle 6 (grid0.coords t) = false := idle5 t

theorem col_flush : ∀ t : Fin grid0.N, Pipeline.Window.flushOf grid0 true (fun i : grid0.Coords => (![jn (i 1).val, 0] : Fin 2 → ℕ)) t = decide (inn t.val = 7) := by
  decide +kernel
/-- A column's last point writes its blocks back. -/
theorem flush4 (t : Fin grid0.N) : ((cfgM (F := F)).win 4).flush t = decide (inn t.val = 7) := by
  rw [Pipeline.Window.flush_eq_flushOf, show ((cfgM (F := F)).win 4).indexMap = fun i : grid0.Coords => (![jn (i 1).val, 0] : Fin 2 → ℕ) from funext ix_col]
  exact col_flush t
theorem flush5 (t : Fin grid0.N) : ((cfgM (F := F)).win 5).flush t = decide (inn t.val = 7) := flush4 t
theorem flush6 (t : Fin grid0.N) : ((cfgM (F := F)).win 6).flush t = decide (inn t.val = 7) := flush4 t

/-- Whether a result's staging buffer holds nothing of the column yet: at a column's start. -/
def freshTab (n : ℕ) : Bool := Nat.testBit 0b1_1_01_001_0001_00001_000001_0000001_00000001 n
theorem tab_step : ∀ t : Fin grid0.N, freshTab (t.val + 1) = (decide (inn t.val = 7) || (decide (inn t.val ≠ jn t.val) && freshTab t.val)) := by
  decide +kernel
theorem tab_step' : ∀ t : Fin grid0.N, freshTab (t.val + 1) = (decide (inn t.val = 7) || (false && freshTab t.val)) := by
  decide +kernel
theorem tab_eq : ∀ t : Fin grid0.N, freshTab t.val = decide (inn t.val = jn t.val) := by decide +kernel

theorem fresh4 (t : Fin (cfgM (F := F)).N) : (cfgM (F := F)).fresh 4 t.val = decide (inn t.val = jn t.val) :=
  (Pipeline.Cfg.fresh_tab (cfgM (F := F)) 4 freshTab rfl (fun t => (tab_step t).trans (by rw [flush4, idle4])) t.val (Nat.le_of_lt t.isLt)).trans (tab_eq t)
theorem fresh5 (t : Fin (cfgM (F := F)).N) : (cfgM (F := F)).fresh 5 t.val = decide (inn t.val = jn t.val) :=
  (Pipeline.Cfg.fresh_tab (cfgM (F := F)) 5 freshTab rfl (fun t => (tab_step' t).trans (by rw [flush5, idle5])) t.val (Nat.le_of_lt t.isLt)).trans (tab_eq t)
theorem fresh6 (t : Fin (cfgM (F := F)).N) : (cfgM (F := F)).fresh 6 t.val = decide (inn t.val = jn t.val) :=
  (Pipeline.Cfg.fresh_tab (cfgM (F := F)) 6 freshTab rfl (fun t => (tab_step' t).trans (by rw [flush6, idle6])) t.val (Nat.le_of_lt t.isLt)).trans (tab_eq t)

end Cert.FoxIdeal.Hand

end
-- ==== Proof.FoxData.lean ====
/-
  What the attention's backward kernel holds after each point of the causal triangle: the query gradient's block, the key
  and value gradients' blocks, and the running query gradient of all rows.
-/
module

public import proofs.«01_k».proof.Proof.FoxTables

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The host lines before the call -/

/-- Core `c`'s buffers when the call is entered. -/
abbrev V0 (c : Dev nD) : Valuation τ sig (Elt F) :=
  StableHlo.after (List.flatten [hostOps0, hostOps0_1, hostOps0_2, hostOps0_3, hostOps0_4]) (fun b => m (c, b))
/-- The same read at a reference. -/
abbrev V (c : Dev nD) (b : Ref sig .tc) : Buf (Elt F) ((c : Thread nD τ).loc b) := V0 m c (Proc.devRef .tc b)

/-- Window `w`'s block at point `t`. -/
def iblk (c : Dev nD) (w : Fin (cfgM (F := F)).W) (t : Fin (cfgM (F := F)).N) :
    (((cfgM (F := F)).win w).xblock ((cfgM (F := F)).grid.coords t)).Idx → Elt F ((cfgM (F := F)).win w).elt :=
  (((cfgM (F := F)).win w).blk t).view.read (Elt F) (V m c (Pipeline.arrRef spec0 w))

/-! ## The staging buffers and a point's run -/

abbrev ms0 (t : Fin grid0.N) := spec0_0.stage ((cfgM (F := F)).slots t 0)
abbrev hs0 (t : Fin grid0.N) : (ms0 (F := F) t).IsWhole := hstage0_0 (((cfgM (F := F)).slots t 0).cast nbuf0_0)
abbrev ms1 (t : Fin grid0.N) := spec0_1.stage ((cfgM (F := F)).slots t 1)
abbrev hs1 (t : Fin grid0.N) : (ms1 (F := F) t).IsWhole := hstage0_1 (((cfgM (F := F)).slots t 1).cast nbuf0_1)
abbrev ms2 (t : Fin grid0.N) := spec0_2.stage ((cfgM (F := F)).slots t 2)
abbrev hs2 (t : Fin grid0.N) : (ms2 (F := F) t).IsWhole := hstage0_2 (((cfgM (F := F)).slots t 2).cast nbuf0_2)
abbrev ms3 (t : Fin grid0.N) := spec0_3.stage ((cfgM (F := F)).slots t 3)
abbrev hs3 (t : Fin grid0.N) : (ms3 (F := F) t).IsWhole := hstage0_3 (((cfgM (F := F)).slots t 3).cast nbuf0_3)
abbrev ms4 (t : Fin grid0.N) := spec0_4.stage ((cfgM (F := F)).slots t 4)
abbrev hs4 (t : Fin grid0.N) : (ms4 (F := F) t).IsWhole := hstage0_4 (((cfgM (F := F)).slots t 4).cast nbuf0_4)
abbrev ms5 (t : Fin grid0.N) := spec0_5.stage ((cfgM (F := F)).slots t 5)
abbrev hs5 (t : Fin grid0.N) : (ms5 (F := F) t).IsWhole := hstage0_5 (((cfgM (F := F)).slots t 5).cast nbuf0_5)
abbrev ms6 (t : Fin grid0.N) := spec0_6.stage ((cfgM (F := F)).slots t 6)
abbrev hs6 (t : Fin grid0.N) : (ms6 (F := F) t).IsWhole := hstage0_6 (((cfgM (F := F)).slots t 6).cast nbuf0_6)

theorem not_first (t : Fin grid0.N) (h : ¬ inn t.val = jn t.val) :
    ¬ Scalar.cmpi .ne (Scalar.extui (Scalar.cmpi .eq (BitVec.ofNat 32 (grid0.coords t 1).val) 0#32) : BitVec 32) 0#32 = 1#1 :=
  fun e => h (by rw [(first_iff t).mp e]; rfl)

/-- The first point's run. -/
abbrev ptZ (c : Dev nD) (t : Fin grid0.N) (hz : t.val = 0) (x4 x5 x6 x7 : Vec F S512x1024 .bf16) :=
  runZ (F := F) c (grid0.coords t) (Memref.whole main_c) (Memref.isWhole_whole _) (Memref.whole main_c_0) (Memref.isWhole_whole _) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (Memref.whole cc0_scratch0) (Memref.isWhole_whole _) (BitVec.ofNat 32 (jn t.val)) (BitVec.ofNat 32 (inn t.val)) (chk t) ((first_iff t).mpr hz)
    ((c2_iff t).mpr (by rw [hz]; rfl)) (fun e => (c3_iff t).mp e (by rw [hz]; rfl)) ((c4_iff t).mpr (by rw [hz]; rfl)) x4 x5 x6 x7
/-- A later diagonal point's. -/
abbrev ptD (c : Dev nD) (t : Fin grid0.N) (hz : ¬ t.val = 0) (hd : inn t.val = jn t.val) (x4 x5 x6 x7 : Vec F S512x1024 .bf16) (x11 : Vec F S4096x1024 .f32) :=
  runD (F := F) c (grid0.coords t) (Memref.whole main_c) (Memref.isWhole_whole _) (Memref.whole main_c_0) (Memref.isWhole_whole _) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (Memref.whole cc0_scratch0) (Memref.isWhole_whole _) (BitVec.ofNat 32 (jn t.val)) (BitVec.ofNat 32 (inn t.val)) (chk t) (fun e => hz ((first_iff t).mp e))
    ((c2_iff t).mpr hd) (fun e => (c3_iff t).mp e hd) ((c4_iff t).mpr hd) x4 x5 x6 x7 x11
/-- A point's below the diagonal. -/
abbrev ptO (c : Dev nD) (t : Fin grid0.N) (hd : ¬ inn t.val = jn t.val) (x4 x5 x6 x7 : Vec F S512x1024 .bf16) (x9 x10 : Vec F S512x1024 .f32) (x11 : Vec F S4096x1024 .f32) :=
  runO (F := F) c (grid0.coords t) (Memref.whole main_c) (Memref.isWhole_whole _) (Memref.whole main_c_0) (Memref.isWhole_whole _) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (Memref.whole cc0_scratch0) (Memref.isWhole_whole _) (BitVec.ofNat 32 (jn t.val)) (BitVec.ofNat 32 (inn t.val)) (chk t) (not_first t hd)
    (fun e => hd ((c2_iff t).mp e)) ((c3_iff t).mpr hd) (fun e => hd ((c4_iff t).mp e)) x4 x5 x6 x7 x9 x10 x11

/-! ## The stores cover the buffers -/

theorem coverZ8 (c : Dev nD) (t : Fin grid0.N) (hz : t.val = 0) (x4 x5 x6 x7 : Vec F S512x1024 .bf16) (y : S512x1024.Idx) :
    ∃ pc ∈ (ptZ c t hz x4 x5 x6 x7).1, y ∈ pc.1.set := View.cover_of_tiledBy _ ![512, 128] (by sl_kernel_rfl) y
theorem coverZ9 (c : Dev nD) (t : Fin grid0.N) (hz : t.val = 0) (x4 x5 x6 x7 : Vec F S512x1024 .bf16) (y : S512x1024.Idx) :
    ∃ pc ∈ (ptZ c t hz x4 x5 x6 x7).2.1, y ∈ pc.1.set := View.cover_of_tiledBy _ ![512, 128] (by sl_kernel_rfl) y
theorem coverZ10 (c : Dev nD) (t : Fin grid0.N) (hz : t.val = 0) (x4 x5 x6 x7 : Vec F S512x1024 .bf16) (y : S512x1024.Idx) :
    ∃ pc ∈ (ptZ c t hz x4 x5 x6 x7).2.2.1, y ∈ pc.1.set := View.cover_of_tiledBy _ ![512, 128] (by sl_kernel_rfl) y
theorem coverZ11 (c : Dev nD) (t : Fin grid0.N) (hz : t.val = 0) (x4 x5 x6 x7 : Vec F S512x1024 .bf16) (y : S4096x1024.Idx) :
    ∃ pc ∈ (ptZ c t hz x4 x5 x6 x7).2.2.2.1, y ∈ pc.1.set := View.cover_of_wholeMem _ (by sl_whole_mem) y
theorem coverD8 (c : Dev nD) (t : Fin grid0.N) (hz : ¬ t.val = 0) (hd : inn t.val = jn t.val) (x4 x5 x6 x7 : Vec F S512x1024 .bf16) (x11 : Vec F S4096x1024 .f32)
    (y : S512x1024.Idx) : ∃ pc ∈ (ptD c t hz hd x4 x5 x6 x7 x11).1, y ∈ pc.1.set := View.cover_of_tiledBy _ ![512, 128] (by sl_kernel_rfl) y
theorem coverD9 (c : Dev nD) (t : Fin grid0.N) (hz : ¬ t.val = 0) (hd : inn t.val = jn t.val) (x4 x5 x6 x7 : Vec F S512x1024 .bf16) (x11 : Vec F S4096x1024 .f32)
    (y : S512x1024.Idx) : ∃ pc ∈ (ptD c t hz hd x4 x5 x6 x7 x11).2.1, y ∈ pc.1.set := View.cover_of_tiledBy _ ![512, 128] (by sl_kernel_rfl) y
theorem coverD10 (c : Dev nD) (t : Fin grid0.N) (hz : ¬ t.val = 0) (hd : inn t.val = jn t.val) (x4 x5 x6 x7 : Vec F S512x1024 .bf16) (x11 : Vec F S4096x1024 .f32)
    (y : S512x1024.Idx) : ∃ pc ∈ (ptD c t hz hd x4 x5 x6 x7 x11).2.2.1, y ∈ pc.1.set := View.cover_of_tiledBy _ ![512, 128] (by sl_kernel_rfl) y
theorem coverO9 (c : Dev nD) (t : Fin grid0.N) (hd : ¬ inn t.val = jn t.val) (x4 x5 x6 x7 : Vec F S512x1024 .bf16) (x9 x10 : Vec F S512x1024 .f32) (x11 : Vec F S4096x1024 .f32)
    (y : S512x1024.Idx) : ∃ pc ∈ (ptO c t hd x4 x5 x6 x7 x9 x10 x11).1, y ∈ pc.1.set := View.cover_of_tiledL _ ![512, 128] (by sl_kernel_rfl) y
theorem coverO10 (c : Dev nD) (t : Fin grid0.N) (hd : ¬ inn t.val = jn t.val) (x4 x5 x6 x7 : Vec F S512x1024 .bf16) (x9 x10 : Vec F S512x1024 .f32) (x11 : Vec F S4096x1024 .f32)
    (y : S512x1024.Idx) : ∃ pc ∈ (ptO c t hd x4 x5 x6 x7 x9 x10 x11).2.1, y ∈ pc.1.set := View.cover_of_tiledL _ ![512, 128] (by sl_kernel_rfl) y

/-! ## What the buffers hold after each point -/

abbrev VO4 : View sig .tc .vmem S512x1024 .f32 := (Memref.whole cc0_stg4_0 : Memref sig .tc .vmem S512x1024 .f32).view
abbrev VO5 : View sig .tc .vmem S512x1024 .f32 := (Memref.whole cc0_stg5_0 : Memref sig .tc .vmem S512x1024 .f32).view
abbrev VO6 : View sig .tc .vmem S512x1024 .f32 := (Memref.whole cc0_stg6_0 : Memref sig .tc .vmem S512x1024 .f32).view
/-- The running query gradient's buffer. -/
abbrev scM : Memref sig .tc .vmem S4096x1024 .f32 := Memref.whole cc0_scratch0
abbrev hscM : scM.IsWhole := Memref.isWhole_whole _

/-- The three results' blocks and the running query gradient. -/
structure St (F : FTy → Type) where
  dq : Vec F S512x1024 .f32
  dk : Vec F S512x1024 .f32
  dv : Vec F S512x1024 .f32
  sc : Vec F S4096x1024 .f32

/-- After the first point. -/
def stZ (c : Dev nD) (t : Fin grid0.N) (hz : t.val = 0) (x4 x5 x6 x7 : Vec F S512x1024 .bf16) : St F where
  dq := VO4.read (Elt F) (VO4.writes (Elt F) VO4.junk (ptZ c t hz x4 x5 x6 x7).1)
  dk := VO5.read (Elt F) (VO5.writes (Elt F) VO5.junk (ptZ c t hz x4 x5 x6 x7).2.1)
  dv := VO6.read (Elt F) (VO6.writes (Elt F) VO6.junk (ptZ c t hz x4 x5 x6 x7).2.2.1)
  sc := scM.view.read (Elt F) (scM.view.writes (Elt F) scM.view.junk (ptZ c t hz x4 x5 x6 x7).2.2.2.1)
/-- After a later diagonal point, from the running query gradient. -/
def stD (c : Dev nD) (t : Fin grid0.N) (hz : ¬ t.val = 0) (hd : inn t.val = jn t.val) (x4 x5 x6 x7 : Vec F S512x1024 .bf16) (x11 : Vec F S4096x1024 .f32) : St F where
  dq := VO4.read (Elt F) (VO4.writes (Elt F) VO4.junk (ptD c t hz hd x4 x5 x6 x7 x11).1)
  dk := VO5.read (Elt F) (VO5.writes (Elt F) VO5.junk (ptD c t hz hd x4 x5 x6 x7 x11).2.1)
  dv := VO6.read (Elt F) (VO6.writes (Elt F) VO6.junk (ptD c t hz hd x4 x5 x6 x7 x11).2.2.1)
  sc := scM.view.read (Elt F) (scM.view.writes (Elt F) (hscM.unread x11) (ptD c t hz hd x4 x5 x6 x7 x11).2.2.2.1)
/-- After a point below the diagonal, from what the point before left. -/
def stO (c : Dev nD) (t : Fin grid0.N) (hd : ¬ inn t.val = jn t.val) (x4 x5 x6 x7 : Vec F S512x1024 .bf16) (s : St F) : St F where
  dq := s.dq
  dk := VO5.read (Elt F) (VO5.writes (Elt F) VO5.junk (ptO c t hd x4 x5 x6 x7 s.dk s.dv s.sc).1)
  dv := VO6.read (Elt F) (VO6.writes (Elt F) VO6.junk (ptO c t hd x4 x5 x6 x7 s.dk s.dv s.sc).2.1)
  sc := scM.view.read (Elt F) (scM.view.writes (Elt F) (hscM.unread s.sc) (ptO c t hd x4 x5 x6 x7 s.dk s.dv s.sc).2.2.1)

/-- After the point of number `n`. -/
def st (c : Dev nD) : (n : ℕ) → n < grid0.N → St F
  | 0, h => stZ c ⟨0, h⟩ rfl (iblk m c 0 ⟨0, h⟩) (iblk m c 1 ⟨0, h⟩) (iblk m c 2 ⟨0, h⟩) (iblk m c 3 ⟨0, h⟩)
  | n + 1, h =>
    if hd : inn (n + 1) = jn (n + 1) then
      stD c ⟨n + 1, h⟩ (Nat.succ_ne_zero n) hd (iblk m c 0 ⟨n + 1, h⟩) (iblk m c 1 ⟨n + 1, h⟩) (iblk m c 2 ⟨n + 1, h⟩) (iblk m c 3 ⟨n + 1, h⟩)
        (st c n (Nat.lt_of_succ_lt h)).sc
    else
      stO c ⟨n + 1, h⟩ hd (iblk m c 0 ⟨n + 1, h⟩) (iblk m c 1 ⟨n + 1, h⟩) (iblk m c 2 ⟨n + 1, h⟩) (iblk m c 3 ⟨n + 1, h⟩) (st c n (Nat.lt_of_succ_lt h))

theorem st_Z (c : Dev nD) (t : Fin grid0.N) (hz : t.val = 0) :
    st m c t.val t.isLt = stZ c t hz (iblk m c 0 t) (iblk m c 1 t) (iblk m c 2 t) (iblk m c 3 t) := by
  obtain ⟨n, hn⟩ := t
  obtain rfl : n = 0 := hz
  rfl
theorem st_D (c : Dev nD) (t : Fin grid0.N) (hz : ¬ t.val = 0) (hd : inn t.val = jn t.val) :
    st m c t.val t.isLt = stD c t hz hd (iblk m c 0 t) (iblk m c 1 t) (iblk m c 2 t) (iblk m c 3 t)
      (st m c (t.val - 1) (Nat.lt_of_le_of_lt (Nat.sub_le _ _) t.isLt)).sc := by
  obtain ⟨n, hn⟩ := t
  cases n with
  | zero => exact absurd rfl hz
  | succ n => exact dif_pos hd
theorem st_O (c : Dev nD) (t : Fin grid0.N) (hd : ¬ inn t.val = jn t.val) :
    st m c t.val t.isLt = stO c t hd (iblk m c 0 t) (iblk m c 1 t) (iblk m c 2 t) (iblk m c 3 t)
      (st m c (t.val - 1) (Nat.lt_of_le_of_lt (Nat.sub_le _ _) t.isLt)) := by
  obtain ⟨n, hn⟩ := t
  cases n with
  | zero => exact absurd rfl hd
  | succ n => exact dif_neg hd

/-! ## The proof data -/

/-- What the body carries besides the windows: the running query gradient, and the random generator's register. -/
def PhiS (c : Dev nD) : (n : ℕ) → n ≤ grid0.N → sProp 𝕄
  | 0, _ => Pipeline.ΦA spec0 c
  | n + 1, h => iprop(owns (c : Thread nD τ) scM fullShare (st m c n h).sc ∗ ∃ r, prngReg c r)

theorem PhiS_pos (c : Dev nD) (n : ℕ) (h : n ≤ grid0.N) (hz : ¬ n = 0) :
    PhiS m c n h = iprop(owns (c : Thread nD τ) scM fullShare (st m c (n - 1) (by omega)).sc ∗ ∃ r, prngReg c r) := by
  cases n with
  | zero => exact absurd rfl hz
  | succ n => rfl

/-- The proof data: each window's array as the call finds it, what the body leaves in each staging buffer, and the
    invariant, which holds the two tables beside `PhiS`. -/
def dats (p : Fin 1) (c : Dev nD) : Dat τ (Elt F) Unit ℕ (UR sig nD τ) ℕ (Pipeline.pin pcfgs (fun _ => adm (F := F)) p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (st m c t.val t.isLt).dq
    | ⟨5, _⟩ => (st m c t.val t.isLt).dk
    | ⟨6, _⟩ => (st m c t.val t.isLt).dv
    | ⟨_ + 7, h⟩ => absurd h (Nat.not_lt.2 (Nat.le_add_left _ _))
  Φ t := iprop(PhiS m c t.val (Nat.le_of_lt_succ t.isLt) ∗ Pipeline.ΦT pre0 (tbl (F := F)) c)
  q _ := fullShare
  owed _ := 0

end Cert.FoxIdeal.Hand

end
-- ==== Proof.Tiles.lean ====
/-
  A buffer after read-modify-writes of equal-sized windows kept apart by one axis: each window holds what its own store
  made of what lay there before any of them.
-/
module

public import Idealize.ShloMosaic.Lib.WindowSumWrites

@[expose] public section

namespace Cert.Tiles

open Idealize.ShloMosaic Idealize.ShloMosaic.View

variable {sig : RefSig} {κ : Kind} {sp : Space} {s : Shape} {e : EltTy} {Val : EltTy → Type} {NB : ℕ}
  {κ' : Kind} {sp' : Space} (v : View sig κ sp s e) (f : v.ty.Contents Val) (w : View sig κ' sp' s e) (lb : w.ty.Contents Val) (bottom : List (View.Piece Val s e))
  (wsz : Fin s.rank → ℕ) (off : Fin NB → Fin s.rank → ℕ) (inb : ∀ i a, off i a + wsz a ≤ s.size a)
  (X : Fin NB → ((⟨s.rank, wsz⟩ : Shape).Idx → Val e) → (⟨s.rank, wsz⟩ : Shape).Idx → Val e)

/-- An index that misses the first `j` windows on one axis reads what lay below them. -/
theorem read_acc_miss (j : ℕ) (hj : j ≤ NB) (y : s.Idx) (ax : Fin s.rank)
    (hdis : ∀ i : Fin NB, i.val < j → (y ax).val < off i ax ∨ off i ax + wsz ax ≤ (y ax).val) :
    v.read Val (v.writes Val f (accPieces w lb bottom wsz off inb X j hj)) y = v.read Val (v.writes Val f bottom) y := by
  induction j with
  | zero => rfl
  | succ j ih =>
    rw [accPieces_succ, read_writes_cons_unit_of_not_mem v f (inb ⟨j, hj⟩) _ _ y rfl ax (hdis ⟨j, hj⟩ (Nat.lt_succ_self j))]
    exact ih (Nat.le_of_succ_le hj) fun i hi => hdis i (Nat.lt_succ_of_lt hi)

/-- An index at position `x` of window `i`, one of the first `j`, reads what window `i`'s store made of what lay below
    them all. -/
theorem read_acc (ax : Fin s.rank)
    (hap : ∀ i i' : Fin NB, i' ≠ i → off i ax + wsz ax ≤ off i' ax ∨ off i' ax + wsz ax ≤ off i ax)
    (j : ℕ) (hj : j ≤ NB) (y : s.Idx) (i : Fin NB) (hi : i.val < j) (x : (⟨s.rank, wsz⟩ : Shape).Idx)
    (hx : ∀ a, (y a).val = off i a + (x a).val) :
    v.read Val (v.writes Val f (accPieces w lb bottom wsz off inb X j hj)) y
      = X i (w.readAt Val (Rect.unit (off i) wsz (inb i)).toLoadRect (w.writes Val lb bottom)) x := by
  have hxa : ∀ z : (⟨s.rank, wsz⟩ : Shape).Idx, (z ax).val < wsz ax := fun z => (z ax).isLt
  induction j with
  | zero => exact absurd hi (Nat.not_lt_zero _)
  | succ j ih =>
    rw [accPieces_succ]
    by_cases hn : (⟨j, hj⟩ : Fin NB) = i
    · subst hn
      rw [read_writes_cons_unit_of_mem v f (inb ⟨j, hj⟩) _ _ y x rfl hx]
      refine congrFun (congrArg (X ⟨j, hj⟩) (funext fun z => ?_)) x
      rw [View.readAt_apply, View.readAt_apply]
      refine read_acc_miss w lb w lb bottom wsz off inb X j _ _ ax fun i hi => ?_
      have h1 : (((Rect.unit (off ⟨j, hj⟩) wsz (inb ⟨j, hj⟩)).toLoadRect.idx z) ax).val = off ⟨j, hj⟩ ax + 1 * (z ax).val := rfl
      rw [h1]
      have h2 := hap ⟨j, hj⟩ i (fun e => by rw [e] at hi; exact absurd hi (Nat.lt_irrefl _))
      have h3 := hxa z
      omega
    · have h2 := hap i ⟨j, hj⟩ hn
      have h3 := hxa x
      have h4 := hx ax
      rw [read_writes_cons_unit_of_not_mem v f (inb ⟨j, hj⟩) _ _ y rfl ax (by omega)]
      exact ih (Nat.le_of_succ_le hj) (by
        have : i.val ≠ j := fun h => hn (Fin.ext h.symm)
        omega)

end Cert.Tiles

end
-- ==== Proof.FoxPoint.lean ====
/-
  The stores of one grid point of the attention's backward kernel, head by head: each head's payloads are one expression
  in the head's columns of the four blocks.
-/
module

public import proofs.«01_k».proof.Proof.FoxData
public import proofs.«01_k».proof.Proof.Tiles
public import Idealize.ShloMosaic.Lib.WholeRead

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic

variable {F : FTy → Type} [FloatOps F] [Named F]

/-! ## A head's payloads -/

/-- The weights `exp (q · k)`, before their normalisation is taken out of `q`. -/
def pO (q k : Vec F S512x128 .bf16) : FVec F S512x512 .f32 :=
  exp (matmul dot_S512x128_S512x128_S512x512_1_1_0_0_n_n none (shapeCast S512x128 q shapeCasts_S512x128_S512x128)
    (shapeCast S512x128 k shapeCasts_S512x128_S512x128) (constant S512x512 .f32 0x00000000#32))
/-- The same with the entries above the diagonal masked out. -/
def pD (q k : Vec F S512x128 .bf16) : FVec F S512x512 .f32 :=
  exp (select k0_pay69 (matmul dot_S512x128_S512x128_S512x512_1_1_0_0_n_n none (shapeCast S512x128 q shapeCasts_S512x128_S512x128)
    (shapeCast S512x128 k shapeCasts_S512x128_S512x128) (constant S512x512 .f32 0x00000000#32))
    (broadcast S512x512 (Named.named κ "mask" 0xF149F2CA#32)))
/-- The gradient of the scores: the weights times `do · v`. -/
def dsT (p : FVec F S512x512 .f32) (v d : Vec F S512x128 .bf16) : FVec F S512x512 .bf16 :=
  truncf .bf16 (mulf p (matmul dot_S512x128_S512x128_S512x512_1_1_0_0_n_n none (shapeCast S512x128 d shapeCasts_S512x128_S512x128)
    (shapeCast S512x128 v shapeCasts_S512x128_S512x128) (constant S512x512 .f32 0x00000000#32))) bitsLt_bf16_f32
/-- What a head adds to the value gradient. -/
def dvT (p : FVec F S512x512 .f32) (d : Vec F S512x128 .bf16) (x : Vec F S512x128 .f32) : FVec F S512x128 .f32 :=
  addf (shapeCast S512x128 x shapeCasts_S512x128_S512x128) (matmul dot_S512x512_S512x128_S512x128_0_0_1_1_n_n none
    (truncf .bf16 p bitsLt_bf16_f32) (shapeCast S512x128 d shapeCasts_S512x128_S512x128) (constant S512x128 .f32 0x00000000#32))
/-- What it adds to the key gradient. -/
def dkT (ds : FVec F S512x512 .bf16) (q : Vec F S512x128 .bf16) (x : Vec F S512x128 .f32) : FVec F S512x128 .f32 :=
  addf (shapeCast S512x128 x shapeCasts_S512x128_S512x128) (matmul dot_S512x512_S512x128_S512x128_0_0_1_1_n_n none
    ds (shapeCast S512x128 q shapeCasts_S512x128_S512x128) (constant S512x128 .f32 0x00000000#32))
/-- What it adds to the query gradient. -/
def dqT (ds : FVec F S512x512 .bf16) (k : Vec F S512x128 .bf16) (x : Vec F S512x128 .f32) : FVec F S512x128 .f32 :=
  shapeCast S512x128 (addf x (matmul dot_S512x512_S512x128_S512x128_1_0_0_1_n_n none
    ds (shapeCast S512x128 k shapeCasts_S512x128_S512x128) (constant S512x128 .f32 0x00000000#32))) shapeCasts_S512x128_S512x128

/-! ## The columns of a head -/

/-- Head `h`'s columns of a block. -/
abbrev offH (h : Fin 8) : Fin S512x1024.rank → ℕ := ![0, 128 * h.val]
theorem offH_inb : ∀ (h : Fin 8) (a : Fin S512x1024.rank), offH h a + S512x128.size a ≤ S512x1024.size a := by decide
abbrev rectH (h : Fin 8) : Rect S512x1024 := Rect.unit (s := S512x1024) (offH h) S512x128.size (offH_inb h)
/-- Head `h`'s columns of the rows of the running query gradient that start at the point's row. -/
abbrev offS (v3 : BitVec 32) (h : Fin 8) : Fin S4096x1024.rank → ℕ := ![k0_off2 v3 0, 128 * h.val]

theorem offS_inb (v1 v3 : BitVec 32) (hk : k0_chk1 v1 v3) (h3 : k0_cond3 v1 v3 = 1#1) :
    ∀ (h : Fin 8) (a : Fin S4096x1024.rank), offS v3 h a + S512x128.size a ≤ S4096x1024.size a := by
  have h0 := k0_off2_inb v1 v3 hk h3 0
  intro h a
  fin_cases a
  · exact h0
  · show 128 * h.val + 128 ≤ 1024
    omega

section Run

variable (c : Dev nD) (i : grid0.Coords) (arg2 : Memref sig .tc .smem S36 .i32) (harg2 : arg2.IsWhole) (arg3 : Memref sig .tc .smem S36 .i32) (harg3 : arg3.IsWhole)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .bf16) (harg7 : arg7.IsWhole)
    (arg8 : Memref sig .tc .vmem S512x1024 .f32) (harg8 : arg8.IsWhole) (arg9 : Memref sig .tc .vmem S512x1024 .f32) (harg9 : arg9.IsWhole)
    (arg10 : Memref sig .tc .vmem S512x1024 .f32) (harg10 : arg10.IsWhole) (arg11 : Memref sig .tc .vmem S4096x1024 .f32) (harg11 : arg11.IsWhole)
    (v1 v3 : BitVec 32) (hk : k0_chk1 v1 v3)
    (x4 x5 x6 x7 : Vec F S512x1024 .bf16) (x9 x10 : Vec F S512x1024 .f32) (x11 : Vec F S4096x1024 .f32)

section Off

variable
    (h1 : ¬ Scalar.cmpi .ne (Scalar.extui (Scalar.cmpi .eq (BitVec.ofNat 32 (i 1).val) 0#32) : BitVec 32) 0#32 = 1#1)
    (h2 : ¬ k0_cond2 v1 v3 = 1#1) (h3 : k0_cond3 v1 v3 = 1#1) (h4 : ¬ k0_cond4 v1 v3 = 1#1)

/-- Head `h`'s columns of the point's blocks, as the body loads them. -/
abbrev ldH {e : EltTy} {arg : Memref sig .tc .vmem S512x1024 e} (harg : arg.IsWhole) (x : Vec F S512x1024 e) (h : Fin 8) : Vec F S512x128 e :=
  View.readAt (Elt F) arg.view (rectH h).toLoadRect (harg.unread x)

theorem runO_dv : (runO c i arg2 harg2 arg3 harg3 arg4 harg4 arg5 harg5 arg6 harg6 arg7 harg7 arg8 harg8 arg9 harg9 arg10 harg10 arg11 harg11 v1 v3 hk h1 h2 h3 h4 x4 x5 x6 x7 x9 x10 x11).2.1
    = View.tilePieces (s := S512x1024) S512x128.size offH offH_inb (fun h => dvT (pO (ldH harg4 x4 h) (ldH harg5 x5 h)) (ldH harg7 x7 h) (ldH harg10 x10 h)) 8 (le_refl 8) := by
  sl_kernel_rfl
theorem runO_dk : (runO c i arg2 harg2 arg3 harg3 arg4 harg4 arg5 harg5 arg6 harg6 arg7 harg7 arg8 harg8 arg9 harg9 arg10 harg10 arg11 harg11 v1 v3 hk h1 h2 h3 h4 x4 x5 x6 x7 x9 x10 x11).1
    = View.tilePieces (s := S512x1024) S512x128.size offH offH_inb (fun h => dkT (dsT (pO (ldH harg4 x4 h) (ldH harg5 x5 h)) (ldH harg6 x6 h) (ldH harg7 x7 h)) (ldH harg4 x4 h) (ldH harg9 x9 h)) 8 (le_refl 8) := by
  sl_kernel_rfl
theorem runO_sc : (runO c i arg2 harg2 arg3 harg3 arg4 harg4 arg5 harg5 arg6 harg6 arg7 harg7 arg8 harg8 arg9 harg9 arg10 harg10 arg11 harg11 v1 v3 hk h1 h2 h3 h4 x4 x5 x6 x7 x9 x10 x11).2.2.1
    = View.accPieces (s := S4096x1024) arg11.view (harg11.unread x11) [] S512x128.size (offS v3) (offS_inb v1 v3 hk h3)
        (fun h => dqT (dsT (pO (ldH harg4 x4 h) (ldH harg5 x5 h)) (ldH harg6 x6 h) (ldH harg7 x7 h)) (ldH harg5 x5 h)) 8 (le_refl 8) := by
  sl_kernel_rfl

end Off

/-! On the diagonal the key and value gradients' blocks are first filled with zeros. -/

theorem offS_inb' (v1 v3 : BitVec 32) (hk : k0_chk1 v1 v3) (h4 : k0_cond4 v1 v3 = 1#1) :
    ∀ (h : Fin 8) (a : Fin S4096x1024.rank), offS v3 h a + S512x128.size a ≤ S4096x1024.size a := by
  have h0 := k0_off10_inb v1 v3 hk h4 0
  intro h a
  fin_cases a
  · exact h0
  · show 128 * h.val + 128 ≤ 1024
    omega

/-- The block filled with zeros. -/
abbrev zero9 : List (View.Piece (Elt F) S512x1024 .f32) :=
  [⟨Rect.unit (s := S512x1024) ![0, 0] S512x1024.size inb_S512x1024_S512x1024_0_0, k0_pay2⟩]
/-- The running query gradient filled with zeros. -/
abbrev zero11 : List (View.Piece (Elt F) S4096x1024 .f32) :=
  [⟨Rect.unit (s := S4096x1024) ![0, 0] S4096x1024.size inb_S4096x1024_S4096x1024_0_0, k0_pay1⟩]

section Diag

variable
    (h1 : ¬ Scalar.cmpi .ne (Scalar.extui (Scalar.cmpi .eq (BitVec.ofNat 32 (i 1).val) 0#32) : BitVec 32) 0#32 = 1#1)
    (h2 : k0_cond2 v1 v3 = 1#1) (h3 : ¬ k0_cond3 v1 v3 = 1#1) (h4 : k0_cond4 v1 v3 = 1#1)

theorem runD_dv : (runD c i arg2 harg2 arg3 harg3 arg4 harg4 arg5 harg5 arg6 harg6 arg7 harg7 arg8 harg8 arg9 harg9 arg10 harg10 arg11 harg11 v1 v3 hk h1 h2 h3 h4 x4 x5 x6 x7 x11).2.2.1
    = View.accPieces (s := S512x1024) arg10.view arg10.view.junk zero9 S512x128.size offH offH_inb
        (fun h => dvT (pD (ldH harg4 x4 h) (ldH harg5 x5 h)) (ldH harg7 x7 h)) 8 (le_refl 8) := by
  sl_kernel_rfl
theorem runD_dk : (runD c i arg2 harg2 arg3 harg3 arg4 harg4 arg5 harg5 arg6 harg6 arg7 harg7 arg8 harg8 arg9 harg9 arg10 harg10 arg11 harg11 v1 v3 hk h1 h2 h3 h4 x4 x5 x6 x7 x11).2.1
    = View.accPieces (s := S512x1024) arg9.view arg9.view.junk zero9 S512x128.size offH offH_inb
        (fun h => dkT (dsT (pD (ldH harg4 x4 h) (ldH harg5 x5 h)) (ldH harg6 x6 h) (ldH harg7 x7 h)) (ldH harg4 x4 h)) 8 (le_refl 8) := by
  sl_kernel_rfl
theorem runD_sc : (runD c i arg2 harg2 arg3 harg3 arg4 harg4 arg5 harg5 arg6 harg6 arg7 harg7 arg8 harg8 arg9 harg9 arg10 harg10 arg11 harg11 v1 v3 hk h1 h2 h3 h4 x4 x5 x6 x7 x11).2.2.2.1
    = View.accPieces (s := S4096x1024) arg11.view (harg11.unread x11) [] S512x128.size (offS v3) (offS_inb' v1 v3 hk h4)
        (fun h => dqT (dsT (pD (ldH harg4 x4 h) (ldH harg5 x5 h)) (ldH harg6 x6 h) (ldH harg7 x7 h)) (ldH harg5 x5 h)) 8 (le_refl 8) := by
  sl_kernel_rfl
theorem runD_dq : (runD c i arg2 harg2 arg3 harg3 arg4 harg4 arg5 harg5 arg6 harg6 arg7 harg7 arg8 harg8 arg9 harg9 arg10 harg10 arg11 harg11 v1 v3 hk h1 h2 h3 h4 x4 x5 x6 x7 x11).1
    = [⟨Rect.unit (s := S512x1024) ![0, 0] S512x1024.size inb_S512x1024_S512x1024_0_0,
        View.readAt (Elt F) arg11.view (Rect.unit (s := S4096x1024) (k0_off18 v1) S512x1024.size (k0_off18_inb v1 v3 hk h4)).toLoadRect
          (arg11.view.writes (Elt F) (harg11.unread x11) (runD c i arg2 harg2 arg3 harg3 arg4 harg4 arg5 harg5 arg6 harg6 arg7 harg7 arg8 harg8 arg9 harg9 arg10 harg10 arg11 harg11 v1 v3 hk h1 h2 h3 h4 x4 x5 x6 x7 x11).2.2.2.1)⟩] := by
  sl_kernel_rfl

end Diag

section First

variable
    (h1 : Scalar.cmpi .ne (Scalar.extui (Scalar.cmpi .eq (BitVec.ofNat 32 (i 1).val) 0#32) : BitVec 32) 0#32 = 1#1)
    (h2 : k0_cond2 v1 v3 = 1#1) (h3 : ¬ k0_cond3 v1 v3 = 1#1) (h4 : k0_cond4 v1 v3 = 1#1)

theorem runZ_dv : (runZ c i arg2 harg2 arg3 harg3 arg4 harg4 arg5 harg5 arg6 harg6 arg7 harg7 arg8 harg8 arg9 harg9 arg10 harg10 arg11 harg11 v1 v3 hk h1 h2 h3 h4 x4 x5 x6 x7).2.2.1
    = View.accPieces (s := S512x1024) arg10.view arg10.view.junk zero9 S512x128.size offH offH_inb
        (fun h => dvT (pD (ldH harg4 x4 h) (ldH harg5 x5 h)) (ldH harg7 x7 h)) 8 (le_refl 8) := by
  sl_kernel_rfl
theorem runZ_dk : (runZ c i arg2 harg2 arg3 harg3 arg4 harg4 arg5 harg5 arg6 harg6 arg7 harg7 arg8 harg8 arg9 harg9 arg10 harg10 arg11 harg11 v1 v3 hk h1 h2 h3 h4 x4 x5 x6 x7).2.1
    = View.accPieces (s := S512x1024) arg9.view arg9.view.junk zero9 S512x128.size offH offH_inb
        (fun h => dkT (dsT (pD (ldH harg4 x4 h) (ldH harg5 x5 h)) (ldH harg6 x6 h) (ldH harg7 x7 h)) (ldH harg4 x4 h)) 8 (le_refl 8) := by
  sl_kernel_rfl
theorem runZ_sc : (runZ c i arg2 harg2 arg3 harg3 arg4 harg4 arg5 harg5 arg6 harg6 arg7 harg7 arg8 harg8 arg9 harg9 arg10 harg10 arg11 harg11 v1 v3 hk h1 h2 h3 h4 x4 x5 x6 x7).2.2.2.1
    = View.accPieces (s := S4096x1024) arg11.view arg11.view.junk zero11 S512x128.size (offS v3) (offS_inb' v1 v3 hk h4)
        (fun h => dqT (dsT (pD (ldH harg4 x4 h) (ldH harg5 x5 h)) (ldH harg6 x6 h) (ldH harg7 x7 h)) (ldH harg5 x5 h)) 8 (le_refl 8) := by
  sl_kernel_rfl
theorem runZ_dq : (runZ c i arg2 harg2 arg3 harg3 arg4 harg4 arg5 harg5 arg6 harg6 arg7 harg7 arg8 harg8 arg9 harg9 arg10 harg10 arg11 harg11 v1 v3 hk h1 h2 h3 h4 x4 x5 x6 x7).1
    = [⟨Rect.unit (s := S512x1024) ![0, 0] S512x1024.size inb_S512x1024_S512x1024_0_0,
        View.readAt (Elt F) arg11.view (Rect.unit (s := S4096x1024) (k0_off18 v1) S512x1024.size (k0_off18_inb v1 v3 hk h4)).toLoadRect
          (arg11.view.writes (Elt F) arg11.view.junk (runZ c i arg2 harg2 arg3 harg3 arg4 harg4 arg5 harg5 arg6 harg6 arg7 harg7 arg8 harg8 arg9 harg9 arg10 harg10 arg11 harg11 v1 v3 hk h1 h2 h3 h4 x4 x5 x6 x7).2.2.2.1)⟩] := by
  sl_kernel_rfl

end First

end Run

end Cert.FoxIdeal.Hand

end
-- ==== Proof.FoxStep.lean ====
/-
  One grid point of the attention's backward kernel over the extended reals: what it adds to the three gradients, entry by
  entry.
-/
module

public import proofs.«01_k».proof.Proof.FoxPoint
public import Idealize.ShloMosaic.Lib.Pointwise
public import Idealize.ShloMosaic.PureOps.Ideal.Laws
public import Idealize.ShloMosaic.Lib.Pipeline.ValueKit

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic

/-! ## A head's payloads at an entry -/

/-- A tile's entry, as an extended real. -/
abbrev t16 (x : Vec Ideal S512x128 .bf16) (a : Fin 512) (e : Fin 128) : EReal := x (ix2 a e)
abbrev t32 (x : Vec Ideal S512x128 .f32) (a : Fin 512) (e : Fin 128) : EReal := x (ix2 a e)
abbrev s16 (x : FVec Ideal S512x512 .bf16) (a b : Fin 512) : EReal := x (ix2 a b)
abbrev s32 (x : FVec Ideal S512x512 .f32) (a b : Fin 512) : EReal := x (ix2 a b)

theorem pO_apply (q k : Vec Ideal S512x128 .bf16) (a b : Fin 512) :
    s32 (pO q k) a b = Ideal.exp (∑ e : Fin 128, t16 q a e * t16 k b e) := by
  unfold s32 t16
  pointwise [pO]
/-- The kernel's mask constant is named `-∞`. -/
theorem named_mask : (Named.named κ "mask" 0xF149F2CA#32 : Ideal .f32) = (⊥ : EReal) :=
  IdealRules.named_const.ideal_named_scalar κ "mask" _ _ rfl
/-- The kernel's comparison of a row's number with a column's. -/
theorem sge_word (a b : Fin 512) : IntOp.cmpi .sge (BitVec.ofNat 32 a.val) (BitVec.ofNat 32 b.val) = if b.val ≤ a.val then 1#1 else 0#1 := by
  rw [WordCmp.cmpi_sge_ofNat (lt_trans a.isLt (by norm_num)) (lt_trans b.isLt (by norm_num))]
  by_cases h : b.val ≤ a.val <;> simp [h]
theorem pD_apply (q k : Vec Ideal S512x128 .bf16) (a b : Fin 512) :
    s32 (pD q k) a b = if b.val ≤ a.val then Ideal.exp (∑ e : Fin 128, t16 q a e * t16 k b e) else 0 := by
  unfold s32 t16
  pointwise [pD, k0_pay69]
  rw [show (Named.named κ "mask" 4048155338#32 : Ideal .f32) = (⊥ : EReal) from named_mask, sge_word]
  by_cases h : b.val ≤ a.val
  · rw [if_pos h, if_pos h]; rfl
  · rw [if_neg h, if_neg h]; exact Ideal.exp_bot
theorem dsT_apply (p : FVec Ideal S512x512 .f32) (v d : Vec Ideal S512x128 .bf16) (a b : Fin 512) :
    s16 (dsT p v d) a b = s32 p a b * ∑ e : Fin 128, t16 d a e * t16 v b e := by
  unfold s32 s16 t16
  pointwise [dsT]
theorem dvT_apply (p : FVec Ideal S512x512 .f32) (d : Vec Ideal S512x128 .bf16) (x : Vec Ideal S512x128 .f32) (b : Fin 512) (e : Fin 128) :
    t32 (dvT p d x) b e = t32 x b e + ∑ a : Fin 512, s32 p a b * t16 d a e := by
  unfold s32 t16 t32
  pointwise [dvT]
theorem dkT_apply (ds : FVec Ideal S512x512 .bf16) (q : Vec Ideal S512x128 .bf16) (x : Vec Ideal S512x128 .f32) (b : Fin 512) (e : Fin 128) :
    t32 (dkT ds q x) b e = t32 x b e + ∑ a : Fin 512, s16 ds a b * t16 q a e := by
  unfold s16 t16 t32
  pointwise [dkT]
theorem dqT_apply (ds : FVec Ideal S512x512 .bf16) (k : Vec Ideal S512x128 .bf16) (x : Vec Ideal S512x128 .f32) (a : Fin 512) (e : Fin 128) :
    t32 (dqT ds k x) a e = t32 x a e + ∑ b : Fin 512, s16 ds a b * t16 k b e := by
  unfold s16 t16 t32
  pointwise [dqT]

/-! ## A point's blocks at an entry -/

/-- Column `e` of head `h`. -/
def col (h : Fin 8) (e : Fin 128) : Fin 1024 := ⟨128 * h.val + e.val, by omega⟩
/-- A block's entry, as an extended real. -/
abbrev b16 (x : Vec Ideal S512x1024 .bf16) (h : Fin 8) (a : Fin 512) (e : Fin 128) : EReal := x (ix2 a (col h e))
abbrev b32 (x : Vec Ideal S512x1024 .f32) (h : Fin 8) (a : Fin 512) (e : Fin 128) : EReal := x (ix2 a (col h e))
/-- An entry of the running query gradient. -/
abbrev r32 (x : Vec Ideal S4096x1024 .f32) (h : Fin 8) (i : Fin 4096) (e : Fin 128) : EReal := x (ix2 i (col h e))

theorem ld16 {arg : Memref sig .tc .vmem S512x1024 .bf16} (harg : arg.IsWhole) (x : Vec Ideal S512x1024 .bf16) (h : Fin 8) (a : Fin 512) (e : Fin 128) :
    t16 (ldH harg x h) a e = b16 x h a e := by
  refine (harg.readAt_unread x _ _).trans (congrArg x (funext fun d => Fin.ext ?_))
  fin_cases d
  · show 0 + 1 * a.val = a.val
    omega
  · show 128 * h.val + 1 * e.val = 128 * h.val + e.val
    omega
theorem ld32 {arg : Memref sig .tc .vmem S512x1024 .f32} (harg : arg.IsWhole) (x : Vec Ideal S512x1024 .f32) (h : Fin 8) (a : Fin 512) (e : Fin 128) :
    t32 (ldH harg x h) a e = b32 x h a e := by
  refine (harg.readAt_unread x _ _).trans (congrArg x (funext fun d => Fin.ext ?_))
  fin_cases d
  · show 0 + 1 * a.val = a.val
    omega
  · show 128 * h.val + 1 * e.val = 128 * h.val + e.val
    omega

theorem hx512 (h : Fin 8) (b : Fin 512) (e : Fin 128) :
    ∀ a : Fin S512x1024.rank, ((ix2 b (col h e) : S512x1024.Idx) a).val = offH h a + ((ix2 b e : S512x128.Idx) a).val := by
  intro a
  fin_cases a
  · show b.val = 0 + b.val
    omega
  · rfl
theorem hdis512 (h : Fin 8) (b : Fin 512) (e : Fin 128) : ∀ i' : Fin 8, i' ≠ h →
    ((ix2 b (col h e) : S512x1024.Idx) 1).val < offH i' 1 ∨ offH i' 1 + S512x128.size 1 ≤ ((ix2 b (col h e) : S512x1024.Idx) 1).val := by
  intro i' hi
  show 128 * h.val + e.val < 128 * i'.val ∨ 128 * i'.val + 128 ≤ 128 * h.val + e.val
  have := Fin.val_ne_of_ne hi
  omega
theorem hap512 : ∀ i i' : Fin 8, i' ≠ i → offH i 1 + S512x128.size 1 ≤ offH i' 1 ∨ offH i' 1 + S512x128.size 1 ≤ offH i 1 := by decide

/-- A row block of the query against a row of the key block. -/
def score (q k : Vec Ideal S512x1024 .bf16) (h : Fin 8) (a b : Fin 512) : EReal := ∑ e : Fin 128, b16 q h a e * b16 k h b e
/-- The weight of a pair of rows; on the diagonal block the pairs above the diagonal have none. -/
def wgt (diag : Prop) [Decidable diag] (q k : Vec Ideal S512x1024 .bf16) (h : Fin 8) (a b : Fin 512) : EReal :=
  if diag → b.val ≤ a.val then Ideal.exp (score q k h a b) else 0
/-- The gradient of its score. -/
def gsc (diag : Prop) [Decidable diag] (q k v d : Vec Ideal S512x1024 .bf16) (h : Fin 8) (a b : Fin 512) : EReal :=
  wgt diag q k h a b * score d v h a b

section Point

variable {arg4 arg5 arg6 arg7 : Memref sig .tc .vmem S512x1024 .bf16} (harg4 : arg4.IsWhole) (harg5 : arg5.IsWhole)
  (harg6 : arg6.IsWhole) (harg7 : arg7.IsWhole) (x4 x5 x6 x7 : Vec Ideal S512x1024 .bf16) (h : Fin 8) (a b : Fin 512)

theorem pO_eq : s32 (pO (ldH harg4 x4 h) (ldH harg5 x5 h)) a b = wgt False x4 x5 h a b := by
  rw [pO_apply]
  simp only [ld16]
  exact (if_pos False.elim).symm
theorem pD_eq : s32 (pD (ldH harg4 x4 h) (ldH harg5 x5 h)) a b = wgt True x4 x5 h a b := by
  rw [pD_apply]
  simp only [ld16]
  unfold wgt score
  simp only [true_imp_iff]
theorem dsO_eq : s16 (dsT (pO (ldH harg4 x4 h) (ldH harg5 x5 h)) (ldH harg6 x6 h) (ldH harg7 x7 h)) a b = gsc False x4 x5 x6 x7 h a b := by
  rw [dsT_apply, pO_eq]
  simp only [ld16]
  rfl
theorem dsD_eq : s16 (dsT (pD (ldH harg4 x4 h) (ldH harg5 x5 h)) (ldH harg6 x6 h) (ldH harg7 x7 h)) a b = gsc True x4 x5 x6 x7 h a b := by
  rw [dsT_apply, pD_eq]
  simp only [ld16]
  rfl

end Point

variable (c : Dev nD) (t : Fin grid0.N) (x4 x5 x6 x7 : Vec Ideal S512x1024 .bf16) (s : St Ideal) (x11 : Vec Ideal S4096x1024 .f32)

theorem stO_dv (hd : ¬ inn t.val = jn t.val) (h : Fin 8) (b : Fin 512) (e : Fin 128) :
    b32 (stO c t hd x4 x5 x6 x7 s).dv h b e = b32 s.dv h b e + ∑ a : Fin 512, wgt False x4 x5 h a b * b16 x7 h a e := by
  unfold stO
  dsimp only
  unfold b32 ptO
  rw [runO_dv, View.read_tilePieces VO6 VO6.junk S512x128.size offH offH_inb _ 8 (le_refl 8) (ix2 b (col h e)) h h.isLt (ix2 b e)
    (hx512 h b e) 1 (hdis512 h b e)]
  refine (dvT_apply _ _ _ _ _).trans ?_
  simp only [pO_eq, ld16, ld32]
theorem stO_dk (hd : ¬ inn t.val = jn t.val) (h : Fin 8) (b : Fin 512) (e : Fin 128) :
    b32 (stO c t hd x4 x5 x6 x7 s).dk h b e = b32 s.dk h b e + ∑ a : Fin 512, gsc False x4 x5 x6 x7 h a b * b16 x4 h a e := by
  unfold stO
  dsimp only
  unfold b32 ptO
  rw [runO_dk, View.read_tilePieces VO5 VO5.junk S512x128.size offH offH_inb _ 8 (le_refl 8) (ix2 b (col h e)) h h.isLt (ix2 b e)
    (hx512 h b e) 1 (hdis512 h b e)]
  refine (dkT_apply _ _ _ _ _).trans ?_
  simp only [dsO_eq, ld16, ld32]

/-! The running query gradient: the point's rows are added to, the others stay. -/

/-- Row `a` of row block `n`. -/
def row (n : ℕ) (hn : n < 8) (a : Fin 512) : Fin 4096 := ⟨512 * n + a.val, by omega⟩

theorem off_row (n : ℕ) (hn : n < 8) : k0_off2 (BitVec.ofNat 32 n) 0 = 512 * n := by
  interval_cases n <;> rfl
theorem off_blk (n : ℕ) (hn : n < 8) : k0_off18 (BitVec.ofNat 32 n) = ![512 * n, 0] := by
  interval_cases n <;> rfl
theorem inn_lt : ∀ t : Fin grid0.N, inn t.val < 8 := by decide +kernel
theorem jn_lt : ∀ t : Fin grid0.N, jn t.val < 8 := by decide +kernel

theorem hxS (n : ℕ) (hn : n < 8) (h : Fin 8) (a : Fin 512) (e : Fin 128) :
    ∀ d : Fin S4096x1024.rank, ((ix2 (row n hn a) (col h e) : S4096x1024.Idx) d).val = offS (BitVec.ofNat 32 n) h d + ((ix2 a e : S512x128.Idx) d).val := by
  intro d
  fin_cases d
  · show 512 * n + a.val = k0_off2 (BitVec.ofNat 32 n) 0 + a.val
    rw [off_row n hn]
  · rfl
theorem hapS (v3 : BitVec 32) : ∀ i i' : Fin 8, i' ≠ i → offS v3 i 1 + S512x128.size 1 ≤ offS v3 i' 1 ∨ offS v3 i' 1 + S512x128.size 1 ≤ offS v3 i 1 := by
  intro i i' hi
  show 128 * i.val + 128 ≤ 128 * i'.val ∨ 128 * i'.val + 128 ≤ 128 * i.val
  have := Fin.val_ne_of_ne hi
  omega
theorem hmissS (n : ℕ) (hn : n < 8) (i : Fin 4096) (hi : ¬ i.val / 512 = n) (h : Fin 8) (e : Fin 128) :
    ∀ i' : Fin 8, i'.val < 8 → ((ix2 i (col h e) : S4096x1024.Idx) 0).val < offS (BitVec.ofNat 32 n) i' 0
      ∨ offS (BitVec.ofNat 32 n) i' 0 + S512x128.size 0 ≤ ((ix2 i (col h e) : S4096x1024.Idx) 0).val := by
  intro i' _
  show i.val < k0_off2 (BitVec.ofNat 32 n) 0 ∨ k0_off2 (BitVec.ofNat 32 n) 0 + 512 ≤ i.val
  rw [off_row n hn]
  omega

theorem ld11 (n : ℕ) (hn : n < 8) (h : Fin 8)
    (inb : ∀ d : Fin S4096x1024.rank, offS (BitVec.ofNat 32 n) h d + S512x128.size d ≤ S4096x1024.size d)
    (f : scM.view.ty.Contents (Elt Ideal)) (a : Fin 512) (e : Fin 128) :
    t32 (View.readAt (Elt Ideal) scM.view (Rect.unit (s := S4096x1024) (offS (BitVec.ofNat 32 n) h) S512x128.size inb).toLoadRect f) a e
      = r32 (scM.view.read (Elt Ideal) f) h (row n hn a) e := by
  refine congrArg (scM.view.read (Elt Ideal) f) (funext fun d => Fin.ext ?_)
  fin_cases d
  · show k0_off2 (BitVec.ofNat 32 n) 0 + 1 * a.val = 512 * n + a.val
    rw [off_row n hn]
    omega
  · show 128 * h.val + 1 * e.val = 128 * h.val + e.val
    omega
theorem read11 (x : Vec Ideal S4096x1024 .f32) : scM.view.read (Elt Ideal) (scM.view.writes (Elt Ideal) (hscM.unread x) []) = x :=
  hscM.read_unread x

theorem stO_sc (hd : ¬ inn t.val = jn t.val) (h : Fin 8) (a : Fin 512) (e : Fin 128) :
    r32 (stO c t hd x4 x5 x6 x7 s).sc h (row (inn t.val) (inn_lt t) a) e
      = r32 s.sc h (row (inn t.val) (inn_lt t) a) e + ∑ b : Fin 512, gsc False x4 x5 x6 x7 h a b * b16 x5 h b e := by
  unfold stO
  dsimp only
  unfold r32 ptO
  rw [runO_sc]
  refine (Cert.Tiles.read_acc scM.view _ scM.view _ [] S512x128.size (offS _) _ _ 1 (hapS _) 8 (le_refl 8) _ h h.isLt (ix2 a e)
    (hxS _ (inn_lt t) h a e)).trans ?_
  refine (dqT_apply _ _ _ _ _).trans ?_
  rw [ld11 _ (inn_lt t), read11]
  simp only [dsO_eq, ld16]
theorem stO_sc_other (hd : ¬ inn t.val = jn t.val) (h : Fin 8) (i : Fin 4096) (hi : ¬ i.val / 512 = inn t.val) (e : Fin 128) :
    r32 (stO c t hd x4 x5 x6 x7 s).sc h i e = r32 s.sc h i e := by
  unfold stO
  dsimp only
  unfold r32 ptO
  rw [runO_sc]
  refine (Cert.Tiles.read_acc_miss scM.view _ scM.view _ [] S512x128.size (offS _) _ _ 8 (le_refl 8) _ 0
    (hmissS _ (inn_lt t) i hi h e)).trans ?_
  exact congrFun (hscM.read_unread s.sc) _

/-! On the diagonal. -/

theorem zero_pay2 (y : S512x1024.Idx) : (k0_pay2 (F := Ideal)) y = (0 : EReal) := by pointwise [k0_pay2]
theorem zero_pay1 (y : S4096x1024.Idx) : (k0_pay1 (F := Ideal)) y = (0 : EReal) := by pointwise [k0_pay1]

theorem read_whole9 (v : View sig .tc .vmem S512x1024 .f32) (f : v.ty.Contents (Elt Ideal)) (w : Vec Ideal S512x1024 .f32) (y : S512x1024.Idx) :
    v.read (Elt Ideal) (v.writes (Elt Ideal) f [⟨Rect.unit (s := S512x1024) ![0, 0] S512x1024.size inb_S512x1024_S512x1024_0_0, w⟩]) y = w y :=
  View.read_writes_cons_unit_of_mem v f inb_S512x1024_S512x1024_0_0 w [] y y (rfl : _ = ![0, 0]) (fun d => by fin_cases d <;> exact (Nat.zero_add _).symm)

theorem read_whole11 (v : View sig .tc .vmem S4096x1024 .f32) (f : v.ty.Contents (Elt Ideal)) (w : Vec Ideal S4096x1024 .f32) (y : S4096x1024.Idx) :
    v.read (Elt Ideal) (v.writes (Elt Ideal) f [⟨Rect.unit (s := S4096x1024) ![0, 0] S4096x1024.size inb_S4096x1024_S4096x1024_0_0, w⟩]) y = w y :=
  View.read_writes_cons_unit_of_mem v f inb_S4096x1024_S4096x1024_0_0 w [] y y (rfl : _ = ![0, 0]) (fun d => by fin_cases d <;> exact (Nat.zero_add _).symm)

theorem ld_zero9 (v : View sig .tc .vmem S512x1024 .f32) (h : Fin 8) (a : Fin 512) (e : Fin 128) :
    t32 (View.readAt (Elt Ideal) v (rectH h).toLoadRect (v.writes (Elt Ideal) v.junk (zero9 (F := Ideal)))) a e = 0 := by
  exact (read_whole9 v v.junk (k0_pay2 (F := Ideal)) ((rectH h).toLoadRect.idx (ix2 a e))).trans (zero_pay2 _)
theorem read_zero11 (v : View sig .tc .vmem S4096x1024 .f32) (y : S4096x1024.Idx) :
    v.read (Elt Ideal) (v.writes (Elt Ideal) v.junk (zero11 (F := Ideal))) y = (0 : EReal) := by
  exact (read_whole11 v v.junk (k0_pay1 (F := Ideal)) y).trans (zero_pay1 _)

theorem stD_dv (hz : ¬ t.val = 0) (hd : inn t.val = jn t.val) (h : Fin 8) (b : Fin 512) (e : Fin 128) :
    b32 (stD c t hz hd x4 x5 x6 x7 x11).dv h b e = ∑ a : Fin 512, wgt True x4 x5 h a b * b16 x7 h a e := by
  unfold stD
  dsimp only
  unfold b32 ptD
  rw [runD_dv]
  refine (Cert.Tiles.read_acc VO6 _ _ _ zero9 S512x128.size offH offH_inb _ 1 hap512 8 (le_refl 8) _ h h.isLt (ix2 b e)
    (hx512 h b e)).trans ?_
  refine (dvT_apply _ _ _ _ _).trans ?_
  rw [ld_zero9, zero_add]
  simp only [pD_eq, ld16]
theorem stD_dk (hz : ¬ t.val = 0) (hd : inn t.val = jn t.val) (h : Fin 8) (b : Fin 512) (e : Fin 128) :
    b32 (stD c t hz hd x4 x5 x6 x7 x11).dk h b e = ∑ a : Fin 512, gsc True x4 x5 x6 x7 h a b * b16 x4 h a e := by
  unfold stD
  dsimp only
  unfold b32 ptD
  rw [runD_dk]
  refine (Cert.Tiles.read_acc VO5 _ _ _ zero9 S512x128.size offH offH_inb _ 1 hap512 8 (le_refl 8) _ h h.isLt (ix2 b e)
    (hx512 h b e)).trans ?_
  refine (dkT_apply _ _ _ _ _).trans ?_
  rw [ld_zero9, zero_add]
  simp only [dsD_eq, ld16]
theorem stD_sc (hz : ¬ t.val = 0) (hd : inn t.val = jn t.val) (h : Fin 8) (a : Fin 512) (e : Fin 128) :
    r32 (stD c t hz hd x4 x5 x6 x7 x11).sc h (row (inn t.val) (inn_lt t) a) e
      = r32 x11 h (row (inn t.val) (inn_lt t) a) e + ∑ b : Fin 512, gsc True x4 x5 x6 x7 h a b * b16 x5 h b e := by
  unfold stD
  dsimp only
  unfold r32 ptD
  rw [runD_sc]
  refine (Cert.Tiles.read_acc scM.view _ scM.view _ [] S512x128.size (offS _) _ _ 1 (hapS _) 8 (le_refl 8) _ h h.isLt (ix2 a e)
    (hxS _ (inn_lt t) h a e)).trans ?_
  refine (dqT_apply _ _ _ _ _).trans ?_
  rw [ld11 _ (inn_lt t), read11]
  simp only [dsD_eq, ld16]
theorem stD_sc_other (hz : ¬ t.val = 0) (hd : inn t.val = jn t.val) (h : Fin 8) (i : Fin 4096) (hi : ¬ i.val / 512 = inn t.val) (e : Fin 128) :
    r32 (stD c t hz hd x4 x5 x6 x7 x11).sc h i e = r32 x11 h i e := by
  unfold stD
  dsimp only
  unfold r32 ptD
  rw [runD_sc]
  refine (Cert.Tiles.read_acc_miss scM.view _ scM.view _ [] S512x128.size (offS _) _ _ 8 (le_refl 8) _ 0
    (hmissS _ (inn_lt t) i hi h e)).trans ?_
  exact congrFun (hscM.read_unread x11) _

/-- A load of a row block of the running query gradient. -/
theorem ld_blk (n : ℕ) (hn : n < 8) (inb) (f : scM.view.ty.Contents (Elt Ideal)) (h : Fin 8) (a : Fin 512) (e : Fin 128) :
    b32 (View.readAt (Elt Ideal) scM.view (Rect.unit (s := S4096x1024) (k0_off18 (BitVec.ofNat 32 n)) S512x1024.size inb).toLoadRect f) h a e
      = r32 (scM.view.read (Elt Ideal) f) h (row n hn a) e := by
  refine congrArg (scM.view.read (Elt Ideal) f) (funext fun d => Fin.ext ?_)
  fin_cases d
  · show k0_off18 (BitVec.ofNat 32 n) 0 + 1 * a.val = 512 * n + a.val
    rw [off_blk n hn, Nat.one_mul]
    rfl
  · show k0_off18 (BitVec.ofNat 32 n) 1 + 1 * (col h e).val = (col h e).val
    rw [off_blk n hn, Nat.one_mul]
    exact Nat.zero_add _

theorem stD_dq (hz : ¬ t.val = 0) (hd : inn t.val = jn t.val) (h : Fin 8) (a : Fin 512) (e : Fin 128) :
    b32 (stD c t hz hd x4 x5 x6 x7 x11).dq h a e = r32 (stD c t hz hd x4 x5 x6 x7 x11).sc h (row (jn t.val) (jn_lt t) a) e := by
  unfold stD
  dsimp only
  refine (congrFun (congrArg (fun L => VO4.read (Elt Ideal) (VO4.writes (Elt Ideal) VO4.junk L)) (runD_dq ..)) _).trans ?_
  refine (read_whole9 _ _ _ _).trans ?_
  exact ld_blk _ (jn_lt t) _ _ h a e

theorem stZ_dv (hz : t.val = 0) (h : Fin 8) (b : Fin 512) (e : Fin 128) :
    b32 (stZ c t hz x4 x5 x6 x7).dv h b e = ∑ a : Fin 512, wgt True x4 x5 h a b * b16 x7 h a e := by
  unfold stZ
  dsimp only
  unfold b32 ptZ
  rw [runZ_dv]
  refine (Cert.Tiles.read_acc VO6 _ _ _ zero9 S512x128.size offH offH_inb _ 1 hap512 8 (le_refl 8) _ h h.isLt (ix2 b e)
    (hx512 h b e)).trans ?_
  refine (dvT_apply _ _ _ _ _).trans ?_
  rw [ld_zero9, zero_add]
  simp only [pD_eq, ld16]
theorem stZ_dk (hz : t.val = 0) (h : Fin 8) (b : Fin 512) (e : Fin 128) :
    b32 (stZ c t hz x4 x5 x6 x7).dk h b e = ∑ a : Fin 512, gsc True x4 x5 x6 x7 h a b * b16 x4 h a e := by
  unfold stZ
  dsimp only
  unfold b32 ptZ
  rw [runZ_dk]
  refine (Cert.Tiles.read_acc VO5 _ _ _ zero9 S512x128.size offH offH_inb _ 1 hap512 8 (le_refl 8) _ h h.isLt (ix2 b e)
    (hx512 h b e)).trans ?_
  refine (dkT_apply _ _ _ _ _).trans ?_
  rw [ld_zero9, zero_add]
  simp only [dsD_eq, ld16]
theorem stZ_sc (hz : t.val = 0) (h : Fin 8) (a : Fin 512) (e : Fin 128) :
    r32 (stZ c t hz x4 x5 x6 x7).sc h (row (inn t.val) (inn_lt t) a) e = ∑ b : Fin 512, gsc True x4 x5 x6 x7 h a b * b16 x5 h b e := by
  unfold stZ
  dsimp only
  unfold r32 ptZ
  rw [runZ_sc]
  refine (Cert.Tiles.read_acc scM.view _ scM.view _ zero11 S512x128.size (offS _) _ _ 1 (hapS _) 8 (le_refl 8) _ h h.isLt (ix2 a e)
    (hxS _ (inn_lt t) h a e)).trans ?_
  refine (dqT_apply _ _ _ _ _).trans ?_
  rw [ld11 _ (inn_lt t)]
  unfold r32
  rw [read_zero11 (v := scM.view), zero_add]
  simp only [dsD_eq, ld16]
theorem stZ_sc_other (hz : t.val = 0) (h : Fin 8) (i : Fin 4096) (hi : ¬ i.val / 512 = inn t.val) (e : Fin 128) :
    r32 (stZ c t hz x4 x5 x6 x7).sc h i e = 0 := by
  unfold stZ
  dsimp only
  unfold r32 ptZ
  rw [runZ_sc]
  refine (Cert.Tiles.read_acc_miss scM.view _ scM.view _ zero11 S512x128.size (offS _) _ _ 8 (le_refl 8) _ 0
    (hmissS _ (inn_lt t) i hi h e)).trans ?_
  exact read_zero11 _ _
theorem stZ_dq (hz : t.val = 0) (h : Fin 8) (a : Fin 512) (e : Fin 128) :
    b32 (stZ c t hz x4 x5 x6 x7).dq h a e = r32 (stZ c t hz x4 x5 x6 x7).sc h (row (jn t.val) (jn_lt t) a) e := by
  unfold stZ
  dsimp only
  refine (congrFun (congrArg (fun L => VO4.read (Elt Ideal) (VO4.writes (Elt Ideal) VO4.junk L)) (runZ_dq ..)) _).trans ?_
  refine (read_whole9 _ _ _ _).trans ?_
  exact ld_blk _ (jn_lt t) _ _ h a e

end Cert.FoxIdeal.Hand

end
-- ==== Proof.FoxClosed.lean ====
/-
  What the attention's backward kernel holds after each point, in closed form: sums over the pairs of rows visited so far.
-/
module

public import proofs.«01_k».proof.Proof.FoxStep

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic

/-! ## Sums over a block of rows -/

/-- The rows of block `n`. -/
theorem sum_block (f : Fin 4096 → EReal) (n : ℕ) (hn : n < 8) :
    (∑ i : Fin 4096, if i.val / 512 = n then f i else 0) = ∑ a : Fin 512, f (row n hn a) := by
  rw [← Finset.sum_filter]
  symm
  refine Finset.sum_bij (fun a _ => row n hn a) (fun a _ => ?_) (fun a _ a' _ h => ?_) (fun i hi => ?_) (fun a _ => rfl)
  · rw [Finset.mem_filter]
    refine ⟨Finset.mem_univ _, ?_⟩
    show (512 * n + a.val) / 512 = n
    omega
  · have := congrArg Fin.val h
    have h' : 512 * n + a.val = 512 * n + a'.val := this
    exact Fin.ext (by omega)
  · have h := (Finset.mem_filter.mp hi).2
    refine ⟨⟨i.val - 512 * n, by omega⟩, Finset.mem_univ _, Fin.ext ?_⟩
    show 512 * n + (i.val - 512 * n) = i.val
    omega

/-- A sum over a set of rows that grows by block `n`. -/
theorem sum_grow (f : Fin 4096 → EReal) (P P' : Fin 4096 → Prop) [DecidablePred P] [DecidablePred P'] (n : ℕ) (hn : n < 8)
    (h : ∀ i, P' i ↔ P i ∨ i.val / 512 = n) (hd : ∀ i, P i → ¬ i.val / 512 = n) :
    (∑ i : Fin 4096, if P' i then f i else 0) = (∑ i : Fin 4096, if P i then f i else 0) + ∑ a : Fin 512, f (row n hn a) := by
  rw [← sum_block f n hn, ← Finset.sum_add_distrib]
  refine Finset.sum_congr rfl fun i _ => ?_
  by_cases hp : P i
  · rw [if_pos ((h i).mpr (.inl hp)), if_pos hp, if_neg (hd i hp), add_zero]
  · by_cases hb : i.val / 512 = n
    · rw [if_pos ((h i).mpr (.inr hb)), if_neg hp, if_pos hb, zero_add]
    · rw [if_neg (fun e => ((h i).mp e).elim hp hb), if_neg hp, if_neg hb, add_zero]

/-! ## The weights over all rows -/

section Weights

variable (Q K W D : Fin 8 → Fin 4096 → Fin 128 → EReal)

/-- The weight of row `i` on row `j`: none above the diagonal. -/
def pw (h : Fin 8) (i j : Fin 4096) : EReal := if j.val ≤ i.val then Ideal.exp (∑ e : Fin 128, Q h i e * K h j e) else 0
/-- The gradient of the pair's score. -/
def gw (h : Fin 8) (i j : Fin 4096) : EReal := pw Q K h i j * ∑ e : Fin 128, D h i e * W h j e

theorem pw_zero (h : Fin 8) (i j : Fin 4096) (hij : ¬ j.val ≤ i.val) : pw Q K h i j = 0 := if_neg hij
theorem gw_zero (h : Fin 8) (i j : Fin 4096) (hij : ¬ j.val ≤ i.val) : gw Q K W D h i j = 0 := by
  rw [gw, pw_zero Q K h i j hij, zero_mul]

/-- What the kernel holds after point `(J, I)`. -/
structure Inv (s : St Ideal) (J : ℕ) (hJ : J < 8) (I : ℕ) : Prop where
  dv : ∀ h b e, b32 s.dv h b e = ∑ i : Fin 4096, if i.val / 512 ≤ I then pw Q K h i (row J hJ b) * D h i e else 0
  dk : ∀ h b e, b32 s.dk h b e = ∑ i : Fin 4096, if i.val / 512 ≤ I then gw Q K W D h i (row J hJ b) * Q h i e else 0
  sc : ∀ h i e, r32 s.sc h i e = ∑ j : Fin 4096, if j.val / 512 < J ∨ j.val / 512 = J ∧ i.val / 512 ≤ I then gw Q K W D h i j * K h j e else 0
  dq : ∀ h a e, b32 s.dq h a e = ∑ j : Fin 4096, gw Q K W D h (row J hJ a) j * K h j e

variable {Q K W D}
variable {x4 x5 x6 x7 : Vec Ideal S512x1024 .bf16} {I J : ℕ} (hI : I < 8) (hJ : J < 8)
  (h4 : ∀ h a e, b16 x4 h a e = Q h (row I hI a) e) (h5 : ∀ h b e, b16 x5 h b e = K h (row J hJ b) e)
  (h6 : ∀ h b e, b16 x6 h b e = W h (row J hJ b) e) (h7 : ∀ h a e, b16 x7 h a e = D h (row I hI a) e)

include h4 h5 in
theorem wgt_eq (diag : Prop) [Decidable diag] (hd : diag ↔ I = J) (hle : J ≤ I) (h : Fin 8) (a b : Fin 512) :
    wgt diag x4 x5 h a b = pw Q K h (row I hI a) (row J hJ b) := by
  unfold wgt pw score
  simp only [h4, h5]
  refine if_congr ?_ rfl rfl
  show (diag → b.val ≤ a.val) ↔ 512 * J + b.val ≤ 512 * I + a.val
  constructor
  · intro H
    by_cases hd' : diag
    · have := H hd'; have := hd.mp hd'; omega
    · have : ¬ I = J := fun e => hd' (hd.mpr e)
      omega
  · intro H hd'
    have := hd.mp hd'; omega
include h4 h5 h6 h7 in
theorem gsc_eq (diag : Prop) [Decidable diag] (hd : diag ↔ I = J) (hle : J ≤ I) (h : Fin 8) (a b : Fin 512) :
    gsc diag x4 x5 x6 x7 h a b = gw Q K W D h (row I hI a) (row J hJ b) := by
  unfold gsc gw
  rw [wgt_eq hI hJ h4 h5 diag hd hle]
  unfold score
  simp only [h6, h7]

/-- Sums over the rows from the diagonal block on: the rows before it have no weight. -/
theorem sum_first (f : Fin 4096 → EReal) (J : ℕ) (hJ : J < 8) (hz : ∀ i, i.val / 512 < J → f i = 0) :
    (∑ i : Fin 4096, if i.val / 512 ≤ J then f i else 0) = ∑ a : Fin 512, f (row J hJ a) := by
  rw [← sum_block f J hJ]
  refine Finset.sum_congr rfl fun i _ => ?_
  by_cases hp : i.val / 512 = J
  · rw [if_pos hp, if_pos hp.le]
  · rw [if_neg hp]
    by_cases hl : i.val / 512 ≤ J
    · rw [if_pos hl, hz i (by omega)]
    · rw [if_neg hl]

theorem row_div (n : ℕ) (hn : n < 8) (a : Fin 512) : (row n hn a).val / 512 = n := by
  show (512 * n + a.val) / 512 = n
  omega
/-- A row of block `n` by its number. -/
theorem exists_row (i : Fin 4096) (n : ℕ) (hn : n < 8) (h : i.val / 512 = n) : ∃ a, i = row n hn a :=
  ⟨⟨i.val - 512 * n, by omega⟩, Fin.ext (by show i.val = 512 * n + (i.val - 512 * n); omega)⟩

section Below

variable (c : Dev nD) (t : Fin grid0.N) (hd : ¬ inn t.val = jn t.val) {s : St Ideal} (hle : jn t.val < inn t.val)

include hle in
/-- A point below the diagonal goes from `(J, I)` to `(J, I + 1)`. -/
theorem inv_below (h4 : ∀ h a e, b16 x4 h a e = Q h (row (inn t.val) (inn_lt t) a) e) (h5 : ∀ h b e, b16 x5 h b e = K h (row (jn t.val) (jn_lt t) b) e)
    (h6 : ∀ h b e, b16 x6 h b e = W h (row (jn t.val) (jn_lt t) b) e) (h7 : ∀ h a e, b16 x7 h a e = D h (row (inn t.val) (inn_lt t) a) e)
    (hs : Inv Q K W D s (jn t.val) (jn_lt t) (inn t.val - 1)) :
    Inv Q K W D (stO c t hd x4 x5 x6 x7 s) (jn t.val) (jn_lt t) (inn t.val) := by
  have hpos : 0 < inn t.val := Nat.lt_of_le_of_lt (Nat.zero_le _) hle
  have hdf : (False ↔ inn t.val = jn t.val) := ⟨False.elim, hd⟩
  refine ⟨fun h b e => ?_, fun h b e => ?_, fun h i e => ?_, fun h a e => ?_⟩
  · rw [stO_dv, hs.dv, sum_grow _ (fun i => i.val / 512 ≤ inn t.val - 1) (fun i => i.val / 512 ≤ inn t.val) (inn t.val) (inn_lt t)
      (fun i => by omega) (fun i hi => by omega)]
    congr 1
    refine Finset.sum_congr rfl fun a _ => ?_
    rw [wgt_eq (inn_lt t) (jn_lt t) h4 h5 False hdf hle.le, h7]
  · rw [stO_dk, hs.dk, sum_grow _ (fun i => i.val / 512 ≤ inn t.val - 1) (fun i => i.val / 512 ≤ inn t.val) (inn t.val) (inn_lt t)
      (fun i => by omega) (fun i hi => by omega)]
    congr 1
    refine Finset.sum_congr rfl fun a _ => ?_
    rw [gsc_eq (inn_lt t) (jn_lt t) h4 h5 h6 h7 False hdf hle.le, h4]
  · by_cases hi : i.val / 512 = inn t.val
    · obtain ⟨a, rfl⟩ := exists_row i _ (inn_lt t) hi
      rw [stO_sc, hs.sc, sum_grow _ (fun j => j.val / 512 < jn t.val ∨ j.val / 512 = jn t.val ∧ (row (inn t.val) (inn_lt t) a).val / 512 ≤ inn t.val - 1)
        (fun j => j.val / 512 < jn t.val ∨ j.val / 512 = jn t.val ∧ (row (inn t.val) (inn_lt t) a).val / 512 ≤ inn t.val) (jn t.val) (jn_lt t)
        (fun j => by rw [row_div]; omega) (fun j hj => by rw [row_div] at hj; omega)]
      congr 1
      refine Finset.sum_congr rfl fun b _ => ?_
      rw [gsc_eq (inn_lt t) (jn_lt t) h4 h5 h6 h7 False hdf hle.le, h5]
    · rw [stO_sc_other c t x4 x5 x6 x7 s hd h i hi, hs.sc]
      refine Finset.sum_congr rfl fun j _ => if_congr ?_ rfl rfl
      omega
  · exact hs.dq h a e

end Below

section Diag

variable (c : Dev nD) (t : Fin grid0.N) (hd : inn t.val = jn t.val)

/-- A later diagonal point starts a new block of columns. -/
theorem inv_diag (hz : ¬ t.val = 0) {x11 : Vec Ideal S4096x1024 .f32}
    (h4 : ∀ h a e, b16 x4 h a e = Q h (row (inn t.val) (inn_lt t) a) e) (h5 : ∀ h b e, b16 x5 h b e = K h (row (jn t.val) (jn_lt t) b) e)
    (h6 : ∀ h b e, b16 x6 h b e = W h (row (jn t.val) (jn_lt t) b) e) (h7 : ∀ h a e, b16 x7 h a e = D h (row (inn t.val) (inn_lt t) a) e)
    (hs : ∀ h i e, r32 x11 h i e = ∑ j : Fin 4096, if j.val / 512 < jn t.val then gw Q K W D h i j * K h j e else 0) :
    Inv Q K W D (stD c t hz hd x4 x5 x6 x7 x11) (jn t.val) (jn_lt t) (inn t.val) := by
  have hdf : (True ↔ inn t.val = jn t.val) := ⟨fun _ => hd, fun _ => trivial⟩
  have hsc : ∀ h i e, r32 (stD c t hz hd x4 x5 x6 x7 x11).sc h i e
      = ∑ j : Fin 4096, if j.val / 512 < jn t.val ∨ j.val / 512 = jn t.val ∧ i.val / 512 ≤ inn t.val then gw Q K W D h i j * K h j e else 0 := by
    intro h i e
    by_cases hi : i.val / 512 = inn t.val
    · obtain ⟨a, rfl⟩ := exists_row i _ (inn_lt t) hi
      rw [stD_sc, hs, sum_grow _ (fun j => j.val / 512 < jn t.val)
        (fun j => j.val / 512 < jn t.val ∨ j.val / 512 = jn t.val ∧ (row (inn t.val) (inn_lt t) a).val / 512 ≤ inn t.val) (jn t.val) (jn_lt t)
        (fun j => by rw [row_div]; omega) (fun j hj => by omega)]
      congr 1
      refine Finset.sum_congr rfl fun b _ => ?_
      rw [gsc_eq (inn_lt t) (jn_lt t) h4 h5 h6 h7 True hdf hd.ge, h5]
    · rw [stD_sc_other c t x4 x5 x6 x7 x11 hz hd h i hi, hs]
      refine Finset.sum_congr rfl fun j _ => ?_
      by_cases h1 : j.val / 512 < jn t.val
      · rw [if_pos h1, if_pos (.inl h1)]
      · rw [if_neg h1]
        by_cases h2 : j.val / 512 = jn t.val ∧ i.val / 512 ≤ inn t.val
        · rw [if_pos (.inr h2), gw_zero Q K W D h i j (by omega), zero_mul]
        · rw [if_neg (fun e => e.elim h1 h2)]
  refine ⟨fun h b e => ?_, fun h b e => ?_, hsc, fun h a e => ?_⟩
  · have hz' : ∀ i : Fin 4096, i.val / 512 < inn t.val → pw Q K h i (row (jn t.val) (jn_lt t) b) * D h i e = 0 := fun i hi => by
      rw [pw_zero Q K h i _ (by show ¬ 512 * jn t.val + b.val ≤ i.val; omega), zero_mul]
    rw [stD_dv, sum_first _ _ (inn_lt t) hz']
    refine Finset.sum_congr rfl fun a _ => ?_
    rw [wgt_eq (inn_lt t) (jn_lt t) h4 h5 True hdf hd.ge, h7]
  · have hz' : ∀ i : Fin 4096, i.val / 512 < inn t.val → gw Q K W D h i (row (jn t.val) (jn_lt t) b) * Q h i e = 0 := fun i hi => by
      rw [gw_zero Q K W D h i _ (by show ¬ 512 * jn t.val + b.val ≤ i.val; omega), zero_mul]
    rw [stD_dk, sum_first _ _ (inn_lt t) hz']
    refine Finset.sum_congr rfl fun a _ => ?_
    rw [gsc_eq (inn_lt t) (jn_lt t) h4 h5 h6 h7 True hdf hd.ge, h4]
  · rw [stD_dq, hsc]
    refine Finset.sum_congr rfl fun j _ => ?_
    rw [row_div]
    by_cases h1 : j.val / 512 ≤ jn t.val
    · rw [if_pos (by omega)]
    · rw [if_neg (by omega), gw_zero Q K W D h _ j (by show ¬ j.val ≤ 512 * jn t.val + a.val; omega), zero_mul]

/-- The first point. -/
theorem inv_first (hz : t.val = 0)
    (h4 : ∀ h a e, b16 x4 h a e = Q h (row (inn t.val) (inn_lt t) a) e) (h5 : ∀ h b e, b16 x5 h b e = K h (row (jn t.val) (jn_lt t) b) e)
    (h6 : ∀ h b e, b16 x6 h b e = W h (row (jn t.val) (jn_lt t) b) e) (h7 : ∀ h a e, b16 x7 h a e = D h (row (inn t.val) (inn_lt t) a) e) :
    Inv Q K W D (stZ c t hz x4 x5 x6 x7) (jn t.val) (jn_lt t) (inn t.val) := by
  have hi0 : inn t.val = 0 := by rw [hz]; rfl
  have hj0 : jn t.val = 0 := by rw [hz]; rfl
  have hd : inn t.val = jn t.val := by rw [hi0, hj0]
  have hdf : (True ↔ inn t.val = jn t.val) := ⟨fun _ => hd, fun _ => trivial⟩
  have hsc : ∀ h i e, r32 (stZ c t hz x4 x5 x6 x7).sc h i e
      = ∑ j : Fin 4096, if j.val / 512 < jn t.val ∨ j.val / 512 = jn t.val ∧ i.val / 512 ≤ inn t.val then gw Q K W D h i j * K h j e else 0 := by
    intro h i e
    by_cases hi : i.val / 512 = inn t.val
    · obtain ⟨a, rfl⟩ := exists_row i _ (inn_lt t) hi
      rw [stZ_sc, ← zero_add (∑ b : Fin 512, gsc True x4 x5 x6 x7 h a b * b16 x5 h b e), sum_grow _ (fun j => j.val / 512 < jn t.val)
        (fun j => j.val / 512 < jn t.val ∨ j.val / 512 = jn t.val ∧ (row (inn t.val) (inn_lt t) a).val / 512 ≤ inn t.val) (jn t.val) (jn_lt t)
        (fun j => by rw [row_div]; omega) (fun j hj => by omega)]
      congr 1
      · refine (Finset.sum_eq_zero fun j _ => if_neg (by omega)).symm
      · refine Finset.sum_congr rfl fun b _ => ?_
        rw [gsc_eq (inn_lt t) (jn_lt t) h4 h5 h6 h7 True hdf hd.ge, h5]
    · rw [stZ_sc_other c t x4 x5 x6 x7 hz h i hi]
      refine (Finset.sum_eq_zero fun j _ => if_neg (by omega)).symm
  refine ⟨fun h b e => ?_, fun h b e => ?_, hsc, fun h a e => ?_⟩
  · rw [stZ_dv, sum_first _ _ (inn_lt t) (fun i hi => by omega)]
    refine Finset.sum_congr rfl fun a _ => ?_
    rw [wgt_eq (inn_lt t) (jn_lt t) h4 h5 True hdf hd.ge, h7]
  · rw [stZ_dk, sum_first _ _ (inn_lt t) (fun i hi => by omega)]
    refine Finset.sum_congr rfl fun a _ => ?_
    rw [gsc_eq (inn_lt t) (jn_lt t) h4 h5 h6 h7 True hdf hd.ge, h4]
  · rw [stZ_dq, hsc]
    refine Finset.sum_congr rfl fun j _ => ?_
    rw [row_div]
    by_cases h1 : j.val / 512 ≤ jn t.val
    · rw [if_pos (by omega)]
    · rw [if_neg (by omega), gw_zero Q K W D h _ j (by show ¬ j.val ≤ 512 * jn t.val + a.val; omega), zero_mul]

end Diag

end Weights

end Cert.FoxIdeal.Hand

end
-- ==== Proof.FoxBody.lean ====
/-
  The body of the attention's backward kernel meets its obligation at every point: what it finds in the windows' buffers,
  the run of that point, and what it leaves.
-/
module

public import proofs.«01_k».proof.Proof.FoxData

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## What the body finds and leaves -/

theorem A_eq (c : Dev nD) (w : Fin (cfgM (F := F)).W) : (dats m 0 c).A w = V m c (Pipeline.arrRef spec0 w) := by
  dsimp only [dats]
theorem after0 (c : Dev nD) (t : Fin (cfgM (F := F)).N) : (dats m 0 c).after 0 t = iblk m c 0 t := rfl
theorem after1 (c : Dev nD) (t : Fin (cfgM (F := F)).N) : (dats m 0 c).after 1 t = iblk m c 1 t := rfl
theorem after2 (c : Dev nD) (t : Fin (cfgM (F := F)).N) : (dats m 0 c).after 2 t = iblk m c 2 t := rfl
theorem after3 (c : Dev nD) (t : Fin (cfgM (F := F)).N) : (dats m 0 c).after 3 t = iblk m c 3 t := rfl
theorem after4 (c : Dev nD) (t : Fin (cfgM (F := F)).N) : (dats m 0 c).after 4 t = (st m c t.val t.isLt).dq := rfl
theorem after5 (c : Dev nD) (t : Fin (cfgM (F := F)).N) : (dats m 0 c).after 5 t = (st m c t.val t.isLt).dk := rfl
theorem after6 (c : Dev nD) (t : Fin (cfgM (F := F)).N) : (dats m 0 c).after 6 t = (st m c t.val t.isLt).dv := rfl
theorem before0 (c : Dev nD) (t : Fin (cfgM (F := F)).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM (F := F)).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM (F := F)).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgM (F := F)).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- Below the diagonal the buffers hold what the point before left. -/
theorem carry4 (c : Dev nD) : ∀ (t : Fin (cfgM (F := F)).N) (_ : t.val ≠ 0), (cfgM (F := F)).idle 4 ((cfgM (F := F)).grid.coords t) = true → (cfgM (F := F)).fresh 4 t.val = false →
    (dats m 0 c).after 4 t = (dats m 0 c).after 4 ⟨t.val - 1, Nat.lt_of_le_of_lt (Nat.sub_le _ _) t.isLt⟩ := by
  intro t _ hi _
  rw [after4, after4, st_O m c t (of_decide_eq_true ((idle4 (F := F) t).symm.trans hi))]
  rfl
theorem carry5 (c : Dev nD) : ∀ (t : Fin (cfgM (F := F)).N) (_ : t.val ≠ 0), (cfgM (F := F)).idle 5 ((cfgM (F := F)).grid.coords t) = true → (cfgM (F := F)).fresh 5 t.val = false →
    (dats m 0 c).after 5 t = (dats m 0 c).after 5 ⟨t.val - 1, Nat.lt_of_le_of_lt (Nat.sub_le _ _) t.isLt⟩ :=
  fun t _ hi _ => absurd ((idle5 (F := F) t).symm.trans hi) Bool.false_ne_true
theorem carry6 (c : Dev nD) : ∀ (t : Fin (cfgM (F := F)).N) (_ : t.val ≠ 0), (cfgM (F := F)).idle 6 ((cfgM (F := F)).grid.coords t) = true → (cfgM (F := F)).fresh 6 t.val = false →
    (dats m 0 c).after 6 t = (dats m 0 c).after 6 ⟨t.val - 1, Nat.lt_of_le_of_lt (Nat.sub_le _ _) t.isLt⟩ :=
  fun t _ hi _ => absurd ((idle6 (F := F) t).symm.trans hi) Bool.false_ne_true

theorem before4 (c : Dev nD) (t : Fin (cfgM (F := F)).N) (hd : ¬ inn t.val = jn t.val) (d) :
    (dats m 0 c).before 4 t d = (st m c (t.val - 1) (Nat.lt_of_le_of_lt (Nat.sub_le _ _) t.isLt)).dq := by
  rw [(dats m 0 c).before_out_traj 4 rfl (fun _ _ => rfl) (carry4 m c) t.val t rfl d, fresh4, decide_eq_false hd, if_neg Bool.false_ne_true, after4]
theorem before5 (c : Dev nD) (t : Fin (cfgM (F := F)).N) (hd : ¬ inn t.val = jn t.val) (d) :
    (dats m 0 c).before 5 t d = (st m c (t.val - 1) (Nat.lt_of_le_of_lt (Nat.sub_le _ _) t.isLt)).dk := by
  rw [(dats m 0 c).before_out_traj 5 rfl (fun _ _ => rfl) (carry5 m c) t.val t rfl d, fresh5, decide_eq_false hd, if_neg Bool.false_ne_true, after5]
theorem before6 (c : Dev nD) (t : Fin (cfgM (F := F)).N) (hd : ¬ inn t.val = jn t.val) (d) :
    (dats m 0 c).before 6 t d = (st m c (t.val - 1) (Nat.lt_of_le_of_lt (Nat.sub_le _ _) t.isLt)).dv := by
  rw [(dats m 0 c).before_out_traj 6 rfl (fun _ _ => rfl) (carry6 m c) t.val t rfl d, fresh6, decide_eq_false hd, if_neg Bool.false_ne_true, after6]

theorem leaves0 (c : Dev nD) (t : Fin (cfgM (F := F)).N) : (dats m 0 c).leavesExact 0 t = owns (c : Thread nD τ) (ms0 (F := F) t) fullShare ((dats m 0 c).after 0 t) := by
  unfold Dat.leavesExact
  rw [show (cfgM (F := F)).idle 0 ((cfgM (F := F)).grid.coords t) = false from rfl]
  all_goals rfl
theorem leaves1 (c : Dev nD) (t : Fin (cfgM (F := F)).N) : (dats m 0 c).leavesExact 1 t = owns (c : Thread nD τ) (ms1 (F := F) t) fullShare ((dats m 0 c).after 1 t) := by
  unfold Dat.leavesExact
  rw [show (cfgM (F := F)).idle 1 ((cfgM (F := F)).grid.coords t) = false from rfl]
  all_goals rfl
theorem leaves2 (c : Dev nD) (t : Fin (cfgM (F := F)).N) : (dats m 0 c).leavesExact 2 t = owns (c : Thread nD τ) (ms2 (F := F) t) fullShare ((dats m 0 c).after 2 t) := by
  unfold Dat.leavesExact
  rw [show (cfgM (F := F)).idle 2 ((cfgM (F := F)).grid.coords t) = false from rfl]
  all_goals rfl
theorem leaves3 (c : Dev nD) (t : Fin (cfgM (F := F)).N) : (dats m 0 c).leavesExact 3 t = owns (c : Thread nD τ) (ms3 (F := F) t) fullShare ((dats m 0 c).after 3 t) := by
  unfold Dat.leavesExact
  rw [show (cfgM (F := F)).idle 3 ((cfgM (F := F)).grid.coords t) = false from rfl]
  all_goals rfl
theorem leaves5 (c : Dev nD) (t : Fin (cfgM (F := F)).N) : (dats m 0 c).leavesExact 5 t = owns (c : Thread nD τ) (ms5 (F := F) t) fullShare ((dats m 0 c).after 5 t) := by
  unfold Dat.leavesExact
  rw [show (cfgM (F := F)).idle 5 ((cfgM (F := F)).grid.coords t) = false from idle5 t]
  all_goals rfl
theorem leaves6 (c : Dev nD) (t : Fin (cfgM (F := F)).N) : (dats m 0 c).leavesExact 6 t = owns (c : Thread nD τ) (ms6 (F := F) t) fullShare ((dats m 0 c).after 6 t) := by
  unfold Dat.leavesExact
  rw [show (cfgM (F := F)).idle 6 ((cfgM (F := F)).grid.coords t) = false from idle6 t]
  all_goals rfl
theorem leaves4_diag (c : Dev nD) (t : Fin (cfgM (F := F)).N) (hd : inn t.val = jn t.val) :
    (dats m 0 c).leavesExact 4 t = owns (c : Thread nD τ) (ms4 (F := F) t) fullShare ((dats m 0 c).after 4 t) := by
  unfold Dat.leavesExact
  rw [show (cfgM (F := F)).idle 4 ((cfgM (F := F)).grid.coords t) = false from (idle4 t).trans (decide_eq_false (not_not_intro hd))]
  all_goals rfl
/-- Below the diagonal the first result's buffer is left as it was found, written back or not. -/
theorem leaves4_below (c : Dev nD) (t : Fin (cfgM (F := F)).N) (hd : ¬ inn t.val = jn t.val) :
    owns (c : Thread nD τ) (ms4 (F := F) t) fullShare (st m c (t.val - 1) (Nat.lt_of_le_of_lt (Nat.sub_le _ _) t.isLt)).dq ⊢ ((dats m 0 c).leavesExact 4 t : sProp 𝕄) := by
  have hi : (cfgM (F := F)).idle 4 ((cfgM (F := F)).grid.coords t) = true := (idle4 t).trans (decide_eq_true hd)
  cases hf : ((cfgM (F := F)).win 4).flush t
  · rw [Dat.leavesExact_idle (dats m 0 c) 4 t hi hf]
    simp only [before4 m c t hd]
    iintro H; iexists (fun _ => Classical.arbitrary _); iexact H
  · unfold Dat.leavesExact
    rw [hi, hf, after4, st_O m c t hd]
    exact .rfl

/-! ## The invariant -/

theorem PhiS_succ (c : Dev nD) (n : ℕ) (h : n + 1 ≤ grid0.N) :
    PhiS m c (n + 1) h = iprop(owns (c : Thread nD τ) scM fullShare (st m c n h).sc ∗ ∃ r, prngReg c r) := rfl
theorem Phi_at (c : Dev nD) (t : Fin ((cfgM (F := F)).N + 1)) (n : ℕ) (h : n ≤ grid0.N) (e : t.val = n) :
    (dats m 0 c).Φ t = iprop(PhiS m c n h ∗ Pipeline.ΦT pre0 (tbl (F := F)) c) := by
  subst e
  unfold dats
  dsimp only
theorem Phi_castSucc (c : Dev nD) (t : Fin (cfgM (F := F)).N) :
    (dats m 0 c).Φ t.castSucc = iprop(PhiS m c t.val (Nat.le_of_lt t.isLt) ∗ Pipeline.ΦT pre0 (tbl (F := F)) c) := by
  rw [Phi_at m c t.castSucc t.val (Nat.le_of_lt t.isLt) (Fin.val_castSucc t)]
theorem Phi_succ (c : Dev nD) (t : Fin (cfgM (F := F)).N) :
    (dats m 0 c).Φ t.succ = iprop((owns (c : Thread nD τ) scM fullShare (st m c t.val t.isLt).sc ∗ ∃ r, prngReg c r) ∗ Pipeline.ΦT pre0 (tbl (F := F)) c) := by
  rw [Phi_at m c t.succ (t.val + 1) t.isLt (Fin.val_succ t), PhiS_succ]
theorem PhiS_zero (c : Dev nD) (n : ℕ) (h : n ≤ grid0.N) (hz : n = 0) : PhiS m c n h = Pipeline.ΦA spec0 c := by
  subst hz; rfl
theorem PhiA_eq (c : Dev nD) : (Pipeline.ΦA spec0 c : sProp 𝕄) = iprop((∃ d, owns (c : Thread nD τ) scM fullShare d) ∗ ∃ r, prngReg c r) := by
  unfold Pipeline.ΦA; rw [scopedRest0_eq]; simp only [scM, owns_whole]; try rfl
/-- The tables' halves, one by one. -/
theorem PhiT_eq (c : Dev nD) : (Pipeline.ΦT pre0 (tbl (F := F)) c : sProp 𝕄)
    = iprop(((Memref.whole main_c : Memref sig .tc .smem S36 .i32).view.loc (c : Thread nD τ) ↦{fullShare.right} (tbl (F := F)) 0)
      ∗ ((Memref.whole main_c_0 : Memref sig .tc .smem S36 .i32).view.loc (c : Thread nD τ) ↦{fullShare.right} (tbl (F := F)) 1)) := by
  unfold Pipeline.ΦT Pipeline.prefHeld
  rw [show (Finset.univ : Finset (Fin 2)) = insert (0 : Fin 2) {(1 : Fin 2)} from by decide, bigSep_insert (by decide), bigSep_singleton]
  rfl

/-- The words the body loads. -/
theorem word1 (t : Fin grid0.N) : BitVec.ofNat 32 (jn t.val)
    = ((Memref.whole main_c : Memref sig .tc .smem S36 .i32).access (cell (grid0.coords t)) : View sig .tc _ _ _).read (Elt F) ((tbl (F := F)) 0) one := by
  refine Eq.trans ?_ (lit0_eq _).symm
  exact congrArg (fun n => BitVec.ofNat 32 (jn n)) (cell_first t).symm
theorem word3 (t : Fin grid0.N) : BitVec.ofNat 32 (inn t.val)
    = ((Memref.whole main_c_0 : Memref sig .tc .smem S36 .i32).access (cell (grid0.coords t)) : View sig .tc _ _ _).read (Elt F) ((tbl (F := F)) 1) one := by
  refine Eq.trans ?_ (lit1_eq _).symm
  exact congrArg (fun n => BitVec.ofNat 32 (inn n)) (cell_first t).symm

/-! ## A point's stores read back -/

theorem readZ8 (c : Dev nD) (t : Fin grid0.N) (hz : t.val = 0) (x4 x5 x6 x7 : Vec F S512x1024 .bf16) (f) :
    (ms4 (F := F) t).view.read (Elt F) ((ms4 (F := F) t).view.writes (Elt F) f (ptZ c t hz x4 x5 x6 x7).1) = (stZ c t hz x4 x5 x6 x7).dq := by
  have h := View.read_writes_of_cover (ms4 (F := F) t).view f VO4 VO4.junk (ptZ c t hz x4 x5 x6 x7).1 (coverZ8 c t hz x4 x5 x6 x7)
  dsimp only [stZ]
  exact h
theorem readZ9 (c : Dev nD) (t : Fin grid0.N) (hz : t.val = 0) (x4 x5 x6 x7 : Vec F S512x1024 .bf16) (f) :
    (ms5 (F := F) t).view.read (Elt F) ((ms5 (F := F) t).view.writes (Elt F) f (ptZ c t hz x4 x5 x6 x7).2.1) = (stZ c t hz x4 x5 x6 x7).dk := by
  have h := View.read_writes_of_cover (ms5 (F := F) t).view f VO5 VO5.junk (ptZ c t hz x4 x5 x6 x7).2.1 (coverZ9 c t hz x4 x5 x6 x7)
  dsimp only [stZ]
  exact h
theorem readZ10 (c : Dev nD) (t : Fin grid0.N) (hz : t.val = 0) (x4 x5 x6 x7 : Vec F S512x1024 .bf16) (f) :
    (ms6 (F := F) t).view.read (Elt F) ((ms6 (F := F) t).view.writes (Elt F) f (ptZ c t hz x4 x5 x6 x7).2.2.1) = (stZ c t hz x4 x5 x6 x7).dv := by
  have h := View.read_writes_of_cover (ms6 (F := F) t).view f VO6 VO6.junk (ptZ c t hz x4 x5 x6 x7).2.2.1 (coverZ10 c t hz x4 x5 x6 x7)
  dsimp only [stZ]
  exact h
theorem readD8 (c : Dev nD) (t : Fin grid0.N) (hz : ¬ t.val = 0) (hd : inn t.val = jn t.val) (x4 x5 x6 x7 : Vec F S512x1024 .bf16) (x11 : Vec F S4096x1024 .f32) (f) :
    (ms4 (F := F) t).view.read (Elt F) ((ms4 (F := F) t).view.writes (Elt F) f (ptD c t hz hd x4 x5 x6 x7 x11).1) = (stD c t hz hd x4 x5 x6 x7 x11).dq := by
  have h := View.read_writes_of_cover (ms4 (F := F) t).view f VO4 VO4.junk (ptD c t hz hd x4 x5 x6 x7 x11).1 (coverD8 c t hz hd x4 x5 x6 x7 x11)
  dsimp only [stD]
  exact h
theorem readD9 (c : Dev nD) (t : Fin grid0.N) (hz : ¬ t.val = 0) (hd : inn t.val = jn t.val) (x4 x5 x6 x7 : Vec F S512x1024 .bf16) (x11 : Vec F S4096x1024 .f32) (f) :
    (ms5 (F := F) t).view.read (Elt F) ((ms5 (F := F) t).view.writes (Elt F) f (ptD c t hz hd x4 x5 x6 x7 x11).2.1) = (stD c t hz hd x4 x5 x6 x7 x11).dk := by
  have h := View.read_writes_of_cover (ms5 (F := F) t).view f VO5 VO5.junk (ptD c t hz hd x4 x5 x6 x7 x11).2.1 (coverD9 c t hz hd x4 x5 x6 x7 x11)
  dsimp only [stD]
  exact h
theorem readD10 (c : Dev nD) (t : Fin grid0.N) (hz : ¬ t.val = 0) (hd : inn t.val = jn t.val) (x4 x5 x6 x7 : Vec F S512x1024 .bf16) (x11 : Vec F S4096x1024 .f32) (f) :
    (ms6 (F := F) t).view.read (Elt F) ((ms6 (F := F) t).view.writes (Elt F) f (ptD c t hz hd x4 x5 x6 x7 x11).2.2.1) = (stD c t hz hd x4 x5 x6 x7 x11).dv := by
  have h := View.read_writes_of_cover (ms6 (F := F) t).view f VO6 VO6.junk (ptD c t hz hd x4 x5 x6 x7 x11).2.2.1 (coverD10 c t hz hd x4 x5 x6 x7 x11)
  dsimp only [stD]
  exact h
theorem readO9 (c : Dev nD) (t : Fin grid0.N) (hd : ¬ inn t.val = jn t.val) (x4 x5 x6 x7 : Vec F S512x1024 .bf16) (s : St F) (f) :
    (ms5 (F := F) t).view.read (Elt F) ((ms5 (F := F) t).view.writes (Elt F) f (ptO c t hd x4 x5 x6 x7 s.dk s.dv s.sc).1) = (stO c t hd x4 x5 x6 x7 s).dk := by
  have h := View.read_writes_of_cover (ms5 (F := F) t).view f VO5 VO5.junk (ptO c t hd x4 x5 x6 x7 s.dk s.dv s.sc).1 (coverO9 c t hd x4 x5 x6 x7 s.dk s.dv s.sc)
  dsimp only [stO]
  exact h
theorem readO10 (c : Dev nD) (t : Fin grid0.N) (hd : ¬ inn t.val = jn t.val) (x4 x5 x6 x7 : Vec F S512x1024 .bf16) (s : St F) (f) :
    (ms6 (F := F) t).view.read (Elt F) ((ms6 (F := F) t).view.writes (Elt F) f (ptO c t hd x4 x5 x6 x7 s.dk s.dv s.sc).2.1) = (stO c t hd x4 x5 x6 x7 s).dv := by
  have h := View.read_writes_of_cover (ms6 (F := F) t).view f VO6 VO6.junk (ptO c t hd x4 x5 x6 x7 s.dk s.dv s.sc).2.1 (coverO10 c t hd x4 x5 x6 x7 s.dk s.dv s.sc)
  dsimp only [stO]
  exact h
theorem readZ11 (c : Dev nD) (t : Fin grid0.N) (hz : t.val = 0) (x4 x5 x6 x7 : Vec F S512x1024 .bf16) (f) :
    scM.view.read (Elt F) (scM.view.writes (Elt F) f (ptZ c t hz x4 x5 x6 x7).2.2.2.1) = (stZ c t hz x4 x5 x6 x7).sc := by
  have h := View.read_writes_of_cover scM.view f scM.view scM.view.junk (ptZ c t hz x4 x5 x6 x7).2.2.2.1 (coverZ11 c t hz x4 x5 x6 x7)
  dsimp only [stZ]
  exact h

/-! ## The body's triple -/

/-- The body at point `t`. -/
def bodyAt (t : Fin (cfgM (F := F)).N) : Prog (TpuEff nD τ sig (Elt F) Λ₀ .tc) PUnit :=
  cc0_fox_bwd (grid0.coords t) (Memref.whole main_c) (Memref.isWhole_whole _) (Memref.whole main_c_0) (Memref.isWhole_whole _) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (Memref.whole cc0_scratch0) (Memref.isWhole_whole _)

/-- What the body is called with, -/
def bodyPre (c : Dev nD) (t : Fin (cfgM (F := F)).N) : sProp 𝕄 :=
  iprop((dats m 0 c).Φ t.castSucc ∗ (dats m 0 c).owesAt () t.castSucc
    ∗ (∃ d, owns (c : Thread nD τ) (ms0 (F := F) t) fullShare ((dats m 0 c).before 0 t d))
    ∗ (∃ d, owns (c : Thread nD τ) (ms1 (F := F) t) fullShare ((dats m 0 c).before 1 t d))
    ∗ (∃ d, owns (c : Thread nD τ) (ms2 (F := F) t) fullShare ((dats m 0 c).before 2 t d))
    ∗ (∃ d, owns (c : Thread nD τ) (ms3 (F := F) t) fullShare ((dats m 0 c).before 3 t d))
    ∗ (∃ d, owns (c : Thread nD τ) (ms4 (F := F) t) fullShare ((dats m 0 c).before 4 t d))
    ∗ (∃ d, owns (c : Thread nD τ) (ms5 (F := F) t) fullShare ((dats m 0 c).before 5 t d))
    ∗ (∃ d, owns (c : Thread nD τ) (ms6 (F := F) t) fullShare ((dats m 0 c).before 6 t d)))
/-- and what it returns. -/
def bodyPost (c : Dev nD) (t : Fin (cfgM (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 2000000 in
/-- The body at the first point. -/
theorem bodyZ (c : Dev nD) (t : Fin (cfgM (F := F)).N) (hz : t.val = 0) :
    bodyPre m c t ⊢ wp frame (wpE (defs₀ (F := F)) Variants.none c none) Set.univ (bodyAt (F := F) t) (fun _ => bodyPost m c t) := by
  unfold bodyPre bodyPost bodyAt
  have hd : inn t.val = jn t.val := by rw [hz]; rfl
  simp only [before0, before1, before2, before3]
  rw [show (dats m 0 c).owesAt () t.succ = (dats m 0 c).owesAt () t.castSucc from rfl]
  rw [leaves0, leaves1, leaves2, leaves3, leaves5, leaves6, after0, after1, after2, after3, after5, after6]
  rw [leaves4_diag m c t hd, after4]
  rw [Phi_castSucc m c t, Phi_succ m c t, PhiS_zero m c _ _ hz, PhiA_eq, PhiT_eq]
  rw [st_Z m c t hz]
  iintro ⟨⟨⟨H11, Hg⟩, H2, H3⟩, Ho, ⟨%d0, H4⟩, ⟨%d1, H5⟩, ⟨%d2, H6⟩, ⟨%d3, H7⟩, ⟨%d4, H8⟩, ⟨%d5, H9⟩, ⟨%d6, H10⟩⟩
  iapply ((ptZ c t hz (iblk m c 0 t) (iblk m c 1 t) (iblk m c 2 t) (iblk m c 3 t)).2.2.2.2 _ _ _ (word1 t) (word3 t) Set.univ _)
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  iintro ⟨H2, H3, H4, H5, H6, H7, ⟨%e8, H8⟩, ⟨%e9, H9⟩, ⟨%e10, H10⟩, ⟨%e11, H11⟩⟩
  isplitl [H11 Hg H2 H3]
  · isplitl [H11 Hg]
    · isplitl [H11]
      · unfold owns; iexists _; isplitr
        swap; · iexact H11
        ipureintro; exact readZ11 c t hz (iblk m c 0 t) (iblk m c 1 t) (iblk m c 2 t) (iblk m c 3 t) _
      iexact Hg
    isplitl [H2]; · iexact H2
    iexact H3
  isplitl [Ho]; · iexact Ho
  isplitl [H4]; · iexact H4
  isplitl [H5]; · iexact H5
  isplitl [H6]; · iexact H6
  isplitl [H7]; · iexact H7
  isplitl [H8]
  · unfold owns; iexists _; isplitr
    swap; · iexact H8
    ipureintro; exact readZ8 c t hz (iblk m c 0 t) (iblk m c 1 t) (iblk m c 2 t) (iblk m c 3 t) _
  isplitl [H9]
  · unfold owns; iexists _; isplitr
    swap; · iexact H9
    ipureintro; exact readZ9 c t hz (iblk m c 0 t) (iblk m c 1 t) (iblk m c 2 t) (iblk m c 3 t) _
  unfold owns; iexists _; isplitr
  swap; · iexact H10
  ipureintro; exact readZ10 c t hz (iblk m c 0 t) (iblk m c 1 t) (iblk m c 2 t) (iblk m c 3 t) _

set_option maxHeartbeats 2000000 in
/-- The body at a later diagonal point. -/
theorem bodyD (c : Dev nD) (t : Fin (cfgM (F := F)).N) (hz : ¬ t.val = 0) (hd : inn t.val = jn t.val) :
    bodyPre m c t ⊢ wp frame (wpE (defs₀ (F := F)) Variants.none c none) Set.univ (bodyAt (F := F) t) (fun _ => bodyPost m c t) := by
  unfold bodyPre bodyPost bodyAt
  simp only [before0, before1, before2, before3]
  rw [show (dats m 0 c).owesAt () t.succ = (dats m 0 c).owesAt () t.castSucc from rfl]
  rw [leaves0, leaves1, leaves2, leaves3, leaves5, leaves6, after0, after1, after2, after3, after5, after6]
  rw [leaves4_diag m c t hd, after4]
  rw [Phi_castSucc m c t, Phi_succ m c t, PhiS_pos m c _ _ hz, PhiT_eq]
  rw [st_D m c t hz hd]
  iintro ⟨⟨⟨H11, Hg⟩, H2, H3⟩, Ho, ⟨%d0, H4⟩, ⟨%d1, H5⟩, ⟨%d2, H6⟩, ⟨%d3, H7⟩, ⟨%d4, H8⟩, ⟨%d5, H9⟩, ⟨%d6, H10⟩⟩
  iapply ((ptD c t hz hd (iblk m c 0 t) (iblk m c 1 t) (iblk m c 2 t) (iblk m c 3 t) (st m c (t.val - 1) (Nat.lt_of_le_of_lt (Nat.sub_le _ _) t.isLt)).sc).2.2.2.2 _ _ _ (word1 t) (word3 t) Set.univ _)
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  iintro ⟨H2, H3, H4, H5, H6, H7, ⟨%e8, H8⟩, ⟨%e9, H9⟩, ⟨%e10, H10⟩, H11⟩
  isplitl [H11 Hg H2 H3]
  · isplitl [H11 Hg]
    · isplitl [H11]
      · unfold owns; iexists _; isplitr
        swap; · iexact H11
        ipureintro; rfl
      iexact Hg
    isplitl [H2]; · iexact H2
    iexact H3
  isplitl [Ho]; · iexact Ho
  isplitl [H4]; · iexact H4
  isplitl [H5]; · iexact H5
  isplitl [H6]; · iexact H6
  isplitl [H7]; · iexact H7
  isplitl [H8]
  · unfold owns; iexists _; isplitr
    swap; · iexact H8
    ipureintro; exact readD8 c t hz hd (iblk m c 0 t) (iblk m c 1 t) (iblk m c 2 t) (iblk m c 3 t) (st m c (t.val - 1) (Nat.lt_of_le_of_lt (Nat.sub_le _ _) t.isLt)).sc _
  isplitl [H9]
  · unfold owns; iexists _; isplitr
    swap; · iexact H9
    ipureintro; exact readD9 c t hz hd (iblk m c 0 t) (iblk m c 1 t) (iblk m c 2 t) (iblk m c 3 t) (st m c (t.val - 1) (Nat.lt_of_le_of_lt (Nat.sub_le _ _) t.isLt)).sc _
  unfold owns; iexists _; isplitr
  swap; · iexact H10
  ipureintro; exact readD10 c t hz hd (iblk m c 0 t) (iblk m c 1 t) (iblk m c 2 t) (iblk m c 3 t) (st m c (t.val - 1) (Nat.lt_of_le_of_lt (Nat.sub_le _ _) t.isLt)).sc _

set_option maxHeartbeats 2000000 in
/-- The body at a point below the diagonal. -/
theorem bodyO (c : Dev nD) (t : Fin (cfgM (F := F)).N) (hd : ¬ inn t.val = jn t.val) :
    bodyPre m c t ⊢ wp frame (wpE (defs₀ (F := F)) Variants.none c none) Set.univ (bodyAt (F := F) t) (fun _ => bodyPost m c t) := by
  unfold bodyPre bodyPost bodyAt
  have hz : ¬ t.val = 0 := fun e => hd (by rw [e]; rfl)
  simp only [before0, before1, before2, before3]
  rw [show (dats m 0 c).owesAt () t.succ = (dats m 0 c).owesAt () t.castSucc from rfl]
  rw [leaves0, leaves1, leaves2, leaves3, leaves5, leaves6, after0, after1, after2, after3, after5, after6]
  simp only [before4 m c t hd, before5 m c t hd, before6 m c t hd]
  rw [Phi_castSucc m c t, Phi_succ m c t, PhiS_pos m c _ _ hz, PhiT_eq]
  rw [st_O m c t hd]
  iintro ⟨⟨⟨H11, Hg⟩, H2, H3⟩, Ho, ⟨%d0, H4⟩, ⟨%d1, H5⟩, ⟨%d2, H6⟩, ⟨%d3, H7⟩, ⟨%d4, H8⟩, ⟨%d5, H9⟩, ⟨%d6, H10⟩⟩
  iapply ((ptO c t hd (iblk m c 0 t) (iblk m c 1 t) (iblk m c 2 t) (iblk m c 3 t) (st m c (t.val - 1) (Nat.lt_of_le_of_lt (Nat.sub_le _ _) t.isLt)).dk (st m c (t.val - 1) (Nat.lt_of_le_of_lt (Nat.sub_le _ _) t.isLt)).dv (st m c (t.val - 1) (Nat.lt_of_le_of_lt (Nat.sub_le _ _) t.isLt)).sc).2.2.2 _ _ _ (word1 t) (word3 t) Set.univ _)
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  iintro ⟨H2, H3, H4, H5, H6, H7, H9, H10, H11⟩
  isplitl [H11 Hg H2 H3]
  · isplitl [H11 Hg]
    · isplitl [H11]
      · unfold owns; iexists _; isplitr
        swap; · iexact H11
        ipureintro; rfl
      iexact Hg
    isplitl [H2]; · iexact H2
    iexact H3
  isplitl [Ho]; · iexact Ho
  isplitl [H4]; · iexact H4
  isplitl [H5]; · iexact H5
  isplitl [H6]; · iexact H6
  isplitl [H7]; · iexact H7
  isplitl [H8]; · iapply (leaves4_below m c t hd) $$ H8
  isplitl [H9]
  · unfold owns; iexists _; isplitr
    swap; · iexact H9
    ipureintro; exact readO9 c t hd (iblk m c 0 t) (iblk m c 1 t) (iblk m c 2 t) (iblk m c 3 t) (st m c (t.val - 1) (Nat.lt_of_le_of_lt (Nat.sub_le _ _) t.isLt)) _
  unfold owns; iexists _; isplitr
  swap; · iexact H10
  ipureintro; exact readO10 c t hd (iblk m c 0 t) (iblk m c 1 t) (iblk m c 2 t) (iblk m c 3 t) (st m c (t.val - 1) (Nat.lt_of_le_of_lt (Nat.sub_le _ _) t.isLt)) _

theorem sound_body (c : Dev nD) (t : Fin (cfgM (F := F)).N) :
    bodyPre m c t ⊢ wp frame (wpE (defs₀ (F := F)) Variants.none c none) Set.univ (bodyAt (F := F) t) (fun _ => bodyPost m c t) := by
  by_cases hz : t.val = 0
  · exact bodyZ m c t hz
  · by_cases hd : inn t.val = jn t.val
    · exact bodyD m c t hz hd
    · exact bodyO m c t hd

theorem defs₀_row (t : Fin (cfgM (F := F)).N) :
    defs₀ (F := F) .tc (cfgM (F := F)).body ((cfgM (F := F)).bodyArgs t ((cfgM (F := F)).slots t)) = bodyAt (F := F) t := by
  unfold defs₀; rw [Defs.onTc_tc]; rfl

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.FoxIdeal.Hand

end
-- ==== Proof.FoxLaunch.lean ====
/-
  The attention's backward kernel launched: the host lines before and after the call, and the run of the whole program
  from any memory, which ends with the arguments unchanged and every counter at zero.
-/
module

public import proofs.«01_k».proof.Proof.FoxBody
public import Idealize.ShloMosaic.Lib.StableHlo.ReadAt

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## What the host lines write -/

abbrev hostOps0_W : List (Ref sig .tc) := [main_c, main_c_0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_fresh : (hostOps0 : List (HloOp τ sig (Elt F))).Forall fun op => op.fresh = ∅ := by
  simp only [List.Forall]; repeat' constructor
abbrev hostOps0_1_W : List (Ref sig .tc) := [main_call0_call0_cst, main_call0_call0_v0, main_v0]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_fresh : (hostOps0_1 : List (HloOp τ sig (Elt F))).Forall fun op => op.fresh = ∅ := by
  simp only [List.Forall]; repeat' constructor
abbrev hostOps0_2_W : List (Ref sig .tc) := [main_v1, main_cst, main_v2, main_v3, main_v4, main_v5, main_v6, main_v7, main_v8, main_v9, main_v10, main_v11, main_v12, main_v13, main_v14, main_v15, main_v16, main_cst_1]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_fresh : (hostOps0_2 : List (HloOp τ sig (Elt F))).Forall fun op => op.fresh = ∅ := by
  simp only [List.Forall]; repeat' constructor
abbrev hostOps0_3_W : List (Ref sig .tc) := [main_call1_v0, main_call1_v1, main_call1_v2, main_v17]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_fresh : (hostOps0_3 : List (HloOp τ sig (Elt F))).Forall fun op => op.fresh = ∅ := by
  simp only [List.Forall]; repeat' constructor
abbrev hostOps0_4_W : List (Ref sig .tc) := [main_cst_2, main_v18, main_v19, main_v20, main_v21, main_v22, main_cst_3, main_v23, main_v24, main_v25, main_v26, main_v27, main_v28, main_v29, main_cst_4, main_v30, main_cst_5, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_cst_6, main_v63, main_v64, main_v65, main_v66, main_v67, main_v68, main_v69, main_v70, main_v71, main_v72, main_v73, main_v74, main_v75, main_v76, main_v77, main_v78, main_v79, main_v80, main_v81, main_v82, main_v83, main_cst_7, main_v84, main_v85, main_v86, main_v87, main_v88, main_v89, main_cst_8, main_v90, main_v91, main_v92, main_v93, main_v94, main_v95, main_cst_9, main_v96, main_v97, main_v98, main_v99, main_v100, main_v101, main_v102, main_v103, main_v104, main_v105, main_v106, main_v107, main_v108, main_v109, main_v110, main_v111, main_v112, main_cst_10, main_v113, main_v114, main_v115, main_v116, main_v117]
set_option maxHeartbeats 40000000 in
theorem hostOps0_4_writes : (hostOps0_4 : List (HloOp τ sig (Elt F))).Forall fun op => op.writes ⊆ (hostOps0_4_W.map (Proc.devRef (τ := τ) .tc)).toFinset :=
  StableHlo.forall_writes_sub_of_map rfl
set_option maxHeartbeats 40000000 in
theorem hostOps0_4_fresh : (hostOps0_4 : List (HloOp τ sig (Elt F))).Forall fun op => op.fresh = ∅ := by
  simp only [List.Forall]; repeat' constructor
abbrev hostOps1_W : List (Ref sig .tc) := [main_v119, main_v120, main_v121, main_v122, main_v123, main_v124, main_v125, main_v126, main_v127, main_v128, main_cst_11, main_v129, main_v130, main_v131, main_v132, main_v133, main_v134, main_v135, main_v136, main_v137]
theorem hostOps1_writes : (hostOps1 : List (HloOp τ sig (Elt F))).Forall fun op => op.writes ⊆ (hostOps1_W.map (Proc.devRef (τ := τ) .tc)).toFinset :=
  StableHlo.forall_writes_sub_of_map rfl
theorem hostOps1_fresh : (hostOps1 : List (HloOp τ sig (Elt F))).Forall fun op => op.fresh = ∅ := by
  simp only [List.Forall]; repeat' constructor

/-- A buffer no line before the call writes is as launched. -/
theorem V_rest (c : Dev nD) (r : Ref sig .tc) (h0 : r ∉ hostOps0_W) (h1 : r ∉ hostOps0_1_W) (h2 : r ∉ hostOps0_2_W) (h3 : r ∉ hostOps0_3_W)
    (h4 : r ∉ hostOps0_4_W) : V m c r = m ((c : Thread nD τ).loc r) := by
  unfold V V0
  rw [List.flatten_cons, List.flatten_cons, List.flatten_cons, List.flatten_cons, List.flatten_cons, List.flatten_nil, List.append_nil,
    StableHlo.after_append, StableHlo.after_append, StableHlo.after_append, StableHlo.after_append,
    StableHlo.after_of_writes_sub (r := r) hostOps0_4 _ hostOps0_4_writes h4,
    StableHlo.after_of_writes_sub (r := r) hostOps0_3 _ hostOps0_3_writes h3,
    StableHlo.after_of_writes_sub (r := r) hostOps0_2 _ hostOps0_2_writes h2,
    StableHlo.after_of_writes_sub (r := r) hostOps0_1 _ hostOps0_1_writes h1,
    StableHlo.after_of_writes_sub (r := r) hostOps0 _ hostOps0_writes h0]
/-- A buffer the two tables' lines alone write. -/
theorem V_tables (c : Dev nD) (r : Ref sig .tc) (h1 : r ∉ hostOps0_1_W) (h2 : r ∉ hostOps0_2_W) (h3 : r ∉ hostOps0_3_W)
    (h4 : r ∉ hostOps0_4_W) : V m c r = StableHlo.after hostOps0 (fun b => m (c, b)) (Proc.devRef .tc r) := by
  unfold V V0
  rw [List.flatten_cons, List.flatten_cons, List.flatten_cons, List.flatten_cons, List.flatten_cons, List.flatten_nil, List.append_nil,
    StableHlo.after_append, StableHlo.after_append, StableHlo.after_append, StableHlo.after_append,
    StableHlo.after_of_writes_sub (r := r) hostOps0_4 _ hostOps0_4_writes h4,
    StableHlo.after_of_writes_sub (r := r) hostOps0_3 _ hostOps0_3_writes h3,
    StableHlo.after_of_writes_sub (r := r) hostOps0_2 _ hostOps0_2_writes h2,
    StableHlo.after_of_writes_sub (r := r) hostOps0_1 _ hostOps0_1_writes h1]
theorem V_table0 (c : Dev nD) : V m c main_c = tbl (F := F) 0 := by
  rw [V_tables m c main_c (by decide +kernel) (by decide +kernel) (by decide +kernel) (by decide +kernel)]
  after_reads_simp
  rfl
theorem V_table1 (c : Dev nD) : V m c main_c_0 = tbl (F := F) 1 := by
  rw [V_tables m c main_c_0 (by decide +kernel) (by decide +kernel) (by decide +kernel) (by decide +kernel)]
  after_reads_simp
  rfl
theorem V_pre (c : Dev nD) (k : Fin 2) : V0 m c (Proc.devRef .tc (pre0.ref k)) = tbl (F := F) k := by
  fin_cases k
  · exact V_table0 m c
  · exact V_table1 m c

/-! ## The lines after the call -/

theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl
  all_goals intro j; fin_cases j <;> simp only [StableHlo.nullary_bufs, StableHlo.unary_bufs, StableHlo.binary_bufs, StableHlo.reshape_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, or_false] at hops
  rcases hops with rfl
  intro w hb
  obtain ⟨y, hy, he⟩ := List.mem_map.mp (List.mem_toFinset.mp ((List.forall_iff_forall_mem.mp hostOps1_writes) op hop hb))
  have e := Proc.devRef_injective _ he
  exact (by decide +kernel : ∀ w, Pipeline.arrRef spec0 w ∉ hostOps1_W) w (e ▸ hy)

set_option maxHeartbeats 8000000 in
theorem hmain : Pipeline.HMainPK (Ix := Unit) (Name := ℕ) (U := UR sig nD τ) (Lvl := ℕ) pcfgs 0 defs₀ Variants.none m (main (F := F)) (V m)
    (fun _ => Pipeline.chain ([hostOps1].map StableHlo.seq)) :=
  Pipeline.hmainP_around pcfgs 0 defs₀ Variants.none m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- Core `c`'s buffers after the later lines. -/
abbrev afterM (c : Dev nD) (b : Ref sig .tc) : Buf (Elt F) ((c : Thread nD τ).loc b) :=
  Pipeline.afterTail pcfgs (fun _ => adm (F := F)) (dats m) 0 (V0 m) [hostOps1] c b
/-- A buffer neither a later line nor the call writes. -/
theorem W_rest (c : Dev nD) (r : Ref sig .tc) (h : r ∉ hostOps1_W) (hr : ∀ w, Pipeline.arrRef spec0 w ≠ r) : afterM m c r = V m c r := by
  unfold afterM Pipeline.afterTail
  rw [List.flatten_cons, List.flatten_nil, List.append_nil, StableHlo.after_of_writes_sub (r := r) hostOps1 _ hostOps1_writes h,
    Pipeline.withArrays_of_ne _ c (V0 m c) _ r hr]

theorem V_main_arg0 (c : Dev nD) : V m c main_arg0 = m ((c : Thread nD τ).loc main_arg0) :=
  V_rest m c main_arg0 (by decide +kernel) (by decide +kernel) (by decide +kernel) (by decide +kernel) (by decide +kernel)
theorem W_main_arg0 (c : Dev nD) : afterM m c main_arg0 = m ((c : Thread nD τ).loc main_arg0) :=
  (W_rest m c main_arg0 (by decide +kernel) (by decide)).trans (V_main_arg0 m c)
theorem V_main_arg1 (c : Dev nD) : V m c main_arg1 = m ((c : Thread nD τ).loc main_arg1) :=
  V_rest m c main_arg1 (by decide +kernel) (by decide +kernel) (by decide +kernel) (by decide +kernel) (by decide +kernel)
theorem W_main_arg1 (c : Dev nD) : afterM m c main_arg1 = m ((c : Thread nD τ).loc main_arg1) :=
  (W_rest m c main_arg1 (by decide +kernel) (by decide)).trans (V_main_arg1 m c)
theorem V_main_arg2 (c : Dev nD) : V m c main_arg2 = m ((c : Thread nD τ).loc main_arg2) :=
  V_rest m c main_arg2 (by decide +kernel) (by decide +kernel) (by decide +kernel) (by decide +kernel) (by decide +kernel)
theorem W_main_arg2 (c : Dev nD) : afterM m c main_arg2 = m ((c : Thread nD τ).loc main_arg2) :=
  (W_rest m c main_arg2 (by decide +kernel) (by decide)).trans (V_main_arg2 m c)
theorem V_main_arg3 (c : Dev nD) : V m c main_arg3 = m ((c : Thread nD τ).loc main_arg3) :=
  V_rest m c main_arg3 (by decide +kernel) (by decide +kernel) (by decide +kernel) (by decide +kernel) (by decide +kernel)
theorem W_main_arg3 (c : Dev nD) : afterM m c main_arg3 = m ((c : Thread nD τ).loc main_arg3) :=
  (W_rest m c main_arg3 (by decide +kernel) (by decide)).trans (V_main_arg3 m c)
theorem V_main_arg4 (c : Dev nD) : V m c main_arg4 = m ((c : Thread nD τ).loc main_arg4) :=
  V_rest m c main_arg4 (by decide +kernel) (by decide +kernel) (by decide +kernel) (by decide +kernel) (by decide +kernel)
theorem W_main_arg4 (c : Dev nD) : afterM m c main_arg4 = m ((c : Thread nD τ).loc main_arg4) :=
  (W_rest m c main_arg4 (by decide +kernel) (by decide)).trans (V_main_arg4 m c)

/-! ## The invariant at the two ends -/

theorem hin (c : Dev nD) : (iprop(Pipeline.ΦA spec0 c ∗ Pipeline.ΦT pre0 (tbl (F := F)) c) : sProp 𝕄) ⊢ (dats m 0 c).Φ 0 := by
  rw [Phi_at m c 0 0 (Nat.zero_le _) rfl]
  exact .rfl
theorem hout (c : Dev nD) : (dats m 0 c).Φ (Fin.last (cfgM (F := F)).N) ⊢ (Pipeline.ΦA spec0 c : sProp 𝕄) := by
  rw [Phi_at m c (Fin.last _) grid0.N (Nat.le_refl _) (Fin.val_last _), PhiS_pos m c grid0.N (Nat.le_refl _) (by rw [N_0]; decide), PhiA_eq]
  iintro ⟨⟨H, Hg⟩, -⟩
  isplitl [H]
  · iexists _; iexact H
  iexact Hg

set_option backward.isDefEq.respectTransparency.types false in
set_option maxHeartbeats 4000000 in
/-- The whole program runs from any memory: the call's arrays and every other buffer end as computed, the counters at zero. -/
theorem run_main (g : Dev nD → PrngReg) :
    θ_run (defs (F := F)) (onTc (τ := τ) (main (F := F))) ⟨m, fun _ => 0, g⟩
      (fun r => Pipeline.FramePost (Pipeline.pin pcfgs (fun _ => adm (F := F))) (dats m) 0 (afterM m) r ∧ r.2.sem = fun _ => 0) :=
  Pipeline.θ_run_frameP_around_track pcfgs (fun _ => adm (F := F)) (dats m) 0 launch0 defs₀ Variants.none m g (main (F := F))
    (fun c => (body_obligation m c).loose) (fun c => (dats m 0 c).share_full fun _ => rfl) (fun _ _ => rfl) (V0 m) [hostOps1]
    sfx_sub sfx_fresh sfx_keeps (hmain m) (fun c w => A_eq m c w) (V_pre m) (hin m) (hout m)
    (Q' := fun r => Pipeline.FramePost (Pipeline.pin pcfgs (fun _ => adm (F := F))) (dats m) 0 (afterM m) r ∧ r.2.sem = fun _ => 0)
    (hQ' := fun _ h => h)

/-- It ends with the arguments unchanged and every counter at zero. -/
theorem frame_main (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := F)) _ _).mono (fun r h => ⟨fun c => ⟨((h.1 c).2 main_arg0 (by decide : main_arg0 ∈ Pipeline.restRefs sig spec0)).trans (W_main_arg0 m c), ((h.1 c).2 main_arg1 (by decide : main_arg1 ∈ Pipeline.restRefs sig spec0)).trans (W_main_arg1 m c), ((h.1 c).2 main_arg2 (by decide : main_arg2 ∈ Pipeline.restRefs sig spec0)).trans (W_main_arg2 m c), ((h.1 c).2 main_arg3 (by decide : main_arg3 ∈ Pipeline.restRefs sig spec0)).trans (W_main_arg3 m c), ((h.1 c).2 main_arg4 (by decide : main_arg4 ∈ Pipeline.restRefs sig spec0)).trans (W_main_arg4 m c)⟩, h.2⟩) (run_main m g)

end Cert.FoxIdeal.Hand

end
-- ==== Proof.FoxArr.lean ====
/-
  The arrays the attention's backward kernel returns, in closed form over the arrays it is called with.
-/
module

public import proofs.«01_k».proof.Proof.FoxClosed
public import proofs.«01_k».proof.Proof.FoxLaunch

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic

variable (m : (ℓ : Loc nD τ sig) → Buf (Elt Ideal) ℓ) (c : Dev nD)

/-! ## The arrays the call is entered with -/

/-- The augmented queries, keys, values and cotangents, a row of a head. -/
def Qa (h : Fin 8) (i : Fin 4096) (e : Fin 128) : EReal := (V m c main_v67 : S4096x1024.Idx → EReal) (ix2 i (col h e))
def Ka (h : Fin 8) (i : Fin 4096) (e : Fin 128) : EReal := (V m c main_v88 : S4096x1024.Idx → EReal) (ix2 i (col h e))
def Wa (h : Fin 8) (i : Fin 4096) (e : Fin 128) : EReal := (V m c main_v94 : S4096x1024.Idx → EReal) (ix2 i (col h e))
def Da (h : Fin 8) (i : Fin 4096) (e : Fin 128) : EReal := (V m c main_v117 : S4096x1024.Idx → EReal) (ix2 i (col h e))

theorem index_row (t : Fin grid0.N) : ((cfgM (F := Ideal)).win 0).index t = ![inn t.val, 0] := (ix_row _).trans (by rw [coord1])
theorem index_col (t : Fin grid0.N) : ((cfgM (F := Ideal)).win 1).index t = ![jn t.val, 0] := (ix_col _).trans (by rw [coord1])

/-- A window's block at a point is the array's rows of its row or column block. -/
theorem iblk0 (t : Fin grid0.N) (h : Fin 8) (a : Fin 512) (e : Fin 128) :
    b16 (iblk m c 0 t) h a e = Qa m c h (row (inn t.val) (inn_lt t) a) e := by
  unfold b16 iblk Qa
  refine congrArg (V m c main_v67) (funext fun k => Fin.ext ?_)
  refine (Pipeline.Window.rect_emb_val ((cfgM (F := Ideal)).win 0) t (ix2 a (col h e)) k).trans ?_
  rw [index_row]
  fin_cases k
  · show inn t.val * 512 + a.val = 512 * inn t.val + a.val
    omega
  · show 0 * 1024 + (col h e).val = (col h e).val
    omega
theorem iblk1 (t : Fin grid0.N) (h : Fin 8) (a : Fin 512) (e : Fin 128) :
    b16 (iblk m c 1 t) h a e = Ka m c h (row (jn t.val) (jn_lt t) a) e := by
  unfold b16 iblk Ka
  refine congrArg (V m c main_v88) (funext fun k => Fin.ext ?_)
  refine (Pipeline.Window.rect_emb_val ((cfgM (F := Ideal)).win 1) t (ix2 a (col h e)) k).trans ?_
  rw [index_col]
  fin_cases k
  · show jn t.val * 512 + a.val = 512 * jn t.val + a.val
    omega
  · show 0 * 1024 + (col h e).val = (col h e).val
    omega
theorem iblk2 (t : Fin grid0.N) (h : Fin 8) (a : Fin 512) (e : Fin 128) :
    b16 (iblk m c 2 t) h a e = Wa m c h (row (jn t.val) (jn_lt t) a) e := by
  unfold b16 iblk Wa
  refine congrArg (V m c main_v94) (funext fun k => Fin.ext ?_)
  refine (Pipeline.Window.rect_emb_val ((cfgM (F := Ideal)).win 2) t (ix2 a (col h e)) k).trans ?_
  rw [show ((cfgM (F := Ideal)).win 2).index t = _ from index_col t]
  fin_cases k
  · show jn t.val * 512 + a.val = 512 * jn t.val + a.val
    omega
  · show 0 * 1024 + (col h e).val = (col h e).val
    omega
theorem iblk3 (t : Fin grid0.N) (h : Fin 8) (a : Fin 512) (e : Fin 128) :
    b16 (iblk m c 3 t) h a e = Da m c h (row (inn t.val) (inn_lt t) a) e := by
  unfold b16 iblk Da
  refine congrArg (V m c main_v117) (funext fun k => Fin.ext ?_)
  refine (Pipeline.Window.rect_emb_val ((cfgM (F := Ideal)).win 3) t (ix2 a (col h e)) k).trans ?_
  rw [show ((cfgM (F := Ideal)).win 3).index t = _ from index_row t]
  fin_cases k
  · show inn t.val * 512 + a.val = 512 * inn t.val + a.val
    omega
  · show 0 * 1024 + (col h e).val = (col h e).val
    omega

/-! ## The invariant at every point -/

/-- Where the walk goes: down a column, then to the next column's diagonal block. -/
theorem next_diag : ∀ n : Fin 35, inn (n.val + 1) = jn (n.val + 1) → inn n.val = 7 ∧ jn (n.val + 1) = jn n.val + 1 := by decide +kernel
theorem next_below : ∀ n : Fin 35, ¬ inn (n.val + 1) = jn (n.val + 1) →
    jn (n.val + 1) = jn n.val ∧ inn (n.val + 1) = inn n.val + 1 ∧ jn (n.val + 1) < inn (n.val + 1) := by decide +kernel

theorem inv_all : ∀ (n : ℕ) (hn : n < grid0.N), Inv (Qa m c) (Ka m c) (Wa m c) (Da m c) (st m c n hn) (jn n) (jn_lt ⟨n, hn⟩) (inn n) := by
  intro n
  induction n with
  | zero =>
    intro hn
    exact inv_first c ⟨0, hn⟩ rfl (iblk0 m c _) (iblk1 m c _) (iblk2 m c _) (iblk3 m c _)
  | succ n ih =>
    intro hn
    have hlt : n < 35 := by have := hn; rw [N_0] at this; omega
    have hi := ih (Nat.lt_of_succ_lt hn)
    by_cases hd : inn (n + 1) = jn (n + 1)
    · obtain ⟨h7, hj⟩ := next_diag ⟨n, hlt⟩ hd
      rw [st_D m c ⟨n + 1, hn⟩ (Nat.succ_ne_zero n) hd]
      refine inv_diag c ⟨n + 1, hn⟩ hd (Nat.succ_ne_zero n) (iblk0 m c _) (iblk1 m c _) (iblk2 m c _) (iblk3 m c _) fun h i e => ?_
      refine (hi.sc h i e).trans (Finset.sum_congr rfl fun j _ => if_congr ?_ rfl rfl)
      have := i.isLt
      show _ ↔ j.val / 512 < jn (n + 1)
      dsimp only at h7 hj
      omega
    · obtain ⟨hj, hI, hlt'⟩ := next_below ⟨n, hlt⟩ hd
      rw [st_O m c ⟨n + 1, hn⟩ hd]
      refine inv_below c ⟨n + 1, hn⟩ hd hlt' (iblk0 m c _) (iblk1 m c _) (iblk2 m c _) (iblk3 m c _) ?_
      show Inv _ _ _ _ _ (jn (n + 1)) _ (inn (n + 1) - 1)
      dsimp only at hI hj
      have e1 : inn (n + 1) - 1 = inn n := by omega
      rw [e1]
      have key : ∀ (J J' : ℕ) (hJ : J < 8) (hJ' : J' < 8) (s : St Ideal) (I : ℕ), J' = J → Inv (Qa m c) (Ka m c) (Wa m c) (Da m c) s J hJ I →
          Inv (Qa m c) (Ka m c) (Wa m c) (Da m c) s J' hJ' I := by
        intro J J' hJ hJ' s I e hs
        subst e
        exact hs
      exact key _ _ _ _ _ _ hj hi

/-! ## The three arrays -/

/-- The head and the place in it of a column. -/
def hd (k : Fin 1024) : Fin 8 := ⟨k.val / 128, by omega⟩
def pl (k : Fin 1024) : Fin 128 := ⟨k.val % 128, by omega⟩

theorem col_hd (k : Fin 1024) : col (hd k) (pl k) = k := Fin.ext (Nat.div_add_mod k.val 128)

theorem at_col (x : Vec Ideal S512x1024 .f32) (y : S512x1024.Idx) : x y = b32 x (hd (y 1)) (y 0) (pl (y 1)) := by
  refine congrArg x (funext fun k => ?_)
  fin_cases k
  · rfl
  · exact (col_hd (y 1)).symm

def dqA (x : S4096x1024.Idx) : EReal := ∑ j : Fin 4096, gw (Qa m c) (Ka m c) (Wa m c) (Da m c) (hd (x 1)) (x 0) j * Ka m c (hd (x 1)) j (pl (x 1))
def dkA (x : S4096x1024.Idx) : EReal := ∑ i : Fin 4096, gw (Qa m c) (Ka m c) (Wa m c) (Da m c) (hd (x 1)) i (x 0) * Qa m c (hd (x 1)) i (pl (x 1))
def dvA (x : S4096x1024.Idx) : EReal := ∑ i : Fin 4096, pw (Qa m c) (Ka m c) (hd (x 1)) i (x 0) * Da m c (hd (x 1)) i (pl (x 1))

/-- Each column block is written back once. -/
theorem last_of : ∀ J : Fin 8, ∃ t : Fin 36, inn t.val = 7 ∧ jn t.val = J.val := by decide +kernel

theorem emb_col (t : Fin grid0.N) (y : S512x1024.Idx) : ((((cfgM (F := Ideal)).win 4).blk t).view.emb y : S4096x1024.Idx) = ix2 (row (jn t.val) (jn_lt t) (y 0)) (y 1) := by
  refine funext fun k => Fin.ext ?_
  refine (Pipeline.Window.rect_emb_val ((cfgM (F := Ideal)).win 4) t y k).trans ?_
  rw [show ((cfgM (F := Ideal)).win 4).index t = _ from index_col t]
  fin_cases k
  · show jn t.val * 512 + (y 0).val = 512 * jn t.val + (y 0).val
    omega
  · show 0 * 1024 + (y 1).val = (y 1).val
    omega
theorem exists_block (i : S4096x1024.Idx) : ∃ t : Fin grid0.N, inn t.val = 7 ∧ ∃ y : S512x1024.Idx, ix2 (row (jn t.val) (jn_lt t) (y 0)) (y 1) = i := by
  obtain ⟨t, h7, hj⟩ := last_of ⟨(i 0).val / 512, by have := (i 0).isLt; change (i 0).val < 4096 at this; omega⟩
  refine ⟨⟨t.val, by rw [N_0]; exact t.isLt⟩, h7, ?_⟩
  obtain ⟨a, ha⟩ := exists_row (i 0) (jn t.val) (by rw [hj]; show (i 0).val / 512 < 8; have := (i 0).isLt; change (i 0).val < 4096 at this; omega) (by rw [hj])
  refine ⟨ix2 a (i 1), ?_⟩
  refine funext fun k => ?_
  fin_cases k
  · exact ha.symm
  · rfl

theorem sum_all (f : Fin 4096 → EReal) (I : ℕ) (h : I = 7) : (∑ i : Fin 4096, if i.val / 512 ≤ I then f i else 0) = ∑ i : Fin 4096, f i :=
  Finset.sum_congr rfl fun i _ => if_pos (by omega)

theorem arr4 : (dats m 0 c).arrAt 4 (cfgM (F := Ideal)).N = dqA m c := by
  refine (dats m 0 c).arrAt_eq_of_emb 4 _ (fun t hf y => ?_) (fun i => ?_)
  · refine Eq.trans (b := b32 (st m c t.val t.isLt).dq (hd (y 1)) (y 0) (pl (y 1))) ?_ ?_
    · exact at_col (st m c t.val t.isLt).dq y
    · refine ((inv_all m c t.val t.isLt).dq _ _ _).trans ?_
      exact (congrArg (dqA m c) (emb_col t y)).symm
  · obtain ⟨t, h7, y, hy⟩ := exists_block i
    refine ⟨t, (flush4 t).trans (decide_eq_true h7), ?_⟩
    rw [← hy, ← emb_col t y]
    exact View.emb_mem_set _ _
theorem arr5 : (dats m 0 c).arrAt 5 (cfgM (F := Ideal)).N = dkA m c := by
  refine (dats m 0 c).arrAt_eq_of_emb 5 _ (fun t hf y => ?_) (fun i => ?_)
  · have h7 : inn t.val = 7 := of_decide_eq_true ((flush5 t).symm.trans hf)
    refine Eq.trans (b := b32 (st m c t.val t.isLt).dk (hd (y 1)) (y 0) (pl (y 1))) ?_ ?_
    · exact at_col (st m c t.val t.isLt).dk y
    · refine ((inv_all m c t.val t.isLt).dk _ _ _).trans ((sum_all _ _ h7).trans ?_)
      exact (congrArg (dkA m c) (emb_col t y)).symm
  · obtain ⟨t, h7, y, hy⟩ := exists_block i
    refine ⟨t, (flush5 t).trans (decide_eq_true h7), ?_⟩
    rw [← hy, ← emb_col t y]
    exact View.emb_mem_set _ _
theorem arr6 : (dats m 0 c).arrAt 6 (cfgM (F := Ideal)).N = dvA m c := by
  refine (dats m 0 c).arrAt_eq_of_emb 6 _ (fun t hf y => ?_) (fun i => ?_)
  · have h7 : inn t.val = 7 := of_decide_eq_true ((flush6 t).symm.trans hf)
    refine Eq.trans (b := b32 (st m c t.val t.isLt).dv (hd (y 1)) (y 0) (pl (y 1))) ?_ ?_
    · exact at_col (st m c t.val t.isLt).dv y
    · refine ((inv_all m c t.val t.isLt).dv _ _ _).trans ((sum_all _ _ h7).trans ?_)
      exact (congrArg (dvA m c) (emb_col t y)).symm
  · obtain ⟨t, h7, y, hy⟩ := exists_block i
    refine ⟨t, (flush6 t).trans (decide_eq_true h7), ?_⟩
    rw [← hy, ← emb_col t y]
    exact View.emb_mem_set _ _

end Cert.FoxIdeal.Hand

end
-- ==== Proof.FoxHost.lean ====
/-
  The host lines before the attention's backward call, read entry by entry: the forward's row sums and results, and the
  augmented arrays the call is entered with.
-/
module

public import proofs.«01_k».proof.Proof.FoxArr
public import proofs.«01_k».proof.Proof.Gen.FoxRefIdeal.Read
public import Idealize.ShloMosaic.Lib.StableHlo.ReadAt
public import Idealize.ShloMosaic.Lib.Pointwise

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic

/-- The lines up to the masked scores; the rows' largest scores and their weights; the results and the log-sums; the packing. -/
def headOps : List (HloOp τ sig (Elt Ideal)) := List.flatten [hostOps0, hostOps0_1, hostOps0_2, hostOps0_3]
def maxOps : List (HloOp τ sig (Elt Ideal)) := hostOps0_4.take 8
def lseOps : List (HloOp τ sig (Elt Ideal)) := (hostOps0_4.drop 8).take 6
def packOps : List (HloOp τ sig (Elt Ideal)) := hostOps0_4.drop 14

variable (W : Valuation τ sig (Elt Ideal))

/-- A valuation's arrays at an entry. -/
abbrev w4 (r : Ref sig .tc) (x : S1x8x4096x64.Idx → EReal) (h : Fin 8) (i : Fin 4096) (d : Fin 64) : EReal := x (ix4 0 h i d)
abbrev aQ (h : Fin 8) (i : Fin 4096) (d : Fin 64) : EReal := (W (Proc.devRef .tc main_arg0) : S1x8x4096x64.Idx → EReal) (ix4 0 h i d)
abbrev aK (h : Fin 8) (i : Fin 4096) (d : Fin 64) : EReal := (W (Proc.devRef .tc main_arg1) : S1x8x4096x64.Idx → EReal) (ix4 0 h i d)
abbrev aV (h : Fin 8) (i : Fin 4096) (d : Fin 64) : EReal := (W (Proc.devRef .tc main_arg2) : S1x8x4096x64.Idx → EReal) (ix4 0 h i d)
abbrev aO (h : Fin 8) (i : Fin 4096) (d : Fin 64) : EReal := (W (Proc.devRef .tc main_arg4) : S1x8x4096x64.Idx → EReal) (ix4 0 h i d)
abbrev aC (h : Fin 8) (i : Fin 4096) : EReal := (W (Proc.devRef .tc main_v0) : S1x8x4096.Idx → EReal) (ix3 0 h i)
abbrev aS (h : Fin 8) (i j : Fin 4096) : EReal := (W (Proc.devRef .tc main_v17) : S1x8x4096x4096.Idx → EReal) (ix4 0 h i j)
abbrev aM (h : Fin 8) (i : Fin 4096) : EReal := (W (Proc.devRef .tc main_v18) : S1x8x4096.Idx → EReal) (ix3 0 h i)
abbrev aP (h : Fin 8) (i j : Fin 4096) : EReal := (W (Proc.devRef .tc main_v22) : S1x8x4096x4096.Idx → EReal) (ix4 0 h i j)
abbrev aL (h : Fin 8) (i : Fin 4096) : EReal := (W (Proc.devRef .tc main_v23) : S1x8x4096.Idx → EReal) (ix3 0 h i)
abbrev aT (h : Fin 8) (i : Fin 4096) (d : Fin 64) : EReal := (W (Proc.devRef .tc main_v27) : S1x8x4096x64.Idx → EReal) (ix4 0 h i d)
abbrev aE (h : Fin 8) (i : Fin 4096) : EReal := (W (Proc.devRef .tc main_v29) : S1x8x4096.Idx → EReal) (ix3 0 h i)

theorem ofBits_neg_inf : Ideal.ofBits .f32 4286578688#32 = ⊥ := by
  simp [Ideal.ofBits, Ideal.ieee]
theorem ofBits_eighth : Ideal.ofBits .f32 1040187392#32 = ((1 / 8 : ℝ) : EReal) := by
  simp [Ideal.ofBits, Ideal.ieee]
  norm_cast
  norm_num
theorem ofBits_one : Ideal.ofBits .f32 1065353216#32 = 1 := by
  simp [Ideal.ofBits, Ideal.ieee]
  norm_cast
  norm_num
/-- The masks' comparison of a row's number with a column's. -/
theorem sge_row (i j : Fin 4096) : IntOp.cmpi .sge (BitVec.ofNat 32 i.val) (BitVec.ofNat 32 j.val) = if j.val ≤ i.val then 1#1 else 0#1 := by
  rw [WordCmp.cmpi_sge_ofNat (lt_trans i.isLt (by norm_num)) (lt_trans j.isLt (by norm_num))]
  by_cases h : j.val ≤ i.val <;> simp [h]

theorem head_c : (StableHlo.after headOps W (Proc.devRef .tc main_v0) : S1x8x4096.Idx → EReal)
    = Cert.FoxRefIdeal.Read.val_main_v0 (F := Ideal) (W (Proc.devRef .tc main_arg3)) := by
  after_reads_simp
  rfl
theorem head_s (h : Fin 8) (i j : Fin 4096) : aS (StableHlo.after headOps W) h i j
    = if j.val ≤ i.val then (∑ d, aQ W h i d * aK W h j d) * ((1 / 8 : ℝ) : EReal)
        + (Cert.FoxRefIdeal.Read.val_main_v0 (F := Ideal) (W (Proc.devRef .tc main_arg3)) : S1x8x4096.Idx → EReal) (ix3 0 h i)
        - (Cert.FoxRefIdeal.Read.val_main_v0 (F := Ideal) (W (Proc.devRef .tc main_arg3)) : S1x8x4096.Idx → EReal) (ix3 0 h j) else ⊥ := by
  unfold aS
  after_reads_at
  rw [sge_row, ofBits_eighth]
  by_cases hij : j.val ≤ i.val
  · rw [if_pos hij, if_pos hij]
    rfl
  · rw [if_neg hij, if_neg hij]
    exact ofBits_neg_inf
theorem max_m (h : Fin 8) (i : Fin 4096) : aM (StableHlo.after maxOps W) h i = Finset.fold max ⊥ (aS W h i) Finset.univ := by
  unfold aM
  after_reads_at
  rw [ofBits_neg_inf]
theorem max_p (h : Fin 8) (i j : Fin 4096) :
    aP (StableHlo.after maxOps W) h i j = Ideal.exp (aS W h i j - Finset.fold max ⊥ (aS W h i) Finset.univ) := by
  unfold aP
  after_reads_at
  rw [ofBits_neg_inf]
theorem max_l (h : Fin 8) (i : Fin 4096) :
    aL (StableHlo.after maxOps W) h i = ∑ j, Ideal.exp (aS W h i j - Finset.fold max ⊥ (aS W h i) Finset.univ) := by
  unfold aL
  after_reads_at
  rw [ofBits_neg_inf]
theorem lse_e (h : Fin 8) (i : Fin 4096) : aE (StableHlo.after lseOps W) h i = aM W h i + Ideal.log (aL W h i) := by
  unfold aE
  after_reads_at
theorem lse_t (h : Fin 8) (i : Fin 4096) (d : Fin 64) :
    aT (StableHlo.after lseOps W) h i d = Ideal.div (∑ j, aP W h i j * aV W h j d) (aL W h i) := by
  unfold aT
  after_reads_at

end Cert.FoxIdeal.Hand

end
-- ==== Proof.FoxCols.lean ====
/-
  The columns of the augmented arrays over the reals, and the two products of augmented rows: the score less the row's log-sum,
  and the cotangent's product with a value less the row's sum.
-/
module

public import proofs.«01_k».proof.Proof.Reals

@[expose] public section

noncomputable section

namespace Cert.FoxCols

/-- An augmented query: the scaled data, the row's running gate, ones, and minus the row's log-sum. -/
def qCol (q : Fin 64 → ℝ) (c l : ℝ) (e : Fin 128) : ℝ :=
  if h : e.val < 64 then q ⟨e.val, h⟩ * (1 / 8) else if e.val = 64 then c else if e.val < 67 then 0 else if e.val < 70 then 1
  else if e.val = 70 then -l else 0
/-- An augmented key. -/
def kCol (k : Fin 64 → ℝ) (c : ℝ) (e : Fin 128) : ℝ :=
  if h : e.val < 64 then k ⟨e.val, h⟩ else if e.val < 67 then 1 else if e.val = 67 then -c else if e.val < 70 then 0
  else if e.val < 73 then 1 else 0
/-- An augmented value. -/
def vCol (v : Fin 64 → ℝ) (e : Fin 128) : ℝ := if h : e.val < 64 then v ⟨e.val, h⟩ else if e.val < 67 then 1 else 0
/-- An augmented cotangent: the data and minus the row's sum. -/
def oCol (o : Fin 64 → ℝ) (d : ℝ) (e : Fin 128) : ℝ := if h : e.val < 64 then o ⟨e.val, h⟩ else if e.val = 64 then -d else 0

/-- A sum over 128 columns of which the upper half holds at most three terms. -/
theorem sum_cols (f : Fin 128 → ℝ) (a b c : ℝ)
    (h : ∀ t : Fin 64, f ⟨t.val + 64, by omega⟩ = (if t = 0 then a else 0) + (if t = 3 then b else 0) + (if t = 6 then c else 0)) :
    ∑ e, f e = ∑ d : Fin 64, f ⟨d.val, by omega⟩ + a + b + c := by
  have hs := Fin.sum_univ_add (a := 64) (b := 64) f
  rw [hs]
  have hu : (∑ t : Fin 64, f (Fin.natAdd 64 t)) = a + b + c := by
    have : ∀ t : Fin 64, f (Fin.natAdd 64 t) = (if t = 0 then a else 0) + (if t = 3 then b else 0) + (if t = 6 then c else 0) := by
      intro t
      rw [← h t]
      exact congrArg f (Fin.ext (Nat.add_comm _ _))
    rw [Finset.sum_congr rfl fun t _ => this t, Finset.sum_add_distrib, Finset.sum_add_distrib, Finset.sum_ite_eq', Finset.sum_ite_eq',
      Finset.sum_ite_eq']
    simp
  rw [hu]
  show (∑ d : Fin 64, f ⟨d.val, by omega⟩) + (a + b + c) = _
  ring

theorem qCol_data (q : Fin 64 → ℝ) (c l : ℝ) (d : Fin 64) : qCol q c l ⟨d.val, by omega⟩ = q d * (1 / 8) := dif_pos d.isLt
theorem kCol_data (k : Fin 64 → ℝ) (c : ℝ) (d : Fin 64) : kCol k c ⟨d.val, by omega⟩ = k d := dif_pos d.isLt
theorem vCol_data (v : Fin 64 → ℝ) (d : Fin 64) : vCol v ⟨d.val, by omega⟩ = v d := dif_pos d.isLt
theorem oCol_data (o : Fin 64 → ℝ) (D : ℝ) (d : Fin 64) : oCol o D ⟨d.val, by omega⟩ = o d := dif_pos d.isLt
theorem qCol_67 (q : Fin 64 → ℝ) (c l : ℝ) : qCol q c l 67 = 1 := by unfold qCol; norm_num
theorem kCol_64 (k : Fin 64 → ℝ) (c : ℝ) : kCol k c 64 = 1 := by unfold kCol; norm_num

theorem sum_qk (q k : Fin 64 → ℝ) (ci cj l : ℝ) :
    ∑ e, qCol q ci l e * kCol k cj e = (∑ d, q d * k d) * (1 / 8) + ci - cj - l := by
  rw [sum_cols _ ci (-cj) (-l)]
  · simp only [qCol_data, kCol_data]
    rw [Finset.sum_mul, Finset.sum_congr rfl fun d _ => mul_right_comm (q d) (1 / 8) (k d)]
    ring
  · intro t
    fin_cases t <;> simp [qCol, kCol, Fin.ext_iff]
theorem sum_ov (o v : Fin 64 → ℝ) (D : ℝ) : ∑ e, oCol o D e * vCol v e = (∑ d, o d * v d) - D := by
  rw [sum_cols _ (-D) 0 0]
  · simp only [oCol_data, vCol_data]
    ring
  · intro t
    fin_cases t <;> simp [oCol, vCol, Fin.ext_iff]

end Cert.FoxCols

end
-- ==== Proof.FoxMath.lean ====
/-
  One head of the masked attention over the reals: the softmax, its log-sum, and the gradient of a score, as the reference's
  derivative writes it and as the kernel regroups it.
-/
module

public import proofs.«01_k».proof.Proof.Reals

@[expose] public section

noncomputable section

open Idealize.ShloMosaic

namespace Cert.FoxMath

open Cert.Reals

variable {n : ℕ} (q k v o : Fin n → Fin 64 → ℝ) (c : Fin n → ℝ)

/-- The score of a pair. -/
def sR (i j : Fin n) : ℝ := (∑ d, q i d * k j d) * (1 / 8) + c i - c j
/-- The masked score. -/
def mS (i j : Fin n) : EReal := if j.val ≤ i.val then (sR q k c i j : EReal) else ⊥

/-- A row's largest score is real: the diagonal is not masked. -/
theorem max_real (i : Fin n) : ∃ M : ℝ, Finset.fold max ⊥ (mS q k c i) Finset.univ = (M : EReal) := by
  have hs : Finset.fold max ⊥ (mS q k c i) Finset.univ = Finset.univ.sup (mS q k c i) := rfl
  rw [hs]
  obtain ⟨j, -, hj⟩ := Finset.exists_mem_eq_sup Finset.univ ⟨i, Finset.mem_univ i⟩ (mS q k c i)
  have hi : mS q k c i i ≤ Finset.univ.sup (mS q k c i) := Finset.le_sup (Finset.mem_univ i)
  rw [hj] at hi ⊢
  unfold mS at hi ⊢
  rw [if_pos (le_refl _)] at hi
  by_cases h : j.val ≤ i.val
  · rw [if_pos h]; exact ⟨_, rfl⟩
  · rw [if_neg h] at hi
    exact absurd (le_bot_iff.mp hi) (EReal.coe_ne_bot _)
def mx (i : Fin n) : ℝ := (max_real q k c i).choose
theorem mx_eq (i : Fin n) : Finset.fold max ⊥ (mS q k c i) Finset.univ = (mx q k c i : EReal) := (max_real q k c i).choose_spec

/-- A pair's weight before it is normalised, and a row's sum of them. -/
def p (i j : Fin n) : ℝ := if j.val ≤ i.val then Real.exp (sR q k c i j - mx q k c i) else 0
def L (i : Fin n) : ℝ := ∑ j, p q k c i j
def y (i j : Fin n) : ℝ := p q k c i j / L q k c i
def lse (i : Fin n) : ℝ := mx q k c i + Real.log (L q k c i)
def g (i j : Fin n) : ℝ := ∑ d, o i d * v j d
def att (i : Fin n) (d : Fin 64) : ℝ := (∑ j, p q k c i j * v j d) / L q k c i
def dl (i : Fin n) : ℝ := ∑ d, o i d * att q k v c i d
/-- The gradient of a pair's score. -/
def ds (i j : Fin n) : ℝ := y q k c i j * (g v o i j - dl q k v o c i)

theorem p_nonneg (i j : Fin n) : 0 ≤ p q k c i j := by
  unfold p
  split_ifs
  · exact (Real.exp_pos _).le
  · exact le_refl _
theorem L_pos (i : Fin n) : 0 < L q k c i := by
  refine Finset.sum_pos' (fun j _ => p_nonneg q k c i j) ⟨i, Finset.mem_univ i, ?_⟩
  rw [p, if_pos (le_refl _)]
  exact Real.exp_pos _
theorem L_ne (i : Fin n) : L q k c i ≠ 0 := (L_pos q k c i).ne'

theorem exp_mS (i j : Fin n) : Ideal.exp (mS q k c i j - (mx q k c i : EReal)) = (p q k c i j : EReal) := by
  unfold mS p
  split_ifs with h
  · rw [← EReal.coe_sub, Ideal.exp_coe]
  · rw [EReal.bot_sub, Ideal.exp_bot, EReal.coe_zero]
theorem sum_p (i : Fin n) : (∑ j, (p q k c i j : EReal)) = (L q k c i : EReal) := (coe_sum _ _).symm
theorem exp_lse (i j : Fin n) (h : j.val ≤ i.val) : Real.exp (sR q k c i j - lse q k c i) = y q k c i j := by
  unfold lse y p
  rw [if_pos h, ← sub_sub, Real.exp_sub, Real.exp_log (L_pos q k c i)]
theorem y_masked (i j : Fin n) (h : ¬ j.val ≤ i.val) : y q k c i j = 0 := by
  unfold y p
  rw [if_neg h, zero_div]
theorem ds_masked (i j : Fin n) (h : ¬ j.val ≤ i.val) : ds q k v o c i j = 0 := by
  unfold ds
  rw [y_masked q k c i j h, zero_mul]

/-- The row's sum of cotangent times result is the mean of the products of cotangent and value. -/
theorem dl_eq (i : Fin n) : dl q k v o c i = ∑ j, y q k c i j * g v o i j := by
  unfold dl att y g
  simp only [Finset.sum_div, Finset.mul_sum]
  rw [Finset.sum_comm]
  refine Finset.sum_congr rfl fun j _ => Finset.sum_congr rfl fun d _ => ?_
  ring

/-- The gradient of a pair's score as the derivative of the quotient writes it. -/
theorem ds_quot (i j : Fin n) :
    (g v o i j / L q k c i + -∑ l, g v o i l * (1 / (L q k c i * L q k c i)) * p q k c i l) * p q k c i j = ds q k v o c i j := by
  have h := L_ne q k c i
  unfold ds
  rw [dl_eq]
  have e : (∑ l, g v o i l * (1 / (L q k c i * L q k c i)) * p q k c i l) = (∑ l, y q k c i l * g v o i l) / L q k c i := by
    rw [Finset.sum_div]
    refine Finset.sum_congr rfl fun l _ => ?_
    unfold y
    field_simp
  rw [e]
  unfold y
  field_simp
  ring

end Cert.FoxMath

end
-- ==== Proof.FoxPack.lean ====
/-
  The arrays the attention's backward call is entered with: the augmented columns of `FoxCols`, and through them the pair's
  weight and the gradient of its score as real numbers.
-/
module

public import proofs.«01_k».proof.Proof.FoxHost
public import proofs.«01_k».proof.Proof.FoxCols
public import proofs.«01_k».proof.Proof.FoxMath

@[expose] public section

set_option maxRecDepth 16384

noncomputable section

namespace Cert.FoxIdeal.Hand

open Cert.FoxIdeal Cert.FoxIdeal.Gen Cert.FoxCols
open Idealize.ShloMosaic Idealize.ShloMosaic.TcCoe Idealize.ShloMosaic.Tactic

variable (W : Valuation τ sig (Elt Ideal))

theorem foldl_isR {β : Type} (l : List β) (f : EReal → β → EReal) (hf : ∀ r n, Cert.Reals.IsR r → Cert.Reals.IsR (f r n)) (r : EReal)
    (hr : Cert.Reals.IsR r) : Cert.Reals.IsR (l.foldl f r) := by
  induction l generalizing r with
  | nil => exact hr
  | cons a l ih => exact ih _ (hf r a hr)
/-- A window sum of reals is real. -/
theorem window_isR {s t : Shape} (window strides lo hi : Fin s.rank → Nat) (h : s.ReduceWindows window strides lo hi t) (x : s.Idx → EReal)
    (e : EReal) (hx : ∀ i, Cert.Reals.IsR (x i)) (he : Cert.Reals.IsR e) (j : t.Idx) :
    Cert.Reals.IsR (Ideal.hostReduceWindowAdd window strides lo hi h x e j) := by
  refine foldl_isR _ _ (fun r n hr => hr.add ?_) _ he
  split_ifs
  · exact hx _
  · exact he
theorem cumsum_isR (x3 : S1x8x4096.Idx → EReal) (h : ∀ i, Cert.Reals.IsR (x3 i)) (i : S1x8x4096.Idx) :
    Cert.Reals.IsR (Cert.FoxRefIdeal.Read.val_main_v0 (F := Ideal) x3 i) := by
  unfold Cert.FoxRefIdeal.Read.val_main_v0 Host.reduceWindowAdd
  rw [Ideal.hostReduceWindowAdd_def]
  refine window_isR _ _ _ _ _ x3 _ h ?_ i
  show Cert.Reals.IsR (Ideal.ofBits .f32 0#32)
  rw [Ideal.ofBits_zero_f32]
  exact Cert.Reals.IsR.zero

theorem col_div (h : Fin 8) (e : Fin 128) : (col h e).val / 128 = h.val := by
  show (128 * h.val + e.val) / 128 = h.val
  omega
theorem col_mod (h : Fin 8) (e : Fin 128) : (col h e).val % 128 = e.val := by
  show (128 * h.val + e.val) % 128 = e.val
  omega
theorem sub_self_coe (r : ℝ) : (r : EReal) - (r : EReal) = 0 := by rw [← EReal.coe_sub, sub_self, EReal.coe_zero]

/-- A number's three parts, as the lines write them. -/
def part (c : EReal) (t : ℕ) : EReal := if t < 1 then c else if t - 1 < 1 then c - c else c - c - (c - c)
def qRaw (q : Fin 64 → EReal) (c l : EReal) (e : Fin 128) : EReal :=
  if h : e.val < 64 then q ⟨e.val, h⟩ * Ideal.ofBits .f32 1040187392#32 else
  if e.val - 64 < 3 then part c (e.val - 64) else if e.val - 64 - 3 < 3 then 1 else
  if e.val - 64 - 3 - 3 < 3 then part (-l) (e.val - 64 - 3 - 3) else 0
def kRaw (k : Fin 64 → EReal) (c : EReal) (e : Fin 128) : EReal :=
  if h : e.val < 64 then k ⟨e.val, h⟩ else
  if e.val - 64 < 3 then 1 else if e.val - 64 - 3 < 3 then part (-c) (e.val - 64 - 3) else
  if e.val - 64 - 3 - 3 < 3 then 1 else 0
def vRaw (v : Fin 64 → EReal) (e : Fin 128) : EReal :=
  if h : e.val < 64 then v ⟨e.val, h⟩ else if e.val - 64 < 3 then 1 else 0
def oRaw (o : Fin 64 → EReal) (d : EReal) (e : Fin 128) : EReal :=
  if h : e.val < 64 then o ⟨e.val, h⟩ else if e.val - 64 < 3 then part (-d) (e.val - 64) else 0

theorem part_coe (c : ℝ) (t : ℕ) : part (c : EReal) t = ((if t = 0 then c else 0 : ℝ) : EReal) := by
  unfold part
  simp only [sub_self_coe, sub_zero]
  split_ifs <;> first | rfl | omega
theorem qRaw_coe (q : Fin 64 → ℝ) (c l : ℝ) (e : Fin 128) : qRaw (fun d => (q d : EReal)) c l e = (qCol q c l e : EReal) := by
  unfold qRaw qCol
  rw [← EReal.coe_neg, part_coe, part_coe, ofBits_eighth]
  split_ifs <;> first | rfl | omega | exact (EReal.coe_mul _ _).symm
theorem kRaw_coe (k : Fin 64 → ℝ) (c : ℝ) (e : Fin 128) : kRaw (fun d => (k d : EReal)) c e = (kCol k c e : EReal) := by
  unfold kRaw kCol
  rw [← EReal.coe_neg, part_coe]
  split_ifs <;> first | rfl | omega
theorem vRaw_coe (v : Fin 64 → ℝ) (e : Fin 128) : vRaw (fun d => (v d : EReal)) e = (vCol v e : EReal) := by
  unfold vRaw vCol
  split_ifs <;> first | rfl | omega
theorem oRaw_coe (o : Fin 64 → ℝ) (d : ℝ) (e : Fin 128) : oRaw (fun i => (o i : EReal)) d e = (oCol o d e : EReal) := by
  unfold oRaw oCol
  rw [← EReal.coe_neg, part_coe]
  split_ifs <;> first | rfl | omega

theorem p67 (h : Fin 8) (i : Fin 4096) (e : Fin 128) :
    (StableHlo.after packOps W (Proc.devRef .tc main_v67) : S4096x1024.Idx → EReal) (ix2 i (col h e)) = qRaw (aQ W h i) (aC W h i) (aE W h i) e := by
  after_reads_at
  after_reads_at
  after_reads_at
  simp only [col_mod, col_div, Fin.eta]
  rfl
theorem p88 (h : Fin 8) (i : Fin 4096) (e : Fin 128) :
    (StableHlo.after packOps W (Proc.devRef .tc main_v88) : S4096x1024.Idx → EReal) (ix2 i (col h e)) = kRaw (aK W h i) (aC W h i) e := by
  after_reads_at
  after_reads_at
  after_reads_at
  simp only [col_mod, col_div, Fin.eta]
  rfl
theorem p117 (h : Fin 8) (i : Fin 4096) (e : Fin 128) :
    (StableHlo.after packOps W (Proc.devRef .tc main_v117) : S4096x1024.Idx → EReal) (ix2 i (col h e))
      = oRaw (aO W h i) (∑ d, aO W h i d * aT W h i d) e := by
  after_reads_at
  after_reads_at
  after_reads_at
  simp only [col_mod, col_div, Fin.eta]
  rfl
theorem p94 (h : Fin 8) (i : Fin 4096) (e : Fin 128) :
    (StableHlo.after packOps W (Proc.devRef .tc main_v94) : S4096x1024.Idx → EReal) (ix2 i (col h e)) = vRaw (aV W h i) e := by
  after_reads_at
  after_reads_at
  simp only [col_mod, col_div, Fin.eta]
  rfl

/-! ## The valuation the call is entered with -/

variable (m : (ℓ : Loc nD τ sig) → Buf (Elt Ideal) ℓ) (c : Dev nD)

abbrev W1 : Valuation τ sig (Elt Ideal) := StableHlo.after headOps (fun b => m (c, b))
abbrev W2 : Valuation τ sig (Elt Ideal) := StableHlo.after maxOps (W1 m c)
abbrev W3 : Valuation τ sig (Elt Ideal) := StableHlo.after lseOps (W2 m c)
theorem V_eq (r : Ref sig .tc) : V m c r = StableHlo.after packOps (W3 m c) (Proc.devRef .tc r) := by
  unfold V V0
  have hs : (List.flatten [hostOps0, hostOps0_1, hostOps0_2, hostOps0_3, hostOps0_4] : List (HloOp τ sig (Elt Ideal)))
      = headOps ++ (maxOps ++ (lseOps ++ packOps)) := by
    have h4 : (hostOps0_4 : List (HloOp τ sig (Elt Ideal))) = maxOps ++ (lseOps ++ packOps) := by
      have h1 : (hostOps0_4 : List (HloOp τ sig (Elt Ideal))).drop 8 = lseOps ++ packOps := by
        have := (List.take_append_drop 6 ((hostOps0_4 : List (HloOp τ sig (Elt Ideal))).drop 8)).symm
        rwa [List.drop_drop] at this
      exact ((List.take_append_drop 8 (hostOps0_4 : List (HloOp τ sig (Elt Ideal)))).symm).trans (congrArg (maxOps ++ ·) h1)
    unfold headOps
    rw [← h4]
    simp only [List.flatten_cons, List.flatten_nil, List.append_nil, List.append_assoc]
  rw [hs, StableHlo.after_append, StableHlo.after_append, StableHlo.after_append]

/-- A buffer a group of lines does not write. -/
theorem keep_head (r : Ref sig .tc) (h : r ∉ hostOps0_W ++ hostOps0_1_W ++ hostOps0_2_W ++ hostOps0_3_W) :
    StableHlo.after headOps W (Proc.devRef .tc r) = W (Proc.devRef .tc r) :=
  StableHlo.after_of_writes_sub (r := r) headOps W (StableHlo.forall_writes_sub_of_map rfl) h
theorem keep_max (r : Ref sig .tc) (h : r ∉ hostOps0_4_W.take 8) : StableHlo.after maxOps W (Proc.devRef .tc r) = W (Proc.devRef .tc r) :=
  StableHlo.after_of_writes_sub (r := r) maxOps W (StableHlo.forall_writes_sub_of_map rfl) h
theorem keep_lse (r : Ref sig .tc) (h : r ∉ (hostOps0_4_W.drop 8).take 6) :
    StableHlo.after lseOps W (Proc.devRef .tc r) = W (Proc.devRef .tc r) :=
  StableHlo.after_of_writes_sub (r := r) lseOps W (StableHlo.forall_writes_sub_of_map rfl) h
theorem W3_arg (r : Ref sig .tc) (h : r ∉ hostOps0_W ++ hostOps0_1_W ++ hostOps0_2_W ++ hostOps0_3_W) (h' : r ∉ hostOps0_4_W.take 8)
    (h'' : r ∉ (hostOps0_4_W.drop 8).take 6) : W3 m c (Proc.devRef .tc r) = m (c, Proc.devRef .tc r) := by
  unfold W3 W2 W1
  rw [keep_lse _ r h'', keep_max _ r h', keep_head _ r h]

/-! ## Real arguments -/

abbrev Heads := Fin 8 → Fin 4096 → Fin 64 → ℝ
/-- The launched arguments are these reals; `cs` is the running sum of the gates. -/
structure RealArgs (x0 x1 x2 : S1x8x4096x64.Idx → EReal) (x3 : S1x8x4096.Idx → EReal) (x4 : S1x8x4096x64.Idx → EReal)
    (q k v o : Heads) (cs : Fin 8 → Fin 4096 → ℝ) : Prop where
  hq : ∀ h i d, x0 (ix4 0 h i d) = (q h i d : EReal)
  hk : ∀ h i d, x1 (ix4 0 h i d) = (k h i d : EReal)
  hv : ∀ h i d, x2 (ix4 0 h i d) = (v h i d : EReal)
  ho : ∀ h i d, x4 (ix4 0 h i d) = (o h i d : EReal)
  hc : ∀ h i, (Cert.FoxRefIdeal.Read.val_main_v0 (F := Ideal) x3 : S1x8x4096.Idx → EReal) (ix3 0 h i) = (cs h i : EReal)

theorem exists_realArgs (x0 x1 x2 : S1x8x4096x64.Idx → EReal) (x3 : S1x8x4096.Idx → EReal) (x4 : S1x8x4096x64.Idx → EReal)
    (h0 : ∀ i, Cert.Reals.IsR (x0 i)) (h1 : ∀ i, Cert.Reals.IsR (x1 i)) (h2 : ∀ i, Cert.Reals.IsR (x2 i))
    (h3 : ∀ i, Cert.Reals.IsR (x3 i)) (h4 : ∀ i, Cert.Reals.IsR (x4 i)) : ∃ q k v o cs, RealArgs x0 x1 x2 x3 x4 q k v o cs :=
  ⟨fun h i d => (h0 (ix4 0 h i d)).choose, fun h i d => (h1 (ix4 0 h i d)).choose, fun h i d => (h2 (ix4 0 h i d)).choose,
    fun h i d => (h4 (ix4 0 h i d)).choose, fun h i => (cumsum_isR x3 h3 (ix3 0 h i)).choose,
    ⟨fun h i d => (h0 (ix4 0 h i d)).choose_spec, fun h i d => (h1 (ix4 0 h i d)).choose_spec,
      fun h i d => (h2 (ix4 0 h i d)).choose_spec, fun h i d => (h4 (ix4 0 h i d)).choose_spec,
      fun h i => (cumsum_isR x3 h3 (ix3 0 h i)).choose_spec⟩⟩

section Real

variable {m c} {q k v o : Heads} {cs : Fin 8 → Fin 4096 → ℝ}
  (R : RealArgs (m (c, Proc.devRef .tc main_arg0)) (m (c, Proc.devRef .tc main_arg1)) (m (c, Proc.devRef .tc main_arg2))
    (m (c, Proc.devRef .tc main_arg3)) (m (c, Proc.devRef .tc main_arg4)) q k v o cs)

open Cert.FoxMath

include R

theorem s1 (h : Fin 8) (i j : Fin 4096) : aS (W1 m c) h i j = mS (q h) (k h) (cs h) i j := by
  rw [head_s]
  unfold mS sR
  by_cases hij : j.val ≤ i.val
  · rw [if_pos hij, if_pos hij, R.hc, R.hc, Finset.sum_congr rfl fun d _ => congrArg₂ (fun a b : EReal => a * b) (R.hq h i d) (R.hk h j d)]
    simp only [← EReal.coe_mul, ← Cert.Reals.coe_sum, ← EReal.coe_add, ← EReal.coe_sub]
  · rw [if_neg hij, if_neg hij]
theorem fold1 (h : Fin 8) (i : Fin 4096) : Finset.fold max ⊥ (aS (W1 m c) h i) Finset.univ = (mx (q h) (k h) (cs h) i : EReal) := by
  rw [show aS (W1 m c) h i = mS (q h) (k h) (cs h) i from funext fun j => s1 R h i j, mx_eq]
theorem m2 (h : Fin 8) (i : Fin 4096) : aM (W2 m c) h i = (mx (q h) (k h) (cs h) i : EReal) := by rw [max_m, fold1 R]
theorem p2 (h : Fin 8) (i j : Fin 4096) : aP (W2 m c) h i j = (p (q h) (k h) (cs h) i j : EReal) := by
  rw [max_p, fold1 R, s1 R, exp_mS]
theorem l2 (h : Fin 8) (i : Fin 4096) : aL (W2 m c) h i = (L (q h) (k h) (cs h) i : EReal) := by
  rw [max_l, fold1 R, ← sum_p]
  exact Finset.sum_congr rfl fun j _ => by rw [s1 R, exp_mS]
theorem e3 (h : Fin 8) (i : Fin 4096) : aE (W3 m c) h i = (lse (q h) (k h) (cs h) i : EReal) := by
  rw [lse_e, m2 R, l2 R, Ideal.log_coe, if_neg (not_le.mpr (L_pos _ _ _ i)), ← EReal.coe_add]
  rfl
theorem t3 (h : Fin 8) (i : Fin 4096) (d : Fin 64) : aT (W3 m c) h i d = (att (q h) (k h) (v h) (cs h) i d : EReal) := by
  have hv : ∀ j, aV (W2 m c) h j d = (v h j d : EReal) := fun j => by
    unfold aV W2 W1
    rw [keep_max _ main_arg2 (by decide), keep_head _ main_arg2 (by decide)]
    exact R.hv h j d
  rw [lse_t, l2 R, Ideal.div_coe (L_ne _ _ _ i), Finset.sum_congr rfl fun j _ => congrArg₂ (· * ·) (p2 R h i j) (hv j)]
  simp only [← EReal.coe_mul, ← Cert.Reals.coe_sum]
  unfold att
  rw [mul_one_div]
theorem c3 (h : Fin 8) (i : Fin 4096) : aC (W3 m c) h i = (cs h i : EReal) := by
  unfold aC W3 W2 W1
  rw [keep_lse _ main_v0 (by decide), keep_max _ main_v0 (by decide), head_c]
  exact R.hc h i
theorem aO3 (h : Fin 8) (i : Fin 4096) (d : Fin 64) : aO (W3 m c) h i d = (o h i d : EReal) := by
  unfold aO
  rw [W3_arg m c main_arg4 (by decide) (by decide) (by decide)]
  exact R.ho h i d
theorem d3 (h : Fin 8) (i : Fin 4096) : (∑ d, aO (W3 m c) h i d * aT (W3 m c) h i d) = (dl (q h) (k h) (v h) (o h) (cs h) i : EReal) := by
  rw [Finset.sum_congr rfl fun d _ => congrArg₂ (· * ·) (aO3 R h i d) (t3 R h i d)]
  simp only [← EReal.coe_mul, ← Cert.Reals.coe_sum]
  rfl

theorem Qa_eq (h : Fin 8) (i : Fin 4096) (e : Fin 128) :
    Qa m c h i e = (qCol (q h i) (cs h i) (lse (q h) (k h) (cs h) i) e : EReal) := by
  unfold Qa
  rw [V_eq, p67, c3 R, e3 R, ← qRaw_coe]
  refine congrArg (fun z => qRaw z _ _ e) (funext fun d => ?_)
  unfold aQ
  rw [W3_arg m c main_arg0 (by decide) (by decide) (by decide)]
  exact R.hq h i d
theorem Ka_eq (h : Fin 8) (i : Fin 4096) (e : Fin 128) : Ka m c h i e = (kCol (k h i) (cs h i) e : EReal) := by
  unfold Ka
  rw [V_eq, p88, c3 R, ← kRaw_coe]
  refine congrArg (fun z => kRaw z _ e) (funext fun d => ?_)
  unfold aK
  rw [W3_arg m c main_arg1 (by decide) (by decide) (by decide)]
  exact R.hk h i d
theorem Wa_eq (h : Fin 8) (i : Fin 4096) (e : Fin 128) : Wa m c h i e = (vCol (v h i) e : EReal) := by
  unfold Wa
  rw [V_eq, p94, ← vRaw_coe]
  refine congrArg (fun z => vRaw z e) (funext fun d => ?_)
  unfold aV
  rw [W3_arg m c main_arg2 (by decide) (by decide) (by decide)]
  exact R.hv h i d
theorem Da_eq (h : Fin 8) (i : Fin 4096) (e : Fin 128) :
    Da m c h i e = (oCol (o h i) (dl (q h) (k h) (v h) (o h) (cs h) i) e : EReal) := by
  unfold Da
  rw [V_eq, p117, d3 R, ← oRaw_coe]
  exact congrArg (fun z => oRaw z _ e) (funext fun d => aO3 R h i d)

theorem pw_eq (h : Fin 8) (i j : Fin 4096) : pw (Qa m c) (Ka m c) h i j = (y (q h) (k h) (cs h) i j : EReal) := by
  unfold pw
  by_cases hij : j.val ≤ i.val
  · rw [if_pos hij, Finset.sum_congr rfl fun e _ => congrArg₂ (· * ·) (Qa_eq R h i e) (Ka_eq R h j e)]
    simp only [← EReal.coe_mul, ← Cert.Reals.coe_sum]
    rw [sum_qk, Ideal.exp_coe, ← exp_lse (q h) (k h) (cs h) i j hij]
    rfl
  · rw [if_neg hij, y_masked _ _ _ _ _ hij, EReal.coe_zero]
theorem gw_eq (h : Fin 8) (i j : Fin 4096) :
    gw (Qa m c) (Ka m c) (Wa m c) (Da m c) h i j = (ds (q h) (k h) (v h) (o h) (cs h) i j : EReal) := by
  unfold gw
  rw [pw_eq R, Finset.sum_congr rfl fun e _ => congrArg₂ (· * ·) (Da_eq R h i e) (Wa_eq R h j e)]
  simp only [← EReal.coe_mul, ← Cert.Reals.coe_sum]
  rw [sum_ov]
  rfl

/-! ## The call's arrays at the columns the tail reads -/

theorem dqA_eq (h : Fin 8) (i : Fin 4096) (e : Fin 128) :
    dqA m c (ix2 i (col h e)) = ((∑ j, ds (q h) (k h) (v h) (o h) (cs h) i j * kCol (k h j) (cs h j) e : ℝ) : EReal) := by
  rw [Cert.Reals.coe_sum]
  have hh : hd (col h e) = h := Fin.ext (col_div h e)
  have hp : pl (col h e) = e := Fin.ext (col_mod h e)
  show (∑ j, gw (Qa m c) (Ka m c) (Wa m c) (Da m c) (hd (col h e)) i j * Ka m c (hd (col h e)) j (pl (col h e))) = _
  rw [hh, hp]
  exact Finset.sum_congr rfl fun j _ => by rw [gw_eq R, Ka_eq R, ← EReal.coe_mul]
theorem dkA_eq (h : Fin 8) (j : Fin 4096) (e : Fin 128) :
    dkA m c (ix2 j (col h e)) = ((∑ i, ds (q h) (k h) (v h) (o h) (cs h) i j * qCol (q h i) (cs h i) (lse (q h) (k h) (cs h) i) e : ℝ) : EReal) := by
  rw [Cert.Reals.coe_sum]
  have hh : hd (col h e) = h := Fin.ext (col_div h e)
  have hp : pl (col h e) = e := Fin.ext (col_mod h e)
  show (∑ i, gw (Qa m c) (Ka m c) (Wa m c) (Da m c) (hd (col h e)) i j * Qa m c (hd (col h e)) i (pl (col h e))) = _
  rw [hh, hp]
  exact Finset.sum_congr rfl fun i _ => by rw [gw_eq R, Qa_eq R, ← EReal.coe_mul]
theorem dvA_eq (h : Fin 8) (j : Fin 4096) (e : Fin 128) :
    dvA m c (ix2 j (col h e)) = ((∑ i, y (q h) (k h) (cs h) i j * oCol (o h i) (dl (q h) (k h) (v h) (o h) (cs h) i) e : ℝ) : EReal) := by
  rw [Cert.Reals.coe_sum]
  have hh : hd (col h e) = h := Fin.ext (col_div h e)
  have hp : pl (col h e) = e := Fin.ext (col_mod h e)
  show (∑ i, pw (Qa m c) (Ka m c) (hd (col h e)) i j * Da m c (hd (col h e)) i (pl (col h e))) = _
  rw [hh, hp]
  exact Finset.sum_congr rfl fun i _ => by rw [pw_eq R, Da_eq R, ← EReal.coe_mul]

end Real

end Cert.FoxIdeal.Hand

end
-- ==== Proof.FoxTail.lean ====
/-
  The lines after the attention's backward call, and the program's four results at real arguments.
-/
module

public import proofs.«01_k».proof.Proof.FoxPack

@[expose] public section

set_option maxRecDepth 16384

noncomputable section

namespace Cert.FoxIdeal.Hand

open Cert.FoxIdeal Cert.FoxIdeal.Gen Cert.FoxCols Cert.FoxMath
open Idealize.ShloMosaic Idealize.ShloMosaic.TcCoe Idealize.ShloMosaic.Tactic

def tailOps : List (HloOp τ sig (Elt Ideal)) := hostOps1

section Lines

variable (W : Valuation τ sig (Elt Ideal))

/-- The call's results at an entry. -/
abbrev o0 (i : Fin 4096) (e : Fin 1024) : EReal := (W (Proc.devRef .tc main_v118_0) : S4096x1024.Idx → EReal) (ix2 i e)
abbrev o1 (i : Fin 4096) (e : Fin 1024) : EReal := (W (Proc.devRef .tc main_v118_1) : S4096x1024.Idx → EReal) (ix2 i e)
abbrev o2 (i : Fin 4096) (e : Fin 1024) : EReal := (W (Proc.devRef .tc main_v118_2) : S4096x1024.Idx → EReal) (ix2 i e)
theorem data_col (h : Fin 8) (d : Fin 64) (hd) : (⟨h.val * 128 + d.val, hd⟩ : Fin 1024) = col h ⟨d.val, by omega⟩ :=
  Fin.ext (by show h.val * 128 + d.val = 128 * h.val + d.val; omega)
/-- A data column of a head. -/
def dat (d : Fin 64) : Fin 128 := ⟨d.val, by omega⟩

theorem t130 (h : Fin 8) (i : Fin 4096) (d : Fin 64) :
    (StableHlo.after tailOps W (Proc.devRef .tc main_v130) : S1x8x4096x64.Idx → EReal) (ix4 0 h i d)
      = o0 W i (col h (dat d)) * ((1 / 8 : ℝ) : EReal) := by
  after_reads_at
  rw [ofBits_eighth, data_col]
  rfl
theorem t131 (h : Fin 8) (i : Fin 4096) (d : Fin 64) :
    (StableHlo.after tailOps W (Proc.devRef .tc main_v131) : S1x8x4096x64.Idx → EReal) (ix4 0 h i d)
      = o1 W i (col h (dat d)) := by
  after_reads_at
  rw [data_col]
  rfl
theorem t132 (h : Fin 8) (i : Fin 4096) (d : Fin 64) :
    (StableHlo.after tailOps W (Proc.devRef .tc main_v132) : S1x8x4096x64.Idx → EReal) (ix4 0 h i d)
      = o2 W i (col h (dat d)) := by
  after_reads_at
  rw [data_col]
  rfl
theorem t137 (h : Fin 8) (i : Fin 4096) :
    (StableHlo.after tailOps W (Proc.devRef .tc main_v137) : S1x8x4096.Idx → EReal) (ix3 0 h i)
      = o0 W i (col h 64)
        - o1 W i (col h 67) := by
  after_reads_at
  exact congrArg₂ (fun a b : EReal => a - b) (congrArg (o0 W i) (Fin.ext (by show h.val * 128 + 64 = 128 * h.val + 64; omega)))
    (congrArg (o1 W i) (Fin.ext (by show h.val * 128 + 67 = 128 * h.val + 67; omega)))
end Lines

variable {m : (ℓ : Loc nD τ sig) → Buf (Elt Ideal) ℓ} {c : Dev nD}

abbrev WT (m : (ℓ : Loc nD τ sig) → Buf (Elt Ideal) ℓ) (c : Dev nD) : Valuation τ sig (Elt Ideal) :=
  Pipeline.withArrays spec0 c (V0 m c) fun w => (dats m 0 c).arrAt w (cfgM (F := Ideal)).N
theorem after_eq (r : Ref sig .tc) : afterM m c r = StableHlo.after tailOps (WT m c) (Proc.devRef .tc r) := by
  unfold afterM Pipeline.afterTail
  rw [List.flatten_cons, List.flatten_nil, List.append_nil]
  rfl
theorem WT4 (i : Fin 4096) (e : Fin 1024) : o0 (WT m c) i e = dqA m c (ix2 i e) :=
  congrFun ((Pipeline.withArrays_arr spec0 (by decide) c (V0 m c) _ 4).trans (arr4 m c)) (ix2 i e)
theorem WT5 (i : Fin 4096) (e : Fin 1024) : o1 (WT m c) i e = dkA m c (ix2 i e) :=
  congrFun ((Pipeline.withArrays_arr spec0 (by decide) c (V0 m c) _ 5).trans (arr5 m c)) (ix2 i e)
theorem WT6 (i : Fin 4096) (e : Fin 1024) : o2 (WT m c) i e = dvA m c (ix2 i e) :=
  congrFun ((Pipeline.withArrays_arr spec0 (by decide) c (V0 m c) _ 6).trans (arr6 m c)) (ix2 i e)

section Real

variable {q k v o : Heads} {cs : Fin 8 → Fin 4096 → ℝ}
  (R : RealArgs (m (c, Proc.devRef .tc main_arg0)) (m (c, Proc.devRef .tc main_arg1)) (m (c, Proc.devRef .tc main_arg2))
    (m (c, Proc.devRef .tc main_arg3)) (m (c, Proc.devRef .tc main_arg4)) q k v o cs)

include R

theorem dq_val (h : Fin 8) (i : Fin 4096) (d : Fin 64) : (afterM m c main_v130 : S1x8x4096x64.Idx → EReal) (ix4 0 h i d)
    = ((∑ j, ds (q h) (k h) (v h) (o h) (cs h) i j * (1 / 8) * k h j d : ℝ) : EReal) := by
  rw [after_eq, t130, WT4, dqA_eq R, ← EReal.coe_mul, Finset.sum_mul]
  refine congrArg _ (Finset.sum_congr rfl fun j _ => ?_)
  rw [show kCol (k h j) (cs h j) (dat d) = k h j d from kCol_data _ _ d]
  ring
theorem dk_val (h : Fin 8) (j : Fin 4096) (d : Fin 64) : (afterM m c main_v131 : S1x8x4096x64.Idx → EReal) (ix4 0 h j d)
    = ((∑ i, ds (q h) (k h) (v h) (o h) (cs h) i j * (1 / 8) * q h i d : ℝ) : EReal) := by
  rw [after_eq, t131, WT5, dkA_eq R]
  refine congrArg _ (Finset.sum_congr rfl fun i _ => ?_)
  rw [show qCol (q h i) (cs h i) _ (dat d) = q h i d * (1 / 8) from qCol_data _ _ _ d]
  ring
theorem dv_val (h : Fin 8) (j : Fin 4096) (d : Fin 64) : (afterM m c main_v132 : S1x8x4096x64.Idx → EReal) (ix4 0 h j d)
    = ((∑ i, o h i d * y (q h) (k h) (cs h) i j : ℝ) : EReal) := by
  rw [after_eq, t132, WT6, dvA_eq R]
  refine congrArg _ (Finset.sum_congr rfl fun i _ => ?_)
  rw [show oCol (o h i) _ (dat d) = o h i d from oCol_data _ _ d, mul_comm]
theorem dc_val (h : Fin 8) (i : Fin 4096) : (afterM m c main_v137 : S1x8x4096.Idx → EReal) (ix3 0 h i)
    = (((∑ j, ds (q h) (k h) (v h) (o h) (cs h) i j) - ∑ l, ds (q h) (k h) (v h) (o h) (cs h) l i : ℝ) : EReal) := by
  rw [after_eq, t137, WT4, WT5, dqA_eq R, dkA_eq R, ← EReal.coe_sub]
  simp only [kCol_64, qCol_67, mul_one]

end Real

end Cert.FoxIdeal.Hand

end
-- ==== Proof.FoxRef.lean ====
/-
  The reference's lines read entry by entry at real arguments: the softmax, the gradient of a pair's score and the four results.
-/
module

public import proofs.«01_k».proof.Proof.FoxPack

@[expose] public section

set_option maxRecDepth 16384

noncomputable section

namespace Cert.FoxRefIdeal.Hand

open Cert.FoxRefIdeal Cert.FoxRefIdeal.Gen Cert.FoxRefIdeal.Read Cert.FoxMath
open Cert.FoxIdeal.Hand (RealArgs Heads sge_row ofBits_neg_inf ofBits_eighth)
open Idealize.ShloMosaic Idealize.ShloMosaic.TcCoe Idealize.ShloMosaic.Tactic

variable (x0 x1 x2 x4 : S1x8x4096x64.Idx → EReal) (x3 : S1x8x4096.Idx → EReal)

/-! ## The lines at an entry -/

abbrev rS (h : Fin 8) (i j : Fin 4096) : EReal := val_main_v17_0 (F := Ideal) x0 x1 x3 (ix4 0 h i j)
abbrev rM (h : Fin 8) (i : Fin 4096) : EReal := val_main_v18 (F := Ideal) x0 x1 x3 (ix3 0 h i)
abbrev rN (h : Fin 8) (i : Fin 4096) : EReal := val_main_v25 (F := Ideal) x0 x1 x3 (ix3 0 h i)
abbrev rP (h : Fin 8) (i j : Fin 4096) : EReal := val_main_v38 (F := Ideal) x0 x1 x3 (ix4 0 h i j)
abbrev rL (h : Fin 8) (i : Fin 4096) : EReal := val_main_v39 (F := Ideal) x0 x1 x3 (ix3 0 h i)
abbrev rY (h : Fin 8) (i j : Fin 4096) : EReal := val_main_v42 (F := Ideal) x0 x1 x3 (ix4 0 h i j)
abbrev rG (h : Fin 8) (i j : Fin 4096) : EReal := val_main_v49 (F := Ideal) x2 x4 (ix4 0 h i j)
abbrev rR (h : Fin 8) (i : Fin 4096) : EReal := val_main_v53 (F := Ideal) x0 x1 x2 x3 x4 (ix3 0 h i)
abbrev rN58 (h : Fin 8) (i : Fin 4096) : EReal := val_main_v58 (F := Ideal) x0 x1 x2 x3 x4 (ix2 h i)
abbrev rD (h : Fin 8) (i j : Fin 4096) : EReal := val_main_v63 (F := Ideal) x0 x1 x2 x3 x4 (ix4 0 h i j)
abbrev rC (h : Fin 8) (i : Fin 4096) : EReal := val_main_v0 (F := Ideal) x3 (ix3 0 h i)

theorem unit03 (hr : S1x8x4096x1.ReducesTo [0, 3] S8x4096) (f : S1x8x4096x1.Idx → EReal) (e : EReal) (h : Fin 8) (i : Fin 4096) :
    Ideal.hostReduceAdd hr f e (ix2 h i) = e + f (ix4 0 h i 0) := by
  unfold Ideal.hostReduceAdd
  refine congrArg (e + ·) ?_
  rw [Finset.sum_filter, Finset.sum_eq_single (ix4 0 h i 0)]
  · rw [if_pos]
    funext b
    fin_cases b <;> rfl
  · intro z _ hz
    rw [if_neg]
    intro hd
    refine hz ?_
    have h1 : (z 1).val = h.val := congrArg Fin.val (congrFun hd 0)
    have h2 : (z 2).val = i.val := congrArg Fin.val (congrFun hd 1)
    funext b
    fin_cases b
    · exact Fin.ext (Nat.lt_one_iff.mp (z 0).isLt)
    · exact Fin.ext h1
    · exact Fin.ext h2
    · exact Fin.ext (Nat.lt_one_iff.mp (z 3).isLt)
  · exact fun hn => absurd (Finset.mem_univ _) hn
theorem unit02 (hr : S1x8x1x4096.ReducesTo [0, 2] S8x4096) (f : S1x8x1x4096.Idx → EReal) (e : EReal) (h : Fin 8) (i : Fin 4096) :
    Ideal.hostReduceAdd hr f e (ix2 h i) = e + f (ix4 0 h 0 i) := by
  unfold Ideal.hostReduceAdd
  refine congrArg (e + ·) ?_
  rw [Finset.sum_filter, Finset.sum_eq_single (ix4 0 h 0 i)]
  · rw [if_pos]
    funext b
    fin_cases b <;> rfl
  · intro z _ hz
    rw [if_neg]
    intro hd
    refine hz ?_
    have h1 : (z 1).val = h.val := congrArg Fin.val (congrFun hd 0)
    have h2 : (z 3).val = i.val := congrArg Fin.val (congrFun hd 1)
    funext b
    fin_cases b
    · exact Fin.ext (Nat.lt_one_iff.mp (z 0).isLt)
    · exact Fin.ext h1
    · exact Fin.ext (Nat.lt_one_iff.mp (z 2).isLt)
    · exact Fin.ext h2
  · exact fun hn => absurd (Finset.mem_univ _) hn

theorem zero_word : Ideal.ofBits .f32 0x00000000#32 = 0 := Ideal.ofBits_zero_f32
theorem one_word : Ideal.ofBits .f32 0x3F800000#32 = 1 := Ideal.ofBits_one_f32

theorem r_s (h : Fin 8) (i j : Fin 4096) : rS x0 x1 x3 h i j
    = if j.val ≤ i.val then (∑ d, x0 (ix4 0 h i d) * x1 (ix4 0 h j d)) * ((1 / 8 : ℝ) : EReal) + rC x3 h i - rC x3 h j else ⊥ := by
  unfold rS rC
  pointwise [val_main_v17_0, val_main_v17_1, val_main_v16, val_main_v14, val_main_v15, val_main_v13, val_main_v12, val_main_v11, val_main_v10]
  rw [sge_row]
  by_cases hij : j.val ≤ i.val
  · rw [if_pos hij, if_pos hij]
    show val_main_v9 (F := Ideal) x0 x1 x3 (ix4 0 h i j) = _
    pointwise [val_main_v9, val_main_v8, val_main_v7, val_main_v6, val_main_v5, val_main_v4, val_main_v3, val_main_v2, val_main_v1, val_main_cst]
    rw [ofBits_eighth]
  · rw [if_neg hij, if_neg hij]
    show val_main_call1_v2 (F := Ideal) (ix4 0 h i j) = _
    rw [val_main_call1_v2_apply]
    exact ofBits_neg_inf
theorem r_m (h : Fin 8) (i : Fin 4096) : rM x0 x1 x3 h i = Finset.fold max ⊥ (rS x0 x1 x3 h i) Finset.univ := by
  unfold rM
  pointwise [val_main_v18]
  rw [val_main_cst_1_apply, show (FloatOps.ofBits .f32 0xFF800000#32 : Ideal .f32) = (⊥ : EReal) from ofBits_neg_inf]
theorem r_n (h : Fin 8) (i : Fin 4096) : rN x0 x1 x3 h i = rM x0 x1 x3 h i := by
  unfold rN rM
  rw [val_main_v25_apply, val_main_v24_apply, val_main_cst_3_apply]
  generalize val_main_v18 (F := Ideal) x0 x1 x3 (ix3 0 h i) = y
  show max (Ideal.ofBits .f32 0xFF800000#32) (y : EReal) = y
  rw [show Ideal.ofBits .f32 0xFF800000#32 = ⊥ from ofBits_neg_inf]
  exact max_eq_right bot_le
theorem r_p (h : Fin 8) (i j : Fin 4096) : rP x0 x1 x3 h i j = Ideal.exp (rS x0 x1 x3 h i j - rN x0 x1 x3 h i) := by
  unfold rP
  pointwise [val_main_v38, val_main_v37, val_main_v36, val_main_v35]
theorem r_l (h : Fin 8) (i : Fin 4096) : rL x0 x1 x3 h i = ∑ j, rP x0 x1 x3 h i j := by
  unfold rL
  pointwise [val_main_v39]
  rw [val_main_cst_9_apply]
  exact (congrArg (· + _) zero_word).trans (zero_add _)
theorem r_y (h : Fin 8) (i j : Fin 4096) : rY x0 x1 x3 h i j = Ideal.div (rP x0 x1 x3 h i j) (rL x0 x1 x3 h i) := by
  unfold rY
  pointwise [val_main_v42, val_main_v41, val_main_v40]
theorem r_g (h : Fin 8) (i j : Fin 4096) : rG x2 x4 h i j = ∑ d, x4 (ix4 0 h i d) * x2 (ix4 0 h j d) := by
  unfold rG
  pointwise [val_main_v49]
theorem r_r (h : Fin 8) (i : Fin 4096) : rR x0 x1 x2 x4 x3 h i
    = ∑ j, rG x2 x4 h i j * Ideal.div 1 (rL x0 x1 x3 h i * rL x0 x1 x3 h i) * rP x0 x1 x3 h i j := by
  unfold rR
  pointwise [val_main_v53, val_main_v52, val_main_v51, val_main_v50, val_main_v45, val_main_v44, val_main_v43, val_main_v40]
  rw [val_main_cst_11_apply, val_main_cst_10_apply, show (FloatOps.ofBits .f32 0x3F800000#32 : Ideal .f32) = (1 : EReal) from one_word]
  exact (congrArg (· + _) zero_word).trans (zero_add _)
theorem r_58 (h : Fin 8) (i : Fin 4096) : rN58 x0 x1 x2 x4 x3 h i = -rR x0 x1 x2 x4 x3 h i := by
  unfold rN58
  refine (unit03 _ (val_main_v55 (F := Ideal) x0 x1 x2 x3 x4) _ h i).trans ?_
  pointwise [val_main_v55, val_main_v54]
  rw [val_main_cst_12_apply]
  exact (congrArg (· + _) zero_word).trans (zero_add _)
theorem r_d (h : Fin 8) (i j : Fin 4096) : rD x0 x1 x2 x4 x3 h i j
    = if j.val ≤ i.val then (Ideal.div (rG x2 x4 h i j) (rL x0 x1 x3 h i) + rN58 x0 x1 x2 x4 x3 h i) * rP x0 x1 x3 h i j else 0 := by
  unfold rD
  pointwise [val_main_v63, val_main_v62, val_main_v61, val_main_v60, val_main_v59, val_main_v57, val_main_v56, val_main_v40, val_main_v17_1, val_main_v16,
    val_main_v14, val_main_v15, val_main_v13, val_main_v12, val_main_v11, val_main_v10, val_main_call2_v0]
  rw [sge_row]
  by_cases hij : j.val ≤ i.val
  · rw [if_pos hij, if_pos hij]
    rfl
  · rw [if_neg hij, if_neg hij]
    exact zero_word
theorem r_dq (h : Fin 8) (i : Fin 4096) (d : Fin 64) : val_main_v77 (F := Ideal) x0 x1 x2 x3 x4 (ix4 0 h i d)
    = ∑ j, rD x0 x1 x2 x4 x3 h i j * ((1 / 8 : ℝ) : EReal) * x1 (ix4 0 h j d) := by
  pointwise [val_main_v77, val_main_v75, val_main_v74]
  rw [val_main_cst_17_apply, show (FloatOps.ofBits .f32 0x3E000000#32 : Ideal .f32) = ((1 / 8 : ℝ) : EReal) from ofBits_eighth]
theorem r_dk (h : Fin 8) (j : Fin 4096) (d : Fin 64) : val_main_v76 (F := Ideal) x0 x1 x2 x3 x4 (ix4 0 h j d)
    = ∑ i, rD x0 x1 x2 x4 x3 h i j * ((1 / 8 : ℝ) : EReal) * x0 (ix4 0 h i d) := by
  pointwise [val_main_v76, val_main_v75, val_main_v74]
  rw [val_main_cst_17_apply, show (FloatOps.ofBits .f32 0x3E000000#32 : Ideal .f32) = ((1 / 8 : ℝ) : EReal) from ofBits_eighth]
theorem r_dv (h : Fin 8) (j : Fin 4096) (d : Fin 64) : val_main_v48 (F := Ideal) x0 x1 x3 x4 (ix4 0 h j d)
    = ∑ i, x4 (ix4 0 h i d) * rY x0 x1 x3 h i j := by
  pointwise [val_main_v48, val_main_v47]
theorem r_65 (h : Fin 8) (j : Fin 4096) : val_main_v65 (F := Ideal) x0 x1 x2 x3 x4 (ix3 0 h j) = ∑ i, -rD x0 x1 x2 x4 x3 h i j := by
  pointwise [val_main_v65, val_main_v64]
  rw [val_main_cst_13_apply]
  exact (congrArg (· + _) zero_word).trans (zero_add _)
theorem r_69 (h : Fin 8) (i : Fin 4096) : val_main_v69 (F := Ideal) x0 x1 x2 x3 x4 (ix3 0 h i) = ∑ j, rD x0 x1 x2 x4 x3 h i j := by
  pointwise [val_main_v69]
  rw [val_main_cst_15_apply]
  exact (congrArg (· + _) zero_word).trans (zero_add _)
theorem r_67 (h : Fin 8) (i : Fin 4096) : val_main_v67 (F := Ideal) x0 x1 x2 x3 x4 (ix2 h i) = val_main_v65 (F := Ideal) x0 x1 x2 x3 x4 (ix3 0 h i) := by
  refine (unit02 _ (val_main_v66 (F := Ideal) x0 x1 x2 x3 x4) _ h i).trans ?_
  pointwise [val_main_v66]
  rw [val_main_cst_14_apply]
  exact (congrArg (· + _) zero_word).trans (zero_add _)
theorem r_71 (h : Fin 8) (i : Fin 4096) : val_main_v71 (F := Ideal) x0 x1 x2 x3 x4 (ix2 h i) = val_main_v69 (F := Ideal) x0 x1 x2 x3 x4 (ix3 0 h i) := by
  refine (unit03 _ (val_main_v70 (F := Ideal) x0 x1 x2 x3 x4) _ h i).trans ?_
  pointwise [val_main_v70]
  rw [val_main_cst_16_apply]
  exact (congrArg (· + _) zero_word).trans (zero_add _)
theorem r_dc (h : Fin 8) (i : Fin 4096) : val_main_v73 (F := Ideal) x0 x1 x2 x3 x4 (ix3 0 h i)
    = (∑ l, -rD x0 x1 x2 x4 x3 h l i) + ∑ j, rD x0 x1 x2 x4 x3 h i j := by
  pointwise [val_main_v73, val_main_v72, val_main_v68]
  rw [r_67, r_71, r_65, r_69]

/-! ## At real arguments -/

section Real

variable {x0 x1 x2 x4 x3} {q k v o : Heads} {cs : Fin 8 → Fin 4096 → ℝ} (R : RealArgs x0 x1 x2 x3 x4 q k v o cs)

include R

theorem s_eq (h : Fin 8) (i j : Fin 4096) : rS x0 x1 x3 h i j = mS (q h) (k h) (cs h) i j := by
  rw [r_s]
  unfold mS sR
  by_cases hij : j.val ≤ i.val
  · rw [if_pos hij, if_pos hij, show rC x3 h i = _ from R.hc h i, show rC x3 h j = _ from R.hc h j,
      Finset.sum_congr rfl fun d _ => congrArg₂ (fun a b : EReal => a * b) (R.hq h i d) (R.hk h j d)]
    simp only [← EReal.coe_mul, ← Cert.Reals.coe_sum, ← EReal.coe_add, ← EReal.coe_sub]
  · rw [if_neg hij, if_neg hij]
theorem n_eq (h : Fin 8) (i : Fin 4096) : rN x0 x1 x3 h i = (mx (q h) (k h) (cs h) i : EReal) := by
  rw [r_n, r_m, show rS x0 x1 x3 h i = mS (q h) (k h) (cs h) i from funext fun j => s_eq R h i j, mx_eq]
theorem p_eq (h : Fin 8) (i j : Fin 4096) : rP x0 x1 x3 h i j = (p (q h) (k h) (cs h) i j : EReal) := by
  rw [r_p, n_eq R, s_eq R, exp_mS]
theorem l_eq (h : Fin 8) (i : Fin 4096) : rL x0 x1 x3 h i = (L (q h) (k h) (cs h) i : EReal) := by
  rw [r_l, ← sum_p]
  exact Finset.sum_congr rfl fun j _ => p_eq R h i j
theorem y_eq (h : Fin 8) (i j : Fin 4096) : rY x0 x1 x3 h i j = (y (q h) (k h) (cs h) i j : EReal) := by
  rw [r_y, p_eq R, l_eq R, Ideal.div_coe (L_ne _ _ _ i), ← EReal.coe_mul]
  unfold y
  rw [mul_one_div]
theorem g_eq (h : Fin 8) (i j : Fin 4096) : rG x2 x4 h i j = (g (v h) (o h) i j : EReal) := by
  rw [r_g, Finset.sum_congr rfl fun d _ => congrArg₂ (fun a b : EReal => a * b) (R.ho h i d) (R.hv h j d)]
  simp only [← EReal.coe_mul, ← Cert.Reals.coe_sum]
  rfl
theorem d_eq (h : Fin 8) (i j : Fin 4096) : rD x0 x1 x2 x4 x3 h i j = (ds (q h) (k h) (v h) (o h) (cs h) i j : EReal) := by
  have hL := L_ne (q h) (k h) (cs h) i
  have hr : rR x0 x1 x2 x4 x3 h i
      = ((∑ l, g (v h) (o h) i l * (1 / (L (q h) (k h) (cs h) i * L (q h) (k h) (cs h) i)) * p (q h) (k h) (cs h) i l : ℝ) : EReal) := by
    rw [r_r, l_eq R, ← EReal.coe_mul, Ideal.div_coe (mul_ne_zero hL hL), one_mul, Cert.Reals.coe_sum]
    exact Finset.sum_congr rfl fun l _ => by rw [g_eq R, p_eq R, ← EReal.coe_mul, ← EReal.coe_mul]
  rw [r_d]
  by_cases hij : j.val ≤ i.val
  · rw [if_pos hij, r_58, hr, g_eq R, l_eq R, p_eq R, Ideal.div_coe hL, ← ds_quot]
    simp only [← EReal.coe_mul, ← EReal.coe_neg, ← EReal.coe_add]
    rw [mul_one_div]
  · rw [if_neg hij, ds_masked _ _ _ _ _ _ _ hij, EReal.coe_zero]

theorem dq_eq (h : Fin 8) (i : Fin 4096) (d : Fin 64) : val_main_v77 (F := Ideal) x0 x1 x2 x3 x4 (ix4 0 h i d)
    = ((∑ j, ds (q h) (k h) (v h) (o h) (cs h) i j * (1 / 8) * k h j d : ℝ) : EReal) := by
  rw [r_dq, Cert.Reals.coe_sum]
  exact Finset.sum_congr rfl fun j _ => by rw [d_eq R, R.hk, ← EReal.coe_mul, ← EReal.coe_mul]
theorem dk_eq (h : Fin 8) (j : Fin 4096) (d : Fin 64) : val_main_v76 (F := Ideal) x0 x1 x2 x3 x4 (ix4 0 h j d)
    = ((∑ i, ds (q h) (k h) (v h) (o h) (cs h) i j * (1 / 8) * q h i d : ℝ) : EReal) := by
  rw [r_dk, Cert.Reals.coe_sum]
  exact Finset.sum_congr rfl fun i _ => by rw [d_eq R, R.hq, ← EReal.coe_mul, ← EReal.coe_mul]
theorem dv_eq (h : Fin 8) (j : Fin 4096) (d : Fin 64) : val_main_v48 (F := Ideal) x0 x1 x3 x4 (ix4 0 h j d)
    = ((∑ i, o h i d * y (q h) (k h) (cs h) i j : ℝ) : EReal) := by
  rw [r_dv, Cert.Reals.coe_sum]
  exact Finset.sum_congr rfl fun i _ => by rw [y_eq R, R.ho, ← EReal.coe_mul]
theorem dc_eq (h : Fin 8) (i : Fin 4096) : val_main_v73 (F := Ideal) x0 x1 x2 x3 x4 (ix3 0 h i)
    = (((∑ j, ds (q h) (k h) (v h) (o h) (cs h) i j) - ∑ l, ds (q h) (k h) (v h) (o h) (cs h) l i : ℝ) : EReal) := by
  rw [r_dc, Finset.sum_congr rfl fun l _ => congrArg (fun z : EReal => -z) (d_eq R h l i), Finset.sum_congr rfl fun j _ => d_eq R h i j]
  simp only [← EReal.coe_neg, ← Cert.Reals.coe_sum, ← EReal.coe_add]
  rw [Finset.sum_neg_distrib, neg_add_eq_sub]

end Real

end Cert.FoxRefIdeal.Hand

end
-- ==== Proof.FoxFrame.lean ====
/-
  The frames of the attention's backward kernel. The program as printed and the program read over the reals have one text
  but for the mask's constant, so the run written once for the second is the first's too, the named constant read back as
  its float word.
-/
module

public import proofs.«01_k».proof.Defs
public import proofs.«01_k».proof.Proof.FoxLaunch
public import proofs.«01_k».proof.Proof.Gen.Fox
public import proofs.«01_k».proof.Proof.Gen.FoxRefIdeal.Run
public import Idealize.ShloMosaic.Adequacy
public import Idealize.ShloMosaic.Init

@[expose] public section

set_option maxRecDepth 16384

noncomputable section

namespace Cert.FoxFrame

open Idealize.ShloMosaic Idealize.ShloMosaic.TcCoe Idealize.SL Idealize.SL.Sem

/-- At words a named constant is its word. -/
instance wordNamed : Named Bits where
  named _ _ {φ} b := FloatOps.ofBits φ b

theorem defs_eq : Cert.Fox.defs (F := Bits) = Cert.FoxIdeal.defs (F := Bits) := by sl_kernel_rfl
theorem main_eq : Cert.Fox.main (F := Bits) = Cert.FoxIdeal.main (F := Bits) := by sl_kernel_rfl

theorem fox : Cert.quiescent_Fox := fun m g _ => by
  rw [defs_eq, main_eq]
  exact Cert.FoxIdeal.Hand.frame_main (F := Bits) m g

theorem fox_ideal : Cert.quiescent_FoxIdeal := fun m g _ => Cert.FoxIdeal.Hand.frame_main (F := Ideal) m g

theorem fox_ref : Cert.quiescent_FoxRefIdeal := fun m g _ =>
  (θ_run Cert.FoxRefIdeal.defs _ _).mono (fun r h => ⟨fun c => (h c).2.2.2.2, sem_eq_zero_of_no_sems rfl r.2⟩) (Cert.FoxRefIdeal.Value.run m g)

/-- The kernel's masking constant, named, is minus infinity. -/
theorem mask : IdealRules.named_const.Statement Cert.FoxIdeal.κ "mask" .f32 0xF149F2CA#32 ⊥ :=
  IdealRules.named_const.statement _ _ _ _ _ rfl

end Cert.FoxFrame

end
-- ==== Proof.FoxClaim.lean ====
/-
  The attention's backward call: its value claim.
-/
module

public import proofs.«01_k».proof.Defs
public import proofs.«01_k».proof.Proof.FoxTail
public import proofs.«01_k».proof.Proof.FoxRef
public import proofs.«01_k».proof.Proof.FoxFrame
public import proofs.«01_k».proof.Proof.Gen.FoxRefIdeal.Run
public import proofs.«01_k».proof.Proof.Gen.Pre_fox_finite
public import Idealize.ShloMosaic.Adequacy
public import Idealize.ShloMosaic.Init

@[expose] public section

set_option maxRecDepth 16384

noncomputable section

open Idealize.ShloMosaic Idealize.ShloMosaic.TcCoe Idealize.SL.Sem

namespace Cert.FoxClaim

open Cert.Reals

section Pre

open Cert.Pre_fox_finite

/-- The precondition: every entry of the arguments is real. -/
theorem of_pre (x0 x1 x2 : FVec Ideal S1x8x4096x64 .f32) (x3 : FVec Ideal S1x8x4096 .f32) (x4 : FVec Ideal S1x8x4096x64 .f32)
    (h : fn x0 x1 x2 x3 x4 = fun _ => 1#1) :
    (∀ i, IsR (x0 i)) ∧ (∀ i, IsR (x1 i)) ∧ (∀ i, IsR (x2 i)) ∧ (∀ i, IsR (x3 i)) ∧ (∀ i, IsR (x4 i)) := by
  have h0 := congrFun h (fun a => a.elim0)
  unfold fn fn_part1 at h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨fun i => ?_, fun i => ?_, fun i => ?_, fun i => ?_, fun i => ?_⟩
  · exact isR_of_lt_word (Host.reduce_andi_all _ _ _ _ _ h0 i)
  · exact isR_of_lt_word (Host.reduce_andi_all _ _ _ _ _ h1 i)
  · exact isR_of_lt_word (Host.reduce_andi_all _ _ _ _ _ h2 i)
  · exact isR_of_lt_word (Host.reduce_andi_all _ _ _ _ _ h3 i)
  · exact isR_of_lt_word (Host.reduce_andi_all _ _ _ _ _ h4 i)

end Pre

/-- Two arrays of rows of heads that agree at every entry. -/
theorem ext4 (f g : Cert.FoxIdeal.S1x8x4096x64.Idx → EReal)
    (h : ∀ a b d, f (Idealize.ShloMosaic.ix4 0 a b d) = g (Idealize.ShloMosaic.ix4 0 a b d)) : f = g := by
  funext z
  have e : z = Idealize.ShloMosaic.ix4 0 (z 1) (z 2) (z 3) := by
    funext a
    fin_cases a
    · exact Fin.ext (Nat.lt_one_iff.mp (z 0).isLt)
    · rfl
    · rfl
    · rfl
  rw [e]
  exact h _ _ _
theorem ext3 (f g : Cert.FoxIdeal.S1x8x4096.Idx → EReal)
    (h : ∀ a b, f (Idealize.ShloMosaic.ix3 0 a b) = g (Idealize.ShloMosaic.ix3 0 a b)) : f = g := by
  funext z
  have e : z = Idealize.ShloMosaic.ix3 0 (z 1) (z 2) := by
    funext a
    fin_cases a
    · exact Fin.ext (Nat.lt_one_iff.mp (z 0).isLt)
    · rfl
    · rfl
  rw [e]
  exact h _ _

open Cert.FoxIdeal.Hand Cert.FoxIdeal in
theorem value : Cert.algebraic_FoxIdeal_FoxRefIdeal_pre_fox_finite := by
  intro m g m' g' hp hm
  refine ⟨fun c => afterM m c main_v130, fun c => afterM m c main_v131, fun c => afterM m c main_v132, fun c => afterM m c main_v137, ?_, ?_⟩
  · refine (θ_run _ _ _).mono (fun r h c => ?_) (run_main m g)
    have hr := (h.1 c).2
    exact ⟨hr main_v130 (by decide : main_v130 ∈ Pipeline.restRefs sig spec0), hr main_v131 (by decide : main_v131 ∈ Pipeline.restRefs sig spec0),
      hr main_v132 (by decide : main_v132 ∈ Pipeline.restRefs sig spec0), hr main_v137 (by decide : main_v137 ∈ Pipeline.restRefs sig spec0),
      (hr main_arg0 (by decide : main_arg0 ∈ Pipeline.restRefs sig spec0)).trans (W_main_arg0 m c),
      (hr main_arg1 (by decide : main_arg1 ∈ Pipeline.restRefs sig spec0)).trans (W_main_arg1 m c),
      (hr main_arg2 (by decide : main_arg2 ∈ Pipeline.restRefs sig spec0)).trans (W_main_arg2 m c),
      (hr main_arg3 (by decide : main_arg3 ∈ Pipeline.restRefs sig spec0)).trans (W_main_arg3 m c),
      (hr main_arg4 (by decide : main_arg4 ∈ Pipeline.restRefs sig spec0)).trans (W_main_arg4 m c)⟩
  refine (θ_run _ _ _).mono (fun r h c => ?_) (Cert.FoxRefIdeal.Value.run m' g')
  obtain ⟨e0, e1, e2, e3, e4⟩ := hm c
  obtain ⟨h0, h1, h2, h3, h4⟩ := of_pre _ _ _ _ _ (hp c)
  obtain ⟨q, k, v, o, cs, R⟩ := exists_realArgs _ _ _ _ _ h0 h1 h2 h3 h4
  obtain ⟨r0, r1, r2, r3, rest⟩ := h c
  refine ⟨r0.trans ?_, r1.trans ?_, r2.trans ?_, r3.trans ?_, rest⟩
  · rw [Cert.FoxRefIdeal.Read.val_main_v77_eq, e0, e1, e2, e3, e4]
    exact ext4 _ _ fun a b d => (Cert.FoxRefIdeal.Hand.dq_eq R a b d).trans (dq_val R a b d).symm
  · rw [Cert.FoxRefIdeal.Read.val_main_v76_eq, e0, e1, e2, e3, e4]
    exact ext4 _ _ fun a b d => (Cert.FoxRefIdeal.Hand.dk_eq R a b d).trans (dk_val R a b d).symm
  · rw [Cert.FoxRefIdeal.Read.val_main_v48_eq, e0, e1, e3, e4]
    exact ext4 _ _ fun a b d => (Cert.FoxRefIdeal.Hand.dv_eq R a b d).trans (dv_val R a b d).symm
  · rw [Cert.FoxRefIdeal.Read.val_main_v73_eq, e0, e1, e2, e3, e4]
    exact ext3 _ _ fun a b => (Cert.FoxRefIdeal.Hand.dc_eq R a b).trans (dc_val R a b).symm

end Cert.FoxClaim

end
-- ==== Proof.CrossRun.lean ====
/-
  The cross attention's backward kernel at a grid point: the stores each buffer ends with, head by head.
-/
module

public import proofs.«01_k».proof.Proof.Gen.CrossIdeal.Frame.RunC
public import proofs.«01_k».proof.Proof.Tiles

@[expose] public section

set_option maxRecDepth 16384

noncomputable section

namespace Cert.CrossIdeal.Hand

open Cert.CrossIdeal Cert.CrossIdeal.Gen
open Idealize.ShloMosaic Idealize.ShloMosaic.TcCoe Idealize.ShloMosaic.Tactic

variable {F : FTy → Type} [FloatOps F]

/-! ## A head's values -/

theorem slT_ok : ∀ h : Fin 4, S512x1024.Slices ![0, 256 * h.val] S512x256 := by decide
/-- Head `h`'s columns of a tile. -/
def slT (h : Fin 4) (v : FVec F S512x1024 .f32) : FVec F S512x256 .f32 :=
  extractStridedSlice S512x256 ![0, 256 * h.val] v (slT_ok h)
/-- The sum of each row's squares. -/
def sqT (q : FVec F S512x256 .f32) : FVec F S512x1 .f32 :=
  shapeCast S512x1 (multiReduction .add [1] S512 (mulf q q) 0x00000000#32 reduces_S512x256_S512 (.inl rfl) rfl) shapeCasts_S512_S512x1
/-- The normed query, scaled. -/
def qnT (gc : Vec F S1x256 .f32) (q : FVec F S512x256 .f32) : FVec F S512x256 .bf16 := k0_pay13 gc q (sqT q) (Scalar.ofBits .f32 0x43800000#32)
/-- The weights. -/
def pT (gc : Vec F S1x256 .f32) (q : FVec F S512x256 .f32) (k : Vec F S1x256x256 .bf16) : FVec F S512x256 .f32 :=
  k0_pay14 gc q (sqT q) (Scalar.ofBits .f32 0x43800000#32) k
/-- The cotangent of the head's result. -/
def doT (h : Fin 4) (dy : Vec F S512x1024 .f32) (wo : Vec F S1024x1024 .bf16) : FVec F S512x256 .bf16 :=
  truncf .bf16 (slT h (k0_pay19 (k0_pay2 dy) wo)) bitsLt_bf16_f32
/-- The cotangent of the weights. -/
def dpT (d : FVec F S512x256 .bf16) (v : Vec F S1x256x256 .bf16) : FVec F S512x256 .f32 :=
  matmul dot_S512x256_S256x256_S512x256_1_1_0_0_n_n none d (shapeCast S256x256 v shapeCasts_S1x256x256_S256x256) (constant S512x256 .f32 0x00000000#32)
/-- The cotangent of the scores. -/
def dsT (p : FVec F S512x256 .f32) (d : FVec F S512x256 .bf16) (v : Vec F S1x256x256 .bf16) : FVec F S512x256 .bf16 :=
  truncf .bf16 (mulf p (subf (dpT d v) (broadcastTo S512x256 (shapeCast S512x1
    (multiReduction .add [1] S512 (mulf (dpT d v) p) 0x00000000#32 reduces_S512x256_S512 (.inl rfl) rfl) shapeCasts_S512_S512x1)
    broadcasts_S512x1_S512x256))) bitsLt_bf16_f32
/-- What a tile adds to the gradient of the head's values. -/
def dvT (p : FVec F S512x256 .f32) (d : FVec F S512x256 .bf16) : FVec F S256x256 .f32 :=
  matmul dot_S512x256_S512x256_S256x256_0_0_1_1_n_n none (truncf .bf16 p bitsLt_bf16_f32) d (constant S256x256 .f32 0x00000000#32)
/-- What it adds to the gradient of its keys. -/
def dkT (ds qn : FVec F S512x256 .bf16) : FVec F S256x256 .f32 :=
  matmul dot_S512x256_S512x256_S256x256_0_0_1_1_n_n none ds qn (constant S256x256 .f32 0x00000000#32)

/-! ## A point's values -/

section Values

variable (x dy : Vec F S512x1024 .f32) (g : Vec F S1x1024 .f32) (w : Vec F S1024x1024 .bf16) (gc : Vec F S1x256 .f32)
  (k v : Fin 4 → Vec F S1x256x256 .bf16) (wo : Vec F S1024x1024 .bf16) (h : Fin 4)

def aQ : FVec F S512x256 .f32 := slT h (k0_pay4 x g w)
def aN : FVec F S512x256 .bf16 := qnT gc (aQ x g w h)
def aP : FVec F S512x256 .f32 := pT gc (aQ x g w h) (k h)
def aDS : FVec F S512x256 .bf16 := dsT (aP x g w gc k h) (doT h dy wo) (v h)
def aO : FVec F S512x256 .bf16 := k0_pay21 (aP x g w gc k h) (v h)
def aDQ : FVec F S512x256 .bf16 := k0_pay34 (aQ x g w h) (aDS x dy g w gc k v wo h) (k h) gc
def aGR : FVec F S512x256 .f32 := k0_pay33 (aQ x g w h) (aDS x dy g w gc k v wo h) (k h)
def aDV : FVec F S256x256 .f32 := dvT (aP x g w gc k h) (doT h dy wo)
def aDK : FVec F S256x256 .f32 := dkT (aDS x dy g w gc k v wo h) (aN x g w gc h)
def aGS : FVec F S1x256 .f32 :=
  shapeCast S1x256 (multiReduction .add [0] S256 (addf (addf (addf (aGR x dy g w gc k v wo 0) (aGR x dy g w gc k v wo 1)) (aGR x dy g w gc k v wo 2))
    (aGR x dy g w gc k v wo 3)) 0x00000000#32 reduces_S512x256_S256 (.inl rfl) rfl) shapeCasts_S256_S1x256

end Values

/-! ## Where the heads lie -/

/-- Head `h`'s columns of a tile. -/
abbrev offH (h : Fin 4) : Fin S512x1024.rank → ℕ := ![0, 256 * h.val]
theorem offH_inb : ∀ (h : Fin 4) (a : Fin S512x1024.rank), offH h a + S512x256.size a ≤ S512x1024.size a := by decide
/-- Head `h` of an array laid out heads first. -/
abbrev offK (h : Fin 4) : Fin S4x256x256.rank → ℕ := ![h.val, 0, 0]
theorem offK_inb : ∀ (h : Fin 4) (a : Fin S4x256x256.rank), offK h a + S1x256x256.size a ≤ S4x256x256.size a := by decide

/-- Head `h` of an array laid out heads first, as the body loads it. -/
abbrev ldK {e : EltTy} {arg : Memref sig .tc .vmem S4x256x256 e} (harg : arg.IsWhole) (x : Vec F S4x256x256 e) (h : Fin 4) : Vec F S1x256x256 e :=
  View.readAt (Elt F) arg.view (Rect.unit (s := S4x256x256) (offK h) S1x256x256.size (offK_inb h)).toLoadRect (harg.unread x)
/-- A whole buffer, as the body loads it. -/
abbrev ldW {s : Shape} {e : EltTy} {arg : Memref sig .tc .vmem s e} (harg : arg.IsWhole) (x : Vec F s e)
    (off : Fin s.rank → ℕ) (inb : ∀ a, off a + s.size a ≤ s.size a) : Vec F s e :=
  View.readAt (Elt F) arg.view (Rect.unit (s := s) off s.size inb).toLoadRect (harg.unread x)

section Point

variable (c : Dev nD) (t : Fin cfg0.N) (x0 : Vec F S512x1024 .f32) (x1 : Vec F S512x1024 .f32) (x2 : Vec F S1x1024 .f32) (x3 : Vec F S1024x1024 .bf16)
  (x4 : Vec F S1x256 .f32) (x5 : Vec F S4x256x256 .bf16) (x6 : Vec F S4x256x256 .bf16) (x7 : Vec F S1024x1024 .bf16)
  (xo11 xo12 : Vec F S4x256x256 .f32) (xo13 : Vec F S1x256 .f32) (xo14 : Vec F S1x1024 .f32) (xs0 xs1 : Vec F S1024x1024 .f32)

abbrev lX := ldW (F := F) (hs0_0 t) x0 ![0, 0] inb_S512x1024_S512x1024_0_0
abbrev lDy := ldW (F := F) (hs0_1 t) x1 ![0, 0] inb_S512x1024_S512x1024_0_0
abbrev lG := ldW (F := F) (hs0_2 t) x2 ![0, 0] inb_S1x1024_S1x1024_0_0
abbrev lW := ldW (F := F) (hs0_3 t) x3 ![0, 0] inb_S1024x1024_S1024x1024_0_0
abbrev lGc := ldW (F := F) (hs0_4 t) x4 ![0, 0] inb_S1x256_S1x256_0_0
abbrev lK := ldK (F := F) (hs0_5 t) x5
abbrev lV := ldK (F := F) (hs0_6 t) x6
abbrev lWo := ldW (F := F) (hs0_7 t) x7 ![0, 0] inb_S1024x1024_S1024x1024_0_0

/-- The two scratch buffers' stores: the heads' results and the query gradients, a head's columns each. -/
def pO : List (View.Piece (Elt F) S512x1024 .bf16) := View.tilePieces (s := S512x1024) S512x256.size offH offH_inb
  (fun h => aO (lX t x0) (lG t x2) (lW t x3) (lGc t x4) (lK t x5) (lV t x6) h) 4 (le_refl 4)
def pDQ : List (View.Piece (Elt F) S512x1024 .bf16) := View.tilePieces (s := S512x1024) S512x256.size offH offH_inb
  (fun h => aDQ (lX t x0) (lDy t x1) (lG t x2) (lW t x3) (lGc t x4) (lK t x5) (lV t x6) (lWo t x7) h) 4 (le_refl 4)
/-- The scratch buffers, loaded whole. -/
def lO : Vec F S512x1024 .bf16 := View.readAt (Elt F) scM0_2.view (Rect.unit (s := S512x1024) ![0, 0] S512x1024.size inb_S512x1024_S512x1024_0_0).toLoadRect
  (scM0_2.view.writes (Elt F) scM0_2.view.junk (pO t x0 x2 x3 x4 x5 x6))
def lDQ : Vec F S512x1024 .bf16 := View.readAt (Elt F) scM0_3.view (Rect.unit (s := S512x1024) ![0, 0] S512x1024.size inb_S512x1024_S512x1024_0_0).toLoadRect
  (scM0_3.view.writes (Elt F) scM0_3.view.junk (pDQ t x0 x1 x2 x3 x4 x5 x6 x7))

abbrev rA (h0 : t.val % 8 = 0) (h1 : ¬ 1 ≤ t.val) (h7 : ¬ t.val % 8 = 7) := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (fun h => h1 ((hcond0_1 t).mp h)) ((hcond0_2 t).mpr h0) (fun h => h1 ((hcond0_3 t).mp h)) ((hcond0_4 t).mpr h0) (fun h => h1 ((hcond0_5 t).mp h)) ((hcond0_6 t).mpr h0) (fun h => h1 ((hcond0_7 t).mp h)) ((hcond0_8 t).mpr h0) (fun h => h1 ((hcond0_9 t).mp h)) ((hcond0_10 t).mpr h0) (fun h => h1 ((hcond0_11 t).mp h)) (fun h => h7 ((hcond0_12 t).mp h)) ((hcond0_13 t).mpr h0) (fun h => h1 ((hcond0_14 t).mp h)) x0 x1 x2 x3 x4 x5 x6 x7

theorem rA_dx (h0 : t.val % 8 = 0) (h1 : ¬ 1 ≤ t.val) (h7 : ¬ t.val % 8 = 7) : (rA c t x0 x1 x2 x3 x4 x5 x6 x7 h0 h1 h7).1
    = [⟨Rect.unit (s := S512x1024) ![0, 0] S512x1024.size inb_S512x1024_S512x1024_0_0, k0_pay94 (lX t x0) (lDy t x1) (lDQ t x0 x1 x2 x3 x4 x5 x6 x7) (lW t x3) (lG t x2)⟩] := by
  sl_kernel_rfl
theorem rA_dk (h0 : t.val % 8 = 0) (h1 : ¬ 1 ≤ t.val) (h7 : ¬ t.val % 8 = 7) : (rA c t x0 x1 x2 x3 x4 x5 x6 x7 h0 h1 h7).2.2.2.1
    = View.tilePieces (s := S4x256x256) S1x256x256.size offK offK_inb (fun h => shapeCast S1x256x256 (aDK (lX t x0) (lDy t x1) (lG t x2) (lW t x3) (lGc t x4) (lK t x5) (lV t x6) (lWo t x7) h) shapeCasts_S256x256_S1x256x256) 4 (le_refl 4) := by
  sl_kernel_rfl
theorem rA_dv (h0 : t.val % 8 = 0) (h1 : ¬ 1 ≤ t.val) (h7 : ¬ t.val % 8 = 7) : (rA c t x0 x1 x2 x3 x4 x5 x6 x7 h0 h1 h7).2.2.2.2.1
    = View.tilePieces (s := S4x256x256) S1x256x256.size offK offK_inb (fun h => shapeCast S1x256x256 (aDV (lX t x0) (lDy t x1) (lG t x2) (lW t x3) (lGc t x4) (lK t x5) (lWo t x7) h) shapeCasts_S256x256_S1x256x256) 4 (le_refl 4) := by
  sl_kernel_rfl
theorem rA_gc (h0 : t.val % 8 = 0) (h1 : ¬ 1 ≤ t.val) (h7 : ¬ t.val % 8 = 7) : (rA c t x0 x1 x2 x3 x4 x5 x6 x7 h0 h1 h7).2.2.2.2.2.1
    = [⟨Rect.unit (s := S1x256) ![0, 0] S1x256.size inb_S1x256_S1x256_0_0, aGS (lX t x0) (lDy t x1) (lG t x2) (lW t x3) (lGc t x4) (lK t x5) (lV t x6) (lWo t x7)⟩] := by
  sl_kernel_rfl
theorem rA_g (h0 : t.val % 8 = 0) (h1 : ¬ 1 ≤ t.val) (h7 : ¬ t.val % 8 = 7) : (rA c t x0 x1 x2 x3 x4 x5 x6 x7 h0 h1 h7).2.2.2.2.2.2.1
    = [⟨Rect.unit (s := S1x1024) ![0, 0] S1x1024.size inb_S1x1024_S1x1024_0_0, k0_pay95 (lX t x0) (lDQ t x0 x1 x2 x3 x4 x5 x6 x7) (lW t x3)⟩] := by
  sl_kernel_rfl
theorem rA_sq (h0 : t.val % 8 = 0) (h1 : ¬ 1 ≤ t.val) (h7 : ¬ t.val % 8 = 7) : (rA c t x0 x1 x2 x3 x4 x5 x6 x7 h0 h1 h7).2.2.2.2.2.2.2.1
    = [⟨Rect.unit (s := S1024x1024) ![0, 0] S1024x1024.size inb_S1024x1024_S1024x1024_0_0, k0_pay86 (k0_pay84 (k0_pay3 (lX t x0) (lG t x2)) (lDQ t x0 x1 x2 x3 x4 x5 x6 x7))⟩] := by
  sl_kernel_rfl
theorem rA_so (h0 : t.val % 8 = 0) (h1 : ¬ 1 ≤ t.val) (h7 : ¬ t.val % 8 = 7) : (rA c t x0 x1 x2 x3 x4 x5 x6 x7 h0 h1 h7).2.2.2.2.2.2.2.2.1
    = [⟨Rect.unit (s := S1024x1024) ![0, 0] S1024x1024.size inb_S1024x1024_S1024x1024_0_0, k0_pay85 (k0_pay83 (k0_pay2 (lDy t x1)) (lO t x0 x2 x3 x4 x5 x6))⟩] := by
  sl_kernel_rfl

abbrev rB (h0 : ¬ t.val % 8 = 0) (h1 : 1 ≤ t.val) (h7 : ¬ t.val % 8 = 7) := kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h0 ((hcond0_2 t).mp h)) ((hcond0_3 t).mpr h1) (fun h => h0 ((hcond0_4 t).mp h)) ((hcond0_5 t).mpr h1) (fun h => h0 ((hcond0_6 t).mp h)) ((hcond0_7 t).mpr h1) (fun h => h0 ((hcond0_8 t).mp h)) ((hcond0_9 t).mpr h1) (fun h => h0 ((hcond0_10 t).mp h)) ((hcond0_11 t).mpr h1) (fun h => h7 ((hcond0_12 t).mp h)) (fun h => h0 ((hcond0_13 t).mp h)) ((hcond0_14 t).mpr h1) x0 x1 x2 x3 x4 x5 x6 x7 xo11 xo12 xo13 xo14 xs0 xs1

theorem rB_dx (h0 : ¬ t.val % 8 = 0) (h1 : 1 ≤ t.val) (h7 : ¬ t.val % 8 = 7) : (rB c t x0 x1 x2 x3 x4 x5 x6 x7 xo11 xo12 xo13 xo14 xs0 xs1 h0 h1 h7).1
    = [⟨Rect.unit (s := S512x1024) ![0, 0] S512x1024.size inb_S512x1024_S512x1024_0_0, k0_pay94 (lX t x0) (lDy t x1) (lDQ t x0 x1 x2 x3 x4 x5 x6 x7) (lW t x3) (lG t x2)⟩] := by
  sl_kernel_rfl
theorem rB_dk (h0 : ¬ t.val % 8 = 0) (h1 : 1 ≤ t.val) (h7 : ¬ t.val % 8 = 7) : (rB c t x0 x1 x2 x3 x4 x5 x6 x7 xo11 xo12 xo13 xo14 xs0 xs1 h0 h1 h7).2.2.2.1
    = View.tilePieces (s := S4x256x256) S1x256x256.size offK offK_inb (fun h => k0_pay29 (aDK (lX t x0) (lDy t x1) (lG t x2) (lW t x3) (lGc t x4) (lK t x5) (lV t x6) (lWo t x7) h) (ldK (hs0_11 t) xo11 h)) 4 (le_refl 4) := by
  sl_kernel_rfl
theorem rB_dv (h0 : ¬ t.val % 8 = 0) (h1 : 1 ≤ t.val) (h7 : ¬ t.val % 8 = 7) : (rB c t x0 x1 x2 x3 x4 x5 x6 x7 xo11 xo12 xo13 xo14 xs0 xs1 h0 h1 h7).2.2.2.2.1
    = View.tilePieces (s := S4x256x256) S1x256x256.size offK offK_inb (fun h => k0_pay28 (aDV (lX t x0) (lDy t x1) (lG t x2) (lW t x3) (lGc t x4) (lK t x5) (lWo t x7) h) (ldK (hs0_12 t) xo12 h)) 4 (le_refl 4) := by
  sl_kernel_rfl
theorem rB_gc (h0 : ¬ t.val % 8 = 0) (h1 : 1 ≤ t.val) (h7 : ¬ t.val % 8 = 7) : (rB c t x0 x1 x2 x3 x4 x5 x6 x7 xo11 xo12 xo13 xo14 xs0 xs1 h0 h1 h7).2.2.2.2.2.1
    = [⟨Rect.unit (s := S1x256) ![0, 0] S1x256.size inb_S1x256_S1x256_0_0, addf (shapeCast S1x256 (ldW (hs0_13 t) xo13 ![0, 0] inb_S1x256_S1x256_0_0) shapeCasts_S1x256_S1x256) (aGS (lX t x0) (lDy t x1) (lG t x2) (lW t x3) (lGc t x4) (lK t x5) (lV t x6) (lWo t x7))⟩] := by
  sl_kernel_rfl
theorem rB_g (h0 : ¬ t.val % 8 = 0) (h1 : 1 ≤ t.val) (h7 : ¬ t.val % 8 = 7) : (rB c t x0 x1 x2 x3 x4 x5 x6 x7 xo11 xo12 xo13 xo14 xs0 xs1 h0 h1 h7).2.2.2.2.2.2.1
    = [⟨Rect.unit (s := S1x1024) ![0, 0] S1x1024.size inb_S1x1024_S1x1024_0_0, k0_pay1 (k0_pay95 (lX t x0) (lDQ t x0 x1 x2 x3 x4 x5 x6 x7) (lW t x3)) (ldW (hs0_14 t) xo14 ![0, 0] inb_S1x1024_S1x1024_0_0)⟩] := by
  sl_kernel_rfl
theorem rB_sq (h0 : ¬ t.val % 8 = 0) (h1 : 1 ≤ t.val) (h7 : ¬ t.val % 8 = 7) : (rB c t x0 x1 x2 x3 x4 x5 x6 x7 xo11 xo12 xo13 xo14 xs0 xs1 h0 h1 h7).2.2.2.2.2.2.2.1
    = [⟨Rect.unit (s := S1024x1024) ![0, 0] S1024x1024.size inb_S1024x1024_S1024x1024_0_0, k0_pay88 (k0_pay84 (k0_pay3 (lX t x0) (lG t x2)) (lDQ t x0 x1 x2 x3 x4 x5 x6 x7)) (ldW (Memref.isWhole_whole cc0_scratch0) xs0 ![0, 0] inb_S1024x1024_S1024x1024_0_0)⟩] := by
  sl_kernel_rfl
theorem rB_so (h0 : ¬ t.val % 8 = 0) (h1 : 1 ≤ t.val) (h7 : ¬ t.val % 8 = 7) : (rB c t x0 x1 x2 x3 x4 x5 x6 x7 xo11 xo12 xo13 xo14 xs0 xs1 h0 h1 h7).2.2.2.2.2.2.2.2.1
    = [⟨Rect.unit (s := S1024x1024) ![0, 0] S1024x1024.size inb_S1024x1024_S1024x1024_0_0, k0_pay87 (k0_pay83 (k0_pay2 (lDy t x1)) (lO t x0 x2 x3 x4 x5 x6)) (ldW (Memref.isWhole_whole cc0_scratch1) xs1 ![0, 0] inb_S1024x1024_S1024x1024_0_0)⟩] := by
  sl_kernel_rfl

abbrev rC (h0 : ¬ t.val % 8 = 0) (h1 : 1 ≤ t.val) (h7 : t.val % 8 = 7) := kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h0 ((hcond0_2 t).mp h)) ((hcond0_3 t).mpr h1) (fun h => h0 ((hcond0_4 t).mp h)) ((hcond0_5 t).mpr h1) (fun h => h0 ((hcond0_6 t).mp h)) ((hcond0_7 t).mpr h1) (fun h => h0 ((hcond0_8 t).mp h)) ((hcond0_9 t).mpr h1) (fun h => h0 ((hcond0_10 t).mp h)) ((hcond0_11 t).mpr h1) ((hcond0_12 t).mpr h7) (fun h => h0 ((hcond0_13 t).mp h)) ((hcond0_14 t).mpr h1) x0 x1 x2 x3 x4 x5 x6 x7 xo11 xo12 xo13 xo14 xs0 xs1

theorem rC_dx (h0 : ¬ t.val % 8 = 0) (h1 : 1 ≤ t.val) (h7 : t.val % 8 = 7) : (rC c t x0 x1 x2 x3 x4 x5 x6 x7 xo11 xo12 xo13 xo14 xs0 xs1 h0 h1 h7).1
    = [⟨Rect.unit (s := S512x1024) ![0, 0] S512x1024.size inb_S512x1024_S512x1024_0_0, k0_pay94 (lX t x0) (lDy t x1) (lDQ t x0 x1 x2 x3 x4 x5 x6 x7) (lW t x3) (lG t x2)⟩] := by
  sl_kernel_rfl
theorem rC_dk (h0 : ¬ t.val % 8 = 0) (h1 : 1 ≤ t.val) (h7 : t.val % 8 = 7) : (rC c t x0 x1 x2 x3 x4 x5 x6 x7 xo11 xo12 xo13 xo14 xs0 xs1 h0 h1 h7).2.2.2.1
    = View.tilePieces (s := S4x256x256) S1x256x256.size offK offK_inb (fun h => k0_pay29 (aDK (lX t x0) (lDy t x1) (lG t x2) (lW t x3) (lGc t x4) (lK t x5) (lV t x6) (lWo t x7) h) (ldK (hs0_11 t) xo11 h)) 4 (le_refl 4) := by
  sl_kernel_rfl
theorem rC_dv (h0 : ¬ t.val % 8 = 0) (h1 : 1 ≤ t.val) (h7 : t.val % 8 = 7) : (rC c t x0 x1 x2 x3 x4 x5 x6 x7 xo11 xo12 xo13 xo14 xs0 xs1 h0 h1 h7).2.2.2.2.1
    = View.tilePieces (s := S4x256x256) S1x256x256.size offK offK_inb (fun h => k0_pay28 (aDV (lX t x0) (lDy t x1) (lG t x2) (lW t x3) (lGc t x4) (lK t x5) (lWo t x7) h) (ldK (hs0_12 t) xo12 h)) 4 (le_refl 4) := by
  sl_kernel_rfl
theorem rC_gc (h0 : ¬ t.val % 8 = 0) (h1 : 1 ≤ t.val) (h7 : t.val % 8 = 7) : (rC c t x0 x1 x2 x3 x4 x5 x6 x7 xo11 xo12 xo13 xo14 xs0 xs1 h0 h1 h7).2.2.2.2.2.1
    = [⟨Rect.unit (s := S1x256) ![0, 0] S1x256.size inb_S1x256_S1x256_0_0, addf (shapeCast S1x256 (ldW (hs0_13 t) xo13 ![0, 0] inb_S1x256_S1x256_0_0) shapeCasts_S1x256_S1x256) (aGS (lX t x0) (lDy t x1) (lG t x2) (lW t x3) (lGc t x4) (lK t x5) (lV t x6) (lWo t x7))⟩] := by
  sl_kernel_rfl
theorem rC_g (h0 : ¬ t.val % 8 = 0) (h1 : 1 ≤ t.val) (h7 : t.val % 8 = 7) : (rC c t x0 x1 x2 x3 x4 x5 x6 x7 xo11 xo12 xo13 xo14 xs0 xs1 h0 h1 h7).2.2.2.2.2.2.1
    = [⟨Rect.unit (s := S1x1024) ![0, 0] S1x1024.size inb_S1x1024_S1x1024_0_0, k0_pay1 (k0_pay95 (lX t x0) (lDQ t x0 x1 x2 x3 x4 x5 x6 x7) (lW t x3)) (ldW (hs0_14 t) xo14 ![0, 0] inb_S1x1024_S1x1024_0_0)⟩] := by
  sl_kernel_rfl
theorem rC_sq (h0 : ¬ t.val % 8 = 0) (h1 : 1 ≤ t.val) (h7 : t.val % 8 = 7) : (rC c t x0 x1 x2 x3 x4 x5 x6 x7 xo11 xo12 xo13 xo14 xs0 xs1 h0 h1 h7).2.2.2.2.2.2.2.1
    = [⟨Rect.unit (s := S1024x1024) ![0, 0] S1024x1024.size inb_S1024x1024_S1024x1024_0_0, k0_pay88 (k0_pay84 (k0_pay3 (lX t x0) (lG t x2)) (lDQ t x0 x1 x2 x3 x4 x5 x6 x7)) (ldW (Memref.isWhole_whole cc0_scratch0) xs0 ![0, 0] inb_S1024x1024_S1024x1024_0_0)⟩] := by
  sl_kernel_rfl
theorem rC_so (h0 : ¬ t.val % 8 = 0) (h1 : 1 ≤ t.val) (h7 : t.val % 8 = 7) : (rC c t x0 x1 x2 x3 x4 x5 x6 x7 xo11 xo12 xo13 xo14 xs0 xs1 h0 h1 h7).2.2.2.2.2.2.2.2.1
    = [⟨Rect.unit (s := S1024x1024) ![0, 0] S1024x1024.size inb_S1024x1024_S1024x1024_0_0, k0_pay87 (k0_pay83 (k0_pay2 (lDy t x1)) (lO t x0 x2 x3 x4 x5 x6)) (ldW (Memref.isWhole_whole cc0_scratch1) xs1 ![0, 0] inb_S1024x1024_S1024x1024_0_0)⟩] := by
  sl_kernel_rfl
theorem rC_wq (h0 : ¬ t.val % 8 = 0) (h1 : 1 ≤ t.val) (h7 : t.val % 8 = 7) : (rC c t x0 x1 x2 x3 x4 x5 x6 x7 xo11 xo12 xo13 xo14 xs0 xs1 h0 h1 h7).2.1
    = [⟨Rect.unit (s := S1024x1024) ![0, 0] S1024x1024.size inb_S1024x1024_S1024x1024_0_0, k0_pay90 (scM0_0.view.readCov (rC c t x0 x1 x2 x3 x4 x5 x6 x7 xo11 xo12 xo13 xo14 xs0 xs1 h0 h1 h7).2.2.2.2.2.2.2.1 (Rect.unit (s := S1024x1024) ![0, 0] S1024x1024.size inb_S1024x1024_S1024x1024_0_0).toLoadRect)⟩] := by
  sl_kernel_rfl
theorem rC_wo (h0 : ¬ t.val % 8 = 0) (h1 : 1 ≤ t.val) (h7 : t.val % 8 = 7) : (rC c t x0 x1 x2 x3 x4 x5 x6 x7 xo11 xo12 xo13 xo14 xs0 xs1 h0 h1 h7).2.2.1
    = [⟨Rect.unit (s := S1024x1024) ![0, 0] S1024x1024.size inb_S1024x1024_S1024x1024_0_0, k0_pay89 (scM0_1.view.readCov (rC c t x0 x1 x2 x3 x4 x5 x6 x7 xo11 xo12 xo13 xo14 xs0 xs1 h0 h1 h7).2.2.2.2.2.2.2.2.1 (Rect.unit (s := S1024x1024) ![0, 0] S1024x1024.size inb_S1024x1024_S1024x1024_0_0).toLoadRect)⟩] := by
  sl_kernel_rfl

end Point

end Cert.CrossIdeal.Hand

end
-- ==== Proof.NormMath.lean ====
/-
  The root-mean-square norm and the softmax of a row of real numbers, and their gradients: what the programs write out by
  hand is what differentiation gives.
-/
module

public import proofs.«01_k».proof.Proof.Reals

@[expose] public section

noncomputable section

namespace Cert.Norm

open Idealize.ShloMosaic Cert.Reals

/-- The small number the norms add to the mean square. -/
def eps : ℝ := 8796093 / 8796093022208

variable {n : ℕ} (x D : Fin n → ℝ)

/-- The mean square of a row, kept away from zero, and its inverse root. -/
def ms : ℝ := (∑ k, x k * x k) * (1 / n) + eps
def rs : ℝ := (Real.sqrt (ms x))⁻¹

theorem ms_pos : 0 < ms x := by
  have h0 : 0 ≤ ∑ k, x k * x k := Finset.sum_nonneg fun k _ => mul_self_nonneg _
  have h1 : 0 < eps := by unfold eps; norm_num
  unfold ms
  positivity
theorem rs_sq : rs x * rs x * ms x = 1 := by
  have h := ms_pos x
  unfold rs
  rw [← mul_inv, Real.mul_self_sqrt h.le, inv_mul_cancel₀ h.ne']
theorem rs_div : rs x / ms x = rs x * (rs x * rs x) := by
  rw [div_eq_iff (ms_pos x).ne']
  linear_combination (-rs x) * rs_sq x

/-- The mean square and its inverse root as the programs compute them. -/
theorem ms_coe {c : EReal} (hn : n ≠ 0) (hc : c = ((n : ℝ) : EReal)) :
    Ideal.div (∑ k, (x k : EReal) * (x k : EReal)) c + Ideal.ofBits .f32 0x358637BD#32 = (ms x : EReal) := by
  subst hc
  rw [Ideal.div_coe (by exact_mod_cast hn), ofBits_eps_val]
  unfold ms eps
  simp only [← EReal.coe_mul, ← coe_sum, ← EReal.coe_add]
theorem rs_coe : Ideal.rsqrt (ms x : EReal) = (rs x : EReal) := by
  have hp := ms_pos x
  rw [Ideal.rsqrt_coe, if_neg (not_lt.mpr hp.le), if_neg hp.ne']
  rfl

/-- The norm's gradient as the kernels write it. -/
def bwd (i : Fin n) : ℝ := rs x * (D i - x i * rs x * ((∑ k, D k * (x k * rs x)) * (1 / n)))

/-- The factor that differentiation gives the row. -/
def coef : ℝ := (∑ k, x k * D k) * (-(1 / 2) * (rs x / ms x)) * (1 / n)

/-- Differentiation gives the same. -/
theorem bwd_vjp (i : Fin n) : D i * rs x + x i * coef x D + coef x D * x i = bwd x D i := by
  unfold coef bwd
  rw [rs_div]
  have e : ∑ k, D k * (x k * rs x) = (∑ k, x k * D k) * rs x := by
    rw [Finset.sum_mul]
    exact Finset.sum_congr rfl fun k _ => by ring
  rw [e]
  ring

end Cert.Norm

namespace Cert.Softmax

open Idealize.ShloMosaic Cert.Reals

variable {n : ℕ} [NeZero n] (s dp : Fin n → ℝ)

theorem max_real : ∃ M : ℝ, Finset.fold max ⊥ (fun j => (s j : EReal)) Finset.univ = (M : EReal) := by
  have hs : Finset.fold max ⊥ (fun j => (s j : EReal)) Finset.univ = Finset.univ.sup (fun j => (s j : EReal)) := rfl
  rw [hs]
  obtain ⟨j, -, hj⟩ := Finset.exists_mem_eq_sup Finset.univ ⟨(0 : Fin n), Finset.mem_univ _⟩ (fun j => (s j : EReal))
  exact ⟨s j, hj⟩
/-- The row's largest number. -/
def mx : ℝ := (max_real s).choose
theorem mx_eq : Finset.fold max ⊥ (fun j => (s j : EReal)) Finset.univ = (mx s : EReal) := (max_real s).choose_spec

/-- A number's weight before and after it is normalised, and the sum of the first. -/
def ex (j : Fin n) : ℝ := Real.exp (s j - mx s)
def L : ℝ := ∑ j, ex s j
def P (j : Fin n) : ℝ := ex s j * (1 / L s)

theorem L_pos : 0 < L s := Finset.sum_pos (fun j _ => Real.exp_pos _) ⟨(0 : Fin n), Finset.mem_univ _⟩
theorem ex_coe (j : Fin n) : Ideal.exp ((s j : EReal) - (mx s : EReal)) = (ex s j : EReal) := by
  rw [← EReal.coe_sub, Ideal.exp_coe]
  rfl
theorem L_coe : (∑ j, (ex s j : EReal)) = (L s : EReal) := (coe_sum _ _).symm
theorem div_L (r : ℝ) : Ideal.div (r : EReal) (L s : EReal) = ((r * (1 / L s) : ℝ) : EReal) := by
  rw [Ideal.div_coe (L_pos s).ne', EReal.coe_mul]

/-- The gradient of the numbers, from that of the weights. -/
def ds (j : Fin n) : ℝ := P s j * (dp j - ∑ l, dp l * P s l)

/-- Differentiation gives the same. -/
theorem ds_vjp (j : Fin n) : (dp j * (1 / L s) + -∑ l, dp l * (1 / (L s * L s)) * ex s l) * ex s j = ds s dp j := by
  have h := (L_pos s).ne'
  unfold ds P
  have e : ∑ l, dp l * (1 / (L s * L s)) * ex s l = (1 / L s) * ∑ l, dp l * (ex s l * (1 / L s)) := by
    rw [Finset.mul_sum]
    exact Finset.sum_congr rfl fun l _ => by field_simp
  rw [e]
  ring

end Cert.Softmax

namespace Cert.Rows

open Cert.Reals

/-- Row `r` of tile `j`. -/
def row (j : ℕ) (r : Fin 512) : Fin 4096 := ⟨(512 * j + r.val) % 4096, Nat.mod_lt _ (by norm_num)⟩

/-- A sum over the rows of the first `j + 1` tiles. -/
def upto (f : Fin 4096 → ℝ) (j : ℕ) : ℝ := ∑ i ∈ Finset.range (j + 1), ∑ r, f (row i r)

theorem upto_zero (f : Fin 4096 → ℝ) : upto f 0 = ∑ r, f (row 0 r) := by
  unfold upto
  rw [Finset.sum_range_one]
theorem upto_succ (f : Fin 4096 → ℝ) (j : ℕ) : upto f (j + 1) = upto f j + ∑ r, f (row (j + 1) r) := by
  unfold upto
  rw [Finset.sum_range_succ]
/-- All eight tiles give the whole sum. -/
theorem upto_last (f : Fin 4096 → ℝ) : upto f 7 = ∑ t, f t := by
  unfold upto
  rw [Finset.sum_range, ← Fintype.sum_prod_type' (fun (i : Fin 8) (r : Fin 512) => f (row i.val r))]
  refine Fintype.sum_equiv (finProdFinEquiv (m := 8) (n := 512)) _ _ fun p => congrArg f (Fin.ext ?_)
  show (512 * p.1.val + p.2.val) % 4096 = p.2.val + 512 * p.1.val
  have h1 := p.1.isLt
  have h2 := p.2.isLt
  omega

end Cert.Rows

end
-- ==== Proof.CrossMath.lean ====
/-
  The cross attention's gradients over the real numbers, row by row.
-/
module

public import proofs.«01_k».proof.Proof.NormMath

@[expose] public section

noncomputable section

namespace Cert.CrossMath

open Cert.Reals

/-- The arguments: the rows and their cotangents, the two norms' gains, the query's and the result's weights, and the memory's
    keys and values, heads first. -/
structure Args where
  x : Fin 4096 → Fin 1024 → ℝ
  dy : Fin 4096 → Fin 1024 → ℝ
  g : Fin 1024 → ℝ
  w : Fin 1024 → Fin 1024 → ℝ
  gc : Fin 256 → ℝ
  k : Fin 4 → Fin 256 → Fin 256 → ℝ
  v : Fin 4 → Fin 256 → Fin 256 → ℝ
  wo : Fin 1024 → Fin 1024 → ℝ

/-- Column `c` of head `h`, and a column's head and place. -/
def col (h : Fin 4) (c : Fin 256) : Fin 1024 := ⟨256 * h.val + c.val, by omega⟩
def hd (n : Fin 1024) : Fin 4 := ⟨n.val / 256, by omega⟩
def at' (n : Fin 1024) : Fin 256 := ⟨n.val % 256, by omega⟩
theorem col_hd (n : Fin 1024) : col (hd n) (at' n) = n := Fin.ext (by
  show 256 * (n.val / 256) + n.val % 256 = n.val
  omega)
theorem hd_col (h : Fin 4) (c : Fin 256) : hd (col h c) = h := Fin.ext (by
  show (256 * h.val + c.val) / 256 = h.val
  omega)
theorem at_col (h : Fin 4) (c : Fin 256) : at' (col h c) = c := Fin.ext (by
  show (256 * h.val + c.val) % 256 = c.val
  omega)

variable (A : Args) (t : Fin 4096) (h : Fin 4)

/-- The normed row, its queries, the normed queries and the scores. -/
def H (d : Fin 1024) : ℝ := A.x t d * Norm.rs (A.x t) * A.g d
def Q (c : Fin 256) : ℝ := ∑ d, H A t d * A.w d (col h c)
def N (c : Fin 256) : ℝ := Q A t h c * Norm.rs (Q A t h) * A.gc c
def S (m : Fin 256) : ℝ := (∑ c, N A t h c * A.k h m c) * (1 / 16)
def P (m : Fin 256) : ℝ := Softmax.P (S A t h) m
/-- A head's result, its cotangent, and those of the weights and the scores. -/
def O (c : Fin 256) : ℝ := ∑ m, P A t h m * A.v h m c
def DO (c : Fin 256) : ℝ := ∑ e, A.dy t e * A.wo (col h c) e
def DP (m : Fin 256) : ℝ := ∑ c, DO A t h c * A.v h m c
def DS (m : Fin 256) : ℝ := Softmax.ds (S A t h) (DP A t h) m
/-- The cotangents of the normed queries, of the queries, of the normed row and of the row. -/
def DN (c : Fin 256) : ℝ := (∑ m, DS A t h m * A.k h m c) * (1 / 16)
def DQ (c : Fin 256) : ℝ := Norm.bwd (Q A t h) (fun c => DN A t h c * A.gc c) c
def DH (d : Fin 1024) : ℝ := ∑ n, DQ A t (hd n) (at' n) * A.w d n
def DX (d : Fin 1024) : ℝ := Norm.bwd (A.x t) (fun d => DH A t d * A.g d) d + A.dy t d
/-- What a row adds to the gradients of the gains. -/
def GC (c : Fin 256) : ℝ := DN A t h c * (Q A t h c * Norm.rs (Q A t h))
def GA (d : Fin 1024) : ℝ := DH A t d * (A.x t d * Norm.rs (A.x t))

end Cert.CrossMath

end
-- ==== Proof.CrossTile.lean ====
/-
  A tile of the cross attention's backward kernel at real arguments: every value it computes is the row's real number.
-/
module

public import proofs.«01_k».proof.Proof.CrossRun
public import proofs.«01_k».proof.Proof.CrossMath
public import Idealize.ShloMosaic.Lib.Pointwise
public import Idealize.ShloMosaic.PureOps.Ideal.Laws
public import Idealize.ShloMosaic.Lib.Pipeline.ValueKit

@[expose] public section

set_option maxRecDepth 16384

noncomputable section

namespace Cert.CrossIdeal.Hand

open Cert.CrossIdeal Cert.CrossIdeal.Gen Cert.CrossMath Cert.Rows Cert.Reals
open Idealize.ShloMosaic Idealize.ShloMosaic.TcCoe Idealize.ShloMosaic.Tactic

/-! ## Entries as extended reals -/

abbrev eT (x : Vec Ideal S512x1024 .f32) (r : Fin 512) (d : Fin 1024) : EReal := x (ix2 r d)
abbrev bT (x : Vec Ideal S512x1024 .bf16) (r : Fin 512) (d : Fin 1024) : EReal := x (ix2 r d)
abbrev eH (x : FVec Ideal S512x256 .f32) (r : Fin 512) (c : Fin 256) : EReal := x (ix2 r c)
abbrev bH (x : FVec Ideal S512x256 .bf16) (r : Fin 512) (c : Fin 256) : EReal := x (ix2 r c)
abbrev eG (x : Vec Ideal S1x1024 .f32) (d : Fin 1024) : EReal := x (ix2 0 d)
abbrev eC (x : Vec Ideal S1x256 .f32) (c : Fin 256) : EReal := x (ix2 0 c)
abbrev bW (x : Vec Ideal S1024x1024 .bf16) (d e : Fin 1024) : EReal := x (ix2 d e)
abbrev eW (x : Vec Ideal S1024x1024 .f32) (d e : Fin 1024) : EReal := x (ix2 d e)
abbrev bK (x : Vec Ideal S1x256x256 .bf16) (m c : Fin 256) : EReal := x (ix3 0 m c)
abbrev eM (x : FVec Ideal S256x256 .f32) (m c : Fin 256) : EReal := x (ix2 m c)

theorem w_zero : (FloatOps.ofBits .f32 0x00000000#32 : Ideal .f32) = (0 : EReal) := Ideal.ofBits_zero_f32
theorem w_1024 : Ideal.ofBits .f32 0x44800000#32 = (((1024 : ℕ) : ℝ) : EReal) := ofBits_1024.trans (by norm_num)
theorem w_256 : Ideal.ofBits .f32 0x43800000#32 = (((256 : ℕ) : ℝ) : EReal) := by
  simp [Ideal.ofBits, Ideal.ieee]
  norm_cast
  norm_num
theorem w_16th : Ideal.ofBits .f32 0x3D800000#32 = ((1 / 16 : ℝ) : EReal) := by
  simp [Ideal.ofBits, Ideal.ieee]
  norm_cast
  norm_num

section Apply

variable (x dy : Vec Ideal S512x1024 .f32) (g : Vec Ideal S1x1024 .f32) (w wo : Vec Ideal S1024x1024 .bf16) (gc : Vec Ideal S1x256 .f32)
  (q p : FVec Ideal S512x256 .f32) (ds d : FVec Ideal S512x256 .bf16) (k v : Vec Ideal S1x256x256 .bf16) (b : Vec Ideal S512x1024 .bf16)
  (h : Fin 4) (r : Fin 512)

theorem hb_apply (e : Fin 1024) : bT (k0_pay3 x g) r e
    = eT x r e * Ideal.rsqrt (Ideal.div (∑ k, eT x r k * eT x r k) (Ideal.ofBits .f32 0x44800000#32) + Ideal.ofBits .f32 0x358637BD#32) * eG g e := by
  unfold bT eT eG
  pointwise [k0_pay3]
theorem qc_apply (e : Fin 1024) : eT (k0_pay4 x g w) r e = ∑ d, bT (k0_pay3 x g) r d * bW w d e := by
  unfold bT eT bW
  pointwise [k0_pay4]
theorem sl_apply (u : FVec Ideal S512x1024 .f32) (c : Fin 256) : eH (slT h u) r c = eT u r (col h c) := by
  unfold eH eT
  fin_cases h <;> pointwise [slT] <;> exact congrArg (fun z => u (ix2 r z)) (Fin.ext (by simp [col]))
theorem sq_apply : (sqT q (ix2 r 0) : EReal) = ∑ c, eH q r c * eH q r c := by
  unfold eH
  pointwise [sqT]
theorem qn_apply (c : Fin 256) : bH (qnT gc q) r c
    = eH q r c * Ideal.rsqrt (Ideal.div (∑ c, eH q r c * eH q r c) (Ideal.ofBits .f32 0x43800000#32) + Ideal.ofBits .f32 0x358637BD#32)
      * eC gc c * Ideal.ofBits .f32 0x3D800000#32 := by
  unfold bH eH eC
  pointwise [qnT, k0_pay13, sqT]
/-- A row's scores, and their weights. -/
def sE (m : Fin 256) : EReal := ∑ c, bH (qnT gc q) r c * bK k m c
theorem neg_inf : Ideal.ofBits .f32 0xFF800000#32 = ⊥ := by
  simp [Ideal.ofBits, Ideal.ieee]
theorem p_apply (m : Fin 256) : eH (pT gc q k) r m
    = Ideal.div (Ideal.exp (sE gc q k r m - Finset.fold max ⊥ (sE gc q k r) Finset.univ))
      (∑ m, Ideal.exp (sE gc q k r m - Finset.fold max ⊥ (sE gc q k r) Finset.univ)) := by
  unfold eH
  pointwise [pT, k0_pay14]
  rw [show Ideal.ofBits FTy.f32 4286578688#32 = ⊥ from neg_inf]
  rfl
theorem do_apply (c : Fin 256) : bH (doT h dy wo) r c = ∑ e, eT dy r e * bW wo (col h c) e := by
  unfold doT
  show eH (slT h (k0_pay19 (k0_pay2 dy) wo)) r c = _
  refine (sl_apply h r _ c).trans ?_
  unfold eT bW
  pointwise [k0_pay19, k0_pay2]
theorem dp_apply (m : Fin 256) : eH (dpT d v) r m = ∑ c, bH d r c * bK v m c := by
  unfold bH eH bK
  pointwise [dpT]
theorem ds_apply (m : Fin 256) : bH (dsT p d v) r m = eH p r m * (eH (dpT d v) r m - ∑ m, eH (dpT d v) r m * eH p r m) := by
  unfold bH eH
  pointwise [dsT]
theorem dv_apply (m c : Fin 256) : eM (dvT p d) m c = ∑ r, eH p r m * bH d r c := by
  unfold bH eH eM
  pointwise [dvT]
theorem dk_apply (qn : FVec Ideal S512x256 .bf16) (m c : Fin 256) : eM (dkT ds qn) m c = ∑ r, bH ds r m * bH qn r c := by
  unfold bH eM
  pointwise [dkT]
theorem o_apply (c : Fin 256) : bH (k0_pay21 p v) r c = ∑ m, eH p r m * bK v m c := by
  unfold bH eH bK
  pointwise [k0_pay21, k0_pay20]
theorem dn_apply (c : Fin 256) : eH (k0_pay30 ds k) r c = (∑ m, bH ds r m * bK k m c) * Ideal.ofBits .f32 0x3D800000#32 := by
  unfold bH eH bK
  pointwise [k0_pay30]
theorem rq_apply : (k0_pay31 q (ix2 r 0) : EReal) = Ideal.rsqrt (Ideal.div (∑ c, eH q r c * eH q r c) (Ideal.ofBits .f32 0x43800000#32) + Ideal.ofBits .f32 0x358637BD#32) := by
  unfold eH
  pointwise [k0_pay31]
theorem gr_apply (c : Fin 256) : eH (k0_pay33 q ds k) r c = eH (k0_pay30 ds k) r c * (eH q r c * k0_pay31 q (ix2 r 0)) := by
  unfold eH
  pointwise [k0_pay33, k0_pay32]
theorem dq_apply (c : Fin 256) : bH (k0_pay34 q ds k gc) r c
    = (k0_pay31 q (ix2 r 0) : EReal) * (eH (k0_pay30 ds k) r c * eC gc c - (eH q r c * k0_pay31 q (ix2 r 0)) *
      Ideal.div (∑ c, eH (k0_pay30 ds k) r c * eC gc c * (eH q r c * k0_pay31 q (ix2 r 0))) (Ideal.ofBits .f32 0x43800000#32)) := by
  unfold bH eH eC
  pointwise [k0_pay34, k0_pay32]
theorem wq_apply (a e : Fin 1024) : eW (k0_pay84 (k0_pay3 x g) b) a e = ∑ r, bT (k0_pay3 x g) r a * bT b r e := by
  unfold eW bT
  pointwise [k0_pay84]
theorem wo_apply (u : Vec Ideal S512x1024 .bf16) (a e : Fin 1024) : eW (k0_pay83 b u) a e = ∑ r, bT u r a * bT b r e := by
  unfold eW bT
  pointwise [k0_pay83]
theorem dh_apply (e : Fin 1024) : eT (k0_pay91 b w) r e = ∑ n, bT b r n * bW w e n := by
  unfold eT bT bW
  pointwise [k0_pay91]
theorem rx_apply : (k0_pay92 x (ix2 r 0) : EReal) = Ideal.rsqrt (Ideal.div (∑ c, eT x r c * eT x r c) (Ideal.ofBits .f32 0x44800000#32) + Ideal.ofBits .f32 0x358637BD#32) := by
  unfold eT
  pointwise [k0_pay92]
theorem dx_apply (e : Fin 1024) : eT (k0_pay94 x dy b w g) r e
    = (k0_pay92 x (ix2 r 0) : EReal) * (eT (k0_pay91 b w) r e * eG g e - (eT x r e * k0_pay92 x (ix2 r 0)) *
      Ideal.div (∑ c, eT (k0_pay91 b w) r c * eG g c * (eT x r c * k0_pay92 x (ix2 r 0))) (Ideal.ofBits .f32 0x44800000#32)) + eT dy r e := by
  unfold eT eG
  pointwise [k0_pay94, k0_pay93]
theorem ga_apply (e : Fin 1024) : eG (k0_pay95 x b w) e = ∑ r, eT (k0_pay91 b w) r e * (eT x r e * k0_pay92 x (ix2 r 0)) := by
  unfold eG eT
  pointwise [k0_pay95, k0_pay93]

end Apply

/-! ## The tile's real numbers -/

/-- The tile holds rows `512 * n …` of the arguments, and the other operands hold them whole. -/
structure Tile (A : Args) (n : ℕ) (x dy : Vec Ideal S512x1024 .f32) (g : Vec Ideal S1x1024 .f32) (w : Vec Ideal S1024x1024 .bf16)
    (gc : Vec Ideal S1x256 .f32) (k v : Fin 4 → Vec Ideal S1x256x256 .bf16) (wo : Vec Ideal S1024x1024 .bf16) : Prop where
  x : ∀ r d, eT x r d = (A.x (row n r) d : EReal)
  dy : ∀ r d, eT dy r d = (A.dy (row n r) d : EReal)
  g : ∀ d, eG g d = (A.g d : EReal)
  w : ∀ d e, bW w d e = (A.w d e : EReal)
  gc : ∀ c, eC gc c = (A.gc c : EReal)
  k : ∀ h m c, bK (k h) m c = (A.k h m c : EReal)
  v : ∀ h m c, bK (v h) m c = (A.v h m c : EReal)
  wo : ∀ d e, bW wo d e = (A.wo d e : EReal)

section Real

variable {A : Args} {n : ℕ} {x dy : Vec Ideal S512x1024 .f32} {g : Vec Ideal S1x1024 .f32} {w : Vec Ideal S1024x1024 .bf16}
    {gc : Vec Ideal S1x256 .f32} {k v : Fin 4 → Vec Ideal S1x256x256 .bf16} {wo : Vec Ideal S1024x1024 .bf16}
    (T : Tile A n x dy g w gc k v wo) (h : Fin 4) (r : Fin 512)
include T

theorem r_H (d : Fin 1024) : bT (k0_pay3 x g) r d = (H A (row n r) d : EReal) := by
  rw [hb_apply]
  simp only [T.x, T.g]
  rw [Norm.ms_coe (A.x (row n r)) (by norm_num) w_1024, Norm.rs_coe, ← EReal.coe_mul, ← EReal.coe_mul]
  rfl
theorem r_Q (c : Fin 256) : eH (aQ x g w h) r c = (Q A (row n r) h c : EReal) := by
  unfold aQ
  rw [sl_apply, qc_apply]
  simp only [r_H T, T.w, ← EReal.coe_mul, ← coe_sum]
  rfl
theorem r_N (c : Fin 256) : bH (aN x g w gc h) r c = ((N A (row n r) h c * (1 / 16) : ℝ) : EReal) := by
  unfold aN
  rw [qn_apply]
  simp only [r_Q T, T.gc]
  rw [Norm.ms_coe (Q A (row n r) h) (by norm_num) w_256, Norm.rs_coe, w_16th]
  simp only [← EReal.coe_mul]
  rfl
theorem r_S (m : Fin 256) : sE gc (aQ x g w h) (k h) r m = (S A (row n r) h m : EReal) := by
  unfold sE
  have e : ∀ c, bH (qnT gc (aQ x g w h)) r c = ((N A (row n r) h c * (1 / 16) : ℝ) : EReal) := r_N T h r
  simp only [e, T.k, ← EReal.coe_mul, ← coe_sum]
  refine congrArg _ ?_
  unfold S
  rw [Finset.sum_mul]
  exact Finset.sum_congr rfl fun c _ => by ring
theorem r_P (m : Fin 256) : eH (aP x g w gc k h) r m = (P A (row n r) h m : EReal) := by
  unfold aP
  rw [p_apply]
  have e : sE gc (aQ x g w h) (k h) r = fun m => (S A (row n r) h m : EReal) := funext fun m => r_S T h r m
  rw [e, Softmax.mx_eq]
  simp only [Softmax.ex_coe]
  rw [Softmax.L_coe, Softmax.div_L]
  rfl
theorem r_DO (c : Fin 256) : bH (doT h dy wo) r c = (DO A (row n r) h c : EReal) := by
  rw [do_apply]
  simp only [T.dy, T.wo, ← EReal.coe_mul, ← coe_sum]
  rfl
theorem r_DP (m : Fin 256) : eH (dpT (doT h dy wo) (v h)) r m = (DP A (row n r) h m : EReal) := by
  rw [dp_apply]
  simp only [r_DO T, T.v, ← EReal.coe_mul, ← coe_sum]
  rfl
theorem r_DS (m : Fin 256) : bH (aDS x dy g w gc k v wo h) r m = (DS A (row n r) h m : EReal) := by
  unfold aDS
  rw [ds_apply]
  simp only [r_DP T, r_P T, ← EReal.coe_mul, ← coe_sum, ← EReal.coe_sub]
  rfl
theorem r_O (c : Fin 256) : bH (aO x g w gc k v h) r c = (O A (row n r) h c : EReal) := by
  unfold aO
  rw [o_apply]
  simp only [r_P T, T.v, ← EReal.coe_mul, ← coe_sum]
  rfl
theorem r_DN (c : Fin 256) : eH (k0_pay30 (aDS x dy g w gc k v wo h) (k h)) r c = (DN A (row n r) h c : EReal) := by
  rw [dn_apply, w_16th]
  simp only [r_DS T, T.k, ← EReal.coe_mul, ← coe_sum]
  rfl
theorem r_rq : (k0_pay31 (aQ x g w h) (ix2 r 0) : EReal) = (Norm.rs (Q A (row n r) h) : EReal) := by
  rw [rq_apply]
  simp only [r_Q T]
  rw [Norm.ms_coe (Q A (row n r) h) (by norm_num) w_256, Norm.rs_coe]
theorem r_GR (c : Fin 256) : eH (aGR x dy g w gc k v wo h) r c = (GC A (row n r) h c : EReal) := by
  unfold aGR
  rw [gr_apply, r_DN T, r_rq T, r_Q T]
  simp only [← EReal.coe_mul]
  rfl
theorem r_DQ (c : Fin 256) : bH (aDQ x dy g w gc k v wo h) r c = (DQ A (row n r) h c : EReal) := by
  unfold aDQ
  rw [dq_apply, r_rq T, w_256, Ideal.div_coe (by norm_num)]
  simp only [r_DN T, r_Q T, T.gc, ← EReal.coe_mul, ← coe_sum, ← EReal.coe_sub]
  rfl
theorem r_DV (m c : Fin 256) : eM (aDV x dy g w gc k wo h) m c = ((∑ r, P A (row n r) h m * DO A (row n r) h c : ℝ) : EReal) := by
  unfold aDV
  rw [dv_apply]
  simp only [r_P T, r_DO T, ← EReal.coe_mul, ← coe_sum]
theorem r_DK (m c : Fin 256) : eM (aDK x dy g w gc k v wo h) m c = ((∑ r, DS A (row n r) h m * (N A (row n r) h c * (1 / 16)) : ℝ) : EReal) := by
  unfold aDK
  rw [dk_apply]
  simp only [r_DS T, r_N T, ← EReal.coe_mul, ← coe_sum]
theorem r_GS (c : Fin 256) : eC (aGS x dy g w gc k v wo) c = ((∑ r, ∑ h, GC A (row n r) h c : ℝ) : EReal) := by
  have e : eC (aGS x dy g w gc k v wo) c = ∑ r, (eH (aGR x dy g w gc k v wo 0) r c + eH (aGR x dy g w gc k v wo 1) r c + eH (aGR x dy g w gc k v wo 2) r c
      + eH (aGR x dy g w gc k v wo 3) r c) := by
    unfold eC eH
    pointwise [aGS]
  rw [e]
  simp only [r_GR T, ← EReal.coe_add, ← coe_sum]
  exact congrArg _ (Finset.sum_congr rfl fun r _ => (Fin.sum_univ_four fun h => GC A (row n r) h c).symm)

/-! What the scratch buffers hold goes into the products with the weights and the first norm. -/

variable {bo bq : Vec Ideal S512x1024 .bf16} (ho : ∀ r e, bT bo r e = (O A (row n r) (hd e) (at' e) : EReal))
  (hq : ∀ r e, bT bq r e = (DQ A (row n r) (hd e) (at' e) : EReal))

include hq in
theorem r_DH (d : Fin 1024) : eT (k0_pay91 bq w) r d = (DH A (row n r) d : EReal) := by
  rw [dh_apply]
  simp only [hq, T.w, ← EReal.coe_mul, ← coe_sum]
  rfl
theorem r_rx : (k0_pay92 x (ix2 r 0) : EReal) = (Norm.rs (A.x (row n r)) : EReal) := by
  rw [rx_apply]
  simp only [T.x]
  rw [Norm.ms_coe (A.x (row n r)) (by norm_num) w_1024, Norm.rs_coe]
include hq in
theorem r_DX (d : Fin 1024) : eT (k0_pay94 x dy bq w g) r d = (DX A (row n r) d : EReal) := by
  rw [dx_apply, r_rx T, w_1024, Ideal.div_coe (by norm_num)]
  simp only [r_DH T _ hq, T.x, T.g, T.dy, ← EReal.coe_mul, ← coe_sum, ← EReal.coe_sub, ← EReal.coe_add]
  rfl
include hq in
theorem r_GA (d : Fin 1024) : eG (k0_pay95 x bq w) d = ((∑ r, GA A (row n r) d : ℝ) : EReal) := by
  rw [ga_apply]
  simp only [r_DH T _ hq, T.x, r_rx T, ← EReal.coe_mul, ← coe_sum]
  rfl
include hq in
theorem r_WQ (d e : Fin 1024) : eW (k0_pay84 (k0_pay3 x g) bq) d e = ((∑ r, H A (row n r) d * DQ A (row n r) (hd e) (at' e) : ℝ) : EReal) := by
  rw [wq_apply]
  simp only [r_H T, hq, ← EReal.coe_mul, ← coe_sum]
include ho in
theorem r_WO (d e : Fin 1024) : eW (k0_pay83 (k0_pay2 dy) bo) d e = ((∑ r, O A (row n r) (hd d) (at' d) * A.dy (row n r) e : ℝ) : EReal) := by
  rw [wo_apply]
  have e' : ∀ r e, bT (k0_pay2 dy) r e = (A.dy (row n r) e : EReal) := T.dy
  simp only [ho, e', ← EReal.coe_mul, ← coe_sum]

end Real

end Cert.CrossIdeal.Hand

end
-- ==== Proof.CrossStep.lean ====
/-
  The cross attention's backward kernel, tile after tile: what each buffer holds after the tiles so far.
-/
module

public import proofs.«01_k».proof.Proof.Gen.CrossIdeal.Value
public import proofs.«01_k».proof.Proof.CrossTile
public import Idealize.ShloMosaic.Lib.VecWindow
public import Idealize.ShloMosaic.Lib.WholeRead

@[expose] public section

set_option maxRecDepth 16384

noncomputable section

namespace Cert.CrossIdeal.Hand

open Cert.CrossIdeal Cert.CrossIdeal.Gen Cert.CrossIdeal.Value Cert.CrossMath Cert.Rows Cert.Reals
open Idealize.ShloMosaic Idealize.ShloMosaic.TcCoe Idealize.ShloMosaic.Tactic

/-! ## Reading a store back -/

theorem read_whole {sg : RefSig} {s : Shape} {e : EltTy} (v : View sg .tc .vmem s e) (f : v.ty.Contents (Elt Ideal)) {off : Fin s.rank → ℕ}
    (inb : ∀ a, off a + s.size a ≤ s.size a) (w : Vec Ideal s e) (h : ∀ a, off a = 0) :
    v.read (Elt Ideal) (v.writes (Elt Ideal) f [⟨Rect.unit (s := s) off s.size inb, w⟩]) = w :=
  funext fun y => View.read_writes_cons_unit_of_mem v f inb w [] y y (rfl : off = off) fun a => by rw [h a, Nat.zero_add]

theorem ldW_eq {s : Shape} {e : EltTy} {arg : Memref sig .tc .vmem s e} (harg : arg.IsWhole) (x : Vec Ideal s e)
    {off : Fin s.rank → ℕ} (inb : ∀ a, off a + s.size a ≤ s.size a) (h : ∀ a, off a = 0) : ldW harg x off inb = x :=
  funext fun i => (harg.readAt_unread x _ _).trans (congrArg x (funext fun a => Fin.ext (by
    show off a + 1 * (i a).val = (i a).val
    rw [h a]
    omega)))

theorem ldK_apply {e : EltTy} {arg : Memref sig .tc .vmem S4x256x256 e} (harg : arg.IsWhole) (x : Vec Ideal S4x256x256 e) (h : Fin 4) (m c : Fin 256) :
    ldK harg x h (ix3 0 m c) = x (ix3 h m c) :=
  (harg.readAt_unread x _ _).trans (congrArg x (funext fun a => Fin.ext (by
    fin_cases a
    · show h.val + 1 * 0 = h.val; omega
    · show 0 + 1 * m.val = m.val; omega
    · show 0 + 1 * c.val = c.val; omega)))

theorem z2 : ∀ a : Fin 2, (![0, 0] : Fin 2 → ℕ) a = 0 := by decide

/-- Head `h`'s columns, stored head by head, read back. -/
theorem read_heads (v : View sig .tc .vmem S512x1024 .bf16) (f : v.ty.Contents (Elt Ideal)) (P : Fin 4 → FVec Ideal S512x256 .bf16)
    (h : Fin 4) (r : Fin 512) (c : Fin 256) :
    v.read (Elt Ideal) (v.writes (Elt Ideal) f (View.tilePieces (s := S512x1024) S512x256.size offH offH_inb P 4 (le_refl 4))) (ix2 r (col h c)) = P h (ix2 r c) :=
  View.read_tilePieces v f S512x256.size offH offH_inb P 4 (le_refl 4) (ix2 r (col h c)) h h.isLt (ix2 r c)
    (fun a => by
      fin_cases a
      · exact (Nat.zero_add _).symm
      · rfl) 1
    (fun i hi => by
      have h1 : i.val ≠ h.val := fun e => hi (Fin.ext e)
      show 256 * h.val + c.val < 256 * i.val ∨ 256 * i.val + 256 ≤ 256 * h.val + c.val
      omega)
/-- A heads-first buffer, stored head by head, read back. -/
theorem read_heads3 (v : View sig .tc .vmem S4x256x256 .f32) (f : v.ty.Contents (Elt Ideal)) (P : Fin 4 → FVec Ideal S1x256x256 .f32)
    (h : Fin 4) (m c : Fin 256) :
    v.read (Elt Ideal) (v.writes (Elt Ideal) f (View.tilePieces (s := S4x256x256) S1x256x256.size offK offK_inb P 4 (le_refl 4))) (ix3 h m c) = P h (ix3 0 m c) :=
  View.read_tilePieces v f S1x256x256.size offK offK_inb P 4 (le_refl 4) (ix3 h m c) h h.isLt (ix3 0 m c)
    (fun a => by
      fin_cases a
      · rfl
      · exact (Nat.zero_add _).symm
      · exact (Nat.zero_add _).symm) 0
    (fun i hi => by
      have h1 : i.val ≠ h.val := fun e => hi (Fin.ext e)
      show h.val < i.val ∨ i.val + 1 ≤ h.val
      omega)

/-! ## A tile -/

abbrev e3 (x : Vec Ideal S4x256x256 .f32) (h : Fin 4) (m c : Fin 256) : EReal := x (ix3 h m c)
abbrev e1 (x : Vec Ideal S1x256x256 .f32) (m c : Fin 256) : EReal := x (ix3 0 m c)

theorem p29_apply (u : FVec Ideal S256x256 .f32) (y : Vec Ideal S1x256x256 .f32) (m c : Fin 256) : e1 (k0_pay29 u y) m c = e1 y m c + eM u m c := by
  unfold e1 eM
  pointwise [k0_pay29]
theorem p28_apply (u : FVec Ideal S256x256 .f32) (y : Vec Ideal S1x256x256 .f32) (m c : Fin 256) : e1 (k0_pay28 u y) m c = e1 y m c + eM u m c := by
  unfold e1 eM
  pointwise [k0_pay28]
theorem cast_apply (u : FVec Ideal S256x256 .f32) (m c : Fin 256) : e1 (shapeCast S1x256x256 u shapeCasts_S256x256_S1x256x256) m c = eM u m c := by
  unfold e1 eM
  pointwise []
theorem addC_apply (u y : FVec Ideal S1x256 .f32) (c : Fin 256) : eC (addf (shapeCast S1x256 y shapeCasts_S1x256_S1x256) u) c = eC y c + eC u c := by
  unfold eC
  pointwise []
theorem p1_apply (u : FVec Ideal S1x1024 .f32) (y : Vec Ideal S1x1024 .f32) (d : Fin 1024) : eG (k0_pay1 u y) d = eG y d + eG u d := by
  unfold eG
  pointwise [k0_pay1]
theorem p86_apply (u : FVec Ideal S1024x1024 .f32) (d e : Fin 1024) : eW (k0_pay86 u) d e = eW u d e := by
  unfold eW
  pointwise [k0_pay86]
theorem p85_apply (u : FVec Ideal S1024x1024 .f32) (d e : Fin 1024) : eW (k0_pay85 u) d e = eW u d e := by
  unfold eW
  pointwise [k0_pay85]
theorem p88_apply (u : FVec Ideal S1024x1024 .f32) (y : Vec Ideal S1024x1024 .f32) (d e : Fin 1024) : eW (k0_pay88 u y) d e = eW y d e + eW u d e := by
  unfold eW
  pointwise [k0_pay88]
theorem p87_apply (u : FVec Ideal S1024x1024 .f32) (y : Vec Ideal S1024x1024 .f32) (d e : Fin 1024) : eW (k0_pay87 u y) d e = eW y d e + eW u d e := by
  unfold eW
  pointwise [k0_pay87]

/-- A tile's terms of the accumulated gradients. -/
abbrev tDK (A : Args) (h : Fin 4) (m c : Fin 256) (t : Fin 4096) : ℝ := DS A t h m * (N A t h c * (1 / 16))
abbrev tDV (A : Args) (h : Fin 4) (m c : Fin 256) (t : Fin 4096) : ℝ := P A t h m * DO A t h c
abbrev tGC (A : Args) (c : Fin 256) (t : Fin 4096) : ℝ := ∑ h, GC A t h c
abbrev tGA (A : Args) (d : Fin 1024) (t : Fin 4096) : ℝ := GA A t d
abbrev tWQ (A : Args) (d e : Fin 1024) (t : Fin 4096) : ℝ := H A t d * DQ A t (hd e) (at' e)
abbrev tWO (A : Args) (d e : Fin 1024) (t : Fin 4096) : ℝ := O A t (hd d) (at' d) * A.dy t e

/-- What the accumulators hold after tile `j`. -/
structure Acc (A : Args) (j : ℕ) (dk dv : Vec Ideal S4x256x256 .f32) (gc : Vec Ideal S1x256 .f32) (ga : Vec Ideal S1x1024 .f32)
    (wq wo : Vec Ideal S1024x1024 .f32) : Prop where
  dk : ∀ h m c, e3 dk h m c = (upto (tDK A h m c) j : EReal)
  dv : ∀ h m c, e3 dv h m c = (upto (tDV A h m c) j : EReal)
  gc : ∀ c, eC gc c = (upto (tGC A c) j : EReal)
  ga : ∀ d, eG ga d = (upto (tGA A d) j : EReal)
  wq : ∀ d e, eW wq d e = (upto (tWQ A d e) j : EReal)
  wo : ∀ d e, eW wo d e = (upto (tWO A d e) j : EReal)

section Point

variable (c : Dev nD) (t : Fin cfg0.N) (x0 : Vec Ideal S512x1024 .f32) (x1 : Vec Ideal S512x1024 .f32) (x2 : Vec Ideal S1x1024 .f32) (x3 : Vec Ideal S1024x1024 .bf16)
  (x4 : Vec Ideal S1x256 .f32) (x5 : Vec Ideal S4x256x256 .bf16) (x6 : Vec Ideal S4x256x256 .bf16) (x7 : Vec Ideal S1024x1024 .bf16)
  (xo11 xo12 : Vec Ideal S4x256x256 .f32) (xo13 : Vec Ideal S1x256 .f32) (xo14 : Vec Ideal S1x1024 .f32) (xs0 xs1 : Vec Ideal S1024x1024 .f32)
  {A : Args} {n : ℕ} (T : Tile A n (lX t x0) (lDy t x1) (lG t x2) (lW t x3) (lGc t x4) (lK t x5) (lV t x6) (lWo t x7))

include T

theorem lO_apply (r : Fin 512) (e : Fin 1024) : bT (lO t x0 x2 x3 x4 x5 x6) r e = (O A (row n r) (hd e) (at' e) : EReal) := by
  unfold lO bT
  rw [View.readAt_apply]
  have hi : (Rect.unit (s := S512x1024) ![0, 0] S512x1024.size inb_S512x1024_S512x1024_0_0).toLoadRect.idx (ix2 r e) = ix2 r (col (hd e) (at' e)) := by
    rw [col_hd]
    funext a
    refine Fin.ext ?_
    fin_cases a
    · show 0 + 1 * r.val = r.val; omega
    · show 0 + 1 * e.val = e.val; omega
  rw [hi]
  exact (read_heads scM0_2.view _ _ (hd e) r (at' e)).trans (r_O T (hd e) r (at' e))

theorem lDQ_apply (r : Fin 512) (e : Fin 1024) : bT (lDQ t x0 x1 x2 x3 x4 x5 x6 x7) r e = (DQ A (row n r) (hd e) (at' e) : EReal) := by
  unfold lDQ bT
  rw [View.readAt_apply]
  have hi : (Rect.unit (s := S512x1024) ![0, 0] S512x1024.size inb_S512x1024_S512x1024_0_0).toLoadRect.idx (ix2 r e) = ix2 r (col (hd e) (at' e)) := by
    rw [col_hd]
    funext a
    refine Fin.ext ?_
    fin_cases a
    · show 0 + 1 * r.val = r.val; omega
    · show 0 + 1 * e.val = e.val; omega
  rw [hi]
  exact (read_heads scM0_3.view _ _ (hd e) r (at' e)).trans (r_DQ T (hd e) r (at' e))

/-! What each store leaves: the first tile's stores, then those that add to what lies there. -/

theorem s_dx (v : View sig .tc .vmem S512x1024 .f32) (r : Fin 512) (d : Fin 1024) :
    eT (v.read (Elt Ideal) (v.writes (Elt Ideal) v.junk [⟨Rect.unit (s := S512x1024) ![0, 0] S512x1024.size inb_S512x1024_S512x1024_0_0,
      k0_pay94 (lX t x0) (lDy t x1) (lDQ t x0 x1 x2 x3 x4 x5 x6 x7) (lW t x3) (lG t x2)⟩])) r d = (DX A (row n r) d : EReal) := by
  rw [read_whole v _ _ _ z2]
  exact r_DX T r (lDQ_apply t x0 x1 x2 x3 x4 x5 x6 x7 T) d

theorem a_dk (v : View sig .tc .vmem S4x256x256 .f32) (h : Fin 4) (m d : Fin 256) :
    e3 (v.read (Elt Ideal) (v.writes (Elt Ideal) v.junk (View.tilePieces (s := S4x256x256) S1x256x256.size offK offK_inb (fun h => shapeCast S1x256x256 (aDK (lX t x0) (lDy t x1) (lG t x2) (lW t x3) (lGc t x4) (lK t x5) (lV t x6) (lWo t x7) h) shapeCasts_S256x256_S1x256x256) 4 (le_refl 4)))) h m d
      = ((∑ r, tDK A h m d (row n r) : ℝ) : EReal) := by
  refine (read_heads3 v _ _ h m d).trans ?_
  exact (cast_apply _ m d).trans (r_DK T h m d)
theorem a_dv (v : View sig .tc .vmem S4x256x256 .f32) (h : Fin 4) (m d : Fin 256) :
    e3 (v.read (Elt Ideal) (v.writes (Elt Ideal) v.junk (View.tilePieces (s := S4x256x256) S1x256x256.size offK offK_inb (fun h => shapeCast S1x256x256 (aDV (lX t x0) (lDy t x1) (lG t x2) (lW t x3) (lGc t x4) (lK t x5) (lWo t x7) h) shapeCasts_S256x256_S1x256x256) 4 (le_refl 4)))) h m d
      = ((∑ r, tDV A h m d (row n r) : ℝ) : EReal) := by
  refine (read_heads3 v _ _ h m d).trans ?_
  exact (cast_apply _ m d).trans (r_DV T h m d)
theorem b_dk (v : View sig .tc .vmem S4x256x256 .f32) (h : Fin 4) (m d : Fin 256) :
    e3 (v.read (Elt Ideal) (v.writes (Elt Ideal) v.junk (View.tilePieces (s := S4x256x256) S1x256x256.size offK offK_inb (fun h => k0_pay29 (aDK (lX t x0) (lDy t x1) (lG t x2) (lW t x3) (lGc t x4) (lK t x5) (lV t x6) (lWo t x7) h) (ldK (hs0_11 t) xo11 h)) 4 (le_refl 4)))) h m d
      = e3 xo11 h m d + ((∑ r, tDK A h m d (row n r) : ℝ) : EReal) := by
  refine (read_heads3 v _ _ h m d).trans ?_
  refine (p29_apply _ _ m d).trans ?_
  rw [r_DK T h m d]
  exact congrArg (fun z : EReal => z + _) (ldK_apply (hs0_11 t) xo11 h m d)
theorem b_dv (v : View sig .tc .vmem S4x256x256 .f32) (h : Fin 4) (m d : Fin 256) :
    e3 (v.read (Elt Ideal) (v.writes (Elt Ideal) v.junk (View.tilePieces (s := S4x256x256) S1x256x256.size offK offK_inb (fun h => k0_pay28 (aDV (lX t x0) (lDy t x1) (lG t x2) (lW t x3) (lGc t x4) (lK t x5) (lWo t x7) h) (ldK (hs0_12 t) xo12 h)) 4 (le_refl 4)))) h m d
      = e3 xo12 h m d + ((∑ r, tDV A h m d (row n r) : ℝ) : EReal) := by
  refine (read_heads3 v _ _ h m d).trans ?_
  refine (p28_apply _ _ m d).trans ?_
  rw [r_DV T h m d]
  exact congrArg (fun z : EReal => z + _) (ldK_apply (hs0_12 t) xo12 h m d)

theorem a_gc (v : View sig .tc .vmem S1x256 .f32) (d : Fin 256) :
    eC (v.read (Elt Ideal) (v.writes (Elt Ideal) v.junk [⟨Rect.unit (s := S1x256) ![0, 0] S1x256.size inb_S1x256_S1x256_0_0, aGS (lX t x0) (lDy t x1) (lG t x2) (lW t x3) (lGc t x4) (lK t x5) (lV t x6) (lWo t x7)⟩])) d
      = ((∑ r, tGC A d (row n r) : ℝ) : EReal) := by
  rw [read_whole v _ _ _ z2]
  exact r_GS T d
theorem b_gc (v : View sig .tc .vmem S1x256 .f32) (d : Fin 256) :
    eC (v.read (Elt Ideal) (v.writes (Elt Ideal) v.junk [⟨Rect.unit (s := S1x256) ![0, 0] S1x256.size inb_S1x256_S1x256_0_0, addf (shapeCast S1x256 (ldW (hs0_13 t) xo13 ![0, 0] inb_S1x256_S1x256_0_0) shapeCasts_S1x256_S1x256) (aGS (lX t x0) (lDy t x1) (lG t x2) (lW t x3) (lGc t x4) (lK t x5) (lV t x6) (lWo t x7))⟩])) d
      = eC xo13 d + ((∑ r, tGC A d (row n r) : ℝ) : EReal) := by
  rw [read_whole v _ _ _ z2, ldW_eq (hs0_13 t) xo13 _ z2]
  refine (addC_apply _ _ d).trans ?_
  rw [r_GS T d]

theorem a_ga (v : View sig .tc .vmem S1x1024 .f32) (d : Fin 1024) :
    eG (v.read (Elt Ideal) (v.writes (Elt Ideal) v.junk [⟨Rect.unit (s := S1x1024) ![0, 0] S1x1024.size inb_S1x1024_S1x1024_0_0, k0_pay95 (lX t x0) (lDQ t x0 x1 x2 x3 x4 x5 x6 x7) (lW t x3)⟩])) d
      = ((∑ r, tGA A d (row n r) : ℝ) : EReal) := by
  rw [read_whole v _ _ _ z2]
  exact r_GA T (lDQ_apply t x0 x1 x2 x3 x4 x5 x6 x7 T) d
theorem b_ga (v : View sig .tc .vmem S1x1024 .f32) (d : Fin 1024) :
    eG (v.read (Elt Ideal) (v.writes (Elt Ideal) v.junk [⟨Rect.unit (s := S1x1024) ![0, 0] S1x1024.size inb_S1x1024_S1x1024_0_0, k0_pay1 (k0_pay95 (lX t x0) (lDQ t x0 x1 x2 x3 x4 x5 x6 x7) (lW t x3)) (ldW (hs0_14 t) xo14 ![0, 0] inb_S1x1024_S1x1024_0_0)⟩])) d
      = eG xo14 d + ((∑ r, tGA A d (row n r) : ℝ) : EReal) := by
  rw [read_whole v _ _ _ z2, ldW_eq (hs0_14 t) xo14 _ z2]
  refine (p1_apply _ _ d).trans ?_
  rw [r_GA T (lDQ_apply t x0 x1 x2 x3 x4 x5 x6 x7 T) d]

theorem a_wq (v : View sig .tc .vmem S1024x1024 .f32) (d e : Fin 1024) :
    eW (v.read (Elt Ideal) (v.writes (Elt Ideal) v.junk [⟨Rect.unit (s := S1024x1024) ![0, 0] S1024x1024.size inb_S1024x1024_S1024x1024_0_0, k0_pay86 (k0_pay84 (k0_pay3 (lX t x0) (lG t x2)) (lDQ t x0 x1 x2 x3 x4 x5 x6 x7))⟩])) d e
      = ((∑ r, tWQ A d e (row n r) : ℝ) : EReal) := by
  rw [read_whole v _ _ _ z2]
  exact (p86_apply _ d e).trans (r_WQ T (lDQ_apply t x0 x1 x2 x3 x4 x5 x6 x7 T) d e)
theorem b_wq (v : View sig .tc .vmem S1024x1024 .f32) (d e : Fin 1024) :
    eW (v.read (Elt Ideal) (v.writes (Elt Ideal) v.junk [⟨Rect.unit (s := S1024x1024) ![0, 0] S1024x1024.size inb_S1024x1024_S1024x1024_0_0, k0_pay88 (k0_pay84 (k0_pay3 (lX t x0) (lG t x2)) (lDQ t x0 x1 x2 x3 x4 x5 x6 x7)) (ldW (Memref.isWhole_whole cc0_scratch0) xs0 ![0, 0] inb_S1024x1024_S1024x1024_0_0)⟩])) d e
      = eW xs0 d e + ((∑ r, tWQ A d e (row n r) : ℝ) : EReal) := by
  rw [read_whole v _ _ _ z2, ldW_eq (Memref.isWhole_whole cc0_scratch0) xs0 _ z2]
  refine (p88_apply _ _ d e).trans ?_
  rw [r_WQ T (lDQ_apply t x0 x1 x2 x3 x4 x5 x6 x7 T) d e]

theorem a_wo (v : View sig .tc .vmem S1024x1024 .f32) (d e : Fin 1024) :
    eW (v.read (Elt Ideal) (v.writes (Elt Ideal) v.junk [⟨Rect.unit (s := S1024x1024) ![0, 0] S1024x1024.size inb_S1024x1024_S1024x1024_0_0, k0_pay85 (k0_pay83 (k0_pay2 (lDy t x1)) (lO t x0 x2 x3 x4 x5 x6))⟩])) d e
      = ((∑ r, tWO A d e (row n r) : ℝ) : EReal) := by
  rw [read_whole v _ _ _ z2]
  exact (p85_apply _ d e).trans (r_WO T (lO_apply t x0 x1 x2 x3 x4 x5 x6 x7 T) d e)
theorem b_wo (v : View sig .tc .vmem S1024x1024 .f32) (d e : Fin 1024) :
    eW (v.read (Elt Ideal) (v.writes (Elt Ideal) v.junk [⟨Rect.unit (s := S1024x1024) ![0, 0] S1024x1024.size inb_S1024x1024_S1024x1024_0_0, k0_pay87 (k0_pay83 (k0_pay2 (lDy t x1)) (lO t x0 x2 x3 x4 x5 x6)) (ldW (Memref.isWhole_whole cc0_scratch1) xs1 ![0, 0] inb_S1024x1024_S1024x1024_0_0)⟩])) d e
      = eW xs1 d e + ((∑ r, tWO A d e (row n r) : ℝ) : EReal) := by
  rw [read_whole v _ _ _ z2, ldW_eq (Memref.isWhole_whole cc0_scratch1) xs1 _ z2]
  refine (p87_apply _ _ d e).trans ?_
  rw [r_WO T (lO_apply t x0 x1 x2 x3 x4 x5 x6 x7 T) d e]

end Point

end Cert.CrossIdeal.Hand

end
-- ==== Proof.CrossFold.lean ====
/-
  The cross attention's backward kernel over its eight tiles: the row gradients, and the accumulators after each tile.
-/
module

public import proofs.«01_k».proof.Proof.CrossStep

@[expose] public section

set_option maxRecDepth 16384

noncomputable section

namespace Cert.CrossIdeal.Hand

open Cert.CrossIdeal Cert.CrossIdeal.Gen Cert.CrossIdeal.Value Cert.CrossMath Cert.Rows Cert.Reals
open Idealize.ShloMosaic Idealize.ShloMosaic.TcCoe Idealize.ShloMosaic.Tactic

/-- The carried values: the seven results' buffers and the two weight accumulators. -/
abbrev Carried := Vec Ideal S512x1024 .f32 × Vec Ideal S1024x1024 .bf16 × Vec Ideal S1024x1024 .bf16 × Vec Ideal S4x256x256 .f32 × Vec Ideal S4x256x256 .f32 × Vec Ideal S1x256 .f32 × Vec Ideal S1x1024 .f32 × Vec Ideal S1024x1024 .f32 × Vec Ideal S1024x1024 .f32
/-- The accumulators of the carried values after tile `j`. -/
abbrev AccOf (A : Args) (j : ℕ) (s : Carried) : Prop := Acc A j s.2.2.2.1 s.2.2.2.2.1 s.2.2.2.2.2.1 s.2.2.2.2.2.2.1 s.2.2.2.2.2.2.2.1 s.2.2.2.2.2.2.2.2

variable (m : (ℓ : Loc nD τ sig) → Buf (Elt Ideal) ℓ) (c : Dev nD) (A : Args)

/-- The blocks a point reads hold the tile's rows. -/
abbrev TileAt (t : Fin cfg0.N) : Prop := Tile A t.val (lX t (iblk m c 0 t)) (lDy t (iblk m c 1 t)) (lG t (iblk m c 2 t)) (lW t (iblk m c 3 t))
  (lGc t (iblk m c 4 t)) (lK t (iblk m c 5 t)) (lV t (iblk m c 6 t)) (lWo t (iblk m c 7 t))

section Case

variable {m c A} (t : Fin cfg0.N) (T : TileAt m c A t) (s : Carried)
include T

theorem dx_A (h0 : t.val % 8 = 0) (h1 : ¬ 1 ≤ t.val) (h7 : ¬ t.val % 8 = 7) (r : Fin 512) (d : Fin 1024) :
    eT (stAt0 m c t.val t.isLt s).1 r d = (DX A (row t.val r) d : EReal) := by
  refine (congrArg (fun z : Carried => eT z.1 r d) (stAt0_A m c t s h0 h1 h0 h1 h0 h1 h0 h1 h0 h1 h0 h1 h7 h0 h1)).trans ?_
  dsimp only
  unfold out0_A_8
  rw [rA_dx c t _ _ _ _ _ _ _ _ h0 h1 h7]
  exact s_dx t (iblk m c 0 t) (iblk m c 1 t) (iblk m c 2 t) (iblk m c 3 t) (iblk m c 4 t) (iblk m c 5 t) (iblk m c 6 t) (iblk m c 7 t) T _ r d
theorem acc_A (h0 : t.val % 8 = 0) (h1 : ¬ 1 ≤ t.val) (h7 : ¬ t.val % 8 = 7) : AccOf A 0 (stAt0 m c t.val t.isLt s) := by
  have ht : t.val = 0 := by omega
  refine ⟨fun h a d => ?_, fun h a d => ?_, fun d => ?_, fun d => ?_, fun d e => ?_, fun d e => ?_⟩
  · refine (congrArg (fun z : Carried => e3 z.2.2.2.1 h a d) (stAt0_A m c t s h0 h1 h0 h1 h0 h1 h0 h1 h0 h1 h0 h1 h7 h0 h1)).trans ?_
    dsimp only
    unfold out0_A_11
    rw [rA_dk c t _ _ _ _ _ _ _ _ h0 h1 h7]
    rw [a_dk t (iblk m c 0 t) (iblk m c 1 t) (iblk m c 2 t) (iblk m c 3 t) (iblk m c 4 t) (iblk m c 5 t) (iblk m c 6 t) (iblk m c 7 t) T, upto_zero, ht]
  · refine (congrArg (fun z : Carried => e3 z.2.2.2.2.1 h a d) (stAt0_A m c t s h0 h1 h0 h1 h0 h1 h0 h1 h0 h1 h0 h1 h7 h0 h1)).trans ?_
    dsimp only
    unfold out0_A_12
    rw [rA_dv c t _ _ _ _ _ _ _ _ h0 h1 h7]
    rw [a_dv t (iblk m c 0 t) (iblk m c 1 t) (iblk m c 2 t) (iblk m c 3 t) (iblk m c 4 t) (iblk m c 5 t) (iblk m c 6 t) (iblk m c 7 t) T, upto_zero, ht]
  · refine (congrArg (fun z : Carried => eC z.2.2.2.2.2.1 d) (stAt0_A m c t s h0 h1 h0 h1 h0 h1 h0 h1 h0 h1 h0 h1 h7 h0 h1)).trans ?_
    dsimp only
    unfold out0_A_13
    rw [rA_gc c t _ _ _ _ _ _ _ _ h0 h1 h7]
    rw [a_gc t (iblk m c 0 t) (iblk m c 1 t) (iblk m c 2 t) (iblk m c 3 t) (iblk m c 4 t) (iblk m c 5 t) (iblk m c 6 t) (iblk m c 7 t) T, upto_zero, ht]
  · refine (congrArg (fun z : Carried => eG z.2.2.2.2.2.2.1 d) (stAt0_A m c t s h0 h1 h0 h1 h0 h1 h0 h1 h0 h1 h0 h1 h7 h0 h1)).trans ?_
    dsimp only
    unfold out0_A_14
    rw [rA_g c t _ _ _ _ _ _ _ _ h0 h1 h7]
    rw [a_ga t (iblk m c 0 t) (iblk m c 1 t) (iblk m c 2 t) (iblk m c 3 t) (iblk m c 4 t) (iblk m c 5 t) (iblk m c 6 t) (iblk m c 7 t) T, upto_zero, ht]
  · refine (congrArg (fun z : Carried => eW z.2.2.2.2.2.2.2.1 d e) (stAt0_A m c t s h0 h1 h0 h1 h0 h1 h0 h1 h0 h1 h0 h1 h7 h0 h1)).trans ?_
    dsimp only
    unfold sout0_A_0
    rw [rA_sq c t _ _ _ _ _ _ _ _ h0 h1 h7]
    rw [a_wq t (iblk m c 0 t) (iblk m c 1 t) (iblk m c 2 t) (iblk m c 3 t) (iblk m c 4 t) (iblk m c 5 t) (iblk m c 6 t) (iblk m c 7 t) T, upto_zero, ht]
  · refine (congrArg (fun z : Carried => eW z.2.2.2.2.2.2.2.2 d e) (stAt0_A m c t s h0 h1 h0 h1 h0 h1 h0 h1 h0 h1 h0 h1 h7 h0 h1)).trans ?_
    dsimp only
    unfold sout0_A_1
    rw [rA_so c t _ _ _ _ _ _ _ _ h0 h1 h7]
    rw [a_wo t (iblk m c 0 t) (iblk m c 1 t) (iblk m c 2 t) (iblk m c 3 t) (iblk m c 4 t) (iblk m c 5 t) (iblk m c 6 t) (iblk m c 7 t) T, upto_zero, ht]
theorem dx_B (h0 : ¬ t.val % 8 = 0) (h1 : 1 ≤ t.val) (h7 : ¬ t.val % 8 = 7) (r : Fin 512) (d : Fin 1024) :
    eT (stAt0 m c t.val t.isLt s).1 r d = (DX A (row t.val r) d : EReal) := by
  refine (congrArg (fun z : Carried => eT z.1 r d) (stAt0_B m c t s h0 h1 h0 h1 h0 h1 h0 h1 h0 h1 h0 h1 h7 h0 h1)).trans ?_
  dsimp only
  unfold out0_B_8
  rw [rB_dx c t _ _ _ _ _ _ _ _ _ _ _ _ _ _ h0 h1 h7]
  exact s_dx t (iblk m c 0 t) (iblk m c 1 t) (iblk m c 2 t) (iblk m c 3 t) (iblk m c 4 t) (iblk m c 5 t) (iblk m c 6 t) (iblk m c 7 t) T _ r d
theorem acc_B (h0 : ¬ t.val % 8 = 0) (h1 : 1 ≤ t.val) (h7 : ¬ t.val % 8 = 7) (n : ℕ) (ht : t.val = n + 1) (hs : AccOf A n s) : AccOf A (n + 1) (stAt0 m c t.val t.isLt s) := by
  refine ⟨fun h a d => ?_, fun h a d => ?_, fun d => ?_, fun d => ?_, fun d e => ?_, fun d e => ?_⟩
  · refine (congrArg (fun z : Carried => e3 z.2.2.2.1 h a d) (stAt0_B m c t s h0 h1 h0 h1 h0 h1 h0 h1 h0 h1 h0 h1 h7 h0 h1)).trans ?_
    dsimp only
    unfold out0_B_11
    rw [rB_dk c t _ _ _ _ _ _ _ _ _ _ _ _ _ _ h0 h1 h7]
    rw [b_dk t (iblk m c 0 t) (iblk m c 1 t) (iblk m c 2 t) (iblk m c 3 t) (iblk m c 4 t) (iblk m c 5 t) (iblk m c 6 t) (iblk m c 7 t) s.2.2.2.1 T, hs.dk, upto_succ, ← ht, EReal.coe_add]
  · refine (congrArg (fun z : Carried => e3 z.2.2.2.2.1 h a d) (stAt0_B m c t s h0 h1 h0 h1 h0 h1 h0 h1 h0 h1 h0 h1 h7 h0 h1)).trans ?_
    dsimp only
    unfold out0_B_12
    rw [rB_dv c t _ _ _ _ _ _ _ _ _ _ _ _ _ _ h0 h1 h7]
    rw [b_dv t (iblk m c 0 t) (iblk m c 1 t) (iblk m c 2 t) (iblk m c 3 t) (iblk m c 4 t) (iblk m c 5 t) (iblk m c 6 t) (iblk m c 7 t) s.2.2.2.2.1 T, hs.dv, upto_succ, ← ht, EReal.coe_add]
  · refine (congrArg (fun z : Carried => eC z.2.2.2.2.2.1 d) (stAt0_B m c t s h0 h1 h0 h1 h0 h1 h0 h1 h0 h1 h0 h1 h7 h0 h1)).trans ?_
    dsimp only
    unfold out0_B_13
    rw [rB_gc c t _ _ _ _ _ _ _ _ _ _ _ _ _ _ h0 h1 h7]
    rw [b_gc t (iblk m c 0 t) (iblk m c 1 t) (iblk m c 2 t) (iblk m c 3 t) (iblk m c 4 t) (iblk m c 5 t) (iblk m c 6 t) (iblk m c 7 t) s.2.2.2.2.2.1 T, hs.gc, upto_succ, ← ht, EReal.coe_add]
  · refine (congrArg (fun z : Carried => eG z.2.2.2.2.2.2.1 d) (stAt0_B m c t s h0 h1 h0 h1 h0 h1 h0 h1 h0 h1 h0 h1 h7 h0 h1)).trans ?_
    dsimp only
    unfold out0_B_14
    rw [rB_g c t _ _ _ _ _ _ _ _ _ _ _ _ _ _ h0 h1 h7]
    rw [b_ga t (iblk m c 0 t) (iblk m c 1 t) (iblk m c 2 t) (iblk m c 3 t) (iblk m c 4 t) (iblk m c 5 t) (iblk m c 6 t) (iblk m c 7 t) s.2.2.2.2.2.2.1 T, hs.ga, upto_succ, ← ht, EReal.coe_add]
  · refine (congrArg (fun z : Carried => eW z.2.2.2.2.2.2.2.1 d e) (stAt0_B m c t s h0 h1 h0 h1 h0 h1 h0 h1 h0 h1 h0 h1 h7 h0 h1)).trans ?_
    dsimp only
    unfold sout0_B_0
    rw [rB_sq c t _ _ _ _ _ _ _ _ _ _ _ _ _ _ h0 h1 h7]
    rw [b_wq t (iblk m c 0 t) (iblk m c 1 t) (iblk m c 2 t) (iblk m c 3 t) (iblk m c 4 t) (iblk m c 5 t) (iblk m c 6 t) (iblk m c 7 t) s.2.2.2.2.2.2.2.1 T, hs.wq, upto_succ, ← ht, EReal.coe_add]
  · refine (congrArg (fun z : Carried => eW z.2.2.2.2.2.2.2.2 d e) (stAt0_B m c t s h0 h1 h0 h1 h0 h1 h0 h1 h0 h1 h0 h1 h7 h0 h1)).trans ?_
    dsimp only
    unfold sout0_B_1
    rw [rB_so c t _ _ _ _ _ _ _ _ _ _ _ _ _ _ h0 h1 h7]
    rw [b_wo t (iblk m c 0 t) (iblk m c 1 t) (iblk m c 2 t) (iblk m c 3 t) (iblk m c 4 t) (iblk m c 5 t) (iblk m c 6 t) (iblk m c 7 t) s.2.2.2.2.2.2.2.2 T, hs.wo, upto_succ, ← ht, EReal.coe_add]
theorem dx_C (h0 : ¬ t.val % 8 = 0) (h1 : 1 ≤ t.val) (h7 : t.val % 8 = 7) (r : Fin 512) (d : Fin 1024) :
    eT (stAt0 m c t.val t.isLt s).1 r d = (DX A (row t.val r) d : EReal) := by
  refine (congrArg (fun z : Carried => eT z.1 r d) (stAt0_C m c t s h0 h1 h0 h1 h0 h1 h0 h1 h0 h1 h0 h1 h7 h0 h1)).trans ?_
  dsimp only
  unfold out0_C_8
  rw [rC_dx c t _ _ _ _ _ _ _ _ _ _ _ _ _ _ h0 h1 h7]
  exact s_dx t (iblk m c 0 t) (iblk m c 1 t) (iblk m c 2 t) (iblk m c 3 t) (iblk m c 4 t) (iblk m c 5 t) (iblk m c 6 t) (iblk m c 7 t) T _ r d
theorem acc_C (h0 : ¬ t.val % 8 = 0) (h1 : 1 ≤ t.val) (h7 : t.val % 8 = 7) (n : ℕ) (ht : t.val = n + 1) (hs : AccOf A n s) : AccOf A (n + 1) (stAt0 m c t.val t.isLt s) := by
  refine ⟨fun h a d => ?_, fun h a d => ?_, fun d => ?_, fun d => ?_, fun d e => ?_, fun d e => ?_⟩
  · refine (congrArg (fun z : Carried => e3 z.2.2.2.1 h a d) (stAt0_C m c t s h0 h1 h0 h1 h0 h1 h0 h1 h0 h1 h0 h1 h7 h0 h1)).trans ?_
    dsimp only
    unfold out0_C_11
    rw [rC_dk c t _ _ _ _ _ _ _ _ _ _ _ _ _ _ h0 h1 h7]
    rw [b_dk t (iblk m c 0 t) (iblk m c 1 t) (iblk m c 2 t) (iblk m c 3 t) (iblk m c 4 t) (iblk m c 5 t) (iblk m c 6 t) (iblk m c 7 t) s.2.2.2.1 T, hs.dk, upto_succ, ← ht, EReal.coe_add]
  · refine (congrArg (fun z : Carried => e3 z.2.2.2.2.1 h a d) (stAt0_C m c t s h0 h1 h0 h1 h0 h1 h0 h1 h0 h1 h0 h1 h7 h0 h1)).trans ?_
    dsimp only
    unfold out0_C_12
    rw [rC_dv c t _ _ _ _ _ _ _ _ _ _ _ _ _ _ h0 h1 h7]
    rw [b_dv t (iblk m c 0 t) (iblk m c 1 t) (iblk m c 2 t) (iblk m c 3 t) (iblk m c 4 t) (iblk m c 5 t) (iblk m c 6 t) (iblk m c 7 t) s.2.2.2.2.1 T, hs.dv, upto_succ, ← ht, EReal.coe_add]
  · refine (congrArg (fun z : Carried => eC z.2.2.2.2.2.1 d) (stAt0_C m c t s h0 h1 h0 h1 h0 h1 h0 h1 h0 h1 h0 h1 h7 h0 h1)).trans ?_
    dsimp only
    unfold out0_C_13
    rw [rC_gc c t _ _ _ _ _ _ _ _ _ _ _ _ _ _ h0 h1 h7]
    rw [b_gc t (iblk m c 0 t) (iblk m c 1 t) (iblk m c 2 t) (iblk m c 3 t) (iblk m c 4 t) (iblk m c 5 t) (iblk m c 6 t) (iblk m c 7 t) s.2.2.2.2.2.1 T, hs.gc, upto_succ, ← ht, EReal.coe_add]
  · refine (congrArg (fun z : Carried => eG z.2.2.2.2.2.2.1 d) (stAt0_C m c t s h0 h1 h0 h1 h0 h1 h0 h1 h0 h1 h0 h1 h7 h0 h1)).trans ?_
    dsimp only
    unfold out0_C_14
    rw [rC_g c t _ _ _ _ _ _ _ _ _ _ _ _ _ _ h0 h1 h7]
    rw [b_ga t (iblk m c 0 t) (iblk m c 1 t) (iblk m c 2 t) (iblk m c 3 t) (iblk m c 4 t) (iblk m c 5 t) (iblk m c 6 t) (iblk m c 7 t) s.2.2.2.2.2.2.1 T, hs.ga, upto_succ, ← ht, EReal.coe_add]
  · refine (congrArg (fun z : Carried => eW z.2.2.2.2.2.2.2.1 d e) (stAt0_C m c t s h0 h1 h0 h1 h0 h1 h0 h1 h0 h1 h0 h1 h7 h0 h1)).trans ?_
    dsimp only
    unfold sout0_C_0
    rw [rC_sq c t _ _ _ _ _ _ _ _ _ _ _ _ _ _ h0 h1 h7]
    rw [b_wq t (iblk m c 0 t) (iblk m c 1 t) (iblk m c 2 t) (iblk m c 3 t) (iblk m c 4 t) (iblk m c 5 t) (iblk m c 6 t) (iblk m c 7 t) s.2.2.2.2.2.2.2.1 T, hs.wq, upto_succ, ← ht, EReal.coe_add]
  · refine (congrArg (fun z : Carried => eW z.2.2.2.2.2.2.2.2 d e) (stAt0_C m c t s h0 h1 h0 h1 h0 h1 h0 h1 h0 h1 h0 h1 h7 h0 h1)).trans ?_
    dsimp only
    unfold sout0_C_1
    rw [rC_so c t _ _ _ _ _ _ _ _ _ _ _ _ _ _ h0 h1 h7]
    rw [b_wo t (iblk m c 0 t) (iblk m c 1 t) (iblk m c 2 t) (iblk m c 3 t) (iblk m c 4 t) (iblk m c 5 t) (iblk m c 6 t) (iblk m c 7 t) s.2.2.2.2.2.2.2.2 T, hs.wo, upto_succ, ← ht, EReal.coe_add]
theorem c_wq (h0 : ¬ t.val % 8 = 0) (h1 : 1 ≤ t.val) (h7 : t.val % 8 = 7) (d e : Fin 1024) :
    bW (VO0_9.read (Elt Ideal) (VO0_9.writes (Elt Ideal) VO0_9.junk (rC c t (iblk m c 0 t) (iblk m c 1 t) (iblk m c 2 t) (iblk m c 3 t) (iblk m c 4 t) (iblk m c 5 t) (iblk m c 6 t) (iblk m c 7 t) s.2.2.2.1 s.2.2.2.2.1 s.2.2.2.2.2.1 s.2.2.2.2.2.2.1 s.2.2.2.2.2.2.2.1 s.2.2.2.2.2.2.2.2 h0 h1 h7).2.1)) d e
      = eW (VS0_0.read (Elt Ideal) (VS0_0.writes (Elt Ideal) VS0_0.junk (rC c t (iblk m c 0 t) (iblk m c 1 t) (iblk m c 2 t) (iblk m c 3 t) (iblk m c 4 t) (iblk m c 5 t) (iblk m c 6 t) (iblk m c 7 t) s.2.2.2.1 s.2.2.2.2.1 s.2.2.2.2.2.1 s.2.2.2.2.2.2.1 s.2.2.2.2.2.2.2.1 s.2.2.2.2.2.2.2.2 h0 h1 h7).2.2.2.2.2.2.2.1)) d e := by
  have e1 := rC_wq c t (iblk m c 0 t) (iblk m c 1 t) (iblk m c 2 t) (iblk m c 3 t) (iblk m c 4 t) (iblk m c 5 t) (iblk m c 6 t) (iblk m c 7 t) s.2.2.2.1 s.2.2.2.2.1 s.2.2.2.2.2.1 s.2.2.2.2.2.2.1 s.2.2.2.2.2.2.2.1 s.2.2.2.2.2.2.2.2 h0 h1 h7
  have e2 := rC_sq c t (iblk m c 0 t) (iblk m c 1 t) (iblk m c 2 t) (iblk m c 3 t) (iblk m c 4 t) (iblk m c 5 t) (iblk m c 6 t) (iblk m c 7 t) s.2.2.2.1 s.2.2.2.2.1 s.2.2.2.2.2.1 s.2.2.2.2.2.2.1 s.2.2.2.2.2.2.2.1 s.2.2.2.2.2.2.2.2 h0 h1 h7
  refine (congrArg (fun z => bW (VO0_9.read (Elt Ideal) (VO0_9.writes (Elt Ideal) VO0_9.junk z)) d e) (e1.trans (congrArg (fun (z : List (View.Piece (Elt Ideal) S1024x1024 .f32)) =>
    ([⟨Rect.unit (s := S1024x1024) ![0, 0] S1024x1024.size inb_S1024x1024_S1024x1024_0_0, k0_pay90 (scM0_0.view.readCov z (Rect.unit (s := S1024x1024) ![0, 0] S1024x1024.size inb_S1024x1024_S1024x1024_0_0).toLoadRect)⟩] : List (View.Piece (Elt Ideal) S1024x1024 .bf16))) e2))).trans
    (Eq.trans ?_ (congrArg (fun z => eW (VS0_0.read (Elt Ideal) (VS0_0.writes (Elt Ideal) VS0_0.junk z)) d e) e2).symm)
  unfold bW eW
  rw [read_whole _ _ _ _ z2, read_whole _ _ _ _ z2, View.readCov_full]
  rfl
/-- At the last tile the result takes the accumulator. -/
theorem last_wq (h0 : ¬ t.val % 8 = 0) (h1 : 1 ≤ t.val) (h7 : t.val % 8 = 7) (d e : Fin 1024) : bW (stAt0 m c t.val t.isLt s).2.1 d e = eW (stAt0 m c t.val t.isLt s).2.2.2.2.2.2.2.1 d e := by
  refine (congrArg (fun z : Carried => bW z.2.1 d e) (stAt0_C m c t s h0 h1 h0 h1 h0 h1 h0 h1 h0 h1 h0 h1 h7 h0 h1)).trans
    (Eq.trans ?_ (congrArg (fun z : Carried => eW z.2.2.2.2.2.2.2.1 d e) (stAt0_C m c t s h0 h1 h0 h1 h0 h1 h0 h1 h0 h1 h0 h1 h7 h0 h1)).symm)
  dsimp only
  unfold out0_C_9 sout0_C_0
  exact c_wq t T s h0 h1 h7 d e
theorem c_wo (h0 : ¬ t.val % 8 = 0) (h1 : 1 ≤ t.val) (h7 : t.val % 8 = 7) (d e : Fin 1024) :
    bW (VO0_10.read (Elt Ideal) (VO0_10.writes (Elt Ideal) VO0_10.junk (rC c t (iblk m c 0 t) (iblk m c 1 t) (iblk m c 2 t) (iblk m c 3 t) (iblk m c 4 t) (iblk m c 5 t) (iblk m c 6 t) (iblk m c 7 t) s.2.2.2.1 s.2.2.2.2.1 s.2.2.2.2.2.1 s.2.2.2.2.2.2.1 s.2.2.2.2.2.2.2.1 s.2.2.2.2.2.2.2.2 h0 h1 h7).2.2.1)) d e
      = eW (VS0_1.read (Elt Ideal) (VS0_1.writes (Elt Ideal) VS0_1.junk (rC c t (iblk m c 0 t) (iblk m c 1 t) (iblk m c 2 t) (iblk m c 3 t) (iblk m c 4 t) (iblk m c 5 t) (iblk m c 6 t) (iblk m c 7 t) s.2.2.2.1 s.2.2.2.2.1 s.2.2.2.2.2.1 s.2.2.2.2.2.2.1 s.2.2.2.2.2.2.2.1 s.2.2.2.2.2.2.2.2 h0 h1 h7).2.2.2.2.2.2.2.2.1)) d e := by
  have e1 := rC_wo c t (iblk m c 0 t) (iblk m c 1 t) (iblk m c 2 t) (iblk m c 3 t) (iblk m c 4 t) (iblk m c 5 t) (iblk m c 6 t) (iblk m c 7 t) s.2.2.2.1 s.2.2.2.2.1 s.2.2.2.2.2.1 s.2.2.2.2.2.2.1 s.2.2.2.2.2.2.2.1 s.2.2.2.2.2.2.2.2 h0 h1 h7
  have e2 := rC_so c t (iblk m c 0 t) (iblk m c 1 t) (iblk m c 2 t) (iblk m c 3 t) (iblk m c 4 t) (iblk m c 5 t) (iblk m c 6 t) (iblk m c 7 t) s.2.2.2.1 s.2.2.2.2.1 s.2.2.2.2.2.1 s.2.2.2.2.2.2.1 s.2.2.2.2.2.2.2.1 s.2.2.2.2.2.2.2.2 h0 h1 h7
  refine (congrArg (fun z => bW (VO0_10.read (Elt Ideal) (VO0_10.writes (Elt Ideal) VO0_10.junk z)) d e) (e1.trans (congrArg (fun (z : List (View.Piece (Elt Ideal) S1024x1024 .f32)) =>
    ([⟨Rect.unit (s := S1024x1024) ![0, 0] S1024x1024.size inb_S1024x1024_S1024x1024_0_0, k0_pay89 (scM0_1.view.readCov z (Rect.unit (s := S1024x1024) ![0, 0] S1024x1024.size inb_S1024x1024_S1024x1024_0_0).toLoadRect)⟩] : List (View.Piece (Elt Ideal) S1024x1024 .bf16))) e2))).trans
    (Eq.trans ?_ (congrArg (fun z => eW (VS0_1.read (Elt Ideal) (VS0_1.writes (Elt Ideal) VS0_1.junk z)) d e) e2).symm)
  unfold bW eW
  rw [read_whole _ _ _ _ z2, read_whole _ _ _ _ z2, View.readCov_full]
  rfl
/-- At the last tile the result takes the accumulator. -/
theorem last_wo (h0 : ¬ t.val % 8 = 0) (h1 : 1 ≤ t.val) (h7 : t.val % 8 = 7) (d e : Fin 1024) : bW (stAt0 m c t.val t.isLt s).2.2.1 d e = eW (stAt0 m c t.val t.isLt s).2.2.2.2.2.2.2.2 d e := by
  refine (congrArg (fun z : Carried => bW z.2.2.1 d e) (stAt0_C m c t s h0 h1 h0 h1 h0 h1 h0 h1 h0 h1 h0 h1 h7 h0 h1)).trans
    (Eq.trans ?_ (congrArg (fun z : Carried => eW z.2.2.2.2.2.2.2.2 d e) (stAt0_C m c t s h0 h1 h0 h1 h0 h1 h0 h1 h0 h1 h0 h1 h7 h0 h1)).symm)
  dsimp only
  unfold out0_C_10 sout0_C_1
  exact c_wo t T s h0 h1 h7 d e

end Case

end Cert.CrossIdeal.Hand

end
-- ==== Proof.CrossEnd.lean ====
/-
  The cross attention's backward kernel from its arguments: what the seven results hold when the arguments are real.
-/
module

public import proofs.«01_k».proof.Proof.CrossFold
public import Idealize.ShloMosaic.Lib.StableHlo.ReadAt

@[expose] public section

set_option maxRecDepth 16384

noncomputable section

namespace Cert.CrossIdeal.Hand

open Cert.CrossIdeal Cert.CrossIdeal.Gen Cert.CrossIdeal.Value Cert.CrossMath Cert.Rows Cert.Reals
open Idealize.ShloMosaic Idealize.ShloMosaic.TcCoe Idealize.ShloMosaic.Tactic

/-- Arrays that hold the arguments' real numbers. -/
structure Holds (A : Args) (x : Vec Ideal S4096x1024 .f32) (g : Vec Ideal S1x1024 .f32) (w : Vec Ideal S1024x1024 .f32) (gc : Vec Ideal S1x256 .f32)
    (k v : Vec Ideal S256x4x256 .f32) (wo : Vec Ideal S1024x1024 .f32) (dy : Vec Ideal S4096x1024 .f32) : Prop where
  x : ∀ t d, x (ix2 t d) = (A.x t d : EReal)
  g : ∀ d, g (ix2 0 d) = (A.g d : EReal)
  w : ∀ d e, w (ix2 d e) = (A.w d e : EReal)
  gc : ∀ c, gc (ix2 0 c) = (A.gc c : EReal)
  k : ∀ h m c, k (ix3 m h c) = (A.k h m c : EReal)
  v : ∀ h m c, v (ix3 m h c) = (A.v h m c : EReal)
  wo : ∀ d e, wo (ix2 d e) = (A.wo d e : EReal)
  dy : ∀ t d, dy (ix2 t d) = (A.dy t d : EReal)

variable (m : (ℓ : Loc nD τ sig) → Buf (Elt Ideal) ℓ) (c : Dev nD) (A : Args)

theorem V_k (h : Fin 4) (a b : Fin 256) : V m c main_v1 (ix3 h a b) = m (c.tc.loc main_arg4) (ix3 a h b) := by
  unfold V
  after_reads_at
theorem V_v (h : Fin 4) (a b : Fin 256) : V m c main_v3 (ix3 h a b) = m (c.tc.loc main_arg5) (ix3 a h b) := by
  unfold V
  after_reads_at
theorem V_w (d e : Fin 1024) : V m c main_v4 (ix2 d e) = m (c.tc.loc main_arg2) (ix2 d e) := by
  unfold V
  after_reads_simp
  rfl
theorem V_wo (d e : Fin 1024) : V m c main_v5 (ix2 d e) = m (c.tc.loc main_arg6) (ix2 d e) := by
  unfold V
  after_reads_simp
  rfl
theorem V_x (i : S4096x1024.Idx) : V m c main_arg0 i = m (c.tc.loc main_arg0) i := by
  unfold V
  after_reads_simp
theorem V_dy (i : S4096x1024.Idx) : V m c main_arg7 i = m (c.tc.loc main_arg7) i := by
  unfold V
  after_reads_simp
theorem V_g (i : S1x1024.Idx) : V m c main_arg1 i = m (c.tc.loc main_arg1) i := by
  unfold V
  after_reads_simp
theorem V_gc (i : S1x256.Idx) : V m c main_arg3 i = m (c.tc.loc main_arg3) i := by
  unfold V
  after_reads_simp

/-- The block indices of the input windows at tile `t`: the rows' windows move, the others stay. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0, 0] ∧ win0_6.index t = ![0, 0, 0] ∧ win0_7.index t = ![0, 0] ∧ t.val < 8 :=
  (by decide +kernel : ∀ t : Fin grid0.N, _)

theorem row_val (t : Fin cfg0.N) (r : Fin 512) : (row t.val r).val = t.val * 512 + r.val := by
  have := (idx t).2.2.2.2.2.2.2.2
  show (512 * t.val + r.val) % 4096 = _
  omega

theorem blk0 (t : Fin cfg0.N) (r : Fin 512) (d : Fin 1024) : iblk m c 0 t (ix2 r d) = m (c.tc.loc main_arg0) (ix2 (row t.val r) d) := by
  refine Eq.trans ?_ (V_x m c (ix2 (row t.val r) d))
  have := row_val t r
  blk_point [iblk, idx t]
theorem blk1 (t : Fin cfg0.N) (r : Fin 512) (d : Fin 1024) : iblk m c 1 t (ix2 r d) = m (c.tc.loc main_arg7) (ix2 (row t.val r) d) := by
  refine Eq.trans ?_ (V_dy m c (ix2 (row t.val r) d))
  have := row_val t r
  blk_point [iblk, idx t]
theorem blk2 (t : Fin cfg0.N) (d : Fin 1024) : iblk m c 2 t (ix2 0 d) = m (c.tc.loc main_arg1) (ix2 0 d) := by
  refine Eq.trans ?_ (V_g m c (ix2 0 d))
  blk_point [iblk, idx t]
theorem blk3 (t : Fin cfg0.N) (d e : Fin 1024) : iblk m c 3 t (ix2 d e) = m (c.tc.loc main_arg2) (ix2 d e) := by
  refine Eq.trans ?_ (V_w m c d e)
  blk_point [iblk, idx t]
theorem blk4 (t : Fin cfg0.N) (d : Fin 256) : iblk m c 4 t (ix2 0 d) = m (c.tc.loc main_arg3) (ix2 0 d) := by
  refine Eq.trans ?_ (V_gc m c (ix2 0 d))
  blk_point [iblk, idx t]
theorem blk5 (t : Fin cfg0.N) (h : Fin 4) (a b : Fin 256) : iblk m c 5 t (ix3 h a b) = m (c.tc.loc main_arg4) (ix3 a h b) := by
  refine Eq.trans ?_ (V_k m c h a b)
  blk_point [iblk, idx t]
theorem blk6 (t : Fin cfg0.N) (h : Fin 4) (a b : Fin 256) : iblk m c 6 t (ix3 h a b) = m (c.tc.loc main_arg5) (ix3 a h b) := by
  refine Eq.trans ?_ (V_v m c h a b)
  blk_point [iblk, idx t]
theorem blk7 (t : Fin cfg0.N) (d e : Fin 1024) : iblk m c 7 t (ix2 d e) = m (c.tc.loc main_arg6) (ix2 d e) := by
  refine Eq.trans ?_ (V_wo m c d e)
  blk_point [iblk, idx t]

/-- The launch's arguments hold `A`. -/
abbrev HoldsAt : Prop := Holds A (m (c.tc.loc main_arg0)) (m (c.tc.loc main_arg1)) (m (c.tc.loc main_arg2)) (m (c.tc.loc main_arg3))
  (m (c.tc.loc main_arg4)) (m (c.tc.loc main_arg5)) (m (c.tc.loc main_arg6)) (m (c.tc.loc main_arg7))

variable {m c A} (R : HoldsAt m c A)
include R

theorem tile (t : Fin cfg0.N) : TileAt m c A t where
  x r d := (congrFun (ldW_eq (hs0_0 t) (iblk m c 0 t) _ z2) (ix2 r d)).trans ((blk0 m c t r d).trans (R.x _ d))
  dy r d := (congrFun (ldW_eq (hs0_1 t) (iblk m c 1 t) _ z2) (ix2 r d)).trans ((blk1 m c t r d).trans (R.dy _ d))
  g d := (congrFun (ldW_eq (hs0_2 t) (iblk m c 2 t) _ z2) (ix2 0 d)).trans ((blk2 m c t d).trans (R.g d))
  w d e := (congrFun (ldW_eq (hs0_3 t) (iblk m c 3 t) _ z2) (ix2 d e)).trans ((blk3 m c t d e).trans (R.w d e))
  gc d := (congrFun (ldW_eq (hs0_4 t) (iblk m c 4 t) _ z2) (ix2 0 d)).trans ((blk4 m c t d).trans (R.gc d))
  k h a b := (ldK_apply (hs0_5 t) (iblk m c 5 t) h a b).trans ((blk5 m c t h a b).trans (R.k h a b))
  v h a b := (ldK_apply (hs0_6 t) (iblk m c 6 t) h a b).trans ((blk6 m c t h a b).trans (R.v h a b))
  wo d e := (congrFun (ldW_eq (hs0_7 t) (iblk m c 7 t) _ z2) (ix2 d e)).trans ((blk7 m c t d e).trans (R.wo d e))

/-- The carried values after tile `j`. -/
abbrev fold (m : (ℓ : Loc nD τ sig) → Buf (Elt Ideal) ℓ) (c : Dev nD) (j : ℕ) (h : 0 + j < cfg0.N) : Carried :=
  Pipeline.accAt (fun n h => stAt0 m c n h junk0) (stAt0 m c) 0 j h

theorem dx_step (n : ℕ) (h : n < cfg0.N) (s : Carried) (r : Fin 512) (d : Fin 1024) :
    eT (stAt0 m c n h s).1 r d = (DX A (row n r) d : EReal) := by
  have hn : n < 8 := lt_of_lt_of_eq h N_0
  by_cases h1 : 1 ≤ n
  · by_cases h7 : n % 8 = 7
    · exact dx_C ⟨n, h⟩ (tile R _) s (show ¬ n % 8 = 0 by omega) h1 h7 r d
    · exact dx_B ⟨n, h⟩ (tile R _) s (show ¬ n % 8 = 0 by omega) h1 h7 r d
  · exact dx_A ⟨n, h⟩ (tile R _) s (show n % 8 = 0 by omega) h1 (show ¬ n % 8 = 7 by omega) r d

theorem dx_fold : ∀ (j : ℕ) (h : 0 + j < cfg0.N) (r : Fin 512) (d : Fin 1024), eT (fold m c j h).1 r d = (DX A (row j r) d : EReal)
  | 0, h, r, d => dx_step R 0 h junk0 r d
  | j + 1, h, r, d => by
    have := dx_step R (0 + (j + 1)) h (fold m c j (Nat.lt_of_succ_lt h)) r d
    rw [show row (j + 1) r = row (0 + (j + 1)) r by rw [Nat.zero_add]]
    exact this

theorem acc_step (n : ℕ) (h : n + 1 < cfg0.N) (s : Carried) (hs : AccOf A n s) : AccOf A (n + 1) (stAt0 m c (n + 1) h s) := by
  have hn : n + 1 < 8 := lt_of_lt_of_eq h N_0
  by_cases h7 : (n + 1) % 8 = 7
  · exact acc_C ⟨n + 1, h⟩ (tile R _) s (show ¬ (n + 1) % 8 = 0 by omega) (show 1 ≤ n + 1 by omega) h7 n rfl hs
  · exact acc_B ⟨n + 1, h⟩ (tile R _) s (show ¬ (n + 1) % 8 = 0 by omega) (show 1 ≤ n + 1 by omega) h7 n rfl hs

theorem acc_fold : ∀ (j : ℕ) (h : 0 + j < cfg0.N), AccOf A j (fold m c j h)
  | 0, h => acc_A ⟨0, h⟩ (tile R _) junk0 (show 0 % 8 = 0 by omega) (show ¬ 1 ≤ 0 by omega) (show ¬ 0 % 8 = 7 by omega)
  | j + 1, h => by
    have e : ∀ (n : ℕ) (hn : n < cfg0.N) (h' : j + 1 < cfg0.N), n = j + 1 → ∀ s, stAt0 m c n hn s = stAt0 m c (j + 1) h' s := by
      intro n hn h' en s
      subst en
      rfl
    have h' : j + 1 < cfg0.N := by omega
    have := acc_step R j h' (fold m c j (Nat.lt_of_succ_lt h)) (acc_fold j _)
    rw [← e (0 + (j + 1)) h h' (Nat.zero_add _)] at this
    exact this

theorem h7lt : 0 + 7 < cfg0.N := lt_of_lt_of_eq (by decide) N_0.symm

/-! ## The results -/

theorem G8_at (t : Fin 4096) (d : Fin 1024) : (G8 m c (ix2 t d) : EReal) = (DX A t d : EReal) := by
  have ht := t.isLt
  have hd' := d.isLt
  have hp : pt8Of (ix2 t d) = t.val / 512 := by
    show 1 * (t.val / 512 - 0) + 1 * (d.val / 1024 - 0) = t.val / 512
    omega
  have hlt : pt8Of (ix2 t d) < cfg0.N := by
    rw [hp, show cfg0.N = 8 from N_0]
    omega
  unfold G8
  rw [dif_pos hlt]
  have hl : loc8Of (ix2 t d) = ix2 ⟨t.val % 512, by omega⟩ d := by
    funext a
    refine Fin.ext ?_
    fin_cases a
    · rfl
    · show d.val % 1024 = d.val
      omega
  rw [hl]
  refine (dx_fold R (pt8Of (ix2 t d)) (by omega) ⟨t.val % 512, by omega⟩ d).trans ?_
  refine congrArg (fun z => ((DX A z d : ℝ) : EReal)) (Fin.ext ?_)
  show (512 * pt8Of (ix2 t d) + t.val % 512) % 4096 = t.val
  rw [hp]
  omega

theorem acc7 (h : 0 + 7 < cfg0.N) : AccOf A 7 (fold m c 7 h) := acc_fold R 7 h

theorem G11_at (h : Fin 4) (a b : Fin 256) : (G11 m c (ix3 h a b) : EReal) = ((∑ t, DS A t h a * (N A t h b * (1 / 16)) : ℝ) : EReal) := by
  rw [G11_last]
  exact ((acc7 R _).dk h a b).trans (congrArg _ (upto_last _))
theorem G12_at (h : Fin 4) (a b : Fin 256) : (G12 m c (ix3 h a b) : EReal) = ((∑ t, P A t h a * DO A t h b : ℝ) : EReal) := by
  rw [G12_last]
  exact ((acc7 R _).dv h a b).trans (congrArg _ (upto_last _))
theorem G13_at (b : Fin 256) : (G13 m c (ix2 0 b) : EReal) = ((∑ t, ∑ h, GC A t h b : ℝ) : EReal) := by
  rw [G13_last]
  exact ((acc7 R _).gc b).trans (congrArg _ (upto_last _))
theorem G14_at (d : Fin 1024) : (G14 m c (ix2 0 d) : EReal) = ((∑ t, GA A t d : ℝ) : EReal) := by
  rw [G14_last]
  exact ((acc7 R _).ga d).trans (congrArg _ (upto_last _))

theorem last_step (n : ℕ) (h : n < cfg0.N) (s : Carried) (h7 : n % 8 = 7) (d e : Fin 1024) :
    bW (stAt0 m c n h s).2.1 d e = eW (stAt0 m c n h s).2.2.2.2.2.2.2.1 d e ∧ bW (stAt0 m c n h s).2.2.1 d e = eW (stAt0 m c n h s).2.2.2.2.2.2.2.2 d e :=
  ⟨last_wq ⟨n, h⟩ (tile R _) s (show ¬ n % 8 = 0 by omega) (show 1 ≤ n by omega) h7 d e,
   last_wo ⟨n, h⟩ (tile R _) s (show ¬ n % 8 = 0 by omega) (show 1 ≤ n by omega) h7 d e⟩
theorem last_eq (h : 0 + 7 < cfg0.N) (d e : Fin 1024) : bW (fold m c 7 h).2.1 d e = eW (fold m c 7 h).2.2.2.2.2.2.2.1 d e
    ∧ bW (fold m c 7 h).2.2.1 d e = eW (fold m c 7 h).2.2.2.2.2.2.2.2 d e := by
  have es := Pipeline.accAt_succ (fun n h => stAt0 m c n h junk0) (stAt0 m c) 0 6 h
  have e' := last_step R (0 + 7) h (fold m c 6 (Nat.lt_of_succ_lt h)) (by omega) d e
  rw [← es] at e'
  exact e'

theorem G9_at (d e : Fin 1024) : (G9 m c (ix2 d e) : EReal) = ((∑ t, H A t d * DQ A t (hd e) (at' e) : ℝ) : EReal) := by
  rw [G9_last]
  exact ((last_eq R _ d e).1.trans ((acc7 R _).wq d e)).trans (congrArg _ (upto_last _))
theorem G10_at (d e : Fin 1024) : (G10 m c (ix2 d e) : EReal) = ((∑ t, O A t (hd d) (at' d) * A.dy t e : ℝ) : EReal) := by
  rw [G10_last]
  exact ((last_eq R _ d e).2.trans ((acc7 R _).wo d e)).trans (congrArg _ (upto_last _))

end Cert.CrossIdeal.Hand

end
-- ==== Proof.CrossRef.lean ====
/-
  The cross attention's reference read entry by entry at real arguments: the forward lines.
-/
module

public import proofs.«01_k».proof.Proof.CrossEnd
public import proofs.«01_k».proof.Proof.Gen.CrossRefIdeal.Read

@[expose] public section

set_option maxRecDepth 16384

noncomputable section

namespace Cert.CrossRefIdeal.Hand

open Cert.CrossRefIdeal Cert.CrossRefIdeal.Gen Cert.CrossRefIdeal.Read Cert.CrossMath Cert.Reals
open Cert.CrossIdeal.Hand (Holds w_1024 w_256 w_16th neg_inf)
open Idealize.ShloMosaic Idealize.ShloMosaic.TcCoe Idealize.ShloMosaic.Tactic

theorem w_mhalf : Ideal.ofBits .f32 0xBF000000#32 = ((-(1 / 2) : ℝ) : EReal) := by
  simp [Ideal.ofBits, Ideal.ieee]
  norm_cast
  norm_num

variable (x0 x7 : S4096x1024.Idx → EReal) (x1 : S1x1024.Idx → EReal) (x2 x6 : S1024x1024.Idx → EReal) (x3 : S1x256.Idx → EReal)
  (x4 x5 : S256x4x256.Idx → EReal)

/-! ## The lines at an entry -/

abbrev u6 (t : Fin 4096) : EReal := val_main_v6 (F := Ideal) x0 (ix2 t 0)
abbrev u7 (t : Fin 4096) : EReal := val_main_v7 (F := Ideal) x0 (ix2 t 0)
abbrev u10 (t : Fin 4096) : EReal := val_main_v10 (F := Ideal) x0 (ix2 t 0)
abbrev u12 (t : Fin 4096) (d : Fin 1024) : EReal := val_main_v12 (F := Ideal) x0 (ix2 t d)
abbrev u14 (t : Fin 4096) (d : Fin 1024) : EReal := val_main_v14 (F := Ideal) x0 x1 (ix2 t d)
abbrev u15 (t : Fin 4096) (d : Fin 1024) : EReal := val_main_v15 (F := Ideal) x0 x1 x2 (ix2 t d)
abbrev u16 (t : Fin 4096) (h : Fin 4) (c : Fin 256) : EReal := val_main_v16 (F := Ideal) x0 x1 x2 (ix3 t h c)
abbrev u23 (t : Fin 4096) (h : Fin 4) : EReal := val_main_v23 (F := Ideal) x0 x1 x2 (ix3 t h 0)
abbrev u24 (t : Fin 4096) (h : Fin 4) : EReal := val_main_v24 (F := Ideal) x0 x1 x2 (ix3 t h 0)
abbrev u27 (t : Fin 4096) (h : Fin 4) : EReal := val_main_v27 (F := Ideal) x0 x1 x2 (ix3 t h 0)
abbrev u29 (t : Fin 4096) (h : Fin 4) (c : Fin 256) : EReal := val_main_v29 (F := Ideal) x0 x1 x2 (ix3 t h c)
abbrev u32 (t : Fin 4096) (h : Fin 4) (c : Fin 256) : EReal := val_main_v32 (F := Ideal) x0 x1 x2 x3 (ix3 t h c)
abbrev u35 (h : Fin 4) (t : Fin 4096) (m : Fin 256) : EReal := val_main_v35 (F := Ideal) x0 x1 x2 x3 x4 (ix3 h t m)
abbrev u36 (h : Fin 4) (t : Fin 4096) : EReal := val_main_v36 (F := Ideal) x0 x1 x2 x3 x4 (ix2 h t)
abbrev u43 (h : Fin 4) (t : Fin 4096) : EReal := val_main_v43 (F := Ideal) x0 x1 x2 x3 x4 (ix2 h t)
abbrev u56 (h : Fin 4) (t : Fin 4096) (m : Fin 256) : EReal := val_main_v56 (F := Ideal) x0 x1 x2 x3 x4 (ix3 h t m)
abbrev u58 (h : Fin 4) (t : Fin 4096) : EReal := val_main_v58 (F := Ideal) x0 x1 x2 x3 x4 (ix3 h t 0)
abbrev u60 (h : Fin 4) (t : Fin 4096) (m : Fin 256) : EReal := val_main_v60 (F := Ideal) x0 x1 x2 x3 x4 (ix3 h t m)
abbrev u63 (h : Fin 4) (t : Fin 4096) : EReal := val_main_v63 (F := Ideal) x0 x1 x2 x3 x4 (ix3 h t 0)
abbrev u64 (h : Fin 4) (c : Fin 256) (t : Fin 4096) : EReal := val_main_v64 (F := Ideal) x0 x1 x2 x3 x4 x5 (ix3 h c t)
abbrev u66 (t : Fin 4096) (n : Fin 1024) : EReal := val_main_v66 (F := Ideal) x0 x1 x2 x3 x4 x5 (ix2 t n)

theorem l6 (t : Fin 4096) : u6 x0 t = Ideal.div (∑ d, x0 (ix2 t d) * x0 (ix2 t d)) (Ideal.ofBits .f32 0x44800000#32) + Ideal.ofBits .f32 0x358637BD#32 := by
  unfold u6
  pointwise [val_main_v6, val_main_v5, val_main_v4, val_main_v3, val_main_v2, val_main_v1, val_main_v0, val_main_cst, val_main_cst_0, val_main_cst_1]
theorem l7 (t : Fin 4096) : u7 x0 t = Ideal.rsqrt (u6 x0 t) := by
  unfold u7 u6
  pointwise [val_main_v7]
theorem l10 (t : Fin 4096) : u10 x0 t = Ideal.ofBits .f32 0xBF000000#32 * Ideal.div (u7 x0 t) (u6 x0 t) := by
  unfold u10 u7 u6
  pointwise [val_main_v10, val_main_v9, val_main_v8, val_main_cst_2]
theorem l12 (t : Fin 4096) (d : Fin 1024) : u12 x0 t d = x0 (ix2 t d) * u7 x0 t := by
  unfold u12 u7
  pointwise [val_main_v12, val_main_v11]
theorem l14 (t : Fin 4096) (d : Fin 1024) : u14 x0 x1 t d = u12 x0 t d * x1 (ix2 0 d) := by
  unfold u14 u12
  pointwise [val_main_v14, val_main_v13]
theorem l15 (t : Fin 4096) (e : Fin 1024) : u15 x0 x1 x2 t e = ∑ d, u14 x0 x1 t d * x2 (ix2 d e) := by
  unfold u15 u14
  pointwise [val_main_v15]
theorem l16 (t : Fin 4096) (h : Fin 4) (c : Fin 256) : u16 x0 x1 x2 t h c = u15 x0 x1 x2 t (col h c) := by
  unfold u16 u15
  pointwise [val_main_v16]
  exact congrArg (fun z => val_main_v15 (F := Ideal) x0 x1 x2 (ix2 t z)) (Fin.ext (by simp [col]; omega))
theorem l23 (t : Fin 4096) (h : Fin 4) : u23 x0 x1 x2 t h
    = Ideal.div (∑ c, u16 x0 x1 x2 t h c * u16 x0 x1 x2 t h c) (Ideal.ofBits .f32 0x43800000#32) + Ideal.ofBits .f32 0x358637BD#32 := by
  unfold u23 u16
  pointwise [val_main_v23, val_main_v22, val_main_v21, val_main_v20, val_main_v19, val_main_v18, val_main_v17, val_main_cst_3, val_main_cst_4, val_main_cst_5]
theorem l24 (t : Fin 4096) (h : Fin 4) : u24 x0 x1 x2 t h = Ideal.rsqrt (u23 x0 x1 x2 t h) := by
  unfold u24 u23
  pointwise [val_main_v24]
theorem l27 (t : Fin 4096) (h : Fin 4) : u27 x0 x1 x2 t h = Ideal.ofBits .f32 0xBF000000#32 * Ideal.div (u24 x0 x1 x2 t h) (u23 x0 x1 x2 t h) := by
  unfold u27 u24 u23
  pointwise [val_main_v27, val_main_v26, val_main_v25, val_main_cst_6]
theorem l29 (t : Fin 4096) (h : Fin 4) (c : Fin 256) : u29 x0 x1 x2 t h c = u16 x0 x1 x2 t h c * u24 x0 x1 x2 t h := by
  unfold u29 u16 u24
  pointwise [val_main_v29, val_main_v28]
theorem l32 (t : Fin 4096) (h : Fin 4) (c : Fin 256) : u32 x0 x1 x2 x3 t h c = u29 x0 x1 x2 t h c * x3 (ix2 0 c) := by
  unfold u32 u29
  pointwise [val_main_v32, val_main_v31, val_main_v30]
theorem l35 (h : Fin 4) (t : Fin 4096) (m : Fin 256) : u35 x0 x1 x2 x3 x4 h t m
    = (∑ c, u32 x0 x1 x2 x3 t h c * x4 (ix3 m h c)) * Ideal.ofBits .f32 0x3D800000#32 := by
  unfold u35 u32
  pointwise [val_main_v35, val_main_v34, val_main_v33, val_main_cst_7]
theorem l56 (h : Fin 4) (t : Fin 4096) (m : Fin 256) : u56 x0 x1 x2 x3 x4 h t m = Ideal.exp (u35 x0 x1 x2 x3 x4 h t m - u43 x0 x1 x2 x3 x4 h t) := by
  unfold u56 u35 u43
  pointwise [val_main_v56, val_main_v55, val_main_v54, val_main_v53]
theorem l58 (h : Fin 4) (t : Fin 4096) : u58 x0 x1 x2 x3 x4 h t = ∑ m, u56 x0 x1 x2 x3 x4 h t m := by
  unfold u58 u56
  pointwise [val_main_v58, val_main_v57, val_main_cst_16]
theorem l36 (h : Fin 4) (t : Fin 4096) : u36 x0 x1 x2 x3 x4 h t = Finset.fold max ⊥ (u35 x0 x1 x2 x3 x4 h t) Finset.univ := by
  unfold u36
  pointwise [val_main_v36]
  rw [val_main_cst_8_apply, show (FloatOps.ofBits .f32 0xFF800000#32 : Ideal .f32) = (⊥ : EReal) from neg_inf]
theorem l43 (h : Fin 4) (t : Fin 4096) : u43 x0 x1 x2 x3 x4 h t = u36 x0 x1 x2 x3 x4 h t := by
  unfold u43 u36
  rw [val_main_v43_apply, val_main_v42_apply, val_main_cst_10_apply]
  generalize val_main_v36 (F := Ideal) x0 x1 x2 x3 x4 (ix2 h t) = y
  show max (Ideal.ofBits .f32 0xFF800000#32) (y : EReal) = y
  rw [neg_inf]
  exact max_eq_right bot_le
theorem l60 (h : Fin 4) (t : Fin 4096) (m : Fin 256) : u60 x0 x1 x2 x3 x4 h t m = Ideal.div (u56 x0 x1 x2 x3 x4 h t m) (u58 x0 x1 x2 x3 x4 h t) := by
  unfold u60 u56 u58
  pointwise [val_main_v60, val_main_v59]
theorem l63 (h : Fin 4) (t : Fin 4096) : u63 x0 x1 x2 x3 x4 h t
    = Ideal.div (Ideal.ofBits .f32 0x3F800000#32) (u58 x0 x1 x2 x3 x4 h t * u58 x0 x1 x2 x3 x4 h t) := by
  unfold u63 u58
  pointwise [val_main_v63, val_main_v62, val_main_v61, val_main_cst_17]
theorem l64 (h : Fin 4) (c : Fin 256) (t : Fin 4096) : u64 x0 x1 x2 x3 x4 x5 h c t = ∑ m, x5 (ix3 m h c) * u60 x0 x1 x2 x3 x4 h t m := by
  unfold u64 u60
  pointwise [val_main_v64]
theorem l66 (t : Fin 4096) (n : Fin 1024) : u66 x0 x1 x2 x3 x4 x5 t n = u64 x0 x1 x2 x3 x4 x5 (hd n) (at' n) t := by
  unfold u66 u64
  pointwise [val_main_v66, val_main_v65]
  rfl

end Cert.CrossRefIdeal.Hand

end
-- ==== Proof.CrossRefB.lean ====
/-
  The cross attention's reference read entry by entry: the backward lines.
-/
module

public import proofs.«01_k».proof.Proof.CrossRef

@[expose] public section

set_option maxRecDepth 16384

noncomputable section

namespace Cert.CrossRefIdeal.Hand

open Cert.CrossRefIdeal Cert.CrossRefIdeal.Gen Cert.CrossRefIdeal.Read Cert.CrossMath Cert.Reals
open Idealize.ShloMosaic Idealize.ShloMosaic.TcCoe Idealize.ShloMosaic.Tactic

variable (x0 x7 : S4096x1024.Idx → EReal) (x1 : S1x1024.Idx → EReal) (x2 x6 : S1024x1024.Idx → EReal) (x3 : S1x256.Idx → EReal)
  (x4 x5 : S256x4x256.Idx → EReal)

abbrev u74 (h : Fin 4) (c : Fin 256) (t : Fin 4096) : EReal := val_main_v74 (F := Ideal) x6 x7 (ix3 h c t)
abbrev u75 (h : Fin 4) (t : Fin 4096) (m : Fin 256) : EReal := val_main_v75 (F := Ideal) x5 x6 x7 (ix3 h t m)
abbrev u80 (h : Fin 4) (t : Fin 4096) (m : Fin 256) : EReal := val_main_v80 (F := Ideal) x0 x1 x2 x3 x4 x5 x6 x7 (ix3 h t m)
abbrev u83 (h : Fin 4) (t : Fin 4096) : EReal := val_main_v83 (F := Ideal) x0 x1 x2 x3 x4 x5 x6 x7 (ix3 h t 0)
abbrev u86 (h : Fin 4) (t : Fin 4096) : EReal := val_main_v86 (F := Ideal) x0 x1 x2 x3 x4 x5 x6 x7 (ix2 h t)
abbrev u91 (h : Fin 4) (t : Fin 4096) (m : Fin 256) : EReal := val_main_v91 (F := Ideal) x0 x1 x2 x3 x4 x5 x6 x7 (ix3 h t m)
abbrev u95 (t : Fin 4096) (h : Fin 4) (c : Fin 256) : EReal := val_main_v95 (F := Ideal) x0 x1 x2 x3 x4 x5 x6 x7 (ix3 t h c)
abbrev u97 (c : Fin 256) : EReal := val_main_v97 (F := Ideal) x0 x1 x2 x3 x4 x5 x6 x7 (ix1 c)
abbrev u98 (c : Fin 256) : EReal := val_main_v98 (F := Ideal) x0 x1 x2 x3 x4 x5 x6 x7 (ix3 0 0 c)
abbrev u100 (t : Fin 4096) (h : Fin 4) (c : Fin 256) : EReal := val_main_v100 (F := Ideal) x0 x1 x2 x3 x4 x5 x6 x7 (ix3 t h c)
abbrev u105 (t : Fin 4096) (h : Fin 4) : EReal := val_main_v105 (F := Ideal) x0 x1 x2 x3 x4 x5 x6 x7 (ix3 t h 0)
abbrev u110 (t : Fin 4096) (h : Fin 4) : EReal := val_main_v110 (F := Ideal) x0 x1 x2 x3 x4 x5 x6 x7 (ix3 t h 0)
abbrev u111 (t : Fin 4096) (h : Fin 4) : EReal := val_main_v111 (F := Ideal) x0 x1 x2 x3 x4 x5 x6 x7 (ix2 t h)
abbrev u116 (t : Fin 4096) (h : Fin 4) (c : Fin 256) : EReal := val_main_v116 (F := Ideal) x0 x1 x2 x3 x4 x5 x6 x7 (ix3 t h c)
abbrev u117 (t : Fin 4096) (n : Fin 1024) : EReal := val_main_v117 (F := Ideal) x0 x1 x2 x3 x4 x5 x6 x7 (ix2 t n)
abbrev u120 (t : Fin 4096) (d : Fin 1024) : EReal := val_main_v120 (F := Ideal) x0 x1 x2 x3 x4 x5 x6 x7 (ix2 t d)
abbrev u125 (t : Fin 4096) (d : Fin 1024) : EReal := val_main_v125 (F := Ideal) x0 x1 x2 x3 x4 x5 x6 x7 (ix2 t d)
abbrev u128 (t : Fin 4096) : EReal := val_main_v128 (F := Ideal) x0 x1 x2 x3 x4 x5 x6 x7 (ix2 t 0)
abbrev u134 (t : Fin 4096) : EReal := val_main_v134 (F := Ideal) x0 x1 x2 x3 x4 x5 x6 x7 (ix2 t 0)
abbrev u135 (t : Fin 4096) : EReal := val_main_v135 (F := Ideal) x0 x1 x2 x3 x4 x5 x6 x7 (ix1 t)
abbrev z140 (t : Fin 4096) (d : Fin 1024) : EReal := val_main_v140 (F := Ideal) x0 x1 x2 x3 x4 x5 x6 x7 (ix2 t d)
abbrev z123 (d : Fin 1024) : EReal := val_main_v123 (F := Ideal) x0 x1 x2 x3 x4 x5 x6 x7 (ix2 0 d)
abbrev z141 (d e : Fin 1024) : EReal := val_main_v141 (F := Ideal) x0 x1 x2 x3 x4 x5 x6 x7 (ix2 d e)
abbrev z102 (c : Fin 256) : EReal := val_main_v102 (F := Ideal) x0 x1 x2 x3 x4 x5 x6 x7 (ix2 0 c)
abbrev z142 (h : Fin 4) (m c : Fin 256) : EReal := val_main_v142 (F := Ideal) x0 x1 x2 x3 x4 x5 x6 x7 (ix3 h m c)
abbrev z143 (h : Fin 4) (m c : Fin 256) : EReal := val_main_v143 (F := Ideal) x0 x1 x2 x3 x4 x6 x7 (ix3 h m c)
abbrev z144 (d e : Fin 1024) : EReal := val_main_v144 (F := Ideal) x0 x1 x2 x3 x4 x5 x7 (ix2 d e)

/-- A sum over the rows and the heads, and one over two axes of one entry. -/
theorem sum01 (hr : S4096x4x256.ReducesTo [0, 1] S256) (f : S4096x4x256.Idx → EReal) (e : EReal) (c : Fin 256) :
    Ideal.hostReduceAdd hr f e (ix1 c) = e + ∑ t : Fin 4096, ∑ h : Fin 4, f (ix3 t h c) := by
  unfold Ideal.hostReduceAdd
  refine congrArg (e + ·) ?_
  rw [← Finset.sum_product' Finset.univ Finset.univ (fun (t : Fin 4096) (h : Fin 4) => f (ix3 t h c))]
  refine Finset.sum_nbij' (fun z : S4096x4x256.Idx => ((⟨(z 0).val, (z 0).isLt⟩ : Fin 4096), (⟨(z 1).val, (z 1).isLt⟩ : Fin 4)))
    (fun p => ix3 p.1 p.2 c) ?_ ?_ ?_ ?_ ?_
  · exact fun z _ => by simp only [Finset.mem_product, Finset.mem_univ, and_self]
  · intro p _
    refine Finset.mem_filter.mpr ⟨Finset.mem_univ _, ?_⟩
    funext b
    fin_cases b
    rfl
  · intro z hz
    have h2 : (z 2).val = c.val := congrArg Fin.val (congrFun (Finset.mem_filter.mp hz).2 0)
    exact funext fun b => Fin.ext (match b with
      | ⟨0, _⟩ => rfl
      | ⟨1, _⟩ => rfl
      | ⟨2, _⟩ => h2.symm)
  · exact fun p _ => rfl
  · intro z hz
    have h2 : (z 2).val = c.val := congrArg Fin.val (congrFun (Finset.mem_filter.mp hz).2 0)
    exact congrArg f (funext fun b => Fin.ext (match b with
      | ⟨0, _⟩ => rfl
      | ⟨1, _⟩ => rfl
      | ⟨2, _⟩ => h2))
theorem unit01 (hr : S1x1x256.ReducesTo [0, 1] S256) (f : S1x1x256.Idx → EReal) (e : EReal) (c : Fin 256) :
    Ideal.hostReduceAdd hr f e (ix1 c) = e + f (ix3 0 0 c) := by
  unfold Ideal.hostReduceAdd
  refine congrArg (e + ·) ?_
  rw [Finset.sum_filter, Finset.sum_eq_single (ix3 0 0 c)]
  · rw [if_pos]
    funext b
    fin_cases b
    rfl
  · intro z _ hz
    rw [if_neg]
    intro hd
    refine hz ?_
    have h2 : (z 2).val = c.val := congrArg Fin.val (congrFun hd 0)
    funext b
    fin_cases b
    · exact Fin.ext (Nat.lt_one_iff.mp (z 0).isLt)
    · exact Fin.ext (Nat.lt_one_iff.mp (z 1).isLt)
    · exact Fin.ext h2
  · exact fun hn => absurd (Finset.mem_univ _) hn

theorem l74 (h : Fin 4) (c : Fin 256) (t : Fin 4096) : u74 x7 x6 h c t = ∑ e, x7 (ix2 t e) * x6 (ix2 (col h c) e) := by
  unfold u74
  pointwise [val_main_v74, val_main_v73, val_main_v72, val_main_v69]
  exact Finset.sum_congr rfl fun e _ => congrArg (fun z => x7 (ix2 t e) * x6 (ix2 z e)) (Fin.ext (by simp [col]; omega))
theorem l75 (h : Fin 4) (t : Fin 4096) (m : Fin 256) : u75 x7 x6 x5 h t m = ∑ c, u74 x7 x6 h c t * x5 (ix3 m h c) := by
  unfold u75 u74
  pointwise [val_main_v75]
theorem l80 (h : Fin 4) (t : Fin 4096) (m : Fin 256) : u80 x0 x7 x1 x2 x6 x3 x4 x5 h t m
    = u75 x7 x6 x5 h t m * u63 x0 x1 x2 x3 x4 h t * u56 x0 x1 x2 x3 x4 h t m := by
  unfold u80 u75 u63 u56
  pointwise [val_main_v80, val_main_v79, val_main_v78]
theorem l83 (h : Fin 4) (t : Fin 4096) : u83 x0 x7 x1 x2 x6 x3 x4 x5 h t = -∑ m, u80 x0 x7 x1 x2 x6 x3 x4 x5 h t m := by
  unfold u83 u80
  pointwise [val_main_v83, val_main_v82, val_main_v81, val_main_cst_18]
theorem l86 (h : Fin 4) (t : Fin 4096) : u86 x0 x7 x1 x2 x6 x3 x4 x5 h t = u83 x0 x7 x1 x2 x6 x3 x4 x5 h t := by
  unfold u86 u83
  pointwise [val_main_v86, val_main_cst_19]
  exact Fin.sum_univ_one _
theorem l91 (h : Fin 4) (t : Fin 4096) (m : Fin 256) : u91 x0 x7 x1 x2 x6 x3 x4 x5 h t m
    = (Ideal.div (u75 x7 x6 x5 h t m) (u58 x0 x1 x2 x3 x4 h t) + u86 x0 x7 x1 x2 x6 x3 x4 x5 h t) * u56 x0 x1 x2 x3 x4 h t m * Ideal.ofBits .f32 0x3D800000#32 := by
  unfold u91 u75 u58 u86 u56
  pointwise [val_main_v91, val_main_v90, val_main_v89, val_main_v88, val_main_v87, val_main_v85, val_main_v84, val_main_cst_20]
theorem l95 (t : Fin 4096) (h : Fin 4) (c : Fin 256) : u95 x0 x7 x1 x2 x6 x3 x4 x5 t h c = ∑ m, u91 x0 x7 x1 x2 x6 x3 x4 x5 h t m * x4 (ix3 m h c) := by
  unfold u95 u91
  pointwise [val_main_v95, val_main_v94]
theorem l98 (c : Fin 256) : u98 x0 x7 x1 x2 x6 x3 x4 x5 c = u97 x0 x7 x1 x2 x6 x3 x4 x5 c := by
  unfold u98 u97
  pointwise [val_main_v98]
theorem l97 (c : Fin 256) : u97 x0 x7 x1 x2 x6 x3 x4 x5 c
    = ∑ t, ∑ h, u29 x0 x1 x2 t h c * u95 x0 x7 x1 x2 x6 x3 x4 x5 t h c := by
  have e : u97 x0 x7 x1 x2 x6 x3 x4 x5 c = Ideal.ofBits .f32 0x00000000#32
      + ∑ t : Fin 4096, ∑ h : Fin 4, (val_main_v96 (F := Ideal) x0 x1 x2 x3 x4 x5 x6 x7 (ix3 t h c) : EReal) := sum01 _ _ _ c
  rw [e, Ideal.ofBits_zero_f32, zero_add]
  refine Finset.sum_congr rfl fun t _ => Finset.sum_congr rfl fun h _ => ?_
  unfold u29 u95
  pointwise [val_main_v96]
theorem l102 (c : Fin 256) : z102 x0 x7 x1 x2 x6 x3 x4 x5 c = u98 x0 x7 x1 x2 x6 x3 x4 x5 c := by
  unfold z102 u98
  have e : (val_main_v101 (F := Ideal) x0 x1 x2 x3 x4 x5 x6 x7 (ix1 c) : EReal) = Ideal.ofBits .f32 0x00000000#32
      + (val_main_v98 (F := Ideal) x0 x1 x2 x3 x4 x5 x6 x7 (ix3 0 0 c) : EReal) := unit01 _ _ _ c
  rw [Ideal.ofBits_zero_f32, zero_add] at e
  pointwise [val_main_v102]
  exact e
theorem l100 (t : Fin 4096) (h : Fin 4) (c : Fin 256) : u100 x0 x7 x1 x2 x6 x3 x4 x5 t h c = u95 x0 x7 x1 x2 x6 x3 x4 x5 t h c * x3 (ix2 0 c) := by
  unfold u100 u95
  pointwise [val_main_v100, val_main_v99, val_main_v30]
theorem l105 (t : Fin 4096) (h : Fin 4) : u105 x0 x7 x1 x2 x6 x3 x4 x5 t h = ∑ c, u16 x0 x1 x2 t h c * u100 x0 x7 x1 x2 x6 x3 x4 x5 t h c := by
  unfold u105 u16 u100
  pointwise [val_main_v105, val_main_v104, val_main_v103, val_main_cst_23]
theorem l110 (t : Fin 4096) (h : Fin 4) : u110 x0 x7 x1 x2 x6 x3 x4 x5 t h
    = Ideal.div (u105 x0 x7 x1 x2 x6 x3 x4 x5 t h * u27 x0 x1 x2 t h) (Ideal.ofBits .f32 0x43800000#32) := by
  unfold u110 u105 u27
  pointwise [val_main_v110, val_main_v109, val_main_v108, val_main_cst_24]
theorem l111 (t : Fin 4096) (h : Fin 4) : u111 x0 x7 x1 x2 x6 x3 x4 x5 t h = u110 x0 x7 x1 x2 x6 x3 x4 x5 t h := by
  unfold u111 u110
  pointwise [val_main_v111, val_main_cst_25]
  exact Fin.sum_univ_one _
theorem l116 (t : Fin 4096) (h : Fin 4) (c : Fin 256) : u116 x0 x7 x1 x2 x6 x3 x4 x5 t h c
    = u100 x0 x7 x1 x2 x6 x3 x4 x5 t h c * u24 x0 x1 x2 t h + u16 x0 x1 x2 t h c * u111 x0 x7 x1 x2 x6 x3 x4 x5 t h
      + u111 x0 x7 x1 x2 x6 x3 x4 x5 t h * u16 x0 x1 x2 t h c := by
  unfold u116 u100 u24 u16 u111
  pointwise [val_main_v116, val_main_v115, val_main_v114, val_main_v113, val_main_v112, val_main_v107, val_main_v106]
theorem l117 (t : Fin 4096) (n : Fin 1024) : u117 x0 x7 x1 x2 x6 x3 x4 x5 t n = u116 x0 x7 x1 x2 x6 x3 x4 x5 t (hd n) (at' n) := by
  unfold u117 u116
  pointwise [val_main_v117]
  rfl
theorem l120 (t : Fin 4096) (d : Fin 1024) : u120 x0 x7 x1 x2 x6 x3 x4 x5 t d = ∑ n, u117 x0 x7 x1 x2 x6 x3 x4 x5 t n * x2 (ix2 d n) := by
  unfold u120 u117
  pointwise [val_main_v120]
theorem l125 (t : Fin 4096) (d : Fin 1024) : u125 x0 x7 x1 x2 x6 x3 x4 x5 t d = u120 x0 x7 x1 x2 x6 x3 x4 x5 t d * x1 (ix2 0 d) := by
  unfold u125 u120
  pointwise [val_main_v125, val_main_v124]
theorem l128 (t : Fin 4096) : u128 x0 x7 x1 x2 x6 x3 x4 x5 t = ∑ d, x0 (ix2 t d) * u125 x0 x7 x1 x2 x6 x3 x4 x5 t d := by
  unfold u128 u125
  pointwise [val_main_v128, val_main_v127, val_main_v126, val_main_cst_27]
theorem l134 (t : Fin 4096) : u134 x0 x7 x1 x2 x6 x3 x4 x5 t
    = Ideal.div (u128 x0 x7 x1 x2 x6 x3 x4 x5 t * u10 x0 t) (Ideal.ofBits .f32 0x44800000#32) := by
  unfold u134 u128 u10
  pointwise [val_main_v134, val_main_v133, val_main_v132, val_main_cst_28]
theorem l135 (t : Fin 4096) : u135 x0 x7 x1 x2 x6 x3 x4 x5 t = u134 x0 x7 x1 x2 x6 x3 x4 x5 t := by
  unfold u135 u134
  pointwise [val_main_v135, val_main_cst_29]
  exact Fin.sum_univ_one _
theorem l140 (t : Fin 4096) (d : Fin 1024) : z140 x0 x7 x1 x2 x6 x3 x4 x5 t d
    = x7 (ix2 t d) + u125 x0 x7 x1 x2 x6 x3 x4 x5 t d * u7 x0 t + x0 (ix2 t d) * u135 x0 x7 x1 x2 x6 x3 x4 x5 t
      + u135 x0 x7 x1 x2 x6 x3 x4 x5 t * x0 (ix2 t d) := by
  unfold z140 u125 u7 u135
  pointwise [val_main_v140, val_main_v139, val_main_v138, val_main_v137, val_main_v136, val_main_v131, val_main_v130, val_main_v129]
theorem l123 (d : Fin 1024) : z123 x0 x7 x1 x2 x6 x3 x4 x5 d = ∑ t, u12 x0 t d * u120 x0 x7 x1 x2 x6 x3 x4 x5 t d := by
  unfold z123 u12 u120
  pointwise [val_main_v123, val_main_v122, val_main_v121, val_main_cst_26]
theorem l141 (d e : Fin 1024) : z141 x0 x7 x1 x2 x6 x3 x4 x5 d e = ∑ t, u117 x0 x7 x1 x2 x6 x3 x4 x5 t e * u14 x0 x1 t d := by
  unfold z141 u117 u14
  pointwise [val_main_v141, val_main_v119, val_main_v118]
theorem l142 (h : Fin 4) (m c : Fin 256) : z142 x0 x7 x1 x2 x6 x3 x4 x5 h m c = ∑ t, u91 x0 x7 x1 x2 x6 x3 x4 x5 h t m * u32 x0 x1 x2 x3 t h c := by
  unfold z142 u91 u32
  pointwise [val_main_v142, val_main_v93, val_main_v92]
theorem l143 (h : Fin 4) (m c : Fin 256) : z143 x0 x7 x1 x2 x6 x3 x4 h m c = ∑ t, u74 x7 x6 h c t * u60 x0 x1 x2 x3 x4 h t m := by
  unfold z143 u74 u60
  pointwise [val_main_v143, val_main_v77, val_main_v76]
theorem l144 (d e : Fin 1024) : z144 x0 x7 x1 x2 x3 x4 x5 d e = ∑ t, x7 (ix2 t e) * u66 x0 x1 x2 x3 x4 x5 t d := by
  unfold z144 u66
  pointwise [val_main_v144, val_main_v71, val_main_v70, val_main_v69]

end Cert.CrossRefIdeal.Hand

end
-- ==== Proof.CrossRefVal.lean ====
/-
  What the lines of the cross attention's reference hold, over the real numbers.
-/
module

public import proofs.«01_k».proof.Proof.CrossRefB

@[expose] public section

set_option maxRecDepth 16384

noncomputable section

namespace Cert.CrossRefIdeal.Hand

open Cert.CrossRefIdeal Cert.CrossRefIdeal.Gen Cert.CrossRefIdeal.Read Cert.CrossMath Cert.Reals
open Idealize.ShloMosaic Idealize.ShloMosaic.TcCoe Idealize.ShloMosaic.Tactic
open Cert.CrossIdeal.Hand (Holds w_1024 w_256 w_16th)

theorem w_one : Ideal.ofBits .f32 0x3F800000#32 = ((1 : ℝ) : EReal) := by
  simp [Ideal.ofBits, Ideal.ieee]
  norm_cast
  norm_num

variable {x0 x7 : S4096x1024.Idx → EReal} {x1 : S1x1024.Idx → EReal} {x2 x6 : S1024x1024.Idx → EReal} {x3 : S1x256.Idx → EReal}
  {x4 x5 : S256x4x256.Idx → EReal} {A : Args} (R : Holds A x0 x1 x2 x3 x4 x5 x6 x7)
include R

theorem c6 (t : Fin 4096) : u6 x0 t = (Norm.ms (A.x t) : EReal) := by
  rw [l6]
  simp only [R.x]
  exact Norm.ms_coe (A.x t) (by norm_num) w_1024
theorem c7 (t : Fin 4096) : u7 x0 t = (Norm.rs (A.x t) : EReal) := by rw [l7, c6 R, Norm.rs_coe]
theorem c10 (t : Fin 4096) : u10 x0 t = ((-(1 / 2) * (Norm.rs (A.x t) / Norm.ms (A.x t)) : ℝ) : EReal) := by
  rw [l10, c7 R, c6 R, w_mhalf, Ideal.div_coe (Norm.ms_pos _).ne', ← EReal.coe_mul, ← EReal.coe_mul, mul_one_div]
theorem c12 (t : Fin 4096) (d : Fin 1024) : u12 x0 t d = ((A.x t d * Norm.rs (A.x t) : ℝ) : EReal) := by
  rw [l12, c7 R, R.x, ← EReal.coe_mul]
theorem c14 (t : Fin 4096) (d : Fin 1024) : u14 x0 x1 t d = (H A t d : EReal) := by
  rw [l14, c12 R, R.g, ← EReal.coe_mul]
  rfl
theorem c16 (t : Fin 4096) (h : Fin 4) (c : Fin 256) : u16 x0 x1 x2 t h c = (Q A t h c : EReal) := by
  rw [l16, l15]
  simp only [c14 R, R.w, ← EReal.coe_mul, ← coe_sum]
  rfl
theorem c23 (t : Fin 4096) (h : Fin 4) : u23 x0 x1 x2 t h = (Norm.ms (Q A t h) : EReal) := by
  rw [l23]
  simp only [c16 R]
  exact Norm.ms_coe (Q A t h) (by norm_num) w_256
theorem c24 (t : Fin 4096) (h : Fin 4) : u24 x0 x1 x2 t h = (Norm.rs (Q A t h) : EReal) := by rw [l24, c23 R, Norm.rs_coe]
theorem c27 (t : Fin 4096) (h : Fin 4) : u27 x0 x1 x2 t h = ((-(1 / 2) * (Norm.rs (Q A t h) / Norm.ms (Q A t h)) : ℝ) : EReal) := by
  rw [l27, c24 R, c23 R, w_mhalf, Ideal.div_coe (Norm.ms_pos _).ne', ← EReal.coe_mul, ← EReal.coe_mul, mul_one_div]
theorem c29 (t : Fin 4096) (h : Fin 4) (c : Fin 256) : u29 x0 x1 x2 t h c = ((Q A t h c * Norm.rs (Q A t h) : ℝ) : EReal) := by
  rw [l29, c16 R, c24 R, ← EReal.coe_mul]
theorem c32 (t : Fin 4096) (h : Fin 4) (c : Fin 256) : u32 x0 x1 x2 x3 t h c = (N A t h c : EReal) := by
  rw [l32, c29 R, R.gc, ← EReal.coe_mul]
  rfl
theorem c35 (h : Fin 4) (t : Fin 4096) (m : Fin 256) : u35 x0 x1 x2 x3 x4 h t m = (S A t h m : EReal) := by
  rw [l35, w_16th]
  simp only [c32 R, R.k, ← EReal.coe_mul, ← coe_sum]
  rfl
theorem c43 (h : Fin 4) (t : Fin 4096) : u43 x0 x1 x2 x3 x4 h t = (Softmax.mx (S A t h) : EReal) := by
  rw [l43, l36, show u35 x0 x1 x2 x3 x4 h t = fun m => (S A t h m : EReal) from funext fun m => c35 R h t m, Softmax.mx_eq]
theorem c56 (h : Fin 4) (t : Fin 4096) (m : Fin 256) : u56 x0 x1 x2 x3 x4 h t m = (Softmax.ex (S A t h) m : EReal) := by
  rw [l56, c35 R, c43 R, Softmax.ex_coe]
theorem c58 (h : Fin 4) (t : Fin 4096) : u58 x0 x1 x2 x3 x4 h t = (Softmax.L (S A t h) : EReal) := by
  rw [l58]
  simp only [c56 R]
  exact Softmax.L_coe _
theorem c60 (h : Fin 4) (t : Fin 4096) (m : Fin 256) : u60 x0 x1 x2 x3 x4 h t m = (P A t h m : EReal) := by
  rw [l60, c56 R, c58 R, Softmax.div_L]
  rfl
theorem c63 (h : Fin 4) (t : Fin 4096) : u63 x0 x1 x2 x3 x4 h t = ((1 / (Softmax.L (S A t h) * Softmax.L (S A t h)) : ℝ) : EReal) := by
  have e := (Softmax.L_pos (S A t h)).ne'
  rw [l63, c58 R, ← EReal.coe_mul, Ideal.div_coe (mul_ne_zero e e), w_one, ← EReal.coe_mul, one_mul]
theorem c66 (t : Fin 4096) (n : Fin 1024) : u66 x0 x1 x2 x3 x4 x5 t n = (O A t (hd n) (at' n) : EReal) := by
  rw [l66, l64]
  simp only [c60 R, R.v, ← EReal.coe_mul, ← coe_sum]
  exact congrArg _ (Finset.sum_congr rfl fun m _ => mul_comm _ _)

theorem c74 (h : Fin 4) (c : Fin 256) (t : Fin 4096) : u74 x7 x6 h c t = (DO A t h c : EReal) := by
  rw [l74]
  simp only [R.dy, R.wo, ← EReal.coe_mul, ← coe_sum]
  rfl
theorem c75 (h : Fin 4) (t : Fin 4096) (m : Fin 256) : u75 x7 x6 x5 h t m = (DP A t h m : EReal) := by
  rw [l75]
  simp only [c74 R, R.v, ← EReal.coe_mul, ← coe_sum]
  rfl
theorem c86 (h : Fin 4) (t : Fin 4096) : u86 x0 x7 x1 x2 x6 x3 x4 x5 h t
    = ((-∑ m, DP A t h m * (1 / (Softmax.L (S A t h) * Softmax.L (S A t h))) * Softmax.ex (S A t h) m : ℝ) : EReal) := by
  rw [l86, l83]
  simp only [l80, c75 R, c63 R, c56 R, ← EReal.coe_mul, ← coe_sum, ← EReal.coe_neg]
theorem c91 (h : Fin 4) (t : Fin 4096) (m : Fin 256) : u91 x0 x7 x1 x2 x6 x3 x4 x5 h t m = ((DS A t h m * (1 / 16) : ℝ) : EReal) := by
  rw [l91, c75 R, c58 R, c86 R, c56 R, w_16th, Softmax.div_L, ← EReal.coe_add, ← EReal.coe_mul, Softmax.ds_vjp, ← EReal.coe_mul]
  rfl
theorem c95 (t : Fin 4096) (h : Fin 4) (c : Fin 256) : u95 x0 x7 x1 x2 x6 x3 x4 x5 t h c = (DN A t h c : EReal) := by
  rw [l95]
  simp only [c91 R, R.k, ← EReal.coe_mul, ← coe_sum]
  unfold DN
  rw [Finset.sum_mul]
  exact congrArg _ (Finset.sum_congr rfl fun m _ => by ring)
theorem c100 (t : Fin 4096) (h : Fin 4) (c : Fin 256) : u100 x0 x7 x1 x2 x6 x3 x4 x5 t h c = ((DN A t h c * A.gc c : ℝ) : EReal) := by
  rw [l100, c95 R, R.gc, ← EReal.coe_mul]
theorem c111 (t : Fin 4096) (h : Fin 4) : u111 x0 x7 x1 x2 x6 x3 x4 x5 t h
    = (Norm.coef (Q A t h) (fun c => DN A t h c * A.gc c) : EReal) := by
  rw [l111, l110, l105, c27 R, w_256, Ideal.div_coe (by norm_num)]
  simp only [c16 R, c100 R, ← EReal.coe_mul, ← coe_sum]
  unfold Norm.coef
  norm_num
theorem c116 (t : Fin 4096) (h : Fin 4) (c : Fin 256) : u116 x0 x7 x1 x2 x6 x3 x4 x5 t h c = (DQ A t h c : EReal) := by
  rw [l116, c100 R, c24 R, c16 R, c111 R, ← EReal.coe_mul, ← EReal.coe_mul, ← EReal.coe_mul, ← EReal.coe_add, ← EReal.coe_add]
  exact congrArg _ (Norm.bwd_vjp (Q A t h) (fun c => DN A t h c * A.gc c) c)
theorem c117 (t : Fin 4096) (n : Fin 1024) : u117 x0 x7 x1 x2 x6 x3 x4 x5 t n = (DQ A t (hd n) (at' n) : EReal) := by rw [l117, c116 R]
theorem c120 (t : Fin 4096) (d : Fin 1024) : u120 x0 x7 x1 x2 x6 x3 x4 x5 t d = (DH A t d : EReal) := by
  rw [l120]
  simp only [c117 R, R.w, ← EReal.coe_mul, ← coe_sum]
  rfl
theorem c125 (t : Fin 4096) (d : Fin 1024) : u125 x0 x7 x1 x2 x6 x3 x4 x5 t d = ((DH A t d * A.g d : ℝ) : EReal) := by
  rw [l125, c120 R, R.g, ← EReal.coe_mul]
theorem c135 (t : Fin 4096) : u135 x0 x7 x1 x2 x6 x3 x4 x5 t = (Norm.coef (A.x t) (fun d => DH A t d * A.g d) : EReal) := by
  rw [l135, l134, l128, c10 R, w_1024, Ideal.div_coe (by norm_num)]
  simp only [R.x, c125 R, ← EReal.coe_mul, ← coe_sum]
  unfold Norm.coef
  norm_num

/-! ## The results -/

theorem d_x (t : Fin 4096) (d : Fin 1024) : z140 x0 x7 x1 x2 x6 x3 x4 x5 t d = (DX A t d : EReal) := by
  rw [l140, c125 R, c7 R, c135 R, R.x, R.dy]
  simp only [← EReal.coe_mul, ← EReal.coe_add]
  unfold DX
  rw [← Norm.bwd_vjp]
  exact congrArg _ (by ring)
theorem d_g (d : Fin 1024) : z123 x0 x7 x1 x2 x6 x3 x4 x5 d = ((∑ t, GA A t d : ℝ) : EReal) := by
  rw [l123]
  simp only [c12 R, c120 R, ← EReal.coe_mul, ← coe_sum]
  exact congrArg _ (Finset.sum_congr rfl fun t _ => mul_comm _ _)
theorem d_w (d e : Fin 1024) : z141 x0 x7 x1 x2 x6 x3 x4 x5 d e = ((∑ t, H A t d * DQ A t (hd e) (at' e) : ℝ) : EReal) := by
  rw [l141]
  simp only [c117 R, c14 R, ← EReal.coe_mul, ← coe_sum]
  exact congrArg _ (Finset.sum_congr rfl fun t _ => mul_comm _ _)
theorem d_gc (c : Fin 256) : z102 x0 x7 x1 x2 x6 x3 x4 x5 c = ((∑ t, ∑ h, GC A t h c : ℝ) : EReal) := by
  rw [l102, l98, l97]
  simp only [c29 R, c95 R, ← EReal.coe_mul, ← coe_sum]
  exact congrArg _ (Finset.sum_congr rfl fun t _ => Finset.sum_congr rfl fun h _ => mul_comm _ _)
theorem d_k (h : Fin 4) (a b : Fin 256) : z142 x0 x7 x1 x2 x6 x3 x4 x5 h a b
    = ((∑ t, DS A t h a * (N A t h b * (1 / 16)) : ℝ) : EReal) := by
  rw [l142]
  simp only [c91 R, c32 R, ← EReal.coe_mul, ← coe_sum]
  exact congrArg _ (Finset.sum_congr rfl fun t _ => by ring)
theorem d_v (h : Fin 4) (a b : Fin 256) : z143 x0 x7 x1 x2 x6 x3 x4 h a b = ((∑ t, P A t h a * DO A t h b : ℝ) : EReal) := by
  rw [l143]
  simp only [c74 R, c60 R, ← EReal.coe_mul, ← coe_sum]
  exact congrArg _ (Finset.sum_congr rfl fun t _ => mul_comm _ _)
theorem d_wo (d e : Fin 1024) : z144 x0 x7 x1 x2 x3 x4 x5 d e = ((∑ t, O A t (hd d) (at' d) * A.dy t e : ℝ) : EReal) := by
  rw [l144]
  simp only [c66 R, R.dy, ← EReal.coe_mul, ← coe_sum]
  exact congrArg _ (Finset.sum_congr rfl fun t _ => mul_comm _ _)

end Cert.CrossRefIdeal.Hand

end
-- ==== Proof.CrossClaim.lean ====
/-
  The cross attention's backward call: its value claim, and the reference's frame.
-/
module

public import proofs.«01_k».proof.Defs
public import proofs.«01_k».proof.Proof.CrossEnd
public import proofs.«01_k».proof.Proof.CrossRefVal
public import proofs.«01_k».proof.Proof.Gen.CrossRefIdeal.Run
public import proofs.«01_k».proof.Proof.Gen.Pre_ca_finite
public import Idealize.ShloMosaic.Adequacy
public import Idealize.ShloMosaic.Init

@[expose] public section

set_option maxRecDepth 16384

noncomputable section

open Idealize.ShloMosaic Idealize.ShloMosaic.TcCoe Idealize.SL.Sem

namespace Cert.CrossClaim

open Cert.Reals Cert.CrossMath Cert.CrossIdeal.Hand

section Pre

open Cert.Pre_ca_finite

/-- The precondition: every entry of the arguments is real. -/
theorem of_pre (x0 : FVec Ideal S4096x1024 .f32) (x1 : FVec Ideal S1x1024 .f32) (x2 : FVec Ideal S1024x1024 .f32) (x3 : FVec Ideal S1x256 .f32)
    (x4 x5 : FVec Ideal S256x4x256 .f32) (x6 : FVec Ideal S1024x1024 .f32) (x7 : FVec Ideal S4096x1024 .f32)
    (h : fn x0 x1 x2 x3 x4 x5 x6 x7 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i)) ∧ (∀ i, IsR (x6 i))
      ∧ (∀ i, IsR (x7 i)) := by
  have h0 := congrFun h (fun a => a.elim0)
  unfold fn fn_part1 at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨fun i => ?_, fun i => ?_, fun i => ?_, fun i => ?_, fun i => ?_, fun i => ?_, fun i => ?_, fun i => ?_⟩
  · exact isR_of_lt_word (Host.reduce_andi_all _ _ _ _ _ h0 i)
  · exact isR_of_lt_word (Host.reduce_andi_all _ _ _ _ _ h1 i)
  · exact isR_of_lt_word (Host.reduce_andi_all _ _ _ _ _ h2 i)
  · exact isR_of_lt_word (Host.reduce_andi_all _ _ _ _ _ h3 i)
  · exact isR_of_lt_word (Host.reduce_andi_all _ _ _ _ _ h4 i)
  · exact isR_of_lt_word (Host.reduce_andi_all _ _ _ _ _ h5 i)
  · exact isR_of_lt_word (Host.reduce_andi_all _ _ _ _ _ h6 i)
  · exact isR_of_lt_word (Host.reduce_andi_all _ _ _ _ _ h7 i)

end Pre

/-- Arrays of real entries hold real arguments. -/
theorem exists_args (x0 : Cert.CrossIdeal.S4096x1024.Idx → EReal) (x1 : Cert.CrossIdeal.S1x1024.Idx → EReal) (x2 : Cert.CrossIdeal.S1024x1024.Idx → EReal)
    (x3 : Cert.CrossIdeal.S1x256.Idx → EReal) (x4 x5 : Cert.CrossIdeal.S256x4x256.Idx → EReal) (x6 : Cert.CrossIdeal.S1024x1024.Idx → EReal)
    (x7 : Cert.CrossIdeal.S4096x1024.Idx → EReal) (h0 : ∀ i, IsR (x0 i)) (h1 : ∀ i, IsR (x1 i)) (h2 : ∀ i, IsR (x2 i)) (h3 : ∀ i, IsR (x3 i))
    (h4 : ∀ i, IsR (x4 i)) (h5 : ∀ i, IsR (x5 i)) (h6 : ∀ i, IsR (x6 i)) (h7 : ∀ i, IsR (x7 i)) :
    ∃ A : Args, Holds A x0 x1 x2 x3 x4 x5 x6 x7 :=
  ⟨{ x := fun t d => (h0 (ix2 t d)).choose, dy := fun t d => (h7 (ix2 t d)).choose, g := fun d => (h1 (ix2 0 d)).choose
     w := fun d e => (h2 (ix2 d e)).choose, gc := fun c => (h3 (ix2 0 c)).choose, k := fun h m c => (h4 (ix3 m h c)).choose
     v := fun h m c => (h5 (ix3 m h c)).choose, wo := fun d e => (h6 (ix2 d e)).choose },
   ⟨fun _ _ => (h0 _).choose_spec, fun _ => (h1 _).choose_spec, fun _ _ => (h2 _).choose_spec, fun _ => (h3 _).choose_spec,
    fun _ _ _ => (h4 _).choose_spec, fun _ _ _ => (h5 _).choose_spec, fun _ _ => (h6 _).choose_spec, fun _ _ => (h7 _).choose_spec⟩⟩

/-- Arrays that agree at every entry. -/
theorem ext2 {a b : ℕ} (f g : (⟨2, ![a, b]⟩ : Shape).Idx → EReal) (h : ∀ i j, f (ix2 i j) = g (ix2 i j)) : f = g := by
  funext z
  have e : z = ix2 (z 0) (z 1) := by
    funext q
    fin_cases q <;> rfl
  rw [e]
  exact h _ _
theorem row_ext {b : ℕ} (f g : (⟨2, ![1, b]⟩ : Shape).Idx → EReal) (h : ∀ j, f (ix2 0 j) = g (ix2 0 j)) : f = g :=
  ext2 f g fun i j => by
    rw [Fin.eq_zero i]
    exact h j
theorem ext3 {a b c : ℕ} (f g : (⟨3, ![a, b, c]⟩ : Shape).Idx → EReal) (h : ∀ i j k, f (ix3 i j k) = g (ix3 i j k)) : f = g := by
  funext z
  have e : z = ix3 (z 0) (z 1) (z 2) := by
    funext q
    fin_cases q <;> rfl
  rw [e]
  exact h _ _ _

/-- The reference leaves its arguments and has no semaphores. -/
theorem frame_ref : Cert.quiescent_CrossRefIdeal := fun m g _ =>
  (θ_run Cert.CrossRefIdeal.defs _ _).mono (fun r h => ⟨fun c => (h c).2.2.2.2.2.2.2, sem_eq_zero_of_no_sems rfl r.2⟩) (Cert.CrossRefIdeal.Value.run m g)

open Cert.CrossIdeal.Value in
theorem value : Cert.algebraic_CrossIdeal_CrossRefIdeal_pre_ca_finite := by
  intro m g m' g' hp hm
  refine ⟨fun c => G8 m c, fun c => G14 m c, fun c => G9 m c, fun c => G13 m c, fun c => G11 m c, fun c => G12 m c, fun c => G10 m c, ?_, ?_⟩
  · refine (θ_run _ _ _).mono (fun r h c => ?_) (Cert.CrossIdeal.Value.run m g)
    obtain ⟨r8, r9, r10, r11, r12, r13, r14, rest⟩ := h c
    exact ⟨r8, r14, r9, r13, r11, r12, r10, rest⟩
  refine (θ_run _ _ _).mono (fun r h c => ?_) (Cert.CrossRefIdeal.Value.run m' g')
  obtain ⟨e0, e1, e2, e3, e4, e5, e6, e7⟩ := hm c
  have l0 : StableHlo.launchContents m' c (Proc.devRef .tc Cert.CrossRefIdeal.main_arg0) = m (c.tc.loc Cert.CrossIdeal.main_arg0) := e0
  have l1 : StableHlo.launchContents m' c (Proc.devRef .tc Cert.CrossRefIdeal.main_arg1) = m (c.tc.loc Cert.CrossIdeal.main_arg1) := e1
  have l2 : StableHlo.launchContents m' c (Proc.devRef .tc Cert.CrossRefIdeal.main_arg2) = m (c.tc.loc Cert.CrossIdeal.main_arg2) := e2
  have l3 : StableHlo.launchContents m' c (Proc.devRef .tc Cert.CrossRefIdeal.main_arg3) = m (c.tc.loc Cert.CrossIdeal.main_arg3) := e3
  have l4 : StableHlo.launchContents m' c (Proc.devRef .tc Cert.CrossRefIdeal.main_arg4) = m (c.tc.loc Cert.CrossIdeal.main_arg4) := e4
  have l5 : StableHlo.launchContents m' c (Proc.devRef .tc Cert.CrossRefIdeal.main_arg5) = m (c.tc.loc Cert.CrossIdeal.main_arg5) := e5
  have l6 : StableHlo.launchContents m' c (Proc.devRef .tc Cert.CrossRefIdeal.main_arg6) = m (c.tc.loc Cert.CrossIdeal.main_arg6) := e6
  have l7 : StableHlo.launchContents m' c (Proc.devRef .tc Cert.CrossRefIdeal.main_arg7) = m (c.tc.loc Cert.CrossIdeal.main_arg7) := e7
  obtain ⟨h0, h1, h2, h3, h4, h5, h6, h7⟩ := of_pre _ _ _ _ _ _ _ _ (hp c)
  obtain ⟨A, R⟩ := exists_args _ _ _ _ _ _ _ _ h0 h1 h2 h3 h4 h5 h6 h7
  obtain ⟨r0, r1, r2, r3, r4, r5, r6, rest⟩ := h c
  refine ⟨r0.trans ?_, r1.trans ?_, r2.trans ?_, r3.trans ?_, r4.trans ?_, r5.trans ?_, r6.trans ?_, rest⟩
  · rw [Cert.CrossRefIdeal.Read.val_main_v140_eq, l0, l1, l2, l3, l4, l5, l6, l7]
    exact ext2 _ _ fun a b => (Cert.CrossRefIdeal.Hand.d_x R a b).trans (G8_at R a b).symm
  · rw [Cert.CrossRefIdeal.Read.val_main_v123_eq, l0, l1, l2, l3, l4, l5, l6, l7]
    exact row_ext _ _ fun d => (Cert.CrossRefIdeal.Hand.d_g R d).trans (G14_at R d).symm
  · rw [Cert.CrossRefIdeal.Read.val_main_v141_eq, l0, l1, l2, l3, l4, l5, l6, l7]
    exact ext2 _ _ fun a b => (Cert.CrossRefIdeal.Hand.d_w R a b).trans (G9_at R a b).symm
  · rw [Cert.CrossRefIdeal.Read.val_main_v102_eq, l0, l1, l2, l3, l4, l5, l6, l7]
    exact row_ext _ _ fun d => (Cert.CrossRefIdeal.Hand.d_gc R d).trans (G13_at R d).symm
  · rw [Cert.CrossRefIdeal.Read.val_main_v142_eq, l0, l1, l2, l3, l4, l5, l6, l7]
    exact ext3 _ _ fun h a b => (Cert.CrossRefIdeal.Hand.d_k R h a b).trans (G11_at R h a b).symm
  · rw [Cert.CrossRefIdeal.Read.val_main_v143_eq, l0, l1, l2, l3, l4, l6, l7]
    exact ext3 _ _ fun h a b => (Cert.CrossRefIdeal.Hand.d_v R h a b).trans (G12_at R h a b).symm
  · rw [Cert.CrossRefIdeal.Read.val_main_v144_eq, l0, l1, l2, l3, l4, l5, l7]
    exact ext2 _ _ fun a b => (Cert.CrossRefIdeal.Hand.d_wo R a b).trans (G10_at R a b).symm

end Cert.CrossClaim

end
-- ==== Proof.DxMath.lean ====
/-
  The gradient through a norm and a residual: the two ways the programs write an entry of it are the same real number.
-/
module

public import proofs.«01_k».proof.Proof.NormMath

@[expose] public section

noncomputable section

namespace Cert.Dx

open Idealize.ShloMosaic Cert.Reals

theorem w_1024 : Ideal.ofBits .f32 0x44800000#32 = ((1024 : ℕ) : ℝ) := by
  simp [Ideal.ofBits, Ideal.ieee]
  norm_cast
  norm_num
theorem w_mhalf : Ideal.ofBits .f32 0xBF000000#32 = ((-(1 / 2) : ℝ) : EReal) := by
  simp [Ideal.ofBits, Ideal.ieee]
  norm_cast
  norm_num

variable (x p g : Fin 1024 → ℝ) (dy : ℝ) (d : Fin 1024)

/-- The gradient of an entry of the row `x`, from the gradient `p` of the normed row and the gradient `dy` of the residual. -/
def dx : ℝ := Norm.bwd x (fun k => p k * g k) d + dy
/-- What the row adds to the gradient of the norm's weight. -/
def dg : ℝ := p d * (x d * Norm.rs x)

/-- The mean square and the inverse root as the programs write them. -/
abbrev msE : EReal := Ideal.div (∑ k, (x k : EReal) * (x k : EReal)) (Ideal.ofBits .f32 0x44800000#32) + Ideal.ofBits .f32 0x358637BD#32
abbrev rsE : EReal := Ideal.rsqrt (msE x)
theorem rsE_eq : rsE x = (Norm.rs x : EReal) := by
  unfold rsE msE
  rw [Norm.ms_coe x (by norm_num) w_1024, Norm.rs_coe]

/-- The kernels' form. -/
theorem dx_kernel : rsE x * ((p d : EReal) * (g d : EReal) - (x d : EReal) * rsE x
      * Ideal.div (∑ k, (p k : EReal) * (g k : EReal) * ((x k : EReal) * rsE x)) (Ideal.ofBits .f32 0x44800000#32)) + (dy : EReal)
    = (dx x p g dy d : EReal) := by
  rw [rsE_eq, w_1024, Ideal.div_coe (by norm_num)]
  simp only [← EReal.coe_mul, ← coe_sum, ← EReal.coe_add, ← EReal.coe_sub]
  rfl
theorem dg_kernel : (p d : EReal) * ((x d : EReal) * rsE x) = (dg x p d : EReal) := by
  rw [rsE_eq]
  simp only [← EReal.coe_mul]
  rfl

/-- The form that differentiation gives. -/
theorem dx_vjp (c : EReal) (hc : c = Ideal.div ((∑ k, (x k : EReal) * ((p k : EReal) * (g k : EReal)))
      * (Ideal.ofBits .f32 0xBF000000#32 * Ideal.div (rsE x) (msE x))) (Ideal.ofBits .f32 0x44800000#32)) :
    (dy : EReal) + (p d : EReal) * (g d : EReal) * rsE x + (x d : EReal) * c + c * (x d : EReal) = (dx x p g dy d : EReal) := by
  have e : c = (Norm.coef x (fun k => p k * g k) : EReal) := by
    rw [hc, rsE_eq, w_1024, w_mhalf]
    unfold msE
    rw [Norm.ms_coe x (by norm_num) w_1024, Ideal.div_coe (Norm.ms_pos _).ne', Ideal.div_coe (by norm_num)]
    simp only [← EReal.coe_mul, ← coe_sum]
    unfold Norm.coef
    refine congrArg _ ?_
    dsimp only
    ring
  rw [e, rsE_eq]
  simp only [← EReal.coe_mul, ← EReal.coe_add]
  refine congrArg _ ?_
  unfold dx
  rw [← Norm.bwd_vjp x (fun k => p k * g k) d]
  ring
theorem dg_vjp : (x d : EReal) * rsE x * (p d : EReal) = (dg x p d : EReal) := by
  rw [mul_comm, dg_kernel]

end Cert.Dx

end
-- ==== Proof.DxRef.lean ====
/-
  The references of the two gradients through a norm, from real arguments.
-/
module

public import proofs.«01_k».proof.Proof.DxMath
public import proofs.«01_k».proof.Proof.Gen.FfnDxRefIdeal.Read
public import proofs.«01_k».proof.Proof.Gen.ProjRefIdeal.Read
public import Idealize.ShloMosaic.Lib.Pointwise

@[expose] public section

set_option maxRecDepth 16384

noncomputable section

namespace Cert.Dx

open Idealize.ShloMosaic Idealize.ShloMosaic.TcCoe Idealize.ShloMosaic.Tactic Cert.Reals

/-- Real arguments of a norm, the `n` columns of the product behind it, and the cotangents. -/
structure Args (n : ℕ) where
  x : Fin 4096 → Fin 1024 → ℝ
  dy : Fin 4096 → Fin 1024 → ℝ
  g : Fin 1024 → ℝ
  w : Fin 1024 → Fin n → ℝ
  dz : Fin 4096 → Fin n → ℝ

/-- The arrays hold the arguments' numbers. -/
structure Holds {n : ℕ} (A : Args n) (x : (⟨2, ![4096, 1024]⟩ : Shape).Idx → EReal) (g : (⟨2, ![1, 1024]⟩ : Shape).Idx → EReal)
    (w : (⟨2, ![1024, n]⟩ : Shape).Idx → EReal) (dz : (⟨2, ![4096, n]⟩ : Shape).Idx → EReal) (dy : (⟨2, ![4096, 1024]⟩ : Shape).Idx → EReal) : Prop where
  x : ∀ t d, x (ix2 t d) = (A.x t d : EReal)
  g : ∀ d, g (ix2 0 d) = (A.g d : EReal)
  w : ∀ d e, w (ix2 d e) = (A.w d e : EReal)
  dz : ∀ t e, dz (ix2 t e) = (A.dz t e : EReal)
  dy : ∀ t d, dy (ix2 t d) = (A.dy t d : EReal)

/-- The gradient of the normed row, and the two results. -/
def Args.p {n : ℕ} (A : Args n) (t : Fin 4096) (d : Fin 1024) : ℝ := ∑ e, A.dz t e * A.w d e
def Args.DX {n : ℕ} (A : Args n) (t : Fin 4096) (d : Fin 1024) : ℝ := dx (A.x t) (A.p t) A.g (A.dy t d) d
def Args.DG {n : ℕ} (A : Args n) (d : Fin 1024) : ℝ := ∑ t, dg (A.x t) (A.p t) d

section Ffn

open Cert.FfnDxRefIdeal Cert.FfnDxRefIdeal.Read

variable {x0 x4 : S4096x1024.Idx → EReal} {x1 : S1x1024.Idx → EReal} {x2 : S1024x5632.Idx → EReal} {x3 : S4096x5632.Idx → EReal}
  {A : Args 5632} (R : Holds A x0 x1 x2 x3 x4)
include R

theorem ffn_dx (t : Fin 4096) (d : Fin 1024) : val_main_v36 (F := Ideal) x0 x1 x2 x3 x4 (ix2 t d) = (A.DX t d : EReal) := by
  have hp : ∀ k, val_main_v16 (F := Ideal) x2 x3 (ix2 t k) = (A.p t k : EReal) := fun k => by
    pointwise [val_main_v16]
    simp only [R.dz, R.w, ← EReal.coe_mul, ← coe_sum]
    rfl
  refine Eq.trans ?_ (dx_vjp (A.x t) (A.p t) A.g (A.dy t d) d _ rfl)
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6]
  simp only [hp, R.x, R.g, R.dy, Fin.sum_univ_one]
theorem ffn_dg (d : Fin 1024) : val_main_v19 (F := Ideal) x0 x2 x3 (ix2 0 d) = (A.DG d : EReal) := by
  have hp : ∀ t, val_main_v16 (F := Ideal) x2 x3 (ix2 t d) = (A.p t d : EReal) := fun t => by
    pointwise [val_main_v16]
    simp only [R.dz, R.w, ← EReal.coe_mul, ← coe_sum]
    rfl
  pointwise [val_main_v19, val_main_v18, val_main_v17, val_main_v12, val_main_v11, val_main_v7, val_main_v6, val_main_v5, val_main_v4, val_main_v3, val_main_v2, val_main_v1, val_main_v0, val_main_cst, val_main_cst_0, val_main_cst_1, val_main_cst_3]
  simp only [hp, R.x]
  refine (Finset.sum_congr rfl fun t _ => dg_vjp (A.x t) (A.p t) d).trans ?_
  rw [← coe_sum]
  rfl

end Ffn

section Proj

open Cert.ProjRefIdeal Cert.ProjRefIdeal.Read

variable {x0 x4 : S4096x1024.Idx → EReal} {x1 : S1x1024.Idx → EReal} {x2 : S1024x2568.Idx → EReal} {x3 : S4096x2568.Idx → EReal}
  {A : Args 2568} (R : Holds A x0 x1 x2 x3 x4)
include R

theorem proj_dx (t : Fin 4096) (d : Fin 1024) : val_main_v36 (F := Ideal) x0 x1 x2 x3 x4 (ix2 t d) = (A.DX t d : EReal) := by
  have hp : ∀ k, val_main_v16 (F := Ideal) x2 x3 (ix2 t k) = (A.p t k : EReal) := fun k => by
    pointwise [val_main_v16]
    simp only [R.dz, R.w, ← EReal.coe_mul, ← coe_sum]
    rfl
  refine Eq.trans ?_ (dx_vjp (A.x t) (A.p t) A.g (A.dy t d) d _ rfl)
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6]
  simp only [hp, R.x, R.g, R.dy, Fin.sum_univ_one]
theorem proj_dxb (t : Fin 4096) (d : Fin 1024) : val_main_v37 (F := Ideal) x0 x1 x2 x3 x4 (ix2 t d) = (A.DX t d : EReal) := by
  refine Eq.trans ?_ (proj_dx R t d)
  pointwise [val_main_v37]
theorem proj_dg (d : Fin 1024) : val_main_v19 (F := Ideal) x0 x2 x3 (ix2 0 d) = (A.DG d : EReal) := by
  have hp : ∀ t, val_main_v16 (F := Ideal) x2 x3 (ix2 t d) = (A.p t d : EReal) := fun t => by
    pointwise [val_main_v16]
    simp only [R.dz, R.w, ← EReal.coe_mul, ← coe_sum]
    rfl
  pointwise [val_main_v19, val_main_v18, val_main_v17, val_main_v12, val_main_v11, val_main_v7, val_main_v6, val_main_v5, val_main_v4, val_main_v3, val_main_v2, val_main_v1, val_main_v0, val_main_cst, val_main_cst_0, val_main_cst_1, val_main_cst_3]
  simp only [hp, R.x]
  refine (Finset.sum_congr rfl fun t _ => dg_vjp (A.x t) (A.p t) d).trans ?_
  rw [← coe_sum]
  rfl

end Proj

end Cert.Dx

end
-- ==== Proof.Whole.lean ====
/-
  Whole buffers: what a load of one reads, and what one store to it leaves.
-/
module

public import Idealize.ShloMosaic.Lib.VecWindow
public import Idealize.ShloMosaic.Lib.WholeRead
public import Idealize.ShloMosaic.PureOps.Ideal
public import Idealize.ShloMosaic.Lib.Pointwise

@[expose] public section

noncomputable section

namespace Cert.Whole

open Idealize.ShloMosaic

variable {F : FTy → Type} [FloatOps F] {sg : RefSig} {s : Shape} {e : EltTy}

/-- A whole buffer, as the body loads it. -/
abbrev ld {arg : Memref sg .tc .vmem s e} (harg : arg.IsWhole) (x : Vec F s e)
    (off : Fin s.rank → ℕ) (inb : ∀ a, off a + s.size a ≤ s.size a) : Vec F s e :=
  View.readAt (Elt F) arg.view (Rect.unit (s := s) off s.size inb).toLoadRect (harg.unread x)
theorem ld_eq {arg : Memref sg .tc .vmem s e} (harg : arg.IsWhole) (x : Vec F s e)
    {off : Fin s.rank → ℕ} (inb : ∀ a, off a + s.size a ≤ s.size a) (h : ∀ a, off a = 0) : ld harg x off inb = x :=
  funext fun i => (harg.readAt_unread x _ _).trans (congrArg x (funext fun a => Fin.ext (by
    show off a + 1 * (i a).val = (i a).val
    rw [h a]
    omega)))
/-- One store to the whole of a buffer. -/
theorem read_store (v : View sg .tc .vmem s e) (f : v.ty.Contents (Elt F)) {off : Fin s.rank → ℕ}
    (inb : ∀ a, off a + s.size a ≤ s.size a) (w : Vec F s e) (h : ∀ a, off a = 0) :
    v.read (Elt F) (v.writes (Elt F) f [⟨Rect.unit (s := s) off s.size inb, w⟩]) = w :=
  funext fun y => View.read_writes_cons_unit_of_mem v f inb w [] y y (rfl : off = off) fun a => by rw [h a, Nat.zero_add]

/-- An entry, named by its two positions. -/
theorem at2 {a b : ℕ} (f : (⟨2, ![a, b]⟩ : Shape).Idx → EReal) (i : (⟨2, ![a, b]⟩ : Shape).Idx) (r : Fin a) (d : Fin b)
    (h0 : (i 0).val = r.val) (h1 : (i 1).val = d.val) : f i = f (ix2 r d) :=
  congrArg f (funext fun q => Fin.ext (by
    fin_cases q
    · exact h0
    · exact h1))

theorem z2 : ∀ a : Fin 2, (![0, 0] : Fin 2 → ℕ) a = 0 := by decide

end Cert.Whole

end
-- ==== Proof.FfnDx.lean ====
/-
  The gradient through the feed-forward half-step's norm: what the launch leaves when the arguments are real.
-/
module

public import proofs.«01_k».proof.Proof.DxRef
public import proofs.«01_k».proof.Proof.Whole
public import proofs.«01_k».proof.Proof.Gen.FfnDxIdeal.Value
public import Idealize.ShloMosaic.Lib.Pipeline.ValueKit
public import Idealize.ShloMosaic.Lib.StableHlo.ReadAt

@[expose] public section

set_option maxRecDepth 16384

noncomputable section

namespace Cert.FfnDxIdeal.Hand

open Cert.FfnDxIdeal Cert.FfnDxIdeal.Gen Cert.FfnDxIdeal.Value Cert.Dx Cert.Rows Cert.Reals Cert.Whole
open Idealize.ShloMosaic Idealize.ShloMosaic.TcCoe Idealize.ShloMosaic.Tactic

abbrev eT (x : FVec Ideal S512x1024 .f32) (r : Fin 512) (d : Fin 1024) : EReal := x (ix2 r d)
abbrev eG (x : Vec Ideal S1x1024 .f32) (d : Fin 1024) : EReal := x (ix2 0 d)
abbrev bD (x : Vec Ideal S1x1x512x704 .bf16) (r : Fin 512) (n : Fin 704) : EReal := x (ix4 0 0 r n)
abbrev bW (x : Vec Ideal S1x1x704x1024 .bf16) (n : Fin 704) (d : Fin 1024) : EReal := x (ix4 0 0 n d)

/-! ## A tile's values -/

section Tile

variable {F : FTy → Type} [FloatOps F]

/-- The tile's product, over the two halves and their four blocks. -/
def pT (D : Fin 2 → Fin 4 → Vec F S1x1x512x704 .bf16) (W : Fin 2 → Fin 4 → Vec F S1x1x704x1024 .bf16) : FVec F S512x1024 .f32 :=
  k0_pay7 (k0_pay6 (D 0 0) (W 0 0) (D 1 0) (W 1 0) (D 0 1) (W 0 1) (D 1 1) (W 1 1)) (D 0 2) (W 0 2) (D 1 2) (W 1 2) (D 0 3) (W 0 3) (D 1 3) (W 1 3)

abbrev offD (a : Fin 2) (b : Fin 4) : Fin S2x4x512x704.rank → ℕ := ![a.val, b.val, 0, 0]
theorem offD_inb : ∀ (a : Fin 2) (b : Fin 4) (q : Fin S2x4x512x704.rank), offD a b q + S1x1x512x704.size q ≤ S2x4x512x704.size q := by decide
theorem offW_inb : ∀ (a : Fin 2) (b : Fin 4) (q : Fin S2x4x704x1024.rank), offD a b q + S1x1x704x1024.size q ≤ S2x4x704x1024.size q := by decide

variable (c : Dev nD) (t : Fin cfg0.N) (x0 : Vec F S2x4x512x704 .bf16) (x1 : Vec F S2x4x704x1024 .bf16) (x2 : Vec F S512x1024 .f32)
  (x3 : Vec F S1x1024 .f32) (x4 : Vec F S512x1024 .f32) (xo : Vec F S1x1024 .f32)

abbrev lD (a : Fin 2) (b : Fin 4) : Vec F S1x1x512x704 .bf16 :=
  View.readAt (Elt F) (ms0_0 t).view (Rect.unit (s := S2x4x512x704) (offD a b) S1x1x512x704.size (offD_inb a b)).toLoadRect ((hs0_0 t).unread x0)
abbrev lW (a : Fin 2) (b : Fin 4) : Vec F S1x1x704x1024 .bf16 :=
  View.readAt (Elt F) (ms0_1 t).view (Rect.unit (s := S2x4x704x1024) (offD a b) S1x1x704x1024.size (offW_inb a b)).toLoadRect ((hs0_1 t).unread x1)
abbrev lX := ld (F := F) (hs0_2 t) x2 ![0, 0] inb_S512x1024_S512x1024_0_0
abbrev lG := ld (F := F) (hs0_3 t) x3 ![0, 0] inb_S1x1024_S1x1024_0_0
abbrev lY := ld (F := F) (hs0_4 t) x4 ![0, 0] inb_S512x1024_S512x1024_0_0
abbrev lO := ld (F := F) (hs0_6 t) xo ![0, 0] inb_S1x1024_S1x1024_0_0

abbrev rA (h0 : t.val % 8 = 0) (h1 : ¬ 1 ≤ t.val) := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) x0 x1 x2 x3 x4
abbrev rB (h0 : ¬ t.val % 8 = 0) (h1 : 1 ≤ t.val) := kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) x0 x1 x2 x3 x4 xo

theorem rA_dx (h0 : t.val % 8 = 0) (h1 : ¬ 1 ≤ t.val) : (rA c t x0 x1 x2 x3 x4 h0 h1).1
    = [⟨Rect.unit (s := S512x1024) ![0, 0] S512x1024.size inb_S512x1024_S512x1024_0_0, k0_pay3 (pT (lD t x0) (lW t x1)) (lX t x2) (lG t x3) (lY t x4)⟩] := by
  sl_kernel_rfl
theorem rA_dg (h0 : t.val % 8 = 0) (h1 : ¬ 1 ≤ t.val) : (rA c t x0 x1 x2 x3 x4 h0 h1).2.1
    = [⟨Rect.unit (s := S1x1024) ![0, 0] S1x1024.size inb_S1x1024_S1x1024_0_0, k0_pay4 (pT (lD t x0) (lW t x1)) (lX t x2)⟩] := by
  sl_kernel_rfl
theorem rB_dx (h0 : ¬ t.val % 8 = 0) (h1 : 1 ≤ t.val) : (rB c t x0 x1 x2 x3 x4 xo h0 h1).1
    = [⟨Rect.unit (s := S512x1024) ![0, 0] S512x1024.size inb_S512x1024_S512x1024_0_0, k0_pay3 (pT (lD t x0) (lW t x1)) (lX t x2) (lG t x3) (lY t x4)⟩] := by
  sl_kernel_rfl
theorem rB_dg (h0 : ¬ t.val % 8 = 0) (h1 : 1 ≤ t.val) : (rB c t x0 x1 x2 x3 x4 xo h0 h1).2.1
    = [⟨Rect.unit (s := S1x1024) ![0, 0] S1x1024.size inb_S1x1024_S1x1024_0_0, k0_pay5 (pT (lD t x0) (lW t x1)) (lX t x2) (lO t xo)⟩] := by
  sl_kernel_rfl

end Tile

/-- Block `b` of half `a` of the hidden columns. -/
def cl (a : Fin 2) (b : Fin 4) (n : Fin 704) : Fin 5632 := ⟨(a.val * 4 + b.val) * 704 + n.val, by omega⟩

theorem sum_blocks (f : Fin 5632 → ℝ) : ∑ n, f n
    = (∑ n, f (cl 0 0 n)) + (∑ n, f (cl 1 0 n)) + (∑ n, f (cl 0 1 n)) + (∑ n, f (cl 1 1 n)) + (∑ n, f (cl 0 2 n)) + (∑ n, f (cl 1 2 n))
      + (∑ n, f (cl 0 3 n)) + (∑ n, f (cl 1 3 n)) := by
  have e : ∑ n, f n = ∑ p : Fin 8 × Fin 704, f (finProdFinEquiv (m := 8) (n := 704) p) := (Fintype.sum_equiv (finProdFinEquiv (m := 8) (n := 704)) _ _ fun p => rfl).symm
  have e' : ∀ (j : Fin 8) (a : Fin 2) (b : Fin 4), j.val = a.val * 4 + b.val → ∀ n, f (finProdFinEquiv (m := 8) (n := 704) (j, n)) = f (cl a b n) := fun j a b h n =>
    congrArg f (Fin.ext (by show n.val + 704 * j.val = (a.val * 4 + b.val) * 704 + n.val; omega))
  rw [e, Fintype.sum_prod_type, Fin.sum_univ_eight]
  simp only [e' 0 0 0 rfl, e' 1 0 1 rfl, e' 2 0 2 rfl, e' 3 0 3 rfl, e' 4 1 0 rfl, e' 5 1 1 rfl, e' 6 1 2 rfl, e' 7 1 3 rfl]
  ring

variable {A : Args 5632}

/-- The blocks a tile loads hold its rows. -/
structure TileOf (A : Args 5632) (j : ℕ) (D : Fin 2 → Fin 4 → Vec Ideal S1x1x512x704 .bf16) (W : Fin 2 → Fin 4 → Vec Ideal S1x1x704x1024 .bf16)
    (x : FVec Ideal S512x1024 .f32) (g : Vec Ideal S1x1024 .f32) (y : FVec Ideal S512x1024 .f32) : Prop where
  D : ∀ a b r n, bD (D a b) r n = (A.dz (row j r) (cl a b n) : EReal)
  W : ∀ a b n d, bW (W a b) n d = (A.w d (cl a b n) : EReal)
  x : ∀ r d, eT x r d = (A.x (row j r) d : EReal)
  g : ∀ d, eG g d = (A.g d : EReal)
  y : ∀ r d, eT y r d = (A.dy (row j r) d : EReal)

theorem pT_apply (D : Fin 2 → Fin 4 → Vec Ideal S1x1x512x704 .bf16) (W : Fin 2 → Fin 4 → Vec Ideal S1x1x704x1024 .bf16) (r : Fin 512) (d : Fin 1024) :
    eT (pT D W) r d = (∑ n, bD (D 0 0) r n * bW (W 0 0) n d) + (∑ n, bD (D 1 0) r n * bW (W 1 0) n d) + (∑ n, bD (D 0 1) r n * bW (W 0 1) n d)
      + (∑ n, bD (D 1 1) r n * bW (W 1 1) n d) + (∑ n, bD (D 0 2) r n * bW (W 0 2) n d) + (∑ n, bD (D 1 2) r n * bW (W 1 2) n d)
      + (∑ n, bD (D 0 3) r n * bW (W 0 3) n d) + (∑ n, bD (D 1 3) r n * bW (W 1 3) n d) := by
  unfold eT bD bW
  pointwise [pT, k0_pay7, k0_pay6]

theorem p3_apply (p x : FVec Ideal S512x1024 .f32) (g : Vec Ideal S1x1024 .f32) (y : FVec Ideal S512x1024 .f32) (r : Fin 512) (d : Fin 1024) :
    eT (k0_pay3 p x g y) r d = Ideal.rsqrt (Ideal.div (∑ k, eT x r k * eT x r k) (Ideal.ofBits .f32 0x44800000#32) + Ideal.ofBits .f32 0x358637BD#32)
      * (eT p r d * eG g d - eT x r d * Ideal.rsqrt (Ideal.div (∑ k, eT x r k * eT x r k) (Ideal.ofBits .f32 0x44800000#32) + Ideal.ofBits .f32 0x358637BD#32)
        * Ideal.div (∑ k, eT p r k * eG g k * (eT x r k * Ideal.rsqrt (Ideal.div (∑ k, eT x r k * eT x r k) (Ideal.ofBits .f32 0x44800000#32) + Ideal.ofBits .f32 0x358637BD#32))) (Ideal.ofBits .f32 0x44800000#32))
      + eT y r d := by
  unfold eT eG
  pointwise [k0_pay3, k0_pay2, k0_pay1]
theorem p4_apply (p x : FVec Ideal S512x1024 .f32) (d : Fin 1024) : eG (k0_pay4 p x) d
    = ∑ r, eT p r d * (eT x r d * Ideal.rsqrt (Ideal.div (∑ k, eT x r k * eT x r k) (Ideal.ofBits .f32 0x44800000#32) + Ideal.ofBits .f32 0x358637BD#32)) := by
  unfold eT eG
  pointwise [k0_pay4, k0_pay2, k0_pay1]
theorem p5_apply (p x : FVec Ideal S512x1024 .f32) (o : Vec Ideal S1x1024 .f32) (d : Fin 1024) : eG (k0_pay5 p x o) d = eG o d + eG (k0_pay4 p x) d := by
  unfold eG
  pointwise [k0_pay5]

section TileVal

variable {j : ℕ} {D : Fin 2 → Fin 4 → Vec Ideal S1x1x512x704 .bf16} {W : Fin 2 → Fin 4 → Vec Ideal S1x1x704x1024 .bf16}
  {x : FVec Ideal S512x1024 .f32} {g : Vec Ideal S1x1024 .f32} {y : FVec Ideal S512x1024 .f32} (T : TileOf A j D W x g y)
include T

theorem tile_p (r : Fin 512) (d : Fin 1024) : eT (pT D W) r d = (A.p (row j r) d : EReal) := by
  rw [pT_apply]
  simp only [T.D, T.W, ← EReal.coe_mul, ← coe_sum, ← EReal.coe_add]
  exact congrArg _ (sum_blocks fun n => A.dz (row j r) n * A.w d n).symm
theorem tile_dx (r : Fin 512) (d : Fin 1024) : eT (k0_pay3 (pT D W) x g y) r d = (A.DX (row j r) d : EReal) := by
  rw [p3_apply]
  simp only [tile_p T, T.x, T.g, T.y]
  exact dx_kernel (A.x (row j r)) (A.p (row j r)) A.g (A.dy (row j r) d) d
theorem tile_dg (d : Fin 1024) : eG (k0_pay4 (pT D W) x) d = ((∑ r, dg (A.x (row j r)) (A.p (row j r)) d : ℝ) : EReal) := by
  rw [p4_apply]
  simp only [tile_p T, T.x]
  rw [coe_sum]
  exact Finset.sum_congr rfl fun r _ => dg_kernel (A.x (row j r)) (A.p (row j r)) d

end TileVal

/-! ## The blocks -/

variable (m : (ℓ : Loc nD τ sig) → Buf (Elt Ideal) ℓ) (c : Dev nD)

theorem V_w (a : Fin 2) (b : Fin 4) (n : Fin 704) (d : Fin 1024) : V m c main_v2 (ix4 a b n d) = m (c.tc.loc main_arg2) (ix2 d (cl a b n)) := by
  unfold V
  after_reads_at
  exact congrArg (m (c.tc.loc main_arg2)) (funext fun q => Fin.ext (by
    match q with
    | ⟨0, _⟩ => rfl
    | ⟨1, _⟩ => show a.val * 2816 + b.val * 704 + n.val = (a.val * 4 + b.val) * 704 + n.val; omega))
theorem V_d (a : Fin 2) (b : Fin 4) (t : Fin 4096) (n : Fin 704) : V m c main_v5 (ix4 a b t n) = m (c.tc.loc main_arg3) (ix2 t (cl a b n)) := by
  unfold V
  after_reads_at
  exact congrArg (m (c.tc.loc main_arg3)) (funext fun q => Fin.ext (by
    match q with
    | ⟨0, _⟩ => rfl
    | ⟨1, _⟩ => show a.val * 2816 + b.val * 704 + n.val = (a.val * 4 + b.val) * 704 + n.val; omega))
theorem V_x (i : S4096x1024.Idx) : V m c main_arg0 i = m (c.tc.loc main_arg0) i := by
  unfold V
  after_reads_simp
theorem V_g (i : S1x1024.Idx) : V m c main_arg1 i = m (c.tc.loc main_arg1) i := by
  unfold V
  after_reads_simp
theorem V_y (i : S4096x1024.Idx) : V m c main_arg4 i = m (c.tc.loc main_arg4) i := by
  unfold V
  after_reads_simp

theorem idx : ∀ t : Fin cfg0.N, win0_0.index t = ![0, 0, t.val, 0] ∧ win0_1.index t = ![0, 0, 0, 0] ∧ win0_2.index t = ![t.val, 0]
    ∧ win0_3.index t = ![0, 0] ∧ win0_4.index t = ![t.val, 0] ∧ win0_5.index t = ![t.val, 0] ∧ win0_6.index t = ![0, 0] ∧ t.val < 8 :=
  (by decide +kernel : ∀ t : Fin grid0.N, _)
theorem row_val (t : Fin cfg0.N) (r : Fin 512) : (row t.val r).val = t.val * 512 + r.val := by
  have := (idx t).2.2.2.2.2.2.2
  show (512 * t.val + r.val) % 4096 = _
  omega

theorem blk0 (t : Fin cfg0.N) (a : Fin 2) (b : Fin 4) (r : Fin 512) (n : Fin 704) :
    iblk m c 0 t (ix4 a b r n) = m (c.tc.loc main_arg3) (ix2 (row t.val r) (cl a b n)) := by
  refine Eq.trans ?_ (V_d m c a b (row t.val r) n)
  have := row_val t r
  blk_point [iblk, idx t]
theorem blk1 (t : Fin cfg0.N) (a : Fin 2) (b : Fin 4) (n : Fin 704) (d : Fin 1024) :
    iblk m c 1 t (ix4 a b n d) = m (c.tc.loc main_arg2) (ix2 d (cl a b n)) := by
  refine Eq.trans ?_ (V_w m c a b n d)
  blk_point [iblk, idx t]
theorem blk2 (t : Fin cfg0.N) (r : Fin 512) (d : Fin 1024) : iblk m c 2 t (ix2 r d) = m (c.tc.loc main_arg0) (ix2 (row t.val r) d) := by
  refine Eq.trans ?_ (V_x m c (ix2 (row t.val r) d))
  have := row_val t r
  blk_point [iblk, idx t]
theorem blk3 (t : Fin cfg0.N) (d : Fin 1024) : iblk m c 3 t (ix2 0 d) = m (c.tc.loc main_arg1) (ix2 0 d) := by
  refine Eq.trans ?_ (V_g m c (ix2 0 d))
  blk_point [iblk, idx t]
theorem blk4 (t : Fin cfg0.N) (r : Fin 512) (d : Fin 1024) : iblk m c 4 t (ix2 r d) = m (c.tc.loc main_arg4) (ix2 (row t.val r) d) := by
  refine Eq.trans ?_ (V_y m c (ix2 (row t.val r) d))
  have := row_val t r
  blk_point [iblk, idx t]

theorem lD_apply (t : Fin cfg0.N) (x : Vec Ideal S2x4x512x704 .bf16) (a : Fin 2) (b : Fin 4) (r : Fin 512) (n : Fin 704) :
    lD t x a b (ix4 0 0 r n) = x (ix4 a b r n) :=
  ((hs0_0 t).readAt_unread x _ _).trans (congrArg x (funext fun q => Fin.ext (by
    fin_cases q
    · show a.val + 1 * 0 = a.val; omega
    · show b.val + 1 * 0 = b.val; omega
    · show 0 + 1 * r.val = r.val; omega
    · show 0 + 1 * n.val = n.val; omega)))
theorem lW_apply (t : Fin cfg0.N) (x : Vec Ideal S2x4x704x1024 .bf16) (a : Fin 2) (b : Fin 4) (n : Fin 704) (d : Fin 1024) :
    lW t x a b (ix4 0 0 n d) = x (ix4 a b n d) :=
  ((hs0_1 t).readAt_unread x _ _).trans (congrArg x (funext fun q => Fin.ext (by
    fin_cases q
    · show a.val + 1 * 0 = a.val; omega
    · show b.val + 1 * 0 = b.val; omega
    · show 0 + 1 * n.val = n.val; omega
    · show 0 + 1 * d.val = d.val; omega)))

variable {m c} (R : Holds A (m (c.tc.loc main_arg0)) (m (c.tc.loc main_arg1)) (m (c.tc.loc main_arg2)) (m (c.tc.loc main_arg3)) (m (c.tc.loc main_arg4)))
include R

theorem tile (t : Fin cfg0.N) : TileOf A t.val (lD t (iblk m c 0 t)) (lW t (iblk m c 1 t)) (lX t (iblk m c 2 t)) (lG t (iblk m c 3 t)) (lY t (iblk m c 4 t)) where
  D a b r n := (lD_apply t (iblk m c 0 t) a b r n).trans ((blk0 m c t a b r n).trans (R.dz _ _))
  W a b n d := (lW_apply t (iblk m c 1 t) a b n d).trans ((blk1 m c t a b n d).trans (R.w _ _))
  x r d := (congrFun (ld_eq (hs0_2 t) (iblk m c 2 t) _ z2) (ix2 r d)).trans ((blk2 m c t r d).trans (R.x _ d))
  g d := (congrFun (ld_eq (hs0_3 t) (iblk m c 3 t) _ z2) (ix2 0 d)).trans ((blk3 m c t d).trans (R.g d))
  y r d := (congrFun (ld_eq (hs0_4 t) (iblk m c 4 t) _ z2) (ix2 r d)).trans ((blk4 m c t r d).trans (R.dy _ d))

/-! ## The tiles -/

abbrev Carried := Vec Ideal S512x1024 .f32 × Vec Ideal S1x1024 .f32

/-- What the buffers hold after tile `n`: its rows' gradients, and the weight's so far. -/
theorem after_tile : ∀ (n : ℕ) (h : n < cfg0.N), (∀ r d, eT (outsAt0 m c n h).1 r d = (A.DX (row n r) d : EReal))
    ∧ ∀ d, eG (outsAt0 m c n h).2 d = ((upto (fun t => dg (A.x t) (A.p t) d) n : ℝ) : EReal)
  | 0, h => by
    have h0 : (⟨0, h⟩ : Fin cfg0.N).val % 8 = 0 := rfl
    have h1 : ¬ 1 ≤ (⟨0, h⟩ : Fin cfg0.N).val := by show ¬ 1 ≤ 0; omega
    have T := tile R ⟨0, h⟩
    constructor
    · intro r d
      refine (congrArg (fun z : Carried => eT z.1 r d) (outsAt0_A m c ⟨0, h⟩ h0 h1)).trans ?_
      dsimp only
      unfold out0_A_5
      rw [rA_dx c _ _ _ _ _ _ h0 h1, read_store _ _ _ _ z2]
      exact tile_dx T r d
    · intro d
      refine (congrArg (fun z : Carried => eG z.2 d) (outsAt0_A m c ⟨0, h⟩ h0 h1)).trans ?_
      dsimp only
      unfold out0_A_6
      rw [rA_dg c _ _ _ _ _ _ h0 h1, read_store _ _ _ _ z2, upto_zero]
      exact tile_dg T d
  | n + 1, h => by
    have hn : n + 1 < 8 := lt_of_lt_of_eq h N_0
    have h0 : ¬ (⟨n + 1, h⟩ : Fin cfg0.N).val % 8 = 0 := by show ¬ (n + 1) % 8 = 0; omega
    have h1 : 1 ≤ (⟨n + 1, h⟩ : Fin cfg0.N).val := by show 1 ≤ n + 1; omega
    have T := tile R ⟨n + 1, h⟩
    have ih := (after_tile n (Nat.lt_of_succ_lt h)).2
    constructor
    · intro r d
      refine (congrArg (fun z : Carried => eT z.1 r d) (outsAt0_B m c ⟨n + 1, h⟩ h0 h1)).trans ?_
      dsimp only
      unfold out0_B_5
      rw [rB_dx c _ _ _ _ _ _ _ h0 h1, read_store _ _ _ _ z2]
      exact tile_dx T r d
    · intro d
      refine (congrArg (fun z : Carried => eG z.2 d) (outsAt0_B m c ⟨n + 1, h⟩ h0 h1)).trans ?_
      dsimp only
      unfold out0_B_6
      rw [rB_dg c _ _ _ _ _ _ _ h0 h1, read_store _ _ _ _ z2, p5_apply, upto_succ, EReal.coe_add]
      exact congrArg₂ _ ((congrFun (ld_eq (hs0_6 _) _ _ z2) (ix2 0 d)).trans (ih d)) (tile_dg T d)

/-- The two results. -/
theorem dx_eq (G : S4096x1024.Idx → EReal) (hG : ∀ t d, G (ix2 t d) = (A.DX t d : EReal)) : (dats m 0 c).arrAt 5 (cfgs 0).N = G := by
  refine (dats m 0 c).arrAt_eq_of_covers 5 _ (by decide +kernel) fun t _ y => ?_
  have i0 : ((((View.whole main_v6_0).slice (win0_5.rect t)).emb y) 0).val = t.val * 512 + (y 0).val := by blk_simp [idx t]
  have i1 : ((((View.whole main_v6_0).slice (win0_5.rect t)).emb y) 1).val = (y 1).val := by blk_simp [idx t]
  blk_simp
  rw [after0_5]
  generalize ((View.whole main_v6_0).slice (win0_5.rect t)).emb y = i at i0 i1 ⊢
  obtain ⟨r, hr⟩ : ∃ r : Fin 512, (y 0).val = r.val := ⟨y 0, rfl⟩
  obtain ⟨d, hd⟩ : ∃ d : Fin 1024, (y 1).val = d.val := ⟨y 1, rfl⟩
  have := row_val t r
  exact (at2 (outsAt0 m c t.val t.isLt).1 y r d hr hd).trans (((after_tile R t.val t.isLt).1 r d).trans
    ((at2 G i (row t.val r) d (by omega) (by omega)).trans (hG _ _)).symm)
theorem dg_eq (G : S1x1024.Idx → EReal) (hG : ∀ d, G (ix2 0 d) = (A.DG d : EReal)) : (dats m 0 c).arrAt 6 (cfgs 0).N = G := by
  refine (dats m 0 c).arrAt_eq_of_covers 6 _ (by decide +kernel) fun t hf y => ?_
  have h7 : t.val = 7 := (by decide +kernel : ∀ t : Fin grid0.N, (cfg0.win 6).flush t = true → t.val = 7) t hf
  have i1 : ((((View.whole main_v6_1).slice (win0_6.rect t)).emb y) 1).val = (y 1).val := by blk_simp [idx t]
  blk_simp
  rw [after0_6]
  generalize ((View.whole main_v6_1).slice (win0_6.rect t)).emb y = i at i1 ⊢
  obtain ⟨d, hd⟩ : ∃ d : Fin 1024, (y 1).val = d.val := ⟨y 1, rfl⟩
  have z : ∀ z : Fin 1, z.val = (0 : Fin 1).val := by decide
  refine (at2 (outsAt0 m c t.val t.isLt).2 y 0 d (z (y 0)) hd).trans (((after_tile R t.val t.isLt).2 d).trans
    (Eq.trans ?_ ((at2 G i 0 d (z (i 0)) (by omega)).trans (hG d)).symm))
  rw [h7, upto_last]
  rfl

end Cert.FfnDxIdeal.Hand

end
-- ==== Proof.Proj.lean ====
/-
  The gradient through the token mixing's norm: what the launch leaves when the arguments are real.
-/
module

public import proofs.«01_k».proof.Proof.DxRef
public import proofs.«01_k».proof.Proof.Whole
public import proofs.«01_k».proof.Proof.Gen.ProjIdeal.Value
public import Idealize.ShloMosaic.Lib.Pipeline.ValueKit
public import Idealize.ShloMosaic.Lib.StableHlo.ReadAt

@[expose] public section

set_option maxRecDepth 16384

noncomputable section

namespace Cert.ProjIdeal.Hand

open Cert.ProjIdeal Cert.ProjIdeal.Gen Cert.ProjIdeal.Value Cert.Dx Cert.Rows Cert.Reals Cert.Whole
open Idealize.ShloMosaic Idealize.ShloMosaic.TcCoe Idealize.ShloMosaic.Tactic

abbrev eT (x : FVec Ideal S512x1024 .f32) (r : Fin 512) (d : Fin 1024) : EReal := x (ix2 r d)
abbrev bT (x : FVec Ideal S512x1024 .bf16) (r : Fin 512) (d : Fin 1024) : EReal := x (ix2 r d)
abbrev eG (x : Vec Ideal S1x1024 .f32) (d : Fin 1024) : EReal := x (ix2 0 d)
abbrev bZ (x : Vec Ideal S512x2688 .bf16) (r : Fin 512) (n : Fin 2688) : EReal := x (ix2 r n)
abbrev bW (x : Vec Ideal S2688x1024 .bf16) (n : Fin 2688) (d : Fin 1024) : EReal := x (ix2 n d)

/-! ## The columns: moved, and padded with zeros -/

/-- A row of the projection's columns as the kernel keeps them. -/
def pad (f : Fin 2568 → ℝ) (n : Fin 2688) : ℝ :=
  if h : n.val < 1536 then f ⟨n.val, by omega⟩
  else if h : n.val < 2560 then f ⟨n.val + 8, by omega⟩
  else if h : n.val < 2568 then f ⟨n.val - 1024, by omega⟩
  else 0

theorem pad_0 (f : Fin 2568 → ℝ) (n : Fin 2688) (h : n.val < 1536) : pad f n = f ⟨n.val, by omega⟩ := dif_pos h
theorem pad_1 (f : Fin 2568 → ℝ) (n : Fin 2688) (h : ¬ n.val < 1536) (h' : n.val < 2560) : pad f n = f ⟨n.val + 8, by omega⟩ :=
  (dif_neg h).trans (dif_pos h')
theorem pad_2 (f : Fin 2568 → ℝ) (n : Fin 2688) (h : ¬ n.val < 2560) (h' : n.val < 2568) : pad f n = f ⟨n.val - 1024, by omega⟩ :=
  (dif_neg (by omega)).trans ((dif_neg h).trans (dif_pos h'))
theorem pad_3 (f : Fin 2568 → ℝ) (n : Fin 2688) (h : ¬ n.val < 2568) : pad f n = 0 :=
  (dif_neg (by omega)).trans ((dif_neg (by omega)).trans (dif_neg h))
theorem pad_mul (f g : Fin 2568 → ℝ) (n : Fin 2688) : pad f n * pad g n = pad (fun e => f e * g e) n := by
  unfold pad
  split_ifs <;> simp
/-- Moving columns and adding zeros leaves a sum. -/
theorem sum_pad (f : Fin 2568 → ℝ) : ∑ n, pad f n = ∑ e, f e := by
  have h1 : ∑ n, pad f n = ∑ n : Fin (1536 + 1024 + 8 + 120), pad f n := rfl
  have h2 : ∑ e, f e = ∑ e : Fin (1536 + 8 + 1024), f e := rfl
  rw [h1, h2, Fin.sum_univ_add, Fin.sum_univ_add, Fin.sum_univ_add, Fin.sum_univ_add, Fin.sum_univ_add]
  have e0 : ∀ i : Fin 1536, pad f (Fin.castAdd 120 (Fin.castAdd 8 (Fin.castAdd 1024 i))) = f (Fin.castAdd 1024 (Fin.castAdd 8 i)) := fun i => by
    have := i.isLt
    unfold pad
    rw [dif_pos (by show i.val < 1536; omega)]
    rfl
  have e1 : ∀ i : Fin 1024, pad f (Fin.castAdd 120 (Fin.castAdd 8 (Fin.natAdd 1536 i))) = f (Fin.natAdd (1536 + 8) i) := fun i => by
    have := i.isLt
    unfold pad
    rw [dif_neg (by show ¬ 1536 + i.val < 1536; omega), dif_pos (by show 1536 + i.val < 2560; omega)]
    exact congrArg f (Fin.ext (by show 1536 + i.val + 8 = 1536 + 8 + i.val; omega))
  have e2 : ∀ i : Fin 8, pad f (Fin.castAdd 120 (Fin.natAdd (1536 + 1024) i)) = f (Fin.castAdd 1024 (Fin.natAdd 1536 i)) := fun i => by
    have := i.isLt
    unfold pad
    rw [dif_neg (by show ¬ 1536 + 1024 + i.val < 1536; omega), dif_neg (by show ¬ 1536 + 1024 + i.val < 2560; omega),
      dif_pos (by show 1536 + 1024 + i.val < 2568; omega)]
    exact congrArg f (Fin.ext (by show 1536 + 1024 + i.val - 1024 = 1536 + i.val; omega))
  have e3 : ∀ i : Fin 120, pad f (Fin.natAdd (1536 + 1024 + 8) i) = 0 := fun i => by
    unfold pad
    rw [dif_neg (by show ¬ 1536 + 1024 + 8 + i.val < 1536; omega), dif_neg (by show ¬ 1536 + 1024 + 8 + i.val < 2560; omega),
      dif_neg (by show ¬ 1536 + 1024 + 8 + i.val < 2568; omega)]
  simp only [e0, e1, e2, e3, Finset.sum_const_zero]
  ring

/-! ## A tile's values -/

section Runs

variable {F : FTy → Type} [FloatOps F]
variable (c : Dev nD) (t : Fin cfg0.N) (x0 : Vec F S512x2688 .bf16) (x1 : Vec F S2688x1024 .bf16) (x2 : Vec F S512x1024 .f32)
  (x3 : Vec F S1x1024 .f32) (x4 : Vec F S512x1024 .f32) (xo : Vec F S1x1024 .f32)

abbrev lZ := ld (F := F) (hs0_0 t) x0 ![0, 0] inb_S512x2688_S512x2688_0_0
abbrev lW := ld (F := F) (hs0_1 t) x1 ![0, 0] inb_S2688x1024_S2688x1024_0_0
abbrev lX := ld (F := F) (hs0_2 t) x2 ![0, 0] inb_S512x1024_S512x1024_0_0
abbrev lG := ld (F := F) (hs0_3 t) x3 ![0, 0] inb_S1x1024_S1x1024_0_0
abbrev lY := ld (F := F) (hs0_4 t) x4 ![0, 0] inb_S512x1024_S512x1024_0_0
abbrev lO := ld (F := F) (hs0_7 t) xo ![0, 0] inb_S1x1024_S1x1024_0_0

abbrev rA (h0 : t.val % 8 = 0) (h1 : ¬ 1 ≤ t.val) := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) x0 x1 x2 x3 x4
abbrev rB (h0 : ¬ t.val % 8 = 0) (h1 : 1 ≤ t.val) := kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) x0 x1 x2 x3 x4 xo

theorem rA_dx (h0 : t.val % 8 = 0) (h1 : ¬ 1 ≤ t.val) : (rA c t x0 x1 x2 x3 x4 h0 h1).1
    = [⟨Rect.unit (s := S512x1024) ![0, 0] S512x1024.size inb_S512x1024_S512x1024_0_0, k0_pay7 (lZ t x0) (lW t x1) (lX t x2) (lG t x3) (lY t x4)⟩] := by
  sl_kernel_rfl
theorem rA_dxb (h0 : t.val % 8 = 0) (h1 : ¬ 1 ≤ t.val) : (rA c t x0 x1 x2 x3 x4 h0 h1).2.1
    = [⟨Rect.unit (s := S512x1024) ![0, 0] S512x1024.size inb_S512x1024_S512x1024_0_0, k0_pay8 (lZ t x0) (lW t x1) (lX t x2) (lG t x3) (lY t x4)⟩] := by
  sl_kernel_rfl
theorem rA_dg (h0 : t.val % 8 = 0) (h1 : ¬ 1 ≤ t.val) : (rA c t x0 x1 x2 x3 x4 h0 h1).2.2.1
    = [⟨Rect.unit (s := S1x1024) ![0, 0] S1x1024.size inb_S1x1024_S1x1024_0_0, k0_pay1 (k0_pay6 (lZ t x0) (lW t x1) (lX t x2))⟩] := by
  sl_kernel_rfl
theorem rB_dx (h0 : ¬ t.val % 8 = 0) (h1 : 1 ≤ t.val) : (rB c t x0 x1 x2 x3 x4 xo h0 h1).1
    = [⟨Rect.unit (s := S512x1024) ![0, 0] S512x1024.size inb_S512x1024_S512x1024_0_0, k0_pay7 (lZ t x0) (lW t x1) (lX t x2) (lG t x3) (lY t x4)⟩] := by
  sl_kernel_rfl
theorem rB_dxb (h0 : ¬ t.val % 8 = 0) (h1 : 1 ≤ t.val) : (rB c t x0 x1 x2 x3 x4 xo h0 h1).2.1
    = [⟨Rect.unit (s := S512x1024) ![0, 0] S512x1024.size inb_S512x1024_S512x1024_0_0, k0_pay8 (lZ t x0) (lW t x1) (lX t x2) (lG t x3) (lY t x4)⟩] := by
  sl_kernel_rfl
theorem rB_dg (h0 : ¬ t.val % 8 = 0) (h1 : 1 ≤ t.val) : (rB c t x0 x1 x2 x3 x4 xo h0 h1).2.2.1
    = [⟨Rect.unit (s := S1x1024) ![0, 0] S1x1024.size inb_S1x1024_S1x1024_0_0, k0_pay2 (k0_pay6 (lZ t x0) (lW t x1) (lX t x2)) (lO t xo)⟩] := by
  sl_kernel_rfl

end Runs

variable {A : Args 2568}

/-- The blocks a tile loads hold its rows. -/
structure TileOf (A : Args 2568) (j : ℕ) (z : Vec Ideal S512x2688 .bf16) (w : Vec Ideal S2688x1024 .bf16) (x : FVec Ideal S512x1024 .f32)
    (g : Vec Ideal S1x1024 .f32) (y : FVec Ideal S512x1024 .f32) : Prop where
  z : ∀ r n, bZ z r n = (pad (A.dz (row j r)) n : EReal)
  w : ∀ n d, bW w n d = (pad (A.w d) n : EReal)
  x : ∀ r d, eT x r d = (A.x (row j r) d : EReal)
  g : ∀ d, eG g d = (A.g d : EReal)
  y : ∀ r d, eT y r d = (A.dy (row j r) d : EReal)

section Apply

variable (z : Vec Ideal S512x2688 .bf16) (w : Vec Ideal S2688x1024 .bf16) (x : FVec Ideal S512x1024 .f32) (g : Vec Ideal S1x1024 .f32)
  (y : FVec Ideal S512x1024 .f32) (r : Fin 512) (d : Fin 1024)

theorem p3_apply : eT (k0_pay3 z w) r d = ∑ n, bZ z r n * bW w n d := by
  unfold eT bZ bW
  pointwise [k0_pay3]
theorem p6_apply : eT (k0_pay6 z w x) r d = eT (k0_pay3 z w) r d
    * (eT x r d * Ideal.rsqrt (Ideal.div (∑ k, eT x r k * eT x r k) (Ideal.ofBits .f32 0x44800000#32) + Ideal.ofBits .f32 0x358637BD#32)) := by
  unfold eT
  pointwise [k0_pay6, k0_pay5, k0_pay4]
theorem p7_apply : eT (k0_pay7 z w x g y) r d = Ideal.rsqrt (Ideal.div (∑ k, eT x r k * eT x r k) (Ideal.ofBits .f32 0x44800000#32) + Ideal.ofBits .f32 0x358637BD#32)
      * (eT (k0_pay3 z w) r d * eG g d - eT x r d * Ideal.rsqrt (Ideal.div (∑ k, eT x r k * eT x r k) (Ideal.ofBits .f32 0x44800000#32) + Ideal.ofBits .f32 0x358637BD#32)
        * Ideal.div (∑ k, eT (k0_pay3 z w) r k * eG g k * (eT x r k * Ideal.rsqrt (Ideal.div (∑ k, eT x r k * eT x r k) (Ideal.ofBits .f32 0x44800000#32) + Ideal.ofBits .f32 0x358637BD#32))) (Ideal.ofBits .f32 0x44800000#32))
      + eT y r d := by
  unfold eT eG
  pointwise [k0_pay7, k0_pay5, k0_pay4]
theorem p8_apply : bT (k0_pay8 z w x g y) r d = eT (k0_pay7 z w x g y) r d := by
  unfold bT eT
  pointwise [k0_pay8]
theorem p1_apply (u : FVec Ideal S512x1024 .f32) : eG (k0_pay1 u) d = ∑ r, eT u r d := by
  unfold eG eT
  pointwise [k0_pay1]
theorem p2_apply (u : FVec Ideal S512x1024 .f32) (o : Vec Ideal S1x1024 .f32) : eG (k0_pay2 u o) d = eG o d + eG (k0_pay1 u) d := by
  unfold eG
  pointwise [k0_pay2]

end Apply

section TileVal

variable {j : ℕ} {z : Vec Ideal S512x2688 .bf16} {w : Vec Ideal S2688x1024 .bf16} {x : FVec Ideal S512x1024 .f32} {g : Vec Ideal S1x1024 .f32}
  {y : FVec Ideal S512x1024 .f32} (T : TileOf A j z w x g y)
include T

theorem tile_p (r : Fin 512) (d : Fin 1024) : eT (k0_pay3 z w) r d = (A.p (row j r) d : EReal) := by
  rw [p3_apply]
  simp only [T.z, T.w, ← EReal.coe_mul, ← coe_sum, pad_mul, sum_pad]
  rfl
theorem tile_dx (r : Fin 512) (d : Fin 1024) : eT (k0_pay7 z w x g y) r d = (A.DX (row j r) d : EReal) := by
  rw [p7_apply]
  simp only [tile_p T, T.x, T.g, T.y]
  exact dx_kernel (A.x (row j r)) (A.p (row j r)) A.g (A.dy (row j r) d) d
theorem tile_dg (d : Fin 1024) : eG (k0_pay1 (k0_pay6 z w x)) d = ((∑ r, dg (A.x (row j r)) (A.p (row j r)) d : ℝ) : EReal) := by
  rw [p1_apply]
  simp only [p6_apply, tile_p T, T.x]
  rw [coe_sum]
  exact Finset.sum_congr rfl fun r _ => dg_kernel (A.x (row j r)) (A.p (row j r)) d

end TileVal

/-- Entries of one row in the same column. -/
theorem col {a b : ℕ} (f : (⟨2, ![a, b]⟩ : Shape).Idx → EReal) (t : Fin a) (d e : Fin b) (h : d.val = e.val) : f (ix2 t d) = f (ix2 t e) :=
  congrArg (fun z => f (ix2 t z)) (Fin.ext h)

/-! ## The blocks -/

variable (m : (ℓ : Loc nD τ sig) → Buf (Elt Ideal) ℓ) (c : Dev nD)

theorem V_x (i : S4096x1024.Idx) : V m c main_arg0 i = m (c.tc.loc main_arg0) i := by
  unfold V
  after_reads_simp
theorem V_g (i : S1x1024.Idx) : V m c main_arg1 i = m (c.tc.loc main_arg1) i := by
  unfold V
  after_reads_simp
theorem V_y (i : S4096x1024.Idx) : V m c main_arg4 i = m (c.tc.loc main_arg4) i := by
  unfold V
  after_reads_simp

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0]
    ∧ t.val < 8 :=
  (by decide +kernel : ∀ t : Fin grid0.N, _)
theorem row_val (t : Fin cfg0.N) (r : Fin 512) : (row t.val r).val = t.val * 512 + r.val := by
  have := (idx t).2.2.2.2.2.2.2.2
  show (512 * t.val + r.val) % 4096 = _
  omega

theorem blk0 (t : Fin cfg0.N) (r : Fin 512) (n : Fin 2688) : iblk m c 0 t (ix2 r n) = V m c main_v5 (ix2 (row t.val r) n) := by
  have := row_val t r
  blk_point [iblk, idx t]
theorem blk1 (t : Fin cfg0.N) (n : Fin 2688) (d : Fin 1024) : iblk m c 1 t (ix2 n d) = V m c main_v12 (ix2 n d) := by
  blk_point [iblk, idx t]
theorem blk2 (t : Fin cfg0.N) (r : Fin 512) (d : Fin 1024) : iblk m c 2 t (ix2 r d) = m (c.tc.loc main_arg0) (ix2 (row t.val r) d) := by
  refine Eq.trans ?_ (V_x m c (ix2 (row t.val r) d))
  have := row_val t r
  blk_point [iblk, idx t]
theorem blk3 (t : Fin cfg0.N) (d : Fin 1024) : iblk m c 3 t (ix2 0 d) = m (c.tc.loc main_arg1) (ix2 0 d) := by
  refine Eq.trans ?_ (V_g m c (ix2 0 d))
  blk_point [iblk, idx t]
theorem blk4 (t : Fin cfg0.N) (r : Fin 512) (d : Fin 1024) : iblk m c 4 t (ix2 r d) = m (c.tc.loc main_arg4) (ix2 (row t.val r) d) := by
  refine Eq.trans ?_ (V_y m c (ix2 (row t.val r) d))
  have := row_val t r
  blk_point [iblk, idx t]

variable {m c} (R : Holds A (m (c.tc.loc main_arg0)) (m (c.tc.loc main_arg1)) (m (c.tc.loc main_arg2)) (m (c.tc.loc main_arg3)) (m (c.tc.loc main_arg4)))
include R

theorem V_z (t : Fin 4096) (n : Fin 2688) : V m c main_v5 (ix2 t n) = (pad (A.dz t) n : EReal) := by
  unfold V
  after_reads_at
  have hn := n.isLt
  split_ifs
  all_goals try exact absurd rfl ‹¬ _ = _›
  · rw [pad_0 _ _ (by omega)]
    after_reads_at
    exact R.dz t _
  · rw [pad_1 _ _ (by omega) (by omega), ← R.dz]
    after_reads_at
    exact col _ t _ _ (by show 1544 + (n.val - 1536) = n.val + 8; omega)
  · rw [pad_2 _ _ (by omega) (by omega), ← R.dz]
    after_reads_at
    exact col _ t _ _ (by show 1536 + (n.val - 1536 - 1024) = n.val - 1024; omega)
  · rw [pad_3 _ _ (by omega)]
    after_reads_at
    exact EReal.coe_zero.symm
theorem V_w (n : Fin 2688) (d : Fin 1024) : V m c main_v12 (ix2 n d) = (pad (A.w d) n : EReal) := by
  unfold V
  after_reads_at
  have hn := n.isLt
  split_ifs
  all_goals try exact absurd rfl ‹¬ _ = _›
  · rw [pad_0 _ _ (by omega)]
    after_reads_at
    exact R.w d _
  · rw [pad_1 _ _ (by omega) (by omega), ← R.w]
    after_reads_at
    exact col _ d _ _ (by show 1544 + (n.val - 1536) = n.val + 8; omega)
  · rw [pad_2 _ _ (by omega) (by omega), ← R.w]
    after_reads_at
    exact col _ d _ _ (by show 1536 + (n.val - 1536 - 1024) = n.val - 1024; omega)
  · rw [pad_3 _ _ (by omega)]
    after_reads_at
    exact EReal.coe_zero.symm

theorem tile (t : Fin cfg0.N) : TileOf A t.val (lZ t (iblk m c 0 t)) (lW t (iblk m c 1 t)) (lX t (iblk m c 2 t)) (lG t (iblk m c 3 t)) (lY t (iblk m c 4 t)) where
  z r n := (congrFun (ld_eq (hs0_0 t) (iblk m c 0 t) _ z2) (ix2 r n)).trans ((blk0 m c t r n).trans (V_z R _ n))
  w n d := (congrFun (ld_eq (hs0_1 t) (iblk m c 1 t) _ z2) (ix2 n d)).trans ((blk1 m c t n d).trans (V_w R n d))
  x r d := (congrFun (ld_eq (hs0_2 t) (iblk m c 2 t) _ z2) (ix2 r d)).trans ((blk2 m c t r d).trans (R.x _ d))
  g d := (congrFun (ld_eq (hs0_3 t) (iblk m c 3 t) _ z2) (ix2 0 d)).trans ((blk3 m c t d).trans (R.g d))
  y r d := (congrFun (ld_eq (hs0_4 t) (iblk m c 4 t) _ z2) (ix2 r d)).trans ((blk4 m c t r d).trans (R.dy _ d))

/-! ## The tiles -/

abbrev Carried := Vec Ideal S512x1024 .f32 × Vec Ideal S512x1024 .bf16 × Vec Ideal S1x1024 .f32

/-- What the buffers hold after tile `n`: its rows' gradients, and the weight's so far. -/
theorem after_tile : ∀ (n : ℕ) (h : n < cfg0.N), (∀ r d, eT (outsAt0 m c n h).1 r d = (A.DX (row n r) d : EReal))
    ∧ (∀ r d, bT (outsAt0 m c n h).2.1 r d = (A.DX (row n r) d : EReal))
    ∧ ∀ d, eG (outsAt0 m c n h).2.2 d = ((upto (fun t => dg (A.x t) (A.p t) d) n : ℝ) : EReal)
  | 0, h => by
    have h0 : (⟨0, h⟩ : Fin cfg0.N).val % 8 = 0 := rfl
    have h1 : ¬ 1 ≤ (⟨0, h⟩ : Fin cfg0.N).val := by show ¬ 1 ≤ 0; omega
    have T := tile R ⟨0, h⟩
    refine ⟨fun r d => ?_, fun r d => ?_, fun d => ?_⟩
    · refine (congrArg (fun z : Carried => eT z.1 r d) (outsAt0_A m c ⟨0, h⟩ h0 h1)).trans ?_
      dsimp only
      unfold out0_A_5
      rw [rA_dx c _ _ _ _ _ _ h0 h1, read_store _ _ _ _ z2]
      exact tile_dx T r d
    · refine (congrArg (fun z : Carried => bT z.2.1 r d) (outsAt0_A m c ⟨0, h⟩ h0 h1)).trans ?_
      dsimp only
      unfold out0_A_6
      rw [rA_dxb c _ _ _ _ _ _ h0 h1, read_store _ _ _ _ z2, p8_apply]
      exact tile_dx T r d
    · refine (congrArg (fun z : Carried => eG z.2.2 d) (outsAt0_A m c ⟨0, h⟩ h0 h1)).trans ?_
      dsimp only
      unfold out0_A_7
      rw [rA_dg c _ _ _ _ _ _ h0 h1, read_store _ _ _ _ z2, upto_zero]
      exact tile_dg T d
  | n + 1, h => by
    have hn : n + 1 < 8 := lt_of_lt_of_eq h N_0
    have h0 : ¬ (⟨n + 1, h⟩ : Fin cfg0.N).val % 8 = 0 := by show ¬ (n + 1) % 8 = 0; omega
    have h1 : 1 ≤ (⟨n + 1, h⟩ : Fin cfg0.N).val := by show 1 ≤ n + 1; omega
    have T := tile R ⟨n + 1, h⟩
    have ih := (after_tile n (Nat.lt_of_succ_lt h)).2.2
    refine ⟨fun r d => ?_, fun r d => ?_, fun d => ?_⟩
    · refine (congrArg (fun z : Carried => eT z.1 r d) (outsAt0_B m c ⟨n + 1, h⟩ h0 h1)).trans ?_
      dsimp only
      unfold out0_B_5
      rw [rB_dx c _ _ _ _ _ _ _ h0 h1, read_store _ _ _ _ z2]
      exact tile_dx T r d
    · refine (congrArg (fun z : Carried => bT z.2.1 r d) (outsAt0_B m c ⟨n + 1, h⟩ h0 h1)).trans ?_
      dsimp only
      unfold out0_B_6
      rw [rB_dxb c _ _ _ _ _ _ _ h0 h1, read_store _ _ _ _ z2, p8_apply]
      exact tile_dx T r d
    · refine (congrArg (fun z : Carried => eG z.2.2 d) (outsAt0_B m c ⟨n + 1, h⟩ h0 h1)).trans ?_
      dsimp only
      unfold out0_B_7
      rw [rB_dg c _ _ _ _ _ _ _ h0 h1, read_store _ _ _ _ z2, p2_apply, upto_succ, EReal.coe_add]
      exact congrArg₂ _ ((congrFun (ld_eq (hs0_7 _) _ _ z2) (ix2 0 d)).trans (ih d)) (tile_dg T d)

/-- The three results. -/
theorem dx_eq (G : S4096x1024.Idx → EReal) (hG : ∀ t d, G (ix2 t d) = (A.DX t d : EReal)) : (dats m 0 c).arrAt 5 (cfgs 0).N = G := by
  refine (dats m 0 c).arrAt_eq_of_covers 5 _ (by decide +kernel) fun t _ y => ?_
  have i0 : ((((View.whole main_v13_0).slice (win0_5.rect t)).emb y) 0).val = t.val * 512 + (y 0).val := by blk_simp [idx t]
  have i1 : ((((View.whole main_v13_0).slice (win0_5.rect t)).emb y) 1).val = (y 1).val := by blk_simp [idx t]
  blk_simp
  rw [after0_5]
  generalize ((View.whole main_v13_0).slice (win0_5.rect t)).emb y = i at i0 i1 ⊢
  obtain ⟨r, hr⟩ : ∃ r : Fin 512, (y 0).val = r.val := ⟨y 0, rfl⟩
  obtain ⟨d, hd⟩ : ∃ d : Fin 1024, (y 1).val = d.val := ⟨y 1, rfl⟩
  have := row_val t r
  exact (at2 (outsAt0 m c t.val t.isLt).1 y r d hr hd).trans (((after_tile R t.val t.isLt).1 r d).trans
    ((at2 G i (row t.val r) d (by omega) (by omega)).trans (hG _ _)).symm)
theorem dxb_eq (G : S4096x1024.Idx → EReal) (hG : ∀ t d, G (ix2 t d) = (A.DX t d : EReal)) : (dats m 0 c).arrAt 6 (cfgs 0).N = G := by
  refine (dats m 0 c).arrAt_eq_of_covers 6 _ (by decide +kernel) fun t _ y => ?_
  have i0 : ((((View.whole main_v13_1).slice (win0_6.rect t)).emb y) 0).val = t.val * 512 + (y 0).val := by blk_simp [idx t]
  have i1 : ((((View.whole main_v13_1).slice (win0_6.rect t)).emb y) 1).val = (y 1).val := by blk_simp [idx t]
  blk_simp
  rw [after0_6]
  generalize ((View.whole main_v13_1).slice (win0_6.rect t)).emb y = i at i0 i1 ⊢
  obtain ⟨r, hr⟩ : ∃ r : Fin 512, (y 0).val = r.val := ⟨y 0, rfl⟩
  obtain ⟨d, hd⟩ : ∃ d : Fin 1024, (y 1).val = d.val := ⟨y 1, rfl⟩
  have := row_val t r
  exact (at2 (outsAt0 m c t.val t.isLt).2.1 y r d hr hd).trans (((after_tile R t.val t.isLt).2.1 r d).trans
    ((at2 G i (row t.val r) d (by omega) (by omega)).trans (hG _ _)).symm)
theorem dg_eq (G : S1x1024.Idx → EReal) (hG : ∀ d, G (ix2 0 d) = (A.DG d : EReal)) : (dats m 0 c).arrAt 7 (cfgs 0).N = G := by
  refine (dats m 0 c).arrAt_eq_of_covers 7 _ (by decide +kernel) fun t hf y => ?_
  have h7 : t.val = 7 := (by decide +kernel : ∀ t : Fin grid0.N, (cfg0.win 7).flush t = true → t.val = 7) t hf
  have i1 : ((((View.whole main_v13_2).slice (win0_7.rect t)).emb y) 1).val = (y 1).val := by blk_simp [idx t]
  blk_simp
  rw [after0_7]
  generalize ((View.whole main_v13_2).slice (win0_7.rect t)).emb y = i at i1 ⊢
  obtain ⟨d, hd⟩ : ∃ d : Fin 1024, (y 1).val = d.val := ⟨y 1, rfl⟩
  have z : ∀ z : Fin 1, z.val = (0 : Fin 1).val := by decide
  refine (at2 (outsAt0 m c t.val t.isLt).2.2 y 0 d (z (y 0)) hd).trans (((after_tile R t.val t.isLt).2.2 d).trans
    (Eq.trans ?_ ((at2 G i 0 d (z (i 0)) (by omega)).trans (hG d)).symm))
  rw [h7, upto_last]
  rfl

end Cert.ProjIdeal.Hand

end
-- ==== Proof.DxClaim.lean ====
/-
  The two norms' gradients, of the feed-forward half-step and of the token mixing: their value claims, and the references' frames.
-/
module

public import proofs.«01_k».proof.Defs
public import proofs.«01_k».proof.Proof.FfnDx
public import proofs.«01_k».proof.Proof.Proj
public import proofs.«01_k».proof.Proof.CrossClaim
public import proofs.«01_k».proof.Proof.Gen.FfnDxRefIdeal.Run
public import proofs.«01_k».proof.Proof.Gen.ProjRefIdeal.Run
public import proofs.«01_k».proof.Proof.Gen.Pre_dx_finite
public import proofs.«01_k».proof.Proof.Gen.Pre_proj_finite

@[expose] public section

set_option maxRecDepth 16384

noncomputable section

open Idealize.ShloMosaic Idealize.ShloMosaic.TcCoe Idealize.SL.Sem

namespace Cert.DxClaim

open Cert.Reals Cert.Dx
open Cert.CrossClaim (ext2 row_ext)

section PreFfn

open Cert.Pre_dx_finite

/-- The precondition: every entry of the arguments is real. -/
theorem of_ffn (x0 : FVec Ideal S4096x1024 .f32) (x1 : FVec Ideal S1x1024 .f32) (x2 : FVec Ideal S1024x5632 .f32) (x3 : FVec Ideal S4096x5632 .f32)
    (x4 : FVec Ideal S4096x1024 .f32) (h : fn x0 x1 x2 x3 x4 = fun _ => 1#1) :
    (∀ i, IsR (x0 i)) ∧ (∀ i, IsR (x1 i)) ∧ (∀ i, IsR (x2 i)) ∧ (∀ i, IsR (x3 i)) ∧ ∀ i, IsR (x4 i) := by
  have h0 := congrFun h (fun a => a.elim0)
  unfold fn fn_part1 at h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨fun i => ?_, fun i => ?_, fun i => ?_, fun i => ?_, fun i => ?_⟩
  · exact isR_of_lt_word (Host.reduce_andi_all _ _ _ _ _ h0 i)
  · exact isR_of_lt_word (Host.reduce_andi_all _ _ _ _ _ h1 i)
  · exact isR_of_lt_word (Host.reduce_andi_all _ _ _ _ _ h2 i)
  · exact isR_of_lt_word (Host.reduce_andi_all _ _ _ _ _ h3 i)
  · exact isR_of_lt_word (Host.reduce_andi_all _ _ _ _ _ h4 i)

end PreFfn

section PreProj

open Cert.Pre_proj_finite

/-- The precondition: every entry of the arguments is real. -/
theorem of_proj (x0 : FVec Ideal S4096x1024 .f32) (x1 : FVec Ideal S1x1024 .f32) (x2 : FVec Ideal S1024x2568 .f32) (x3 : FVec Ideal S4096x2568 .f32)
    (x4 : FVec Ideal S4096x1024 .f32) (h : fn x0 x1 x2 x3 x4 = fun _ => 1#1) :
    (∀ i, IsR (x0 i)) ∧ (∀ i, IsR (x1 i)) ∧ (∀ i, IsR (x2 i)) ∧ (∀ i, IsR (x3 i)) ∧ ∀ i, IsR (x4 i) := by
  have h0 := congrFun h (fun a => a.elim0)
  unfold fn fn_part1 at h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨fun i => ?_, fun i => ?_, fun i => ?_, fun i => ?_, fun i => ?_⟩
  · exact isR_of_lt_word (Host.reduce_andi_all _ _ _ _ _ h0 i)
  · exact isR_of_lt_word (Host.reduce_andi_all _ _ _ _ _ h1 i)
  · exact isR_of_lt_word (Host.reduce_andi_all _ _ _ _ _ h2 i)
  · exact isR_of_lt_word (Host.reduce_andi_all _ _ _ _ _ h3 i)
  · exact isR_of_lt_word (Host.reduce_andi_all _ _ _ _ _ h4 i)

end PreProj

/-- Arrays of real entries hold real arguments. -/
theorem exists_args {n : ℕ} (x0 : (⟨2, ![4096, 1024]⟩ : Shape).Idx → EReal) (x1 : (⟨2, ![1, 1024]⟩ : Shape).Idx → EReal)
    (x2 : (⟨2, ![1024, n]⟩ : Shape).Idx → EReal) (x3 : (⟨2, ![4096, n]⟩ : Shape).Idx → EReal) (x4 : (⟨2, ![4096, 1024]⟩ : Shape).Idx → EReal)
    (h0 : ∀ i, IsR (x0 i)) (h1 : ∀ i, IsR (x1 i)) (h2 : ∀ i, IsR (x2 i)) (h3 : ∀ i, IsR (x3 i)) (h4 : ∀ i, IsR (x4 i)) :
    ∃ A : Args n, Holds A x0 x1 x2 x3 x4 :=
  ⟨{ x := fun t d => (h0 (ix2 t d)).choose, dy := fun t d => (h4 (ix2 t d)).choose, g := fun d => (h1 (ix2 0 d)).choose
     w := fun d e => (h2 (ix2 d e)).choose, dz := fun t e => (h3 (ix2 t e)).choose },
   { x := fun _ _ => (h0 _).choose_spec, g := fun _ => (h1 _).choose_spec, w := fun _ _ => (h2 _).choose_spec,
     dz := fun _ _ => (h3 _).choose_spec, dy := fun _ _ => (h4 _).choose_spec }⟩

/-- The references leave their arguments and have no semaphores. -/
theorem frame_ffn : Cert.quiescent_FfnDxRefIdeal := fun m g _ =>
  (θ_run Cert.FfnDxRefIdeal.defs _ _).mono (fun r h => ⟨fun c => (h c).2.2, sem_eq_zero_of_no_sems rfl r.2⟩) (Cert.FfnDxRefIdeal.Value.run m g)
theorem frame_proj : Cert.quiescent_ProjRefIdeal := fun m g _ =>
  (θ_run Cert.ProjRefIdeal.defs _ _).mono (fun r h => ⟨fun c => (h c).2.2.2, sem_eq_zero_of_no_sems rfl r.2⟩) (Cert.ProjRefIdeal.Value.run m g)

open Cert.FfnDxIdeal Cert.FfnDxIdeal.Value Cert.FfnDxIdeal.Gen in
theorem ffn : Cert.algebraic_FfnDxIdeal_FfnDxRefIdeal_pre_dx_finite := by
  intro m g m' g' hp hm
  refine ⟨fun c => (dats m 0 c).arrAt 5 cfg0.N, fun c => (dats m 0 c).arrAt 6 cfg0.N, ?_, ?_⟩
  · exact Cert.FfnDxIdeal.Value.run_blocks m g
  refine (θ_run _ _ _).mono (fun r h c => ?_) (Cert.FfnDxRefIdeal.Value.run m' g')
  obtain ⟨e0, e1, e2, e3, e4⟩ := hm c
  obtain ⟨h0, h1, h2, h3, h4⟩ := of_ffn _ _ _ _ _ (hp c)
  obtain ⟨A, R⟩ := exists_args _ _ _ _ _ h0 h1 h2 h3 h4
  obtain ⟨r0, r1, rest⟩ := h c
  refine ⟨r0.trans ?_, r1.trans ?_, rest⟩
  · rw [Cert.FfnDxRefIdeal.Read.val_main_v36_eq, e0, e1, e2, e3, e4]
    exact (Cert.FfnDxIdeal.Hand.dx_eq R _ fun a b => Cert.Dx.ffn_dx R a b).symm
  · rw [Cert.FfnDxRefIdeal.Read.val_main_v19_eq, e0, e2, e3]
    exact (Cert.FfnDxIdeal.Hand.dg_eq R _ fun d => Cert.Dx.ffn_dg R d).symm

open Cert.ProjIdeal Cert.ProjIdeal.Value Cert.ProjIdeal.Gen in
theorem proj : Cert.algebraic_ProjIdeal_ProjRefIdeal_pre_proj_finite := by
  intro m g m' g' hp hm
  refine ⟨fun c => (dats m 0 c).arrAt 5 cfg0.N, fun c => (dats m 0 c).arrAt 6 cfg0.N, fun c => (dats m 0 c).arrAt 7 cfg0.N, ?_, ?_⟩
  · exact Cert.ProjIdeal.Value.run_blocks m g
  refine (θ_run _ _ _).mono (fun r h c => ?_) (Cert.ProjRefIdeal.Value.run m' g')
  obtain ⟨e0, e1, e2, e3, e4⟩ := hm c
  obtain ⟨h0, h1, h2, h3, h4⟩ := of_proj _ _ _ _ _ (hp c)
  obtain ⟨A, R⟩ := exists_args _ _ _ _ _ h0 h1 h2 h3 h4
  obtain ⟨r0, r1, r2, rest⟩ := h c
  refine ⟨r0.trans ?_, r1.trans ?_, r2.trans ?_, rest⟩
  · rw [Cert.ProjRefIdeal.Read.val_main_v36_eq, e0, e1, e2, e3, e4]
    exact (Cert.ProjIdeal.Hand.dx_eq R _ fun a b => Cert.Dx.proj_dx R a b).symm
  · rw [Cert.ProjRefIdeal.Read.val_main_v37_eq, e0, e1, e2, e3, e4]
    exact (Cert.ProjIdeal.Hand.dxb_eq R _ fun a b => Cert.Dx.proj_dxb R a b).symm
  · rw [Cert.ProjRefIdeal.Read.val_main_v19_eq, e0, e2, e3]
    exact (Cert.ProjIdeal.Hand.dg_eq R _ fun d => Cert.Dx.proj_dg R d).symm

end Cert.DxClaim

end
-- ==== Proof.CrossFwd.lean ====
/-
  The cross attention's forward kernel: the array it leaves, at real arguments.
-/
module

public import proofs.«01_k».proof.Proof.Gen.CrossFwdIdeal.Value
public import proofs.«01_k».proof.Proof.CrossEnd
public import proofs.«01_k».proof.Proof.Whole

@[expose] public section

set_option maxRecDepth 16384

noncomputable section

namespace Cert.CrossFwdIdeal.Hand

open Cert.CrossFwdIdeal Cert.CrossFwdIdeal.Gen Cert.CrossFwdIdeal.Value Cert.CrossMath Cert.Reals Cert.Whole
open Cert.CrossIdeal.Hand (Holds w_1024 w_256 w_16th neg_inf)
open Idealize.ShloMosaic Idealize.ShloMosaic.TcCoe Idealize.ShloMosaic.Tactic

/-- The result over the real numbers. -/
def Y (A : Args) (t : Fin 4096) (d : Fin 1024) : ℝ := A.x t d + ∑ n, O A t (hd n) (at' n) * A.wo n d

section Values

variable {F : FTy → Type} [FloatOps F]

theorem slT_ok : ∀ h : Fin 4, S1024x1024.Slices ![0, 256 * h.val] S1024x256 := by decide
/-- Head `h`'s columns of a tile. -/
def slT (h : Fin 4) (v : FVec F S1024x1024 .f32) : FVec F S1024x256 .f32 :=
  extractStridedSlice S1024x256 ![0, 256 * h.val] v (slT_ok h)
/-- The norm's factor of each row. -/
def rT (q : FVec F S1024x256 .f32) : FVec F S1024x1 .f32 :=
  rsqrt (addf (divf (shapeCast S1024x1 (multiReduction .add [1] S1024 (mulf q q) 0x00000000#32 reduces_S1024x256_S1024 (.inl rfl) rfl) shapeCasts_S1024_S1024x1)
    (broadcast S1024x1 (Scalar.ofBits .f32 0x43800000#32))) (broadcast S1024x1 (Scalar.ofBits .f32 0x358637BD#32)))
/-- The weights, and the head's result. -/
def pT (gc : Vec F S1x256 .f32) (q : FVec F S1024x256 .f32) (k : Vec F S1x256x256 .bf16) : FVec F S1024x256 .f32 := k0_pay9 gc q (rT q) k
def oT (x : Vec F S1024x1024 .f32) (g : Vec F S1x1024 .f32) (w : Vec F S1024x1024 .bf16) (gc : Vec F S1x256 .f32)
    (k v : Fin 4 → Vec F S1x256x256 .bf16) (h : Fin 4) : FVec F S1024x256 .bf16 := k0_pay11 (pT gc (slT h (k0_pay3 x g w)) (k h)) (v h)

/-- Head `h`'s columns of a tile, and of an array laid out heads first. -/
abbrev offH (h : Fin 4) : Fin S1024x1024.rank → ℕ := ![0, 256 * h.val]
theorem offH_inb : ∀ (h : Fin 4) (a : Fin S1024x1024.rank), offH h a + S1024x256.size a ≤ S1024x1024.size a := by decide
abbrev offK (h : Fin 4) : Fin S4x256x256.rank → ℕ := ![h.val, 0, 0]
theorem offK_inb : ∀ (h : Fin 4) (a : Fin S4x256x256.rank), offK h a + S1x256x256.size a ≤ S4x256x256.size a := by decide
abbrev ldK {e : EltTy} {arg : Memref sig .tc .vmem S4x256x256 e} (harg : arg.IsWhole) (x : Vec F S4x256x256 e) (h : Fin 4) : Vec F S1x256x256 e :=
  View.readAt (Elt F) arg.view (Rect.unit (s := S4x256x256) (offK h) S1x256x256.size (offK_inb h)).toLoadRect (harg.unread x)
theorem ldK_apply {e : EltTy} {arg : Memref sig .tc .vmem S4x256x256 e} (harg : arg.IsWhole) (x : Vec F S4x256x256 e) (h : Fin 4) (m c : Fin 256) :
    ldK harg x h (ix3 0 m c) = x (ix3 h m c) :=
  (harg.readAt_unread x _ _).trans (congrArg x (funext fun a => Fin.ext (by
    fin_cases a
    · show h.val + 1 * 0 = h.val; omega
    · show 0 + 1 * m.val = m.val; omega
    · show 0 + 1 * c.val = c.val; omega)))

variable (c : Dev nD) (t : Fin cfg0.N) (x0 : Vec F S1024x1024 .f32) (x1 : Vec F S1x1024 .f32) (x2 : Vec F S1024x1024 .bf16)
  (x3 : Vec F S1x256 .f32) (x4 x5 : Vec F S4x256x256 .bf16) (x6 : Vec F S1024x1024 .bf16)

abbrev lX := ld (F := F) (hs0_0 t) x0 ![0, 0] inb_S1024x1024_S1024x1024_0_0
abbrev lG := ld (F := F) (hs0_1 t) x1 ![0, 0] inb_S1x1024_S1x1024_0_0
abbrev lW := ld (F := F) (hs0_2 t) x2 ![0, 0] inb_S1024x1024_S1024x1024_0_0
abbrev lGc := ld (F := F) (hs0_3 t) x3 ![0, 0] inb_S1x256_S1x256_0_0
abbrev lK := ldK (F := F) (hs0_4 t) x4
abbrev lV := ldK (F := F) (hs0_5 t) x5
abbrev lWo := ld (F := F) (hs0_6 t) x6 ![0, 0] inb_S1024x1024_S1024x1024_0_0
/-- The scratch buffer, stored a head's columns at a time and loaded whole. -/
def lO : Vec F S1024x1024 .bf16 := View.readAt (Elt F) scM0_0.view (Rect.unit (s := S1024x1024) ![0, 0] S1024x1024.size inb_S1024x1024_S1024x1024_0_0).toLoadRect
  (scM0_0.view.writes (Elt F) scM0_0.view.junk (View.tilePieces (s := S1024x1024) S1024x256.size offH offH_inb
    (fun h => oT (lX t x0) (lG t x1) (lW t x2) (lGc t x3) (lK t x4) (lV t x5) h) 4 (le_refl 4)))

abbrev rA := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) x0 x1 x2 x3 x4 x5 x6
theorem rA_y : (rA c t x0 x1 x2 x3 x4 x5 x6).1
    = [⟨Rect.unit (s := S1024x1024) ![0, 0] S1024x1024.size inb_S1024x1024_S1024x1024_0_0, k0_pay2 (lX t x0) (lO t x0 x1 x2 x3 x4 x5) (lWo t x6)⟩] := by
  sl_kernel_rfl

end Values

/-! ## Entries as extended reals -/

abbrev eT (x : Vec Ideal S1024x1024 .f32) (r d : Fin 1024) : EReal := x (ix2 r d)
abbrev bT (x : Vec Ideal S1024x1024 .bf16) (r d : Fin 1024) : EReal := x (ix2 r d)
abbrev eH (x : FVec Ideal S1024x256 .f32) (r : Fin 1024) (c : Fin 256) : EReal := x (ix2 r c)
abbrev bH (x : FVec Ideal S1024x256 .bf16) (r : Fin 1024) (c : Fin 256) : EReal := x (ix2 r c)
abbrev eG (x : Vec Ideal S1x1024 .f32) (d : Fin 1024) : EReal := x (ix2 0 d)
abbrev eC (x : Vec Ideal S1x256 .f32) (c : Fin 256) : EReal := x (ix2 0 c)
abbrev bK (x : Vec Ideal S1x256x256 .bf16) (m c : Fin 256) : EReal := x (ix3 0 m c)

section Apply

variable (x : Vec Ideal S1024x1024 .f32) (g : Vec Ideal S1x1024 .f32) (w wo b : Vec Ideal S1024x1024 .bf16) (gc : Vec Ideal S1x256 .f32)
  (q p : FVec Ideal S1024x256 .f32) (k v : Vec Ideal S1x256x256 .bf16) (h : Fin 4) (r : Fin 1024)

theorem qc_apply (e : Fin 1024) : eT (k0_pay3 x g w) r e = ∑ d, eT x r d
    * Ideal.rsqrt (Ideal.div (∑ k, eT x r k * eT x r k) (Ideal.ofBits .f32 0x44800000#32) + Ideal.ofBits .f32 0x358637BD#32) * eG g d * bT w d e := by
  unfold bT eT eG
  pointwise [k0_pay3]
theorem sl_apply (u : FVec Ideal S1024x1024 .f32) (c : Fin 256) : eH (slT h u) r c = eT u r (col h c) := by
  unfold eH eT
  fin_cases h <;> pointwise [slT] <;> exact congrArg (fun z => u (ix2 r z)) (Fin.ext (by simp [col]))
theorem rT_apply : (rT q (ix2 r 0) : EReal)
    = Ideal.rsqrt (Ideal.div (∑ c, eH q r c * eH q r c) (Ideal.ofBits .f32 0x43800000#32) + Ideal.ofBits .f32 0x358637BD#32) := by
  unfold eH
  pointwise [rT]
/-- A row's scores, and their weights. -/
def sE (m : Fin 256) : EReal := ∑ c, eH q r c * rT q (ix2 r 0) * eC gc c * Ideal.ofBits .f32 0x3D800000#32 * bK k m c
theorem p_apply (m : Fin 256) : eH (pT gc q k) r m
    = Ideal.div (Ideal.exp (sE gc q k r m - Finset.fold max ⊥ (sE gc q k r) Finset.univ))
      (∑ m, Ideal.exp (sE gc q k r m - Finset.fold max ⊥ (sE gc q k r) Finset.univ)) := by
  unfold eH
  pointwise [pT, k0_pay9]
  rw [show Ideal.ofBits FTy.f32 4286578688#32 = ⊥ from neg_inf]
  rfl
theorem o_apply (c : Fin 256) : bH (k0_pay11 p v) r c = ∑ m, eH p r m * bK v m c := by
  unfold bH eH bK
  pointwise [k0_pay11]
theorem y_apply (d : Fin 1024) : eT (k0_pay2 x b wo) r d = eT x r d + ∑ n, bT b r n * bT wo n d := by
  unfold eT bT
  pointwise [k0_pay2]

end Apply

/-! ## The tile's real numbers -/

/-- Row `r` of tile `n`. -/
def row (n : ℕ) (r : Fin 1024) : Fin 4096 := ⟨(1024 * n + r.val) % 4096, Nat.mod_lt _ (by norm_num)⟩

/-- The tile holds rows `1024 * n …` of the arguments, and the other operands hold them whole. -/
structure Tile (A : Args) (n : ℕ) (x : Vec Ideal S1024x1024 .f32) (g : Vec Ideal S1x1024 .f32) (w : Vec Ideal S1024x1024 .bf16)
    (gc : Vec Ideal S1x256 .f32) (k v : Fin 4 → Vec Ideal S1x256x256 .bf16) (wo : Vec Ideal S1024x1024 .bf16) : Prop where
  x : ∀ r d, eT x r d = (A.x (row n r) d : EReal)
  g : ∀ d, eG g d = (A.g d : EReal)
  w : ∀ d e, bT w d e = (A.w d e : EReal)
  gc : ∀ c, eC gc c = (A.gc c : EReal)
  k : ∀ h m c, bK (k h) m c = (A.k h m c : EReal)
  v : ∀ h m c, bK (v h) m c = (A.v h m c : EReal)
  wo : ∀ d e, bT wo d e = (A.wo d e : EReal)

section Real

variable {A : Args} {n : ℕ} {x : Vec Ideal S1024x1024 .f32} {g : Vec Ideal S1x1024 .f32} {w : Vec Ideal S1024x1024 .bf16}
    {gc : Vec Ideal S1x256 .f32} {k v : Fin 4 → Vec Ideal S1x256x256 .bf16} {wo : Vec Ideal S1024x1024 .bf16}
    (T : Tile A n x g w gc k v wo) (h : Fin 4) (r : Fin 1024)
include T

theorem r_Q (c : Fin 256) : eH (slT h (k0_pay3 x g w)) r c = (Q A (row n r) h c : EReal) := by
  rw [sl_apply, qc_apply]
  simp only [T.x, T.g, T.w]
  rw [Norm.ms_coe (A.x (row n r)) (by norm_num) w_1024, Norm.rs_coe]
  simp only [← EReal.coe_mul, ← coe_sum]
  rfl
theorem r_S (m : Fin 256) : sE gc (slT h (k0_pay3 x g w)) (k h) r m = (S A (row n r) h m : EReal) := by
  unfold sE
  rw [rT_apply]
  simp only [r_Q T, T.gc, T.k]
  rw [Norm.ms_coe (Q A (row n r) h) (by norm_num) w_256, Norm.rs_coe, w_16th]
  simp only [← EReal.coe_mul, ← coe_sum]
  refine congrArg _ ?_
  unfold S
  rw [Finset.sum_mul]
  refine Finset.sum_congr rfl fun c _ => ?_
  unfold N
  ring
theorem r_P (m : Fin 256) : eH (pT gc (slT h (k0_pay3 x g w)) (k h)) r m = (P A (row n r) h m : EReal) := by
  rw [p_apply]
  have e : sE gc (slT h (k0_pay3 x g w)) (k h) r = fun m => (S A (row n r) h m : EReal) := funext fun m => r_S T h r m
  rw [e, Softmax.mx_eq]
  simp only [Softmax.ex_coe]
  rw [Softmax.L_coe, Softmax.div_L]
  rfl
theorem r_O (c : Fin 256) : bH (oT x g w gc k v h) r c = (O A (row n r) h c : EReal) := by
  unfold oT
  rw [o_apply]
  simp only [r_P T, T.v, ← EReal.coe_mul, ← coe_sum]
  rfl
theorem r_Y {b : Vec Ideal S1024x1024 .bf16} (hb : ∀ r e, bT b r e = (O A (row n r) (hd e) (at' e) : EReal)) (d : Fin 1024) :
    eT (k0_pay2 x b wo) r d = (Y A (row n r) d : EReal) := by
  rw [y_apply]
  simp only [hb, T.x, T.wo, ← EReal.coe_mul, ← coe_sum, ← EReal.coe_add]
  rfl

end Real

/-- Head `h`'s columns, stored head by head, read back. -/
theorem read_heads (v : View sig .tc .vmem S1024x1024 .bf16) (f : v.ty.Contents (Elt Ideal)) (P : Fin 4 → FVec Ideal S1024x256 .bf16)
    (h : Fin 4) (r : Fin 1024) (c : Fin 256) :
    v.read (Elt Ideal) (v.writes (Elt Ideal) f (View.tilePieces (s := S1024x1024) S1024x256.size offH offH_inb P 4 (le_refl 4))) (ix2 r (col h c)) = P h (ix2 r c) :=
  View.read_tilePieces v f S1024x256.size offH offH_inb P 4 (le_refl 4) (ix2 r (col h c)) h h.isLt (ix2 r c)
    (fun a => by
      fin_cases a
      · exact (Nat.zero_add _).symm
      · rfl) 1
    (fun i hi => by
      have h1 : i.val ≠ h.val := fun e => hi (Fin.ext e)
      show 256 * h.val + c.val < 256 * i.val ∨ 256 * i.val + 256 ≤ 256 * h.val + c.val
      omega)

/-! ## The blocks -/

variable (m : (ℓ : Loc nD τ sig) → Buf (Elt Ideal) ℓ) (c : Dev nD)

theorem V_k (h : Fin 4) (a b : Fin 256) : V m c main_v1 (ix3 h a b) = m (c.tc.loc main_arg4) (ix3 a h b) := by
  unfold V
  after_reads_at
theorem V_v (h : Fin 4) (a b : Fin 256) : V m c main_v3 (ix3 h a b) = m (c.tc.loc main_arg5) (ix3 a h b) := by
  unfold V
  after_reads_at
theorem V_w (d e : Fin 1024) : V m c main_v4 (ix2 d e) = m (c.tc.loc main_arg2) (ix2 d e) := by
  unfold V
  after_reads_simp
  rfl
theorem V_wo (d e : Fin 1024) : V m c main_v5 (ix2 d e) = m (c.tc.loc main_arg6) (ix2 d e) := by
  unfold V
  after_reads_simp
  rfl
theorem V_x (i : S4096x1024.Idx) : V m c main_arg0 i = m (c.tc.loc main_arg0) i := by
  unfold V
  after_reads_simp
theorem V_g (i : S1x1024.Idx) : V m c main_arg1 i = m (c.tc.loc main_arg1) i := by
  unfold V
  after_reads_simp
theorem V_gc (i : S1x256.Idx) : V m c main_arg3 i = m (c.tc.loc main_arg3) i := by
  unfold V
  after_reads_simp

theorem idx : ∀ t : Fin cfg0.N, win0_0.index t = ![t.val, 0] ∧ win0_1.index t = ![0, 0] ∧ win0_2.index t = ![0, 0] ∧ win0_3.index t = ![0, 0]
    ∧ win0_4.index t = ![0, 0, 0] ∧ win0_5.index t = ![0, 0, 0] ∧ win0_6.index t = ![0, 0] ∧ win0_7.index t = ![t.val, 0] ∧ t.val < 4 :=
  (by decide +kernel : ∀ t : Fin grid0.N, _)
theorem row_val (t : Fin cfg0.N) (r : Fin 1024) : (row t.val r).val = t.val * 1024 + r.val := by
  have := (idx t).2.2.2.2.2.2.2.2
  show (1024 * t.val + r.val) % 4096 = _
  omega

theorem blk0 (t : Fin cfg0.N) (r d : Fin 1024) : iblk m c 0 t (ix2 r d) = m (c.tc.loc main_arg0) (ix2 (row t.val r) d) := by
  refine Eq.trans ?_ (V_x m c (ix2 (row t.val r) d))
  have := row_val t r
  blk_point [iblk, idx t]
theorem blk1 (t : Fin cfg0.N) (d : Fin 1024) : iblk m c 1 t (ix2 0 d) = m (c.tc.loc main_arg1) (ix2 0 d) := by
  refine Eq.trans ?_ (V_g m c (ix2 0 d))
  blk_point [iblk, idx t]
theorem blk2 (t : Fin cfg0.N) (d e : Fin 1024) : iblk m c 2 t (ix2 d e) = m (c.tc.loc main_arg2) (ix2 d e) := by
  refine Eq.trans ?_ (V_w m c d e)
  blk_point [iblk, idx t]
theorem blk3 (t : Fin cfg0.N) (d : Fin 256) : iblk m c 3 t (ix2 0 d) = m (c.tc.loc main_arg3) (ix2 0 d) := by
  refine Eq.trans ?_ (V_gc m c (ix2 0 d))
  blk_point [iblk, idx t]
theorem blk4 (t : Fin cfg0.N) (h : Fin 4) (a b : Fin 256) : iblk m c 4 t (ix3 h a b) = m (c.tc.loc main_arg4) (ix3 a h b) := by
  refine Eq.trans ?_ (V_k m c h a b)
  blk_point [iblk, idx t]
theorem blk5 (t : Fin cfg0.N) (h : Fin 4) (a b : Fin 256) : iblk m c 5 t (ix3 h a b) = m (c.tc.loc main_arg5) (ix3 a h b) := by
  refine Eq.trans ?_ (V_v m c h a b)
  blk_point [iblk, idx t]
theorem blk6 (t : Fin cfg0.N) (d e : Fin 1024) : iblk m c 6 t (ix2 d e) = m (c.tc.loc main_arg6) (ix2 d e) := by
  refine Eq.trans ?_ (V_wo m c d e)
  blk_point [iblk, idx t]

variable {A : Args} {dy : Cert.CrossIdeal.S4096x1024.Idx → EReal} {m c} (R : Holds A (m (c.tc.loc main_arg0)) (m (c.tc.loc main_arg1)) (m (c.tc.loc main_arg2))
  (m (c.tc.loc main_arg3)) (m (c.tc.loc main_arg4)) (m (c.tc.loc main_arg5)) (m (c.tc.loc main_arg6)) dy)
include R

theorem tile (t : Fin cfg0.N) : Tile A t.val (lX t (iblk m c 0 t)) (lG t (iblk m c 1 t)) (lW t (iblk m c 2 t)) (lGc t (iblk m c 3 t))
    (lK t (iblk m c 4 t)) (lV t (iblk m c 5 t)) (lWo t (iblk m c 6 t)) where
  x r d := (congrFun (ld_eq (hs0_0 t) (iblk m c 0 t) _ z2) (ix2 r d)).trans ((blk0 m c t r d).trans (R.x _ d))
  g d := (congrFun (ld_eq (hs0_1 t) (iblk m c 1 t) _ z2) (ix2 0 d)).trans ((blk1 m c t d).trans (R.g d))
  w d e := (congrFun (ld_eq (hs0_2 t) (iblk m c 2 t) _ z2) (ix2 d e)).trans ((blk2 m c t d e).trans (R.w d e))
  gc d := (congrFun (ld_eq (hs0_3 t) (iblk m c 3 t) _ z2) (ix2 0 d)).trans ((blk3 m c t d).trans (R.gc d))
  k h a b := (ldK_apply (hs0_4 t) (iblk m c 4 t) h a b).trans ((blk4 m c t h a b).trans (R.k h a b))
  v h a b := (ldK_apply (hs0_5 t) (iblk m c 5 t) h a b).trans ((blk5 m c t h a b).trans (R.v h a b))
  wo d e := (congrFun (ld_eq (hs0_6 t) (iblk m c 6 t) _ z2) (ix2 d e)).trans ((blk6 m c t d e).trans (R.wo d e))

theorem heads (t : Fin cfg0.N) (r e : Fin 1024) :
    bT (lO t (iblk m c 0 t) (iblk m c 1 t) (iblk m c 2 t) (iblk m c 3 t) (iblk m c 4 t) (iblk m c 5 t)) r e = (O A (row t.val r) (hd e) (at' e) : EReal) := by
  unfold lO bT
  rw [View.readAt_apply]
  have hi : (Rect.unit (s := S1024x1024) ![0, 0] S1024x1024.size inb_S1024x1024_S1024x1024_0_0).toLoadRect.idx (ix2 r e) = ix2 r (col (hd e) (at' e)) := by
    rw [col_hd]
    funext a
    refine Fin.ext ?_
    fin_cases a
    · show 0 + 1 * r.val = r.val; omega
    · show 0 + 1 * e.val = e.val; omega
  rw [hi]
  exact (read_heads scM0_0.view _ _ (hd e) r (at' e)).trans (r_O (tile R t) (hd e) r (at' e))

/-- What a tile's buffer holds after it. -/
theorem after_tile (t : Fin cfg0.N) (r d : Fin 1024) : eT (outsAt0 m c t) r d = (Y A (row t.val r) d : EReal) := by
  unfold outsAt0 out0_A_7
  rw [rA_y c t, read_store _ _ _ _ z2]
  exact r_Y (tile R t) r (heads R t) d

/-- The result. -/
theorem y_eq (G : S4096x1024.Idx → EReal) (hG : ∀ t d, G (ix2 t d) = (Y A t d : EReal)) : (dats m 0 c).arrAt 7 (cfgs 0).N = G := by
  refine (dats m 0 c).arrAt_eq_of_covers 7 _ (by decide +kernel) fun t _ y => ?_
  have i0 : ((((View.whole main_v6).slice (win0_7.rect t)).emb y) 0).val = t.val * 1024 + (y 0).val := by blk_simp [idx t]
  have i1 : ((((View.whole main_v6).slice (win0_7.rect t)).emb y) 1).val = (y 1).val := by blk_simp [idx t]
  blk_simp
  rw [after0_7]
  generalize ((View.whole main_v6).slice (win0_7.rect t)).emb y = i at i0 i1 ⊢
  obtain ⟨r, hr⟩ : ∃ r : Fin 1024, (y 0).val = r.val := ⟨y 0, rfl⟩
  obtain ⟨d, hd⟩ : ∃ d : Fin 1024, (y 1).val = d.val := ⟨y 1, rfl⟩
  have := row_val t r
  exact (at2 (outsAt0 m c t) y r d hr hd).trans ((after_tile R t r d).trans
    ((at2 G i (row t.val r) d (by omega) (by omega)).trans (hG _ _)).symm)

end Cert.CrossFwdIdeal.Hand

end
-- ==== Proof.CrossFwdClaim.lean ====
/-
  The cross attention's forward call: its value claim, and the reference's frame.
-/
module

public import proofs.«01_k».proof.Defs
public import proofs.«01_k».proof.Proof.CrossFwd
public import proofs.«01_k».proof.Proof.CrossClaim
public import proofs.«01_k».proof.Proof.Gen.CrossFwdRefIdeal.Run
public import proofs.«01_k».proof.Proof.Gen.CrossFwdRefIdeal.Read
public import proofs.«01_k».proof.Proof.Gen.Pre_cf_finite

@[expose] public section

set_option maxRecDepth 16384

noncomputable section

open Idealize.ShloMosaic Idealize.ShloMosaic.TcCoe Idealize.ShloMosaic.Tactic Idealize.SL.Sem

namespace Cert.CrossFwdRefIdeal.Hand

open Cert.CrossFwdRefIdeal Cert.CrossFwdRefIdeal.Gen Cert.CrossFwdRefIdeal.Read Cert.CrossMath Cert.Reals
open Cert.CrossIdeal.Hand (Holds)
open Cert.CrossFwdIdeal.Hand (Y)

/-- The heads' results are the lines the gradient's reference has as well. -/
theorem heads_eq (x0 : S4096x1024.Idx → EReal) (x1 : S1x1024.Idx → EReal) (x2 : S1024x1024.Idx → EReal) (x3 : S1x256.Idx → EReal)
    (x4 x5 : S256x4x256.Idx → EReal) :
    val_main_v43 (F := Ideal) x0 x1 x2 x3 x4 x5 = Cert.CrossRefIdeal.Read.val_main_v66 (F := Ideal) x0 x1 x2 x3 x4 x5 := rfl

theorem y (A : Args) {x0 dy : S4096x1024.Idx → EReal} {x1 : S1x1024.Idx → EReal} {x2 x6 : S1024x1024.Idx → EReal} {x3 : S1x256.Idx → EReal}
    {x4 x5 : S256x4x256.Idx → EReal} (R : Holds A x0 x1 x2 x3 x4 x5 x6 dy) (t : Fin 4096) (d : Fin 1024) :
    val_main_v45 (F := Ideal) x0 x1 x2 x3 x4 x5 x6 (ix2 t d) = (Y A t d : EReal) := by
  have hh : ∀ n, val_main_v43 (F := Ideal) x0 x1 x2 x3 x4 x5 (ix2 t n) = (O A t (hd n) (at' n) : EReal) := fun n =>
    (congrFun (heads_eq x0 x1 x2 x3 x4 x5) (ix2 t n)).trans (Cert.CrossRefIdeal.Hand.c66 R t n)
  pointwise [val_main_v45, val_main_v44]
  simp only [hh, R.x, R.wo, ← EReal.coe_mul, ← coe_sum, ← EReal.coe_add]
  rfl

end Cert.CrossFwdRefIdeal.Hand

namespace Cert.CrossFwdClaim

open Cert.Reals Cert.CrossMath
open Cert.CrossClaim (exists_args)

section Pre

open Cert.Pre_cf_finite

/-- The precondition: every entry of the arguments is real. -/
theorem of_pre (x0 : FVec Ideal S4096x1024 .f32) (x1 : FVec Ideal S1x1024 .f32) (x2 : FVec Ideal S1024x1024 .f32) (x3 : FVec Ideal S1x256 .f32)
    (x4 x5 : FVec Ideal S256x4x256 .f32) (x6 : FVec Ideal S1024x1024 .f32) (h : fn x0 x1 x2 x3 x4 x5 x6 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i)) ∧ ∀ i, IsR (x6 i) := by
  have h0 := congrFun h (fun a => a.elim0)
  unfold fn fn_part1 at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨fun i => ?_, fun i => ?_, fun i => ?_, fun i => ?_, fun i => ?_, fun i => ?_, fun i => ?_⟩
  · exact isR_of_lt_word (Host.reduce_andi_all _ _ _ _ _ h0 i)
  · exact isR_of_lt_word (Host.reduce_andi_all _ _ _ _ _ h1 i)
  · exact isR_of_lt_word (Host.reduce_andi_all _ _ _ _ _ h2 i)
  · exact isR_of_lt_word (Host.reduce_andi_all _ _ _ _ _ h3 i)
  · exact isR_of_lt_word (Host.reduce_andi_all _ _ _ _ _ h4 i)
  · exact isR_of_lt_word (Host.reduce_andi_all _ _ _ _ _ h5 i)
  · exact isR_of_lt_word (Host.reduce_andi_all _ _ _ _ _ h6 i)

end Pre

/-- The reference leaves its arguments and has no semaphores. -/
theorem frame_ref : Cert.quiescent_CrossFwdRefIdeal := fun m g _ =>
  (θ_run Cert.CrossFwdRefIdeal.defs _ _).mono (fun r h => ⟨fun c => (h c).2, sem_eq_zero_of_no_sems rfl r.2⟩) (Cert.CrossFwdRefIdeal.Value.run m g)

open Cert.CrossFwdIdeal Cert.CrossFwdIdeal.Value Cert.CrossFwdIdeal.Gen in
theorem value : Cert.algebraic_CrossFwdIdeal_CrossFwdRefIdeal_pre_cf_finite := by
  intro m g m' g' hp hm
  refine ⟨fun c => (dats m 0 c).arrAt 7 cfg0.N, ?_, ?_⟩
  · exact Cert.CrossFwdIdeal.Value.run_blocks m g
  refine (θ_run _ _ _).mono (fun r h c => ?_) (Cert.CrossFwdRefIdeal.Value.run m' g')
  obtain ⟨e0, e1, e2, e3, e4, e5, e6⟩ := hm c
  obtain ⟨h0, h1, h2, h3, h4, h5, h6⟩ := of_pre _ _ _ _ _ _ _ (hp c)
  obtain ⟨A, R⟩ := exists_args _ _ _ _ _ _ _ (fun _ => 0) h0 h1 h2 h3 h4 h5 h6 (fun _ => ⟨0, rfl⟩)
  obtain ⟨r0, rest⟩ := h c
  refine ⟨r0.trans ?_, rest⟩
  rw [Cert.CrossFwdRefIdeal.Read.val_main_v45_eq, e0, e1, e2, e3, e4, e5, e6]
  exact (Cert.CrossFwdIdeal.Hand.y_eq R _ fun a b => Cert.CrossFwdRefIdeal.Hand.y A R a b).symm

end Cert.CrossFwdClaim

end
-- ==== Proof.KvMath.lean ====
/-
  The gradients through the memory's keys and values, over the real numbers.
-/
module

public import proofs.«01_k».proof.Proof.DxMath
public import Idealize.ShloMosaic.Lib.Pointwise

@[expose] public section

noncomputable section

namespace Cert.KvMath

open Idealize.ShloMosaic Idealize.ShloMosaic.Tactic Cert.Reals

/-- The arguments: the memory, its norm's gain, the weights of keys and values, the key norm's gain, and the cotangents. -/
structure Args where
  m : Fin 256 → Fin 1024 → ℝ
  g : Fin 1024 → ℝ
  w : Fin 1024 → Fin 2048 → ℝ
  gk : Fin 256 → ℝ
  dk : Fin 256 → Fin 4 → Fin 256 → ℝ
  dv : Fin 256 → Fin 4 → Fin 256 → ℝ

/-- Column `c` of block `b`: the heads' keys are blocks 0 to 3, their values blocks 4 to 7. -/
def col (b : Fin 8) (c : Fin 256) : Fin 2048 := ⟨256 * b.val + c.val, by omega⟩
def key (h : Fin 4) : Fin 8 := ⟨h.val, by omega⟩
def val (h : Fin 4) : Fin 8 := ⟨4 + h.val, by omega⟩

variable (A : Args) (j : Fin 256)

/-- The normed memory, the keys before their norm, and their gradient. -/
def M (d : Fin 1024) : ℝ := A.m j d * Norm.rs (A.m j) * A.g d
def K (h : Fin 4) (c : Fin 256) : ℝ := ∑ d, M A j d * A.w d (col (key h) c)
def DK (h : Fin 4) (c : Fin 256) : ℝ := Norm.bwd (K A j h) (fun c => A.dk j h c * A.gk c) c
/-- The gradient of a block's columns. -/
def Z (b : Fin 8) (c : Fin 256) : ℝ := if h : b.val < 4 then DK A j ⟨b.val, h⟩ c else A.dv j ⟨b.val - 4, by omega⟩ c
/-- The gradient of the normed memory. -/
def DM (d : Fin 1024) : ℝ := ∑ b, ∑ c, Z A j b c * A.w d (col b c)
/-- The results: the gradients of the weights and of the two gains. -/
def DW (b : Fin 8) (d : Fin 1024) (c : Fin 256) : ℝ := ∑ j, M A j d * Z A j b c
def DGK (c : Fin 256) : ℝ := ∑ j, ∑ h, A.dk j h c * (K A j h c * Norm.rs (K A j h))
def DGM (d : Fin 1024) : ℝ := ∑ j, DM A j d * (A.m j d * Norm.rs (A.m j))

theorem Z_key (h : Fin 4) (c : Fin 256) : Z A j (key h) c = DK A j h c := dif_pos h.isLt
theorem Z_val (h : Fin 4) (c : Fin 256) : Z A j (val h) c = A.dv j h c := by
  unfold Z
  rw [dif_neg (by show ¬ 4 + h.val < 4; omega)]
  exact congrArg (fun z => A.dv j z c) (Fin.ext (by show 4 + h.val - 4 = h.val; omega))

/-- The arrays hold the arguments' numbers. -/
structure Holds (m : (⟨2, ![256, 1024]⟩ : Shape).Idx → EReal) (g : (⟨2, ![1, 1024]⟩ : Shape).Idx → EReal)
    (w : (⟨2, ![1024, 2048]⟩ : Shape).Idx → EReal) (gk : (⟨2, ![1, 256]⟩ : Shape).Idx → EReal)
    (dk dv : (⟨3, ![256, 4, 256]⟩ : Shape).Idx → EReal) : Prop where
  m : ∀ j d, m (ix2 j d) = (A.m j d : EReal)
  g : ∀ d, g (ix2 0 d) = (A.g d : EReal)
  w : ∀ d e, w (ix2 d e) = (A.w d e : EReal)
  gk : ∀ c, gk (ix2 0 c) = (A.gk c : EReal)
  dk : ∀ j h c, dk (ix3 j h c) = (A.dk j h c : EReal)
  dv : ∀ j h c, dv (ix3 j h c) = (A.dv j h c : EReal)

/-! ## The forms the programs write -/

section Row

variable {n : ℕ} (x D : Fin n → ℝ) (i : Fin n) (hn : n ≠ 0) {N : EReal} (hN : N = ((n : ℝ) : EReal))

abbrev msE (N : EReal) : EReal := Ideal.div (∑ k, (x k : EReal) * (x k : EReal)) N + Ideal.ofBits .f32 0x358637BD#32
include hn hN
theorem rs_eq : Ideal.rsqrt (msE x N) = (Norm.rs x : EReal) := by
  unfold msE
  rw [Norm.ms_coe x hn hN, Norm.rs_coe]
/-- The gradient through a norm, as the kernel writes it. -/
theorem bwd_kernel : Ideal.rsqrt (msE x N) * ((D i : EReal) - (x i : EReal) * Ideal.rsqrt (msE x N)
      * Ideal.div (∑ k, (D k : EReal) * ((x k : EReal) * Ideal.rsqrt (msE x N))) N) = (Norm.bwd x D i : EReal) := by
  rw [rs_eq x hn hN, hN, Ideal.div_coe (by exact_mod_cast hn)]
  simp only [← EReal.coe_mul, ← coe_sum, ← EReal.coe_sub]
  rfl
/-- The same as differentiation gives it. -/
theorem bwd_vjp {c : EReal} (hc : c = Ideal.div ((∑ k, (x k : EReal) * (D k : EReal))
      * (Ideal.ofBits .f32 0xBF000000#32 * Ideal.div (Ideal.rsqrt (msE x N)) (msE x N))) N) :
    (D i : EReal) * Ideal.rsqrt (msE x N) + (x i : EReal) * c + c * (x i : EReal) = (Norm.bwd x D i : EReal) := by
  have e : c = (Norm.coef x D : EReal) := by
    rw [hc, rs_eq x hn hN, Dx.w_mhalf]
    unfold msE
    rw [Norm.ms_coe x hn hN, Ideal.div_coe (Norm.ms_pos _).ne', hN, Ideal.div_coe (by exact_mod_cast hn)]
    simp only [← EReal.coe_mul, ← coe_sum]
    unfold Norm.coef
    refine congrArg _ ?_
    ring
  rw [e, rs_eq x hn hN]
  simp only [← EReal.coe_mul, ← EReal.coe_add]
  exact congrArg _ (Norm.bwd_vjp x D i)

end Row

theorem w_256 : Ideal.ofBits .f32 0x43800000#32 = (((256 : ℕ) : ℝ) : EReal) := by
  simp [Ideal.ofBits, Ideal.ieee]
  norm_cast
  norm_num

end Cert.KvMath

end
-- ==== Proof.Kv.lean ====
/-
  The kernel of the memory's keys and values at real arguments: what its three results hold.
-/
module

public import proofs.«01_k».proof.Proof.KvMath
public import proofs.«01_k».proof.Proof.Whole
public import proofs.«01_k».proof.Proof.Gen.KvIdeal.Value
public import proofs.«01_k».proof.Proof.Gen.KvRefIdeal.Read
public import Idealize.ShloMosaic.Lib.Pipeline.ValueKit
public import Idealize.ShloMosaic.Lib.StableHlo.ReadAt
public import Idealize.ShloMosaic.PureOps.Ideal.Laws

@[expose] public section

set_option maxRecDepth 16384

noncomputable section

namespace Cert.KvIdeal.Hand

open Cert.KvIdeal Cert.KvIdeal.Gen Cert.KvMath Cert.Reals Cert.Whole
open Idealize.ShloMosaic Idealize.ShloMosaic.TcCoe Idealize.ShloMosaic.Tactic

/-! ## A head's values -/

section Values

variable {F : FTy → Type} [FloatOps F]

/-- A block of the weights' gradient. -/
def dwT (mn : Vec F S256x1024 .bf16) (z : FVec F S256x256 .bf16) : FVec F S1x1024x256 .bf16 := k0_pay13 (k0_pay2 mn) z
/-- The gradient of the normed memory after the four heads. -/
def dmT (dk kr dv : Fin 4 → Vec F S1x256x256 .f32) (wk wv : Fin 4 → Vec F S1x1024x256 .bf16) (gk : Vec F S1x256 .f32) (n : ℕ) : FVec F S256x1024 .f32 :=
  match n with
  | 0 => k0_pay3
  | n + 1 => if h : n < 4 then k0_pay14 (dmT dk kr dv wk wv gk n) (k0_pay9 (dk ⟨n, h⟩) (kr ⟨n, h⟩) gk) (k0_pay10 (dv ⟨n, h⟩)) (wk ⟨n, h⟩) (wv ⟨n, h⟩) else k0_pay3
/-- What the heads add to the gradient of the key norm's gain. -/
def gkT (dk kr : Fin 4 → Vec F S1x256x256 .f32) : FVec F S1x256 .f32 :=
  k0_pay48 (addf (addf (k0_pay8 (dk 0) (kr 0)) (k0_pay8 (dk 1) (kr 1))) (k0_pay8 (dk 2) (kr 2))) (shapeCast S256x256 (dk 3) shapeCasts_S1x256x256_S256x256) (k0_pay41 (kr 3))

variable (x0 : Vec F S256x1024 .f32) (x1 : Vec F S1x1024 .f32) (x2 : Vec F S256x1024 .bf16) (x3 x4 x5 : Vec F S4x256x256 .f32)
  (x6 : Vec F S8x1024x256 .bf16) (x7 : Vec F S1x256 .f32)

/-- Head `h` of an array laid out heads first, and a block of the weights. -/
abbrev ldH (x : Vec F S4x256x256 .f32) (h : Fin 4) : Vec F S1x256x256 .f32 :=
  match h with
  | 0 => View.ld x r0_1
  | 1 => View.ld x r0_5
  | 2 => View.ld x r0_8
  | 3 => View.ld x r0_11
abbrev ldK (x : Vec F S8x1024x256 .bf16) (h : Fin 4) : Vec F S1x1024x256 .bf16 :=
  match h with
  | 0 => View.ld x r0_3
  | 1 => View.ld x r0_6
  | 2 => View.ld x r0_9
  | 3 => View.ld x r0_12
abbrev ldV (x : Vec F S8x1024x256 .bf16) (h : Fin 4) : Vec F S1x1024x256 .bf16 :=
  match h with
  | 0 => View.ld x r0_4
  | 1 => View.ld x r0_7
  | 2 => View.ld x r0_10
  | 3 => View.ld x r0_13

abbrev zK (h : Fin 4) : FVec F S256x256 .bf16 := k0_pay9 (ldH x4 h) (ldH x3 h) (View.ld x7 r0_2)
abbrev zV (h : Fin 4) : FVec F S256x256 .bf16 := k0_pay10 (ldH x5 h)

theorem out8 : out0_8 x0 x1 x2 x3 x4 x5 x6 x7 = View.canon [
    ⟨r0_13, dwT (View.ld x2 r0_0) (zV x5 3)⟩, ⟨r0_12, dwT (View.ld x2 r0_0) (zK x3 x4 x7 3)⟩,
    ⟨r0_10, dwT (View.ld x2 r0_0) (zV x5 2)⟩, ⟨r0_9, dwT (View.ld x2 r0_0) (zK x3 x4 x7 2)⟩,
    ⟨r0_7, dwT (View.ld x2 r0_0) (zV x5 1)⟩, ⟨r0_6, dwT (View.ld x2 r0_0) (zK x3 x4 x7 1)⟩,
    ⟨r0_4, dwT (View.ld x2 r0_0) (zV x5 0)⟩, ⟨r0_3, dwT (View.ld x2 r0_0) (zK x3 x4 x7 0)⟩] := by rfl
theorem out9 : out0_9 x0 x1 x2 x3 x4 x5 x6 x7 = View.canon [⟨r0_2, gkT (ldH x4) (ldH x3)⟩] := by rfl
theorem out10 : out0_10 x0 x1 x2 x3 x4 x5 x6 x7 = View.canon [⟨r0_14, k0_pay1 (dmT (ldH x4) (ldH x3) (ldH x5) (ldK x6) (ldV x6) (View.ld x7 r0_2) 4)
    (View.ld x0 r0_0) (k0_pay49 (View.ld x0 r0_0)) (Scalar.ofBits .f32 0x44800000#32)⟩] := by rfl

end Values

/-! ## Entries as extended reals -/

abbrev e3 {a b : ℕ} (x : (⟨3, ![1, a, b]⟩ : Shape).Idx → EReal) (r : Fin a) (d : Fin b) : EReal := x (ix3 0 r d)
abbrev e2 {a b : ℕ} (x : (⟨2, ![a, b]⟩ : Shape).Idx → EReal) (r : Fin a) (d : Fin b) : EReal := x (ix2 r d)

section Apply

variable (dk kr dv : Vec Ideal S1x256x256 .f32) (gk : Vec Ideal S1x256 .f32) (mn : Vec Ideal S256x1024 .bf16) (z y : FVec Ideal S256x256 .bf16)
  (s m : FVec Ideal S256x1024 .f32) (wk wv : Vec Ideal S1x1024x256 .bf16) (u : FVec Ideal S256x256 .f32) (j c : Fin 256) (d : Fin 1024)

theorem k9_apply : (k0_pay9 dk kr gk (ix2 j c) : EReal)
    = Ideal.rsqrt (Ideal.div (∑ c, e3 kr j c * e3 kr j c) (Ideal.ofBits .f32 0x43800000#32) + Ideal.ofBits .f32 0x358637BD#32)
      * (e3 dk j c * e2 gk 0 c - e3 kr j c * Ideal.rsqrt (Ideal.div (∑ c, e3 kr j c * e3 kr j c) (Ideal.ofBits .f32 0x43800000#32) + Ideal.ofBits .f32 0x358637BD#32)
      * Ideal.div (∑ c, e3 dk j c * e2 gk 0 c * (e3 kr j c * Ideal.rsqrt (Ideal.div (∑ c, e3 kr j c * e3 kr j c) (Ideal.ofBits .f32 0x43800000#32) + Ideal.ofBits .f32 0x358637BD#32)))
        (Ideal.ofBits .f32 0x43800000#32)) := by
  unfold e3 e2
  pointwise [k0_pay9, k0_pay7, k0_pay6, k0_pay5, k0_pay4]
theorem k10_apply : (k0_pay10 dv (ix2 j c) : EReal) = e3 dv j c := by
  unfold e3
  pointwise [k0_pay10]
theorem k8_apply : (k0_pay8 dk kr (ix2 j c) : EReal)
    = e3 dk j c * (e3 kr j c * Ideal.rsqrt (Ideal.div (∑ c, e3 kr j c * e3 kr j c) (Ideal.ofBits .f32 0x43800000#32) + Ideal.ofBits .f32 0x358637BD#32)) := by
  unfold e3
  pointwise [k0_pay8, k0_pay7, k0_pay6, k0_pay5, k0_pay4]
theorem dw_apply (c : Fin 256) : (dwT mn z (ix3 0 d c) : EReal) = ∑ j, e2 mn j d * e2 z j c := by
  unfold e2
  pointwise [dwT, k0_pay13, k0_pay2]
theorem k14_apply : (k0_pay14 s z y wk wv (ix2 j d) : EReal) = e2 s j d + (∑ c, e2 z j c * e3 wk d c) + ∑ c, e2 y j c * e3 wv d c := by
  unfold e2 e3
  pointwise [k0_pay14]
theorem k3_apply : (k0_pay3 (F := Ideal) (ix2 j d) : EReal) = ((0 : ℝ) : EReal) := by
  pointwise [k0_pay3]
  exact EReal.coe_zero.symm
theorem gk_apply (dk kr : Fin 4 → Vec Ideal S1x256x256 .f32) : (gkT dk kr (ix2 0 c) : EReal)
    = ∑ j, (k0_pay8 (dk 0) (kr 0) (ix2 j c) + k0_pay8 (dk 1) (kr 1) (ix2 j c) + k0_pay8 (dk 2) (kr 2) (ix2 j c) + k0_pay8 (dk 3) (kr 3) (ix2 j c) : EReal) := by
  have e : gkT dk kr = k0_pay48 (addf (addf (k0_pay8 (dk 0) (kr 0)) (k0_pay8 (dk 1) (kr 1))) (k0_pay8 (dk 2) (kr 2))) (k0_pay4 (dk 3)) (k0_pay7 (kr 3)) := rfl
  have e8 : k0_pay8 (dk 3) (kr 3) = mulf (k0_pay4 (dk 3)) (k0_pay7 (kr 3)) := rfl
  rw [e, e8]
  pointwise [k0_pay48]
theorem k1_apply : (k0_pay1 s m (k0_pay49 m) (Scalar.ofBits .f32 0x44800000#32) (ix2 0 d) : EReal)
    = ∑ j, e2 s j d * (e2 m j d * Ideal.rsqrt (Ideal.div (∑ k, e2 m j k * e2 m j k) (Ideal.ofBits .f32 0x44800000#32) + Ideal.ofBits .f32 0x358637BD#32)) := by
  unfold e2
  pointwise [k0_pay1, k0_pay49]

end Apply

/-! ## The blocks' real numbers -/

structure Blocks (A : Args) (x0 : Vec Ideal S256x1024 .f32) (x2 : Vec Ideal S256x1024 .bf16) (x3 x4 x5 : Vec Ideal S4x256x256 .f32)
    (x6 : Vec Ideal S8x1024x256 .bf16) (x7 : Vec Ideal S1x256 .f32) : Prop where
  m : ∀ j d, e2 x0 j d = (A.m j d : EReal)
  mn : ∀ j d, e2 x2 j d = (M A j d : EReal)
  kr : ∀ h j c, e3 (ldH x3 h) j c = (K A j h c : EReal)
  dk : ∀ h j c, e3 (ldH x4 h) j c = (A.dk j h c : EReal)
  dv : ∀ h j c, e3 (ldH x5 h) j c = (A.dv j h c : EReal)
  wk : ∀ h d c, e3 (ldK x6 h) d c = (A.w d (col (key h) c) : EReal)
  wv : ∀ h d c, e3 (ldV x6 h) d c = (A.w d (col (val h) c) : EReal)
  gk : ∀ c, e2 x7 0 c = (A.gk c : EReal)

section Real

variable {A : Args} {x0 : Vec Ideal S256x1024 .f32} {x2 : Vec Ideal S256x1024 .bf16} {x3 x4 x5 : Vec Ideal S4x256x256 .f32}
    {x6 : Vec Ideal S8x1024x256 .bf16} {x7 : Vec Ideal S1x256 .f32} (T : Blocks A x0 x2 x3 x4 x5 x6 x7)
include T

theorem ld7 : View.ld x7 r0_2 = x7 := funext fun i => (View.ld_apply x7 r0_2 i).trans (congrArg x7 (funext fun a => Fin.ext (by
  fin_cases a
  · show 0 + 1 * (i 0).val = (i 0).val; omega
  · show 0 + 1 * (i 1).val = (i 1).val; omega)))
theorem ld2 : View.ld x2 r0_0 = x2 := funext fun i => (View.ld_apply x2 r0_0 i).trans (congrArg x2 (funext fun a => Fin.ext (by
  fin_cases a
  · show 0 + 1 * (i 0).val = (i 0).val; omega
  · show 0 + 1 * (i 1).val = (i 1).val; omega)))
theorem ld0 : View.ld x0 r0_0 = x0 := funext fun i => (View.ld_apply x0 r0_0 i).trans (congrArg x0 (funext fun a => Fin.ext (by
  fin_cases a
  · show 0 + 1 * (i 0).val = (i 0).val; omega
  · show 0 + 1 * (i 1).val = (i 1).val; omega)))

theorem r_zK (h : Fin 4) (j c : Fin 256) : (zK x3 x4 x7 h (ix2 j c) : EReal) = (DK A j h c : EReal) := by
  unfold zK
  rw [ld7 T, k9_apply]
  simp only [T.kr, T.dk, T.gk, ← EReal.coe_mul (A.dk _ _ _)]
  exact bwd_kernel (K A j h) (fun c => A.dk j h c * A.gk c) c (by norm_num) w_256
theorem r_zV (h : Fin 4) (j c : Fin 256) : (zV x5 h (ix2 j c) : EReal) = (A.dv j h c : EReal) :=
  (k10_apply _ j c).trans (T.dv h j c)
theorem r_gr (h : Fin 4) (j c : Fin 256) : (k0_pay8 (ldH x4 h) (ldH x3 h) (ix2 j c) : EReal) = ((A.dk j h c * (K A j h c * Norm.rs (K A j h)) : ℝ) : EReal) := by
  rw [k8_apply]
  simp only [T.kr, T.dk]
  rw [rs_eq (K A j h) (by norm_num) w_256]
  simp only [← EReal.coe_mul]
theorem r_dwK (h : Fin 4) (d : Fin 1024) (c : Fin 256) : (dwT (View.ld x2 r0_0) (zK x3 x4 x7 h) (ix3 0 d c) : EReal) = (DW A (key h) d c : EReal) := by
  rw [dw_apply, ld2 T]
  simp only [T.mn, r_zK T, ← EReal.coe_mul, ← coe_sum]
  unfold DW
  simp only [Z_key]
theorem r_dwV (h : Fin 4) (d : Fin 1024) (c : Fin 256) : (dwT (View.ld x2 r0_0) (zV x5 h) (ix3 0 d c) : EReal) = (DW A (val h) d c : EReal) := by
  rw [dw_apply, ld2 T]
  simp only [T.mn, r_zV T, ← EReal.coe_mul, ← coe_sum]
  unfold DW
  simp only [Z_val]
theorem r_gk (c : Fin 256) : (gkT (ldH x4) (ldH x3) (ix2 0 c) : EReal) = (DGK A c : EReal) := by
  rw [gk_apply]
  simp only [r_gr T, ← EReal.coe_add, ← coe_sum]
  unfold DGK
  simp only [Fin.sum_univ_four]
theorem r_dm (j : Fin 256) (d : Fin 1024) : (dmT (ldH x4) (ldH x3) (ldH x5) (ldK x6) (ldV x6) (View.ld x7 r0_2) 4 (ix2 j d) : EReal) = (DM A j d : EReal) := by
  have st : ∀ (h : Fin 4) (s : FVec Ideal S256x1024 .f32) (a : ℝ), (s (ix2 j d) : EReal) = (a : EReal) →
      (k0_pay14 s (k0_pay9 (ldH x4 h) (ldH x3 h) (View.ld x7 r0_2)) (k0_pay10 (ldH x5 h)) (ldK x6 h) (ldV x6 h) (ix2 j d) : EReal)
        = ((a + (∑ c, Z A j (key h) c * A.w d (col (key h) c)) + ∑ c, Z A j (val h) c * A.w d (col (val h) c) : ℝ) : EReal) := fun h s a hs => by
    rw [k14_apply]
    have h1 : ∀ c, e2 (k0_pay9 (ldH x4 h) (ldH x3 h) (View.ld x7 r0_2)) j c = (Z A j (key h) c : EReal) := fun c =>
      (r_zK T h j c).trans (congrArg _ (Z_key A j h c).symm)
    have h2 : ∀ c, e2 (k0_pay10 (ldH x5 h)) j c = (Z A j (val h) c : EReal) := fun c =>
      (r_zV T h j c).trans (congrArg _ (Z_val A j h c).symm)
    simp only [h1, h2, T.wk, T.wv, show e2 s j d = (a : EReal) from hs, ← EReal.coe_mul, ← coe_sum, ← EReal.coe_add]
  refine (st 3 _ _ (st 2 _ _ (st 1 _ _ (st 0 _ _ (k3_apply j d))))).trans (congrArg _ ?_)
  unfold DM
  rw [Fin.sum_univ_eight]
  show _ = (∑ c, Z A j (key 0) c * A.w d (col (key 0) c)) + (∑ c, Z A j (key 1) c * A.w d (col (key 1) c)) + (∑ c, Z A j (key 2) c * A.w d (col (key 2) c))
    + (∑ c, Z A j (key 3) c * A.w d (col (key 3) c)) + (∑ c, Z A j (val 0) c * A.w d (col (val 0) c)) + (∑ c, Z A j (val 1) c * A.w d (col (val 1) c))
    + (∑ c, Z A j (val 2) c * A.w d (col (val 2) c)) + (∑ c, Z A j (val 3) c * A.w d (col (val 3) c))
  ring
theorem r_gm (d : Fin 1024) : (k0_pay1 (dmT (ldH x4) (ldH x3) (ldH x5) (ldK x6) (ldV x6) (View.ld x7 r0_2) 4) (View.ld x0 r0_0) (k0_pay49 (View.ld x0 r0_0))
    (Scalar.ofBits .f32 0x44800000#32) (ix2 0 d) : EReal) = (DGM A d : EReal) := by
  rw [ld0 T, k1_apply]
  have h1 : ∀ j, e2 (dmT (ldH x4) (ldH x3) (ldH x5) (ldK x6) (ldV x6) (View.ld x7 r0_2) 4) j d = (DM A j d : EReal) := fun j => r_dm T j d
  simp only [h1, T.m]
  refine (Finset.sum_congr rfl fun j _ => ?_).trans (coe_sum _ _).symm
  rw [rs_eq (A.m j) (by norm_num) Dx.w_1024]
  simp only [← EReal.coe_mul]

end Real

/-! ## The blocks -/

variable (m : (ℓ : Loc nD τ sig) → Buf (Elt Ideal) ℓ) (c : Dev nD)

theorem V_mn : V m c main_v16 = Cert.KvRefIdeal.Read.val_main_v11 (F := Ideal) (m (c.tc.loc main_arg0)) (m (c.tc.loc main_arg1)) := by
  unfold V
  after_reads_simp
  rfl
/-- The keys before their norm, as the host computes them. -/
def keys (x0 : FVec Ideal S256x1024 .f32) (x1 : FVec Ideal S1x1024 .f32) (x2 : FVec Ideal S1024x2048 .f32) : FVec Ideal S4x256x256 .f32 :=
  have a : FVec Ideal S256x1024 .f32 := Cert.KvRefIdeal.Read.val_main_v11 (F := Ideal) x0 x1
  have b : FVec Ideal S1024x1024 .f32 := extractStridedSlice S1024x1024 ![0, 0] x2 slices_S1024x2048_S1024x1024_0_0
  have p : FVec Ideal S256x1024 .f32 := Host.dotGeneral dot_S256x1024_S1024x1024_S256x1024_1_0_0_1_n_n none a b
  have q : FVec Ideal S256x4x256 .f32 := shapeCast S256x4x256 p shapeCasts_S256x1024_S256x4x256
  transpose S4x256x256 [1, 0, 2] q transposes_S256x4x256_S4x256x256_1_0_2
theorem V_kr : V m c main_v15 = keys (m (c.tc.loc main_arg0)) (m (c.tc.loc main_arg1)) (m (c.tc.loc main_arg2)) := by
  unfold V
  after_reads_simp
  rfl
theorem V_dk (h : Fin 4) (a b : Fin 256) : V m c main_v17 (ix3 h a b) = m (c.tc.loc main_arg4) (ix3 a h b) := by
  unfold V
  after_reads_at
theorem V_dv (h : Fin 4) (a b : Fin 256) : V m c main_v18 (ix3 h a b) = m (c.tc.loc main_arg5) (ix3 a h b) := by
  unfold V
  after_reads_at
theorem V_w (b : Fin 8) (d : Fin 1024) (e : Fin 256) : V m c main_v21 (ix3 b d e) = m (c.tc.loc main_arg2) (ix2 d (col b e)) := by
  unfold V
  after_reads_at
  exact congrArg (fun z => m (c.tc.loc main_arg2) (ix2 d z)) (Fin.ext (by show _ = 256 * b.val + e.val; simp; omega))
theorem V_m (i : S256x1024.Idx) : V m c main_arg0 i = m (c.tc.loc main_arg0) i := by
  unfold V
  after_reads_simp
theorem V_gk (i : S1x256.Idx) : V m c main_arg3 i = m (c.tc.loc main_arg3) i := by
  unfold V
  after_reads_simp

theorem keys_apply (x0 : FVec Ideal S256x1024 .f32) (x1 : FVec Ideal S1x1024 .f32) (x2 : FVec Ideal S1024x2048 .f32) (h : Fin 4) (j c : Fin 256) :
    (keys x0 x1 x2 (ix3 h j c) : EReal) = ∑ d, (Cert.KvRefIdeal.Read.val_main_v11 (F := Ideal) x0 x1 (ix2 j d) : EReal) * x2 (ix2 d (col (key h) c)) := by
  unfold keys
  pointwise
  exact Finset.sum_congr rfl fun d _ => congrArg (fun z => _ * x2 (ix2 d z)) (Fin.ext (by show h.val * 256 + c.val = 256 * h.val + c.val; omega))

theorem idx : ∀ t : Fin cfg0.N, win0_0.index t = ![0, 0] ∧ win0_2.index t = ![0, 0] ∧ win0_3.index t = ![0, 0, 0] ∧ win0_4.index t = ![0, 0, 0]
    ∧ win0_5.index t = ![0, 0, 0] ∧ win0_6.index t = ![0, 0, 0] ∧ win0_7.index t = ![0, 0] ∧ win0_8.index t = ![0, 0, 0] ∧ win0_9.index t = ![0, 0]
    ∧ win0_10.index t = ![0, 0] :=
  (by decide +kernel : ∀ t : Fin grid0.N, _)

theorem blk0 (t : Fin cfg0.N) (j : Fin 256) (d : Fin 1024) : iblk m c 0 t (ix2 j d) = m (c.tc.loc main_arg0) (ix2 j d) := by
  refine Eq.trans ?_ (V_m m c (ix2 j d))
  blk_point [iblk, idx t]
theorem blk2 (t : Fin cfg0.N) (j : Fin 256) (d : Fin 1024) : iblk m c 2 t (ix2 j d)
    = Cert.KvRefIdeal.Read.val_main_v11 (F := Ideal) (m (c.tc.loc main_arg0)) (m (c.tc.loc main_arg1)) (ix2 j d) := by
  refine Eq.trans ?_ (congrFun (V_mn m c) (ix2 j d))
  blk_point [iblk, idx t]
theorem blk3 (t : Fin cfg0.N) (h : Fin 4) (j d : Fin 256) : iblk m c 3 t (ix3 h j d)
    = keys (m (c.tc.loc main_arg0)) (m (c.tc.loc main_arg1)) (m (c.tc.loc main_arg2)) (ix3 h j d) := by
  refine Eq.trans ?_ (congrFun (V_kr m c) (ix3 h j d))
  blk_point [iblk, idx t]
theorem blk4 (t : Fin cfg0.N) (h : Fin 4) (j d : Fin 256) : iblk m c 4 t (ix3 h j d) = m (c.tc.loc main_arg4) (ix3 j h d) := by
  refine Eq.trans ?_ (V_dk m c h j d)
  blk_point [iblk, idx t]
theorem blk5 (t : Fin cfg0.N) (h : Fin 4) (j d : Fin 256) : iblk m c 5 t (ix3 h j d) = m (c.tc.loc main_arg5) (ix3 j h d) := by
  refine Eq.trans ?_ (V_dv m c h j d)
  blk_point [iblk, idx t]
theorem blk6 (t : Fin cfg0.N) (b : Fin 8) (d : Fin 1024) (e : Fin 256) : iblk m c 6 t (ix3 b d e) = m (c.tc.loc main_arg2) (ix2 d (col b e)) := by
  refine Eq.trans ?_ (V_w m c b d e)
  blk_point [iblk, idx t]
theorem blk7 (t : Fin cfg0.N) (d : Fin 256) : iblk m c 7 t (ix2 0 d) = m (c.tc.loc main_arg3) (ix2 0 d) := by
  refine Eq.trans ?_ (V_gk m c (ix2 0 d))
  blk_point [iblk, idx t]

theorem ldH_apply (x : Vec Ideal S4x256x256 .f32) (h : Fin 4) (j d : Fin 256) : e3 (ldH x h) j d = x (ix3 h j d) := by
  fin_cases h <;> exact congrArg x (funext fun a => Fin.ext (by
    fin_cases a
    · rfl
    · show 0 + 1 * j.val = j.val; omega
    · show 0 + 1 * d.val = d.val; omega))
theorem ldK_apply (x : Vec Ideal S8x1024x256 .bf16) (h : Fin 4) (j : Fin 1024) (d : Fin 256) : e3 (ldK x h) j d = x (ix3 (key h) j d) := by
  fin_cases h <;> exact congrArg x (funext fun a => Fin.ext (by
    fin_cases a
    · rfl
    · show 0 + 1 * j.val = j.val; omega
    · show 0 + 1 * d.val = d.val; omega))
theorem ldV_apply (x : Vec Ideal S8x1024x256 .bf16) (h : Fin 4) (j : Fin 1024) (d : Fin 256) : e3 (ldV x h) j d = x (ix3 (val h) j d) := by
  fin_cases h <;> exact congrArg x (funext fun a => Fin.ext (by
    fin_cases a
    · rfl
    · show 0 + 1 * j.val = j.val; omega
    · show 0 + 1 * d.val = d.val; omega))

/-- An entry, named by its three positions. -/
theorem at3 {a b e : ℕ} (f : (⟨3, ![a, b, e]⟩ : Shape).Idx → EReal) (i : (⟨3, ![a, b, e]⟩ : Shape).Idx) (q : Fin a) (r : Fin b) (d : Fin e)
    (h0 : (i 0).val = q.val) (h1 : (i 1).val = r.val) (h2 : (i 2).val = d.val) : f i = f (ix3 q r d) :=
  congrArg f (funext fun q => Fin.ext (by
    fin_cases q
    · exact h0
    · exact h1
    · exact h2))

variable {A : Args} {m c} (R : Holds A (m (c.tc.loc main_arg0)) (m (c.tc.loc main_arg1)) (m (c.tc.loc main_arg2))
  (m (c.tc.loc main_arg3)) (m (c.tc.loc main_arg4)) (m (c.tc.loc main_arg5)))
include R

open Cert.KvRefIdeal.Read in
theorem mn_eq (j : Fin 256) (d : Fin 1024) : (val_main_v11 (F := Ideal) (m (c.tc.loc main_arg0)) (m (c.tc.loc main_arg1)) (ix2 j d) : EReal) = (M A j d : EReal) := by
  pointwise [val_main_v11, val_main_v10, val_main_v9, val_main_v8, val_main_v7, val_main_v6, val_main_v5, val_main_v4, val_main_v3, val_main_v2, val_main_v1, val_main_v0, val_main_cst, val_main_cst_0, val_main_cst_1]
  simp only [R.m, R.g]
  rw [rs_eq (A.m j) (by norm_num) Dx.w_1024]
  simp only [← EReal.coe_mul]
  rfl

theorem blocks (t : Fin cfg0.N) : Blocks A (iblk m c 0 t) (iblk m c 2 t) (iblk m c 3 t) (iblk m c 4 t) (iblk m c 5 t) (iblk m c 6 t) (iblk m c 7 t) where
  m j d := (blk0 m c t j d).trans (R.m j d)
  mn j d := (blk2 m c t j d).trans (mn_eq R j d)
  kr h j d := by
    rw [ldH_apply, blk3, keys_apply]
    simp only [mn_eq R, R.w, ← EReal.coe_mul, ← coe_sum]
    rfl
  dk h j d := (ldH_apply _ h j d).trans ((blk4 m c t h j d).trans (R.dk j h d))
  dv h j d := (ldH_apply _ h j d).trans ((blk5 m c t h j d).trans (R.dv j h d))
  wk h j d := (ldK_apply _ h j d).trans ((blk6 m c t (key h) j d).trans (R.w _ _))
  wv h j d := (ldV_apply _ h j d).trans ((blk6 m c t (val h) j d).trans (R.w _ _))
  gk d := (blk7 m c t d).trans (R.gk d)

/-- The gradient of the weights. -/
theorem dw_eq (G : S8x1024x256.Idx → EReal) (hG : ∀ b d e, G (ix3 b d e) = (DW A b d e : EReal)) : (dats m 0 c).arrAt 8 (cfgs 0).N = G := by
  refine (dats m 0 c).arrAt_eq_of_covers 8 _ (by decide +kernel) fun t _ y => ?_
  have i0 : ((((View.whole main_v22_0).slice (win0_8.rect t)).emb y) 0).val = (y 0).val := by blk_simp [idx t]
  have i1 : ((((View.whole main_v22_0).slice (win0_8.rect t)).emb y) 1).val = (y 1).val := by blk_simp [idx t]
  have i2 : ((((View.whole main_v22_0).slice (win0_8.rect t)).emb y) 2).val = (y 2).val := by blk_simp [idx t]
  blk_simp
  rw [after0_8, out8]
  generalize ((View.whole main_v22_0).slice (win0_8.rect t)).emb y = i at i0 i1 i2 ⊢
  have T := blocks R t
  canon_tiles x k
  all_goals
    obtain ⟨d, hd⟩ : ∃ d : Fin 1024, (x 1).val = d.val := ⟨x 1, rfl⟩
    obtain ⟨e, he⟩ : ∃ e : Fin 256, (x 2).val = e.val := ⟨x 2, rfl⟩
  · exact (at3 _ x 0 d e (by show (x 0).val = 0; omega) hd he).trans ((r_dwV T 3 d e).trans ((at3 G i (val 3) d e (by show (i 0).val = 4 + 3; omega) (by omega) (by omega)).trans (hG _ _ _)).symm)
  · exact (at3 _ x 0 d e (by show (x 0).val = 0; omega) hd he).trans ((r_dwK T 3 d e).trans ((at3 G i (key 3) d e (by show (i 0).val = 3; omega) (by omega) (by omega)).trans (hG _ _ _)).symm)
  · exact (at3 _ x 0 d e (by show (x 0).val = 0; omega) hd he).trans ((r_dwV T 2 d e).trans ((at3 G i (val 2) d e (by show (i 0).val = 4 + 2; omega) (by omega) (by omega)).trans (hG _ _ _)).symm)
  · exact (at3 _ x 0 d e (by show (x 0).val = 0; omega) hd he).trans ((r_dwK T 2 d e).trans ((at3 G i (key 2) d e (by show (i 0).val = 2; omega) (by omega) (by omega)).trans (hG _ _ _)).symm)
  · exact (at3 _ x 0 d e (by show (x 0).val = 0; omega) hd he).trans ((r_dwV T 1 d e).trans ((at3 G i (val 1) d e (by show (i 0).val = 4 + 1; omega) (by omega) (by omega)).trans (hG _ _ _)).symm)
  · exact (at3 _ x 0 d e (by show (x 0).val = 0; omega) hd he).trans ((r_dwK T 1 d e).trans ((at3 G i (key 1) d e (by show (i 0).val = 1; omega) (by omega) (by omega)).trans (hG _ _ _)).symm)
  · exact (at3 _ x 0 d e (by show (x 0).val = 0; omega) hd he).trans ((r_dwV T 0 d e).trans ((at3 G i (val 0) d e (by show (i 0).val = 4 + 0; omega) (by omega) (by omega)).trans (hG _ _ _)).symm)
  · exact (at3 _ x 0 d e (by show (x 0).val = 0; omega) hd he).trans ((r_dwK T 0 d e).trans ((at3 G i (key 0) d e (by show (i 0).val = 0; omega) (by omega) (by omega)).trans (hG _ _ _)).symm)

/-- The gradient of the key norm's gain. -/
theorem dgk_eq (G : S1x256.Idx → EReal) (hG : ∀ d, G (ix2 0 d) = (DGK A d : EReal)) : (dats m 0 c).arrAt 9 (cfgs 0).N = G := by
  refine (dats m 0 c).arrAt_eq_of_covers 9 _ (by decide +kernel) fun t _ y => ?_
  have i0 : ((((View.whole main_v22_1).slice (win0_9.rect t)).emb y) 0).val = (y 0).val := by blk_simp [idx t]
  have i1 : ((((View.whole main_v22_1).slice (win0_9.rect t)).emb y) 1).val = (y 1).val := by blk_simp [idx t]
  blk_simp
  rw [after0_9, out9]
  generalize ((View.whole main_v22_1).slice (win0_9.rect t)).emb y = i at i0 i1 ⊢
  have T := blocks R t
  canon_tiles x k
  obtain ⟨d, hd⟩ : ∃ d : Fin 256, (x 1).val = d.val := ⟨x 1, rfl⟩
  exact (at2 _ x 0 d (by show (x 0).val = 0; omega) hd).trans ((r_gk T d).trans ((at2 G i 0 d (by show (i 0).val = 0; omega) (by omega)).trans (hG _)).symm)

/-- The gradient of the memory's gain. -/
theorem dgm_eq (G : S1x1024.Idx → EReal) (hG : ∀ d, G (ix2 0 d) = (DGM A d : EReal)) : (dats m 0 c).arrAt 10 (cfgs 0).N = G := by
  refine (dats m 0 c).arrAt_eq_of_covers 10 _ (by decide +kernel) fun t _ y => ?_
  have i0 : ((((View.whole main_v22_2).slice (win0_10.rect t)).emb y) 0).val = (y 0).val := by blk_simp [idx t]
  have i1 : ((((View.whole main_v22_2).slice (win0_10.rect t)).emb y) 1).val = (y 1).val := by blk_simp [idx t]
  blk_simp
  rw [after0_10, out10]
  generalize ((View.whole main_v22_2).slice (win0_10.rect t)).emb y = i at i0 i1 ⊢
  have T := blocks R t
  canon_tiles x k
  obtain ⟨d, hd⟩ : ∃ d : Fin 1024, (x 1).val = d.val := ⟨x 1, rfl⟩
  exact (at2 _ x 0 d (by show (x 0).val = 0; omega) hd).trans ((r_gm T d).trans ((at2 G i 0 d (by show (i 0).val = 0; omega) (by omega)).trans (hG _)).symm)

end Cert.KvIdeal.Hand

end
-- ==== Proof.KvRef.lean ====
/-
  The reference of the memory's keys and values, from real arguments.
-/
module

public import proofs.«01_k».proof.Proof.KvMath
public import proofs.«01_k».proof.Proof.CrossRefB
public import proofs.«01_k».proof.Proof.Gen.KvRefIdeal.Read
public import Idealize.ShloMosaic.Lib.Pointwise

@[expose] public section

set_option maxRecDepth 16384

noncomputable section

namespace Cert.KvRefIdeal.Hand

open Cert.KvRefIdeal Cert.KvRefIdeal.Read Cert.KvMath Cert.Reals
open Cert.CrossRefIdeal.Hand (unit01)
open Idealize.ShloMosaic Idealize.ShloMosaic.TcCoe Idealize.ShloMosaic.Tactic

/-- A sum over the rows and the heads. -/
theorem sum01 (hr : S256x4x256.ReducesTo [0, 1] S256) (f : S256x4x256.Idx → EReal) (e : EReal) (c : Fin 256) :
    Ideal.hostReduceAdd hr f e (ix1 c) = e + ∑ t : Fin 256, ∑ h : Fin 4, f (ix3 t h c) := by
  unfold Ideal.hostReduceAdd
  refine congrArg (e + ·) ?_
  rw [← Finset.sum_product' Finset.univ Finset.univ (fun (t : Fin 256) (h : Fin 4) => f (ix3 t h c))]
  have out : ∀ z : S256x4x256.Idx, (z 2).val = c.val → ix3 (n0 := 256) (n1 := 4) (n2 := 256) ⟨(z 0).val, (z 0).isLt⟩ ⟨(z 1).val, (z 1).isLt⟩ c = z := fun z h2 =>
    funext fun b => Fin.ext (match b with
      | ⟨0, _⟩ => rfl
      | ⟨1, _⟩ => rfl
      | ⟨2, _⟩ => h2.symm)
  refine Finset.sum_nbij' (fun z : S256x4x256.Idx => ((⟨(z 0).val, (z 0).isLt⟩ : Fin 256), (⟨(z 1).val, (z 1).isLt⟩ : Fin 4)))
    (fun p => ix3 p.1 p.2 c) ?_ ?_ (fun z hz => out z (congrArg Fin.val (congrFun (Finset.mem_filter.mp hz).2 0))) (fun p _ => rfl)
    (fun z hz => (congrArg f (out z (congrArg Fin.val (congrFun (Finset.mem_filter.mp hz).2 0)))).symm)
  · exact fun z _ => by simp only [Finset.mem_product, Finset.mem_univ, and_self]
  · intro p _
    refine Finset.mem_filter.mpr ⟨Finset.mem_univ _, ?_⟩
    funext b
    fin_cases b
    rfl
/-- An index of head and column, by numbers. -/
theorem at_ext (j : Fin 256) {h h' : Fin 4} {c c' : Fin 256} (e : h.val = h'.val) (d : c.val = c'.val) :
    ix3 (n0 := 256) (n1 := 4) (n2 := 256) j h c = ix3 j h' c' := by
  rw [Fin.ext e, Fin.ext d]
/-- A sum over the columns, block by block. -/
theorem sum_cols (f : Fin 2048 → ℝ) : ∑ n, f n = ∑ b : Fin 8, ∑ c : Fin 256, f (col b c) := by
  rw [← Fintype.sum_prod_type' (fun (b : Fin 8) (c : Fin 256) => f (col b c))]
  refine (Fintype.sum_equiv (finProdFinEquiv (m := 8) (n := 256)) _ _ fun p => congrArg f (Fin.ext ?_)).symm
  show 256 * p.1.val + p.2.val = p.2.val + 256 * p.1.val
  omega

variable {x0 : S256x1024.Idx → EReal} {x1 : S1x1024.Idx → EReal} {x2 : S1024x2048.Idx → EReal} {x3 : S1x256.Idx → EReal}
  {x4 x5 : S256x4x256.Idx → EReal} {A : Args} (R : Holds A x0 x1 x2 x3 x4 x5)
include R

theorem c11 (j : Fin 256) (d : Fin 1024) : (val_main_v11 (F := Ideal) x0 x1 (ix2 j d) : EReal) = (M A j d : EReal) := by
  pointwise [val_main_v11, val_main_v10, val_main_v9, val_main_v8, val_main_v7, val_main_v6, val_main_v5, val_main_v4, val_main_v3, val_main_v2, val_main_v1, val_main_v0, val_main_cst, val_main_cst_0, val_main_cst_1]
  simp only [R.m, R.g]
  rw [rs_eq (A.m j) (by norm_num) Dx.w_1024]
  simp only [← EReal.coe_mul]
  rfl
theorem c15 (j : Fin 256) (h : Fin 4) (c : Fin 256) : (val_main_v15 (F := Ideal) x0 x1 x2 (ix3 j h c) : EReal) = (K A j h c : EReal) := by
  pointwise [val_main_v15, val_main_v13, val_main_v12]
  have e : ∀ d, x2 (ix2 d ⟨h.val * 256 + c.val, by omega⟩) = (A.w d (col (key h) c) : EReal) := fun d =>
    (congrArg (fun z => x2 (ix2 d z)) (Fin.ext (by show h.val * 256 + c.val = 256 * h.val + c.val; omega))).trans (R.w d (col (key h) c))
  simp only [c11 R, e, ← EReal.coe_mul, ← coe_sum]
  rfl
theorem c54 (j : Fin 256) (h : Fin 4) (c : Fin 256) : (val_main_v54 (F := Ideal) x0 x1 x2 x3 x4 (ix3 j h c) : EReal) = (DK A j h c : EReal) := by
  refine Eq.trans ?_ (bwd_vjp (K A j h) (fun c => A.dk j h c * A.gk c) c (by norm_num) w_256 rfl)
  pointwise [val_main_v54, val_main_v53, val_main_v52, val_main_v51, val_main_v50, val_main_v49, val_main_v48, val_main_v47, val_main_v46, val_main_v45, val_main_v44, val_main_v43, val_main_v42, val_main_v41, val_main_v38, val_main_v37, val_main_v29, val_main_v26, val_main_v25, val_main_v24, val_main_v23, val_main_v22, val_main_v21, val_main_v20, val_main_v19, val_main_v18, val_main_v17, val_main_v16, val_main_cst_2, val_main_cst_3, val_main_cst_4, val_main_cst_5, val_main_cst_8, val_main_cst_9, val_main_cst_10]
  simp only [c15 R, R.dk, R.gk, Fin.sum_univ_one, EReal.coe_mul (A.dk _ _ _)]
theorem c56 (j : Fin 256) (b : Fin 8) (c : Fin 256) : (val_main_v56 (F := Ideal) x0 x1 x2 x3 x4 x5 (ix2 j (col b c)) : EReal) = (Z A j b c : EReal) := by
  pointwise [val_main_v56]
  unfold Z
  by_cases hb : b.val < 4
  · rw [dif_pos (show (col b c).val < 1024 by show 256 * b.val + c.val < 1024; omega), dif_pos hb]
    have e : (⟨(col b c).val, by show 256 * b.val + c.val < 1024; omega⟩ : Fin 1024) = ⟨b.val * 256 + c.val, by omega⟩ :=
      Fin.ext (by show 256 * b.val + c.val = b.val * 256 + c.val; omega)
    refine Eq.trans (congrArg (fun z => val_main_v55 (F := Ideal) x0 x1 x2 x3 x4 (ix2 j z)) e) ?_
    refine Eq.trans ?_ (c54 R j ⟨b.val, hb⟩ c)
    pointwise [val_main_v55]
    exact congrArg _ (at_ext j (by show (b.val * 256 + c.val) / 256 = b.val; omega) rfl)
  · rw [dif_neg (show ¬ (col b c).val < 1024 by show ¬ 256 * b.val + c.val < 1024; omega), dif_neg hb]
    refine Eq.trans ?_ (R.dv j ⟨b.val - 4, by omega⟩ c)
    pointwise [val_main_v33]
    exact congrArg _ (at_ext j (by show (256 * b.val + c.val - 1024) / 256 = b.val - 4; omega) (by show (256 * b.val + c.val - 1024) % 256 = c.val; omega))
theorem dw (b : Fin 8) (d : Fin 1024) (c : Fin 256) : (val_main_v65 (F := Ideal) x0 x1 x2 x3 x4 x5 (ix3 b d c) : EReal) = (DW A b d c : EReal) := by
  pointwise [val_main_v65, val_main_v64, val_main_v63, val_main_v58, val_main_v57]
  have e : ∀ j, val_main_v56 (F := Ideal) x0 x1 x2 x3 x4 x5 (ix2 j ⟨b.val * 256 + c.val, by omega⟩) = (Z A j b c : EReal) := fun j =>
    (congrArg (fun z => val_main_v56 (F := Ideal) x0 x1 x2 x3 x4 x5 (ix2 j z)) (Fin.ext (by show b.val * 256 + c.val = 256 * b.val + c.val; omega))).trans (c56 R j b c)
  simp only [c11 R, e, ← EReal.coe_mul, ← coe_sum]
  exact congrArg _ (Finset.sum_congr rfl fun j _ => mul_comm _ _)
theorem c59 (j : Fin 256) (d : Fin 1024) : (val_main_v59 (F := Ideal) x0 x1 x2 x3 x4 x5 (ix2 j d) : EReal) = (DM A j d : EReal) := by
  have hz : ∀ n, val_main_v56 (F := Ideal) x0 x1 x2 x3 x4 x5 (ix2 j n) = (Z A j ⟨n.val / 256, by omega⟩ ⟨n.val % 256, by omega⟩ : EReal) := fun n =>
    (congrArg (fun z => val_main_v56 (F := Ideal) x0 x1 x2 x3 x4 x5 (ix2 j z)) (Fin.ext (by show n.val = 256 * (n.val / 256) + n.val % 256; omega))).trans
      (c56 R j ⟨n.val / 256, by omega⟩ ⟨n.val % 256, by omega⟩)
  have hw : ∀ n, x2 (ix2 d n) = (A.w d n : EReal) := fun n => R.w d n
  pointwise [val_main_v59]
  simp only [hz, hw, ← EReal.coe_mul, ← coe_sum]
  refine congrArg _ ((sum_cols _).trans (Finset.sum_congr rfl fun b _ => Finset.sum_congr rfl fun c _ => ?_))
  have e1 : (⟨(col b c).val / 256, by omega⟩ : Fin 8) = b := Fin.ext (by show (256 * b.val + c.val) / 256 = b.val; omega)
  have e2 : (⟨(col b c).val % 256, by omega⟩ : Fin 256) = c := Fin.ext (by show (256 * b.val + c.val) % 256 = c.val; omega)
  rw [e1, e2]
theorem dgm (d : Fin 1024) : (val_main_v62 (F := Ideal) x0 x1 x2 x3 x4 x5 (ix2 0 d) : EReal) = (DGM A d : EReal) := by
  pointwise [val_main_v62, val_main_v61, val_main_v60, val_main_v9, val_main_v8, val_main_v7, val_main_v6, val_main_v5, val_main_v4, val_main_v3, val_main_v2, val_main_v1, val_main_v0, val_main_cst, val_main_cst_0, val_main_cst_1, val_main_cst_11]
  simp only [c59 R, R.m, rs_eq (A.m _) (by norm_num) Dx.w_1024]
  simp only [← EReal.coe_mul, ← coe_sum]
  exact congrArg _ (Finset.sum_congr rfl fun j _ => mul_comm _ _)
theorem dgk (c : Fin 256) : (val_main_v40 (F := Ideal) x0 x1 x2 x4 (ix2 0 c) : EReal) = (DGK A c : EReal) := by
  have e : val_main_v39 (F := Ideal) x0 x1 x2 x4 (ix1 c) = Ideal.ofBits .f32 0x00000000#32 + val_main_v36 (F := Ideal) x0 x1 x2 x4 (ix3 0 0 c) := unit01 _ _ _ c
  have e' : val_main_v35 (F := Ideal) x0 x1 x2 x4 (ix1 c) = Ideal.ofBits .f32 0x00000000#32 + ∑ t, ∑ h, val_main_v34 (F := Ideal) x0 x1 x2 x4 (ix3 t h c) := sum01 _ _ _ c
  pointwise [val_main_v40]
  rw [e, Ideal.ofBits_zero_f32, zero_add]
  pointwise [val_main_v36]
  rw [e', Ideal.ofBits_zero_f32, zero_add]
  pointwise [val_main_v34, val_main_v28, val_main_v27, val_main_v23, val_main_v22, val_main_v21, val_main_v20, val_main_v19, val_main_v18, val_main_v17, val_main_v16, val_main_cst_2, val_main_cst_3, val_main_cst_4]
  simp only [c15 R, R.dk, rs_eq (K A _ _) (by norm_num) w_256]
  simp only [← EReal.coe_mul, ← coe_sum]
  exact congrArg _ (Finset.sum_congr rfl fun j _ => Finset.sum_congr rfl fun h _ => mul_comm _ _)

end Cert.KvRefIdeal.Hand

end
-- ==== Proof.KvClaim.lean ====
/-
  The gradients through the memory's keys and values: the value claim, and the reference's
  frame.
-/
module

public import proofs.«01_k».proof.Defs
public import proofs.«01_k».proof.Proof.Kv
public import proofs.«01_k».proof.Proof.KvRef
public import proofs.«01_k».proof.Proof.Gen.KvRefIdeal.Run
public import proofs.«01_k».proof.Proof.Gen.Pre_kv_finite
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.ShloMosaic.Tactic Idealize.SL.Sem

namespace Cert.KvClaim

open Cert.Reals Cert.KvMath

section Pre

open Cert.Pre_kv_finite

/-- The precondition: every entry of the arguments is real. -/
theorem of_pre (x0 : FVec Ideal S256x1024 .f32) (x1 : FVec Ideal S1x1024 .f32) (x2 : FVec Ideal S1024x2048 .f32) (x3 : FVec Ideal S1x256 .f32)
    (x4 x5 : FVec Ideal S256x4x256 .f32) (h : fn x0 x1 x2 x3 x4 x5 = fun _ => 1#1) :
    (∀ i, IsR (x0 i)) ∧ (∀ i, IsR (x1 i)) ∧ (∀ i, IsR (x2 i)) ∧ (∀ i, IsR (x3 i)) ∧ (∀ i, IsR (x4 i)) ∧ ∀ i, IsR (x5 i) := by
  have h0 := congrFun h (fun a => a.elim0)
  unfold fn fn_part1 at h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun i => isR_of_lt_word (Host.reduce_andi_all _ _ _ _ _ h0 i), fun i => isR_of_lt_word (Host.reduce_andi_all _ _ _ _ _ h1 i),
    fun i => isR_of_lt_word (Host.reduce_andi_all _ _ _ _ _ h2 i), fun i => isR_of_lt_word (Host.reduce_andi_all _ _ _ _ _ h3 i),
    fun i => isR_of_lt_word (Host.reduce_andi_all _ _ _ _ _ h4 i), fun i => isR_of_lt_word (Host.reduce_andi_all _ _ _ _ _ h5 i)⟩

end Pre

/-- Real arrays hold the numbers of some arguments. -/
theorem exists_args (x0 : (⟨2, ![256, 1024]⟩ : Shape).Idx → EReal) (x1 : (⟨2, ![1, 1024]⟩ : Shape).Idx → EReal) (x2 : (⟨2, ![1024, 2048]⟩ : Shape).Idx → EReal)
    (x3 : (⟨2, ![1, 256]⟩ : Shape).Idx → EReal) (x4 x5 : (⟨3, ![256, 4, 256]⟩ : Shape).Idx → EReal)
    (h0 : ∀ i, IsR (x0 i)) (h1 : ∀ i, IsR (x1 i)) (h2 : ∀ i, IsR (x2 i)) (h3 : ∀ i, IsR (x3 i)) (h4 : ∀ i, IsR (x4 i)) (h5 : ∀ i, IsR (x5 i)) :
    ∃ A : Args, Holds A x0 x1 x2 x3 x4 x5 :=
  ⟨{ m := fun j d => (h0 (ix2 j d)).choose, g := fun d => (h1 (ix2 0 d)).choose, w := fun d n => (h2 (ix2 d n)).choose,
     gk := fun c => (h3 (ix2 0 c)).choose, dk := fun j h c => (h4 (ix3 j h c)).choose, dv := fun j h c => (h5 (ix3 j h c)).choose },
   { m := fun j d => (h0 (ix2 j d)).choose_spec, g := fun d => (h1 (ix2 0 d)).choose_spec, w := fun d n => (h2 (ix2 d n)).choose_spec,
     gk := fun c => (h3 (ix2 0 c)).choose_spec, dk := fun j h c => (h4 (ix3 j h c)).choose_spec, dv := fun j h c => (h5 (ix3 j h c)).choose_spec }⟩

/-- The reference leaves its arguments and has no semaphores. -/
theorem frame_ref : Cert.quiescent_KvRefIdeal := fun m g _ =>
  (θ_run Cert.KvRefIdeal.defs _ _).mono (fun r h => ⟨fun c => (h c).2.2.2, sem_eq_zero_of_no_sems rfl r.2⟩) (Cert.KvRefIdeal.Value.run m g)

open Cert.KvIdeal Cert.KvIdeal.Value Cert.KvIdeal.Gen in
theorem value : Cert.algebraic_KvIdeal_KvRefIdeal_pre_kv_finite := by
  intro m g m' g' hp hm
  refine ⟨fun c => (dats m 0 c).arrAt 8 cfg0.N, fun c => (dats m 0 c).arrAt 9 cfg0.N, fun c => (dats m 0 c).arrAt 10 cfg0.N, ?_, ?_⟩
  · exact Cert.KvIdeal.Value.run_blocks m g
  refine (θ_run _ _ _).mono (fun r h c => ?_) (Cert.KvRefIdeal.Value.run m' g')
  obtain ⟨e0, e1, e2, e3, e4, e5⟩ := hm c
  obtain ⟨h0, h1, h2, h3, h4, h5⟩ := of_pre _ _ _ _ _ _ (hp c)
  obtain ⟨A, R⟩ := exists_args _ _ _ _ _ _ h0 h1 h2 h3 h4 h5
  obtain ⟨r0, r1, r2, rest⟩ := h c
  refine ⟨r0.trans ?_, r1.trans ?_, r2.trans ?_, rest⟩
  · rw [Cert.KvRefIdeal.Read.val_main_v65_eq, e0, e1, e2, e3, e4, e5]
    exact (Cert.KvIdeal.Hand.dw_eq R _ fun b d e => Cert.KvRefIdeal.Hand.dw R b d e).symm
  · rw [Cert.KvRefIdeal.Read.val_main_v40_eq, e0, e1, e2, e4]
    exact (Cert.KvIdeal.Hand.dgk_eq R _ fun d => Cert.KvRefIdeal.Hand.dgk R d).symm
  · rw [Cert.KvRefIdeal.Read.val_main_v62_eq, e0, e1, e2, e3, e4, e5]
    exact (Cert.KvIdeal.Hand.dgm_eq R _ fun d => Cert.KvRefIdeal.Hand.dgm R d).symm

end Cert.KvClaim

end
-- ==== Proof.GateClaim.lean ====
/-
  The gradients through the token mixing's gates: the reference's frame.
-/
module

public import proofs.«01_k».proof.Defs
public import proofs.«01_k».proof.Proof.Gen.GateRefIdeal.Run
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem

namespace Cert.GateClaim

/-- The reference leaves its arguments and has no semaphores. -/
theorem frame_ref : Cert.quiescent_GateRefIdeal := fun m g _ =>
  (θ_run Cert.GateRefIdeal.defs _ _).mono (fun r h => ⟨fun c => (h c).2.2.2.2.2.2.2.2, sem_eq_zero_of_no_sems rfl r.2⟩) (Cert.GateRefIdeal.Value.run m g)

/-- The two coefficients of the GELU and of its slope, named. -/
theorem named : Cert.preserves_Gate_GateIdeal :=
  ⟨IdealRules.named_const.statement _ _ _ _ _ rfl, IdealRules.named_const.statement _ _ _ _ _ rfl⟩

end Cert.GateClaim

end
-- ==== Proof.Loss.lean ====
/-
  The loss: the last product and the residual, their distance to the target, its gradient and the sum of its squares, when
  the arguments are real.
-/
module

public import proofs.«01_k».proof.Proof.DxMath
public import proofs.«01_k».proof.Proof.Whole
public import proofs.«01_k».proof.Proof.Gen.LossIdeal.Value
public import Idealize.ShloMosaic.Lib.Pipeline.ValueKit
public import Idealize.ShloMosaic.Lib.StableHlo.ReadAt

@[expose] public section

set_option maxRecDepth 16384

noncomputable section

namespace Cert.LossMath

/-- The arguments: the hidden rows, the product's weight, the residual and the target. -/
structure Args where
  a : Fin 4096 → Fin 2816 → ℝ
  w : Fin 2816 → Fin 1024 → ℝ
  x : Fin 4096 → Fin 1024 → ℝ
  y : Fin 4096 → Fin 1024 → ℝ

variable (A : Args) (t : Fin 4096) (d : Fin 1024)

/-- The step's result less the target. -/
def Args.E : ℝ := A.x t d + 1 / 2 * (∑ n, A.a t n * A.w n d) - A.y t d
/-- The gradient of half the sum of the rows' mean squares. -/
def Args.DY : ℝ := A.E t d * (1 / 1024)
/-- The sum of the squares. -/
def Args.SQ : ℝ := ∑ t, ∑ d, A.E t d * A.E t d

end Cert.LossMath

namespace Cert.LossIdeal.Hand

open Cert.LossIdeal Cert.LossIdeal.Gen Cert.LossIdeal.Value Cert.LossMath Cert.Rows Cert.Reals Cert.Whole
open Idealize.ShloMosaic Idealize.ShloMosaic.TcCoe Idealize.ShloMosaic.Tactic

structure Holds (A : Args) (x0 : S4096x2816.Idx → EReal) (x1 : S2816x1024.Idx → EReal) (x2 x3 : S4096x1024.Idx → EReal) : Prop where
  a : ∀ t n, x0 (ix2 t n) = (A.a t n : EReal)
  w : ∀ n d, x1 (ix2 n d) = (A.w n d : EReal)
  x : ∀ t d, x2 (ix2 t d) = (A.x t d : EReal)
  y : ∀ t d, x3 (ix2 t d) = (A.y t d : EReal)

theorem w_half : Ideal.ofBits .f32 0x3F000000#32 = ((1 / 2 : ℝ) : EReal) := by
  simp [Ideal.ofBits, Ideal.ieee]
  norm_cast
  norm_num
theorem w_inv : Ideal.ofBits .f32 0x3A800000#32 = ((1 / 1024 : ℝ) : EReal) := by
  simp [Ideal.ofBits, Ideal.ieee]
  norm_cast
  norm_num

abbrev eT (x : FVec Ideal S512x1024 .f32) (r : Fin 512) (d : Fin 1024) : EReal := x (ix2 r d)
abbrev bT (x : FVec Ideal S512x1024 .bf16) (r : Fin 512) (d : Fin 1024) : EReal := x (ix2 r d)
abbrev eL (x : Vec Ideal S8x128 .f32) (p : Fin 8) (q : Fin 128) : EReal := x (ix2 p q)
abbrev bA (x : Vec Ideal S1x512x704 .bf16) (r : Fin 512) (n : Fin 704) : EReal := x (ix3 0 r n)
abbrev bW (x : Vec Ideal S1x704x1024 .bf16) (n : Fin 704) (d : Fin 1024) : EReal := x (ix3 0 n d)

/-- Block `b` of the hidden columns. -/
def cl (b : Fin 4) (n : Fin 704) : Fin 2816 := ⟨b.val * 704 + n.val, by omega⟩

theorem sum_blocks (f : Fin 2816 → ℝ) : ∑ n, f n
    = (∑ n, f (cl 0 n)) + (∑ n, f (cl 1 n)) + (∑ n, f (cl 2 n)) + (∑ n, f (cl 3 n)) := by
  have e : ∑ n, f n = ∑ p : Fin 4 × Fin 704, f (finProdFinEquiv (m := 4) (n := 704) p) := (Fintype.sum_equiv (finProdFinEquiv (m := 4) (n := 704)) _ _ fun p => rfl).symm
  have e' : ∀ (b : Fin 4) (n : Fin 704), f (finProdFinEquiv (m := 4) (n := 704) (b, n)) = f (cl b n) := fun b n =>
    congrArg f (Fin.ext (by show n.val + 704 * b.val = b.val * 704 + n.val; omega))
  rw [e, Fintype.sum_prod_type, Fin.sum_univ_four]
  simp only [e']

/-! ## A tile's values -/

section Runs

variable {F : FTy → Type} [FloatOps F]

/-- The tile's result, over the four blocks of hidden columns. -/
def yT (D : Fin 4 → Vec F S1x512x704 .bf16) (W : Fin 4 → Vec F S1x704x1024 .bf16) (x : Vec F S512x1024 .f32) : FVec F S512x1024 .f32 :=
  k0_pay6 (D 0) (W 0) (D 1) (W 1) (D 2) (W 2) (D 3) (W 3) x

abbrev off (b : Fin 4) : Fin S4x512x704.rank → ℕ := ![b.val, 0, 0]
theorem offD_inb : ∀ (b : Fin 4) (q : Fin S4x512x704.rank), off b q + S1x512x704.size q ≤ S4x512x704.size q := by decide
theorem offW_inb : ∀ (b : Fin 4) (q : Fin S4x704x1024.rank), off b q + S1x704x1024.size q ≤ S4x704x1024.size q := by decide

variable (c : Dev nD) (t : Fin cfg0.N) (x0 : Vec F S4x512x704 .bf16) (x1 : Vec F S4x704x1024 .bf16) (x2 x3 : Vec F S512x1024 .f32)
  (xo : Vec F S8x128 .f32)

abbrev lD (b : Fin 4) : Vec F S1x512x704 .bf16 :=
  View.readAt (Elt F) (ms0_0 t).view (Rect.unit (s := S4x512x704) (off b) S1x512x704.size (offD_inb b)).toLoadRect ((hs0_0 t).unread x0)
abbrev lW (b : Fin 4) : Vec F S1x704x1024 .bf16 :=
  View.readAt (Elt F) (ms0_1 t).view (Rect.unit (s := S4x704x1024) (off b) S1x704x1024.size (offW_inb b)).toLoadRect ((hs0_1 t).unread x1)
abbrev lX := ld (F := F) (hs0_2 t) x2 ![0, 0] inb_S512x1024_S512x1024_0_0
abbrev lY := ld (F := F) (hs0_3 t) x3 ![0, 0] inb_S512x1024_S512x1024_0_0
abbrev lO := ld (F := F) (hs0_6 t) xo ![0, 0] inb_S8x128_S8x128_0_0

abbrev rA (h0 : t.val % 8 = 0) (h1 : ¬ 1 ≤ t.val) := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) x0 x1 x2 x3
abbrev rB (h0 : ¬ t.val % 8 = 0) (h1 : 1 ≤ t.val) := kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) x0 x1 x2 x3 xo

theorem rA_dy (h0 : t.val % 8 = 0) (h1 : ¬ 1 ≤ t.val) : (rA c t x0 x1 x2 x3 h0 h1).1
    = [⟨Rect.unit (s := S512x1024) ![0, 0] S512x1024.size inb_S512x1024_S512x1024_0_0, k0_pay2 (yT (lD t x0) (lW t x1) (lX t x2)) (lY t x3)⟩] := by
  sl_kernel_rfl
theorem rA_dyb (h0 : t.val % 8 = 0) (h1 : ¬ 1 ≤ t.val) : (rA c t x0 x1 x2 x3 h0 h1).2.1
    = [⟨Rect.unit (s := S512x1024) ![0, 0] S512x1024.size inb_S512x1024_S512x1024_0_0, k0_pay3 (yT (lD t x0) (lW t x1) (lX t x2)) (lY t x3)⟩] := by
  sl_kernel_rfl
theorem rA_sq (h0 : t.val % 8 = 0) (h1 : ¬ 1 ≤ t.val) : (rA c t x0 x1 x2 x3 h0 h1).2.2.1
    = [⟨Rect.unit (s := S8x128) ![0, 0] S8x128.size inb_S8x128_S8x128_0_0, k0_pay4 (yT (lD t x0) (lW t x1) (lX t x2)) (lY t x3)⟩] := by
  sl_kernel_rfl
theorem rB_dy (h0 : ¬ t.val % 8 = 0) (h1 : 1 ≤ t.val) : (rB c t x0 x1 x2 x3 xo h0 h1).1
    = [⟨Rect.unit (s := S512x1024) ![0, 0] S512x1024.size inb_S512x1024_S512x1024_0_0, k0_pay2 (yT (lD t x0) (lW t x1) (lX t x2)) (lY t x3)⟩] := by
  sl_kernel_rfl
theorem rB_dyb (h0 : ¬ t.val % 8 = 0) (h1 : 1 ≤ t.val) : (rB c t x0 x1 x2 x3 xo h0 h1).2.1
    = [⟨Rect.unit (s := S512x1024) ![0, 0] S512x1024.size inb_S512x1024_S512x1024_0_0, k0_pay3 (yT (lD t x0) (lW t x1) (lX t x2)) (lY t x3)⟩] := by
  sl_kernel_rfl
theorem rB_sq (h0 : ¬ t.val % 8 = 0) (h1 : 1 ≤ t.val) : (rB c t x0 x1 x2 x3 xo h0 h1).2.2.1
    = [⟨Rect.unit (s := S8x128) ![0, 0] S8x128.size inb_S8x128_S8x128_0_0, k0_pay5 (yT (lD t x0) (lW t x1) (lX t x2)) (lY t x3) (lO t xo)⟩] := by
  sl_kernel_rfl

end Runs

variable {A : Args}

/-- The blocks a tile loads hold its rows. -/
structure TileOf (A : Args) (j : ℕ) (D : Fin 4 → Vec Ideal S1x512x704 .bf16) (W : Fin 4 → Vec Ideal S1x704x1024 .bf16)
    (x y : FVec Ideal S512x1024 .f32) : Prop where
  D : ∀ b r n, bA (D b) r n = (A.a (row j r) (cl b n) : EReal)
  W : ∀ b n d, bW (W b) n d = (A.w (cl b n) d : EReal)
  x : ∀ r d, eT x r d = (A.x (row j r) d : EReal)
  y : ∀ r d, eT y r d = (A.y (row j r) d : EReal)

section Apply

variable (D : Fin 4 → Vec Ideal S1x512x704 .bf16) (W : Fin 4 → Vec Ideal S1x704x1024 .bf16) (x u v : FVec Ideal S512x1024 .f32)
  (r : Fin 512) (d : Fin 1024) (p : Fin 8) (q : Fin 128)

theorem y_apply : eT (yT D W x) r d = eT x r d + Ideal.ofBits .f32 0x3F000000#32
    * ((∑ n, bA (D 0) r n * bW (W 0) n d) + (∑ n, bA (D 1) r n * bW (W 1) n d) + (∑ n, bA (D 2) r n * bW (W 2) n d) + (∑ n, bA (D 3) r n * bW (W 3) n d)) := by
  unfold eT bA bW
  pointwise [yT, k0_pay6]
theorem p1_apply : eT (k0_pay1 u v) r d = eT u r d - eT v r d := by
  unfold eT
  pointwise [k0_pay1]
theorem p2_apply : eT (k0_pay2 u v) r d = eT (k0_pay1 u v) r d * Ideal.ofBits .f32 0x3A800000#32 := by
  unfold eT
  pointwise [k0_pay2]
theorem p3_apply : bT (k0_pay3 u v) r d = eT (k0_pay2 u v) r d := by
  unfold bT eT
  pointwise [k0_pay3]
theorem p4_apply : eL (k0_pay4 u v) p q = ∑ r, ∑ d, eT (k0_pay1 u v) r d * eT (k0_pay1 u v) r d := by
  unfold eL eT
  pointwise [k0_pay4]
theorem p5_apply (o : Vec Ideal S8x128 .f32) : eL (k0_pay5 u v o) p q = eL o p q + eL (k0_pay4 u v) p q := by
  unfold eL
  pointwise [k0_pay5]

end Apply

section TileVal

variable {j : ℕ} {D : Fin 4 → Vec Ideal S1x512x704 .bf16} {W : Fin 4 → Vec Ideal S1x704x1024 .bf16} {x y : FVec Ideal S512x1024 .f32}
  (T : TileOf A j D W x y)
include T

theorem tile_e (r : Fin 512) (d : Fin 1024) : eT (k0_pay1 (yT D W x) y) r d = (A.E (row j r) d : EReal) := by
  rw [p1_apply, y_apply]
  simp only [T.D, T.W, T.x, T.y, w_half, ← EReal.coe_mul, ← coe_sum, ← EReal.coe_add, ← EReal.coe_sub]
  unfold Args.E
  rw [sum_blocks]
theorem tile_dy (r : Fin 512) (d : Fin 1024) : eT (k0_pay2 (yT D W x) y) r d = (A.DY (row j r) d : EReal) := by
  rw [p2_apply, tile_e T, w_inv, ← EReal.coe_mul]
  rfl
theorem tile_sq (p : Fin 8) (q : Fin 128) : eL (k0_pay4 (yT D W x) y) p q = ((∑ r, ∑ d, A.E (row j r) d * A.E (row j r) d : ℝ) : EReal) := by
  rw [p4_apply]
  simp only [tile_e T, ← EReal.coe_mul, ← coe_sum]

end TileVal

/-! ## The blocks -/

variable (m : (ℓ : Loc nD τ sig) → Buf (Elt Ideal) ℓ) (c : Dev nD)

theorem V_a (b : Fin 4) (t : Fin 4096) (n : Fin 704) : V m c main_v2 (ix3 b t n) = m (c.tc.loc main_arg0) (ix2 t (cl b n)) := by
  unfold V
  after_reads_at
  exact congrArg (m (c.tc.loc main_arg0)) (funext fun q => Fin.ext (by
    match q with
    | ⟨0, _⟩ => rfl
    | ⟨1, _⟩ => show b.val * 704 + n.val = b.val * 704 + n.val; omega))
theorem V_w (b : Fin 4) (n : Fin 704) (d : Fin 1024) : V m c main_v4 (ix3 b n d) = m (c.tc.loc main_arg1) (ix2 (cl b n) d) := by
  unfold V
  after_reads_at
  exact congrArg (m (c.tc.loc main_arg1)) (funext fun q => Fin.ext (by
    match q with
    | ⟨0, _⟩ => show b.val * 704 + n.val = b.val * 704 + n.val; omega
    | ⟨1, _⟩ => rfl))
theorem V_x (i : S4096x1024.Idx) : V m c main_arg2 i = m (c.tc.loc main_arg2) i := by
  unfold V
  after_reads_simp
theorem V_y (i : S4096x1024.Idx) : V m c main_arg3 i = m (c.tc.loc main_arg3) i := by
  unfold V
  after_reads_simp

theorem idx : ∀ t : Fin cfg0.N, win0_0.index t = ![0, t.val, 0] ∧ win0_1.index t = ![0, 0, 0] ∧ win0_2.index t = ![t.val, 0]
    ∧ win0_3.index t = ![t.val, 0] ∧ win0_4.index t = ![t.val, 0] ∧ win0_5.index t = ![t.val, 0] ∧ win0_6.index t = ![0, 0] ∧ t.val < 8 :=
  (by decide +kernel : ∀ t : Fin grid0.N, _)
theorem row_val (t : Fin cfg0.N) (r : Fin 512) : (row t.val r).val = t.val * 512 + r.val := by
  have := (idx t).2.2.2.2.2.2.2
  show (512 * t.val + r.val) % 4096 = _
  omega

theorem blk0 (t : Fin cfg0.N) (b : Fin 4) (r : Fin 512) (n : Fin 704) :
    iblk m c 0 t (ix3 b r n) = m (c.tc.loc main_arg0) (ix2 (row t.val r) (cl b n)) := by
  refine Eq.trans ?_ (V_a m c b (row t.val r) n)
  have := row_val t r
  blk_point [iblk, idx t]
theorem blk1 (t : Fin cfg0.N) (b : Fin 4) (n : Fin 704) (d : Fin 1024) :
    iblk m c 1 t (ix3 b n d) = m (c.tc.loc main_arg1) (ix2 (cl b n) d) := by
  refine Eq.trans ?_ (V_w m c b n d)
  blk_point [iblk, idx t]
theorem blk2 (t : Fin cfg0.N) (r : Fin 512) (d : Fin 1024) : iblk m c 2 t (ix2 r d) = m (c.tc.loc main_arg2) (ix2 (row t.val r) d) := by
  refine Eq.trans ?_ (V_x m c (ix2 (row t.val r) d))
  have := row_val t r
  blk_point [iblk, idx t]
theorem blk3 (t : Fin cfg0.N) (r : Fin 512) (d : Fin 1024) : iblk m c 3 t (ix2 r d) = m (c.tc.loc main_arg3) (ix2 (row t.val r) d) := by
  refine Eq.trans ?_ (V_y m c (ix2 (row t.val r) d))
  have := row_val t r
  blk_point [iblk, idx t]

theorem lD_apply (t : Fin cfg0.N) (x : Vec Ideal S4x512x704 .bf16) (b : Fin 4) (r : Fin 512) (n : Fin 704) :
    lD t x b (ix3 0 r n) = x (ix3 b r n) :=
  ((hs0_0 t).readAt_unread x _ _).trans (congrArg x (funext fun q => Fin.ext (by
    fin_cases q
    · show b.val + 1 * 0 = b.val; omega
    · show 0 + 1 * r.val = r.val; omega
    · show 0 + 1 * n.val = n.val; omega)))
theorem lW_apply (t : Fin cfg0.N) (x : Vec Ideal S4x704x1024 .bf16) (b : Fin 4) (n : Fin 704) (d : Fin 1024) :
    lW t x b (ix3 0 n d) = x (ix3 b n d) :=
  ((hs0_1 t).readAt_unread x _ _).trans (congrArg x (funext fun q => Fin.ext (by
    fin_cases q
    · show b.val + 1 * 0 = b.val; omega
    · show 0 + 1 * n.val = n.val; omega
    · show 0 + 1 * d.val = d.val; omega)))

variable {m c} (R : Holds A (m (c.tc.loc main_arg0)) (m (c.tc.loc main_arg1)) (m (c.tc.loc main_arg2)) (m (c.tc.loc main_arg3)))
include R

theorem tile (t : Fin cfg0.N) : TileOf A t.val (lD t (iblk m c 0 t)) (lW t (iblk m c 1 t)) (lX t (iblk m c 2 t)) (lY t (iblk m c 3 t)) where
  D b r n := (lD_apply t (iblk m c 0 t) b r n).trans ((blk0 m c t b r n).trans (R.a _ _))
  W b n d := (lW_apply t (iblk m c 1 t) b n d).trans ((blk1 m c t b n d).trans (R.w _ _))
  x r d := (congrFun (ld_eq (hs0_2 t) (iblk m c 2 t) _ z2) (ix2 r d)).trans ((blk2 m c t r d).trans (R.x _ d))
  y r d := (congrFun (ld_eq (hs0_3 t) (iblk m c 3 t) _ z2) (ix2 r d)).trans ((blk3 m c t r d).trans (R.y _ d))

/-! ## The tiles -/

abbrev Carried := Vec Ideal S512x1024 .f32 × Vec Ideal S512x1024 .bf16 × Vec Ideal S8x128 .f32

/-- What the buffers hold after tile `n`: its rows' gradients, and the sum of squares so far. -/
theorem after_tile : ∀ (n : ℕ) (h : n < cfg0.N), (∀ r d, eT (outsAt0 m c n h).1 r d = (A.DY (row n r) d : EReal))
    ∧ (∀ r d, bT (outsAt0 m c n h).2.1 r d = (A.DY (row n r) d : EReal))
    ∧ ∀ p q, eL (outsAt0 m c n h).2.2 p q = ((upto (fun t => ∑ d, A.E t d * A.E t d) n : ℝ) : EReal)
  | 0, h => by
    have h0 : (⟨0, h⟩ : Fin cfg0.N).val % 8 = 0 := rfl
    have h1 : ¬ 1 ≤ (⟨0, h⟩ : Fin cfg0.N).val := by show ¬ 1 ≤ 0; omega
    have T := tile R ⟨0, h⟩
    refine ⟨fun r d => ?_, fun r d => ?_, fun p q => ?_⟩
    · refine (congrArg (fun z : Carried => eT z.1 r d) (outsAt0_A m c ⟨0, h⟩ h0 h1)).trans ?_
      dsimp only
      unfold out0_A_4
      rw [rA_dy c _ _ _ _ _ h0 h1, read_store _ _ _ _ z2]
      exact tile_dy T r d
    · refine (congrArg (fun z : Carried => bT z.2.1 r d) (outsAt0_A m c ⟨0, h⟩ h0 h1)).trans ?_
      dsimp only
      unfold out0_A_5
      rw [rA_dyb c _ _ _ _ _ h0 h1, read_store _ _ _ _ z2, p3_apply]
      exact tile_dy T r d
    · refine (congrArg (fun z : Carried => eL z.2.2 p q) (outsAt0_A m c ⟨0, h⟩ h0 h1)).trans ?_
      dsimp only
      unfold out0_A_6
      rw [rA_sq c _ _ _ _ _ h0 h1, read_store _ _ _ _ z2, upto_zero]
      exact tile_sq T p q
  | n + 1, h => by
    have hn : n + 1 < 8 := lt_of_lt_of_eq h N_0
    have h0 : ¬ (⟨n + 1, h⟩ : Fin cfg0.N).val % 8 = 0 := by show ¬ (n + 1) % 8 = 0; omega
    have h1 : 1 ≤ (⟨n + 1, h⟩ : Fin cfg0.N).val := by show 1 ≤ n + 1; omega
    have T := tile R ⟨n + 1, h⟩
    have ih := (after_tile n (Nat.lt_of_succ_lt h)).2.2
    refine ⟨fun r d => ?_, fun r d => ?_, fun p q => ?_⟩
    · refine (congrArg (fun z : Carried => eT z.1 r d) (outsAt0_B m c ⟨n + 1, h⟩ h0 h1)).trans ?_
      dsimp only
      unfold out0_B_4
      rw [rB_dy c _ _ _ _ _ _ h0 h1, read_store _ _ _ _ z2]
      exact tile_dy T r d
    · refine (congrArg (fun z : Carried => bT z.2.1 r d) (outsAt0_B m c ⟨n + 1, h⟩ h0 h1)).trans ?_
      dsimp only
      unfold out0_B_5
      rw [rB_dyb c _ _ _ _ _ _ h0 h1, read_store _ _ _ _ z2, p3_apply]
      exact tile_dy T r d
    · refine (congrArg (fun z : Carried => eL z.2.2 p q) (outsAt0_B m c ⟨n + 1, h⟩ h0 h1)).trans ?_
      dsimp only
      unfold out0_B_6
      rw [rB_sq c _ _ _ _ _ _ h0 h1, read_store _ _ _ _ z2, p5_apply, upto_succ, EReal.coe_add]
      exact congrArg₂ _ ((congrFun (ld_eq (hs0_6 _) _ _ z2) (ix2 p q)).trans (ih p q)) (tile_sq T p q)

/-- The three results. -/
theorem dy_eq (G : S4096x1024.Idx → EReal) (hG : ∀ t d, G (ix2 t d) = (A.DY t d : EReal)) : (dats m 0 c).arrAt 4 (cfgs 0).N = G := by
  refine (dats m 0 c).arrAt_eq_of_covers 4 _ (by decide +kernel) fun t _ y => ?_
  have i0 : ((((View.whole main_v5_0).slice (win0_4.rect t)).emb y) 0).val = t.val * 512 + (y 0).val := by blk_simp [idx t]
  have i1 : ((((View.whole main_v5_0).slice (win0_4.rect t)).emb y) 1).val = (y 1).val := by blk_simp [idx t]
  blk_simp
  rw [after0_4]
  generalize ((View.whole main_v5_0).slice (win0_4.rect t)).emb y = i at i0 i1 ⊢
  obtain ⟨r, hr⟩ : ∃ r : Fin 512, (y 0).val = r.val := ⟨y 0, rfl⟩
  obtain ⟨d, hd⟩ : ∃ d : Fin 1024, (y 1).val = d.val := ⟨y 1, rfl⟩
  have := row_val t r
  exact (at2 (outsAt0 m c t.val t.isLt).1 y r d hr hd).trans (((after_tile R t.val t.isLt).1 r d).trans
    ((at2 G i (row t.val r) d (by omega) (by omega)).trans (hG _ _)).symm)
theorem dyb_eq (G : S4096x1024.Idx → EReal) (hG : ∀ t d, G (ix2 t d) = (A.DY t d : EReal)) : (dats m 0 c).arrAt 5 (cfgs 0).N = G := by
  refine (dats m 0 c).arrAt_eq_of_covers 5 _ (by decide +kernel) fun t _ y => ?_
  have i0 : ((((View.whole main_v5_1).slice (win0_5.rect t)).emb y) 0).val = t.val * 512 + (y 0).val := by blk_simp [idx t]
  have i1 : ((((View.whole main_v5_1).slice (win0_5.rect t)).emb y) 1).val = (y 1).val := by blk_simp [idx t]
  blk_simp
  rw [after0_5]
  generalize ((View.whole main_v5_1).slice (win0_5.rect t)).emb y = i at i0 i1 ⊢
  obtain ⟨r, hr⟩ : ∃ r : Fin 512, (y 0).val = r.val := ⟨y 0, rfl⟩
  obtain ⟨d, hd⟩ : ∃ d : Fin 1024, (y 1).val = d.val := ⟨y 1, rfl⟩
  have := row_val t r
  exact (at2 (outsAt0 m c t.val t.isLt).2.1 y r d hr hd).trans (((after_tile R t.val t.isLt).2.1 r d).trans
    ((at2 G i (row t.val r) d (by omega) (by omega)).trans (hG _ _)).symm)
theorem sq_eq (G : S8x128.Idx → EReal) (hG : ∀ p q, G (ix2 p q) = (A.SQ : EReal)) : (dats m 0 c).arrAt 6 (cfgs 0).N = G := by
  refine (dats m 0 c).arrAt_eq_of_covers 6 _ (by decide +kernel) fun t hf y => ?_
  have h7 : t.val = 7 := (by decide +kernel : ∀ t : Fin grid0.N, (cfg0.win 6).flush t = true → t.val = 7) t hf
  blk_simp
  rw [after0_6]
  generalize ((View.whole main_v5_2).slice (win0_6.rect t)).emb y = i
  obtain ⟨p, hp⟩ : ∃ p : Fin 8, (y 0).val = p.val := ⟨y 0, rfl⟩
  obtain ⟨q, hq⟩ : ∃ q : Fin 128, (y 1).val = q.val := ⟨y 1, rfl⟩
  refine (at2 (outsAt0 m c t.val t.isLt).2.2 y p q hp hq).trans (((after_tile R t.val t.isLt).2.2 p q).trans
    (Eq.trans ?_ ((at2 G i (i 0) (i 1) rfl rfl).trans (hG (i 0) (i 1))).symm))
  rw [h7, upto_last]
  rfl

end Cert.LossIdeal.Hand

end
-- ==== Proof.LossClaim.lean ====
/-
  The loss: its value claim, and the reference's frame.
-/
module

public import proofs.«01_k».proof.Defs
public import proofs.«01_k».proof.Proof.Loss
public import proofs.«01_k».proof.Proof.Gen.LossRefIdeal.Run
public import proofs.«01_k».proof.Proof.Gen.LossRefIdeal.Read
public import proofs.«01_k».proof.Proof.Gen.Pre_loss_finite
public import Idealize.ShloMosaic.Lib.Quiescent

@[expose] public section

set_option maxRecDepth 16384

noncomputable section

open Idealize.ShloMosaic Idealize.ShloMosaic.TcCoe Idealize.ShloMosaic.Tactic Idealize.SL.Sem

namespace Cert.LossRefIdeal.Hand

open Cert.LossRefIdeal Cert.LossRefIdeal.Gen Cert.LossRefIdeal.Read Cert.LossMath Cert.Reals
open Cert.LossIdeal.Hand (Holds w_half)

variable {A : Args} {x0 : S4096x2816.Idx → EReal} {x1 : S2816x1024.Idx → EReal} {x2 x3 : S4096x1024.Idx → EReal}
  (R : Holds A x0 x1 x2 x3)

theorem w_two : Ideal.ofBits .f32 0x40000000#32 = ((2 : ℝ) : EReal) := by
  simp [Ideal.ofBits, Ideal.ieee]
  norm_cast
  norm_num

include R

theorem c20 (t : Fin 4096) (d : Fin 1024) : val_main_v20 (F := Ideal) x0 x1 x2 x3 (ix2 t d) = (A.E t d : EReal) := by
  pointwise [val_main_v20, val_main_v3, val_main_v2, val_main_v1, val_main_cst, val_main_v0]
  simp only [R.a, R.w, R.x, R.y, w_half, ← EReal.coe_mul, ← coe_sum, ← EReal.coe_add, ← EReal.coe_sub]
  rfl
theorem c18 (t : Fin 4096) (d : Fin 1024) : val_main_v18 (F := Ideal) x0 x1 x2 x3 (ix2 t d) = (A.DY t d : EReal) := by
  have e : ∀ k, val_main_v4 (F := Ideal) x0 x1 x2 x3 k = val_main_v20 (F := Ideal) x0 x1 x2 x3 k := fun _ => rfl
  pointwise [val_main_v18, val_main_v17, val_main_v16, val_main_v15, val_main_v14, val_main_v13, val_main_v7, val_main_v6,
    val_main_cst_5, val_main_cst_6, val_main_cst_7, val_main_cst_0]
  rw [e, c20 R, w_half, Cert.Dx.w_1024, w_two, Ideal.div_coe (by norm_num)]
  simp only [← EReal.coe_mul]
  refine congrArg _ ?_
  unfold Args.DY
  push_cast
  ring
theorem c22 (i : S_.Idx) : val_main_v22 (F := Ideal) x0 x1 x2 x3 i = (A.SQ : EReal) := by
  rw [val_main_v22_apply, sum_idx2]
  pointwise [val_main_v21, val_main_cst_8]
  simp only [c20 R, ← EReal.coe_mul, ← coe_sum]
  rfl

end Cert.LossRefIdeal.Hand

namespace Cert.LossClaim

open Cert.Reals Cert.LossMath

section Pre

open Cert.Pre_loss_finite

/-- The precondition: every entry of the arguments is real. -/
theorem of_pre (x0 : FVec Ideal S4096x2816 .f32) (x1 : FVec Ideal S2816x1024 .f32) (x2 x3 : FVec Ideal S4096x1024 .f32)
    (h : fn x0 x1 x2 x3 = fun _ => 1#1) : (∀ i, IsR (x0 i)) ∧ (∀ i, IsR (x1 i)) ∧ (∀ i, IsR (x2 i)) ∧ ∀ i, IsR (x3 i) := by
  have h0 := congrFun h (fun a => a.elim0)
  unfold fn at h0
  obtain ⟨h0, h3⟩ := IntOp.andi_eq_one.1 h0
  obtain ⟨h0, h2⟩ := IntOp.andi_eq_one.1 h0
  obtain ⟨h0, h1⟩ := IntOp.andi_eq_one.1 h0
  refine ⟨fun i => ?_, fun i => ?_, fun i => ?_, fun i => ?_⟩
  · exact isR_of_lt_word (Host.reduce_andi_all _ _ _ _ _ h0 i)
  · exact isR_of_lt_word (Host.reduce_andi_all _ _ _ _ _ h1 i)
  · exact isR_of_lt_word (Host.reduce_andi_all _ _ _ _ _ h2 i)
  · exact isR_of_lt_word (Host.reduce_andi_all _ _ _ _ _ h3 i)

end Pre

open Cert.LossIdeal in
theorem exists_args (x0 : S4096x2816.Idx → EReal) (x1 : S2816x1024.Idx → EReal) (x2 x3 : S4096x1024.Idx → EReal)
    (h0 : ∀ i, IsR (x0 i)) (h1 : ∀ i, IsR (x1 i)) (h2 : ∀ i, IsR (x2 i)) (h3 : ∀ i, IsR (x3 i)) :
    ∃ A : Args, Cert.LossIdeal.Hand.Holds A x0 x1 x2 x3 :=
  ⟨⟨fun t n => (h0 (ix2 t n)).choose, fun n d => (h1 (ix2 n d)).choose, fun t d => (h2 (ix2 t d)).choose, fun t d => (h3 (ix2 t d)).choose⟩,
    ⟨fun t n => (h0 (ix2 t n)).choose_spec, fun n d => (h1 (ix2 n d)).choose_spec, fun t d => (h2 (ix2 t d)).choose_spec,
      fun t d => (h3 (ix2 t d)).choose_spec⟩⟩

/-- The reference leaves its arguments and has no semaphores. -/
theorem frame_ref : Cert.quiescent_LossRefIdeal := fun m g _ =>
  (θ_run Cert.LossRefIdeal.defs _ _).mono (fun r h => ⟨fun c => (h c).2.2.2, sem_eq_zero_of_no_sems rfl r.2⟩) (Cert.LossRefIdeal.Value.run m g)

open Cert.LossIdeal Cert.LossIdeal.Value Cert.LossIdeal.Gen in
theorem value : Cert.algebraic_LossIdeal_LossRefIdeal_pre_loss_finite := by
  intro m g m' g' hp hm
  refine ⟨fun c => (dats m 0 c).arrAt 4 cfg0.N, fun c => (dats m 0 c).arrAt 5 cfg0.N, fun c => (dats m 0 c).arrAt 6 cfg0.N, ?_, ?_⟩
  · exact Cert.LossIdeal.Value.run_blocks m g
  refine (θ_run _ _ _).mono (fun r h c => ?_) (Cert.LossRefIdeal.Value.run m' g')
  obtain ⟨e0, e1, e2, e3⟩ := hm c
  obtain ⟨h0, h1, h2, h3⟩ := of_pre _ _ _ _ (hp c)
  obtain ⟨A, R⟩ := exists_args _ _ _ _ h0 h1 h2 h3
  obtain ⟨r0, r1, r2, rest⟩ := h c
  refine ⟨r0.trans ?_, r1.trans ?_, r2.trans ?_, rest⟩
  · rw [Cert.LossRefIdeal.Read.val_main_v18_eq, e0, e1, e2, e3]
    exact (Cert.LossIdeal.Hand.dy_eq R _ fun a b => Cert.LossRefIdeal.Hand.c18 R a b).symm
  · rw [Cert.LossRefIdeal.Read.val_main_v19_eq, e0, e1, e2, e3]
    exact (Cert.LossIdeal.Hand.dyb_eq R _ fun a b => Cert.LossRefIdeal.Hand.c18 R a b).symm
  · rw [Cert.LossRefIdeal.Read.val_main_v23_eq, e0, e1, e2, e3]
    exact (Cert.LossIdeal.Hand.sq_eq R _ fun a b => Cert.LossRefIdeal.Hand.c22 R _).symm

end Cert.LossClaim

end
-- ==== Proof.OutMath.lean ====
/-
  The gradients through the attention's norm and its projection, over the real numbers.
-/
module

public import proofs.«01_k».proof.Proof.KvMath

@[expose] public section

noncomputable section

namespace Cert.OutMath

open Idealize.ShloMosaic Idealize.ShloMosaic.Tactic Cert.Reals

/-- The arguments: the attention's result, the gated branch, the norm's gain, the projection's weight, and the cotangent. -/
structure Args where
  a : Fin 4096 → Fin 512 → ℝ
  y : Fin 4096 → Fin 512 → ℝ
  g : Fin 512 → ℝ
  w : Fin 1024 → Fin 1024 → ℝ
  x : Fin 4096 → Fin 1024 → ℝ

/-- The two halves of the projection's rows, and a head's columns. -/
def lo (d : Fin 512) : Fin 1024 := ⟨d.val, by omega⟩
def hi (d : Fin 512) : Fin 1024 := ⟨512 + d.val, by omega⟩
def hc (h : Fin 8) (k : Fin 64) : Fin 512 := ⟨64 * h.val + k.val, by omega⟩
/-- A packed column: position `p` of head `h`'s 128. -/
def pc (h : Fin 8) (p : Fin 128) : Fin 1024 := ⟨128 * h.val + p.val, by omega⟩
def hd (n : Fin 1024) : Fin 8 := ⟨n.val / 128, by omega⟩
def at' (n : Fin 1024) : Fin 128 := ⟨n.val % 128, by omega⟩

theorem pc_hd (n : Fin 1024) : pc (hd n) (at' n) = n := Fin.ext (by show 128 * (n.val / 128) + n.val % 128 = n.val; omega)

variable (A : Args) (t : Fin 4096)

/-- The gradient of the projection's input. -/
def Args.D (e : Fin 1024) : ℝ := ∑ k, A.x t k * A.w e k
/-- The normed attention. -/
def Args.N (d : Fin 512) : ℝ := A.a t d * Norm.rs (A.a t)
/-- The projection's input. -/
def Args.Y (e : Fin 1024) : ℝ := if h : e.val < 512 then A.N t ⟨e.val, h⟩ * A.g ⟨e.val, h⟩ else A.y t ⟨e.val - 512, by omega⟩
/-- The gradient of the attention's result, and a row's sum of its products with the result, head by head. -/
def Args.DA (d : Fin 512) : ℝ := Norm.bwd (A.a t) (fun d => A.D t (lo d) * A.g d) d
def Args.S (h : Fin 8) : ℝ := ∑ k, A.DA t (hc h k) * A.a t (hc h k)
/-- The two packed head by head: the head's gradient, the sum negated, zeros. -/
def Args.B (h : Fin 8) (p : Fin 128) : ℝ := if hp : p.val < 64 then A.DA t (hc h ⟨p.val, hp⟩) else if p.val = 64 then -A.S t h else 0
/-- The gradients of the gain and of the weight. -/
def Args.DG (d : Fin 512) : ℝ := ∑ t, A.D t (lo d) * A.N t d
def Args.DW (e k : Fin 1024) : ℝ := ∑ t, A.Y t e * A.x t k

theorem Y_lo (d : Fin 512) : A.Y t (lo d) = A.N t d * A.g d := dif_pos d.isLt
theorem Y_hi (d : Fin 512) : A.Y t (hi d) = A.y t d := by
  unfold Args.Y
  rw [dif_neg (by show ¬ 512 + d.val < 512; omega)]
  exact congrArg (A.y t) (Fin.ext (by show 512 + d.val - 512 = d.val; omega))

/-- The lane of the sums that a head's first free column takes. -/
def lane (h : Fin 8) : Fin 128 := ⟨h.val, by omega⟩

/-- A row of sums spread to the packed columns. -/
theorem spread (s : Fin 8 → ℝ) (h : Fin 8) (p : Fin 128) (z : Fin 128 → ℝ) (P : Fin 128 → EReal) (hz : ∀ h, z (lane h) = -s h)
    (hz0 : ∀ l : Fin 128, ¬ l.val < 8 → z l = 0)
    (hP : ∀ j : Fin 8, P (lane j) = ((if 128 * j.val + 64 = 128 * h.val + p.val then 1 else 0 : ℝ) : EReal)) :
    ∑ l, (z l : EReal) * P l = ((if p.val = 64 then -s h else 0 : ℝ) : EReal) := by
  have e : ∀ l, (z l : EReal) * P l = ((if l.val = h.val then (if p.val = 64 then -s h else 0) else 0 : ℝ) : EReal) := fun l => by
    by_cases h8 : l.val < 8
    · have hl : l = lane ⟨l.val, h8⟩ := rfl
      rw [hl, hP, hz, ← EReal.coe_mul]
      refine congrArg _ ?_
      by_cases hh : l.val = h.val
      · have : (⟨l.val, h8⟩ : Fin 8) = h := Fin.ext hh
        rw [this, if_pos (show (lane h).val = h.val from rfl)]
        by_cases hp : p.val = 64
        · rw [if_pos hp, if_pos (by omega), mul_one]
        · rw [if_neg hp, if_neg (by omega), mul_zero]
      · rw [if_neg (show ¬ (lane ⟨l.val, h8⟩).val = h.val from hh), if_neg (by show ¬ 128 * l.val + 64 = _; omega), mul_zero]
    · rw [hz0 l h8, if_neg (by omega)]
      show (0 : EReal) * P l = 0
      exact zero_mul _
  simp only [e, ← coe_sum]
  refine congrArg _ ?_
  exact (Finset.sum_eq_single (lane h) (fun l _ hl => if_neg fun e => hl (Fin.ext e)) (fun hl => absurd (Finset.mem_univ _) hl)).trans (if_pos rfl)

theorem w_512 : Ideal.ofBits .f32 0x44000000#32 = (((512 : ℕ) : ℝ) : EReal) := by
  simp [Ideal.ofBits, Ideal.ieee]
  norm_cast
  norm_num

/-- The arrays hold the arguments' numbers. -/
structure Holds (x0 x1 : (⟨2, ![4096, 512]⟩ : Shape).Idx → EReal) (x2 : (⟨2, ![1, 512]⟩ : Shape).Idx → EReal)
    (x3 : (⟨2, ![1024, 1024]⟩ : Shape).Idx → EReal) (x4 : (⟨2, ![4096, 1024]⟩ : Shape).Idx → EReal) : Prop where
  a : ∀ t d, x0 (ix2 t d) = (A.a t d : EReal)
  y : ∀ t d, x1 (ix2 t d) = (A.y t d : EReal)
  g : ∀ d, x2 (ix2 0 d) = (A.g d : EReal)
  w : ∀ e k, x3 (ix2 e k) = (A.w e k : EReal)
  x : ∀ t k, x4 (ix2 t k) = (A.x t k : EReal)

end Cert.OutMath

end
-- ==== Proof.OutTile.lean ====
/-
  The gradients through the attention's norm and its projection: what the kernel computes of one tile of rows.
-/
module

public import proofs.«01_k».proof.Proof.OutMath
public import proofs.«01_k».proof.Proof.Gen.OutIdeal.Skeleton
public import Idealize.ShloMosaic.Lib.KernelVsHost

@[expose] public section

set_option maxRecDepth 16384

noncomputable section

namespace Cert.OutIdeal.Hand

open Cert.OutIdeal Cert.OutIdeal.Gen Cert.OutMath Cert.Rows Cert.Reals
open Idealize.ShloMosaic Idealize.ShloMosaic.TcCoe Idealize.ShloMosaic.Tactic

abbrev eT (x : FVec Ideal S512x1024 .f32) (r : Fin 512) (k : Fin 1024) : EReal := x (ix2 r k)
abbrev bT (x : FVec Ideal S512x1024 .bf16) (r : Fin 512) (k : Fin 1024) : EReal := x (ix2 r k)
abbrev eA (x : FVec Ideal S512x512 .f32) (r d : Fin 512) : EReal := x (ix2 r d)
abbrev bA (x : FVec Ideal S512x512 .bf16) (r d : Fin 512) : EReal := x (ix2 r d)
abbrev eG (x : FVec Ideal S1x512 .f32) (d : Fin 512) : EReal := x (ix2 0 d)
abbrev bW (x : FVec Ideal S1024x1024 .bf16) (e k : Fin 1024) : EReal := x (ix2 e k)
abbrev eW (x : FVec Ideal S1024x1024 .f32) (e k : Fin 1024) : EReal := x (ix2 e k)
abbrev bP (x : FVec Ideal S128x1024 .bf16) (l : Fin 128) (k : Fin 1024) : EReal := x (ix2 l k)
abbrev eS (x : FVec Ideal S512x128 .f32) (r : Fin 512) (l : Fin 128) : EReal := x (ix2 r l)
abbrev e1 (x : FVec Ideal S512x1 .f32) (r : Fin 512) : EReal := x (ix2 r 0)
abbrev bH (x : FVec Ideal S512x64 .bf16) (r : Fin 512) (k : Fin 64) : EReal := x (ix2 r k)

/-! ## The operations of one head -/

section Heads

variable {F : FTy → Type} [FloatOps F]

theorem slices_head : ∀ h : Fin 8, S512x512.Slices ![0, 64 * h.val] S512x64 := by decide
theorem slices_free : ∀ h : Fin 8, S512x1024.Slices ![0, 128 * h.val + 64] S512x64 := by decide

/-- A head's sum over its columns, row by row. -/
def headSum (v : FVec F S512x512 .f32) (h : Fin 8) : FVec F S512x1 .f32 :=
  shapeCast S512x1 (shapeCast S512x1 (multiReduction .add [1] S512 (extractStridedSlice S512x64 ![0, 64 * h.val] v (slices_head h)) 0x00000000#32
    reduces_S512x64_S512 (.inl rfl) rfl) shapeCasts_S512_S512x1) shapeCasts_S512x1_S512x1
/-- A head's columns, and the free columns behind them. -/
def headCols (v : FVec F S512x512 .bf16) (h : Fin 8) : FVec F S512x64 .bf16 := extractStridedSlice S512x64 ![0, 64 * h.val] v (slices_head h)
def freeCols (v : FVec F S512x1024 .bf16) (h : Fin 8) : FVec F S512x64 .bf16 := extractStridedSlice S512x64 ![0, 128 * h.val + 64] v (slices_free h)

end Heads

section Apply

variable (x : FVec Ideal S512x1024 .f32) (a v u : FVec Ideal S512x512 .f32) (y : FVec Ideal S512x512 .bf16) (g o : FVec Ideal S1x512 .f32)
  (w : FVec Ideal S1024x1024 .bf16) (r d : Fin 512) (e k : Fin 1024) (h : Fin 8)

/-- A row's inverse root of its mean square. -/
abbrev rsE (a : FVec Ideal S512x512 .f32) (r : Fin 512) : EReal :=
  Ideal.rsqrt (Ideal.div (∑ k, eA a r k * eA a r k) (Ideal.ofBits .f32 0x44000000#32) + Ideal.ofBits .f32 0x358637BD#32)

theorem p6_apply : eT (k0_pay6 x w) r e = ∑ k, eT x r k * bW w e k := by
  unfold eT bW
  pointwise [k0_pay6, k0_pay5]
theorem p14_apply : eA (k0_pay14 x w) r d = eT (k0_pay6 x w) r (lo d) := by
  unfold eA eT
  pointwise [k0_pay14]
  rfl
theorem p20_apply : eA (k0_pay20 x) r d = eT x r (hi d) := by
  unfold eA eT
  pointwise [k0_pay20]
  rfl
theorem p16_apply : eA (k0_pay16 a) r d = eA a r d * rsE a r := by
  unfold rsE eA
  pointwise [k0_pay16, k0_pay15]
theorem p17_apply : eA (k0_pay17 a v g) r d = rsE a r * (eA v r d * eG g d - eA (k0_pay16 a) r d
    * Ideal.div (∑ k, eA v r k * eG g k * eA (k0_pay16 a) r k) (Ideal.ofBits .f32 0x44000000#32)) := by
  unfold rsE eA eG
  pointwise [k0_pay17, k0_pay15]
theorem p18_apply : eG (k0_pay18 a v) d = ∑ r, eA v r d * eA (k0_pay16 a) r d := by
  unfold eA eG
  pointwise [k0_pay18]
theorem p19_apply : eG (k0_pay19 a v o) d = eG o d + eG (k0_pay18 a v) d := by
  unfold eG
  pointwise [k0_pay19]
theorem p21_apply : eA (k0_pay21 a v g) r d = eA (k0_pay17 a v g) r d * eA a r d := by
  unfold eA
  pointwise [k0_pay21]
theorem p34_apply : bA (k0_pay34 v) r d = eA v r d := by
  unfold bA eA
  pointwise [k0_pay34]
theorem p9_apply : eT (k0_pay9 x a g) d k = ∑ r, eA (k0_pay16 a) r d * eG g d * eT x r k := by
  unfold eT eA eG
  pointwise [k0_pay9, k0_pay7, k0_pay5, k0_pay16, k0_pay15]
theorem p10_apply : eT (k0_pay10 x y) d k = ∑ r, bA y r d * eT x r k := by
  unfold eT bA
  pointwise [k0_pay10, k0_pay8, k0_pay5]
theorem p11_apply (z : FVec Ideal S512x1024 .f32) : eT (k0_pay11 x a g z) d k = eT z d k + eT (k0_pay9 x a g) d k := by
  unfold eT
  pointwise [k0_pay11, k0_pay9]
theorem p12_apply (z : FVec Ideal S512x1024 .f32) : eT (k0_pay12 x y z) d k = eT z d k + eT (k0_pay10 x y) d k := by
  unfold eT
  pointwise [k0_pay12, k0_pay10]
theorem p13_apply (z : FVec Ideal S1024x1024 .f32) : bW (k0_pay13 z) e k = eW z e k := by
  unfold eW bW
  pointwise [k0_pay13]
theorem headSum_apply : e1 (headSum v h) r = ∑ k, eA v r (hc h k) := by
  unfold e1 eA
  pointwise [headSum]
  rfl
theorem headCols_apply (c : Fin 64) : bH (headCols y h) r c = bA y r (hc h c) := by
  unfold bH bA
  pointwise [headCols]
  rfl
theorem freeCols_apply (z : FVec Ideal S512x1024 .bf16) (c : Fin 64) :
    bH (freeCols z h) r c = bT z r (pc h ⟨64 + c.val, by omega⟩) := by
  unfold bH bT
  pointwise [freeCols]
  exact congrArg z (funext fun q => Fin.ext (by
    match q with
    | ⟨0, _⟩ => rfl
    | ⟨1, _⟩ => show 128 * h.val + 64 + c.val = 128 * h.val + (64 + c.val); omega))

/-- The sums negated, in their lanes; zeros in the others. -/
def neg (v : FVec Ideal S512x128 .f32) : FVec Ideal S512x128 .f32 :=
  select (cmpi .slt (iota .tc S512x128 32 [1] iota_S512x128_d1_w32) (broadcast S512x128 8#32))
    (subf (broadcast S512x128 (Scalar.ofBits .f32 0x00000000#32)) v) (broadcast S512x128 (Scalar.ofBits .f32 0x00000000#32))
theorem neg_apply (v : FVec Ideal S512x128 .f32) (l : Fin 128) : eS (neg v) r l = if l.val < 8 then -eS v r l else 0 := by
  have hw : ∀ l : Fin 128, (IntOp.cmpi .slt (BitVec.ofNat 32 l.val) 8#32) = if l.val < 8 then 1#1 else 0#1 := by decide +kernel
  unfold eS
  pointwise [neg]
  rw [hw]
  by_cases h8 : l.val < 8
  · rw [if_pos h8, if_pos h8, zero_sub]
    rfl
  · rw [if_neg h8, if_neg h8]
    rfl

/-- The sums go through in three pieces: the first is all of a real number, the others are its zero remainders. -/
theorem p31_apply (v : FVec Ideal S512x128 .f32) (p : FVec Ideal S128x1024 .bf16) (z : Fin 512 → Fin 128 → ℝ)
    (hz : ∀ r l, eS (neg v) r l = (z r l : EReal)) : bT (k0_pay31 v p) r k = ∑ l, (z r l : EReal) * bP p l k := by
  have e0 : subf (neg v) (neg v) = fun _ => (0 : EReal) := funext fun i => by
    have := hz (i 0) (i 1)
    have hi : i = ix2 (i 0) (i 1) := by
      funext q
      fin_cases q <;> rfl
    show neg v i - neg v i = 0
    rw [hi]
    show eS (neg v) (i 0) (i 1) - eS (neg v) (i 0) (i 1) = 0
    rw [this, ← EReal.coe_sub, sub_self]
    rfl
  have e1 : k0_pay31 v p = truncf .bf16 (matmul (F := Ideal) dot_S512x128_S128x1024_S512x1024_1_0_0_1_n_n none
      (truncf .bf16 (addf (addf (neg v) (dynamicRotate 1 8#32 none (subf (neg v) (neg v)) rotates_S512x128_d1))
        (dynamicRotate 1 16#32 none (subf (subf (neg v) (neg v)) (subf (neg v) (neg v))) rotates_S512x128_d1)) bitsLt_bf16_f32)
      (shapeCast S128x1024 p shapeCasts_S128x1024_S128x1024) (constant S512x1024 .f32 0x00000000#32)) bitsLt_bf16_f32 := rfl
  have e2 : addf (addf (neg v) (dynamicRotate 1 8#32 none (subf (neg v) (neg v)) rotates_S512x128_d1))
        (dynamicRotate 1 16#32 none (subf (subf (neg v) (neg v)) (subf (neg v) (neg v))) rotates_S512x128_d1) = neg v := by
    rw [e0]
    funext i
    show (neg v i + (0 : EReal)) + ((0 : EReal) - (0 : EReal)) = neg v i
    rw [sub_zero, add_zero, add_zero]
  rw [e1, e2]
  have hz' : ∀ l, neg v (ix2 r l) = (z r l : EReal) := fun l => hz r l
  generalize neg v = n at hz'
  unfold bT bP
  pointwise []
  simp only [hz']

end Apply

/-! ## A tile's values -/

/-- The blocks a tile loads hold its rows. -/
structure TileOf (A : Args) (j : ℕ) (x : FVec Ideal S512x1024 .f32) (a : FVec Ideal S512x512 .f32) (y : FVec Ideal S512x512 .bf16)
    (g : FVec Ideal S1x512 .f32) (w : FVec Ideal S1024x1024 .bf16) (p : FVec Ideal S128x1024 .bf16) : Prop where
  x : ∀ r k, eT x r k = (A.x (row j r) k : EReal)
  a : ∀ r d, eA a r d = (A.a (row j r) d : EReal)
  y : ∀ r d, bA y r d = (A.y (row j r) d : EReal)
  g : ∀ d, eG g d = (A.g d : EReal)
  w : ∀ e k, bW w e k = (A.w e k : EReal)
  p : ∀ (l : Fin 8) k, bP p (lane l) k = ((if 128 * l.val + 64 = k.val then 1 else 0 : ℝ) : EReal)

section TileVal

variable {A : Args} {j : ℕ} {x : FVec Ideal S512x1024 .f32} {a : FVec Ideal S512x512 .f32} {y : FVec Ideal S512x512 .bf16}
  {g : FVec Ideal S1x512 .f32} {w : FVec Ideal S1024x1024 .bf16} {p : FVec Ideal S128x1024 .bf16} (T : TileOf A j x a y g w p)
include T

theorem t_d (r : Fin 512) (e : Fin 1024) : eT (k0_pay6 x w) r e = (A.D (row j r) e : EReal) := by
  rw [p6_apply]
  simp only [T.x, T.w, ← EReal.coe_mul, ← coe_sum]
  rfl
theorem t_lo (r d : Fin 512) : eA (k0_pay14 x w) r d = (A.D (row j r) (lo d) : EReal) := by rw [p14_apply, t_d T]
theorem t_hi (r d : Fin 512) : eA (k0_pay20 (k0_pay6 x w)) r d = (A.D (row j r) (hi d) : EReal) := by rw [p20_apply, t_d T]
theorem t_rs (r : Fin 512) : rsE a r = (Norm.rs (A.a (row j r)) : EReal) := by
  unfold rsE
  simp only [T.a]
  exact KvMath.rs_eq (A.a (row j r)) (by norm_num) w_512
theorem t_n (r d : Fin 512) : eA (k0_pay16 a) r d = (A.N (row j r) d : EReal) := by
  rw [p16_apply, t_rs T, T.a, ← EReal.coe_mul]
  rfl
theorem t_da (r d : Fin 512) : eA (k0_pay17 a (k0_pay14 x w) g) r d = (A.DA (row j r) d : EReal) := by
  have hb := KvMath.bwd_kernel (A.a (row j r)) (fun d => A.D (row j r) (lo d) * A.g d) d (by norm_num) w_512
  rw [KvMath.rs_eq (A.a (row j r)) (by norm_num) w_512] at hb
  rw [p17_apply]
  simp only [t_rs T, p16_apply, t_lo T, T.a, T.g, ← EReal.coe_mul] at hb ⊢
  exact hb
theorem t_dg (d : Fin 512) : eG (k0_pay18 a (k0_pay14 x w)) d = ((∑ r, A.D (row j r) (lo d) * A.N (row j r) d : ℝ) : EReal) := by
  rw [p18_apply]
  simp only [t_lo T, t_n T, ← EReal.coe_mul, ← coe_sum]
theorem t_top (d : Fin 512) (k : Fin 1024) : eT (k0_pay9 x a g) d k = ((∑ r, A.Y (row j r) (lo d) * A.x (row j r) k : ℝ) : EReal) := by
  rw [p9_apply]
  simp only [t_n T, T.g, T.x, ← EReal.coe_mul, ← coe_sum, Y_lo]
theorem t_bot (d : Fin 512) (k : Fin 1024) : eT (k0_pay10 x y) d k = ((∑ r, A.Y (row j r) (hi d) * A.x (row j r) k : ℝ) : EReal) := by
  rw [p10_apply]
  simp only [T.y, T.x, ← EReal.coe_mul, ← coe_sum, Y_hi]
theorem t_s (h : Fin 8) (r : Fin 512) : e1 (headSum (k0_pay21 a (k0_pay14 x w) g) h) r = (A.S (row j r) h : EReal) := by
  rw [headSum_apply]
  simp only [p21_apply, t_da T, T.a, ← EReal.coe_mul, ← coe_sum]
  rfl
theorem t_head (h : Fin 8) (r : Fin 512) (c : Fin 64) :
    bH (headCols (k0_pay34 (k0_pay17 a (k0_pay14 x w) g)) h) r c = (A.DA (row j r) (hc h c) : EReal) := by
  rw [headCols_apply, p34_apply, t_da T]
theorem t_free (s : FVec Ideal S512x128 .f32) (hs : ∀ h r, eS s r (lane h) = (A.S (row j r) h : EReal)) (h : Fin 8) (r : Fin 512) (c : Fin 64) :
    bH (freeCols (k0_pay31 s p) h) r c = ((if 64 + c.val = 64 then -A.S (row j r) h else 0 : ℝ) : EReal) := by
  rw [freeCols_apply, p31_apply r _ s p (fun r l => if h8 : l.val < 8 then -A.S (row j r) ⟨l.val, h8⟩ else 0) fun r l => ?_]
  · exact spread (A.S (row j r)) h ⟨64 + c.val, by omega⟩ _ _ (fun h => dif_pos h.isLt) (fun l hl => dif_neg hl) fun l => T.p l _
  · rw [neg_apply]
    by_cases h8 : l.val < 8
    · have hl : l = lane ⟨l.val, h8⟩ := rfl
      rw [if_pos h8, dif_pos h8, EReal.coe_neg, ← hs]
      rfl
    · rw [if_neg h8, dif_neg h8]
      rfl

end TileVal

end Cert.OutIdeal.Hand

end
-- ==== Proof.OutRun.lean ====
/-
  The gradients through the attention's norm and its projection: what one run of the kernel's body stores.
-/
module

public import proofs.«01_k».proof.Proof.OutTile
public import proofs.«01_k».proof.Proof.Whole
public import proofs.«01_k».proof.Proof.Tiles
public import proofs.«01_k».proof.Proof.Gen.OutIdeal.Value
public import Idealize.ShloMosaic.Lib.Pipeline.ValueKit

@[expose] public section

set_option maxRecDepth 16384

noncomputable section

namespace Cert.OutIdeal.Hand

open Cert.OutIdeal Cert.OutIdeal.Gen Cert.OutIdeal.Value Cert.OutMath Cert.Rows Cert.Reals Cert.Whole
open Idealize.ShloMosaic Idealize.ShloMosaic.TcCoe Idealize.ShloMosaic.Tactic

section Runs

variable {F : FTy → Type} [FloatOps F]

/-- The sums' lanes, the packed columns and the accumulator's halves. -/
abbrev offS (h : Fin 8) : Fin S512x128.rank → ℕ := ![0, h.val]
theorem offS_inb : ∀ (h : Fin 8) (q : Fin S512x128.rank), offS h q + S512x1.size q ≤ S512x128.size q := by decide
abbrev offB (i : Fin 16) : Fin S512x1024.rank → ℕ := ![0, 64 * i.val]
theorem offB_inb : ∀ (i : Fin 16) (q : Fin S512x1024.rank), offB i q + S512x64.size q ≤ S512x1024.size q := by decide
abbrev offW (b : Fin 2) : Fin S1024x1024.rank → ℕ := ![512 * b.val, 0]
theorem offW_inb : ∀ (b : Fin 2) (q : Fin S1024x1024.rank), offW b q + S512x1024.size q ≤ S1024x1024.size q := by decide

variable (c : Dev nD) (t : Fin cfg0.N) (x0 : Vec F S512x1024 .f32) (x1 : Vec F S512x512 .f32) (x2 : Vec F S512x512 .bf16)
  (x3 : Vec F S1x512 .f32) (x4 : Vec F S1024x1024 .bf16) (x5 : Vec F S512x1024 .bf16) (x6 : Vec F S512x128 .f32)
  (x7 x8 : Vec F S128x1024 .bf16) (xo13 : Vec F S1x512 .f32) (xs0 : Vec F S1024x1024 .f32)

abbrev lX := ld (F := F) (hs0_0 t) x0 ![0, 0] inb_S512x1024_S512x1024_0_0
abbrev lA := ld (F := F) (hs0_1 t) x1 ![0, 0] inb_S512x512_S512x512_0_0
abbrev lY := ld (F := F) (hs0_2 t) x2 ![0, 0] inb_S512x512_S512x512_0_0
abbrev lG := ld (F := F) (hs0_3 t) x3 ![0, 0] inb_S1x512_S1x512_0_0
abbrev lW := ld (F := F) (hs0_4 t) x4 ![0, 0] inb_S1024x1024_S1024x1024_0_0
abbrev lP := ld (F := F) (hs0_8 t) x8 ![0, 0] inb_S128x1024_S128x1024_0_0
abbrev lO := ld (F := F) (hs0_13 t) xo13 ![0, 0] inb_S1x512_S1x512_0_0
/-- A half of the accumulator, as the body loads it. -/
abbrev lH (b : Fin 2) : Vec F S512x1024 .f32 :=
  View.readAt (Elt F) scM0_0.view (Rect.unit (s := S1024x1024) (offW b) S512x1024.size (offW_inb b)).toLoadRect
    ((Memref.isWhole_whole cc0_scratch0).unread xs0)

/-- The gradient of the attention's result. -/
abbrev tDA := k0_pay17 (lA t x1) (k0_pay14 (lX t x0) (lW t x4)) (lG t x3)
/-- The sums' buffer: zeros, then the heads' sums lane by lane; and what the body loads of it. -/
abbrev pS : List (View.Piece (Elt F) S512x128 .f32) :=
  View.accPieces scM0_1.view scM0_1.view.junk [⟨Rect.unit (s := S512x128) ![0, 0] S512x128.size inb_S512x128_S512x128_0_0, k0_pay22 (F := F)⟩]
    S512x1.size offS offS_inb (fun h _ => headSum (k0_pay21 (lA t x1) (k0_pay14 (lX t x0) (lW t x4)) (lG t x3)) h) 8 (le_refl 8)
abbrev lS : Vec F S512x128 .f32 :=
  View.readAt (Elt F) scM0_1.view (Rect.unit (s := S512x128) ![0, 0] S512x128.size inb_S512x128_S512x128_0_0).toLoadRect
    (scM0_1.view.writes (Elt F) scM0_1.view.junk (pS t x0 x1 x3 x4))
/-- The packed columns' stores. -/
abbrev hB (i : Fin 16) : Fin 8 := ⟨i.val / 2, by omega⟩
abbrev tB (i : Fin 16) : FVec F S512x64 .bf16 :=
  if i.val % 2 = 0 then headCols (k0_pay34 (tDA t x0 x1 x3 x4)) (hB i) else freeCols (k0_pay31 (lS t x0 x1 x3 x4) (lP t x8)) (hB i)
abbrev pB : List (View.Piece (Elt F) S512x1024 .bf16) :=
  View.tilePieces (s := S512x1024) S512x64.size offB offB_inb (tB t x0 x1 x3 x4 x8) 16 (le_refl 16)
/-- The accumulator's stores, at the first tile and after. -/
abbrev pW0 : List (View.Piece (Elt F) S1024x1024 .f32) :=
  View.tilePieces (s := S1024x1024) S512x1024.size offW offW_inb
    (fun b => if b.val = 0 then k0_pay9 (lX t x0) (lA t x1) (lG t x3) else k0_pay10 (lX t x0) (lY t x2)) 2 (le_refl 2)
abbrev pW : List (View.Piece (Elt F) S1024x1024 .f32) :=
  View.tilePieces (s := S1024x1024) S512x1024.size offW offW_inb
    (fun b => if b.val = 0 then k0_pay11 (lX t x0) (lA t x1) (lG t x3) (lH xs0 0) else k0_pay12 (lX t x0) (lY t x2) (lH xs0 1)) 2 (le_refl 2)

abbrev rA (h0 : t.val % 8 = 0) (h1 : ¬ 1 ≤ t.val) (h7 : ¬ t.val % 8 = 7) := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
  ((hcond0_0 t).mpr h0) (fun h => h1 ((hcond0_1 t).mp h)) (fun h => h7 ((hcond0_2 t).mp h)) ((hcond0_3 t).mpr h0) (fun h => h1 ((hcond0_4 t).mp h)) x0 x1 x2 x3 x4 x5 x6 x7 x8
abbrev rB (h0 : ¬ t.val % 8 = 0) (h1 : 1 ≤ t.val) (h7 : ¬ t.val % 8 = 7) := kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
  (fun h => h0 ((hcond0_0 t).mp h)) ((hcond0_1 t).mpr h1) (fun h => h7 ((hcond0_2 t).mp h)) (fun h => h0 ((hcond0_3 t).mp h)) ((hcond0_4 t).mpr h1) x0 x1 x2 x3 x4 x5 x6 x7 x8 xo13 xs0
abbrev rC (h0 : ¬ t.val % 8 = 0) (h1 : 1 ≤ t.val) (h7 : t.val % 8 = 7) := kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
  (fun h => h0 ((hcond0_0 t).mp h)) ((hcond0_1 t).mpr h1) ((hcond0_2 t).mpr h7) (fun h => h0 ((hcond0_3 t).mp h)) ((hcond0_4 t).mpr h1) x0 x1 x2 x3 x4 x5 x6 x7 x8 xo13 xs0

theorem rA_b (h0 : t.val % 8 = 0) (h1 : ¬ 1 ≤ t.val) (h7 : ¬ t.val % 8 = 7) : (rA c t x0 x1 x2 x3 x4 x5 x6 x7 x8 h0 h1 h7).2.1
    = pB t x0 x1 x3 x4 x8 := by
  sl_kernel_rfl
theorem rA_y (h0 : t.val % 8 = 0) (h1 : ¬ 1 ≤ t.val) (h7 : ¬ t.val % 8 = 7) : (rA c t x0 x1 x2 x3 x4 x5 x6 x7 x8 h0 h1 h7).2.2.1
    = [⟨Rect.unit (s := S512x512) ![0, 0] S512x512.size inb_S512x512_S512x512_0_0, k0_pay20 (k0_pay6 (lX t x0) (lW t x4))⟩] := by
  sl_kernel_rfl
theorem rA_g (h0 : t.val % 8 = 0) (h1 : ¬ 1 ≤ t.val) (h7 : ¬ t.val % 8 = 7) : (rA c t x0 x1 x2 x3 x4 x5 x6 x7 x8 h0 h1 h7).2.2.2.2.1
    = [⟨Rect.unit (s := S1x512) ![0, 0] S1x512.size inb_S1x512_S1x512_0_0, k0_pay18 (lA t x1) (k0_pay14 (lX t x0) (lW t x4))⟩] := by
  sl_kernel_rfl
theorem rA_s (h0 : t.val % 8 = 0) (h1 : ¬ 1 ≤ t.val) (h7 : ¬ t.val % 8 = 7) : (rA c t x0 x1 x2 x3 x4 x5 x6 x7 x8 h0 h1 h7).2.2.2.2.2.1
    = pW0 t x0 x1 x2 x3 := by
  sl_kernel_rfl

theorem rB_b (h0 : ¬ t.val % 8 = 0) (h1 : 1 ≤ t.val) (h7 : ¬ t.val % 8 = 7) : (rB c t x0 x1 x2 x3 x4 x5 x6 x7 x8 xo13 xs0 h0 h1 h7).2.1
    = pB t x0 x1 x3 x4 x8 := by
  sl_kernel_rfl
theorem rB_y (h0 : ¬ t.val % 8 = 0) (h1 : 1 ≤ t.val) (h7 : ¬ t.val % 8 = 7) : (rB c t x0 x1 x2 x3 x4 x5 x6 x7 x8 xo13 xs0 h0 h1 h7).2.2.1
    = [⟨Rect.unit (s := S512x512) ![0, 0] S512x512.size inb_S512x512_S512x512_0_0, k0_pay20 (k0_pay6 (lX t x0) (lW t x4))⟩] := by
  sl_kernel_rfl
theorem rB_g (h0 : ¬ t.val % 8 = 0) (h1 : 1 ≤ t.val) (h7 : ¬ t.val % 8 = 7) : (rB c t x0 x1 x2 x3 x4 x5 x6 x7 x8 xo13 xs0 h0 h1 h7).2.2.2.2.1
    = [⟨Rect.unit (s := S1x512) ![0, 0] S1x512.size inb_S1x512_S1x512_0_0, k0_pay19 (lA t x1) (k0_pay14 (lX t x0) (lW t x4)) (lO t xo13)⟩] := by
  sl_kernel_rfl
theorem rB_s (h0 : ¬ t.val % 8 = 0) (h1 : 1 ≤ t.val) (h7 : ¬ t.val % 8 = 7) : (rB c t x0 x1 x2 x3 x4 x5 x6 x7 x8 xo13 xs0 h0 h1 h7).2.2.2.2.2.1
    = pW t x0 x1 x2 x3 xs0 := by
  sl_kernel_rfl

theorem rC_b (h0 : ¬ t.val % 8 = 0) (h1 : 1 ≤ t.val) (h7 : t.val % 8 = 7) : (rC c t x0 x1 x2 x3 x4 x5 x6 x7 x8 xo13 xs0 h0 h1 h7).2.1
    = pB t x0 x1 x3 x4 x8 := by
  sl_kernel_rfl
theorem rC_y (h0 : ¬ t.val % 8 = 0) (h1 : 1 ≤ t.val) (h7 : t.val % 8 = 7) : (rC c t x0 x1 x2 x3 x4 x5 x6 x7 x8 xo13 xs0 h0 h1 h7).2.2.1
    = [⟨Rect.unit (s := S512x512) ![0, 0] S512x512.size inb_S512x512_S512x512_0_0, k0_pay20 (k0_pay6 (lX t x0) (lW t x4))⟩] := by
  sl_kernel_rfl
theorem rC_g (h0 : ¬ t.val % 8 = 0) (h1 : 1 ≤ t.val) (h7 : t.val % 8 = 7) : (rC c t x0 x1 x2 x3 x4 x5 x6 x7 x8 xo13 xs0 h0 h1 h7).2.2.2.2.1
    = [⟨Rect.unit (s := S1x512) ![0, 0] S1x512.size inb_S1x512_S1x512_0_0, k0_pay19 (lA t x1) (k0_pay14 (lX t x0) (lW t x4)) (lO t xo13)⟩] := by
  sl_kernel_rfl
theorem rC_s (h0 : ¬ t.val % 8 = 0) (h1 : 1 ≤ t.val) (h7 : t.val % 8 = 7) : (rC c t x0 x1 x2 x3 x4 x5 x6 x7 x8 xo13 xs0 h0 h1 h7).2.2.2.2.2.1
    = pW t x0 x1 x2 x3 xs0 := by
  sl_kernel_rfl

theorem rC_w (h0 : ¬ t.val % 8 = 0) (h1 : 1 ≤ t.val) (h7 : t.val % 8 = 7) : (rC c t x0 x1 x2 x3 x4 x5 x6 x7 x8 xo13 xs0 h0 h1 h7).2.2.2.1
    = [⟨Rect.unit (s := S1024x1024) ![0, 0] S1024x1024.size inb_S1024x1024_S1024x1024_0_0, k0_pay13 (scM0_0.view.readCov (pW t x0 x1 x2 x3 xs0)
      (Rect.unit (s := S1024x1024) ![0, 0] S1024x1024.size inb_S1024x1024_S1024x1024_0_0).toLoadRect)⟩] := by
  sl_kernel_rfl

end Runs

end Cert.OutIdeal.Hand

end
-- ==== Proof.OutStep.lean ====
/-
  The gradients through the attention's norm and its projection, tile after tile, when the arguments are real.
-/
module

public import proofs.«01_k».proof.Proof.OutRun
public import Idealize.ShloMosaic.Lib.StableHlo.ReadAt

@[expose] public section

set_option maxRecDepth 16384

noncomputable section

namespace Cert.OutIdeal.Hand

open Cert.OutIdeal Cert.OutIdeal.Gen Cert.OutIdeal.Value Cert.OutMath Cert.Rows Cert.Reals Cert.Whole
open Idealize.ShloMosaic Idealize.ShloMosaic.TcCoe Idealize.ShloMosaic.Tactic

/-! ## Reading the stores back -/

theorem read_cols (v : View sig .tc .vmem S512x1024 .bf16) (f : v.ty.Contents (Elt Ideal)) (P : Fin 16 → FVec Ideal S512x64 .bf16)
    (i : Fin 16) (r : Fin 512) (k : Fin 64) (n : Fin 1024) (hn : n.val = 64 * i.val + k.val) :
    v.read (Elt Ideal) (v.writes (Elt Ideal) f (View.tilePieces (s := S512x1024) S512x64.size offB offB_inb P 16 (le_refl 16))) (ix2 r n)
      = P i (ix2 r k) :=
  View.read_tilePieces v f S512x64.size offB offB_inb P 16 (le_refl 16) (ix2 r n) i i.isLt (ix2 r k)
    (fun a => by
      fin_cases a
      · exact (Nat.zero_add _).symm
      · exact hn) 1
    (fun j hj => by
      have h1 : j.val ≠ i.val := fun e => hj (Fin.ext e)
      show n.val < 64 * j.val ∨ 64 * j.val + 64 ≤ n.val
      omega)
theorem read_half (v : View sig .tc .vmem S1024x1024 .f32) (f : v.ty.Contents (Elt Ideal)) (P : Fin 2 → FVec Ideal S512x1024 .f32)
    (b : Fin 2) (d : Fin 512) (e k : Fin 1024) (he : e.val = 512 * b.val + d.val) :
    v.read (Elt Ideal) (v.writes (Elt Ideal) f (View.tilePieces (s := S1024x1024) S512x1024.size offW offW_inb P 2 (le_refl 2))) (ix2 e k)
      = P b (ix2 d k) :=
  View.read_tilePieces v f S512x1024.size offW offW_inb P 2 (le_refl 2) (ix2 e k) b b.isLt (ix2 d k)
    (fun a => by
      fin_cases a
      · exact he
      · exact (Nat.zero_add _).symm) 0
    (fun j hj => by
      have h1 : j.val ≠ b.val := fun e => hj (Fin.ext e)
      show e.val < 512 * j.val ∨ 512 * j.val + 512 ≤ e.val
      omega)

section Point

variable (c : Dev nD) (t : Fin cfg0.N) (x0 : Vec Ideal S512x1024 .f32) (x1 : Vec Ideal S512x512 .f32) (x2 : Vec Ideal S512x512 .bf16)
  (x3 : Vec Ideal S1x512 .f32) (x4 : Vec Ideal S1024x1024 .bf16) (x8 : Vec Ideal S128x1024 .bf16) (xs0 : Vec Ideal S1024x1024 .f32)

theorem lH_lo (d : Fin 512) (k : Fin 1024) : eT (lH xs0 0) d k = eW xs0 (lo d) k :=
  ((Memref.isWhole_whole cc0_scratch0).readAt_unread xs0 _ _).trans (congrArg xs0 (funext fun q => Fin.ext (by
    fin_cases q
    · show 512 * 0 + 1 * d.val = d.val; omega
    · show 0 + 1 * k.val = k.val; omega)))
theorem lH_hi (d : Fin 512) (k : Fin 1024) : eT (lH xs0 1) d k = eW xs0 (hi d) k :=
  ((Memref.isWhole_whole cc0_scratch0).readAt_unread xs0 _ _).trans (congrArg xs0 (funext fun q => Fin.ext (by
    fin_cases q
    · show 512 * 1 + 1 * d.val = 512 + d.val; omega
    · show 0 + 1 * k.val = k.val; omega)))

variable {A : Args} {n : ℕ} (T : TileOf A n (lX t x0) (lA t x1) (lY t x2) (lG t x3) (lW t x4) (lP t x8))
include T

theorem s_sum (h : Fin 8) (r : Fin 512) : eS (lS t x0 x1 x3 x4) r (lane h) = (A.S (row n r) h : EReal) := by
  unfold eS lS
  rw [View.readAt_apply]
  have hi : (Rect.unit (s := S512x128) ![0, 0] S512x128.size inb_S512x128_S512x128_0_0).toLoadRect.idx (ix2 r (lane h)) = ix2 r (lane h) := by
    funext a
    refine Fin.ext ?_
    fin_cases a
    · show 0 + 1 * r.val = r.val; omega
    · show 0 + 1 * h.val = h.val; omega
  rw [hi]
  refine (Tiles.read_acc scM0_1.view _ scM0_1.view scM0_1.view.junk _ S512x1.size offS offS_inb _ 1 (fun i j hij => ?_) 8 (le_refl 8)
    (ix2 r (lane h)) h h.isLt (ix2 r 0) (fun a => ?_)).trans (t_s T h r)
  · have h1 : j.val ≠ i.val := fun e => hij (Fin.ext e)
    show i.val + 1 ≤ j.val ∨ j.val + 1 ≤ i.val
    omega
  · fin_cases a
    · exact (Nat.zero_add _).symm
    · rfl

/-- The packed columns after a tile. -/
theorem s_b (v : View sig .tc .vmem S512x1024 .bf16) (f : v.ty.Contents (Elt Ideal)) (r : Fin 512) (h : Fin 8) (p : Fin 128) :
    bT (v.read (Elt Ideal) (v.writes (Elt Ideal) f (pB t x0 x1 x3 x4 x8))) r (pc h p) = (A.B (row n r) h p : EReal) := by
  unfold bT
  by_cases hp : p.val < 64
  · refine (read_cols v f _ ⟨2 * h.val, by omega⟩ r ⟨p.val, hp⟩ (pc h p) (by show 128 * h.val + p.val = 64 * (2 * h.val) + p.val; omega)).trans ?_
    have e : tB t x0 x1 x3 x4 x8 ⟨2 * h.val, by omega⟩ = headCols (k0_pay34 (tDA t x0 x1 x3 x4)) h :=
      (if_pos (by show 2 * h.val % 2 = 0; omega)).trans (congrArg _ (Fin.ext (by show 2 * h.val / 2 = h.val; omega)))
    refine (congrFun e _).trans ((t_head T h r ⟨p.val, hp⟩).trans (congrArg _ ?_))
    unfold Args.B
    rw [dif_pos hp]
  · refine (read_cols v f _ ⟨2 * h.val + 1, by omega⟩ r ⟨p.val - 64, by omega⟩ (pc h p)
      (by show 128 * h.val + p.val = 64 * (2 * h.val + 1) + (p.val - 64); omega)).trans ?_
    have e : tB t x0 x1 x3 x4 x8 ⟨2 * h.val + 1, by omega⟩ = freeCols (k0_pay31 (lS t x0 x1 x3 x4) (lP t x8)) h :=
      (if_neg (by show ¬ (2 * h.val + 1) % 2 = 0; omega)).trans (congrArg _ (Fin.ext (by show (2 * h.val + 1) / 2 = h.val; omega)))
    refine (congrFun e _).trans ((t_free T _ (fun h r => s_sum t x0 x1 x2 x3 x4 x8 T h r) h r ⟨p.val - 64, by omega⟩).trans (congrArg _ ?_))
    unfold Args.B
    rw [dif_neg hp]
    by_cases h4 : p.val = 64
    · rw [if_pos h4, if_pos (by show 64 + (p.val - 64) = 64; omega)]
    · rw [if_neg h4, if_neg (by show ¬ 64 + (p.val - 64) = 64; omega)]

/-- The accumulator's two halves after the first tile and after a later one. -/
theorem s_lo0 (v : View sig .tc .vmem S1024x1024 .f32) (f : v.ty.Contents (Elt Ideal)) (d : Fin 512) (k : Fin 1024) :
    eW (v.read (Elt Ideal) (v.writes (Elt Ideal) f (pW0 t x0 x1 x2 x3))) (lo d) k = ((∑ r, A.Y (row n r) (lo d) * A.x (row n r) k : ℝ) : EReal) :=
  (read_half v f _ 0 d (lo d) k (by show d.val = 512 * 0 + d.val; omega)).trans (t_top T d k)
theorem s_hi0 (v : View sig .tc .vmem S1024x1024 .f32) (f : v.ty.Contents (Elt Ideal)) (d : Fin 512) (k : Fin 1024) :
    eW (v.read (Elt Ideal) (v.writes (Elt Ideal) f (pW0 t x0 x1 x2 x3))) (hi d) k = ((∑ r, A.Y (row n r) (hi d) * A.x (row n r) k : ℝ) : EReal) :=
  (read_half v f _ 1 d (hi d) k (by show 512 + d.val = 512 * 1 + d.val; omega)).trans (t_bot T d k)
theorem s_lo (v : View sig .tc .vmem S1024x1024 .f32) (f : v.ty.Contents (Elt Ideal)) (d : Fin 512) (k : Fin 1024) :
    eW (v.read (Elt Ideal) (v.writes (Elt Ideal) f (pW t x0 x1 x2 x3 xs0))) (lo d) k
      = eW xs0 (lo d) k + ((∑ r, A.Y (row n r) (lo d) * A.x (row n r) k : ℝ) : EReal) :=
  (read_half v f _ 0 d (lo d) k (by show d.val = 512 * 0 + d.val; omega)).trans
    ((p11_apply _ _ _ d k _).trans (congrArg₂ _ (lH_lo xs0 d k) (t_top T d k)))
theorem s_hi (v : View sig .tc .vmem S1024x1024 .f32) (f : v.ty.Contents (Elt Ideal)) (d : Fin 512) (k : Fin 1024) :
    eW (v.read (Elt Ideal) (v.writes (Elt Ideal) f (pW t x0 x1 x2 x3 xs0))) (hi d) k
      = eW xs0 (hi d) k + ((∑ r, A.Y (row n r) (hi d) * A.x (row n r) k : ℝ) : EReal) :=
  (read_half v f _ 1 d (hi d) k (by show 512 + d.val = 512 * 1 + d.val; omega)).trans
    ((p12_apply _ _ d k _).trans (congrArg₂ _ (lH_hi xs0 d k) (t_bot T d k)))

end Point

/-! ## The blocks -/

section Blocks

variable (m : (ℓ : Loc nD τ sig) → Buf (Elt Ideal) ℓ) (c : Dev nD)

theorem V_x (i : S4096x1024.Idx) : V m c main_arg4 i = m (c.tc.loc main_arg4) i := by
  unfold V
  after_reads_simp
theorem V_a (i : S4096x512.Idx) : V m c main_arg0 i = m (c.tc.loc main_arg0) i := by
  unfold V
  after_reads_simp
theorem V_g (i : S1x512.Idx) : V m c main_arg2 i = m (c.tc.loc main_arg2) i := by
  unfold V
  after_reads_simp
theorem V_y (t : Fin 4096) (d : Fin 512) : V m c main_v2 (ix2 t d) = m (c.tc.loc main_arg1) (ix2 t d) := by
  unfold V
  after_reads_at
theorem V_w (e k : Fin 1024) : V m c main_v3 (ix2 e k) = m (c.tc.loc main_arg3) (ix2 e k) := by
  unfold V
  after_reads_at

/-- A one-bit word as a number, and two words compared. -/
theorem bit_one : (FloatOps.uitofp (F := Ideal) FTy.bf16 1#1 : EReal) = ((1 : ℝ) : EReal) := by
  show (((1#1 : BitVec 1).toNat : ℝ) : EReal) = _
  norm_num
theorem bit_zero : (FloatOps.uitofp (F := Ideal) FTy.bf16 0#1 : EReal) = ((0 : ℝ) : EReal) := by
  show (((0#1 : BitVec 1).toNat : ℝ) : EReal) = _
  norm_num
theorem eq_word : ∀ (l : Fin 8) (k : Fin 1024), IntOp.cmpi .eq (BitVec.ofNat 32 k.val) (BitVec.ofNat 32 (128 * l.val + 64))
    = if 128 * l.val + 64 = k.val then 1#1 else 0#1 := by decide +kernel
/-- The host's matrix sends lane `l` to the first free column of head `l`. -/
theorem V_p (l : Fin 8) (k : Fin 1024) : V m c main_v39 (ix2 (lane l) k) = ((if 128 * l.val + 64 = k.val then 1 else 0 : ℝ) : EReal) := by
  unfold V
  after_reads_at
  refine (congrArg (fun z => (FloatOps.uitofp (F := Ideal) FTy.bf16 (IntOp.cmpi .eq (BitVec.ofNat 32 k.val) z) : EReal))
    (show _ = BitVec.ofNat 32 (128 * l.val + 64) from ?_)).trans ?_
  · revert l
    decide +kernel
  · rw [eq_word]
    by_cases h : 128 * l.val + 64 = k.val
    · rw [if_pos h, if_pos h]
      exact bit_one
    · rw [if_neg h, if_neg h]
      exact bit_zero

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_8.index t = ![0, 0] ∧ win0_10.index t = ![t.val, 0]
    ∧ win0_11.index t = ![t.val, 0] ∧ win0_12.index t = ![0, 0] ∧ win0_13.index t = ![0, 0] ∧ t.val < 8 :=
  (by decide +kernel : ∀ t : Fin grid0.N, _)
theorem row_val (t : Fin cfg0.N) (r : Fin 512) : (row t.val r).val = t.val * 512 + r.val := by
  have := (idx t).2.2.2.2.2.2.2.2.2.2
  show (512 * t.val + r.val) % 4096 = _
  omega

theorem blk0 (t : Fin cfg0.N) (r : Fin 512) (k : Fin 1024) : iblk m c 0 t (ix2 r k) = m (c.tc.loc main_arg4) (ix2 (row t.val r) k) := by
  refine Eq.trans ?_ (V_x m c (ix2 (row t.val r) k))
  have := row_val t r
  blk_point [iblk, idx t]
theorem blk1 (t : Fin cfg0.N) (r d : Fin 512) : iblk m c 1 t (ix2 r d) = m (c.tc.loc main_arg0) (ix2 (row t.val r) d) := by
  refine Eq.trans ?_ (V_a m c (ix2 (row t.val r) d))
  have := row_val t r
  blk_point [iblk, idx t]
theorem blk2 (t : Fin cfg0.N) (r d : Fin 512) : iblk m c 2 t (ix2 r d) = m (c.tc.loc main_arg1) (ix2 (row t.val r) d) := by
  refine Eq.trans ?_ (V_y m c (row t.val r) d)
  have := row_val t r
  blk_point [iblk, idx t]
theorem blk3 (t : Fin cfg0.N) (d : Fin 512) : iblk m c 3 t (ix2 0 d) = m (c.tc.loc main_arg2) (ix2 0 d) := by
  refine Eq.trans ?_ (V_g m c (ix2 0 d))
  blk_point [iblk, idx t]
theorem blk4 (t : Fin cfg0.N) (e k : Fin 1024) : iblk m c 4 t (ix2 e k) = m (c.tc.loc main_arg3) (ix2 e k) := by
  refine Eq.trans ?_ (V_w m c e k)
  blk_point [iblk, idx t]
theorem blk8 (t : Fin cfg0.N) (l : Fin 8) (k : Fin 1024) :
    iblk m c 8 t (ix2 (lane l) k) = ((if 128 * l.val + 64 = k.val then 1 else 0 : ℝ) : EReal) := by
  refine Eq.trans ?_ (V_p m c l k)
  blk_point [iblk, idx t]

end Blocks

variable {A : Args} {m : (ℓ : Loc nD τ sig) → Buf (Elt Ideal) ℓ} {c : Dev nD}
  (R : Holds A (m (c.tc.loc main_arg0)) (m (c.tc.loc main_arg1)) (m (c.tc.loc main_arg2)) (m (c.tc.loc main_arg3)) (m (c.tc.loc main_arg4)))
include R

theorem tile (t : Fin cfg0.N) : TileOf A t.val (lX t (iblk m c 0 t)) (lA t (iblk m c 1 t)) (lY t (iblk m c 2 t)) (lG t (iblk m c 3 t))
    (lW t (iblk m c 4 t)) (lP t (iblk m c 8 t)) where
  x r k := (congrFun (ld_eq (hs0_0 t) (iblk m c 0 t) _ z2) (ix2 r k)).trans ((blk0 m c t r k).trans (R.x _ k))
  a r d := (congrFun (ld_eq (hs0_1 t) (iblk m c 1 t) _ z2) (ix2 r d)).trans ((blk1 m c t r d).trans (R.a _ d))
  y r d := (congrFun (ld_eq (hs0_2 t) (iblk m c 2 t) _ z2) (ix2 r d)).trans ((blk2 m c t r d).trans (R.y _ d))
  g d := (congrFun (ld_eq (hs0_3 t) (iblk m c 3 t) _ z2) (ix2 0 d)).trans ((blk3 m c t d).trans (R.g d))
  w e k := (congrFun (ld_eq (hs0_4 t) (iblk m c 4 t) _ z2) (ix2 e k)).trans ((blk4 m c t e k).trans (R.w e k))
  p l k := (congrFun (ld_eq (hs0_8 t) (iblk m c 8 t) _ z2) (ix2 (lane l) k)).trans (blk8 m c t l k)

/-! ## The tiles -/

abbrev Carried := Vec Ideal S512x1024 .bf16 × Vec Ideal S512x1024 .bf16 × Vec Ideal S512x512 .f32 × Vec Ideal S1024x1024 .bf16
  × Vec Ideal S1x512 .f32 × Vec Ideal S1024x1024 .f32

/-- What the buffers hold after tile `n`: its rows' gradients, and the sums over the rows so far. -/
structure After (A : Args) (n : ℕ) (s : Carried) : Prop where
  b : ∀ r h p, bT s.2.1 r (pc h p) = (A.B (row n r) h p : EReal)
  y : ∀ r d, eA s.2.2.1 r d = (A.D (row n r) (hi d) : EReal)
  g : ∀ d, eG s.2.2.2.2.1 d = (upto (fun t => A.D t (lo d) * A.N t d) n : EReal)
  lo : ∀ d k, eW s.2.2.2.2.2 (lo d) k = (upto (fun t => A.Y t (lo d) * A.x t k) n : EReal)
  hi : ∀ d k, eW s.2.2.2.2.2 (hi d) k = (upto (fun t => A.Y t (hi d) * A.x t k) n : EReal)
/-- At the last tile the weight's gradient is the accumulator. -/
structure Last (A : Args) (n : ℕ) (s : Carried) : Prop where
  lo : ∀ d k, bW s.2.2.2.1 (lo d) k = (upto (fun t => A.Y t (lo d) * A.x t k) n : EReal)
  hi : ∀ d k, bW s.2.2.2.1 (hi d) k = (upto (fun t => A.Y t (hi d) * A.x t k) n : EReal)

theorem first (h : 0 < cfg0.N) : After A 0 (outsAt0 m c 0 h) := by
  have h0 : (⟨0, h⟩ : Fin cfg0.N).val % 8 = 0 := rfl
  have h1 : ¬ 1 ≤ (⟨0, h⟩ : Fin cfg0.N).val := by show ¬ 1 ≤ 0; omega
  have h7 : ¬ (⟨0, h⟩ : Fin cfg0.N).val % 8 = 7 := by show ¬ 0 % 8 = 7; omega
  have T := tile R ⟨0, h⟩
  rw [show outsAt0 m c 0 h = _ from outsAt0_A m c ⟨0, h⟩ h0 h1 h7 h0 h1]
  constructor
  all_goals dsimp only
  · intro r h p
    unfold out0_A_10
    rw [rA_b c _ _ _ _ _ _ _ _ _ _ h0 h1 h7]
    exact s_b _ _ _ _ _ _ _ T _ _ r h p
  · intro r d
    unfold out0_A_11
    rw [rA_y c _ _ _ _ _ _ _ _ _ _ h0 h1 h7, read_store _ _ _ _ z2]
    exact t_hi T r d
  · intro d
    unfold out0_A_13
    rw [rA_g c _ _ _ _ _ _ _ _ _ _ h0 h1 h7, read_store _ _ _ _ z2, upto_zero]
    exact t_dg T d
  · intro d k
    unfold sout0_A_0
    rw [rA_s c _ _ _ _ _ _ _ _ _ _ h0 h1 h7, upto_zero]
    exact s_lo0 _ _ _ _ _ _ _ T _ _ d k
  · intro d k
    unfold sout0_A_0
    rw [rA_s c _ _ _ _ _ _ _ _ _ _ h0 h1 h7, upto_zero]
    exact s_hi0 _ _ _ _ _ _ _ T _ _ d k

theorem stepB (n : ℕ) (h : n + 1 < cfg0.N) (h7 : ¬ (⟨n + 1, h⟩ : Fin cfg0.N).val % 8 = 7) (I : After A n (outsAt0 m c n (Nat.lt_of_succ_lt h))) :
    After A (n + 1) (outsAt0 m c (n + 1) h) := by
  have hn : n + 1 < 8 := lt_of_lt_of_eq h N_0
  have h0 : ¬ (⟨n + 1, h⟩ : Fin cfg0.N).val % 8 = 0 := by show ¬ (n + 1) % 8 = 0; omega
  have h1 : 1 ≤ (⟨n + 1, h⟩ : Fin cfg0.N).val := by show 1 ≤ n + 1; omega
  have T := tile R ⟨n + 1, h⟩
  rw [show outsAt0 m c (n + 1) h = _ from outsAt0_B m c ⟨n + 1, h⟩ h0 h1 h7 h0 h1]
  constructor
  all_goals dsimp only
  · intro r h p
    unfold out0_B_10
    rw [rB_b c _ _ _ _ _ _ _ _ _ _ _ _ h0 h1 h7]
    exact s_b _ _ _ _ _ _ _ T _ _ r h p
  · intro r d
    unfold out0_B_11
    rw [rB_y c _ _ _ _ _ _ _ _ _ _ _ _ h0 h1 h7, read_store _ _ _ _ z2]
    exact t_hi T r d
  · intro d
    unfold out0_B_13
    rw [rB_g c _ _ _ _ _ _ _ _ _ _ _ _ h0 h1 h7, read_store _ _ _ _ z2, p19_apply, upto_succ, EReal.coe_add]
    exact congrArg₂ _ ((congrFun (ld_eq (hs0_13 _) _ _ z2) (ix2 0 d)).trans (I.g d)) (t_dg T d)
  · intro d k
    unfold sout0_B_0
    rw [rB_s c _ _ _ _ _ _ _ _ _ _ _ _ h0 h1 h7, upto_succ, EReal.coe_add]
    exact (s_lo _ _ _ _ _ _ _ _ T _ _ d k).trans (congrArg (· + _) (I.lo d k))
  · intro d k
    unfold sout0_B_0
    rw [rB_s c _ _ _ _ _ _ _ _ _ _ _ _ h0 h1 h7, upto_succ, EReal.coe_add]
    exact (s_hi _ _ _ _ _ _ _ _ T _ _ d k).trans (congrArg (· + _) (I.hi d k))

theorem stepC (n : ℕ) (h : n + 1 < cfg0.N) (h7 : (⟨n + 1, h⟩ : Fin cfg0.N).val % 8 = 7) (I : After A n (outsAt0 m c n (Nat.lt_of_succ_lt h))) :
    After A (n + 1) (outsAt0 m c (n + 1) h) := by
  have hn : n + 1 < 8 := lt_of_lt_of_eq h N_0
  have h0 : ¬ (⟨n + 1, h⟩ : Fin cfg0.N).val % 8 = 0 := by show ¬ (n + 1) % 8 = 0; omega
  have h1 : 1 ≤ (⟨n + 1, h⟩ : Fin cfg0.N).val := by show 1 ≤ n + 1; omega
  have T := tile R ⟨n + 1, h⟩
  rw [show outsAt0 m c (n + 1) h = _ from outsAt0_C m c ⟨n + 1, h⟩ h0 h1 h7 h0 h1]
  constructor
  all_goals dsimp only
  · intro r h p
    unfold out0_C_10
    rw [rC_b c _ _ _ _ _ _ _ _ _ _ _ _ h0 h1 h7]
    exact s_b _ _ _ _ _ _ _ T _ _ r h p
  · intro r d
    unfold out0_C_11
    rw [rC_y c _ _ _ _ _ _ _ _ _ _ _ _ h0 h1 h7, read_store _ _ _ _ z2]
    exact t_hi T r d
  · intro d
    unfold out0_C_13
    rw [rC_g c _ _ _ _ _ _ _ _ _ _ _ _ h0 h1 h7, read_store _ _ _ _ z2, p19_apply, upto_succ, EReal.coe_add]
    exact congrArg₂ _ ((congrFun (ld_eq (hs0_13 _) _ _ z2) (ix2 0 d)).trans (I.g d)) (t_dg T d)
  · intro d k
    unfold sout0_C_0
    rw [rC_s c _ _ _ _ _ _ _ _ _ _ _ _ h0 h1 h7, upto_succ, EReal.coe_add]
    exact (s_lo _ _ _ _ _ _ _ _ T _ _ d k).trans (congrArg (· + _) (I.lo d k))
  · intro d k
    unfold sout0_C_0
    rw [rC_s c _ _ _ _ _ _ _ _ _ _ _ _ h0 h1 h7, upto_succ, EReal.coe_add]
    exact (s_hi _ _ _ _ _ _ _ _ T _ _ d k).trans (congrArg (· + _) (I.hi d k))

theorem after_tile : ∀ (n : ℕ) (h : n < cfg0.N), After A n (outsAt0 m c n h)
  | 0, h => first R h
  | n + 1, h => by
    have I := after_tile n (Nat.lt_of_succ_lt h)
    by_cases h7 : (⟨n + 1, h⟩ : Fin cfg0.N).val % 8 = 7
    · exact stepC R n h h7 I
    · exact stepB R n h h7 I

theorem last (n : ℕ) (h : n + 1 < cfg0.N) (h7 : (⟨n + 1, h⟩ : Fin cfg0.N).val % 8 = 7) : Last A (n + 1) (outsAt0 m c (n + 1) h) := by
  have hn : n + 1 < 8 := lt_of_lt_of_eq h N_0
  have I := after_tile R n (Nat.lt_of_succ_lt h)
  have h0 : ¬ (⟨n + 1, h⟩ : Fin cfg0.N).val % 8 = 0 := by show ¬ (n + 1) % 8 = 0; omega
  have h1 : 1 ≤ (⟨n + 1, h⟩ : Fin cfg0.N).val := by show 1 ≤ n + 1; omega
  have T := tile R ⟨n + 1, h⟩
  have full : ∀ e k, (Rect.unit (s := S1024x1024) ![0, 0] S1024x1024.size inb_S1024x1024_S1024x1024_0_0).toLoadRect.idx (ix2 e k) = ix2 e k := fun e k => by
    funext a
    refine Fin.ext ?_
    fin_cases a
    · show 0 + 1 * e.val = e.val; omega
    · show 0 + 1 * k.val = k.val; omega
  rw [show outsAt0 m c (n + 1) h = _ from outsAt0_C m c ⟨n + 1, h⟩ h0 h1 h7 h0 h1]
  constructor
  all_goals
    intro d k
    dsimp only
    unfold out0_C_12
    rw [rC_w c _ _ _ _ _ _ _ _ _ _ _ _ h0 h1 h7, read_store _ _ _ _ z2, p13_apply, upto_succ, EReal.coe_add]
    unfold eW View.readCov
    rw [View.readAt_apply, full]
  · exact (s_lo _ _ _ _ _ _ _ _ T _ _ d k).trans (congrArg (· + _) (I.lo d k))
  · exact (s_hi _ _ _ _ _ _ _ _ T _ _ d k).trans (congrArg (· + _) (I.hi d k))

omit R in
theorem half (e : Fin 1024) : (∃ d, e = lo d) ∨ ∃ d, e = hi d := by
  by_cases h : e.val < 512
  · exact Or.inl ⟨⟨e.val, h⟩, rfl⟩
  · exact Or.inr ⟨⟨e.val - 512, by omega⟩, Fin.ext (by show e.val = 512 + (e.val - 512); omega)⟩

/-! ## The results -/

theorem b_eq (G : S4096x1024.Idx → EReal) (hG : ∀ t n, G (ix2 t n) = (A.B t (hd n) (at' n) : EReal)) : (dats m 0 c).arrAt 10 (cfgs 0).N = G := by
  refine (dats m 0 c).arrAt_eq_of_covers 10 _ (by decide +kernel) fun t _ y => ?_
  have i0 : ((((View.whole main_v40_1).slice (win0_10.rect t)).emb y) 0).val = t.val * 512 + (y 0).val := by blk_simp [idx t]
  have i1 : ((((View.whole main_v40_1).slice (win0_10.rect t)).emb y) 1).val = (y 1).val := by blk_simp [idx t]
  blk_simp
  rw [after0_10]
  generalize ((View.whole main_v40_1).slice (win0_10.rect t)).emb y = i at i0 i1 ⊢
  obtain ⟨r, hr⟩ : ∃ r : Fin 512, (y 0).val = r.val := ⟨y 0, rfl⟩
  obtain ⟨d, hd'⟩ : ∃ d : Fin 1024, (y 1).val = d.val := ⟨y 1, rfl⟩
  have := row_val t r
  have e := (after_tile R t.val t.isLt).b r (hd d) (at' d)
  rw [pc_hd] at e
  exact (at2 (outsAt0 m c t.val t.isLt).2.1 y r d hr hd').trans (e.trans
    ((at2 G i (row t.val r) d (by omega) (by omega)).trans (hG _ _)).symm)
theorem y_eq (G : S4096x512.Idx → EReal) (hG : ∀ t d, G (ix2 t d) = (A.D t (hi d) : EReal)) : (dats m 0 c).arrAt 11 (cfgs 0).N = G := by
  refine (dats m 0 c).arrAt_eq_of_covers 11 _ (by decide +kernel) fun t _ y => ?_
  have i0 : ((((View.whole main_v40_2).slice (win0_11.rect t)).emb y) 0).val = t.val * 512 + (y 0).val := by blk_simp [idx t]
  have i1 : ((((View.whole main_v40_2).slice (win0_11.rect t)).emb y) 1).val = (y 1).val := by blk_simp [idx t]
  blk_simp
  rw [after0_11]
  generalize ((View.whole main_v40_2).slice (win0_11.rect t)).emb y = i at i0 i1 ⊢
  obtain ⟨r, hr⟩ : ∃ r : Fin 512, (y 0).val = r.val := ⟨y 0, rfl⟩
  obtain ⟨d, hd'⟩ : ∃ d : Fin 512, (y 1).val = d.val := ⟨y 1, rfl⟩
  have := row_val t r
  exact (at2 (outsAt0 m c t.val t.isLt).2.2.1 y r d hr hd').trans (((after_tile R t.val t.isLt).y r d).trans
    ((at2 G i (row t.val r) d (by omega) (by omega)).trans (hG _ _)).symm)
theorem w_eq (G : S1024x1024.Idx → EReal) (hG : ∀ e k, G (ix2 e k) = (A.DW e k : EReal)) : (dats m 0 c).arrAt 12 (cfgs 0).N = G := by
  refine (dats m 0 c).arrAt_eq_of_covers 12 _ (by decide +kernel) fun t hf y => ?_
  have h7 : t.val = 7 := (by decide +kernel : ∀ t : Fin grid0.N, (cfg0.win 12).flush t = true → t.val = 7) t hf
  have i0 : ((((View.whole main_v40_3).slice (win0_12.rect t)).emb y) 0).val = (y 0).val := by blk_simp [idx t]
  have i1 : ((((View.whole main_v40_3).slice (win0_12.rect t)).emb y) 1).val = (y 1).val := by blk_simp [idx t]
  blk_simp
  rw [after0_12]
  generalize ((View.whole main_v40_3).slice (win0_12.rect t)).emb y = i at i0 i1 ⊢
  obtain ⟨e, he⟩ : ∃ e : Fin 1024, (y 0).val = e.val := ⟨y 0, rfl⟩
  obtain ⟨k, hk⟩ : ∃ k : Fin 1024, (y 1).val = k.val := ⟨y 1, rfl⟩
  obtain ⟨n, hn⟩ : ∃ n, t.val = n + 1 := ⟨6, h7⟩
  obtain ⟨v, hv⟩ := t
  obtain rfl : v = n + 1 := hn
  have h7' : n + 1 = 7 := h7
  have L := last R n hv (by show (n + 1) % 8 = 7; omega)
  refine (at2 _ y e k he hk).trans (Eq.trans ?_ ((at2 G i e k (by omega) (by omega)).trans (hG e k)).symm)
  obtain ⟨d, rfl⟩ | ⟨d, rfl⟩ := half e
  · refine (L.lo d k).trans ?_
    rw [h7', upto_last]
    rfl
  · refine (L.hi d k).trans ?_
    rw [h7', upto_last]
    rfl
theorem g_eq (G : S1x512.Idx → EReal) (hG : ∀ d, G (ix2 0 d) = (A.DG d : EReal)) : (dats m 0 c).arrAt 13 (cfgs 0).N = G := by
  refine (dats m 0 c).arrAt_eq_of_covers 13 _ (by decide +kernel) fun t hf y => ?_
  have h7 : t.val = 7 := (by decide +kernel : ∀ t : Fin grid0.N, (cfg0.win 13).flush t = true → t.val = 7) t hf
  have i0 : ((((View.whole main_v40_4).slice (win0_13.rect t)).emb y) 0).val = (y 0).val := by blk_simp [idx t]
  have i1 : ((((View.whole main_v40_4).slice (win0_13.rect t)).emb y) 1).val = (y 1).val := by blk_simp [idx t]
  blk_simp
  rw [after0_13]
  generalize ((View.whole main_v40_4).slice (win0_13.rect t)).emb y = i at i0 i1 ⊢
  obtain ⟨d, hd'⟩ : ∃ d : Fin 512, (y 1).val = d.val := ⟨y 1, rfl⟩
  have hy : (y 0).val = (0 : Fin 1).val := Nat.lt_one_iff.mp (y 0).isLt
  refine (at2 (outsAt0 m c t.val t.isLt).2.2.2.2.1 y 0 d hy hd').trans (((after_tile R t.val t.isLt).g d).trans
    (Eq.trans ?_ ((at2 G i 0 d (by omega) (by omega)).trans (hG d)).symm))
  rw [h7, upto_last]
  rfl

end Cert.OutIdeal.Hand

end
-- ==== Proof.OutRef.lean ====
/-
  The reference of the attention's norm and its projection, from real arguments.
-/
module

public import proofs.«01_k».proof.Proof.OutMath
public import proofs.«01_k».proof.Proof.Gen.OutRefIdeal.Read
public import Idealize.ShloMosaic.Lib.Pointwise

@[expose] public section

set_option maxRecDepth 16384

noncomputable section

namespace Cert.OutRefIdeal.Hand

open Cert.OutRefIdeal Cert.OutRefIdeal.Read Cert.OutMath Cert.Reals
open Cert.KvMath (rs_eq bwd_vjp)
open Idealize.ShloMosaic Idealize.ShloMosaic.TcCoe Idealize.ShloMosaic.Tactic

variable {x0 x1 : S4096x512.Idx → EReal} {x2 : S1x512.Idx → EReal} {x3 : S1024x1024.Idx → EReal} {x4 : S4096x1024.Idx → EReal}
  {A : Args} (R : Holds A x0 x1 x2 x3 x4)
include R

theorem c12 (t : Fin 4096) (d : Fin 512) : (val_main_v12 (F := Ideal) x0 (ix2 t d) : EReal) = (A.N t d : EReal) := by
  pointwise [val_main_v12, val_main_v11, val_main_v7, val_main_v6, val_main_v5, val_main_v4, val_main_v3, val_main_v2, val_main_v1,
    val_main_v0, val_main_cst, val_main_cst_0, val_main_cst_1]
  simp only [R.a]
  rw [rs_eq (A.a t) (by norm_num) w_512]
  simp only [← EReal.coe_mul]
  rfl
theorem c15 (t : Fin 4096) (e : Fin 1024) : (val_main_v15 (F := Ideal) x0 x1 x2 (ix2 t e) : EReal) = (A.Y t e : EReal) := by
  pointwise [val_main_v15]
  unfold Args.Y
  by_cases h : e.val < 512
  · rw [dif_pos h, dif_pos h]
    pointwise [val_main_v14, val_main_v13]
    rw [c12 R t ⟨e.val, h⟩, R.g ⟨e.val, h⟩, ← EReal.coe_mul]
  · rw [dif_neg h, dif_neg h]
    exact R.y t _
theorem c19 (t : Fin 4096) (e : Fin 1024) : (val_main_v19 (F := Ideal) x3 x4 (ix2 t e) : EReal) = (A.D t e : EReal) := by
  pointwise [val_main_v19]
  simp only [R.x, R.w, ← EReal.coe_mul, ← coe_sum]
  rfl
theorem c20 (t : Fin 4096) (d : Fin 512) : (val_main_v20 (F := Ideal) x3 x4 (ix2 t d) : EReal) = (A.D t (lo d) : EReal) := by
  pointwise [val_main_v20]
  exact c19 R t (lo d)
theorem c21 (t : Fin 4096) (d : Fin 512) : (val_main_v21 (F := Ideal) x3 x4 (ix2 t d) : EReal) = (A.D t (hi d) : EReal) := by
  pointwise [val_main_v21]
  exact c19 R t (hi d)
theorem c40 (t : Fin 4096) (d : Fin 512) : (val_main_v40 (F := Ideal) x0 x2 x3 x4 (ix2 t d) : EReal) = (A.DA t d : EReal) := by
  refine Eq.trans ?_ (bwd_vjp (A.a t) (fun d => A.D t (lo d) * A.g d) d (by norm_num) w_512 rfl)
  pointwise [val_main_v40, val_main_v39, val_main_v38, val_main_v37, val_main_v36, val_main_v35, val_main_v34, val_main_v33, val_main_v32,
    val_main_v31, val_main_v30, val_main_v29, val_main_v28, val_main_v27, val_main_v26, val_main_v25, val_main_v10, val_main_v9, val_main_v8,
    val_main_v7, val_main_v6, val_main_v5, val_main_v4, val_main_v3, val_main_v2, val_main_v1, val_main_v0,
    val_main_cst, val_main_cst_0, val_main_cst_1, val_main_cst_2, val_main_cst_4, val_main_cst_5, val_main_cst_6]
  simp only [c20 R, R.a, R.g, Fin.sum_univ_one, EReal.coe_mul (A.D _ _)]
theorem c44 (t : Fin 4096) (h : Fin 8) : (val_main_v44 (F := Ideal) x0 x2 x3 x4 (ix2 t h) : EReal) = (A.S t h : EReal) := by
  pointwise [val_main_v44, val_main_v43, val_main_v42, val_main_v41, val_main_cst_7]
  have e : ∀ k : Fin 64, (⟨h.val * 64 + k.val, by omega⟩ : Fin 512) = hc h k := fun k => Fin.ext (by show h.val * 64 + k.val = 64 * h.val + k.val; omega)
  simp only [e, c40 R, R.a, ← EReal.coe_mul, ← coe_sum]
  rfl
theorem c51 (t : Fin 4096) (n : Fin 1024) : (val_main_v51 (F := Ideal) x0 x2 x3 x4 (ix2 t n) : EReal) = (A.B t (hd n) (at' n) : EReal) := by
  pointwise [val_main_v51, val_main_v50, val_main_v49]
  unfold Args.B
  by_cases h : n.val % 128 < 64
  · rw [dif_pos h, dif_pos (show (at' n).val < 64 from h)]
    pointwise [val_main_v41]
    exact (congrArg (fun z => val_main_v40 (F := Ideal) x0 x2 x3 x4 (ix2 t z)) (Fin.ext (Nat.add_comm _ _ |>.trans (by
      show n.val % 128 + n.val / 128 * 64 = 64 * (n.val / 128) + n.val % 128; omega)))).trans (c40 R t (hc (hd n) ⟨n.val % 128, h⟩))
  · rw [dif_neg h, dif_neg (show ¬ (at' n).val < 64 from h), dif_neg (Nat.not_lt_zero _)]
    by_cases h4 : n.val % 128 = 64
    · rw [dif_pos (show n.val % 128 - 64 < 1 by omega), if_pos (show (at' n).val = 64 from h4), EReal.coe_neg]
      pointwise [val_main_v46, val_main_v45]
      exact congrArg Neg.neg (c44 R t (hd n))
    · rw [dif_neg (show ¬ n.val % 128 - 64 < 1 by omega), if_neg (show ¬ (at' n).val = 64 from h4)]
      pointwise [val_main_v48, val_main_cst_9]
      rfl
theorem c52 (e k : Fin 1024) : (val_main_v52 (F := Ideal) x0 x1 x2 x4 (ix2 e k) : EReal) = (A.DW e k : EReal) := by
  pointwise [val_main_v52, val_main_v18, val_main_v17]
  simp only [c15 R, R.x, ← EReal.coe_mul, ← coe_sum]
  exact congrArg _ (Finset.sum_congr rfl fun t _ => mul_comm _ _)
theorem c24 (d : Fin 512) : (val_main_v24 (F := Ideal) x0 x3 x4 (ix2 0 d) : EReal) = (A.DG d : EReal) := by
  pointwise [val_main_v24, val_main_v23, val_main_v22, val_main_cst_3]
  simp only [c12 R, c20 R, ← EReal.coe_mul, ← coe_sum]
  exact congrArg _ (Finset.sum_congr rfl fun t _ => mul_comm _ _)

end Cert.OutRefIdeal.Hand

end
-- ==== Proof.OutClaim.lean ====
/-
  The attention's norm and its projection: the value claim, and the reference's frame.
-/
module

public import proofs.«01_k».proof.Defs
public import proofs.«01_k».proof.Proof.OutStep
public import proofs.«01_k».proof.Proof.OutRef
public import proofs.«01_k».proof.Proof.Gen.OutRefIdeal.Run
public import proofs.«01_k».proof.Proof.Gen.Pre_out_finite
public import Idealize.ShloMosaic.Lib.Quiescent

@[expose] public section

set_option maxRecDepth 16384

noncomputable section

open Idealize.ShloMosaic Idealize.ShloMosaic.TcCoe Idealize.ShloMosaic.Tactic Idealize.SL.Sem

namespace Cert.OutClaim

open Cert.Reals Cert.OutMath

section Pre

open Cert.Pre_out_finite

/-- The precondition: every entry of the arguments is real. -/
theorem of_pre (x0 x1 : FVec Ideal S4096x512 .f32) (x2 : FVec Ideal S1x512 .f32) (x3 : FVec Ideal S1024x1024 .f32) (x4 : FVec Ideal S4096x1024 .f32)
    (h : fn x0 x1 x2 x3 x4 = fun _ => 1#1) :
    (∀ i, IsR (x0 i)) ∧ (∀ i, IsR (x1 i)) ∧ (∀ i, IsR (x2 i)) ∧ (∀ i, IsR (x3 i)) ∧ ∀ i, IsR (x4 i) := by
  have h0 := congrFun h (fun a => a.elim0)
  unfold fn at h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨fun i => ?_, fun i => ?_, fun i => ?_, fun i => ?_, fun i => ?_⟩
  · exact isR_of_lt_word (Host.reduce_andi_all _ _ _ _ _ h0 i)
  · exact isR_of_lt_word (Host.reduce_andi_all _ _ _ _ _ h1 i)
  · exact isR_of_lt_word (Host.reduce_andi_all _ _ _ _ _ h2 i)
  · exact isR_of_lt_word (Host.reduce_andi_all _ _ _ _ _ h3 i)
  · exact isR_of_lt_word (Host.reduce_andi_all _ _ _ _ _ h4 i)

end Pre

open Cert.OutIdeal in
theorem exists_args (x0 x1 : S4096x512.Idx → EReal) (x2 : S1x512.Idx → EReal) (x3 : S1024x1024.Idx → EReal) (x4 : S4096x1024.Idx → EReal)
    (h0 : ∀ i, IsR (x0 i)) (h1 : ∀ i, IsR (x1 i)) (h2 : ∀ i, IsR (x2 i)) (h3 : ∀ i, IsR (x3 i)) (h4 : ∀ i, IsR (x4 i)) :
    ∃ A : Args, Holds A x0 x1 x2 x3 x4 :=
  ⟨⟨fun t d => (h0 (ix2 t d)).choose, fun t d => (h1 (ix2 t d)).choose, fun d => (h2 (ix2 0 d)).choose, fun e k => (h3 (ix2 e k)).choose,
      fun t k => (h4 (ix2 t k)).choose⟩,
    ⟨fun t d => (h0 (ix2 t d)).choose_spec, fun t d => (h1 (ix2 t d)).choose_spec, fun d => (h2 (ix2 0 d)).choose_spec,
      fun e k => (h3 (ix2 e k)).choose_spec, fun t k => (h4 (ix2 t k)).choose_spec⟩⟩

/-- The reference leaves its arguments and has no semaphores. -/
theorem frame_ref : Cert.quiescent_OutRefIdeal := fun m g _ =>
  (θ_run Cert.OutRefIdeal.defs _ _).mono (fun r h => ⟨fun c => (h c).2.2.2.2, sem_eq_zero_of_no_sems rfl r.2⟩) (Cert.OutRefIdeal.Value.run m g)

open Cert.OutIdeal Cert.OutIdeal.Value Cert.OutIdeal.Gen in
theorem value : Cert.algebraic_OutIdeal_OutRefIdeal_pre_out_finite := by
  intro m g m' g' hp hm
  refine ⟨fun c => (dats m 0 c).arrAt 10 cfg0.N, fun c => (dats m 0 c).arrAt 11 cfg0.N, fun c => (dats m 0 c).arrAt 12 cfg0.N,
    fun c => (dats m 0 c).arrAt 13 cfg0.N, ?_, ?_⟩
  · exact (θ_run _ _ _).mono (fun r h c => (h c).2) (Cert.OutIdeal.Value.run_blocks m g)
  refine (θ_run _ _ _).mono (fun r h c => ?_) (Cert.OutRefIdeal.Value.run m' g')
  obtain ⟨e0, e1, e2, e3, e4⟩ := hm c
  obtain ⟨h0, h1, h2, h3, h4⟩ := of_pre _ _ _ _ _ (hp c)
  obtain ⟨A, R⟩ := exists_args _ _ _ _ _ h0 h1 h2 h3 h4
  obtain ⟨r0, r1, r2, r3, rest⟩ := h c
  refine ⟨r0.trans ?_, r1.trans ?_, r2.trans ?_, r3.trans ?_, rest⟩
  · rw [Cert.OutRefIdeal.Read.val_main_v51_eq, e0, e2, e3, e4]
    exact (Cert.OutIdeal.Hand.b_eq R _ fun a b => Cert.OutRefIdeal.Hand.c51 R a b).symm
  · rw [Cert.OutRefIdeal.Read.val_main_v21_eq, e3, e4]
    exact (Cert.OutIdeal.Hand.y_eq R _ fun a b => Cert.OutRefIdeal.Hand.c21 R a b).symm
  · rw [Cert.OutRefIdeal.Read.val_main_v52_eq, e0, e1, e2, e4]
    exact (Cert.OutIdeal.Hand.w_eq R _ fun a b => Cert.OutRefIdeal.Hand.c52 R a b).symm
  · rw [Cert.OutRefIdeal.Read.val_main_v24_eq, e0, e3, e4]
    exact (Cert.OutIdeal.Hand.g_eq R _ fun b => Cert.OutRefIdeal.Hand.c24 R b).symm

end Cert.OutClaim

end
-- ==== Proof.MixOut.lean ====
/-
  The attention's norm and the projection behind it. The kernel multiplies the two halves of the projection's input,
  the normed attention and the gated branch, by their halves of the weights' rows; the reference joins them first.
-/
module

public import proofs.«01_k».proof.Proof.Gen.MixOutIdeal.Frame
public import proofs.«01_k».proof.Proof.Gen.MixOutRefIdeal.Run
public import proofs.«01_k».proof.Proof.Gen.MixOutRefIdeal.Read
public import Idealize.ShloMosaic.Lib.Pipeline.ValueKit
public import Idealize.ShloMosaic.Lib.Pointwise
public import Idealize.ShloMosaic.Lib.StableHlo.ReadAt
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)

namespace Cert.MixOutIdeal.Hand

open Cert.MixOutIdeal Cert.MixOutIdeal.Gen Cert.MixOutRefIdeal.Read

variable (m : (ℓ : Loc nD τ sig) → Buf (Elt Ideal) ℓ)

/-- The windows' blocks at grid point `t`: the rows of block `t`, and the gain and the weights whole. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ t.val < 4 :=
  (by decide +kernel : ∀ t : Fin grid0.N, _)

theorem V_a (c : Dev nD) (i : S4096x512.Idx) : V m c main_arg0 i = m (c.tc.loc main_arg0) i := by
  unfold V
  after_reads_simp
theorem V_y (c : Dev nD) (i : S4096x512.Idx) : V m c main_v0 i = m (c.tc.loc main_arg1) i := by
  unfold V
  after_reads_simp
  rfl
theorem V_g (c : Dev nD) (i : S1x512.Idx) : V m c main_arg2 i = m (c.tc.loc main_arg2) i := by
  unfold V
  after_reads_simp
theorem V_w (c : Dev nD) (i : S1024x1024.Idx) : V m c main_v1 i = m (c.tc.loc main_arg3) i := by
  unfold V
  after_reads_simp
  rfl
theorem V_x (c : Dev nD) (i : S4096x1024.Idx) : V m c main_arg4 i = m (c.tc.loc main_arg4) i := by
  unfold V
  after_reads_simp

theorem blk0 (c : Dev nD) (t : Fin cfg0.N) (a : Fin 1024) (k : Fin 512) (r : Fin 4096) (hr : r.val = t.val * 1024 + a.val) :
    iblk m c 0 t (ix2 a k) = m (c.tc.loc main_arg0) (ix2 r k) := by
  refine Eq.trans ?_ (V_a m c (ix2 r k))
  blk_point [iblk, idx t]
theorem blk1 (c : Dev nD) (t : Fin cfg0.N) (a : Fin 1024) (k : Fin 512) (r : Fin 4096) (hr : r.val = t.val * 1024 + a.val) :
    iblk m c 1 t (ix2 a k) = m (c.tc.loc main_arg1) (ix2 r k) := by
  refine Eq.trans ?_ (V_y m c (ix2 r k))
  blk_point [iblk, idx t]
theorem blk2 (c : Dev nD) (t : Fin cfg0.N) (k : Fin 512) : iblk m c 2 t (ix2 0 k) = m (c.tc.loc main_arg2) (ix2 0 k) := by
  refine Eq.trans ?_ (V_g m c (ix2 0 k))
  blk_point [iblk, idx t]
theorem blk3 (c : Dev nD) (t : Fin cfg0.N) (k n : Fin 1024) : iblk m c 3 t (ix2 k n) = m (c.tc.loc main_arg3) (ix2 k n) := by
  refine Eq.trans ?_ (V_w m c (ix2 k n))
  blk_point [iblk, idx t]
theorem blk4 (c : Dev nD) (t : Fin cfg0.N) (a k : Fin 1024) (r : Fin 4096) (hr : r.val = t.val * 1024 + a.val) :
    iblk m c 4 t (ix2 a k) = m (c.tc.loc main_arg4) (ix2 r k) := by
  refine Eq.trans ?_ (V_x m c (ix2 r k))
  blk_point [iblk, idx t]

/-- The two halves of the weights' rows. -/
def top (k : Fin 512) : Fin 1024 := ⟨k.val, by omega⟩
def bot (k : Fin 512) : Fin 1024 := ⟨512 + k.val, by omega⟩

/-- A sum over the rows, half by half. -/
theorem sum_halves (f : Fin 1024 → EReal) : ∑ k, f k = (∑ k, f (top k)) + ∑ k, f (bot k) :=
  (Fin.sum_univ_add (a := 512) (b := 512) f).trans rfl

section Ref

variable (x0 x1 : (⟨S4096x512, .f32⟩ : BufTy).Contents (Elt Ideal)) (x2 : (⟨S1x512, .f32⟩ : BufTy).Contents (Elt Ideal))
  (x3 : (⟨S1024x1024, .f32⟩ : BufTy).Contents (Elt Ideal)) (x4 : (⟨S4096x1024, .f32⟩ : BufTy).Contents (Elt Ideal))

/-- The attention, normed. -/
def nrm (r : Fin 4096) (k : Fin 512) : EReal :=
  x0 (ix2 r k) * Ideal.rsqrt (Ideal.div (∑ k, x0 (ix2 r k) * x0 (ix2 r k)) (Ideal.ofBits .f32 0x44000000#32) + Ideal.ofBits .f32 0x358637BD#32) * x2 (ix2 0 k)

theorem ref_at (r : Fin 4096) (n : Fin 1024) : val_main_v14 (F := Ideal) x0 x1 x2 x3 x4 (ix2 r n)
    = x4 (ix2 r n) + ((∑ k, nrm x0 x2 r k * x3 (ix2 (top k) n)) + ∑ k, x1 (ix2 r k) * x3 (ix2 (bot k) n)) := by
  have c12 : val_main_v13 (F := Ideal) x0 x1 x2 x3 (ix2 r n) = ∑ k, HMul.hMul (α := EReal) (β := EReal) (γ := EReal) (val_main_v12 (F := Ideal) x0 x1 x2 (ix2 r k)) (x3 (ix2 k n)) := by
    pointwise [val_main_v13]
  refine (val_main_v14_apply x0 x1 x2 x3 x4 (ix2 r n)).trans (congrArg (x4 (ix2 r n) + ·) ?_)
  rw [c12, sum_halves]
  refine congrArg₂ (· + ·) (Finset.sum_congr rfl fun k _ => congrArg (· * x3 (ix2 (top k) n)) ?_) (Finset.sum_congr rfl fun k _ => congrArg (· * x3 (ix2 (bot k) n)) ?_)
  · unfold nrm
    pointwise [val_main_v12]
    rw [dif_pos (show (top k).val < 512 from k.isLt)]
    pointwise [val_main_v11, val_main_v10, val_main_v9, val_main_v8, val_main_v7, val_main_v6, val_main_v5, val_main_v4, val_main_v3, val_main_v2, val_main_v1, val_main_v0, val_main_cst, val_main_cst_0, val_main_cst_1]
    rfl
  · pointwise [val_main_v12]
    rw [dif_neg (show ¬ (bot k).val < 512 by show ¬ 512 + k.val < 512; omega)]
    exact congrArg (fun z => x1 (ix2 r z)) (Fin.ext (by show 512 + k.val - 512 = k.val; omega))

end Ref

/-- One point's block, entry by entry. -/
theorem point (c : Dev nD) (t : Fin cfg0.N) (a n : Fin 1024) (r : Fin 4096) (hr : r.val = t.val * 1024 + a.val) :
    k0_pay1 (iblk m c 0 t) (iblk m c 2 t) (iblk m c 4 t) (View.ld (iblk m c 3 t) r0_3) (iblk m c 1 t) (View.ld (iblk m c 3 t) r0_4) (ix2 a n)
      = val_main_v14 (F := Ideal) (m (c.tc.loc main_arg0)) (m (c.tc.loc main_arg1)) (m (c.tc.loc main_arg2)) (m (c.tc.loc main_arg3)) (m (c.tc.loc main_arg4)) (ix2 r n) := by
  rw [ref_at]
  pointwise [k0_pay1]
  unfold nrm
  simp only [blk0 m c t a _ r hr, blk1 m c t a _ r hr, blk2 m c t, blk3 m c t, blk4 m c t a _ r hr]
  exact add_assoc _ _ _

/-- What the launch leaves in its result: the reference's rows. -/
theorem final (c : Dev nD) : (dats m 0 c).arrAt 5 (cfgs 0).N
    = val_main_v14 (F := Ideal) (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t _ y => ?_
  have i0 : ((((View.whole main_v2).slice (win0_5.rect t)).emb y) 0).val = t.val * 1024 + (y 0).val := by blk_simp [idx t]
  have i1 : ((((View.whole main_v2).slice (win0_5.rect t)).emb y) 1).val = (y 1).val := by blk_simp [idx t]
  blk_simp
  rw [after0_5]; frame_out
  generalize ((View.whole main_v2).slice (win0_5.rect t)).emb y = i at i0 i1 ⊢
  have tlt : t.val < 4 := (idx t).2.2.2.2.2.2
  have y0 : (y 0).val < 1024 := (y 0).isLt
  obtain ⟨r, er⟩ : ∃ r : Fin 4096, r.val = t.val * 1024 + (y 0).val := ⟨⟨_, by omega⟩, rfl⟩
  obtain ⟨a, n, ey⟩ : ∃ a n : Fin 1024, y = ix2 a n := ⟨y 0, y 1, funext fun b => by match b with | ⟨0, _⟩ => rfl | ⟨1, _⟩ => rfl⟩
  obtain ei : i = ix2 r n := funext fun b => Fin.ext (by match b with | ⟨0, _⟩ => exact i0.trans er.symm | ⟨1, _⟩ => exact i1.trans (by rw [ey]; rfl))
  rw [ey, ei]
  exact point m c t a n r (by rw [er, ey]; rfl)

end Cert.MixOutIdeal.Hand

end
-- ==== Proof.MixOutClaim.lean ====
/-
  The projection behind the attention's norm: the value claim, for any arguments, and the reference's frame.
-/
module

public import proofs.«01_k».proof.Defs
public import proofs.«01_k».proof.Proof.MixOut
public import proofs.«01_k».proof.Proof.Gen.MixOutIdeal.Value
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem

namespace Cert.MixOutClaim

theorem frame_ref : Cert.quiescent_MixOutRefIdeal := fun m g _ =>
  (θ_run Cert.MixOutRefIdeal.defs _ _).mono (fun r h => ⟨fun c => (h c).2, sem_eq_zero_of_no_sems rfl r.2⟩) (Cert.MixOutRefIdeal.Value.run m g)

theorem value : Cert.algebraic_MixOutIdeal_MixOutRefIdeal := by
  intro m g m' g' _ hm
  refine ⟨fun c => (Cert.MixOutIdeal.Gen.dats m 0 c).arrAt 5 (Cert.MixOutIdeal.cfgs 0).N, Cert.MixOutIdeal.Value.run_blocks m g, ?_⟩
  refine (θ_run _ _ _).mono (fun r h c => ⟨(h c).1.trans ?_, (h c).2⟩) (Cert.MixOutRefIdeal.Value.run m' g')
  obtain ⟨e0, e1, e2, e3, e4⟩ := hm c
  rw [Cert.MixOutRefIdeal.Read.val_main_v14_eq, e0, e1, e2, e3, e4]
  exact (Cert.MixOutIdeal.Hand.final m c).symm

end Cert.MixOutClaim

end
-- ==== Proof.MemKvRef.lean ====
/-
  The reference of the memory's keys and values: its four results, entry by entry.
-/
module

public import proofs.«01_k».proof.Proof.KvMath
public import proofs.«01_k».proof.Proof.Gen.MemKvRefIdeal.Read
public import Idealize.ShloMosaic.Lib.Pointwise

@[expose] public section

set_option maxRecDepth 16384

noncomputable section

namespace Cert.MemKvRefIdeal.Hand

open Cert.MemKvRefIdeal Cert.MemKvRefIdeal.Read
open Cert.KvMath (col key val)
open Idealize.ShloMosaic Idealize.ShloMosaic.TcCoe Idealize.ShloMosaic.Tactic

variable (x0 : S256x1024.Idx → EReal) (x1 : S1x1024.Idx → EReal) (x2 : S1024x2048.Idx → EReal) (x3 : S1x256.Idx → EReal)

/-- The normed memory. -/
def mn (j : Fin 256) (d : Fin 1024) : EReal :=
  x0 (ix2 j d) * Ideal.rsqrt (Ideal.div (∑ d, x0 (ix2 j d) * x0 (ix2 j d)) (Ideal.ofBits .f32 0x44800000#32) + Ideal.ofBits .f32 0x358637BD#32) * x1 (ix2 0 d)
/-- Column `c` of block `b` of its product with the weights: keys and values, head by head. -/
def kv (b : Fin 8) (j c : Fin 256) : EReal := ∑ d, mn x0 x1 j d * x2 (ix2 d (col b c))
/-- A head's keys, normed. -/
def kn (h : Fin 4) (j c : Fin 256) : EReal :=
  kv x0 x1 x2 (key h) j c * Ideal.rsqrt (Ideal.div (∑ c, kv x0 x1 x2 (key h) j c * kv x0 x1 x2 (key h) j c) (Ideal.ofBits .f32 0x43800000#32) + Ideal.ofBits .f32 0x358637BD#32) * x3 (ix2 0 c)

theorem c11 (j : Fin 256) (d : Fin 1024) : val_main_v11 (F := Ideal) x0 x1 (ix2 j d) = mn x0 x1 j d := by
  unfold mn
  pointwise [val_main_v11, val_main_v10, val_main_v9, val_main_v8, val_main_v7, val_main_v6, val_main_v5, val_main_v4, val_main_v3, val_main_v2, val_main_v1, val_main_v0, val_main_cst, val_main_cst_0, val_main_cst_1]
theorem c27 (j : Fin 256) (d : Fin 1024) : val_main_v27 (F := Ideal) x0 x1 (ix2 j d) = mn x0 x1 j d :=
  c11 x0 x1 j d

theorem c15 (j : Fin 256) (h : Fin 4) (c : Fin 256) : val_main_v15 (F := Ideal) x0 x1 x2 (ix3 j h c) = kv x0 x1 x2 (key h) j c := by
  unfold kv
  pointwise [val_main_v15, val_main_v13, val_main_v12]
  simp only [c11]
  exact Finset.sum_congr rfl fun d _ => congrArg (fun z => mn x0 x1 j d * x2 (ix2 d z)) (Fin.ext (by show h.val * 256 + c.val = 256 * h.val + c.val; omega))
theorem c31 (j : Fin 256) (h : Fin 4) (c : Fin 256) : val_main_v31 (F := Ideal) x0 x1 x2 (ix3 j h c) = kv x0 x1 x2 (key h) j c :=
  c15 x0 x1 x2 j h c

theorem r_mn (j : Fin 256) (d : Fin 1024) : val_main_v49 (F := Ideal) x0 x1 (ix2 j d) = mn x0 x1 j d :=
  c11 x0 x1 j d
theorem r_raw (h : Fin 4) (j c : Fin 256) : val_main_v46 (F := Ideal) x0 x1 x2 (ix3 h j c) = kv x0 x1 x2 (key h) j c := by
  pointwise [val_main_v46]
  exact c15 x0 x1 x2 j h c
theorem r_key (h : Fin 4) (j c : Fin 256) : val_main_v50 (F := Ideal) x0 x1 x2 x3 (ix3 h j c) = kn x0 x1 x2 x3 h j c := by
  unfold kn
  pointwise [val_main_v50, val_main_v47, val_main_v44, val_main_v43, val_main_v42, val_main_v41, val_main_v40, val_main_v39, val_main_v38, val_main_v37, val_main_v36, val_main_v35, val_main_v34, val_main_v33, val_main_v32, val_main_cst_5, val_main_cst_6, val_main_cst_7]
  simp only [c31]
theorem r_val (h : Fin 4) (j c : Fin 256) : val_main_v51 (F := Ideal) x0 x1 x2 (ix3 h j c) = kv x0 x1 x2 (val h) j c := by
  unfold kv
  pointwise [val_main_v51, val_main_v48, val_main_v45, val_main_v30, val_main_v28]
  simp only [c27]
  exact Finset.sum_congr rfl fun d _ => congrArg (fun z => mn x0 x1 j d * x2 (ix2 d z)) (Fin.ext (by show 1024 + (h.val * 256 + c.val) = 256 * (4 + h.val) + c.val; omega))

end Cert.MemKvRefIdeal.Hand

end
-- ==== Proof.MemKv.lean ====
/-
  The kernel of the memory's keys and values: what its four results hold, entry by entry.
-/
module

public import proofs.«01_k».proof.Proof.Kv
public import proofs.«01_k».proof.Proof.MemKvRef
public import proofs.«01_k».proof.Proof.Gen.MemKvIdeal.Value

@[expose] public section

set_option maxRecDepth 16384

noncomputable section

namespace Cert.MemKvIdeal.Hand

open Cert.MemKvIdeal Cert.MemKvIdeal.Gen Cert.Whole
open Cert.KvMath (col key val)
open Cert.KvIdeal.Hand (e2 e3 at3)
open Cert.MemKvRefIdeal.Hand (mn kv kn)
open Idealize.ShloMosaic Idealize.ShloMosaic.TcCoe Idealize.ShloMosaic.Tactic

section Values

variable {F : FTy → Type} [FloatOps F] (x0 : Vec F S256x1024 .f32) (x1 : Vec F S1x1024 .f32) (x2 : Vec F S8x1024x256 .bf16) (x3 : Vec F S1x256 .f32)

/-- The blocks of the weights that a head's keys and values take. -/
abbrev ldK (h : Fin 4) : Vec F S1x1024x256 .bf16 :=
  match h with
  | 0 => View.ld x2 r0_2
  | 1 => View.ld x2 r0_6
  | 2 => View.ld x2 r0_9
  | 3 => View.ld x2 r0_12
abbrev ldV (h : Fin 4) : Vec F S1x1024x256 .bf16 :=
  match h with
  | 0 => View.ld x2 r0_5
  | 1 => View.ld x2 r0_8
  | 2 => View.ld x2 r0_11
  | 3 => View.ld x2 r0_14
/-- The normed memory, and what each head stores: raw keys, normed keys, values. -/
abbrev mnT : FVec F S256x1024 .bf16 := k0_pay2 (View.ld x0 r0_0) (View.ld x1 r0_1)
abbrev rawT (h : Fin 4) : FVec F S1x256x256 .f32 := k0_pay9 (mnT x0 x1) (ldK x2 h)
abbrev keyT (h : Fin 4) : FVec F S1x256x256 .bf16 := k0_pay10 (mnT x0 x1) (ldK x2 h) (View.ld x3 r0_4)
abbrev valT (h : Fin 4) : FVec F S1x256x256 .bf16 := k0_pay11 (mnT x0 x1) (ldV x2 h)

theorem out4 : out0_4 x0 x1 x2 x3 = View.canon [⟨r0_0, mnT x0 x1⟩] := by rfl
theorem out5 : out0_5 x0 x1 x2 x3 = View.canon [⟨r0_13, rawT x0 x1 x2 3⟩, ⟨r0_10, rawT x0 x1 x2 2⟩, ⟨r0_7, rawT x0 x1 x2 1⟩, ⟨r0_3, rawT x0 x1 x2 0⟩] := by rfl
theorem out6 : out0_6 x0 x1 x2 x3 = View.canon [⟨r0_13, keyT x0 x1 x2 x3 3⟩, ⟨r0_10, keyT x0 x1 x2 x3 2⟩, ⟨r0_7, keyT x0 x1 x2 x3 1⟩, ⟨r0_3, keyT x0 x1 x2 x3 0⟩] := by rfl
theorem out7 : out0_7 x0 x1 x2 x3 = View.canon [⟨r0_13, valT x0 x1 x2 3⟩, ⟨r0_10, valT x0 x1 x2 2⟩, ⟨r0_7, valT x0 x1 x2 1⟩, ⟨r0_3, valT x0 x1 x2 0⟩] := by rfl

end Values

section Apply

variable (x0 : Vec Ideal S256x1024 .f32) (x1 : Vec Ideal S1x1024 .f32) (a : FVec Ideal S256x1024 .bf16) (w : Vec Ideal S1x1024x256 .bf16)
  (g : Vec Ideal S1x256 .f32) (j c : Fin 256) (d : Fin 1024)

theorem k2_apply : (k0_pay2 x0 x1 (ix2 j d) : EReal) = mn x0 x1 j d := by
  unfold mn
  pointwise [k0_pay2]
theorem k9_apply : (k0_pay9 a w (ix3 0 j c) : EReal) = ∑ d, e2 a j d * e3 w d c := by
  unfold e2 e3
  pointwise [k0_pay9, k0_pay8]
theorem k10_apply : (k0_pay10 a w g (ix3 0 j c) : EReal)
    = (∑ d, e2 a j d * e3 w d c) * Ideal.rsqrt (Ideal.div (∑ c, (∑ d, e2 a j d * e3 w d c) * ∑ d, e2 a j d * e3 w d c) (Ideal.ofBits .f32 0x43800000#32)
      + Ideal.ofBits .f32 0x358637BD#32) * e2 g 0 c := by
  unfold e2 e3
  pointwise [k0_pay10, k0_pay8]
theorem k11_apply : (k0_pay11 a w (ix3 0 j c) : EReal) = ∑ d, e2 a j d * e3 w d c := by
  unfold e2 e3
  pointwise [k0_pay11]

end Apply

/-! ## The blocks -/

variable (m : (ℓ : Loc nD τ sig) → Buf (Elt Ideal) ℓ) (c : Dev nD)

theorem V_m (i : S256x1024.Idx) : V m c main_arg0 i = m (c.tc.loc main_arg0) i := by
  unfold V
  after_reads_simp
theorem V_g (i : S1x1024.Idx) : V m c main_arg1 i = m (c.tc.loc main_arg1) i := by
  unfold V
  after_reads_simp
theorem V_w (b : Fin 8) (d : Fin 1024) (e : Fin 256) : V m c main_v2 (ix3 b d e) = m (c.tc.loc main_arg2) (ix2 d (col b e)) := by
  unfold V
  after_reads_at
  exact congrArg (fun z => m (c.tc.loc main_arg2) (ix2 d z)) (Fin.ext (by show _ = 256 * b.val + e.val; simp; omega))
theorem V_gk (i : S1x256.Idx) : V m c main_arg3 i = m (c.tc.loc main_arg3) i := by
  unfold V
  after_reads_simp

theorem idx : ∀ t : Fin cfg0.N, win0_0.index t = ![0, 0] ∧ win0_1.index t = ![0, 0] ∧ win0_2.index t = ![0, 0, 0] ∧ win0_3.index t = ![0, 0]
    ∧ win0_4.index t = ![0, 0] ∧ win0_5.index t = ![0, 0, 0] ∧ win0_6.index t = ![0, 0, 0] ∧ win0_7.index t = ![0, 0, 0] :=
  (by decide +kernel : ∀ t : Fin grid0.N, _)

theorem blk0 (t : Fin cfg0.N) (i : S256x1024.Idx) : View.ld (iblk m c 0 t) r0_0 i = m (c.tc.loc main_arg0) i := by
  refine Eq.trans ?_ (V_m m c i)
  blk_point [iblk, idx t]
theorem blk1 (t : Fin cfg0.N) (i : S1x1024.Idx) : View.ld (iblk m c 1 t) r0_1 i = m (c.tc.loc main_arg1) i := by
  refine Eq.trans ?_ (V_g m c i)
  blk_point [iblk, idx t]
theorem blk2 (t : Fin cfg0.N) (b : Fin 8) (d : Fin 1024) (e : Fin 256) : iblk m c 2 t (ix3 b d e) = m (c.tc.loc main_arg2) (ix2 d (col b e)) := by
  refine Eq.trans ?_ (V_w m c b d e)
  blk_point [iblk, idx t]
theorem blk3 (t : Fin cfg0.N) (i : S1x256.Idx) : View.ld (iblk m c 3 t) r0_4 i = m (c.tc.loc main_arg3) i := by
  refine Eq.trans ?_ (V_gk m c i)
  blk_point [iblk, idx t]

theorem ldK_apply (x : Vec Ideal S8x1024x256 .bf16) (h : Fin 4) (j : Fin 1024) (d : Fin 256) : e3 (ldK x h) j d = x (ix3 (key h) j d) := by
  fin_cases h <;> exact congrArg x (funext fun a => Fin.ext (by
    fin_cases a
    · rfl
    · show 0 + 1 * j.val = j.val; omega
    · show 0 + 1 * d.val = d.val; omega))
theorem ldV_apply (x : Vec Ideal S8x1024x256 .bf16) (h : Fin 4) (j : Fin 1024) (d : Fin 256) : e3 (ldV x h) j d = x (ix3 (val h) j d) := by
  fin_cases h <;> exact congrArg x (funext fun a => Fin.ext (by
    fin_cases a
    · rfl
    · show 0 + 1 * j.val = j.val; omega
    · show 0 + 1 * d.val = d.val; omega))

section Entries

variable (t : Fin cfg0.N) (h : Fin 4) (j e : Fin 256)

theorem t_mn (d : Fin 1024) : (mnT (iblk m c 0 t) (iblk m c 1 t) (ix2 j d) : EReal) = mn (m (c.tc.loc main_arg0)) (m (c.tc.loc main_arg1)) j d := by
  refine Eq.trans (congrArg₂ (fun a b => (k0_pay2 (F := Ideal) a b (ix2 j d) : EReal)) (funext (blk0 m c t)) (funext (blk1 m c t))) ?_
  exact k2_apply _ _ j d
/-- The product of the normed memory with a block of the weights. -/
theorem t_kv (b : Fin 8) (w : Vec Ideal S1x1024x256 .bf16) (hw : ∀ d e, e3 w d e = iblk m c 2 t (ix3 b d e)) :
    ∑ d, e2 (mnT (iblk m c 0 t) (iblk m c 1 t)) j d * e3 w d e = kv (m (c.tc.loc main_arg0)) (m (c.tc.loc main_arg1)) (m (c.tc.loc main_arg2)) b j e :=
  Finset.sum_congr rfl fun d _ => by rw [hw, blk2]; exact congrArg (· * _) (t_mn m c t j d)
theorem t_raw : (rawT (iblk m c 0 t) (iblk m c 1 t) (iblk m c 2 t) h (ix3 0 j e) : EReal)
    = kv (m (c.tc.loc main_arg0)) (m (c.tc.loc main_arg1)) (m (c.tc.loc main_arg2)) (key h) j e :=
  (k9_apply _ _ j e).trans (t_kv m c t j e (key h) _ (ldK_apply _ h))
theorem t_val : (valT (iblk m c 0 t) (iblk m c 1 t) (iblk m c 2 t) h (ix3 0 j e) : EReal)
    = kv (m (c.tc.loc main_arg0)) (m (c.tc.loc main_arg1)) (m (c.tc.loc main_arg2)) (val h) j e :=
  (k11_apply _ _ j e).trans (t_kv m c t j e (val h) _ (ldV_apply _ h))
theorem t_key : (keyT (iblk m c 0 t) (iblk m c 1 t) (iblk m c 2 t) (iblk m c 3 t) h (ix3 0 j e) : EReal)
    = kn (m (c.tc.loc main_arg0)) (m (c.tc.loc main_arg1)) (m (c.tc.loc main_arg2)) (m (c.tc.loc main_arg3)) h j e := by
  refine (k10_apply _ _ _ j e).trans ?_
  have eg : e2 (View.ld (iblk m c 3 t) r0_4) 0 e = m (c.tc.loc main_arg3) (ix2 0 e) := blk3 m c t (ix2 0 e)
  rw [eg]
  simp only [t_kv m c t j _ (key h) _ (ldK_apply _ h)]
  rfl

end Entries

/-! ## The results -/

/-- The normed memory. -/
theorem mn_eq (G : S256x1024.Idx → EReal) (hG : ∀ j d, G (ix2 j d) = mn (m (c.tc.loc main_arg0)) (m (c.tc.loc main_arg1)) j d) :
    (dats m 0 c).arrAt 4 (cfgs 0).N = G := by
  refine (dats m 0 c).arrAt_eq_of_covers 4 _ (by decide +kernel) fun t _ y => ?_
  have i0 : ((((View.whole main_v3_0).slice (win0_4.rect t)).emb y) 0).val = (y 0).val := by blk_simp [idx t]
  have i1 : ((((View.whole main_v3_0).slice (win0_4.rect t)).emb y) 1).val = (y 1).val := by blk_simp [idx t]
  blk_simp
  rw [after0_4, out4]
  generalize ((View.whole main_v3_0).slice (win0_4.rect t)).emb y = i at i0 i1 ⊢
  canon_tiles x k
  obtain ⟨d, hd⟩ : ∃ d : Fin 256, (x 0).val = d.val := ⟨x 0, rfl⟩
  obtain ⟨e, he⟩ : ∃ e : Fin 1024, (x 1).val = e.val := ⟨x 1, rfl⟩
  exact (at2 _ x d e hd he).trans ((t_mn m c t d e).trans ((at2 G i d e (by omega) (by omega)).trans (hG _ _)).symm)

/-- The raw keys, heads first. -/
theorem raw_eq (G : S4x256x256.Idx → EReal) (hG : ∀ h j e, G (ix3 h j e) = kv (m (c.tc.loc main_arg0)) (m (c.tc.loc main_arg1)) (m (c.tc.loc main_arg2)) (key h) j e) :
    (dats m 0 c).arrAt 5 (cfgs 0).N = G := by
  refine (dats m 0 c).arrAt_eq_of_covers 5 _ (by decide +kernel) fun t _ y => ?_
  have i0 : ((((View.whole main_v3_1).slice (win0_5.rect t)).emb y) 0).val = (y 0).val := by blk_simp [idx t]
  have i1 : ((((View.whole main_v3_1).slice (win0_5.rect t)).emb y) 1).val = (y 1).val := by blk_simp [idx t]
  have i2 : ((((View.whole main_v3_1).slice (win0_5.rect t)).emb y) 2).val = (y 2).val := by blk_simp [idx t]
  blk_simp
  rw [after0_5, out5]
  generalize ((View.whole main_v3_1).slice (win0_5.rect t)).emb y = i at i0 i1 i2 ⊢
  canon_tiles x k
  all_goals
    obtain ⟨d, hd⟩ : ∃ d : Fin 256, (x 1).val = d.val := ⟨x 1, rfl⟩
    obtain ⟨e, he⟩ : ∃ e : Fin 256, (x 2).val = e.val := ⟨x 2, rfl⟩
    refine (at3 _ x 0 d e (by show (x 0).val = 0; omega) hd he).trans ((t_raw m c t _ d e).trans (Eq.symm ((at3 G i _ d e ?_ (by omega) (by omega)).trans (hG _ _ _))))
  · show (i 0).val = 3; omega
  · show (i 0).val = 2; omega
  · show (i 0).val = 1; omega
  · show (i 0).val = 0; omega

/-- The normed keys, heads first. -/
theorem key_eq (G : S4x256x256.Idx → EReal) (hG : ∀ h j e, G (ix3 h j e) = kn (m (c.tc.loc main_arg0)) (m (c.tc.loc main_arg1)) (m (c.tc.loc main_arg2)) (m (c.tc.loc main_arg3)) h j e) :
    (dats m 0 c).arrAt 6 (cfgs 0).N = G := by
  refine (dats m 0 c).arrAt_eq_of_covers 6 _ (by decide +kernel) fun t _ y => ?_
  have i0 : ((((View.whole main_v3_2).slice (win0_6.rect t)).emb y) 0).val = (y 0).val := by blk_simp [idx t]
  have i1 : ((((View.whole main_v3_2).slice (win0_6.rect t)).emb y) 1).val = (y 1).val := by blk_simp [idx t]
  have i2 : ((((View.whole main_v3_2).slice (win0_6.rect t)).emb y) 2).val = (y 2).val := by blk_simp [idx t]
  blk_simp
  rw [after0_6, out6]
  generalize ((View.whole main_v3_2).slice (win0_6.rect t)).emb y = i at i0 i1 i2 ⊢
  canon_tiles x k
  all_goals
    obtain ⟨d, hd⟩ : ∃ d : Fin 256, (x 1).val = d.val := ⟨x 1, rfl⟩
    obtain ⟨e, he⟩ : ∃ e : Fin 256, (x 2).val = e.val := ⟨x 2, rfl⟩
    refine (at3 _ x 0 d e (by show (x 0).val = 0; omega) hd he).trans ((t_key m c t _ d e).trans (Eq.symm ((at3 G i _ d e ?_ (by omega) (by omega)).trans (hG _ _ _))))
  · show (i 0).val = 3; omega
  · show (i 0).val = 2; omega
  · show (i 0).val = 1; omega
  · show (i 0).val = 0; omega

/-- The values, heads first. -/
theorem val_eq (G : S4x256x256.Idx → EReal) (hG : ∀ h j e, G (ix3 h j e) = kv (m (c.tc.loc main_arg0)) (m (c.tc.loc main_arg1)) (m (c.tc.loc main_arg2)) (val h) j e) :
    (dats m 0 c).arrAt 7 (cfgs 0).N = G := by
  refine (dats m 0 c).arrAt_eq_of_covers 7 _ (by decide +kernel) fun t _ y => ?_
  have i0 : ((((View.whole main_v3_3).slice (win0_7.rect t)).emb y) 0).val = (y 0).val := by blk_simp [idx t]
  have i1 : ((((View.whole main_v3_3).slice (win0_7.rect t)).emb y) 1).val = (y 1).val := by blk_simp [idx t]
  have i2 : ((((View.whole main_v3_3).slice (win0_7.rect t)).emb y) 2).val = (y 2).val := by blk_simp [idx t]
  blk_simp
  rw [after0_7, out7]
  generalize ((View.whole main_v3_3).slice (win0_7.rect t)).emb y = i at i0 i1 i2 ⊢
  canon_tiles x k
  all_goals
    obtain ⟨d, hd⟩ : ∃ d : Fin 256, (x 1).val = d.val := ⟨x 1, rfl⟩
    obtain ⟨e, he⟩ : ∃ e : Fin 256, (x 2).val = e.val := ⟨x 2, rfl⟩
    refine (at3 _ x 0 d e (by show (x 0).val = 0; omega) hd he).trans ((t_val m c t _ d e).trans (Eq.symm ((at3 G i _ d e ?_ (by omega) (by omega)).trans (hG _ _ _))))
  · show (i 0).val = 3; omega
  · show (i 0).val = 2; omega
  · show (i 0).val = 1; omega
  · show (i 0).val = 0; omega

end Cert.MemKvIdeal.Hand

end
-- ==== Proof.MemKvClaim.lean ====
/-
  The memory's keys and values: the value claim, for any arguments, and the reference's frame.
-/
module

public import proofs.«01_k».proof.Defs
public import proofs.«01_k».proof.Proof.MemKv
public import proofs.«01_k».proof.Proof.Gen.MemKvRefIdeal.Run
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.ShloMosaic.Tactic Idealize.SL.Sem

namespace Cert.MemKvClaim

theorem frame_ref : Cert.quiescent_MemKvRefIdeal := fun m g _ =>
  (θ_run Cert.MemKvRefIdeal.defs _ _).mono (fun r h => ⟨fun c => (h c).2.2.2.2, sem_eq_zero_of_no_sems rfl r.2⟩) (Cert.MemKvRefIdeal.Value.run m g)

open Cert.MemKvIdeal Cert.MemKvIdeal.Value Cert.MemKvIdeal.Gen in
theorem value : Cert.algebraic_MemKvIdeal_MemKvRefIdeal := by
  intro m g m' g' _ hm
  refine ⟨fun c => (dats m 0 c).arrAt 4 cfg0.N, fun c => (dats m 0 c).arrAt 5 cfg0.N, fun c => (dats m 0 c).arrAt 6 cfg0.N, fun c => (dats m 0 c).arrAt 7 cfg0.N,
    Cert.MemKvIdeal.Value.run_blocks m g, ?_⟩
  refine (θ_run _ _ _).mono (fun r h c => ?_) (Cert.MemKvRefIdeal.Value.run m' g')
  obtain ⟨e0, e1, e2, e3⟩ := hm c
  obtain ⟨r0, r1, r2, r3, rest⟩ := h c
  refine ⟨r0.trans ?_, r1.trans ?_, r2.trans ?_, r3.trans ?_, rest⟩
  · rw [Cert.MemKvRefIdeal.Read.val_main_v49_eq, e0, e1]
    exact (Cert.MemKvIdeal.Hand.mn_eq m c _ (Cert.MemKvRefIdeal.Hand.r_mn _ _)).symm
  · rw [Cert.MemKvRefIdeal.Read.val_main_v46_eq, e0, e1, e2]
    exact (Cert.MemKvIdeal.Hand.raw_eq m c _ (Cert.MemKvRefIdeal.Hand.r_raw _ _ _)).symm
  · rw [Cert.MemKvRefIdeal.Read.val_main_v50_eq, e0, e1, e2, e3]
    exact (Cert.MemKvIdeal.Hand.key_eq m c _ (Cert.MemKvRefIdeal.Hand.r_key _ _ _ _)).symm
  · rw [Cert.MemKvRefIdeal.Read.val_main_v51_eq, e0, e1, e2]
    exact (Cert.MemKvIdeal.Hand.val_eq m c _ (Cert.MemKvRefIdeal.Hand.r_val _ _ _)).symm

end Cert.MemKvClaim

end
-- ==== Proof.FfnUp.lean ====
/-
  The feed-forward block's first half: a block of the hidden layer is the gate of two products of the normed rows with
  the weights. The reference takes the same products and the same gate over the whole arrays.
-/
module

public import proofs.«01_k».proof.Proof.Gen.FfnUpIdeal.Frame
public import proofs.«01_k».proof.Proof.Gen.FfnUpRefIdeal.Run
public import proofs.«01_k».proof.Proof.Gen.FfnUpRefIdeal.Read
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FfnUpIdeal.Hand

open Cert.FfnUpIdeal Cert.FfnUpIdeal.Gen Cert.FfnUpRefIdeal.Read

variable (m : (ℓ : Loc nD τ sig) → Buf (Elt Ideal) ℓ)

/-- The windows' blocks at grid point `t`: row block `t / 4`, hidden block `t % 4`. -/
theorem idx : ∀ t : Fin cfg0.N, win0_0.index t = ![t.val / 4, 0] ∧ win0_1.index t = ![0, t.val % 4, 0, 0]
    ∧ win0_2.index t = ![t.val % 4, t.val / 4, 0] ∧ t.val / 4 < 4 :=
  (by decide +kernel : ∀ t : Fin grid0.N, _)

theorem V_h (c : Dev nD) : V m c main_v15 = val_main_v11 (F := Ideal) (m (c.tc.loc main_arg0)) (m (c.tc.loc main_arg1)) := by
  unfold V
  after_reads_simp
  rfl

theorem V_w (c : Dev nD) (i : S2x4x704x1024.Idx) (j : S1024x5632.Idx) (h0 : (j 0).val = (i 3).val)
    (h1 : (j 1).val = (i 0).val * 2816 + (i 1).val * 704 + (i 2).val) : V m c main_v2 i = m (c.tc.loc main_arg2) j := by
  unfold V
  after_reads_at
  exact congrArg (m (c.tc.loc main_arg2)) (funext fun a => Fin.ext (by match a with | ⟨0, _⟩ => exact h0.symm | ⟨1, _⟩ => exact h1.symm))

theorem blk0 (c : Dev nD) (t : Fin cfg0.N) (a k : Fin 1024) (r : Fin 4096) (hr : r.val = t.val / 4 * 1024 + a.val) :
    iblk m c 0 t (ix2 a k) = val_main_v11 (F := Ideal) (m (c.tc.loc main_arg0)) (m (c.tc.loc main_arg1)) (ix2 r k) := by
  refine Eq.trans ?_ (congrFun (V_h m c) (ix2 r k))
  blk_point [iblk, idx t]

theorem blk1 (c : Dev nD) (t : Fin cfg0.N) (a : Fin 2) (q : Fin 704) (k : Fin 1024) (n : Fin 5632)
    (hn : n.val = a.val * 2816 + t.val % 4 * 704 + q.val) : iblk m c 1 t (ix4 a 0 q k) = m (c.tc.loc main_arg2) (ix2 k n) := by
  refine Eq.trans ?_ (V_w m c (ix4 a ⟨t.val % 4, by omega⟩ q k) (ix2 k n) rfl hn)
  blk_point [iblk, idx t]

section Ref

variable (x0 : (⟨S4096x1024, .f32⟩ : BufTy).Contents (Elt Ideal)) (x1 : (⟨S1x1024, .f32⟩ : BufTy).Contents (Elt Ideal))
  (x2 : (⟨S1024x5632, .f32⟩ : BufTy).Contents (Elt Ideal))

/-- Column `n` of row `r` of the normed rows times the weights. -/
def up (r : Fin 4096) (n : Fin 5632) : EReal := ∑ k : Fin 1024, val_main_v11 (F := Ideal) x0 x1 (ix2 r k) * x2 (ix2 k n)

theorem ref_at (i : S4x4096x704.Idx) (r : Fin 4096) (n : Fin 2816) (hr : (i 1).val = r.val) (hn : n.val = (i 0).val * 704 + (i 2).val) :
    val_main_v19 (F := Ideal) x0 x1 x2 i
      = up x0 x1 x2 r ⟨n.val, by omega⟩ * Ideal.logistic (up x0 x1 x2 r ⟨n.val, by omega⟩) * up x0 x1 x2 r ⟨2816 + n.val, by omega⟩ := by
  obtain rfl : i 1 = r := Fin.ext hr
  pointwise [val_main_v19, val_main_v18, val_main_v17, val_main_v16, val_main_v15, val_main_v14, val_main_v13, val_main_v12,
    val_main_call0_v0, val_main_call0_v1, val_main_call0_v2, val_main_call0_v3, val_main_call0_v4, val_main_call0_v5,
    val_main_call0_cst, val_main_call0_cst_0]
  have hlt := n.isLt
  have e1 : ∀ p, (⟨(i 0).val * 704 + (i 2).val, p⟩ : Fin 5632) = ⟨n.val, by omega⟩ := fun p => Fin.ext (by simp only; omega)
  have e2 : ∀ p, (⟨2816 + ((i 0).val * 704 + (i 2).val), p⟩ : Fin 5632) = ⟨2816 + n.val, by omega⟩ := fun p => Fin.ext (by simp only; omega)
  simp only [e1, e2]
  rfl

end Ref

theorem up_blk (c : Dev nD) (t : Fin cfg0.N) (a : Fin 1024) (s : Fin 2) (q : Fin 704) (r : Fin 4096) (n : Fin 5632)
    (hr : r.val = t.val / 4 * 1024 + a.val) (hn : n.val = s.val * 2816 + t.val % 4 * 704 + q.val) :
    ∑ k : Fin 1024, HMul.hMul (α := EReal) (β := EReal) (γ := EReal) (iblk m c 0 t (ix2 a k)) (iblk m c 1 t (ix4 s 0 q k))
      = up (m (c.tc.loc main_arg0)) (m (c.tc.loc main_arg1)) (m (c.tc.loc main_arg2)) r n := by
  refine Finset.sum_congr rfl fun k _ => ?_
  rw [blk0 m c t a k r hr, blk1 m c t s q k n hn]

/-- One point's block, entry by entry. -/
theorem point (c : Dev nD) (t : Fin cfg0.N) (x : S1x1024x704.Idx) (i : S4x4096x704.Idx) (i0 : (i 0).val = t.val % 4)
    (i1 : (i 1).val = t.val / 4 * 1024 + (x 1).val) (i2 : (i 2).val = (x 2).val) :
    k0_pay1 (iblk m c 0 t) (View.ld (iblk m c 1 t) r0_1) (View.ld (iblk m c 1 t) r0_2) x
      = val_main_v19 (F := Ideal) (m (c.tc.loc main_arg0)) (m (c.tc.loc main_arg1)) (m (c.tc.loc main_arg2)) i := by
  have tlt : t.val / 4 < 4 := (idx t).2.2.2
  have x1 : (x 1).val < 1024 := (x 1).isLt
  have x2 : (x 2).val < 704 := (x 2).isLt
  obtain ⟨r, er⟩ : ∃ r : Fin 4096, r.val = t.val / 4 * 1024 + (x 1).val := ⟨⟨_, by omega⟩, rfl⟩
  obtain ⟨n, en⟩ : ∃ n : Fin 2816, n.val = t.val % 4 * 704 + (x 2).val := ⟨⟨_, by omega⟩, rfl⟩
  rw [ref_at _ _ _ i r n (by omega) (by omega)]
  pointwise [k0_pay1]
  rw [up_blk m c t (x 1) 0 (x 2) r ⟨n.val, by omega⟩ er (by rw [Fin.val_zero, en, Nat.zero_mul, Nat.zero_add]),
    up_blk m c t (x 1) 1 (x 2) r ⟨2816 + n.val, by omega⟩ er (by rw [Fin.val_one, Nat.one_mul, Nat.add_assoc, ← en])]

/-- What the launch leaves in its result: the reference's hidden blocks. -/
theorem final (c : Dev nD) : (dats m 0 c).arrAt 2 (cfgs 0).N
    = val_main_v19 (F := Ideal) (m (c.tc.loc main_arg0)) (m (c.tc.loc main_arg1)) (m (c.tc.loc main_arg2)) := by
  refine (dats m 0 c).arrAt_eq_of_covers 2 _ (by decide +kernel) fun t _ y => ?_
  have i0 : ((((View.whole main_v16).slice (win0_2.rect t)).emb y) 0).val = t.val % 4 := by blk_simp [idx t]
  have i1 : ((((View.whole main_v16).slice (win0_2.rect t)).emb y) 1).val = t.val / 4 * 1024 + (y 1).val := by blk_simp [idx t]
  have i2 : ((((View.whole main_v16).slice (win0_2.rect t)).emb y) 2).val = (y 2).val := by blk_simp [idx t]
  blk_simp
  rw [after0_2]; frame_out
  generalize ((View.whole main_v16).slice (win0_2.rect t)).emb y = i at i0 i1 i2 ⊢
  exact point m c t y i i0 i1 i2

end Cert.FfnUpIdeal.Hand

end
-- ==== Proof.FfnUpClaim.lean ====
/-
  The feed-forward block's first half: the value claim, for any arguments, and the reference's frame.
-/
module

public import proofs.«01_k».proof.Defs
public import proofs.«01_k».proof.Proof.FfnUp
public import proofs.«01_k».proof.Proof.Gen.FfnUpIdeal.Value
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem

namespace Cert.FfnUpClaim

theorem frame_ref : Cert.quiescent_FfnUpRefIdeal := fun m g _ =>
  (θ_run Cert.FfnUpRefIdeal.defs _ _).mono (fun r h => ⟨fun c => (h c).2, sem_eq_zero_of_no_sems rfl r.2⟩) (Cert.FfnUpRefIdeal.Value.run m g)

theorem value : Cert.algebraic_FfnUpIdeal_FfnUpRefIdeal := by
  intro m g m' g' _ hm
  refine ⟨fun c => (Cert.FfnUpIdeal.Gen.dats m 0 c).arrAt 2 (Cert.FfnUpIdeal.cfgs 0).N, Cert.FfnUpIdeal.Value.run_blocks m g, ?_⟩
  refine (θ_run _ _ _).mono (fun r h c => ⟨(h c).1.trans ?_, (h c).2⟩) (Cert.FfnUpRefIdeal.Value.run m' g')
  obtain ⟨e0, e1, e2⟩ := hm c
  rw [Cert.FfnUpRefIdeal.Read.val_main_v19_eq, e0, e1, e2]
  exact (Cert.FfnUpIdeal.Hand.final m c).symm

end Cert.FfnUpClaim

end
-- ==== Proof.FfRan.lean ====
/-
  What a run of one grid point of the attention's forward kernel gives: the first block of a row block starts the running
  maximum and the running sums, every block updates them, and the diagonal block, which masks, finishes the row block's results.
-/
module

public import proofs.«01_k».proof.Proof.Gen.FoxFwdIdeal.Launch
public import proofs.«01_k».proof.Proof.Gen.FoxFwdIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.FoxFwdIdeal.Hand

open Cert.FoxFwdIdeal Cert.FoxFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The element of a table a point reads. -/
abbrev cell (i : grid0.Coords) : Rect S10 := Rect.unit (s := S10) (k0_off1 i) S1.size (k0_off1_inb i)
/-- The one index of that element. -/
abbrev one : S1.Idx := Shape.Idx.first (s := S1) (numel1_S1.symm ▸ Nat.one_pos)

/-- A table's word loaded: the program goes on at any name `w` of the element read. -/
theorem load_word (c : Dev nD) {E : Set ℕ} {arg : Memref sig .tc .smem S10 .i32} {r : Rect S10} {h1 : r.shape.numel = 1}
    {hp : EltTy.i32.packing = 1} {α : Type} {K : Elt F .i32 → Prog (TpuEff nD τ sig (Elt F) Λ₀ .tc) α} {Q : α → sProp 𝕄}
    {q : PosShare TreeShare} {f : Buf (Elt F) (arg.view.loc (c : Thread nD τ))} (w : BitVec 32)
    (hw : w = (arg.access r).read (Elt F) f (Shape.Idx.first (h1.symm ▸ Nat.one_pos))) :
    (arg.view.loc (c : Thread nD τ) ↦{q} f)
      ⊢ iprop(((arg.view.loc (c : Thread nD τ) ↦{q} f) -∗ wp frame (wpE (defs₀ (F := F)) Variants.none c none) E (K w) Q)
        -∗ wp frame (wpE (defs₀ (F := F)) Variants.none c none) E (smemLoad arg r h1 hp >>= K) Q) := by
  unfold smemLoad
  rw [smemLoadElt_bind]
  iintro H Hk
  iapply (wp_smemLoadElt_named (defs := defs₀ (F := F)) Variants.none (c : Thread nD τ) none E (m := arg) (r := r) (S := Finset.univ)) $$ H
  iintro H %v %hv
  obtain rfl : v = w := hv.trans hw.symm
  iapply Hk $$ H

/-- A proposition or its negation, as a flag says. -/
abbrev Says (b : Bool) (P : Prop) : Prop := match b with
  | true => P
  | false => ¬ P

/-- That the body, entered with its buffers, leaves these stores in them. -/
abbrev Leaves (c : Dev nD) (i : grid0.Coords) (arg1 : Memref sig .tc .smem S10 .i32) (harg1 : arg1.IsWhole) (arg2 : Memref sig .tc .smem S10 .i32) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x512 .f32) (harg6 : arg6.IsWhole)
    (arg7 : Memref sig .tc .vmem S1024x128 .f32) (harg7 : arg7.IsWhole) (arg8 : Memref sig .tc .vmem S8x1024x128 .f32) (harg8 : arg8.IsWhole)
    (arg9 : Memref sig .tc .vmem S1024x1024 .f32) (harg9 : arg9.IsWhole) (v1 v3 : BitVec 32)
    (x3 x4 x5 : Vec F S1024x1024 .bf16) (x8 : Vec F S8x1024x128 .f32) (x9 : Vec F S1024x1024 .f32)
    (L6 : List (View.Piece (Elt F) S1024x512 .f32)) (L7 : List (View.Piece (Elt F) S1024x128 .f32)) (L8 : List (View.Piece (Elt F) S8x1024x128 .f32))
    (L9 : List (View.Piece (Elt F) S1024x1024 .f32)) : Prop :=
      ∀ (x6 : Vec F S1024x512 .f32) (x7 : Vec F S1024x128 .f32)
        (q : PosShare TreeShare) (g1 : Buf (Elt F) (arg1.view.loc (c : Thread nD τ))) (g2 : Buf (Elt F) (arg2.view.loc (c : Thread nD τ)))
        (hw1 : v1 = (arg1.access (cell i)).read (Elt F) g1 one) (hw3 : v3 = (arg2.access (cell i)).read (Elt F) g2 one)
        (E : Set ℕ) (K : PUnit → sProp 𝕄),
        iprop((arg1.view.loc (c : Thread nD τ) ↦{q} g1) ∗ (arg2.view.loc (c : Thread nD τ) ↦{q} g2)
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8 ∗ owns (c : Thread nD τ) arg9 fullShare x9
            ∗ (iprop((arg1.view.loc (c : Thread nD τ) ↦{q} g1) ∗ (arg2.view.loc (c : Thread nD τ) ↦{q} g2)
                ∗ owns (c : Thread nD τ) arg3 fullShare x3 ∗ owns (c : Thread nD τ) arg4 fullShare x4 ∗ owns (c : Thread nD τ) arg5 fullShare x5
                ∗ (arg6.view.loc (c : Thread nD τ) ↦[arg6.view.set]{fullShare} arg6.view.writes (Elt F) (harg6.unread x6) L6)
                ∗ (arg7.view.loc (c : Thread nD τ) ↦[arg7.view.set]{fullShare} arg7.view.writes (Elt F) (harg7.unread x7) L7)
                ∗ (arg8.view.loc (c : Thread nD τ) ↦[arg8.view.set]{fullShare} arg8.view.writes (Elt F) (harg8.unread x8) L8)
                ∗ (arg9.view.loc (c : Thread nD τ) ↦[arg9.view.set]{fullShare} arg9.view.writes (Elt F) (harg9.unread x9) L9)) -∗ K ⟨⟩))
          ⊢ wp frame (wpE (defs₀ (F := F)) Variants.none c none) E (cc0_fox_fwd i arg1 harg1 arg2 harg2 arg3 harg3 arg4 harg4 arg5 harg5 arg6 harg6 arg7 harg7 arg8 harg8 arg9 harg9) K
/-- What running a point gives: the four lists of stores. -/
abbrev Ran (c : Dev nD) (i : grid0.Coords) (arg1 : Memref sig .tc .smem S10 .i32) (harg1 : arg1.IsWhole) (arg2 : Memref sig .tc .smem S10 .i32) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x512 .f32) (harg6 : arg6.IsWhole)
    (arg7 : Memref sig .tc .vmem S1024x128 .f32) (harg7 : arg7.IsWhole) (arg8 : Memref sig .tc .vmem S8x1024x128 .f32) (harg8 : arg8.IsWhole)
    (arg9 : Memref sig .tc .vmem S1024x1024 .f32) (harg9 : arg9.IsWhole) (v1 v3 : BitVec 32)
    (x3 x4 x5 : Vec F S1024x1024 .bf16) (x8 : Vec F S8x1024x128 .f32) (x9 : Vec F S1024x1024 .f32) :=
  Σ' (L6 : List (View.Piece (Elt F) S1024x512 .f32)) (L7 : List (View.Piece (Elt F) S1024x128 .f32)) (L8 : List (View.Piece (Elt F) S8x1024x128 .f32)), { L9 : List (View.Piece (Elt F) S1024x1024 .f32) // Leaves (F := F) c i arg1 harg1 arg2 harg2 arg3 harg3 arg4 harg4 arg5 harg5 arg6 harg6 arg7 harg7 arg8 harg8 arg9 harg9 v1 v3 x3 x4 x5 x8 x9 L6 L7 L8 L9 }
/-- What running a row block's first point gives: its stores depend on nothing it finds in the running values. -/
abbrev Ran0 (c : Dev nD) (i : grid0.Coords) (arg1 : Memref sig .tc .smem S10 .i32) (harg1 : arg1.IsWhole) (arg2 : Memref sig .tc .smem S10 .i32) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x512 .f32) (harg6 : arg6.IsWhole)
    (arg7 : Memref sig .tc .vmem S1024x128 .f32) (harg7 : arg7.IsWhole) (arg8 : Memref sig .tc .vmem S8x1024x128 .f32) (harg8 : arg8.IsWhole)
    (arg9 : Memref sig .tc .vmem S1024x1024 .f32) (harg9 : arg9.IsWhole) (v1 v3 : BitVec 32)
    (x3 x4 x5 : Vec F S1024x1024 .bf16) :=
  Σ' (L6 : List (View.Piece (Elt F) S1024x512 .f32)) (L7 : List (View.Piece (Elt F) S1024x128 .f32)) (L8 : List (View.Piece (Elt F) S8x1024x128 .f32)), { L9 : List (View.Piece (Elt F) S1024x1024 .f32) // ∀ (x8 : Vec F S8x1024x128 .f32) (x9 : Vec F S1024x1024 .f32), Leaves (F := F) c i arg1 harg1 arg2 harg2 arg3 harg3 arg4 harg4 arg5 harg5 arg6 harg6 arg7 harg7 arg8 harg8 arg9 harg9 v1 v3 x3 x4 x5 x8 x9 L6 L7 L8 L9 }

end Cert.FoxFwdIdeal.Hand

end
-- ==== Proof.FfRunStart.lean ====
/-
  The run of a row block's first point, off the diagonal of the attention's forward kernel.
-/
module

public import proofs.«01_k».proof.Proof.FfRan

@[expose] public section

set_option maxRecDepth 16384

noncomputable section

namespace Cert.FoxFwdIdeal.Hand

open Cert.FoxFwdIdeal Cert.FoxFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
/-- The run of a row block's first point, off the diagonal. -/
noncomputable def runStart (c : Dev nD) (i : grid0.Coords) (arg1 : Memref sig .tc .smem S10 .i32) (harg1 : arg1.IsWhole) (arg2 : Memref sig .tc .smem S10 .i32) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x512 .f32) (harg6 : arg6.IsWhole)
    (arg7 : Memref sig .tc .vmem S1024x128 .f32) (harg7 : arg7.IsWhole) (arg8 : Memref sig .tc .vmem S8x1024x128 .f32) (harg8 : arg8.IsWhole)
    (arg9 : Memref sig .tc .vmem S1024x1024 .f32) (harg9 : arg9.IsWhole) (v1 v3 : BitVec 32)
    (h1 : Scalar.cmpi .ne (Scalar.extui (Scalar.cmpi .eq v3 0#32) : BitVec 32) 0#32 = 1#1)
    (h2 : Scalar.cmpi .ne (Scalar.extui (Scalar.cmpi .slt v3 v1) : BitVec 32) 0#32 = 1#1)
    (h3 : ¬ k0_cond3 v1 v3 = 1#1)
    (x3 x4 x5 : Vec F S1024x1024 .bf16) :
    Ran0 (F := F) c i arg1 harg1 arg2 harg2 arg3 harg3 arg4 harg4 arg5 harg5 arg6 harg6 arg7 harg7 arg8 harg8 arg9 harg9 v1 v3 x3 x4 x5 := by
  refine ⟨[], [], ?_, ?_, fun x8 x9 x6 x7 q g1 g2 hw1 hw3 E K => ?run⟩
  case run =>
    simp only [cc0_fox_fwd_eq_skeleton]; unfold cc0_fox_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨H1, H2, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg6.eq_unread hf6
    obtain rfl := harg7.eq_unread hf7;
    iapply (load_word c v1 hw1) $$ H1
    iintro H1
    iapply (load_word c v3 hw3) $$ H2
    iintro H2
    sl_exec (disch := first | sl_exact h1 | sl_exact h2 | sl_exact h3)
    sl_step
    iapply Hk
    isplitl [H1]; · iexact H1
    isplitl [H2]; · iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · rw [View.writes_nil]; iexact H6
    isplitl [H7]; · rw [View.writes_nil]; iexact H7
    isplitl [H8]; · obtain rfl := harg8.eq_unread hf8; iexact H8
    obtain rfl := harg9.eq_unread hf9; iexact H9

end Cert.FoxFwdIdeal.Hand

end
-- ==== Proof.FfRunStartEnd.lean ====
/-
  The run of the point that is a row block's first and the diagonal one of the attention's forward kernel.
-/
module

public import proofs.«01_k».proof.Proof.FfRan

@[expose] public section

set_option maxRecDepth 16384

noncomputable section

namespace Cert.FoxFwdIdeal.Hand

open Cert.FoxFwdIdeal Cert.FoxFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
/-- The run of the point that is a row block's first and the diagonal one. -/
noncomputable def runStartEnd (c : Dev nD) (i : grid0.Coords) (arg1 : Memref sig .tc .smem S10 .i32) (harg1 : arg1.IsWhole) (arg2 : Memref sig .tc .smem S10 .i32) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x512 .f32) (harg6 : arg6.IsWhole)
    (arg7 : Memref sig .tc .vmem S1024x128 .f32) (harg7 : arg7.IsWhole) (arg8 : Memref sig .tc .vmem S8x1024x128 .f32) (harg8 : arg8.IsWhole)
    (arg9 : Memref sig .tc .vmem S1024x1024 .f32) (harg9 : arg9.IsWhole) (v1 v3 : BitVec 32)
    (h1 : Scalar.cmpi .ne (Scalar.extui (Scalar.cmpi .eq v3 0#32) : BitVec 32) 0#32 = 1#1)
    (h2 : ¬ Scalar.cmpi .ne (Scalar.extui (Scalar.cmpi .slt v3 v1) : BitVec 32) 0#32 = 1#1)
    (h3 : k0_cond3 v1 v3 = 1#1)
    (x3 x4 x5 : Vec F S1024x1024 .bf16) :
    Ran0 (F := F) c i arg1 harg1 arg2 harg2 arg3 harg3 arg4 harg4 arg5 harg5 arg6 harg6 arg7 harg7 arg8 harg8 arg9 harg9 v1 v3 x3 x4 x5 := by
  refine ⟨?_, ?_, ?_, ?_, fun x8 x9 x6 x7 q g1 g2 hw1 hw3 E K => ?run⟩
  case run =>
    simp only [cc0_fox_fwd_eq_skeleton]; unfold cc0_fox_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨H1, H2, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg6.eq_unread hf6
    obtain rfl := harg7.eq_unread hf7;
    iapply (load_word c v1 hw1) $$ H1
    iintro H1
    iapply (load_word c v3 hw3) $$ H2
    iintro H2
    sl_exec (disch := first | sl_exact h1 | sl_exact h2 | sl_exact h3)
    sl_step
    iapply Hk
    isplitl [H1]; · iexact H1
    isplitl [H2]; · iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexact H6
    isplitl [H7]; · iexact H7
    isplitl [H8]; · obtain rfl := harg8.eq_unread hf8; iexact H8
    obtain rfl := harg9.eq_unread hf9; iexact H9

end Cert.FoxFwdIdeal.Hand

end
-- ==== Proof.FfRunMid.lean ====
/-
  The run of a point that is neither its row block's first nor the diagonal one of the attention's forward kernel.
-/
module

public import proofs.«01_k».proof.Proof.FfRan

@[expose] public section

set_option maxRecDepth 16384

noncomputable section

namespace Cert.FoxFwdIdeal.Hand

open Cert.FoxFwdIdeal Cert.FoxFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
/-- The run of a point that is neither its row block's first nor the diagonal one. -/
noncomputable def runMid (c : Dev nD) (i : grid0.Coords) (arg1 : Memref sig .tc .smem S10 .i32) (harg1 : arg1.IsWhole) (arg2 : Memref sig .tc .smem S10 .i32) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x512 .f32) (harg6 : arg6.IsWhole)
    (arg7 : Memref sig .tc .vmem S1024x128 .f32) (harg7 : arg7.IsWhole) (arg8 : Memref sig .tc .vmem S8x1024x128 .f32) (harg8 : arg8.IsWhole)
    (arg9 : Memref sig .tc .vmem S1024x1024 .f32) (harg9 : arg9.IsWhole) (v1 v3 : BitVec 32)
    (h1 : ¬ Scalar.cmpi .ne (Scalar.extui (Scalar.cmpi .eq v3 0#32) : BitVec 32) 0#32 = 1#1)
    (h2 : Scalar.cmpi .ne (Scalar.extui (Scalar.cmpi .slt v3 v1) : BitVec 32) 0#32 = 1#1)
    (h3 : ¬ k0_cond3 v1 v3 = 1#1)
    (x3 x4 x5 : Vec F S1024x1024 .bf16) (x8 : Vec F S8x1024x128 .f32) (x9 : Vec F S1024x1024 .f32) :
    Ran (F := F) c i arg1 harg1 arg2 harg2 arg3 harg3 arg4 harg4 arg5 harg5 arg6 harg6 arg7 harg7 arg8 harg8 arg9 harg9 v1 v3 x3 x4 x5 x8 x9 := by
  refine ⟨[], [], ?_, ?_, fun x6 x7 q g1 g2 hw1 hw3 E K => ?run⟩
  case run =>
    simp only [cc0_fox_fwd_eq_skeleton]; unfold cc0_fox_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨H1, H2, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9
    iapply (load_word c v1 hw1) $$ H1
    iintro H1
    iapply (load_word c v3 hw3) $$ H2
    iintro H2
    sl_exec (disch := first | sl_exact h1 | sl_exact h2 | sl_exact h3)
    sl_step
    iapply Hk
    isplitl [H1]; · iexact H1
    isplitl [H2]; · iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · rw [View.writes_nil]; iexact H6
    isplitl [H7]; · rw [View.writes_nil]; iexact H7
    isplitl [H8]; · iexact H8
    iexact H9

end Cert.FoxFwdIdeal.Hand

end
-- ==== Proof.FfRunEnd.lean ====
/-
  The run of a diagonal point, not its row block's first of the attention's forward kernel.
-/
module

public import proofs.«01_k».proof.Proof.FfRan

@[expose] public section

set_option maxRecDepth 16384

noncomputable section

namespace Cert.FoxFwdIdeal.Hand

open Cert.FoxFwdIdeal Cert.FoxFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
/-- The run of a diagonal point, not its row block's first. -/
noncomputable def runEnd (c : Dev nD) (i : grid0.Coords) (arg1 : Memref sig .tc .smem S10 .i32) (harg1 : arg1.IsWhole) (arg2 : Memref sig .tc .smem S10 .i32) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x512 .f32) (harg6 : arg6.IsWhole)
    (arg7 : Memref sig .tc .vmem S1024x128 .f32) (harg7 : arg7.IsWhole) (arg8 : Memref sig .tc .vmem S8x1024x128 .f32) (harg8 : arg8.IsWhole)
    (arg9 : Memref sig .tc .vmem S1024x1024 .f32) (harg9 : arg9.IsWhole) (v1 v3 : BitVec 32)
    (h1 : ¬ Scalar.cmpi .ne (Scalar.extui (Scalar.cmpi .eq v3 0#32) : BitVec 32) 0#32 = 1#1)
    (h2 : ¬ Scalar.cmpi .ne (Scalar.extui (Scalar.cmpi .slt v3 v1) : BitVec 32) 0#32 = 1#1)
    (h3 : k0_cond3 v1 v3 = 1#1)
    (x3 x4 x5 : Vec F S1024x1024 .bf16) (x8 : Vec F S8x1024x128 .f32) (x9 : Vec F S1024x1024 .f32) :
    Ran (F := F) c i arg1 harg1 arg2 harg2 arg3 harg3 arg4 harg4 arg5 harg5 arg6 harg6 arg7 harg7 arg8 harg8 arg9 harg9 v1 v3 x3 x4 x5 x8 x9 := by
  refine ⟨?_, ?_, ?_, ?_, fun x6 x7 q g1 g2 hw1 hw3 E K => ?run⟩
  case run =>
    simp only [cc0_fox_fwd_eq_skeleton]; unfold cc0_fox_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨H1, H2, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9
    iapply (load_word c v1 hw1) $$ H1
    iintro H1
    iapply (load_word c v3 hw3) $$ H2
    iintro H2
    sl_exec (disch := first | sl_exact h1 | sl_exact h2 | sl_exact h3)
    sl_step
    iapply Hk
    isplitl [H1]; · iexact H1
    isplitl [H2]; · iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexact H6
    isplitl [H7]; · iexact H7
    isplitl [H8]; · iexact H8
    iexact H9

end Cert.FoxFwdIdeal.Hand

end
-- ==== Proof.FfRun.lean ====
/-
  One grid point of the attention's forward kernel, run: the four kinds of points together.
-/
module

public import proofs.«01_k».proof.Proof.FfRunStart
public import proofs.«01_k».proof.Proof.FfRunStartEnd
public import proofs.«01_k».proof.Proof.FfRunMid
public import proofs.«01_k».proof.Proof.FfRunEnd

@[expose] public section

set_option maxRecDepth 16384

noncomputable section

namespace Cert.FoxFwdIdeal.Hand

open Cert.FoxFwdIdeal Cert.FoxFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Four lists with a weaker property. -/
def weaken {A B C D : Type} {P Q : A → B → C → D → Prop} (r : Σ' a b c, { d // P a b c d }) (h : ∀ a b c d, P a b c d → Q a b c d) :
    Σ' a b c, { d // Q a b c d } :=
  ⟨r.1, r.2.1, r.2.2.1, r.2.2.2.1, h _ _ _ _ r.2.2.2.2⟩

/-- They are the same lists. -/
theorem weaken_lists {A B C D : Type} {P Q Q' : A → B → C → D → Prop} (r : Σ' a b c, { d // P a b c d }) (h : ∀ a b c d, P a b c d → Q a b c d)
    (h' : ∀ a b c d, P a b c d → Q' a b c d) {s : Σ' a b c, { d // Q a b c d }} {s' : Σ' a b c, { d // Q' a b c d }}
    (e : s = weaken r h) (e' : s' = weaken r h') :
    s.1 = s'.1 ∧ s.2.1 = s'.2.1 ∧ s.2.2.1 = s'.2.2.1 ∧ s.2.2.2.1 = s'.2.2.2.1 := by
  subst e e'
  exact ⟨rfl, rfl, rfl, rfl⟩

/-- A point's run. `b` says whether it is its row block's first, `d` whether it is the diagonal one. -/
noncomputable def run (b d : Bool) (c : Dev nD) (i : grid0.Coords) (arg1 : Memref sig .tc .smem S10 .i32) (harg1 : arg1.IsWhole) (arg2 : Memref sig .tc .smem S10 .i32) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x512 .f32) (harg6 : arg6.IsWhole)
    (arg7 : Memref sig .tc .vmem S1024x128 .f32) (harg7 : arg7.IsWhole) (arg8 : Memref sig .tc .vmem S8x1024x128 .f32) (harg8 : arg8.IsWhole)
    (arg9 : Memref sig .tc .vmem S1024x1024 .f32) (harg9 : arg9.IsWhole) (v1 v3 : BitVec 32)
    (h1 : Says b (Scalar.cmpi .ne (Scalar.extui (Scalar.cmpi .eq v3 0#32) : BitVec 32) 0#32 = 1#1))
    (h2 : Says (!d) (Scalar.cmpi .ne (Scalar.extui (Scalar.cmpi .slt v3 v1) : BitVec 32) 0#32 = 1#1))
    (h3 : Says d (k0_cond3 v1 v3 = 1#1))
    (x3 x4 x5 : Vec F S1024x1024 .bf16) (x8 : Vec F S8x1024x128 .f32) (x9 : Vec F S1024x1024 .f32) :
    Ran (F := F) c i arg1 harg1 arg2 harg2 arg3 harg3 arg4 harg4 arg5 harg5 arg6 harg6 arg7 harg7 arg8 harg8 arg9 harg9 v1 v3 x3 x4 x5 x8 x9 :=
  match b, d, h1, h2, h3 with
  | true, false, h1, h2, h3 => weaken (runStart c i arg1 harg1 arg2 harg2 arg3 harg3 arg4 harg4 arg5 harg5 arg6 harg6 arg7 harg7 arg8 harg8 arg9 harg9 v1 v3 h1 h2 h3 x3 x4 x5) fun _ _ _ _ h => h x8 x9
  | true, true, h1, h2, h3 => weaken (runStartEnd c i arg1 harg1 arg2 harg2 arg3 harg3 arg4 harg4 arg5 harg5 arg6 harg6 arg7 harg7 arg8 harg8 arg9 harg9 v1 v3 h1 h2 h3 x3 x4 x5) fun _ _ _ _ h => h x8 x9
  | false, false, h1, h2, h3 => runMid c i arg1 harg1 arg2 harg2 arg3 harg3 arg4 harg4 arg5 harg5 arg6 harg6 arg7 harg7 arg8 harg8 arg9 harg9 v1 v3 h1 h2 h3 x3 x4 x5 x8 x9
  | false, true, h1, h2, h3 => runEnd c i arg1 harg1 arg2 harg2 arg3 harg3 arg4 harg4 arg5 harg5 arg6 harg6 arg7 harg7 arg8 harg8 arg9 harg9 v1 v3 h1 h2 h3 x3 x4 x5 x8 x9

/-- The lists of a first point that ends its row block are the same whatever it finds. -/
theorem run_first (c : Dev nD) (i : grid0.Coords) (arg1 : Memref sig .tc .smem S10 .i32) (harg1 : arg1.IsWhole) (arg2 : Memref sig .tc .smem S10 .i32) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x512 .f32) (harg6 : arg6.IsWhole)
    (arg7 : Memref sig .tc .vmem S1024x128 .f32) (harg7 : arg7.IsWhole) (arg8 : Memref sig .tc .vmem S8x1024x128 .f32) (harg8 : arg8.IsWhole)
    (arg9 : Memref sig .tc .vmem S1024x1024 .f32) (harg9 : arg9.IsWhole) (v1 v3 : BitVec 32)
    (h1 h2 h3) (x3 x4 x5 : Vec F S1024x1024 .bf16) (x8 x8' : Vec F S8x1024x128 .f32) (x9 x9' : Vec F S1024x1024 .f32) :
    (run true true c i arg1 harg1 arg2 harg2 arg3 harg3 arg4 harg4 arg5 harg5 arg6 harg6 arg7 harg7 arg8 harg8 arg9 harg9 v1 v3 h1 h2 h3 x3 x4 x5 x8 x9).1 = (run true true c i arg1 harg1 arg2 harg2 arg3 harg3 arg4 harg4 arg5 harg5 arg6 harg6 arg7 harg7 arg8 harg8 arg9 harg9 v1 v3 h1 h2 h3 x3 x4 x5 x8' x9').1
      ∧ (run true true c i arg1 harg1 arg2 harg2 arg3 harg3 arg4 harg4 arg5 harg5 arg6 harg6 arg7 harg7 arg8 harg8 arg9 harg9 v1 v3 h1 h2 h3 x3 x4 x5 x8 x9).2.1 = (run true true c i arg1 harg1 arg2 harg2 arg3 harg3 arg4 harg4 arg5 harg5 arg6 harg6 arg7 harg7 arg8 harg8 arg9 harg9 v1 v3 h1 h2 h3 x3 x4 x5 x8' x9').2.1
      ∧ (run true true c i arg1 harg1 arg2 harg2 arg3 harg3 arg4 harg4 arg5 harg5 arg6 harg6 arg7 harg7 arg8 harg8 arg9 harg9 v1 v3 h1 h2 h3 x3 x4 x5 x8 x9).2.2.1 = (run true true c i arg1 harg1 arg2 harg2 arg3 harg3 arg4 harg4 arg5 harg5 arg6 harg6 arg7 harg7 arg8 harg8 arg9 harg9 v1 v3 h1 h2 h3 x3 x4 x5 x8' x9').2.2.1
      ∧ (run true true c i arg1 harg1 arg2 harg2 arg3 harg3 arg4 harg4 arg5 harg5 arg6 harg6 arg7 harg7 arg8 harg8 arg9 harg9 v1 v3 h1 h2 h3 x3 x4 x5 x8 x9).2.2.2.1 = (run true true c i arg1 harg1 arg2 harg2 arg3 harg3 arg4 harg4 arg5 harg5 arg6 harg6 arg7 harg7 arg8 harg8 arg9 harg9 v1 v3 h1 h2 h3 x3 x4 x5 x8' x9').2.2.2.1 :=
  weaken_lists (runStartEnd c i arg1 harg1 arg2 harg2 arg3 harg3 arg4 harg4 arg5 harg5 arg6 harg6 arg7 harg7 arg8 harg8 arg9 harg9 v1 v3 h1 h2 h3 x3 x4 x5) (fun _ _ _ _ h => h x8 x9) (fun _ _ _ _ h => h x8' x9') rfl rfl

end Cert.FoxFwdIdeal.Hand

end
-- ==== Proof.FfTables.lean ====
/-
  The prefetched tables of the attention's forward kernel: two constant lists of ten block numbers, the row block and the
  column block of each point of the causal triangle, row by row. The kernel's conditions, its blocks and its idle points are
  read off these lists.
-/
module

public import proofs.«01_k».proof.Proof.FfRun
public import proofs.«01_k».proof.Proof.Gen.FoxFwd
public import proofs.«01_k».proof.Proof.Gen.FoxFwdRefIdeal.Run
public import proofs.«01_k».proof.Proof.Gen.FoxFwdRefIdeal.Read
public import Idealize.ShloMosaic.Lib.Pipeline.TableIdle
public import Idealize.ShloMosaic.Lib.Pipeline.FrameSuffix

@[expose] public section

set_option maxRecDepth 16384

noncomputable section

namespace Cert.FoxFwdIdeal.Hand

open Cert.FoxFwdIdeal Cert.FoxFwdIdeal.Gen
open Idealize.ShloMosaic Idealize.ShloMosaic.TcCoe Idealize.ShloMosaic.Tactic
open Idealize.SL Idealize.SL.RA Idealize.SL.BI
open Idealize.ShloMosaic.Rounds
open Idealize.ShloMosaic.Pipeline (Dat Cfg Window BodyObligation cellOf)

variable {F : FTy → Type} [FloatOps F] [Named F]

/-- The tables' contents: the two printed lists. -/
def tbl : pre0.Contents (Elt F)
  | 0 => fun i => lit0 (S10.rowMajor i)
  | 1 => fun i => lit1 (S10.rowMajor i)
  | ⟨_ + 2, h⟩ => absurd h (Nat.not_lt.2 (Nat.le_add_left _ _))

/-- A point's row block, -/
def rn (t : ℕ) : ℕ := if t < 1 then 0 else if t < 3 then 1 else if t < 6 then 2 else 3
/-- and its column block: a row ends at its diagonal block. -/
def cn (t : ℕ) : ℕ := if t < 1 then t else if t < 3 then t - 1 else if t < 6 then t - 3 else t - 6

/-- Whether a point is its row block's first, -/
abbrev fst (t : Fin grid0.N) : Bool := decide (cn t.val = 0)
/-- and whether it is the diagonal one. -/
abbrev dg (t : Fin grid0.N) : Bool := decide (cn t.val = rn t.val)

theorem cell_at : ∀ i : grid0.Coords, (S10.rowMajor ((cell i).emb (Shape.Idx.first (numel1_S1.symm ▸ Nat.one_pos)))).val = (i 0).val := by
  decide +kernel
theorem coord0 : ∀ t : Fin grid0.N, (grid0.coords t 0).val = t.val := by decide +kernel
theorem lit0_eq : ∀ t : Fin 10, lit0 t = BitVec.ofNat 32 (rn t.val) := by decide +kernel
theorem lit1_eq : ∀ t : Fin 10, lit1 t = BitVec.ofNat 32 (cn t.val) := by decide +kernel
theorem row_at (i : grid0.Coords) : (tbl (F := F)).at 0 (cell i) numel1_S1 = BitVec.ofNat 32 (rn (i 0).val) :=
  (lit0_eq _).trans (congrArg (fun n => BitVec.ofNat 32 (rn n)) (cell_at i))
theorem col_at (i : grid0.Coords) : (tbl (F := F)).at 1 (cell i) numel1_S1 = BitVec.ofNat 32 (cn (i 0).val) :=
  (lit1_eq _).trans (congrArg (fun n => BitVec.ofNat 32 (cn n)) (cell_at i))
theorem row_atD (i : grid0.Coords) : (tbl (F := F)).atD 0 (k0_off1 i) = BitVec.ofNat 32 (rn (i 0).val) := by
  unfold Pipeline.Prefetch.Contents.atD
  rw [dif_pos (fun a => by fin_cases a; exact k0_off1_inb i 0)]
  exact row_at i
theorem col_atD (i : grid0.Coords) : (tbl (F := F)).atD 1 (k0_off1 i) = BitVec.ofNat 32 (cn (i 0).val) := by
  unfold Pipeline.Prefetch.Contents.atD
  rw [dif_pos (fun a => by fin_cases a; exact k0_off1_inb i 0)]
  exact col_at i

/-- The kernel's three conditions at a point. -/
theorem says1 : ∀ t : Fin grid0.N, Says (fst t) (Scalar.cmpi .ne (Scalar.extui (Scalar.cmpi .eq (BitVec.ofNat 32 (cn t.val)) 0#32) : BitVec 32) 0#32 = 1#1) := by
  have h : ∀ t : Fin grid0.N, (Scalar.cmpi .ne (Scalar.extui (Scalar.cmpi .eq (BitVec.ofNat 32 (cn t.val)) 0#32) : BitVec 32) 0#32 = 1#1) ↔ fst t = true := by decide +kernel
  intro t; have := h t
  cases hb : fst t <;> rw [hb] at this
  · exact fun e => Bool.false_ne_true (this.mp e)
  · exact this.mpr rfl
theorem says2 : ∀ t : Fin grid0.N, Says (!dg t) (Scalar.cmpi .ne (Scalar.extui (Scalar.cmpi .slt (BitVec.ofNat 32 (cn t.val)) (BitVec.ofNat 32 (rn t.val))) : BitVec 32) 0#32 = 1#1) := by
  have h : ∀ t : Fin grid0.N, (Scalar.cmpi .ne (Scalar.extui (Scalar.cmpi .slt (BitVec.ofNat 32 (cn t.val)) (BitVec.ofNat 32 (rn t.val))) : BitVec 32) 0#32 = 1#1) ↔ (!dg t) = true := by decide +kernel
  intro t; have := h t
  cases hb : (!dg t) <;> rw [hb] at this
  · exact fun e => Bool.false_ne_true (this.mp e)
  · exact this.mpr rfl
theorem says3 : ∀ t : Fin grid0.N, Says (dg t) (k0_cond3 (BitVec.ofNat 32 (rn t.val)) (BitVec.ofNat 32 (cn t.val)) = 1#1) := by
  have h : ∀ t : Fin grid0.N, (k0_cond3 (BitVec.ofNat 32 (rn t.val)) (BitVec.ofNat 32 (cn t.val)) = 1#1) ↔ dg t = true := by decide +kernel
  intro t; have := h t
  cases hb : dg t <;> rw [hb] at this
  · exact fun e => Bool.false_ne_true (this.mp e)
  · exact this.mpr rfl

theorem row_word : ∀ i : grid0.Coords, ![(BitVec.ofNat 32 (rn (i 0).val)).toNat, (0#32).toNat] = ![rn (i 0).val, 0] := by decide +kernel
theorem col_word : ∀ i : grid0.Coords, ![(BitVec.ofNat 32 (cn (i 0).val)).toNat, (0#32).toNat] = ![cn (i 0).val, 0] := by decide +kernel
/-- The index maps at the tables: a row window takes the row block, -/
theorem ix_row (i : grid0.Coords) : cc0_transform_0 k0_off1_inb numel1_S1 (tbl (F := F)) i = ![rn (i 0).val, 0] := by
  unfold cc0_transform_0
  change ![((tbl (F := F)).at 0 (cell i) numel1_S1).toNat, _] = _
  rw [row_at]
  exact row_word i
/-- and a column window the column block. -/
theorem ix_col (i : grid0.Coords) : cc0_transform_1 k0_off1_inb numel1_S1 (tbl (F := F)) i = ![cn (i 0).val, 0] := by
  unfold cc0_transform_1
  change ![((tbl (F := F)).at 1 (cell i) numel1_S1).toNat, _] = _
  rw [col_at]
  exact col_word i

theorem row_ok : ∀ i : grid0.Coords, ∃ h : (∀ a, ((![rn (i 0).val, 0] : Fin 2 → ℕ) a + 1) * S1024x1024.size a ≤ S4096x1024.size a),
    EltTy.bits .bf16 = 32 ∨ (Rect.block (s := S4096x1024) S1024x1024.size ![rn (i 0).val, 0] h).WholeWords (EltTy.packing .bf16) := by decide +kernel
theorem col_ok : ∀ i : grid0.Coords, ∃ h : (∀ a, ((![cn (i 0).val, 0] : Fin 2 → ℕ) a + 1) * S1024x1024.size a ≤ S4096x1024.size a),
    EltTy.bits .bf16 = 32 ∨ (Rect.block (s := S4096x1024) S1024x1024.size ![cn (i 0).val, 0] h).WholeWords (EltTy.packing .bf16) := by decide +kernel
theorem row_in3 : ∀ i : grid0.Coords, ∀ a, ((![rn (i 0).val, 0] : Fin 2 → ℕ) a + 1) * S1024x512.size a ≤ S4096x512.size a := by decide +kernel
theorem row_in4 : ∀ i : grid0.Coords, ∀ a, ((![rn (i 0).val, 0] : Fin 2 → ℕ) a + 1) * S1024x128.size a ≤ S4096x128.size a := by decide +kernel

/-- The printed side condition holds of the tables. -/
theorem tbl_ok : ok0 (F := F) tbl := by
  unfold ok0
  refine ⟨fun i => ?_, fun i => ?_, fun i => ?_, fun i => ?_, fun i => ?_⟩
  · rw [ix_row i]; exact row_ok i
  · rw [ix_col i]; exact col_ok i
  · rw [show cc0_transform_2 k0_off1_inb numel1_S1 (tbl (F := F)) i = _ from ix_col i]; exact col_ok i
  · rw [show cc0_transform_3 k0_off1_inb numel1_S1 (tbl (F := F)) i = _ from ix_row i]; exact ⟨row_in3 i, .inl rfl⟩
  · rw [show cc0_transform_4 k0_off1_inb numel1_S1 (tbl (F := F)) i = _ from ix_row i]; exact ⟨row_in4 i, .inl rfl⟩

/-- The tables as admissible contents, and the pipeline at them. -/
abbrev adm : (pcfg0 (F := F)).Adm := ⟨tbl, tbl_ok⟩
abbrev cfgM : Pipeline.Cfg sig Λ₀ := cfg0 (adm (F := F))

theorem diag_word : ∀ i : grid0.Coords, (!(k0_cond3 (BitVec.ofNat 32 (rn (i 0).val)) (BitVec.ofNat 32 (cn (i 0).val)) == 1#1)) = !decide (cn (i 0).val = rn (i 0).val) := by
  decide +kernel
/-- The results are stored on the diagonal only, -/
theorem idle3 (t : Fin grid0.N) : (cfgM (F := F)).idle 3 (grid0.coords t) = !dg t := by
  change (!(k0_cond3 ((tbl (F := F)).atD 0 (k0_off1 _)) ((tbl (F := F)).atD 1 (k0_off1 _)) == 1#1)) = _
  rw [row_atD, col_atD, diag_word, coord0]
theorem idle4 (t : Fin grid0.N) : (cfgM (F := F)).idle 4 (grid0.coords t) = !dg t := idle3 t
theorem row_flush : ∀ t : Fin grid0.N, Pipeline.Window.flushOf grid0 true (fun i : grid0.Coords => (![rn (i 0).val, 0] : Fin 2 → ℕ)) t = dg t := by
  decide +kernel
/-- which is its row block's last point and writes the blocks back. -/
theorem flush3 (t : Fin grid0.N) : ((cfgM (F := F)).win 3).flush t = dg t := by
  rw [Pipeline.Window.flush_eq_flushOf, show ((cfgM (F := F)).win 3).indexMap = fun i : grid0.Coords => (![rn (i 0).val, 0] : Fin 2 → ℕ) from funext ix_row]
  exact row_flush t
theorem flush4 (t : Fin grid0.N) : ((cfgM (F := F)).win 4).flush t = dg t := flush3 t

end Cert.FoxFwdIdeal.Hand

end
-- ==== Proof.FfData.lean ====
/-
  What the attention's forward kernel holds after each point of the causal triangle: the running maximum, the running sums,
  and on the diagonal the row block's results.
-/
module

public import proofs.«01_k».proof.Proof.FfTables

@[expose] public section

set_option maxRecDepth 16384

noncomputable section

namespace Cert.FoxFwdIdeal.Hand

open Cert.FoxFwdIdeal Cert.FoxFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- Core `c`'s buffers when the call is entered. -/
abbrev V0 (c : Dev nD) : Valuation τ sig (Elt F) := StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

/-- Window `w`'s block at point `t`. -/
def iblk (c : Dev nD) (w : Fin (cfgM (F := F)).W) (t : Fin (cfgM (F := F)).N) :
    (((cfgM (F := F)).win w).xblock ((cfgM (F := F)).grid.coords t)).Idx → Elt F ((cfgM (F := F)).win w).elt :=
  (((cfgM (F := F)).win w).blk t).view.read (Elt F) (V m c (Pipeline.arrRef spec0 w))

abbrev ms0 (t : Fin grid0.N) := spec0_0.stage ((cfgM (F := F)).slots t 0)
abbrev hs0 (t : Fin grid0.N) : (ms0 (F := F) t).IsWhole := hstage0_0 (((cfgM (F := F)).slots t 0).cast nbuf0_0)
abbrev ms1 (t : Fin grid0.N) := spec0_1.stage ((cfgM (F := F)).slots t 1)
abbrev hs1 (t : Fin grid0.N) : (ms1 (F := F) t).IsWhole := hstage0_1 (((cfgM (F := F)).slots t 1).cast nbuf0_1)
abbrev ms2 (t : Fin grid0.N) := spec0_2.stage ((cfgM (F := F)).slots t 2)
abbrev hs2 (t : Fin grid0.N) : (ms2 (F := F) t).IsWhole := hstage0_2 (((cfgM (F := F)).slots t 2).cast nbuf0_2)
abbrev ms3 (t : Fin grid0.N) := spec0_3.stage ((cfgM (F := F)).slots t 3)
abbrev hs3 (t : Fin grid0.N) : (ms3 (F := F) t).IsWhole := hstage0_3 (((cfgM (F := F)).slots t 3).cast nbuf0_3)
abbrev ms4 (t : Fin grid0.N) := spec0_4.stage ((cfgM (F := F)).slots t 4)
abbrev hs4 (t : Fin grid0.N) : (ms4 (F := F) t).IsWhole := hstage0_4 (((cfgM (F := F)).slots t 4).cast nbuf0_4)
/-- The running maximum's buffer and the running sums'. -/
abbrev scM : Memref sig .tc .vmem S8x1024x128 .f32 := Memref.whole cc0_scratch0
abbrev hscM : scM.IsWhole := Memref.isWhole_whole _
abbrev scA : Memref sig .tc .vmem S1024x1024 .f32 := Memref.whole cc0_scratch1
abbrev hscA : scA.IsWhole := Memref.isWhole_whole _
abbrev VO3 : View sig .tc .vmem S1024x512 .f32 := (Memref.whole cc0_stg3_0 : Memref sig .tc .vmem S1024x512 .f32).view
abbrev VO4 : View sig .tc .vmem S1024x128 .f32 := (Memref.whole cc0_stg4_0 : Memref sig .tc .vmem S1024x128 .f32).view

/-- A point's run, at flags that say what the point is. -/
abbrev pt (c : Dev nD) (t : Fin grid0.N) (b d : Bool) (hb : fst t = b) (hd : dg t = d) (x3 x4 x5 : Vec F S1024x1024 .bf16) (x8 : Vec F S8x1024x128 .f32) (x9 : Vec F S1024x1024 .f32) :=
  run (F := F) b d c (grid0.coords t) (Memref.whole main_c) (Memref.isWhole_whole _) (Memref.whole main_c_0) (Memref.isWhole_whole _)
    (ms0 (F := F) t) (hs0 (F := F) t) (ms1 (F := F) t) (hs1 (F := F) t) (ms2 (F := F) t) (hs2 (F := F) t) (ms3 (F := F) t) (hs3 (F := F) t) (ms4 (F := F) t) (hs4 (F := F) t)
    scM hscM scA hscA (BitVec.ofNat 32 (rn t.val)) (BitVec.ofNat 32 (cn t.val)) (hb ▸ says1 t) (hd ▸ says2 t) (hd ▸ says3 t) x3 x4 x5 x8 x9

/-- The two running values and the two results' blocks. -/
structure St (F : FTy → Type) where
  o : Vec F S1024x512 .f32
  l : Vec F S1024x128 .f32
  m : Vec F S8x1024x128 .f32
  a : Vec F S1024x1024 .f32

/-- After a point, from the two running values. -/
def stP (c : Dev nD) (t : Fin grid0.N) (b d : Bool) (hb : fst t = b) (hd : dg t = d) (x3 x4 x5 : Vec F S1024x1024 .bf16) (x8 : Vec F S8x1024x128 .f32) (x9 : Vec F S1024x1024 .f32) : St F where
  o := VO3.read (Elt F) (VO3.writes (Elt F) VO3.junk (pt c t b d hb hd x3 x4 x5 x8 x9).1)
  l := VO4.read (Elt F) (VO4.writes (Elt F) VO4.junk (pt c t b d hb hd x3 x4 x5 x8 x9).2.1)
  m := scM.view.read (Elt F) (scM.view.writes (Elt F) (hscM.unread x8) (pt c t b d hb hd x3 x4 x5 x8 x9).2.2.1)
  a := scA.view.read (Elt F) (scA.view.writes (Elt F) (hscA.unread x9) (pt c t b d hb hd x3 x4 x5 x8 x9).2.2.2.1)

/-- After the point of number `n`. -/
def st (c : Dev nD) : (n : ℕ) → n < grid0.N → St F
  | 0, h => stP c ⟨0, h⟩ true true rfl rfl (iblk m c 0 ⟨0, h⟩) (iblk m c 1 ⟨0, h⟩) (iblk m c 2 ⟨0, h⟩)
      (scM.view.read (Elt F) scM.view.junk) (scA.view.read (Elt F) scA.view.junk)
  | n + 1, h => stP c ⟨n + 1, h⟩ _ _ rfl rfl (iblk m c 0 ⟨n + 1, h⟩) (iblk m c 1 ⟨n + 1, h⟩) (iblk m c 2 ⟨n + 1, h⟩)
      (st c n (Nat.lt_of_succ_lt h)).m (st c n (Nat.lt_of_succ_lt h)).a

/-- The state before a point is the state after the one before it. -/
abbrev prev (c : Dev nD) (t : Fin grid0.N) : St F := st m c (t.val - 1) (Nat.lt_of_le_of_lt (Nat.sub_le _ _) t.isLt)

theorem st_succ (c : Dev nD) (t : Fin grid0.N) (b d : Bool) (hb : fst t = b) (hd : dg t = d) (hz : ¬ t.val = 0) :
    st m c t.val t.isLt = stP c t b d hb hd (iblk m c 0 t) (iblk m c 1 t) (iblk m c 2 t) (prev m c t).m (prev m c t).a := by
  obtain ⟨n, hn⟩ := t
  subst hb hd
  cases n with
  | zero => exact absurd rfl hz
  | succ n => rfl

/-- Stores that cover the running values leave the same whatever was there. -/
theorem St.eq_of_lists {L6 M6 : List (View.Piece (Elt F) S1024x512 .f32)} {L7 M7 : List (View.Piece (Elt F) S1024x128 .f32)}
    {L8 M8 : List (View.Piece (Elt F) S8x1024x128 .f32)} {L9 M9 : List (View.Piece (Elt F) S1024x1024 .f32)}
    (h : L6 = M6 ∧ L7 = M7 ∧ L8 = M8 ∧ L9 = M9) (c8 : ∀ y : S8x1024x128.Idx, ∃ pc ∈ M8, y ∈ pc.1.set) (c9 : ∀ y : S1024x1024.Idx, ∃ pc ∈ M9, y ∈ pc.1.set)
    (x8 x8' : Vec F S8x1024x128 .f32) (x9 x9' : Vec F S1024x1024 .f32) :
    (⟨VO3.read (Elt F) (VO3.writes (Elt F) VO3.junk L6), VO4.read (Elt F) (VO4.writes (Elt F) VO4.junk L7),
      scM.view.read (Elt F) (scM.view.writes (Elt F) (hscM.unread x8) L8), scA.view.read (Elt F) (scA.view.writes (Elt F) (hscA.unread x9) L9)⟩ : St F)
    = ⟨VO3.read (Elt F) (VO3.writes (Elt F) VO3.junk M6), VO4.read (Elt F) (VO4.writes (Elt F) VO4.junk M7),
      scM.view.read (Elt F) (scM.view.writes (Elt F) (hscM.unread x8') M8), scA.view.read (Elt F) (scA.view.writes (Elt F) (hscA.unread x9') M9)⟩ := by
  obtain ⟨rfl, rfl, rfl, rfl⟩ := h
  rw [View.read_writes_of_cover scM.view (hscM.unread x8) scM.view (hscM.unread x8') _ c8,
    View.read_writes_of_cover scA.view (hscA.unread x9) scA.view (hscA.unread x9') _ c9]

/-- The first point leaves the same whatever it finds. -/
theorem stP_first (c : Dev nD) (t : Fin grid0.N) (hb : fst t = true) (hd : dg t = true) (x3 x4 x5 : Vec F S1024x1024 .bf16)
    (x8 x8' : Vec F S8x1024x128 .f32) (x9 x9' : Vec F S1024x1024 .f32) :
    stP c t true true hb hd x3 x4 x5 x8 x9 = stP c t true true hb hd x3 x4 x5 x8' x9' := by
  have c8 : ∀ y : S8x1024x128.Idx, ∃ pc ∈ (pt c t true true hb hd x3 x4 x5 x8' x9').2.2.1, y ∈ pc.1.set :=
    fun y => View.cover_of_wholeMem _ (by sl_whole_mem) y
  have c9 : ∀ y : S1024x1024.Idx, ∃ pc ∈ (pt c t true true hb hd x3 x4 x5 x8' x9').2.2.2.1, y ∈ pc.1.set :=
    fun y => View.cover_of_wholeMem _ (by sl_whole_mem) y
  have h : (pt c t true true hb hd x3 x4 x5 x8 x9).1 = (pt c t true true hb hd x3 x4 x5 x8' x9').1
      ∧ (pt c t true true hb hd x3 x4 x5 x8 x9).2.1 = (pt c t true true hb hd x3 x4 x5 x8' x9').2.1
      ∧ (pt c t true true hb hd x3 x4 x5 x8 x9).2.2.1 = (pt c t true true hb hd x3 x4 x5 x8' x9').2.2.1
      ∧ (pt c t true true hb hd x3 x4 x5 x8 x9).2.2.2.1 = (pt c t true true hb hd x3 x4 x5 x8' x9').2.2.2.1 :=
    run_first ..
  unfold stP
  exact St.eq_of_lists h c8 c9 x8 x8' x9 x9'

/-- At the first point. -/
theorem st_first (c : Dev nD) (h : 0 < grid0.N) (x8 : Vec F S8x1024x128 .f32) (x9 : Vec F S1024x1024 .f32) :
    st m c 0 h = stP c ⟨0, h⟩ _ _ rfl rfl (iblk m c 0 ⟨0, h⟩) (iblk m c 1 ⟨0, h⟩) (iblk m c 2 ⟨0, h⟩) x8 x9 :=
  stP_first c _ _ _ _ _ _ _ _ _ _

/-! ## The proof data -/

/-- What the body carries besides the windows: the two running values, and the random generator's register. -/
def PhiS (c : Dev nD) : (n : ℕ) → n ≤ grid0.N → sProp 𝕄
  | 0, _ => Pipeline.ΦA spec0 c
  | n + 1, h => iprop((owns (c : Thread nD τ) scM fullShare (st m c n h).m ∗ owns (c : Thread nD τ) scA fullShare (st m c n h).a) ∗ ∃ r, prngReg c r)

theorem PhiS_pos (c : Dev nD) (n : ℕ) (h : n ≤ grid0.N) (hz : ¬ n = 0) :
    PhiS m c n h = iprop((owns (c : Thread nD τ) scM fullShare (st m c (n - 1) (by omega)).m ∗ owns (c : Thread nD τ) scA fullShare (st m c (n - 1) (by omega)).a) ∗ ∃ r, prngReg c r) := by
  cases n with
  | zero => exact absurd rfl hz
  | succ n => rfl

/-- The proof data: each window's array as the call finds it, what the body leaves in each staging buffer, and the
    invariant, which holds the two tables beside `PhiS`. -/
def dats (p : Fin 1) (c : Dev nD) : Dat τ (Elt F) Unit ℕ (UR sig nD τ) ℕ (Pipeline.pin pcfgs (fun _ => adm (F := F)) p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => (st m c t.val t.isLt).o
    | ⟨4, _⟩ => (st m c t.val t.isLt).l
    | ⟨_ + 5, h⟩ => absurd h (Nat.not_lt.2 (Nat.le_add_left _ _))
  Φ t := iprop(PhiS m c t.val (Nat.le_of_lt_succ t.isLt) ∗ Pipeline.ΦT pre0 (tbl (F := F)) c)
  q _ := fullShare
  owed _ := 0

end Cert.FoxFwdIdeal.Hand

end
-- ==== Proof.FfBody.lean ====
/-
  The body of the attention's forward kernel meets its obligation at every point: what it finds in the windows' buffers, the
  run of that point, and what it leaves.
-/
module

public import proofs.«01_k».proof.Proof.FfData

@[expose] public section

set_option maxRecDepth 16384

noncomputable section

namespace Cert.FoxFwdIdeal.Hand

open Cert.FoxFwdIdeal Cert.FoxFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## What the body finds and leaves -/

theorem A_eq (c : Dev nD) (w : Fin (cfgM (F := F)).W) : (dats m 0 c).A w = V m c (Pipeline.arrRef spec0 w) := by
  dsimp only [dats]
theorem after0 (c : Dev nD) (t : Fin (cfgM (F := F)).N) : (dats m 0 c).after 0 t = iblk m c 0 t := rfl
theorem after1 (c : Dev nD) (t : Fin (cfgM (F := F)).N) : (dats m 0 c).after 1 t = iblk m c 1 t := rfl
theorem after2 (c : Dev nD) (t : Fin (cfgM (F := F)).N) : (dats m 0 c).after 2 t = iblk m c 2 t := rfl
theorem after3 (c : Dev nD) (t : Fin (cfgM (F := F)).N) : (dats m 0 c).after 3 t = (st m c t.val t.isLt).o := rfl
theorem after4 (c : Dev nD) (t : Fin (cfgM (F := F)).N) : (dats m 0 c).after 4 t = (st m c t.val t.isLt).l := rfl
theorem before0 (c : Dev nD) (t : Fin (cfgM (F := F)).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM (F := F)).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM (F := F)).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem leaves0 (c : Dev nD) (t : Fin (cfgM (F := F)).N) : (dats m 0 c).leavesExact 0 t = owns (c : Thread nD τ) (ms0 (F := F) t) fullShare ((dats m 0 c).after 0 t) := by
  unfold Dat.leavesExact
  rw [show (cfgM (F := F)).idle 0 ((cfgM (F := F)).grid.coords t) = false from rfl]
  all_goals rfl
theorem leaves1 (c : Dev nD) (t : Fin (cfgM (F := F)).N) : (dats m 0 c).leavesExact 1 t = owns (c : Thread nD τ) (ms1 (F := F) t) fullShare ((dats m 0 c).after 1 t) := by
  unfold Dat.leavesExact
  rw [show (cfgM (F := F)).idle 1 ((cfgM (F := F)).grid.coords t) = false from rfl]
  all_goals rfl
theorem leaves2 (c : Dev nD) (t : Fin (cfgM (F := F)).N) : (dats m 0 c).leavesExact 2 t = owns (c : Thread nD τ) (ms2 (F := F) t) fullShare ((dats m 0 c).after 2 t) := by
  unfold Dat.leavesExact
  rw [show (cfgM (F := F)).idle 2 ((cfgM (F := F)).grid.coords t) = false from rfl]
  all_goals rfl

/-! ## A point's stores read back -/

theorem cover3 (c : Dev nD) (t : Fin grid0.N) (b : Bool) (hb : fst t = b) (hd : dg t = true) (x3 x4 x5 : Vec F S1024x1024 .bf16) (x8 : Vec F S8x1024x128 .f32) (x9 : Vec F S1024x1024 .f32)
    (y : S1024x512.Idx) : ∃ pc ∈ (pt c t b true hb hd x3 x4 x5 x8 x9).1, y ∈ pc.1.set := by
  cases b <;> exact View.cover_of_tiledBy _ ![1024, 64] (by sl_kernel_rfl) y
theorem cover4 (c : Dev nD) (t : Fin grid0.N) (b : Bool) (hb : fst t = b) (hd : dg t = true) (x3 x4 x5 : Vec F S1024x1024 .bf16) (x8 : Vec F S8x1024x128 .f32) (x9 : Vec F S1024x1024 .f32)
    (y : S1024x128.Idx) : ∃ pc ∈ (pt c t b true hb hd x3 x4 x5 x8 x9).2.1, y ∈ pc.1.set := by
  cases b <;> exact View.cover_of_wholeMem _ (by sl_whole_mem) y

/-- What a point leaves in the first result's buffer: on the diagonal its block, elsewhere what it found. -/
theorem leave3 (c : Dev nD) (t : Fin grid0.N) (b d : Bool) (hb : fst t = b) (hd : dg t = d) (x8 : Vec F S8x1024x128 .f32) (x9 : Vec F S1024x1024 .f32)
    (hs : st m c t.val t.isLt = stP c t b d hb hd (iblk m c 0 t) (iblk m c 1 t) (iblk m c 2 t) x8 x9) (d3) :
    ((ms3 (F := F) t).view.loc (c : Thread nD τ) ↦[(ms3 (F := F) t).view.set]{fullShare} (ms3 (F := F) t).view.writes (Elt F)
        ((hs3 (F := F) t).unread ((dats m 0 c).before 3 t d3)) (pt c t b d hb hd (iblk m c 0 t) (iblk m c 1 t) (iblk m c 2 t) x8 x9).1)
      ⊢ ((dats m 0 c).leavesExact 3 t : sProp 𝕄) := by
  cases d
  · rw [show (pt c t b false hb hd (iblk m c 0 t) (iblk m c 1 t) (iblk m c 2 t) x8 x9).1 = [] from by cases b <;> rfl, View.writes_nil,
      Dat.leavesExact_idle (dats m 0 c) 3 t ((idle3 t).trans (by rw [hd]; rfl)) ((flush3 t).trans hd)]
    iintro H
    iexists d3
    unfold owns; iexists _; isplitr
    swap; · iexact H
    ipureintro; exact (hs3 (F := F) t).read_unread _
  · unfold Dat.leavesExact
    rw [show (cfgM (F := F)).idle 3 ((cfgM (F := F)).grid.coords t) = false from (idle3 t).trans (by rw [hd]; rfl)]
    change _ ⊢ owns (c : Thread nD τ) (ms3 (F := F) t) fullShare ((dats m 0 c).after 3 t)
    rw [after3, hs]
    iintro H
    unfold owns; iexists _; isplitr
    swap; · iexact H
    ipureintro
    exact View.read_writes_of_cover (ms3 (F := F) t).view _ VO3 VO3.junk _ (cover3 c t b hb hd _ _ _ x8 x9)
/-- The second result's likewise. -/
theorem leave4 (c : Dev nD) (t : Fin grid0.N) (b d : Bool) (hb : fst t = b) (hd : dg t = d) (x8 : Vec F S8x1024x128 .f32) (x9 : Vec F S1024x1024 .f32)
    (hs : st m c t.val t.isLt = stP c t b d hb hd (iblk m c 0 t) (iblk m c 1 t) (iblk m c 2 t) x8 x9) (d4) :
    ((ms4 (F := F) t).view.loc (c : Thread nD τ) ↦[(ms4 (F := F) t).view.set]{fullShare} (ms4 (F := F) t).view.writes (Elt F)
        ((hs4 (F := F) t).unread ((dats m 0 c).before 4 t d4)) (pt c t b d hb hd (iblk m c 0 t) (iblk m c 1 t) (iblk m c 2 t) x8 x9).2.1)
      ⊢ ((dats m 0 c).leavesExact 4 t : sProp 𝕄) := by
  cases d
  · rw [show (pt c t b false hb hd (iblk m c 0 t) (iblk m c 1 t) (iblk m c 2 t) x8 x9).2.1 = [] from by cases b <;> rfl, View.writes_nil,
      Dat.leavesExact_idle (dats m 0 c) 4 t ((idle4 t).trans (by rw [hd]; rfl)) ((flush4 t).trans hd)]
    iintro H
    iexists d4
    unfold owns; iexists _; isplitr
    swap; · iexact H
    ipureintro; exact (hs4 (F := F) t).read_unread _
  · unfold Dat.leavesExact
    rw [show (cfgM (F := F)).idle 4 ((cfgM (F := F)).grid.coords t) = false from (idle4 t).trans (by rw [hd]; rfl)]
    change _ ⊢ owns (c : Thread nD τ) (ms4 (F := F) t) fullShare ((dats m 0 c).after 4 t)
    rw [after4, hs]
    iintro H
    unfold owns; iexists _; isplitr
    swap; · iexact H
    ipureintro
    exact View.read_writes_of_cover (ms4 (F := F) t).view _ VO4 VO4.junk _ (cover4 c t b hb hd _ _ _ x8 x9)

/-! ## The invariant -/

theorem Phi_at (c : Dev nD) (t : Fin ((cfgM (F := F)).N + 1)) (n : ℕ) (h : n ≤ grid0.N) (e : t.val = n) :
    (dats m 0 c).Φ t = iprop(PhiS m c n h ∗ Pipeline.ΦT pre0 (tbl (F := F)) c) := by
  subst e
  unfold dats
  dsimp only
theorem Phi_castSucc (c : Dev nD) (t : Fin (cfgM (F := F)).N) :
    (dats m 0 c).Φ t.castSucc = iprop(PhiS m c t.val (Nat.le_of_lt t.isLt) ∗ Pipeline.ΦT pre0 (tbl (F := F)) c) := by
  rw [Phi_at m c t.castSucc t.val (Nat.le_of_lt t.isLt) (Fin.val_castSucc t)]
theorem Phi_succ (c : Dev nD) (t : Fin (cfgM (F := F)).N) :
    (dats m 0 c).Φ t.succ = iprop(((owns (c : Thread nD τ) scM fullShare (st m c t.val t.isLt).m ∗ owns (c : Thread nD τ) scA fullShare (st m c t.val t.isLt).a) ∗ ∃ r, prngReg c r)
      ∗ Pipeline.ΦT pre0 (tbl (F := F)) c) := by
  rw [Phi_at m c t.succ (t.val + 1) t.isLt (Fin.val_succ t)]; rfl
theorem PhiA_eq (c : Dev nD) : (Pipeline.ΦA spec0 c : sProp 𝕄)
    = iprop(((∃ d, owns (c : Thread nD τ) scM fullShare d) ∗ (∃ d, owns (c : Thread nD τ) scA fullShare d)) ∗ ∃ r, prngReg c r) := by
  unfold Pipeline.ΦA; rw [scopedRest0_eq]; simp only [scM, scA, owns_whole]; try rfl
/-- The tables' halves, one by one. -/
theorem PhiT_eq (c : Dev nD) : (Pipeline.ΦT pre0 (tbl (F := F)) c : sProp 𝕄)
    = iprop(((Memref.whole main_c : Memref sig .tc .smem S10 .i32).view.loc (c : Thread nD τ) ↦{fullShare.right} (tbl (F := F)) 0)
      ∗ ((Memref.whole main_c_0 : Memref sig .tc .smem S10 .i32).view.loc (c : Thread nD τ) ↦{fullShare.right} (tbl (F := F)) 1)) := by
  unfold Pipeline.ΦT Pipeline.prefHeld
  rw [show (Finset.univ : Finset (Fin 2)) = insert (0 : Fin 2) {(1 : Fin 2)} from by decide, bigSep_insert (by decide), bigSep_singleton]
  rfl

/-- A point finds two running values from which it leaves its state. -/
theorem enter (c : Dev nD) (t : Fin grid0.N) (h : t.val ≤ grid0.N) : PhiS m c t.val h
    ⊢ (iprop(∃ x8 x9, ⌜st m c t.val t.isLt = stP c t _ _ rfl rfl (iblk m c 0 t) (iblk m c 1 t) (iblk m c 2 t) x8 x9⌝
        ∗ ((owns (c : Thread nD τ) scM fullShare x8 ∗ owns (c : Thread nD τ) scA fullShare x9) ∗ ∃ r, prngReg c r)) : sProp 𝕄) := by
  by_cases hz : t.val = 0
  · obtain ⟨n, hn⟩ := t
    obtain rfl : n = 0 := hz
    change Pipeline.ΦA spec0 c ⊢ _
    rw [PhiA_eq]
    iintro ⟨⟨⟨%x8, H8⟩, ⟨%x9, H9⟩⟩, Hg⟩
    iexists x8; iexists x9
    isplitr; · ipureintro; exact st_first m c _ x8 x9
    isplitl [H8 H9]
    · isplitl [H8]; · iexact H8
      iexact H9
    iexact Hg
  · rw [PhiS_pos m c _ _ hz]
    iintro H
    iexists _; iexists _
    isplitr; · ipureintro; exact st_succ m c t _ _ rfl rfl hz
    iexact H

/-- The words the body loads. -/
theorem word1 (t : Fin grid0.N) : BitVec.ofNat 32 (rn t.val)
    = ((Memref.whole main_c : Memref sig .tc .smem S10 .i32).access (cell (grid0.coords t)) : View sig .tc _ _ _).read (Elt F) ((tbl (F := F)) 0) one := by
  refine Eq.trans ?_ (lit0_eq _).symm
  exact congrArg (fun n => BitVec.ofNat 32 (rn n)) ((cell_at _).trans (coord0 t)).symm
theorem word3 (t : Fin grid0.N) : BitVec.ofNat 32 (cn t.val)
    = ((Memref.whole main_c_0 : Memref sig .tc .smem S10 .i32).access (cell (grid0.coords t)) : View sig .tc _ _ _).read (Elt F) ((tbl (F := F)) 1) one := by
  refine Eq.trans ?_ (lit1_eq _).symm
  exact congrArg (fun n => BitVec.ofNat 32 (cn n)) ((cell_at _).trans (coord0 t)).symm

/-! ## The body's triple -/

/-- The body at point `t`. -/
def bodyAt (t : Fin (cfgM (F := F)).N) : Prog (TpuEff nD τ sig (Elt F) Λ₀ .tc) PUnit :=
  cc0_fox_fwd (grid0.coords t) (Memref.whole main_c) (Memref.isWhole_whole _) (Memref.whole main_c_0) (Memref.isWhole_whole _)
    (ms0 (F := F) t) (hs0 (F := F) t) (ms1 (F := F) t) (hs1 (F := F) t) (ms2 (F := F) t) (hs2 (F := F) t) (ms3 (F := F) t) (hs3 (F := F) t) (ms4 (F := F) t) (hs4 (F := F) t)
    scM hscM scA hscA

/-- What the body is called with, -/
def bodyPre (c : Dev nD) (t : Fin (cfgM (F := F)).N) : sProp 𝕄 :=
  iprop((dats m 0 c).Φ t.castSucc ∗ (dats m 0 c).owesAt () t.castSucc
    ∗ (∃ d, owns (c : Thread nD τ) (ms0 (F := F) t) fullShare ((dats m 0 c).before 0 t d))
    ∗ (∃ d, owns (c : Thread nD τ) (ms1 (F := F) t) fullShare ((dats m 0 c).before 1 t d))
    ∗ (∃ d, owns (c : Thread nD τ) (ms2 (F := F) t) fullShare ((dats m 0 c).before 2 t d))
    ∗ (∃ d, owns (c : Thread nD τ) (ms3 (F := F) t) fullShare ((dats m 0 c).before 3 t d))
    ∗ (∃ d, owns (c : Thread nD τ) (ms4 (F := F) t) fullShare ((dats m 0 c).before 4 t d)))
/-- and what it returns. -/
def bodyPost (c : Dev nD) (t : Fin (cfgM (F := F)).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 2000000 in
/-- The body at a point. -/
theorem sound_body (c : Dev nD) (t : Fin (cfgM (F := F)).N) :
    bodyPre m c t ⊢ wp frame (wpE (defs₀ (F := F)) Variants.none c none) Set.univ (bodyAt (F := F) t) (fun _ => bodyPost m c t) := by
  unfold bodyPre bodyPost bodyAt
  simp only [before0, before1, before2]
  rw [show (dats m 0 c).owesAt () t.succ = (dats m 0 c).owesAt () t.castSucc from rfl]
  rw [leaves0, leaves1, leaves2, after0, after1, after2]
  rw [Phi_castSucc m c t, Phi_succ m c t, PhiT_eq]
  iintro ⟨⟨HP, H1, H2⟩, Ho, ⟨%d0, H3⟩, ⟨%d1, H4⟩, ⟨%d2, H5⟩, ⟨%d3, H6⟩, ⟨%d4, H7⟩⟩
  ihave HQ := (enter m c t _) $$ HP
  icases HQ with ⟨%x8, %x9, %hs, ⟨H8, H9⟩, Hg⟩
  iapply ((pt c t _ _ rfl rfl (iblk m c 0 t) (iblk m c 1 t) (iblk m c 2 t) x8 x9).2.2.2.2 _ _ _ _ _ (word1 t) (word3 t) Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  isplitl [H8 H9 Hg H1 H2]
  · isplitl [H8 H9 Hg]
    · isplitl [H8 H9]
      · rw [hs]
        isplitl [H8]
        · unfold owns; iexists _; isplitr
          swap; · iexact H8
          ipureintro; rfl
        · unfold owns; iexists _; isplitr
          swap; · iexact H9
          ipureintro; rfl
      iexact Hg
    isplitl [H1]; · iexact H1
    iexact H2
  isplitl [Ho]; · iexact Ho
  isplitl [H3]; · iexact H3
  isplitl [H4]; · iexact H4
  isplitl [H5]; · iexact H5
  isplitl [H6]; · iapply (leave3 m c t _ _ rfl rfl x8 x9 hs d3) $$ H6
  iapply (leave4 m c t _ _ rfl rfl x8 x9 hs d4) $$ H7

theorem defs₀_row (t : Fin (cfgM (F := F)).N) :
    defs₀ (F := F) .tc (cfgM (F := F)).body ((cfgM (F := F)).bodyArgs t ((cfgM (F := F)).slots t)) = bodyAt (F := F) t := by
  unfold defs₀; rw [Defs.onTc_tc]; rfl

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.FoxFwdIdeal.Hand

end
-- ==== Proof.FfLaunch.lean ====
/-
  The attention's forward kernel launched: the host lines before and after the call, and the run of the whole program from
  any memory, which ends with the arguments unchanged and every counter at zero.
-/
module

public import proofs.«01_k».proof.Proof.FfBody
public import Idealize.ShloMosaic.Lib.StableHlo.ReadAt

@[expose] public section

set_option maxRecDepth 16384

noncomputable section

namespace Cert.FoxFwdIdeal.Hand

open Cert.FoxFwdIdeal Cert.FoxFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## What the host lines write -/

abbrev hostOps0_W : List (Ref sig .tc) := [main_c, main_c_0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_fresh : (hostOps0 : List (HloOp τ sig (Elt F))).Forall fun op => op.fresh = ∅ := by
  simp only [List.Forall]; repeat' constructor
abbrev hostOps0_1_W : List (Ref sig .tc) := [main_call0_call0_cst, main_call0_call0_v0, main_v0]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_fresh : (hostOps0_1 : List (HloOp τ sig (Elt F))).Forall fun op => op.fresh = ∅ := by
  simp only [List.Forall]; repeat' constructor
abbrev hostOps0_2_W : List (Ref sig .tc) := [main_cst, main_v1, main_cst_1, main_v2, main_v3, main_v4, main_v5, main_v6, main_v7, main_v8, main_v9, main_v10, main_v11, main_v12, main_v13, main_v14, main_v15, main_v16, main_v17, main_v18, main_cst_2, main_v19, main_v20, main_v21, main_v22, main_v23, main_v24, main_v25, main_v26, main_v27, main_v28, main_v29, main_v30, main_v31, main_v32, main_v33, main_v34, main_v35, main_v36, main_v37, main_v38, main_v39, main_cst_3, main_v40, main_v41, main_v42, main_v43, main_v44, main_v45, main_cst_4, main_v46, main_v47, main_v48, main_v49, main_v50]
set_option maxHeartbeats 40000000 in
theorem hostOps0_2_writes : (hostOps0_2 : List (HloOp τ sig (Elt F))).Forall fun op => op.writes ⊆ (hostOps0_2_W.map (Proc.devRef (τ := τ) .tc)).toFinset :=
  StableHlo.forall_writes_sub_of_map rfl
set_option maxHeartbeats 40000000 in
theorem hostOps0_2_fresh : (hostOps0_2 : List (HloOp τ sig (Elt F))).Forall fun op => op.fresh = ∅ := by
  simp only [List.Forall]; repeat' constructor
abbrev hostOps1_W : List (Ref sig .tc) := [main_v52]
theorem hostOps1_writes : (hostOps1 : List (HloOp τ sig (Elt F))).Forall fun op => op.writes ⊆ (hostOps1_W.map (Proc.devRef (τ := τ) .tc)).toFinset :=
  StableHlo.forall_writes_sub_of_map rfl
theorem hostOps1_fresh : (hostOps1 : List (HloOp τ sig (Elt F))).Forall fun op => op.fresh = ∅ := by
  simp only [List.Forall]; repeat' constructor

/-- A buffer no later line before the call writes is as the tables' lines leave it, -/
theorem V_tables (c : Dev nD) (r : Ref sig .tc) (h1 : r ∉ hostOps0_1_W) (h2 : r ∉ hostOps0_2_W) :
    V m c r = StableHlo.after hostOps0 (fun b => m (c, b)) (Proc.devRef .tc r) := by
  unfold V V0
  rw [List.flatten_cons, List.flatten_cons, List.flatten_cons, List.flatten_nil, List.append_nil, StableHlo.after_append, StableHlo.after_append,
    StableHlo.after_of_writes_sub (r := r) hostOps0_2 _ hostOps0_2_writes h2,
    StableHlo.after_of_writes_sub (r := r) hostOps0_1 _ hostOps0_1_writes h1]
/-- and as launched if those do not write it either. -/
theorem V_rest (c : Dev nD) (r : Ref sig .tc) (h0 : r ∉ hostOps0_W) (h1 : r ∉ hostOps0_1_W) (h2 : r ∉ hostOps0_2_W) : V m c r = m ((c : Thread nD τ).loc r) := by
  rw [V_tables m c r h1 h2, StableHlo.after_of_writes_sub (r := r) hostOps0 _ hostOps0_writes h0]
theorem V_pre (c : Dev nD) (k : Fin 2) : V0 m c (Proc.devRef .tc (pre0.ref k)) = tbl (F := F) k := by
  fin_cases k
  · refine (V_tables m c main_c (by decide +kernel) (by decide +kernel)).trans ?_
    after_reads_simp
    rfl
  · refine (V_tables m c main_c_0 (by decide +kernel) (by decide +kernel)).trans ?_
    after_reads_simp
    rfl

/-! ## The line after the call -/

theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl
  intro j; fin_cases j <;> simp only [StableHlo.unary_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, or_false] at hops
  rcases hops with rfl
  intro w hb
  obtain ⟨y, hy, he⟩ := List.mem_map.mp (List.mem_toFinset.mp ((List.forall_iff_forall_mem.mp hostOps1_writes) op hop hb))
  have e := Proc.devRef_injective _ he
  exact (by decide +kernel : ∀ w, Pipeline.arrRef spec0 w ∉ hostOps1_W) w (e ▸ hy)

set_option maxHeartbeats 8000000 in
theorem hmain : Pipeline.HMainPK (Ix := Unit) (Name := ℕ) (U := UR sig nD τ) (Lvl := ℕ) pcfgs 0 defs₀ Variants.none m (main (F := F)) (V m)
    (fun _ => Pipeline.chain ([hostOps1].map StableHlo.seq)) :=
  Pipeline.hmainP_around pcfgs 0 defs₀ Variants.none m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- Core `c`'s buffers after the later line. -/
abbrev afterM (c : Dev nD) (b : Ref sig .tc) : Buf (Elt F) ((c : Thread nD τ).loc b) :=
  Pipeline.afterTail pcfgs (fun _ => adm (F := F)) (dats m) 0 (V0 m) [hostOps1] c b
/-- A buffer none of these lines nor the call writes is as launched. -/
theorem W_rest (c : Dev nD) (r : Ref sig .tc) (h : r ∉ hostOps1_W) (hr : ∀ w, Pipeline.arrRef spec0 w ≠ r) (h0 : r ∉ hostOps0_W) (h1 : r ∉ hostOps0_1_W) (h2 : r ∉ hostOps0_2_W) :
    afterM m c r = m ((c : Thread nD τ).loc r) := by
  unfold afterM Pipeline.afterTail
  rw [List.flatten_cons, List.flatten_nil, List.append_nil, StableHlo.after_of_writes_sub (r := r) hostOps1 _ hostOps1_writes h,
    Pipeline.withArrays_of_ne _ c (V0 m c) _ r hr]
  exact V_rest m c r h0 h1 h2
theorem W_arg0 (c : Dev nD) : afterM m c main_arg0 = m ((c : Thread nD τ).loc main_arg0) :=
  W_rest m c main_arg0 (by decide +kernel) (by decide) (by decide +kernel) (by decide +kernel) (by decide +kernel)
theorem W_arg1 (c : Dev nD) : afterM m c main_arg1 = m ((c : Thread nD τ).loc main_arg1) :=
  W_rest m c main_arg1 (by decide +kernel) (by decide) (by decide +kernel) (by decide +kernel) (by decide +kernel)
theorem W_arg2 (c : Dev nD) : afterM m c main_arg2 = m ((c : Thread nD τ).loc main_arg2) :=
  W_rest m c main_arg2 (by decide +kernel) (by decide) (by decide +kernel) (by decide +kernel) (by decide +kernel)
theorem W_arg3 (c : Dev nD) : afterM m c main_arg3 = m ((c : Thread nD τ).loc main_arg3) :=
  W_rest m c main_arg3 (by decide +kernel) (by decide) (by decide +kernel) (by decide +kernel) (by decide +kernel)

/-! ## The invariant at the two ends -/

theorem hin (c : Dev nD) : (iprop(Pipeline.ΦA spec0 c ∗ Pipeline.ΦT pre0 (tbl (F := F)) c) : sProp 𝕄) ⊢ (dats m 0 c).Φ 0 := by
  rw [Phi_at m c 0 0 (Nat.zero_le _) rfl]
  exact .rfl
theorem hout (c : Dev nD) : (dats m 0 c).Φ (Fin.last (cfgM (F := F)).N) ⊢ (Pipeline.ΦA spec0 c : sProp 𝕄) := by
  rw [Phi_at m c (Fin.last _) grid0.N (Nat.le_refl _) (Fin.val_last _), PhiS_pos m c grid0.N (Nat.le_refl _) (by rw [N_0]; decide), PhiA_eq]
  iintro ⟨⟨⟨H, H'⟩, Hg⟩, -⟩
  isplitl [H H']
  · isplitl [H]
    · iexists _; iexact H
    iexists _; iexact H'
  iexact Hg

set_option backward.isDefEq.respectTransparency.types false in
set_option maxHeartbeats 4000000 in
/-- The whole program runs from any memory: the call's arrays and every other buffer end as computed, the counters at zero. -/
theorem run_main (g : Dev nD → PrngReg) :
    θ_run (defs (F := F)) (onTc (τ := τ) (main (F := F))) ⟨m, fun _ => 0, g⟩
      (fun r => Pipeline.FramePost (Pipeline.pin pcfgs (fun _ => adm (F := F))) (dats m) 0 (afterM m) r ∧ r.2.sem = fun _ => 0) :=
  Pipeline.θ_run_frameP_around_track pcfgs (fun _ => adm (F := F)) (dats m) 0 launch0 defs₀ Variants.none m g (main (F := F))
    (fun c => (body_obligation m c).loose) (fun c => (dats m 0 c).share_full fun _ => rfl) (fun _ _ => rfl) (V0 m) [hostOps1]
    sfx_sub sfx_fresh sfx_keeps (hmain m) (fun c w => A_eq m c w) (V_pre m) (hin m) (hout m)
    (Q' := fun r => Pipeline.FramePost (Pipeline.pin pcfgs (fun _ => adm (F := F))) (dats m) 0 (afterM m) r ∧ r.2.sem = fun _ => 0)
    (hQ' := fun _ h => h)

/-- It ends with the arguments unchanged and every counter at zero. -/
theorem frame_main (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := F)) _ _).mono (fun r h => ⟨fun c => ⟨((h.1 c).2 main_arg0 (by decide : main_arg0 ∈ Pipeline.restRefs sig spec0)).trans (W_arg0 m c),
    ((h.1 c).2 main_arg1 (by decide : main_arg1 ∈ Pipeline.restRefs sig spec0)).trans (W_arg1 m c),
    ((h.1 c).2 main_arg2 (by decide : main_arg2 ∈ Pipeline.restRefs sig spec0)).trans (W_arg2 m c),
    ((h.1 c).2 main_arg3 (by decide : main_arg3 ∈ Pipeline.restRefs sig spec0)).trans (W_arg3 m c)⟩, h.2⟩) (run_main m g)

end Cert.FoxFwdIdeal.Hand

end
-- ==== Proof.FfFrame.lean ====
/-
  The frames of the attention's forward kernel. The program as printed and the program read over the reals have one text but
  for the mask's constant, so the run written once for the second is the first's too, the named constant read back as its
  float word.
-/
module

public import proofs.«01_k».proof.Defs
public import proofs.«01_k».proof.Proof.FfLaunch
public import proofs.«01_k».proof.Proof.Gen.FoxFwd
public import proofs.«01_k».proof.Proof.Gen.FoxFwdRefIdeal.Run
public import Idealize.ShloMosaic.Adequacy
public import Idealize.ShloMosaic.Init

@[expose] public section

set_option maxRecDepth 16384

noncomputable section

namespace Cert.FfFrame

open Idealize.ShloMosaic Idealize.ShloMosaic.TcCoe Idealize.SL Idealize.SL.Sem

/-- At words a named constant is its word. -/
instance wordNamed : Named Bits where
  named _ _ {φ} b := FloatOps.ofBits φ b

theorem defs_eq : Cert.FoxFwd.defs (F := Bits) = Cert.FoxFwdIdeal.defs (F := Bits) := by sl_kernel_rfl
theorem main_eq : Cert.FoxFwd.main (F := Bits) = Cert.FoxFwdIdeal.main (F := Bits) := by sl_kernel_rfl

theorem ff : Cert.quiescent_FoxFwd := fun m g _ => by
  rw [defs_eq, main_eq]
  exact Cert.FoxFwdIdeal.Hand.frame_main (F := Bits) m g

theorem ff_ideal : Cert.quiescent_FoxFwdIdeal := fun m g _ => Cert.FoxFwdIdeal.Hand.frame_main (F := Ideal) m g

theorem ff_ref : Cert.quiescent_FoxFwdRefIdeal := fun m g _ =>
  (θ_run Cert.FoxFwdRefIdeal.defs _ _).mono (fun r h => ⟨fun c => (h c).2.2, sem_eq_zero_of_no_sems rfl r.2⟩) (Cert.FoxFwdRefIdeal.Value.run m g)

/-- The kernel's masking constant, named, is minus infinity. -/
theorem mask : IdealRules.named_const.Statement Cert.FoxFwdIdeal.κ "mask" .f32 0xF149F2CA#32 ⊥ :=
  IdealRules.named_const.statement _ _ _ _ _ rfl

end Cert.FfFrame

end
-- ==== Proof.lean ====
module

public import proofs.«01_k».proof.Defs
public import proofs.«01_k».proof.Proof.ActClaim
public import proofs.«01_k».proof.Proof.FoxClaim
public import proofs.«01_k».proof.Proof.CrossClaim
public import proofs.«01_k».proof.Proof.Gen.Act.Frame
public import proofs.«01_k».proof.Proof.Gen.ActRefIdeal.Read
public import proofs.«01_k».proof.Proof.Gen.Fox.Launch
public import proofs.«01_k».proof.Proof.Gen.FoxIdeal.Launch
public import proofs.«01_k».proof.Proof.Gen.FoxIdeal.Skeleton
public import proofs.«01_k».proof.Proof.Gen.FoxRefIdeal.Run
public import proofs.«01_k».proof.Proof.Gen.FoxRefIdeal.Read
public import proofs.«01_k».proof.Proof.Gen.Pre_fox_finite
public import proofs.«01_k».proof.Proof.Gen.Cross.Frame
public import proofs.«01_k».proof.Proof.Gen.CrossIdeal.Value
public import proofs.«01_k».proof.Proof.Gen.CrossRefIdeal.Run
public import proofs.«01_k».proof.Proof.Gen.CrossRefIdeal.Read
public import proofs.«01_k».proof.Proof.Gen.Pre_ca_finite
public import proofs.«01_k».proof.Proof.DxClaim
public import proofs.«01_k».proof.Proof.CrossFwdClaim
public import proofs.«01_k».proof.Proof.KvClaim
public import proofs.«01_k».proof.Proof.Gen.Kv.Frame
public import proofs.«01_k».proof.Proof.Gen.KvIdeal.Value
public import proofs.«01_k».proof.Proof.Gen.KvRefIdeal.Run
public import proofs.«01_k».proof.Proof.Gen.KvRefIdeal.Read
public import proofs.«01_k».proof.Proof.Gen.FfnDx.Frame
public import proofs.«01_k».proof.Proof.Gen.FfnDxIdeal.Value
public import proofs.«01_k».proof.Proof.Gen.FfnDxRefIdeal.Run
public import proofs.«01_k».proof.Proof.Gen.FfnDxRefIdeal.Read
public import proofs.«01_k».proof.Proof.Gen.Proj.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.CrossFwd.Frame
public import proofs.«01_k».proof.Proof.Gen.CrossFwdIdeal.Value
public import proofs.«01_k».proof.Proof.Gen.CrossFwdRefIdeal.Run
public import proofs.«01_k».proof.Proof.Gen.CrossFwdRefIdeal.Read
public import proofs.«01_k».proof.Proof.Gen.Pre_dx_finite
public import proofs.«01_k».proof.Proof.Gen.Pre_kv_finite
public import proofs.«01_k».proof.Proof.Gen.Pre_proj_finite
public import proofs.«01_k».proof.Proof.Gen.Pre_cf_finite
public import proofs.«01_k».proof.Proof.GateClaim
public import proofs.«01_k».proof.Proof.LossClaim
public import proofs.«01_k».proof.Proof.Gen.MixOut.Frame
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.Gen.MemKv.Frame
public import proofs.«01_k».proof.Proof.Gen.MemKvIdeal.Value
public import proofs.«01_k».proof.Proof.Gen.MemKvRefIdeal.Run
public import proofs.«01_k».proof.Proof.Gen.MemKvRefIdeal.Read
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.OutClaim
public import proofs.«01_k».proof.Proof.MixOutClaim
public import proofs.«01_k».proof.Proof.MemKvClaim
public import proofs.«01_k».proof.Proof.FfnUpClaim
public import proofs.«01_k».proof.Proof.FfFrame
public import proofs.«01_k».proof.Proof.Gen.Gate.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.Pre_loss_finite
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.Pre_out_finite
public import Idealize.ShloMosaic.Adequacy
public import Idealize.ShloMosaic.Init

@[expose] public section

noncomputable section

namespace Cert.Proof

open Idealize.ShloMosaic Idealize.SL.Sem Cert.Act

theorem claim : Cert.Claim := ⟨Cert.Act.Gen.facts, Cert.ActIdeal.Gen.facts, Cert.ActRefIdeal.Gen.facts,
  Cert.Fox.Gen.facts, Cert.FoxIdeal.Gen.facts, Cert.FoxRefIdeal.Gen.facts,
  Cert.Cross.Gen.facts, Cert.CrossIdeal.Gen.facts, Cert.CrossRefIdeal.Gen.facts,
  Cert.Kv.Gen.facts, Cert.KvIdeal.Gen.facts, Cert.KvRefIdeal.Gen.facts,
  Cert.FfnDx.Gen.facts, Cert.FfnDxIdeal.Gen.facts, Cert.FfnDxRefIdeal.Gen.facts,
  Cert.Proj.Gen.facts, Cert.ProjIdeal.Gen.facts, Cert.ProjRefIdeal.Gen.facts,
  Cert.CrossFwd.Gen.facts, Cert.CrossFwdIdeal.Gen.facts, Cert.CrossFwdRefIdeal.Gen.facts,
  Cert.Gate.Gen.facts, Cert.GateIdeal.Gen.facts, Cert.GateRefIdeal.Gen.facts,
  Cert.Loss.Gen.facts, Cert.LossIdeal.Gen.facts, Cert.LossRefIdeal.Gen.facts,
  Cert.Out.Gen.facts, Cert.OutIdeal.Gen.facts, Cert.OutRefIdeal.Gen.facts,
  Cert.MixOut.Gen.facts, Cert.MixOutIdeal.Gen.facts, Cert.MixOutRefIdeal.Gen.facts,
  Cert.MemKv.Gen.facts, Cert.MemKvIdeal.Gen.facts, Cert.MemKvRefIdeal.Gen.facts,
  Cert.FfnUp.Gen.facts, Cert.FfnUpIdeal.Gen.facts, Cert.FfnUpRefIdeal.Gen.facts,
  Cert.FoxFwd.Gen.facts, Cert.FoxFwdIdeal.Gen.facts, Cert.FoxFwdRefIdeal.Gen.facts,
  Cert.Pre_act_finite.Gen.facts, Cert.Pre_fox_finite.Gen.facts, Cert.Pre_ca_finite.Gen.facts,
  Cert.Pre_kv_finite.Gen.facts,
  Cert.Pre_dx_finite.Gen.facts, Cert.Pre_proj_finite.Gen.facts, Cert.Pre_cf_finite.Gen.facts, Cert.Pre_loss_finite.Gen.facts,
  Cert.Pre_out_finite.Gen.facts,
  fun m ρ _ => Cert.Act.Gen.frame m ρ,
  fun m ρ _ => Cert.ActIdeal.Gen.frame m ρ,
  fun m ρ _ => Cert.ActIdeal.Gen.frame m ρ,
  Cert.ActClaim.frame_ref,
  fun m ρ _ => Cert.ActClaim.frame_ref m ρ trivial,
  Cert.FoxFrame.fox,
  Cert.FoxFrame.fox_ideal,
  fun m ρ _ => Cert.FoxFrame.fox_ideal m ρ trivial,
  Cert.FoxFrame.fox_ref,
  fun m ρ _ => Cert.FoxFrame.fox_ref m ρ trivial,
  fun m ρ _ => Cert.Cross.Gen.frame m ρ,
  fun m ρ _ => Cert.CrossIdeal.Gen.frame m ρ,
  fun m ρ _ => Cert.CrossIdeal.Gen.frame m ρ,
  Cert.CrossClaim.frame_ref,
  fun m ρ _ => Cert.CrossClaim.frame_ref m ρ trivial,
  fun m ρ _ => Cert.Kv.Gen.frame m ρ,
  fun m ρ _ => Cert.KvIdeal.Gen.frame m ρ,
  fun m ρ _ => Cert.KvIdeal.Gen.frame m ρ,
  Cert.KvClaim.frame_ref,
  fun m ρ _ => Cert.KvClaim.frame_ref m ρ trivial,
  fun m ρ _ => Cert.FfnDx.Gen.frame m ρ,
  fun m ρ _ => Cert.FfnDxIdeal.Gen.frame m ρ,
  fun m ρ _ => Cert.FfnDxIdeal.Gen.frame m ρ,
  Cert.DxClaim.frame_ffn,
  fun m ρ _ => Cert.DxClaim.frame_ffn m ρ trivial,
  fun m ρ _ => Cert.Proj.Gen.frame m ρ,
  fun m ρ _ => Cert.ProjIdeal.Gen.frame m ρ,
  fun m ρ _ => Cert.ProjIdeal.Gen.frame m ρ,
  Cert.DxClaim.frame_proj,
  fun m ρ _ => Cert.DxClaim.frame_proj m ρ trivial,
  fun m ρ _ => Cert.CrossFwd.Gen.frame m ρ,
  fun m ρ _ => Cert.CrossFwdIdeal.Gen.frame m ρ,
  fun m ρ _ => Cert.CrossFwdIdeal.Gen.frame m ρ,
  Cert.CrossFwdClaim.frame_ref,
  fun m ρ _ => Cert.CrossFwdClaim.frame_ref m ρ trivial,
  fun m ρ _ => Cert.Gate.Gen.frame m ρ,
  fun m ρ _ => Cert.GateIdeal.Gen.frame m ρ,
  Cert.GateClaim.frame_ref,
  fun m ρ _ => Cert.Loss.Gen.frame m ρ,
  fun m ρ _ => Cert.LossIdeal.Gen.frame m ρ,
  fun m ρ _ => Cert.LossIdeal.Gen.frame m ρ,
  Cert.LossClaim.frame_ref,
  fun m ρ _ => Cert.LossClaim.frame_ref m ρ trivial,
  fun m ρ _ => Cert.Out.Gen.frame m ρ,
  fun m ρ _ => Cert.OutIdeal.Gen.frame m ρ,
  fun m ρ _ => Cert.OutIdeal.Gen.frame m ρ,
  Cert.OutClaim.frame_ref,
  fun m ρ _ => Cert.OutClaim.frame_ref m ρ trivial,
  fun m ρ _ => Cert.MixOut.Gen.frame m ρ,
  fun m ρ _ => Cert.MixOutIdeal.Gen.frame m ρ,
  Cert.MixOutClaim.frame_ref,
  fun m ρ _ => Cert.MemKv.Gen.frame m ρ,
  fun m ρ _ => Cert.MemKvIdeal.Gen.frame m ρ,
  Cert.MemKvClaim.frame_ref,
  fun m ρ _ => Cert.FfnUp.Gen.frame m ρ,
  fun m ρ _ => Cert.FfnUpIdeal.Gen.frame m ρ,
  Cert.FfnUpClaim.frame_ref,
  Cert.FfFrame.ff,
  Cert.FfFrame.ff_ideal,
  Cert.FfFrame.ff_ref,
  trivial,
  Cert.ActClaim.value,
  Cert.FoxFrame.mask,
  Cert.FoxClaim.value,
  trivial,
  Cert.CrossClaim.value,
  trivial,
  Cert.KvClaim.value,
  trivial,
  Cert.DxClaim.ffn,
  trivial,
  Cert.DxClaim.proj,
  trivial,
  Cert.CrossFwdClaim.value,
  Cert.GateClaim.named,
  trivial,
  Cert.LossClaim.value,
  trivial,
  Cert.OutClaim.value,
  trivial,
  Cert.MixOutClaim.value,
  trivial,
  Cert.MemKvClaim.value,
  trivial,
  Cert.FfnUpClaim.value,
  Cert.FfFrame.mask⟩

end Cert.Proof

end
